-- ==== Defs.lean ====
def Pre_ReluSquare (m : (ℓ : Loc Cert.ReluSquare.nD Cert.ReluSquare.τ Cert.ReluSquare.sig) → Buf (Elt Bits) ℓ) : Prop :=
  True

def Pre_ReluSquareIdeal (m : (ℓ : Loc Cert.ReluSquareIdeal.nD Cert.ReluSquareIdeal.τ Cert.ReluSquareIdeal.sig) → Buf (Elt Ideal) ℓ) : Prop :=
  True

def Pre_ReluSquareRefIdeal (m : (ℓ : Loc Cert.ReluSquareRefIdeal.nD Cert.ReluSquareRefIdeal.τ Cert.ReluSquareRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_ConvNorm (m : (ℓ : Loc Cert.ConvNorm.nD Cert.ConvNorm.τ Cert.ConvNorm.sig) → Buf (Elt Bits) ℓ) : Prop :=
  True

def Pre_ConvNormIdeal (m : (ℓ : Loc Cert.ConvNormIdeal.nD Cert.ConvNormIdeal.τ Cert.ConvNormIdeal.sig) → Buf (Elt Ideal) ℓ) : Prop :=
  True

def Pre_ConvNormIdeal_conv_norm_finite [hPre_conv_norm_finite : Cert.Pre_conv_norm_finite.Facts] (m : (ℓ : Loc Cert.ConvNormIdeal.nD Cert.ConvNormIdeal.τ Cert.ConvNormIdeal.sig) → Buf (Elt Ideal) ℓ) : Prop :=
  ∀ c : Dev Cert.ConvNormIdeal.nD,
    (Cert.Pre_conv_norm_finite.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4))).1 = (fun _ => 1#1)
    ∧ (Cert.Pre_conv_norm_finite.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4))).2.1 = (fun _ => 1#1)
    ∧ (Cert.Pre_conv_norm_finite.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4))).2.2.1 = (fun _ => 1#1)
    ∧ (Cert.Pre_conv_norm_finite.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4))).2.2.2.1 = (fun _ => 1#1)
    ∧ (Cert.Pre_conv_norm_finite.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4))).2.2.2.2 = (fun _ => 1#1)

def Pre_ConvNormRefIdeal (m : (ℓ : Loc Cert.ConvNormRefIdeal.nD Cert.ConvNormRefIdeal.τ Cert.ConvNormRefIdeal.sig) → Buf (Elt Ideal) ℓ) : Prop :=
  True

def Pre_ConvNormRefIdeal_conv_norm_finite [hPre_conv_norm_finite : Cert.Pre_conv_norm_finite.Facts] (m : (ℓ : Loc Cert.ConvNormRefIdeal.nD Cert.ConvNormRefIdeal.τ Cert.ConvNormRefIdeal.sig) → Buf (Elt Ideal) ℓ) : Prop :=
  ∀ c : Dev Cert.ConvNormRefIdeal.nD,
    (Cert.Pre_conv_norm_finite.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4))).1 = (fun _ => 1#1)
    ∧ (Cert.Pre_conv_norm_finite.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4))).2.1 = (fun _ => 1#1)
    ∧ (Cert.Pre_conv_norm_finite.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4))).2.2.1 = (fun _ => 1#1)
    ∧ (Cert.Pre_conv_norm_finite.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4))).2.2.2.1 = (fun _ => 1#1)
    ∧ (Cert.Pre_conv_norm_finite.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4))).2.2.2.2 = (fun _ => 1#1)

def Pre_GluConv (m : (ℓ : Loc Cert.GluConv.nD Cert.GluConv.τ Cert.GluConv.sig) → Buf (Elt Bits) ℓ) : Prop :=
  True

def Pre_GluConvIdeal (m : (ℓ : Loc Cert.GluConvIdeal.nD Cert.GluConvIdeal.τ Cert.GluConvIdeal.sig) → Buf (Elt Ideal) ℓ) : Prop :=
  True

def Pre_GluConvRefIdeal (m : (ℓ : Loc Cert.GluConvRefIdeal.nD Cert.GluConvRefIdeal.τ Cert.GluConvRefIdeal.sig) → Buf (Elt Ideal) ℓ) : Prop :=
  True

def Pre_MidNorm (m : (ℓ : Loc Cert.MidNorm.nD Cert.MidNorm.τ Cert.MidNorm.sig) → Buf (Elt Bits) ℓ) : Prop :=
  True

def Pre_MidNormIdeal (m : (ℓ : Loc Cert.MidNormIdeal.nD Cert.MidNormIdeal.τ Cert.MidNormIdeal.sig) → Buf (Elt Ideal) ℓ) : Prop :=
  True

def Pre_MidNormIdeal_mid_norm_finite [hPre_mid_norm_finite : Cert.Pre_mid_norm_finite.Facts] (m : (ℓ : Loc Cert.MidNormIdeal.nD Cert.MidNormIdeal.τ Cert.MidNormIdeal.sig) → Buf (Elt Ideal) ℓ) : Prop :=
  ∀ c : Dev Cert.MidNormIdeal.nD,
    (Cert.Pre_mid_norm_finite.fn (F := Ideal) (m ((c.tc : Thread Cert.MidNormIdeal.nD Cert.MidNormIdeal.τ).loc Cert.MidNormIdeal.main_arg0)) (m ((c.tc : Thread Cert.MidNormIdeal.nD Cert.MidNormIdeal.τ).loc Cert.MidNormIdeal.main_arg1)) (m ((c.tc : Thread Cert.MidNormIdeal.nD Cert.MidNormIdeal.τ).loc Cert.MidNormIdeal.main_arg2)) (m ((c.tc : Thread Cert.MidNormIdeal.nD Cert.MidNormIdeal.τ).loc Cert.MidNormIdeal.main_arg3)) (m ((c.tc : Thread Cert.MidNormIdeal.nD Cert.MidNormIdeal.τ).loc Cert.MidNormIdeal.main_arg4)) (m ((c.tc : Thread Cert.MidNormIdeal.nD Cert.MidNormIdeal.τ).loc Cert.MidNormIdeal.main_arg5))).1 = (fun _ => 1#1)
    ∧ (Cert.Pre_mid_norm_finite.fn (F := Ideal) (m ((c.tc : Thread Cert.MidNormIdeal.nD Cert.MidNormIdeal.τ).loc Cert.MidNormIdeal.main_arg0)) (m ((c.tc : Thread Cert.MidNormIdeal.nD Cert.MidNormIdeal.τ).loc Cert.MidNormIdeal.main_arg1)) (m ((c.tc : Thread Cert.MidNormIdeal.nD Cert.MidNormIdeal.τ).loc Cert.MidNormIdeal.main_arg2)) (m ((c.tc : Thread Cert.MidNormIdeal.nD Cert.MidNormIdeal.τ).loc Cert.MidNormIdeal.main_arg3)) (m ((c.tc : Thread Cert.MidNormIdeal.nD Cert.MidNormIdeal.τ).loc Cert.MidNormIdeal.main_arg4)) (m ((c.tc : Thread Cert.MidNormIdeal.nD Cert.MidNormIdeal.τ).loc Cert.MidNormIdeal.main_arg5))).2.1 = (fun _ => 1#1)
    ∧ (Cert.Pre_mid_norm_finite.fn (F := Ideal) (m ((c.tc : Thread Cert.MidNormIdeal.nD Cert.MidNormIdeal.τ).loc Cert.MidNormIdeal.main_arg0)) (m ((c.tc : Thread Cert.MidNormIdeal.nD Cert.MidNormIdeal.τ).loc Cert.MidNormIdeal.main_arg1)) (m ((c.tc : Thread Cert.MidNormIdeal.nD Cert.MidNormIdeal.τ).loc Cert.MidNormIdeal.main_arg2)) (m ((c.tc : Thread Cert.MidNormIdeal.nD Cert.MidNormIdeal.τ).loc Cert.MidNormIdeal.main_arg3)) (m ((c.tc : Thread Cert.MidNormIdeal.nD Cert.MidNormIdeal.τ).loc Cert.MidNormIdeal.main_arg4)) (m ((c.tc : Thread Cert.MidNormIdeal.nD Cert.MidNormIdeal.τ).loc Cert.MidNormIdeal.main_arg5))).2.2.1 = (fun _ => 1#1)
    ∧ (Cert.Pre_mid_norm_finite.fn (F := Ideal) (m ((c.tc : Thread Cert.MidNormIdeal.nD Cert.MidNormIdeal.τ).loc Cert.MidNormIdeal.main_arg0)) (m ((c.tc : Thread Cert.MidNormIdeal.nD Cert.MidNormIdeal.τ).loc Cert.MidNormIdeal.main_arg1)) (m ((c.tc : Thread Cert.MidNormIdeal.nD Cert.MidNormIdeal.τ).loc Cert.MidNormIdeal.main_arg2)) (m ((c.tc : Thread Cert.MidNormIdeal.nD Cert.MidNormIdeal.τ).loc Cert.MidNormIdeal.main_arg3)) (m ((c.tc : Thread Cert.MidNormIdeal.nD Cert.MidNormIdeal.τ).loc Cert.MidNormIdeal.main_arg4)) (m ((c.tc : Thread Cert.MidNormIdeal.nD Cert.MidNormIdeal.τ).loc Cert.MidNormIdeal.main_arg5))).2.2.2.1 = (fun _ => 1#1)
    ∧ (Cert.Pre_mid_norm_finite.fn (F := Ideal) (m ((c.tc : Thread Cert.MidNormIdeal.nD Cert.MidNormIdeal.τ).loc Cert.MidNormIdeal.main_arg0)) (m ((c.tc : Thread Cert.MidNormIdeal.nD Cert.MidNormIdeal.τ).loc Cert.MidNormIdeal.main_arg1)) (m ((c.tc : Thread Cert.MidNormIdeal.nD Cert.MidNormIdeal.τ).loc Cert.MidNormIdeal.main_arg2)) (m ((c.tc : Thread Cert.MidNormIdeal.nD Cert.MidNormIdeal.τ).loc Cert.MidNormIdeal.main_arg3)) (m ((c.tc : Thread Cert.MidNormIdeal.nD Cert.MidNormIdeal.τ).loc Cert.MidNormIdeal.main_arg4)) (m ((c.tc : Thread Cert.MidNormIdeal.nD Cert.MidNormIdeal.τ).loc Cert.MidNormIdeal.main_arg5))).2.2.2.2.1 = (fun _ => 1#1)
    ∧ (Cert.Pre_mid_norm_finite.fn (F := Ideal) (m ((c.tc : Thread Cert.MidNormIdeal.nD Cert.MidNormIdeal.τ).loc Cert.MidNormIdeal.main_arg0)) (m ((c.tc : Thread Cert.MidNormIdeal.nD Cert.MidNormIdeal.τ).loc Cert.MidNormIdeal.main_arg1)) (m ((c.tc : Thread Cert.MidNormIdeal.nD Cert.MidNormIdeal.τ).loc Cert.MidNormIdeal.main_arg2)) (m ((c.tc : Thread Cert.MidNormIdeal.nD Cert.MidNormIdeal.τ).loc Cert.MidNormIdeal.main_arg3)) (m ((c.tc : Thread Cert.MidNormIdeal.nD Cert.MidNormIdeal.τ).loc Cert.MidNormIdeal.main_arg4)) (m ((c.tc : Thread Cert.MidNormIdeal.nD Cert.MidNormIdeal.τ).loc Cert.MidNormIdeal.main_arg5))).2.2.2.2.2 = (fun _ => 1#1)

def Pre_MidNormRefIdeal (m : (ℓ : Loc Cert.MidNormRefIdeal.nD Cert.MidNormRefIdeal.τ Cert.MidNormRefIdeal.sig) → Buf (Elt Ideal) ℓ) : Prop :=
  True

def Pre_MidNormRefIdeal_mid_norm_finite [hPre_mid_norm_finite : Cert.Pre_mid_norm_finite.Facts] (m : (ℓ : Loc Cert.MidNormRefIdeal.nD Cert.MidNormRefIdeal.τ Cert.MidNormRefIdeal.sig) → Buf (Elt Ideal) ℓ) : Prop :=
  ∀ c : Dev Cert.MidNormRefIdeal.nD,
    (Cert.Pre_mid_norm_finite.fn (F := Ideal) (m ((c.tc : Thread Cert.MidNormRefIdeal.nD Cert.MidNormRefIdeal.τ).loc Cert.MidNormRefIdeal.main_arg0)) (m ((c.tc : Thread Cert.MidNormRefIdeal.nD Cert.MidNormRefIdeal.τ).loc Cert.MidNormRefIdeal.main_arg1)) (m ((c.tc : Thread Cert.MidNormRefIdeal.nD Cert.MidNormRefIdeal.τ).loc Cert.MidNormRefIdeal.main_arg2)) (m ((c.tc : Thread Cert.MidNormRefIdeal.nD Cert.MidNormRefIdeal.τ).loc Cert.MidNormRefIdeal.main_arg3)) (m ((c.tc : Thread Cert.MidNormRefIdeal.nD Cert.MidNormRefIdeal.τ).loc Cert.MidNormRefIdeal.main_arg4)) (m ((c.tc : Thread Cert.MidNormRefIdeal.nD Cert.MidNormRefIdeal.τ).loc Cert.MidNormRefIdeal.main_arg5))).1 = (fun _ => 1#1)
    ∧ (Cert.Pre_mid_norm_finite.fn (F := Ideal) (m ((c.tc : Thread Cert.MidNormRefIdeal.nD Cert.MidNormRefIdeal.τ).loc Cert.MidNormRefIdeal.main_arg0)) (m ((c.tc : Thread Cert.MidNormRefIdeal.nD Cert.MidNormRefIdeal.τ).loc Cert.MidNormRefIdeal.main_arg1)) (m ((c.tc : Thread Cert.MidNormRefIdeal.nD Cert.MidNormRefIdeal.τ).loc Cert.MidNormRefIdeal.main_arg2)) (m ((c.tc : Thread Cert.MidNormRefIdeal.nD Cert.MidNormRefIdeal.τ).loc Cert.MidNormRefIdeal.main_arg3)) (m ((c.tc : Thread Cert.MidNormRefIdeal.nD Cert.MidNormRefIdeal.τ).loc Cert.MidNormRefIdeal.main_arg4)) (m ((c.tc : Thread Cert.MidNormRefIdeal.nD Cert.MidNormRefIdeal.τ).loc Cert.MidNormRefIdeal.main_arg5))).2.1 = (fun _ => 1#1)
    ∧ (Cert.Pre_mid_norm_finite.fn (F := Ideal) (m ((c.tc : Thread Cert.MidNormRefIdeal.nD Cert.MidNormRefIdeal.τ).loc Cert.MidNormRefIdeal.main_arg0)) (m ((c.tc : Thread Cert.MidNormRefIdeal.nD Cert.MidNormRefIdeal.τ).loc Cert.MidNormRefIdeal.main_arg1)) (m ((c.tc : Thread Cert.MidNormRefIdeal.nD Cert.MidNormRefIdeal.τ).loc Cert.MidNormRefIdeal.main_arg2)) (m ((c.tc : Thread Cert.MidNormRefIdeal.nD Cert.MidNormRefIdeal.τ).loc Cert.MidNormRefIdeal.main_arg3)) (m ((c.tc : Thread Cert.MidNormRefIdeal.nD Cert.MidNormRefIdeal.τ).loc Cert.MidNormRefIdeal.main_arg4)) (m ((c.tc : Thread Cert.MidNormRefIdeal.nD Cert.MidNormRefIdeal.τ).loc Cert.MidNormRefIdeal.main_arg5))).2.2.1 = (fun _ => 1#1)
    ∧ (Cert.Pre_mid_norm_finite.fn (F := Ideal) (m ((c.tc : Thread Cert.MidNormRefIdeal.nD Cert.MidNormRefIdeal.τ).loc Cert.MidNormRefIdeal.main_arg0)) (m ((c.tc : Thread Cert.MidNormRefIdeal.nD Cert.MidNormRefIdeal.τ).loc Cert.MidNormRefIdeal.main_arg1)) (m ((c.tc : Thread Cert.MidNormRefIdeal.nD Cert.MidNormRefIdeal.τ).loc Cert.MidNormRefIdeal.main_arg2)) (m ((c.tc : Thread Cert.MidNormRefIdeal.nD Cert.MidNormRefIdeal.τ).loc Cert.MidNormRefIdeal.main_arg3)) (m ((c.tc : Thread Cert.MidNormRefIdeal.nD Cert.MidNormRefIdeal.τ).loc Cert.MidNormRefIdeal.main_arg4)) (m ((c.tc : Thread Cert.MidNormRefIdeal.nD Cert.MidNormRefIdeal.τ).loc Cert.MidNormRefIdeal.main_arg5))).2.2.2.1 = (fun _ => 1#1)
    ∧ (Cert.Pre_mid_norm_finite.fn (F := Ideal) (m ((c.tc : Thread Cert.MidNormRefIdeal.nD Cert.MidNormRefIdeal.τ).loc Cert.MidNormRefIdeal.main_arg0)) (m ((c.tc : Thread Cert.MidNormRefIdeal.nD Cert.MidNormRefIdeal.τ).loc Cert.MidNormRefIdeal.main_arg1)) (m ((c.tc : Thread Cert.MidNormRefIdeal.nD Cert.MidNormRefIdeal.τ).loc Cert.MidNormRefIdeal.main_arg2)) (m ((c.tc : Thread Cert.MidNormRefIdeal.nD Cert.MidNormRefIdeal.τ).loc Cert.MidNormRefIdeal.main_arg3)) (m ((c.tc : Thread Cert.MidNormRefIdeal.nD Cert.MidNormRefIdeal.τ).loc Cert.MidNormRefIdeal.main_arg4)) (m ((c.tc : Thread Cert.MidNormRefIdeal.nD Cert.MidNormRefIdeal.τ).loc Cert.MidNormRefIdeal.main_arg5))).2.2.2.2.1 = (fun _ => 1#1)
    ∧ (Cert.Pre_mid_norm_finite.fn (F := Ideal) (m ((c.tc : Thread Cert.MidNormRefIdeal.nD Cert.MidNormRefIdeal.τ).loc Cert.MidNormRefIdeal.main_arg0)) (m ((c.tc : Thread Cert.MidNormRefIdeal.nD Cert.MidNormRefIdeal.τ).loc Cert.MidNormRefIdeal.main_arg1)) (m ((c.tc : Thread Cert.MidNormRefIdeal.nD Cert.MidNormRefIdeal.τ).loc Cert.MidNormRefIdeal.main_arg2)) (m ((c.tc : Thread Cert.MidNormRefIdeal.nD Cert.MidNormRefIdeal.τ).loc Cert.MidNormRefIdeal.main_arg3)) (m ((c.tc : Thread Cert.MidNormRefIdeal.nD Cert.MidNormRefIdeal.τ).loc Cert.MidNormRefIdeal.main_arg4)) (m ((c.tc : Thread Cert.MidNormRefIdeal.nD Cert.MidNormRefIdeal.τ).loc Cert.MidNormRefIdeal.main_arg5))).2.2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))).2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))).2.2.2 = (fun _ => 1#1)

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormIdeal_pre_norm_finite [hPre_pre_norm_finite : Cert.Pre_pre_norm_finite.Facts] (m : (ℓ : Loc Cert.PreNormIdeal.nD Cert.PreNormIdeal.τ Cert.PreNormIdeal.sig) → Buf (Elt Ideal) ℓ) : Prop :=
  ∀ c : Dev Cert.PreNormIdeal.nD,
    (Cert.Pre_pre_norm_finite.fn (F := Ideal) (m ((c.tc : Thread Cert.PreNormIdeal.nD Cert.PreNormIdeal.τ).loc Cert.PreNormIdeal.main_arg0)) (m ((c.tc : Thread Cert.PreNormIdeal.nD Cert.PreNormIdeal.τ).loc Cert.PreNormIdeal.main_arg1)) (m ((c.tc : Thread Cert.PreNormIdeal.nD Cert.PreNormIdeal.τ).loc Cert.PreNormIdeal.main_arg2)) (m ((c.tc : Thread Cert.PreNormIdeal.nD Cert.PreNormIdeal.τ).loc Cert.PreNormIdeal.main_arg3)) (m ((c.tc : Thread Cert.PreNormIdeal.nD Cert.PreNormIdeal.τ).loc Cert.PreNormIdeal.main_arg4))).1 = (fun _ => 1#1)
    ∧ (Cert.Pre_pre_norm_finite.fn (F := Ideal) (m ((c.tc : Thread Cert.PreNormIdeal.nD Cert.PreNormIdeal.τ).loc Cert.PreNormIdeal.main_arg0)) (m ((c.tc : Thread Cert.PreNormIdeal.nD Cert.PreNormIdeal.τ).loc Cert.PreNormIdeal.main_arg1)) (m ((c.tc : Thread Cert.PreNormIdeal.nD Cert.PreNormIdeal.τ).loc Cert.PreNormIdeal.main_arg2)) (m ((c.tc : Thread Cert.PreNormIdeal.nD Cert.PreNormIdeal.τ).loc Cert.PreNormIdeal.main_arg3)) (m ((c.tc : Thread Cert.PreNormIdeal.nD Cert.PreNormIdeal.τ).loc Cert.PreNormIdeal.main_arg4))).2.1 = (fun _ => 1#1)
    ∧ (Cert.Pre_pre_norm_finite.fn (F := Ideal) (m ((c.tc : Thread Cert.PreNormIdeal.nD Cert.PreNormIdeal.τ).loc Cert.PreNormIdeal.main_arg0)) (m ((c.tc : Thread Cert.PreNormIdeal.nD Cert.PreNormIdeal.τ).loc Cert.PreNormIdeal.main_arg1)) (m ((c.tc : Thread Cert.PreNormIdeal.nD Cert.PreNormIdeal.τ).loc Cert.PreNormIdeal.main_arg2)) (m ((c.tc : Thread Cert.PreNormIdeal.nD Cert.PreNormIdeal.τ).loc Cert.PreNormIdeal.main_arg3)) (m ((c.tc : Thread Cert.PreNormIdeal.nD Cert.PreNormIdeal.τ).loc Cert.PreNormIdeal.main_arg4))).2.2.1 = (fun _ => 1#1)
    ∧ (Cert.Pre_pre_norm_finite.fn (F := Ideal) (m ((c.tc : Thread Cert.PreNormIdeal.nD Cert.PreNormIdeal.τ).loc Cert.PreNormIdeal.main_arg0)) (m ((c.tc : Thread Cert.PreNormIdeal.nD Cert.PreNormIdeal.τ).loc Cert.PreNormIdeal.main_arg1)) (m ((c.tc : Thread Cert.PreNormIdeal.nD Cert.PreNormIdeal.τ).loc Cert.PreNormIdeal.main_arg2)) (m ((c.tc : Thread Cert.PreNormIdeal.nD Cert.PreNormIdeal.τ).loc Cert.PreNormIdeal.main_arg3)) (m ((c.tc : Thread Cert.PreNormIdeal.nD Cert.PreNormIdeal.τ).loc Cert.PreNormIdeal.main_arg4))).2.2.2.1 = (fun _ => 1#1)
    ∧ (Cert.Pre_pre_norm_finite.fn (F := Ideal) (m ((c.tc : Thread Cert.PreNormIdeal.nD Cert.PreNormIdeal.τ).loc Cert.PreNormIdeal.main_arg0)) (m ((c.tc : Thread Cert.PreNormIdeal.nD Cert.PreNormIdeal.τ).loc Cert.PreNormIdeal.main_arg1)) (m ((c.tc : Thread Cert.PreNormIdeal.nD Cert.PreNormIdeal.τ).loc Cert.PreNormIdeal.main_arg2)) (m ((c.tc : Thread Cert.PreNormIdeal.nD Cert.PreNormIdeal.τ).loc Cert.PreNormIdeal.main_arg3)) (m ((c.tc : Thread Cert.PreNormIdeal.nD Cert.PreNormIdeal.τ).loc Cert.PreNormIdeal.main_arg4))).2.2.2.2 = (fun _ => 1#1)

def Pre_PreNormRefIdeal (m : (ℓ : Loc Cert.PreNormRefIdeal.nD Cert.PreNormRefIdeal.τ Cert.PreNormRefIdeal.sig) → Buf (Elt Ideal) ℓ) : Prop :=
  True

def Pre_PreNormRefIdeal_pre_norm_finite [hPre_pre_norm_finite : Cert.Pre_pre_norm_finite.Facts] (m : (ℓ : Loc Cert.PreNormRefIdeal.nD Cert.PreNormRefIdeal.τ Cert.PreNormRefIdeal.sig) → Buf (Elt Ideal) ℓ) : Prop :=
  ∀ c : Dev Cert.PreNormRefIdeal.nD,
    (Cert.Pre_pre_norm_finite.fn (F := Ideal) (m ((c.tc : Thread Cert.PreNormRefIdeal.nD Cert.PreNormRefIdeal.τ).loc Cert.PreNormRefIdeal.main_arg0)) (m ((c.tc : Thread Cert.PreNormRefIdeal.nD Cert.PreNormRefIdeal.τ).loc Cert.PreNormRefIdeal.main_arg1)) (m ((c.tc : Thread Cert.PreNormRefIdeal.nD Cert.PreNormRefIdeal.τ).loc Cert.PreNormRefIdeal.main_arg2)) (m ((c.tc : Thread Cert.PreNormRefIdeal.nD Cert.PreNormRefIdeal.τ).loc Cert.PreNormRefIdeal.main_arg3)) (m ((c.tc : Thread Cert.PreNormRefIdeal.nD Cert.PreNormRefIdeal.τ).loc Cert.PreNormRefIdeal.main_arg4))).1 = (fun _ => 1#1)
    ∧ (Cert.Pre_pre_norm_finite.fn (F := Ideal) (m ((c.tc : Thread Cert.PreNormRefIdeal.nD Cert.PreNormRefIdeal.τ).loc Cert.PreNormRefIdeal.main_arg0)) (m ((c.tc : Thread Cert.PreNormRefIdeal.nD Cert.PreNormRefIdeal.τ).loc Cert.PreNormRefIdeal.main_arg1)) (m ((c.tc : Thread Cert.PreNormRefIdeal.nD Cert.PreNormRefIdeal.τ).loc Cert.PreNormRefIdeal.main_arg2)) (m ((c.tc : Thread Cert.PreNormRefIdeal.nD Cert.PreNormRefIdeal.τ).loc Cert.PreNormRefIdeal.main_arg3)) (m ((c.tc : Thread Cert.PreNormRefIdeal.nD Cert.PreNormRefIdeal.τ).loc Cert.PreNormRefIdeal.main_arg4))).2.1 = (fun _ => 1#1)
    ∧ (Cert.Pre_pre_norm_finite.fn (F := Ideal) (m ((c.tc : Thread Cert.PreNormRefIdeal.nD Cert.PreNormRefIdeal.τ).loc Cert.PreNormRefIdeal.main_arg0)) (m ((c.tc : Thread Cert.PreNormRefIdeal.nD Cert.PreNormRefIdeal.τ).loc Cert.PreNormRefIdeal.main_arg1)) (m ((c.tc : Thread Cert.PreNormRefIdeal.nD Cert.PreNormRefIdeal.τ).loc Cert.PreNormRefIdeal.main_arg2)) (m ((c.tc : Thread Cert.PreNormRefIdeal.nD Cert.PreNormRefIdeal.τ).loc Cert.PreNormRefIdeal.main_arg3)) (m ((c.tc : Thread Cert.PreNormRefIdeal.nD Cert.PreNormRefIdeal.τ).loc Cert.PreNormRefIdeal.main_arg4))).2.2.1 = (fun _ => 1#1)
    ∧ (Cert.Pre_pre_norm_finite.fn (F := Ideal) (m ((c.tc : Thread Cert.PreNormRefIdeal.nD Cert.PreNormRefIdeal.τ).loc Cert.PreNormRefIdeal.main_arg0)) (m ((c.tc : Thread Cert.PreNormRefIdeal.nD Cert.PreNormRefIdeal.τ).loc Cert.PreNormRefIdeal.main_arg1)) (m ((c.tc : Thread Cert.PreNormRefIdeal.nD Cert.PreNormRefIdeal.τ).loc Cert.PreNormRefIdeal.main_arg2)) (m ((c.tc : Thread Cert.PreNormRefIdeal.nD Cert.PreNormRefIdeal.τ).loc Cert.PreNormRefIdeal.main_arg3)) (m ((c.tc : Thread Cert.PreNormRefIdeal.nD Cert.PreNormRefIdeal.τ).loc Cert.PreNormRefIdeal.main_arg4))).2.2.2.1 = (fun _ => 1#1)
    ∧ (Cert.Pre_pre_norm_finite.fn (F := Ideal) (m ((c.tc : Thread Cert.PreNormRefIdeal.nD Cert.PreNormRefIdeal.τ).loc Cert.PreNormRefIdeal.main_arg0)) (m ((c.tc : Thread Cert.PreNormRefIdeal.nD Cert.PreNormRefIdeal.τ).loc Cert.PreNormRefIdeal.main_arg1)) (m ((c.tc : Thread Cert.PreNormRefIdeal.nD Cert.PreNormRefIdeal.τ).loc Cert.PreNormRefIdeal.main_arg2)) (m ((c.tc : Thread Cert.PreNormRefIdeal.nD Cert.PreNormRefIdeal.τ).loc Cert.PreNormRefIdeal.main_arg3)) (m ((c.tc : Thread Cert.PreNormRefIdeal.nD Cert.PreNormRefIdeal.τ).loc Cert.PreNormRefIdeal.main_arg4))).2.2.2.2 = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2 = (fun _ => 1#1)

def Pre_ConvSwish (m : (ℓ : Loc Cert.ConvSwish.nD Cert.ConvSwish.τ Cert.ConvSwish.sig) → Buf (Elt Bits) ℓ) : Prop :=
  True

def Pre_ConvSwishIdeal (m : (ℓ : Loc Cert.ConvSwishIdeal.nD Cert.ConvSwishIdeal.τ Cert.ConvSwishIdeal.sig) → Buf (Elt Ideal) ℓ) : Prop :=
  True

def Pre_ConvSwishRefIdeal (m : (ℓ : Loc Cert.ConvSwishRefIdeal.nD Cert.ConvSwishRefIdeal.τ Cert.ConvSwishRefIdeal.sig) → Buf (Elt Ideal) ℓ) : Prop :=
  True

def Pre_TwoNorms (m : (ℓ : Loc Cert.TwoNorms.nD Cert.TwoNorms.τ Cert.TwoNorms.sig) → Buf (Elt Bits) ℓ) : Prop :=
  True

def Pre_TwoNormsIdeal (m : (ℓ : Loc Cert.TwoNormsIdeal.nD Cert.TwoNormsIdeal.τ Cert.TwoNormsIdeal.sig) → Buf (Elt Ideal) ℓ) : Prop :=
  True

def Pre_TwoNormsRefIdeal (m : (ℓ : Loc Cert.TwoNormsRefIdeal.nD Cert.TwoNormsRefIdeal.τ Cert.TwoNormsRefIdeal.sig) → Buf (Elt Ideal) ℓ) : Prop :=
  True

def Pre_ReluUp (m : (ℓ : Loc Cert.ReluUp.nD Cert.ReluUp.τ Cert.ReluUp.sig) → Buf (Elt Bits) ℓ) : Prop :=
  True

def Pre_ReluUpIdeal (m : (ℓ : Loc Cert.ReluUpIdeal.nD Cert.ReluUpIdeal.τ Cert.ReluUpIdeal.sig) → Buf (Elt Ideal) ℓ) : Prop :=
  True

def Pre_ReluUpRefIdeal (m : (ℓ : Loc Cert.ReluUpRefIdeal.nD Cert.ReluUpRefIdeal.τ Cert.ReluUpRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_TokenNorm (m : (ℓ : Loc Cert.TokenNorm.nD Cert.TokenNorm.τ Cert.TokenNorm.sig) → Buf (Elt Bits) ℓ) : Prop :=
  True

def Pre_TokenNormIdeal (m : (ℓ : Loc Cert.TokenNormIdeal.nD Cert.TokenNormIdeal.τ Cert.TokenNormIdeal.sig) → Buf (Elt Ideal) ℓ) : Prop :=
  True

def Pre_TokenNormRefIdeal (m : (ℓ : Loc Cert.TokenNormRefIdeal.nD Cert.TokenNormRefIdeal.τ Cert.TokenNormRefIdeal.sig) → Buf (Elt Ideal) ℓ) : Prop :=
  True

def Pre_Pooled (m : (ℓ : Loc Cert.Pooled.nD Cert.Pooled.τ Cert.Pooled.sig) → Buf (Elt Bits) ℓ) : Prop :=
  True

def Pre_PooledIdeal (m : (ℓ : Loc Cert.PooledIdeal.nD Cert.PooledIdeal.τ Cert.PooledIdeal.sig) → Buf (Elt Ideal) ℓ) : Prop :=
  True

def Pre_PooledIdeal_pooled_finite [hPre_pooled_finite : Cert.Pre_pooled_finite.Facts] (m : (ℓ : Loc Cert.PooledIdeal.nD Cert.PooledIdeal.τ Cert.PooledIdeal.sig) → Buf (Elt Ideal) ℓ) : Prop :=
  ∀ c : Dev Cert.PooledIdeal.nD,
    (Cert.Pre_pooled_finite.fn (F := Ideal) (m ((c.tc : Thread Cert.PooledIdeal.nD Cert.PooledIdeal.τ).loc Cert.PooledIdeal.main_arg0)) (m ((c.tc : Thread Cert.PooledIdeal.nD Cert.PooledIdeal.τ).loc Cert.PooledIdeal.main_arg1)) (m ((c.tc : Thread Cert.PooledIdeal.nD Cert.PooledIdeal.τ).loc Cert.PooledIdeal.main_arg2))) = (fun _ => 1#1)

def Pre_PooledRefIdeal (m : (ℓ : Loc Cert.PooledRefIdeal.nD Cert.PooledRefIdeal.τ Cert.PooledRefIdeal.sig) → Buf (Elt Ideal) ℓ) : Prop :=
  True

def Pre_PooledRefIdeal_pooled_finite [hPre_pooled_finite : Cert.Pre_pooled_finite.Facts] (m : (ℓ : Loc Cert.PooledRefIdeal.nD Cert.PooledRefIdeal.τ Cert.PooledRefIdeal.sig) → Buf (Elt Ideal) ℓ) : Prop :=
  ∀ c : Dev Cert.PooledRefIdeal.nD,
    (Cert.Pre_pooled_finite.fn (F := Ideal) (m ((c.tc : Thread Cert.PooledRefIdeal.nD Cert.PooledRefIdeal.τ).loc Cert.PooledRefIdeal.main_arg0)) (m ((c.tc : Thread Cert.PooledRefIdeal.nD Cert.PooledRefIdeal.τ).loc Cert.PooledRefIdeal.main_arg1)) (m ((c.tc : Thread Cert.PooledRefIdeal.nD Cert.PooledRefIdeal.τ).loc Cert.PooledRefIdeal.main_arg2))) = (fun _ => 1#1)

def Pre_MetaNorm (m : (ℓ : Loc Cert.MetaNorm.nD Cert.MetaNorm.τ Cert.MetaNorm.sig) → Buf (Elt Bits) ℓ) : Prop :=
  True

def Pre_MetaNormIdeal (m : (ℓ : Loc Cert.MetaNormIdeal.nD Cert.MetaNormIdeal.τ Cert.MetaNormIdeal.sig) → Buf (Elt Ideal) ℓ) : Prop :=
  True

def Pre_MetaNormRefIdeal (m : (ℓ : Loc Cert.MetaNormRefIdeal.nD Cert.MetaNormRefIdeal.τ Cert.MetaNormRefIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradRefIdeal (m : (ℓ : Loc Cert.UpGradRefIdeal.nD Cert.UpGradRefIdeal.τ Cert.UpGradRefIdeal.sig) → Buf (Elt Ideal) ℓ) : Prop :=
  True

def Pre_UpBack (m : (ℓ : Loc Cert.UpBack.nD Cert.UpBack.τ Cert.UpBack.sig) → Buf (Elt Bits) ℓ) : Prop :=
  True

def Pre_UpBackIdeal (m : (ℓ : Loc Cert.UpBackIdeal.nD Cert.UpBackIdeal.τ Cert.UpBackIdeal.sig) → Buf (Elt Ideal) ℓ) : Prop :=
  True

def Pre_UpBackRefIdeal (m : (ℓ : Loc Cert.UpBackRefIdeal.nD Cert.UpBackRefIdeal.τ Cert.UpBackRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_ReluSquare [hReluSquare : Cert.ReluSquare.Facts] : Prop :=
  ∀ (m : (ℓ : Loc Cert.ReluSquare.nD Cert.ReluSquare.τ Cert.ReluSquare.sig) → Buf (Elt Bits) ℓ) (g : Dev Cert.ReluSquare.nD → PrngReg), Pre_ReluSquare m →
    θ_run (Cert.ReluSquare.defs (F := Bits)) (onTc (τ := Cert.ReluSquare.τ) (Cert.ReluSquare.main (F := Bits))) ⟨m, fun _ => 0, g⟩ (fun r => (∀ c : Dev Cert.ReluSquare.nD,
      r.2.mem ((c.tc : Thread Cert.ReluSquare.nD Cert.ReluSquare.τ).loc Cert.ReluSquare.main_arg0) = m ((c.tc : Thread Cert.ReluSquare.nD Cert.ReluSquare.τ).loc Cert.ReluSquare.main_arg0)
      ∧ r.2.mem ((c.tc : Thread Cert.ReluSquare.nD Cert.ReluSquare.τ).loc Cert.ReluSquare.main_arg1) = m ((c.tc : Thread Cert.ReluSquare.nD Cert.ReluSquare.τ).loc Cert.ReluSquare.main_arg1)
      ∧ r.2.mem ((c.tc : Thread Cert.ReluSquare.nD Cert.ReluSquare.τ).loc Cert.ReluSquare.main_arg2) = m ((c.tc : Thread Cert.ReluSquare.nD Cert.ReluSquare.τ).loc Cert.ReluSquare.main_arg2))
      ∧ r.2.sem = fun _ => 0)

def quiescent_ReluSquareIdeal [hReluSquareIdeal : Cert.ReluSquareIdeal.Facts] : Prop :=
  ∀ (m : (ℓ : Loc Cert.ReluSquareIdeal.nD Cert.ReluSquareIdeal.τ Cert.ReluSquareIdeal.sig) → Buf (Elt Ideal) ℓ) (g : Dev Cert.ReluSquareIdeal.nD → PrngReg), Pre_ReluSquareIdeal m →
    θ_run (Cert.ReluSquareIdeal.defs (F := Ideal)) (onTc (τ := Cert.ReluSquareIdeal.τ) (Cert.ReluSquareIdeal.main (F := Ideal))) ⟨m, fun _ => 0, g⟩ (fun r => (∀ c : Dev Cert.ReluSquareIdeal.nD,
      r.2.mem ((c.tc : Thread Cert.ReluSquareIdeal.nD Cert.ReluSquareIdeal.τ).loc Cert.ReluSquareIdeal.main_arg0) = m ((c.tc : Thread Cert.ReluSquareIdeal.nD Cert.ReluSquareIdeal.τ).loc Cert.ReluSquareIdeal.main_arg0)
      ∧ r.2.mem ((c.tc : Thread Cert.ReluSquareIdeal.nD Cert.ReluSquareIdeal.τ).loc Cert.ReluSquareIdeal.main_arg1) = m ((c.tc : Thread Cert.ReluSquareIdeal.nD Cert.ReluSquareIdeal.τ).loc Cert.ReluSquareIdeal.main_arg1)
      ∧ r.2.mem ((c.tc : Thread Cert.ReluSquareIdeal.nD Cert.ReluSquareIdeal.τ).loc Cert.ReluSquareIdeal.main_arg2) = m ((c.tc : Thread Cert.ReluSquareIdeal.nD Cert.ReluSquareIdeal.τ).loc Cert.ReluSquareIdeal.main_arg2))
      ∧ r.2.sem = fun _ => 0)

def quiescent_ReluSquareRefIdeal [hReluSquareRefIdeal : Cert.ReluSquareRefIdeal.Facts] : Prop :=
  ∀ (m : (ℓ : Loc Cert.ReluSquareRefIdeal.nD Cert.ReluSquareRefIdeal.τ Cert.ReluSquareRefIdeal.sig) → Buf (Elt Ideal) ℓ) (g : Dev Cert.ReluSquareRefIdeal.nD → PrngReg), Pre_ReluSquareRefIdeal m →
    θ_run (Cert.ReluSquareRefIdeal.defs (F := Ideal)) (onTc (τ := Cert.ReluSquareRefIdeal.τ) (Cert.ReluSquareRefIdeal.main (F := Ideal))) ⟨m, fun _ => 0, g⟩ (fun r => (∀ c : Dev Cert.ReluSquareRefIdeal.nD,
      r.2.mem ((c.tc : Thread Cert.ReluSquareRefIdeal.nD Cert.ReluSquareRefIdeal.τ).loc Cert.ReluSquareRefIdeal.main_arg0) = m ((c.tc : Thread Cert.ReluSquareRefIdeal.nD Cert.ReluSquareRefIdeal.τ).loc Cert.ReluSquareRefIdeal.main_arg0)
      ∧ r.2.mem ((c.tc : Thread Cert.ReluSquareRefIdeal.nD Cert.ReluSquareRefIdeal.τ).loc Cert.ReluSquareRefIdeal.main_arg1) = m ((c.tc : Thread Cert.ReluSquareRefIdeal.nD Cert.ReluSquareRefIdeal.τ).loc Cert.ReluSquareRefIdeal.main_arg1)
      ∧ r.2.mem ((c.tc : Thread Cert.ReluSquareRefIdeal.nD Cert.ReluSquareRefIdeal.τ).loc Cert.ReluSquareRefIdeal.main_arg2) = m ((c.tc : Thread Cert.ReluSquareRefIdeal.nD Cert.ReluSquareRefIdeal.τ).loc Cert.ReluSquareRefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4))
      ∧ r.2.sem = fun _ => 0)

def quiescent_ConvNorm [hConvNorm : Cert.ConvNorm.Facts] : Prop :=
  ∀ (m : (ℓ : Loc Cert.ConvNorm.nD Cert.ConvNorm.τ Cert.ConvNorm.sig) → Buf (Elt Bits) ℓ) (g : Dev Cert.ConvNorm.nD → PrngReg), Pre_ConvNorm m →
    θ_run (Cert.ConvNorm.defs (F := Bits)) (onTc (τ := Cert.ConvNorm.τ) (Cert.ConvNorm.main (F := Bits))) ⟨m, fun _ => 0, g⟩ (fun r => (∀ c : Dev Cert.ConvNorm.nD,
      r.2.mem ((c.tc : Thread Cert.ConvNorm.nD Cert.ConvNorm.τ).loc Cert.ConvNorm.main_arg0) = m ((c.tc : Thread Cert.ConvNorm.nD Cert.ConvNorm.τ).loc Cert.ConvNorm.main_arg0)
      ∧ r.2.mem ((c.tc : Thread Cert.ConvNorm.nD Cert.ConvNorm.τ).loc Cert.ConvNorm.main_arg1) = m ((c.tc : Thread Cert.ConvNorm.nD Cert.ConvNorm.τ).loc Cert.ConvNorm.main_arg1)
      ∧ r.2.mem ((c.tc : Thread Cert.ConvNorm.nD Cert.ConvNorm.τ).loc Cert.ConvNorm.main_arg2) = m ((c.tc : Thread Cert.ConvNorm.nD Cert.ConvNorm.τ).loc Cert.ConvNorm.main_arg2)
      ∧ r.2.mem ((c.tc : Thread Cert.ConvNorm.nD Cert.ConvNorm.τ).loc Cert.ConvNorm.main_arg3) = m ((c.tc : Thread Cert.ConvNorm.nD Cert.ConvNorm.τ).loc Cert.ConvNorm.main_arg3)
      ∧ r.2.mem ((c.tc : Thread Cert.ConvNorm.nD Cert.ConvNorm.τ).loc Cert.ConvNorm.main_arg4) = m ((c.tc : Thread Cert.ConvNorm.nD Cert.ConvNorm.τ).loc Cert.ConvNorm.main_arg4))
      ∧ r.2.sem = fun _ => 0)

def quiescent_ConvNormIdeal [hConvNormIdeal : Cert.ConvNormIdeal.Facts] : Prop :=
  ∀ (m : (ℓ : Loc Cert.ConvNormIdeal.nD Cert.ConvNormIdeal.τ Cert.ConvNormIdeal.sig) → Buf (Elt Ideal) ℓ) (g : Dev Cert.ConvNormIdeal.nD → PrngReg), Pre_ConvNormIdeal m →
    θ_run (Cert.ConvNormIdeal.defs (F := Ideal)) (onTc (τ := Cert.ConvNormIdeal.τ) (Cert.ConvNormIdeal.main (F := Ideal))) ⟨m, fun _ => 0, g⟩ (fun r => (∀ c : Dev Cert.ConvNormIdeal.nD,
      r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
      ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
      ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2)
      ∧ r.2.mem ((c.tc : Thread Cert.ConvNormIdeal.nD Cert.ConvNormIdeal.τ).loc Cert.ConvNormIdeal.main_arg3) = m ((c.tc : Thread Cert.ConvNormIdeal.nD Cert.ConvNormIdeal.τ).loc Cert.ConvNormIdeal.main_arg3)
      ∧ r.2.mem ((c.tc : Thread Cert.ConvNormIdeal.nD Cert.ConvNormIdeal.τ).loc Cert.ConvNormIdeal.main_arg4) = m ((c.tc : Thread Cert.ConvNormIdeal.nD Cert.ConvNormIdeal.τ).loc Cert.ConvNormIdeal.main_arg4))
      ∧ r.2.sem = fun _ => 0)

def quiescent_ConvNormIdeal_pre_conv_norm_finite [hConvNormIdeal : Cert.ConvNormIdeal.Facts] [hPre_conv_norm_finite : Cert.Pre_conv_norm_finite.Facts] : Prop :=
  ∀ (m : (ℓ : Loc Cert.ConvNormIdeal.nD Cert.ConvNormIdeal.τ Cert.ConvNormIdeal.sig) → Buf (Elt Ideal) ℓ) (g : Dev Cert.ConvNormIdeal.nD → PrngReg), Pre_ConvNormIdeal_conv_norm_finite m →
    θ_run (Cert.ConvNormIdeal.defs (F := Ideal)) (onTc (τ := Cert.ConvNormIdeal.τ) (Cert.ConvNormIdeal.main (F := Ideal))) ⟨m, fun _ => 0, g⟩ (fun r => (∀ c : Dev Cert.ConvNormIdeal.nD,
      r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
      ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
      ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2)
      ∧ r.2.mem ((c.tc : Thread Cert.ConvNormIdeal.nD Cert.ConvNormIdeal.τ).loc Cert.ConvNormIdeal.main_arg3) = m ((c.tc : Thread Cert.ConvNormIdeal.nD Cert.ConvNormIdeal.τ).loc Cert.ConvNormIdeal.main_arg3)
      ∧ r.2.mem ((c.tc : Thread Cert.ConvNormIdeal.nD Cert.ConvNormIdeal.τ).loc Cert.ConvNormIdeal.main_arg4) = m ((c.tc : Thread Cert.ConvNormIdeal.nD Cert.ConvNormIdeal.τ).loc Cert.ConvNormIdeal.main_arg4))
      ∧ r.2.sem = fun _ => 0)

def quiescent_ConvNormRefIdeal [hConvNormRefIdeal : Cert.ConvNormRefIdeal.Facts] : Prop :=
  ∀ (m : (ℓ : Loc Cert.ConvNormRefIdeal.nD Cert.ConvNormRefIdeal.τ Cert.ConvNormRefIdeal.sig) → Buf (Elt Ideal) ℓ) (g : Dev Cert.ConvNormRefIdeal.nD → PrngReg), Pre_ConvNormRefIdeal m →
    θ_run (Cert.ConvNormRefIdeal.defs (F := Ideal)) (onTc (τ := Cert.ConvNormRefIdeal.τ) (Cert.ConvNormRefIdeal.main (F := Ideal))) ⟨m, fun _ => 0, g⟩ (fun r => (∀ c : Dev Cert.ConvNormRefIdeal.nD,
      r.2.mem ((c.tc : Thread Cert.ConvNormRefIdeal.nD Cert.ConvNormRefIdeal.τ).loc Cert.ConvNormRefIdeal.main_arg0) = m ((c.tc : Thread Cert.ConvNormRefIdeal.nD Cert.ConvNormRefIdeal.τ).loc Cert.ConvNormRefIdeal.main_arg0)
      ∧ r.2.mem ((c.tc : Thread Cert.ConvNormRefIdeal.nD Cert.ConvNormRefIdeal.τ).loc Cert.ConvNormRefIdeal.main_arg1) = m ((c.tc : Thread Cert.ConvNormRefIdeal.nD Cert.ConvNormRefIdeal.τ).loc Cert.ConvNormRefIdeal.main_arg1)
      ∧ r.2.mem ((c.tc : Thread Cert.ConvNormRefIdeal.nD Cert.ConvNormRefIdeal.τ).loc Cert.ConvNormRefIdeal.main_arg2) = m ((c.tc : Thread Cert.ConvNormRefIdeal.nD Cert.ConvNormRefIdeal.τ).loc Cert.ConvNormRefIdeal.main_arg2)
      ∧ r.2.mem ((c.tc : Thread Cert.ConvNormRefIdeal.nD Cert.ConvNormRefIdeal.τ).loc Cert.ConvNormRefIdeal.main_arg3) = m ((c.tc : Thread Cert.ConvNormRefIdeal.nD Cert.ConvNormRefIdeal.τ).loc Cert.ConvNormRefIdeal.main_arg3)
      ∧ r.2.mem ((c.tc : Thread Cert.ConvNormRefIdeal.nD Cert.ConvNormRefIdeal.τ).loc Cert.ConvNormRefIdeal.main_arg4) = m ((c.tc : Thread Cert.ConvNormRefIdeal.nD Cert.ConvNormRefIdeal.τ).loc Cert.ConvNormRefIdeal.main_arg4))
      ∧ r.2.sem = fun _ => 0)

def quiescent_ConvNormRefIdeal_pre_conv_norm_finite [hConvNormRefIdeal : Cert.ConvNormRefIdeal.Facts] [hPre_conv_norm_finite : Cert.Pre_conv_norm_finite.Facts] : Prop :=
  ∀ (m : (ℓ : Loc Cert.ConvNormRefIdeal.nD Cert.ConvNormRefIdeal.τ Cert.ConvNormRefIdeal.sig) → Buf (Elt Ideal) ℓ) (g : Dev Cert.ConvNormRefIdeal.nD → PrngReg), Pre_ConvNormRefIdeal_conv_norm_finite m →
    θ_run (Cert.ConvNormRefIdeal.defs (F := Ideal)) (onTc (τ := Cert.ConvNormRefIdeal.τ) (Cert.ConvNormRefIdeal.main (F := Ideal))) ⟨m, fun _ => 0, g⟩ (fun r => (∀ c : Dev Cert.ConvNormRefIdeal.nD,
      r.2.mem ((c.tc : Thread Cert.ConvNormRefIdeal.nD Cert.ConvNormRefIdeal.τ).loc Cert.ConvNormRefIdeal.main_arg0) = m ((c.tc : Thread Cert.ConvNormRefIdeal.nD Cert.ConvNormRefIdeal.τ).loc Cert.ConvNormRefIdeal.main_arg0)
      ∧ r.2.mem ((c.tc : Thread Cert.ConvNormRefIdeal.nD Cert.ConvNormRefIdeal.τ).loc Cert.ConvNormRefIdeal.main_arg1) = m ((c.tc : Thread Cert.ConvNormRefIdeal.nD Cert.ConvNormRefIdeal.τ).loc Cert.ConvNormRefIdeal.main_arg1)
      ∧ r.2.mem ((c.tc : Thread Cert.ConvNormRefIdeal.nD Cert.ConvNormRefIdeal.τ).loc Cert.ConvNormRefIdeal.main_arg2) = m ((c.tc : Thread Cert.ConvNormRefIdeal.nD Cert.ConvNormRefIdeal.τ).loc Cert.ConvNormRefIdeal.main_arg2)
      ∧ r.2.mem ((c.tc : Thread Cert.ConvNormRefIdeal.nD Cert.ConvNormRefIdeal.τ).loc Cert.ConvNormRefIdeal.main_arg3) = m ((c.tc : Thread Cert.ConvNormRefIdeal.nD Cert.ConvNormRefIdeal.τ).loc Cert.ConvNormRefIdeal.main_arg3)
      ∧ r.2.mem ((c.tc : Thread Cert.ConvNormRefIdeal.nD Cert.ConvNormRefIdeal.τ).loc Cert.ConvNormRefIdeal.main_arg4) = m ((c.tc : Thread Cert.ConvNormRefIdeal.nD Cert.ConvNormRefIdeal.τ).loc Cert.ConvNormRefIdeal.main_arg4))
      ∧ r.2.sem = fun _ => 0)

def quiescent_GluConv [hGluConv : Cert.GluConv.Facts] : Prop :=
  ∀ (m : (ℓ : Loc Cert.GluConv.nD Cert.GluConv.τ Cert.GluConv.sig) → Buf (Elt Bits) ℓ) (g : Dev Cert.GluConv.nD → PrngReg), Pre_GluConv m →
    θ_run (Cert.GluConv.defs (F := Bits)) (onTc (τ := Cert.GluConv.τ) (Cert.GluConv.main (F := Bits))) ⟨m, fun _ => 0, g⟩ (fun r => (∀ c : Dev Cert.GluConv.nD,
      r.2.mem ((c.tc : Thread Cert.GluConv.nD Cert.GluConv.τ).loc Cert.GluConv.main_arg0) = m ((c.tc : Thread Cert.GluConv.nD Cert.GluConv.τ).loc Cert.GluConv.main_arg0)
      ∧ r.2.mem ((c.tc : Thread Cert.GluConv.nD Cert.GluConv.τ).loc Cert.GluConv.main_arg1) = m ((c.tc : Thread Cert.GluConv.nD Cert.GluConv.τ).loc Cert.GluConv.main_arg1)
      ∧ r.2.mem ((c.tc : Thread Cert.GluConv.nD Cert.GluConv.τ).loc Cert.GluConv.main_arg2) = m ((c.tc : Thread Cert.GluConv.nD Cert.GluConv.τ).loc Cert.GluConv.main_arg2))
      ∧ r.2.sem = fun _ => 0)

def quiescent_GluConvIdeal [hGluConvIdeal : Cert.GluConvIdeal.Facts] : Prop :=
  ∀ (m : (ℓ : Loc Cert.GluConvIdeal.nD Cert.GluConvIdeal.τ Cert.GluConvIdeal.sig) → Buf (Elt Ideal) ℓ) (g : Dev Cert.GluConvIdeal.nD → PrngReg), Pre_GluConvIdeal m →
    θ_run (Cert.GluConvIdeal.defs (F := Ideal)) (onTc (τ := Cert.GluConvIdeal.τ) (Cert.GluConvIdeal.main (F := Ideal))) ⟨m, fun _ => 0, g⟩ (fun r => (∀ c : Dev Cert.GluConvIdeal.nD,
      r.2.mem ((c.tc : Thread Cert.GluConvIdeal.nD Cert.GluConvIdeal.τ).loc Cert.GluConvIdeal.main_arg0) = m ((c.tc : Thread Cert.GluConvIdeal.nD Cert.GluConvIdeal.τ).loc Cert.GluConvIdeal.main_arg0)
      ∧ r.2.mem ((c.tc : Thread Cert.GluConvIdeal.nD Cert.GluConvIdeal.τ).loc Cert.GluConvIdeal.main_arg1) = m ((c.tc : Thread Cert.GluConvIdeal.nD Cert.GluConvIdeal.τ).loc Cert.GluConvIdeal.main_arg1)
      ∧ r.2.mem ((c.tc : Thread Cert.GluConvIdeal.nD Cert.GluConvIdeal.τ).loc Cert.GluConvIdeal.main_arg2) = m ((c.tc : Thread Cert.GluConvIdeal.nD Cert.GluConvIdeal.τ).loc Cert.GluConvIdeal.main_arg2))
      ∧ r.2.sem = fun _ => 0)

def quiescent_GluConvRefIdeal [hGluConvRefIdeal : Cert.GluConvRefIdeal.Facts] : Prop :=
  ∀ (m : (ℓ : Loc Cert.GluConvRefIdeal.nD Cert.GluConvRefIdeal.τ Cert.GluConvRefIdeal.sig) → Buf (Elt Ideal) ℓ) (g : Dev Cert.GluConvRefIdeal.nD → PrngReg), Pre_GluConvRefIdeal m →
    θ_run (Cert.GluConvRefIdeal.defs (F := Ideal)) (onTc (τ := Cert.GluConvRefIdeal.τ) (Cert.GluConvRefIdeal.main (F := Ideal))) ⟨m, fun _ => 0, g⟩ (fun r => (∀ c : Dev Cert.GluConvRefIdeal.nD,
      r.2.mem ((c.tc : Thread Cert.GluConvRefIdeal.nD Cert.GluConvRefIdeal.τ).loc Cert.GluConvRefIdeal.main_arg0) = m ((c.tc : Thread Cert.GluConvRefIdeal.nD Cert.GluConvRefIdeal.τ).loc Cert.GluConvRefIdeal.main_arg0)
      ∧ r.2.mem ((c.tc : Thread Cert.GluConvRefIdeal.nD Cert.GluConvRefIdeal.τ).loc Cert.GluConvRefIdeal.main_arg1) = m ((c.tc : Thread Cert.GluConvRefIdeal.nD Cert.GluConvRefIdeal.τ).loc Cert.GluConvRefIdeal.main_arg1)
      ∧ r.2.mem ((c.tc : Thread Cert.GluConvRefIdeal.nD Cert.GluConvRefIdeal.τ).loc Cert.GluConvRefIdeal.main_arg2) = m ((c.tc : Thread Cert.GluConvRefIdeal.nD Cert.GluConvRefIdeal.τ).loc Cert.GluConvRefIdeal.main_arg2))
      ∧ r.2.sem = fun _ => 0)

def quiescent_MidNorm [hMidNorm : Cert.MidNorm.Facts] : Prop :=
  ∀ (m : (ℓ : Loc Cert.MidNorm.nD Cert.MidNorm.τ Cert.MidNorm.sig) → Buf (Elt Bits) ℓ) (g : Dev Cert.MidNorm.nD → PrngReg), Pre_MidNorm m →
    θ_run (Cert.MidNorm.defs (F := Bits)) (onTc (τ := Cert.MidNorm.τ) (Cert.MidNorm.main (F := Bits))) ⟨m, fun _ => 0, g⟩ (fun r => (∀ c : Dev Cert.MidNorm.nD,
      r.2.mem ((c.tc : Thread Cert.MidNorm.nD Cert.MidNorm.τ).loc Cert.MidNorm.main_arg0) = m ((c.tc : Thread Cert.MidNorm.nD Cert.MidNorm.τ).loc Cert.MidNorm.main_arg0)
      ∧ r.2.mem ((c.tc : Thread Cert.MidNorm.nD Cert.MidNorm.τ).loc Cert.MidNorm.main_arg1) = m ((c.tc : Thread Cert.MidNorm.nD Cert.MidNorm.τ).loc Cert.MidNorm.main_arg1)
      ∧ r.2.mem ((c.tc : Thread Cert.MidNorm.nD Cert.MidNorm.τ).loc Cert.MidNorm.main_arg2) = m ((c.tc : Thread Cert.MidNorm.nD Cert.MidNorm.τ).loc Cert.MidNorm.main_arg2)
      ∧ r.2.mem ((c.tc : Thread Cert.MidNorm.nD Cert.MidNorm.τ).loc Cert.MidNorm.main_arg3) = m ((c.tc : Thread Cert.MidNorm.nD Cert.MidNorm.τ).loc Cert.MidNorm.main_arg3)
      ∧ r.2.mem ((c.tc : Thread Cert.MidNorm.nD Cert.MidNorm.τ).loc Cert.MidNorm.main_arg4) = m ((c.tc : Thread Cert.MidNorm.nD Cert.MidNorm.τ).loc Cert.MidNorm.main_arg4)
      ∧ r.2.mem ((c.tc : Thread Cert.MidNorm.nD Cert.MidNorm.τ).loc Cert.MidNorm.main_arg5) = m ((c.tc : Thread Cert.MidNorm.nD Cert.MidNorm.τ).loc Cert.MidNorm.main_arg5))
      ∧ r.2.sem = fun _ => 0)

def quiescent_MidNormIdeal [hMidNormIdeal : Cert.MidNormIdeal.Facts] : Prop :=
  ∀ (m : (ℓ : Loc Cert.MidNormIdeal.nD Cert.MidNormIdeal.τ Cert.MidNormIdeal.sig) → Buf (Elt Ideal) ℓ) (g : Dev Cert.MidNormIdeal.nD → PrngReg), Pre_MidNormIdeal m →
    θ_run (Cert.MidNormIdeal.defs (F := Ideal)) (onTc (τ := Cert.MidNormIdeal.τ) (Cert.MidNormIdeal.main (F := Ideal))) ⟨m, fun _ => 0, g⟩ (fun r => (∀ c : Dev Cert.MidNormIdeal.nD,
      r.2.mem ((c.tc : Thread Cert.MidNormIdeal.nD Cert.MidNormIdeal.τ).loc Cert.MidNormIdeal.main_arg0) = m ((c.tc : Thread Cert.MidNormIdeal.nD Cert.MidNormIdeal.τ).loc Cert.MidNormIdeal.main_arg0)
      ∧ r.2.mem ((c.tc : Thread Cert.MidNormIdeal.nD Cert.MidNormIdeal.τ).loc Cert.MidNormIdeal.main_arg1) = m ((c.tc : Thread Cert.MidNormIdeal.nD Cert.MidNormIdeal.τ).loc Cert.MidNormIdeal.main_arg1)
      ∧ r.2.mem ((c.tc : Thread Cert.MidNormIdeal.nD Cert.MidNormIdeal.τ).loc Cert.MidNormIdeal.main_arg2) = m ((c.tc : Thread Cert.MidNormIdeal.nD Cert.MidNormIdeal.τ).loc Cert.MidNormIdeal.main_arg2)
      ∧ r.2.mem ((c.tc : Thread Cert.MidNormIdeal.nD Cert.MidNormIdeal.τ).loc Cert.MidNormIdeal.main_arg3) = m ((c.tc : Thread Cert.MidNormIdeal.nD Cert.MidNormIdeal.τ).loc Cert.MidNormIdeal.main_arg3)
      ∧ r.2.mem ((c.tc : Thread Cert.MidNormIdeal.nD Cert.MidNormIdeal.τ).loc Cert.MidNormIdeal.main_arg4) = m ((c.tc : Thread Cert.MidNormIdeal.nD Cert.MidNormIdeal.τ).loc Cert.MidNormIdeal.main_arg4)
      ∧ r.2.mem ((c.tc : Thread Cert.MidNormIdeal.nD Cert.MidNormIdeal.τ).loc Cert.MidNormIdeal.main_arg5) = m ((c.tc : Thread Cert.MidNormIdeal.nD Cert.MidNormIdeal.τ).loc Cert.MidNormIdeal.main_arg5))
      ∧ r.2.sem = fun _ => 0)

def quiescent_MidNormIdeal_pre_mid_norm_finite [hMidNormIdeal : Cert.MidNormIdeal.Facts] [hPre_mid_norm_finite : Cert.Pre_mid_norm_finite.Facts] : Prop :=
  ∀ (m : (ℓ : Loc Cert.MidNormIdeal.nD Cert.MidNormIdeal.τ Cert.MidNormIdeal.sig) → Buf (Elt Ideal) ℓ) (g : Dev Cert.MidNormIdeal.nD → PrngReg), Pre_MidNormIdeal_mid_norm_finite m →
    θ_run (Cert.MidNormIdeal.defs (F := Ideal)) (onTc (τ := Cert.MidNormIdeal.τ) (Cert.MidNormIdeal.main (F := Ideal))) ⟨m, fun _ => 0, g⟩ (fun r => (∀ c : Dev Cert.MidNormIdeal.nD,
      r.2.mem ((c.tc : Thread Cert.MidNormIdeal.nD Cert.MidNormIdeal.τ).loc Cert.MidNormIdeal.main_arg0) = m ((c.tc : Thread Cert.MidNormIdeal.nD Cert.MidNormIdeal.τ).loc Cert.MidNormIdeal.main_arg0)
      ∧ r.2.mem ((c.tc : Thread Cert.MidNormIdeal.nD Cert.MidNormIdeal.τ).loc Cert.MidNormIdeal.main_arg1) = m ((c.tc : Thread Cert.MidNormIdeal.nD Cert.MidNormIdeal.τ).loc Cert.MidNormIdeal.main_arg1)
      ∧ r.2.mem ((c.tc : Thread Cert.MidNormIdeal.nD Cert.MidNormIdeal.τ).loc Cert.MidNormIdeal.main_arg2) = m ((c.tc : Thread Cert.MidNormIdeal.nD Cert.MidNormIdeal.τ).loc Cert.MidNormIdeal.main_arg2)
      ∧ r.2.mem ((c.tc : Thread Cert.MidNormIdeal.nD Cert.MidNormIdeal.τ).loc Cert.MidNormIdeal.main_arg3) = m ((c.tc : Thread Cert.MidNormIdeal.nD Cert.MidNormIdeal.τ).loc Cert.MidNormIdeal.main_arg3)
      ∧ r.2.mem ((c.tc : Thread Cert.MidNormIdeal.nD Cert.MidNormIdeal.τ).loc Cert.MidNormIdeal.main_arg4) = m ((c.tc : Thread Cert.MidNormIdeal.nD Cert.MidNormIdeal.τ).loc Cert.MidNormIdeal.main_arg4)
      ∧ r.2.mem ((c.tc : Thread Cert.MidNormIdeal.nD Cert.MidNormIdeal.τ).loc Cert.MidNormIdeal.main_arg5) = m ((c.tc : Thread Cert.MidNormIdeal.nD Cert.MidNormIdeal.τ).loc Cert.MidNormIdeal.main_arg5))
      ∧ r.2.sem = fun _ => 0)

def quiescent_MidNormRefIdeal [hMidNormRefIdeal : Cert.MidNormRefIdeal.Facts] : Prop :=
  ∀ (m : (ℓ : Loc Cert.MidNormRefIdeal.nD Cert.MidNormRefIdeal.τ Cert.MidNormRefIdeal.sig) → Buf (Elt Ideal) ℓ) (g : Dev Cert.MidNormRefIdeal.nD → PrngReg), Pre_MidNormRefIdeal m →
    θ_run (Cert.MidNormRefIdeal.defs (F := Ideal)) (onTc (τ := Cert.MidNormRefIdeal.τ) (Cert.MidNormRefIdeal.main (F := Ideal))) ⟨m, fun _ => 0, g⟩ (fun r => (∀ c : Dev Cert.MidNormRefIdeal.nD,
      r.2.mem ((c.tc : Thread Cert.MidNormRefIdeal.nD Cert.MidNormRefIdeal.τ).loc Cert.MidNormRefIdeal.main_arg0) = m ((c.tc : Thread Cert.MidNormRefIdeal.nD Cert.MidNormRefIdeal.τ).loc Cert.MidNormRefIdeal.main_arg0)
      ∧ r.2.mem ((c.tc : Thread Cert.MidNormRefIdeal.nD Cert.MidNormRefIdeal.τ).loc Cert.MidNormRefIdeal.main_arg1) = m ((c.tc : Thread Cert.MidNormRefIdeal.nD Cert.MidNormRefIdeal.τ).loc Cert.MidNormRefIdeal.main_arg1)
      ∧ r.2.mem ((c.tc : Thread Cert.MidNormRefIdeal.nD Cert.MidNormRefIdeal.τ).loc Cert.MidNormRefIdeal.main_arg2) = m ((c.tc : Thread Cert.MidNormRefIdeal.nD Cert.MidNormRefIdeal.τ).loc Cert.MidNormRefIdeal.main_arg2)
      ∧ r.2.mem ((c.tc : Thread Cert.MidNormRefIdeal.nD Cert.MidNormRefIdeal.τ).loc Cert.MidNormRefIdeal.main_arg3) = m ((c.tc : Thread Cert.MidNormRefIdeal.nD Cert.MidNormRefIdeal.τ).loc Cert.MidNormRefIdeal.main_arg3)
      ∧ r.2.mem ((c.tc : Thread Cert.MidNormRefIdeal.nD Cert.MidNormRefIdeal.τ).loc Cert.MidNormRefIdeal.main_arg4) = m ((c.tc : Thread Cert.MidNormRefIdeal.nD Cert.MidNormRefIdeal.τ).loc Cert.MidNormRefIdeal.main_arg4)
      ∧ r.2.mem ((c.tc : Thread Cert.MidNormRefIdeal.nD Cert.MidNormRefIdeal.τ).loc Cert.MidNormRefIdeal.main_arg5) = m ((c.tc : Thread Cert.MidNormRefIdeal.nD Cert.MidNormRefIdeal.τ).loc Cert.MidNormRefIdeal.main_arg5))
      ∧ r.2.sem = fun _ => 0)

def quiescent_MidNormRefIdeal_pre_mid_norm_finite [hMidNormRefIdeal : Cert.MidNormRefIdeal.Facts] [hPre_mid_norm_finite : Cert.Pre_mid_norm_finite.Facts] : Prop :=
  ∀ (m : (ℓ : Loc Cert.MidNormRefIdeal.nD Cert.MidNormRefIdeal.τ Cert.MidNormRefIdeal.sig) → Buf (Elt Ideal) ℓ) (g : Dev Cert.MidNormRefIdeal.nD → PrngReg), Pre_MidNormRefIdeal_mid_norm_finite m →
    θ_run (Cert.MidNormRefIdeal.defs (F := Ideal)) (onTc (τ := Cert.MidNormRefIdeal.τ) (Cert.MidNormRefIdeal.main (F := Ideal))) ⟨m, fun _ => 0, g⟩ (fun r => (∀ c : Dev Cert.MidNormRefIdeal.nD,
      r.2.mem ((c.tc : Thread Cert.MidNormRefIdeal.nD Cert.MidNormRefIdeal.τ).loc Cert.MidNormRefIdeal.main_arg0) = m ((c.tc : Thread Cert.MidNormRefIdeal.nD Cert.MidNormRefIdeal.τ).loc Cert.MidNormRefIdeal.main_arg0)
      ∧ r.2.mem ((c.tc : Thread Cert.MidNormRefIdeal.nD Cert.MidNormRefIdeal.τ).loc Cert.MidNormRefIdeal.main_arg1) = m ((c.tc : Thread Cert.MidNormRefIdeal.nD Cert.MidNormRefIdeal.τ).loc Cert.MidNormRefIdeal.main_arg1)
      ∧ r.2.mem ((c.tc : Thread Cert.MidNormRefIdeal.nD Cert.MidNormRefIdeal.τ).loc Cert.MidNormRefIdeal.main_arg2) = m ((c.tc : Thread Cert.MidNormRefIdeal.nD Cert.MidNormRefIdeal.τ).loc Cert.MidNormRefIdeal.main_arg2)
      ∧ r.2.mem ((c.tc : Thread Cert.MidNormRefIdeal.nD Cert.MidNormRefIdeal.τ).loc Cert.MidNormRefIdeal.main_arg3) = m ((c.tc : Thread Cert.MidNormRefIdeal.nD Cert.MidNormRefIdeal.τ).loc Cert.MidNormRefIdeal.main_arg3)
      ∧ r.2.mem ((c.tc : Thread Cert.MidNormRefIdeal.nD Cert.MidNormRefIdeal.τ).loc Cert.MidNormRefIdeal.main_arg4) = m ((c.tc : Thread Cert.MidNormRefIdeal.nD Cert.MidNormRefIdeal.τ).loc Cert.MidNormRefIdeal.main_arg4)
      ∧ r.2.mem ((c.tc : Thread Cert.MidNormRefIdeal.nD Cert.MidNormRefIdeal.τ).loc Cert.MidNormRefIdeal.main_arg5) = m ((c.tc : Thread Cert.MidNormRefIdeal.nD Cert.MidNormRefIdeal.τ).loc Cert.MidNormRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1)
      ∧ r.2.mem ((c.tc : Thread Cert.PreNorm.nD Cert.PreNorm.τ).loc Cert.PreNorm.main_arg2) = m ((c.tc : Thread Cert.PreNorm.nD Cert.PreNorm.τ).loc Cert.PreNorm.main_arg2)
      ∧ r.2.mem ((c.tc : Thread Cert.PreNorm.nD Cert.PreNorm.τ).loc Cert.PreNorm.main_arg3) = m ((c.tc : Thread Cert.PreNorm.nD Cert.PreNorm.τ).loc Cert.PreNorm.main_arg3)
      ∧ r.2.mem ((c.tc : Thread Cert.PreNorm.nD Cert.PreNorm.τ).loc Cert.PreNorm.main_arg4) = m ((c.tc : Thread Cert.PreNorm.nD Cert.PreNorm.τ).loc Cert.PreNorm.main_arg4))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
      ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
      ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3)
      ∧ r.2.mem ((c.tc : Thread Cert.PreNormIdeal.nD Cert.PreNormIdeal.τ).loc Cert.PreNormIdeal.main_arg4) = m ((c.tc : Thread Cert.PreNormIdeal.nD Cert.PreNormIdeal.τ).loc Cert.PreNormIdeal.main_arg4))
      ∧ r.2.sem = fun _ => 0)

def quiescent_PreNormIdeal_pre_pre_norm_finite [hPreNormIdeal : Cert.PreNormIdeal.Facts] [hPre_pre_norm_finite : Cert.Pre_pre_norm_finite.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal_pre_norm_finite m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
      ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
      ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3)
      ∧ r.2.mem ((c.tc : Thread Cert.PreNormIdeal.nD Cert.PreNormIdeal.τ).loc Cert.PreNormIdeal.main_arg4) = m ((c.tc : Thread Cert.PreNormIdeal.nD Cert.PreNormIdeal.τ).loc Cert.PreNormIdeal.main_arg4))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1)
      ∧ r.2.mem ((c.tc : Thread Cert.PreNormRefIdeal.nD Cert.PreNormRefIdeal.τ).loc Cert.PreNormRefIdeal.main_arg2) = m ((c.tc : Thread Cert.PreNormRefIdeal.nD Cert.PreNormRefIdeal.τ).loc Cert.PreNormRefIdeal.main_arg2)
      ∧ r.2.mem ((c.tc : Thread Cert.PreNormRefIdeal.nD Cert.PreNormRefIdeal.τ).loc Cert.PreNormRefIdeal.main_arg3) = m ((c.tc : Thread Cert.PreNormRefIdeal.nD Cert.PreNormRefIdeal.τ).loc Cert.PreNormRefIdeal.main_arg3)
      ∧ r.2.mem ((c.tc : Thread Cert.PreNormRefIdeal.nD Cert.PreNormRefIdeal.τ).loc Cert.PreNormRefIdeal.main_arg4) = m ((c.tc : Thread Cert.PreNormRefIdeal.nD Cert.PreNormRefIdeal.τ).loc Cert.PreNormRefIdeal.main_arg4))
      ∧ r.2.sem = fun _ => 0)

def quiescent_PreNormRefIdeal_pre_pre_norm_finite [hPreNormRefIdeal : Cert.PreNormRefIdeal.Facts] [hPre_pre_norm_finite : Cert.Pre_pre_norm_finite.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal_pre_norm_finite m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1)
      ∧ r.2.mem ((c.tc : Thread Cert.PreNormRefIdeal.nD Cert.PreNormRefIdeal.τ).loc Cert.PreNormRefIdeal.main_arg2) = m ((c.tc : Thread Cert.PreNormRefIdeal.nD Cert.PreNormRefIdeal.τ).loc Cert.PreNormRefIdeal.main_arg2)
      ∧ r.2.mem ((c.tc : Thread Cert.PreNormRefIdeal.nD Cert.PreNormRefIdeal.τ).loc Cert.PreNormRefIdeal.main_arg3) = m ((c.tc : Thread Cert.PreNormRefIdeal.nD Cert.PreNormRefIdeal.τ).loc Cert.PreNormRefIdeal.main_arg3)
      ∧ r.2.mem ((c.tc : Thread Cert.PreNormRefIdeal.nD Cert.PreNormRefIdeal.τ).loc Cert.PreNormRefIdeal.main_arg4) = m ((c.tc : Thread Cert.PreNormRefIdeal.nD Cert.PreNormRefIdeal.τ).loc Cert.PreNormRefIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_ConvSwish [hConvSwish : Cert.ConvSwish.Facts] : Prop :=
  ∀ (m : (ℓ : Loc Cert.ConvSwish.nD Cert.ConvSwish.τ Cert.ConvSwish.sig) → Buf (Elt Bits) ℓ) (g : Dev Cert.ConvSwish.nD → PrngReg), Pre_ConvSwish m →
    θ_run (Cert.ConvSwish.defs (F := Bits)) (onTc (τ := Cert.ConvSwish.τ) (Cert.ConvSwish.main (F := Bits))) ⟨m, fun _ => 0, g⟩ (fun r => (∀ c : Dev Cert.ConvSwish.nD,
      r.2.mem ((c.tc : Thread Cert.ConvSwish.nD Cert.ConvSwish.τ).loc Cert.ConvSwish.main_arg0) = m ((c.tc : Thread Cert.ConvSwish.nD Cert.ConvSwish.τ).loc Cert.ConvSwish.main_arg0)
      ∧ r.2.mem ((c.tc : Thread Cert.ConvSwish.nD Cert.ConvSwish.τ).loc Cert.ConvSwish.main_arg1) = m ((c.tc : Thread Cert.ConvSwish.nD Cert.ConvSwish.τ).loc Cert.ConvSwish.main_arg1)
      ∧ r.2.mem ((c.tc : Thread Cert.ConvSwish.nD Cert.ConvSwish.τ).loc Cert.ConvSwish.main_arg2) = m ((c.tc : Thread Cert.ConvSwish.nD Cert.ConvSwish.τ).loc Cert.ConvSwish.main_arg2)
      ∧ r.2.mem ((c.tc : Thread Cert.ConvSwish.nD Cert.ConvSwish.τ).loc Cert.ConvSwish.main_arg3) = m ((c.tc : Thread Cert.ConvSwish.nD Cert.ConvSwish.τ).loc Cert.ConvSwish.main_arg3)
      ∧ r.2.mem ((c.tc : Thread Cert.ConvSwish.nD Cert.ConvSwish.τ).loc Cert.ConvSwish.main_arg4) = m ((c.tc : Thread Cert.ConvSwish.nD Cert.ConvSwish.τ).loc Cert.ConvSwish.main_arg4))
      ∧ r.2.sem = fun _ => 0)

def quiescent_ConvSwishIdeal [hConvSwishIdeal : Cert.ConvSwishIdeal.Facts] : Prop :=
  ∀ (m : (ℓ : Loc Cert.ConvSwishIdeal.nD Cert.ConvSwishIdeal.τ Cert.ConvSwishIdeal.sig) → Buf (Elt Ideal) ℓ) (g : Dev Cert.ConvSwishIdeal.nD → PrngReg), Pre_ConvSwishIdeal m →
    θ_run (Cert.ConvSwishIdeal.defs (F := Ideal)) (onTc (τ := Cert.ConvSwishIdeal.τ) (Cert.ConvSwishIdeal.main (F := Ideal))) ⟨m, fun _ => 0, g⟩ (fun r => (∀ c : Dev Cert.ConvSwishIdeal.nD,
      r.2.mem ((c.tc : Thread Cert.ConvSwishIdeal.nD Cert.ConvSwishIdeal.τ).loc Cert.ConvSwishIdeal.main_arg0) = m ((c.tc : Thread Cert.ConvSwishIdeal.nD Cert.ConvSwishIdeal.τ).loc Cert.ConvSwishIdeal.main_arg0)
      ∧ r.2.mem ((c.tc : Thread Cert.ConvSwishIdeal.nD Cert.ConvSwishIdeal.τ).loc Cert.ConvSwishIdeal.main_arg1) = m ((c.tc : Thread Cert.ConvSwishIdeal.nD Cert.ConvSwishIdeal.τ).loc Cert.ConvSwishIdeal.main_arg1)
      ∧ r.2.mem ((c.tc : Thread Cert.ConvSwishIdeal.nD Cert.ConvSwishIdeal.τ).loc Cert.ConvSwishIdeal.main_arg2) = m ((c.tc : Thread Cert.ConvSwishIdeal.nD Cert.ConvSwishIdeal.τ).loc Cert.ConvSwishIdeal.main_arg2)
      ∧ r.2.mem ((c.tc : Thread Cert.ConvSwishIdeal.nD Cert.ConvSwishIdeal.τ).loc Cert.ConvSwishIdeal.main_arg3) = m ((c.tc : Thread Cert.ConvSwishIdeal.nD Cert.ConvSwishIdeal.τ).loc Cert.ConvSwishIdeal.main_arg3)
      ∧ r.2.mem ((c.tc : Thread Cert.ConvSwishIdeal.nD Cert.ConvSwishIdeal.τ).loc Cert.ConvSwishIdeal.main_arg4) = m ((c.tc : Thread Cert.ConvSwishIdeal.nD Cert.ConvSwishIdeal.τ).loc Cert.ConvSwishIdeal.main_arg4))
      ∧ r.2.sem = fun _ => 0)

def quiescent_ConvSwishRefIdeal [hConvSwishRefIdeal : Cert.ConvSwishRefIdeal.Facts] : Prop :=
  ∀ (m : (ℓ : Loc Cert.ConvSwishRefIdeal.nD Cert.ConvSwishRefIdeal.τ Cert.ConvSwishRefIdeal.sig) → Buf (Elt Ideal) ℓ) (g : Dev Cert.ConvSwishRefIdeal.nD → PrngReg), Pre_ConvSwishRefIdeal m →
    θ_run (Cert.ConvSwishRefIdeal.defs (F := Ideal)) (onTc (τ := Cert.ConvSwishRefIdeal.τ) (Cert.ConvSwishRefIdeal.main (F := Ideal))) ⟨m, fun _ => 0, g⟩ (fun r => (∀ c : Dev Cert.ConvSwishRefIdeal.nD,
      r.2.mem ((c.tc : Thread Cert.ConvSwishRefIdeal.nD Cert.ConvSwishRefIdeal.τ).loc Cert.ConvSwishRefIdeal.main_arg0) = m ((c.tc : Thread Cert.ConvSwishRefIdeal.nD Cert.ConvSwishRefIdeal.τ).loc Cert.ConvSwishRefIdeal.main_arg0)
      ∧ r.2.mem ((c.tc : Thread Cert.ConvSwishRefIdeal.nD Cert.ConvSwishRefIdeal.τ).loc Cert.ConvSwishRefIdeal.main_arg1) = m ((c.tc : Thread Cert.ConvSwishRefIdeal.nD Cert.ConvSwishRefIdeal.τ).loc Cert.ConvSwishRefIdeal.main_arg1)
      ∧ r.2.mem ((c.tc : Thread Cert.ConvSwishRefIdeal.nD Cert.ConvSwishRefIdeal.τ).loc Cert.ConvSwishRefIdeal.main_arg2) = m ((c.tc : Thread Cert.ConvSwishRefIdeal.nD Cert.ConvSwishRefIdeal.τ).loc Cert.ConvSwishRefIdeal.main_arg2)
      ∧ r.2.mem ((c.tc : Thread Cert.ConvSwishRefIdeal.nD Cert.ConvSwishRefIdeal.τ).loc Cert.ConvSwishRefIdeal.main_arg3) = m ((c.tc : Thread Cert.ConvSwishRefIdeal.nD Cert.ConvSwishRefIdeal.τ).loc Cert.ConvSwishRefIdeal.main_arg3)
      ∧ r.2.mem ((c.tc : Thread Cert.ConvSwishRefIdeal.nD Cert.ConvSwishRefIdeal.τ).loc Cert.ConvSwishRefIdeal.main_arg4) = m ((c.tc : Thread Cert.ConvSwishRefIdeal.nD Cert.ConvSwishRefIdeal.τ).loc Cert.ConvSwishRefIdeal.main_arg4))
      ∧ r.2.sem = fun _ => 0)

def quiescent_TwoNorms [hTwoNorms : Cert.TwoNorms.Facts] : Prop :=
  ∀ (m : (ℓ : Loc Cert.TwoNorms.nD Cert.TwoNorms.τ Cert.TwoNorms.sig) → Buf (Elt Bits) ℓ) (g : Dev Cert.TwoNorms.nD → PrngReg), Pre_TwoNorms m →
    θ_run (Cert.TwoNorms.defs (F := Bits)) (onTc (τ := Cert.TwoNorms.τ) (Cert.TwoNorms.main (F := Bits))) ⟨m, fun _ => 0, g⟩ (fun r => (∀ c : Dev Cert.TwoNorms.nD,
      r.2.mem ((c.tc : Thread Cert.TwoNorms.nD Cert.TwoNorms.τ).loc Cert.TwoNorms.main_arg0) = m ((c.tc : Thread Cert.TwoNorms.nD Cert.TwoNorms.τ).loc Cert.TwoNorms.main_arg0)
      ∧ r.2.mem ((c.tc : Thread Cert.TwoNorms.nD Cert.TwoNorms.τ).loc Cert.TwoNorms.main_arg1) = m ((c.tc : Thread Cert.TwoNorms.nD Cert.TwoNorms.τ).loc Cert.TwoNorms.main_arg1)
      ∧ r.2.mem ((c.tc : Thread Cert.TwoNorms.nD Cert.TwoNorms.τ).loc Cert.TwoNorms.main_arg2) = m ((c.tc : Thread Cert.TwoNorms.nD Cert.TwoNorms.τ).loc Cert.TwoNorms.main_arg2)
      ∧ r.2.mem ((c.tc : Thread Cert.TwoNorms.nD Cert.TwoNorms.τ).loc Cert.TwoNorms.main_arg3) = m ((c.tc : Thread Cert.TwoNorms.nD Cert.TwoNorms.τ).loc Cert.TwoNorms.main_arg3))
      ∧ r.2.sem = fun _ => 0)

def quiescent_TwoNormsIdeal [hTwoNormsIdeal : Cert.TwoNormsIdeal.Facts] : Prop :=
  ∀ (m : (ℓ : Loc Cert.TwoNormsIdeal.nD Cert.TwoNormsIdeal.τ Cert.TwoNormsIdeal.sig) → Buf (Elt Ideal) ℓ) (g : Dev Cert.TwoNormsIdeal.nD → PrngReg), Pre_TwoNormsIdeal m →
    θ_run (Cert.TwoNormsIdeal.defs (F := Ideal)) (onTc (τ := Cert.TwoNormsIdeal.τ) (Cert.TwoNormsIdeal.main (F := Ideal))) ⟨m, fun _ => 0, g⟩ (fun r => (∀ c : Dev Cert.TwoNormsIdeal.nD,
      r.2.mem ((c.tc : Thread Cert.TwoNormsIdeal.nD Cert.TwoNormsIdeal.τ).loc Cert.TwoNormsIdeal.main_arg0) = m ((c.tc : Thread Cert.TwoNormsIdeal.nD Cert.TwoNormsIdeal.τ).loc Cert.TwoNormsIdeal.main_arg0)
      ∧ r.2.mem ((c.tc : Thread Cert.TwoNormsIdeal.nD Cert.TwoNormsIdeal.τ).loc Cert.TwoNormsIdeal.main_arg1) = m ((c.tc : Thread Cert.TwoNormsIdeal.nD Cert.TwoNormsIdeal.τ).loc Cert.TwoNormsIdeal.main_arg1)
      ∧ r.2.mem ((c.tc : Thread Cert.TwoNormsIdeal.nD Cert.TwoNormsIdeal.τ).loc Cert.TwoNormsIdeal.main_arg2) = m ((c.tc : Thread Cert.TwoNormsIdeal.nD Cert.TwoNormsIdeal.τ).loc Cert.TwoNormsIdeal.main_arg2)
      ∧ r.2.mem ((c.tc : Thread Cert.TwoNormsIdeal.nD Cert.TwoNormsIdeal.τ).loc Cert.TwoNormsIdeal.main_arg3) = m ((c.tc : Thread Cert.TwoNormsIdeal.nD Cert.TwoNormsIdeal.τ).loc Cert.TwoNormsIdeal.main_arg3))
      ∧ r.2.sem = fun _ => 0)

def quiescent_TwoNormsRefIdeal [hTwoNormsRefIdeal : Cert.TwoNormsRefIdeal.Facts] : Prop :=
  ∀ (m : (ℓ : Loc Cert.TwoNormsRefIdeal.nD Cert.TwoNormsRefIdeal.τ Cert.TwoNormsRefIdeal.sig) → Buf (Elt Ideal) ℓ) (g : Dev Cert.TwoNormsRefIdeal.nD → PrngReg), Pre_TwoNormsRefIdeal m →
    θ_run (Cert.TwoNormsRefIdeal.defs (F := Ideal)) (onTc (τ := Cert.TwoNormsRefIdeal.τ) (Cert.TwoNormsRefIdeal.main (F := Ideal))) ⟨m, fun _ => 0, g⟩ (fun r => (∀ c : Dev Cert.TwoNormsRefIdeal.nD,
      r.2.mem ((c.tc : Thread Cert.TwoNormsRefIdeal.nD Cert.TwoNormsRefIdeal.τ).loc Cert.TwoNormsRefIdeal.main_arg0) = m ((c.tc : Thread Cert.TwoNormsRefIdeal.nD Cert.TwoNormsRefIdeal.τ).loc Cert.TwoNormsRefIdeal.main_arg0)
      ∧ r.2.mem ((c.tc : Thread Cert.TwoNormsRefIdeal.nD Cert.TwoNormsRefIdeal.τ).loc Cert.TwoNormsRefIdeal.main_arg1) = m ((c.tc : Thread Cert.TwoNormsRefIdeal.nD Cert.TwoNormsRefIdeal.τ).loc Cert.TwoNormsRefIdeal.main_arg1)
      ∧ r.2.mem ((c.tc : Thread Cert.TwoNormsRefIdeal.nD Cert.TwoNormsRefIdeal.τ).loc Cert.TwoNormsRefIdeal.main_arg2) = m ((c.tc : Thread Cert.TwoNormsRefIdeal.nD Cert.TwoNormsRefIdeal.τ).loc Cert.TwoNormsRefIdeal.main_arg2)
      ∧ r.2.mem ((c.tc : Thread Cert.TwoNormsRefIdeal.nD Cert.TwoNormsRefIdeal.τ).loc Cert.TwoNormsRefIdeal.main_arg3) = m ((c.tc : Thread Cert.TwoNormsRefIdeal.nD Cert.TwoNormsRefIdeal.τ).loc Cert.TwoNormsRefIdeal.main_arg3))
      ∧ r.2.sem = fun _ => 0)

def quiescent_ReluUp [hReluUp : Cert.ReluUp.Facts] : Prop :=
  ∀ (m : (ℓ : Loc Cert.ReluUp.nD Cert.ReluUp.τ Cert.ReluUp.sig) → Buf (Elt Bits) ℓ) (g : Dev Cert.ReluUp.nD → PrngReg), Pre_ReluUp m →
    θ_run (Cert.ReluUp.defs (F := Bits)) (onTc (τ := Cert.ReluUp.τ) (Cert.ReluUp.main (F := Bits))) ⟨m, fun _ => 0, g⟩ (fun r => (∀ c : Dev Cert.ReluUp.nD,
      r.2.mem ((c.tc : Thread Cert.ReluUp.nD Cert.ReluUp.τ).loc Cert.ReluUp.main_arg0) = m ((c.tc : Thread Cert.ReluUp.nD Cert.ReluUp.τ).loc Cert.ReluUp.main_arg0)
      ∧ r.2.mem ((c.tc : Thread Cert.ReluUp.nD Cert.ReluUp.τ).loc Cert.ReluUp.main_arg1) = m ((c.tc : Thread Cert.ReluUp.nD Cert.ReluUp.τ).loc Cert.ReluUp.main_arg1))
      ∧ r.2.sem = fun _ => 0)

def quiescent_ReluUpIdeal [hReluUpIdeal : Cert.ReluUpIdeal.Facts] : Prop :=
  ∀ (m : (ℓ : Loc Cert.ReluUpIdeal.nD Cert.ReluUpIdeal.τ Cert.ReluUpIdeal.sig) → Buf (Elt Ideal) ℓ) (g : Dev Cert.ReluUpIdeal.nD → PrngReg), Pre_ReluUpIdeal m →
    θ_run (Cert.ReluUpIdeal.defs (F := Ideal)) (onTc (τ := Cert.ReluUpIdeal.τ) (Cert.ReluUpIdeal.main (F := Ideal))) ⟨m, fun _ => 0, g⟩ (fun r => (∀ c : Dev Cert.ReluUpIdeal.nD,
      r.2.mem ((c.tc : Thread Cert.ReluUpIdeal.nD Cert.ReluUpIdeal.τ).loc Cert.ReluUpIdeal.main_arg0) = m ((c.tc : Thread Cert.ReluUpIdeal.nD Cert.ReluUpIdeal.τ).loc Cert.ReluUpIdeal.main_arg0)
      ∧ r.2.mem ((c.tc : Thread Cert.ReluUpIdeal.nD Cert.ReluUpIdeal.τ).loc Cert.ReluUpIdeal.main_arg1) = m ((c.tc : Thread Cert.ReluUpIdeal.nD Cert.ReluUpIdeal.τ).loc Cert.ReluUpIdeal.main_arg1))
      ∧ r.2.sem = fun _ => 0)

def quiescent_ReluUpRefIdeal [hReluUpRefIdeal : Cert.ReluUpRefIdeal.Facts] : Prop :=
  ∀ (m : (ℓ : Loc Cert.ReluUpRefIdeal.nD Cert.ReluUpRefIdeal.τ Cert.ReluUpRefIdeal.sig) → Buf (Elt Ideal) ℓ) (g : Dev Cert.ReluUpRefIdeal.nD → PrngReg), Pre_ReluUpRefIdeal m →
    θ_run (Cert.ReluUpRefIdeal.defs (F := Ideal)) (onTc (τ := Cert.ReluUpRefIdeal.τ) (Cert.ReluUpRefIdeal.main (F := Ideal))) ⟨m, fun _ => 0, g⟩ (fun r => (∀ c : Dev Cert.ReluUpRefIdeal.nD,
      r.2.mem ((c.tc : Thread Cert.ReluUpRefIdeal.nD Cert.ReluUpRefIdeal.τ).loc Cert.ReluUpRefIdeal.main_arg0) = m ((c.tc : Thread Cert.ReluUpRefIdeal.nD Cert.ReluUpRefIdeal.τ).loc Cert.ReluUpRefIdeal.main_arg0)
      ∧ r.2.mem ((c.tc : Thread Cert.ReluUpRefIdeal.nD Cert.ReluUpRefIdeal.τ).loc Cert.ReluUpRefIdeal.main_arg1) = m ((c.tc : Thread Cert.ReluUpRefIdeal.nD Cert.ReluUpRefIdeal.τ).loc Cert.ReluUpRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_TokenNorm [hTokenNorm : Cert.TokenNorm.Facts] : Prop :=
  ∀ (m : (ℓ : Loc Cert.TokenNorm.nD Cert.TokenNorm.τ Cert.TokenNorm.sig) → Buf (Elt Bits) ℓ) (g : Dev Cert.TokenNorm.nD → PrngReg), Pre_TokenNorm m →
    θ_run (Cert.TokenNorm.defs (F := Bits)) (onTc (τ := Cert.TokenNorm.τ) (Cert.TokenNorm.main (F := Bits))) ⟨m, fun _ => 0, g⟩ (fun r => (∀ c : Dev Cert.TokenNorm.nD,
      r.2.mem ((c.tc : Thread Cert.TokenNorm.nD Cert.TokenNorm.τ).loc Cert.TokenNorm.main_arg0) = m ((c.tc : Thread Cert.TokenNorm.nD Cert.TokenNorm.τ).loc Cert.TokenNorm.main_arg0)
      ∧ r.2.mem ((c.tc : Thread Cert.TokenNorm.nD Cert.TokenNorm.τ).loc Cert.TokenNorm.main_arg1) = m ((c.tc : Thread Cert.TokenNorm.nD Cert.TokenNorm.τ).loc Cert.TokenNorm.main_arg1))
      ∧ r.2.sem = fun _ => 0)

def quiescent_TokenNormIdeal [hTokenNormIdeal : Cert.TokenNormIdeal.Facts] : Prop :=
  ∀ (m : (ℓ : Loc Cert.TokenNormIdeal.nD Cert.TokenNormIdeal.τ Cert.TokenNormIdeal.sig) → Buf (Elt Ideal) ℓ) (g : Dev Cert.TokenNormIdeal.nD → PrngReg), Pre_TokenNormIdeal m →
    θ_run (Cert.TokenNormIdeal.defs (F := Ideal)) (onTc (τ := Cert.TokenNormIdeal.τ) (Cert.TokenNormIdeal.main (F := Ideal))) ⟨m, fun _ => 0, g⟩ (fun r => (∀ c : Dev Cert.TokenNormIdeal.nD,
      r.2.mem ((c.tc : Thread Cert.TokenNormIdeal.nD Cert.TokenNormIdeal.τ).loc Cert.TokenNormIdeal.main_arg0) = m ((c.tc : Thread Cert.TokenNormIdeal.nD Cert.TokenNormIdeal.τ).loc Cert.TokenNormIdeal.main_arg0)
      ∧ r.2.mem ((c.tc : Thread Cert.TokenNormIdeal.nD Cert.TokenNormIdeal.τ).loc Cert.TokenNormIdeal.main_arg1) = m ((c.tc : Thread Cert.TokenNormIdeal.nD Cert.TokenNormIdeal.τ).loc Cert.TokenNormIdeal.main_arg1))
      ∧ r.2.sem = fun _ => 0)

def quiescent_TokenNormRefIdeal [hTokenNormRefIdeal : Cert.TokenNormRefIdeal.Facts] : Prop :=
  ∀ (m : (ℓ : Loc Cert.TokenNormRefIdeal.nD Cert.TokenNormRefIdeal.τ Cert.TokenNormRefIdeal.sig) → Buf (Elt Ideal) ℓ) (g : Dev Cert.TokenNormRefIdeal.nD → PrngReg), Pre_TokenNormRefIdeal m →
    θ_run (Cert.TokenNormRefIdeal.defs (F := Ideal)) (onTc (τ := Cert.TokenNormRefIdeal.τ) (Cert.TokenNormRefIdeal.main (F := Ideal))) ⟨m, fun _ => 0, g⟩ (fun r => (∀ c : Dev Cert.TokenNormRefIdeal.nD,
      r.2.mem ((c.tc : Thread Cert.TokenNormRefIdeal.nD Cert.TokenNormRefIdeal.τ).loc Cert.TokenNormRefIdeal.main_arg0) = m ((c.tc : Thread Cert.TokenNormRefIdeal.nD Cert.TokenNormRefIdeal.τ).loc Cert.TokenNormRefIdeal.main_arg0)
      ∧ r.2.mem ((c.tc : Thread Cert.TokenNormRefIdeal.nD Cert.TokenNormRefIdeal.τ).loc Cert.TokenNormRefIdeal.main_arg1) = m ((c.tc : Thread Cert.TokenNormRefIdeal.nD Cert.TokenNormRefIdeal.τ).loc Cert.TokenNormRefIdeal.main_arg1))
      ∧ r.2.sem = fun _ => 0)

def quiescent_Pooled [hPooled : Cert.Pooled.Facts] : Prop :=
  ∀ (m : (ℓ : Loc Cert.Pooled.nD Cert.Pooled.τ Cert.Pooled.sig) → Buf (Elt Bits) ℓ) (g : Dev Cert.Pooled.nD → PrngReg), Pre_Pooled m →
    θ_run (Cert.Pooled.defs (F := Bits)) (onTc (τ := Cert.Pooled.τ) (Cert.Pooled.main (F := Bits))) ⟨m, fun _ => 0, g⟩ (fun r => (∀ c : Dev Cert.Pooled.nD,
      r.2.mem ((c.tc : Thread Cert.Pooled.nD Cert.Pooled.τ).loc Cert.Pooled.main_arg0) = m ((c.tc : Thread Cert.Pooled.nD Cert.Pooled.τ).loc Cert.Pooled.main_arg0)
      ∧ r.2.mem ((c.tc : Thread Cert.Pooled.nD Cert.Pooled.τ).loc Cert.Pooled.main_arg1) = m ((c.tc : Thread Cert.Pooled.nD Cert.Pooled.τ).loc Cert.Pooled.main_arg1)
      ∧ r.2.mem ((c.tc : Thread Cert.Pooled.nD Cert.Pooled.τ).loc Cert.Pooled.main_arg2) = m ((c.tc : Thread Cert.Pooled.nD Cert.Pooled.τ).loc Cert.Pooled.main_arg2))
      ∧ r.2.sem = fun _ => 0)

def quiescent_PooledIdeal [hPooledIdeal : Cert.PooledIdeal.Facts] : Prop :=
  ∀ (m : (ℓ : Loc Cert.PooledIdeal.nD Cert.PooledIdeal.τ Cert.PooledIdeal.sig) → Buf (Elt Ideal) ℓ) (g : Dev Cert.PooledIdeal.nD → PrngReg), Pre_PooledIdeal m →
    θ_run (Cert.PooledIdeal.defs (F := Ideal)) (onTc (τ := Cert.PooledIdeal.τ) (Cert.PooledIdeal.main (F := Ideal))) ⟨m, fun _ => 0, g⟩ (fun r => (∀ c : Dev Cert.PooledIdeal.nD,
      r.2.mem ((c.tc : Thread Cert.PooledIdeal.nD Cert.PooledIdeal.τ).loc Cert.PooledIdeal.main_arg0) = m ((c.tc : Thread Cert.PooledIdeal.nD Cert.PooledIdeal.τ).loc Cert.PooledIdeal.main_arg0)
      ∧ r.2.mem ((c.tc : Thread Cert.PooledIdeal.nD Cert.PooledIdeal.τ).loc Cert.PooledIdeal.main_arg1) = m ((c.tc : Thread Cert.PooledIdeal.nD Cert.PooledIdeal.τ).loc Cert.PooledIdeal.main_arg1)
      ∧ r.2.mem ((c.tc : Thread Cert.PooledIdeal.nD Cert.PooledIdeal.τ).loc Cert.PooledIdeal.main_arg2) = m ((c.tc : Thread Cert.PooledIdeal.nD Cert.PooledIdeal.τ).loc Cert.PooledIdeal.main_arg2))
      ∧ r.2.sem = fun _ => 0)

def quiescent_PooledIdeal_pre_pooled_finite [hPooledIdeal : Cert.PooledIdeal.Facts] [hPre_pooled_finite : Cert.Pre_pooled_finite.Facts] : Prop :=
  ∀ (m : (ℓ : Loc Cert.PooledIdeal.nD Cert.PooledIdeal.τ Cert.PooledIdeal.sig) → Buf (Elt Ideal) ℓ) (g : Dev Cert.PooledIdeal.nD → PrngReg), Pre_PooledIdeal_pooled_finite m →
    θ_run (Cert.PooledIdeal.defs (F := Ideal)) (onTc (τ := Cert.PooledIdeal.τ) (Cert.PooledIdeal.main (F := Ideal))) ⟨m, fun _ => 0, g⟩ (fun r => (∀ c : Dev Cert.PooledIdeal.nD,
      r.2.mem ((c.tc : Thread Cert.PooledIdeal.nD Cert.PooledIdeal.τ).loc Cert.PooledIdeal.main_arg0) = m ((c.tc : Thread Cert.PooledIdeal.nD Cert.PooledIdeal.τ).loc Cert.PooledIdeal.main_arg0)
      ∧ r.2.mem ((c.tc : Thread Cert.PooledIdeal.nD Cert.PooledIdeal.τ).loc Cert.PooledIdeal.main_arg1) = m ((c.tc : Thread Cert.PooledIdeal.nD Cert.PooledIdeal.τ).loc Cert.PooledIdeal.main_arg1)
      ∧ r.2.mem ((c.tc : Thread Cert.PooledIdeal.nD Cert.PooledIdeal.τ).loc Cert.PooledIdeal.main_arg2) = m ((c.tc : Thread Cert.PooledIdeal.nD Cert.PooledIdeal.τ).loc Cert.PooledIdeal.main_arg2))
      ∧ r.2.sem = fun _ => 0)

def quiescent_PooledRefIdeal [hPooledRefIdeal : Cert.PooledRefIdeal.Facts] : Prop :=
  ∀ (m : (ℓ : Loc Cert.PooledRefIdeal.nD Cert.PooledRefIdeal.τ Cert.PooledRefIdeal.sig) → Buf (Elt Ideal) ℓ) (g : Dev Cert.PooledRefIdeal.nD → PrngReg), Pre_PooledRefIdeal m →
    θ_run (Cert.PooledRefIdeal.defs (F := Ideal)) (onTc (τ := Cert.PooledRefIdeal.τ) (Cert.PooledRefIdeal.main (F := Ideal))) ⟨m, fun _ => 0, g⟩ (fun r => (∀ c : Dev Cert.PooledRefIdeal.nD,
      r.2.mem ((c.tc : Thread Cert.PooledRefIdeal.nD Cert.PooledRefIdeal.τ).loc Cert.PooledRefIdeal.main_arg0) = m ((c.tc : Thread Cert.PooledRefIdeal.nD Cert.PooledRefIdeal.τ).loc Cert.PooledRefIdeal.main_arg0)
      ∧ r.2.mem ((c.tc : Thread Cert.PooledRefIdeal.nD Cert.PooledRefIdeal.τ).loc Cert.PooledRefIdeal.main_arg1) = m ((c.tc : Thread Cert.PooledRefIdeal.nD Cert.PooledRefIdeal.τ).loc Cert.PooledRefIdeal.main_arg1)
      ∧ r.2.mem ((c.tc : Thread Cert.PooledRefIdeal.nD Cert.PooledRefIdeal.τ).loc Cert.PooledRefIdeal.main_arg2) = m ((c.tc : Thread Cert.PooledRefIdeal.nD Cert.PooledRefIdeal.τ).loc Cert.PooledRefIdeal.main_arg2))
      ∧ r.2.sem = fun _ => 0)

def quiescent_PooledRefIdeal_pre_pooled_finite [hPooledRefIdeal : Cert.PooledRefIdeal.Facts] [hPre_pooled_finite : Cert.Pre_pooled_finite.Facts] : Prop :=
  ∀ (m : (ℓ : Loc Cert.PooledRefIdeal.nD Cert.PooledRefIdeal.τ Cert.PooledRefIdeal.sig) → Buf (Elt Ideal) ℓ) (g : Dev Cert.PooledRefIdeal.nD → PrngReg), Pre_PooledRefIdeal_pooled_finite m →
    θ_run (Cert.PooledRefIdeal.defs (F := Ideal)) (onTc (τ := Cert.PooledRefIdeal.τ) (Cert.PooledRefIdeal.main (F := Ideal))) ⟨m, fun _ => 0, g⟩ (fun r => (∀ c : Dev Cert.PooledRefIdeal.nD,
      r.2.mem ((c.tc : Thread Cert.PooledRefIdeal.nD Cert.PooledRefIdeal.τ).loc Cert.PooledRefIdeal.main_arg0) = m ((c.tc : Thread Cert.PooledRefIdeal.nD Cert.PooledRefIdeal.τ).loc Cert.PooledRefIdeal.main_arg0)
      ∧ r.2.mem ((c.tc : Thread Cert.PooledRefIdeal.nD Cert.PooledRefIdeal.τ).loc Cert.PooledRefIdeal.main_arg1) = m ((c.tc : Thread Cert.PooledRefIdeal.nD Cert.PooledRefIdeal.τ).loc Cert.PooledRefIdeal.main_arg1)
      ∧ r.2.mem ((c.tc : Thread Cert.PooledRefIdeal.nD Cert.PooledRefIdeal.τ).loc Cert.PooledRefIdeal.main_arg2) = m ((c.tc : Thread Cert.PooledRefIdeal.nD Cert.PooledRefIdeal.τ).loc Cert.PooledRefIdeal.main_arg2))
      ∧ r.2.sem = fun _ => 0)

def quiescent_MetaNorm [hMetaNorm : Cert.MetaNorm.Facts] : Prop :=
  ∀ (m : (ℓ : Loc Cert.MetaNorm.nD Cert.MetaNorm.τ Cert.MetaNorm.sig) → Buf (Elt Bits) ℓ) (g : Dev Cert.MetaNorm.nD → PrngReg), Pre_MetaNorm m →
    θ_run (Cert.MetaNorm.defs (F := Bits)) (onTc (τ := Cert.MetaNorm.τ) (Cert.MetaNorm.main (F := Bits))) ⟨m, fun _ => 0, g⟩ (fun r => (∀ c : Dev Cert.MetaNorm.nD,
      r.2.mem ((c.tc : Thread Cert.MetaNorm.nD Cert.MetaNorm.τ).loc Cert.MetaNorm.main_arg0) = m ((c.tc : Thread Cert.MetaNorm.nD Cert.MetaNorm.τ).loc Cert.MetaNorm.main_arg0)
      ∧ r.2.mem ((c.tc : Thread Cert.MetaNorm.nD Cert.MetaNorm.τ).loc Cert.MetaNorm.main_arg1) = m ((c.tc : Thread Cert.MetaNorm.nD Cert.MetaNorm.τ).loc Cert.MetaNorm.main_arg1)
      ∧ r.2.mem ((c.tc : Thread Cert.MetaNorm.nD Cert.MetaNorm.τ).loc Cert.MetaNorm.main_arg2) = m ((c.tc : Thread Cert.MetaNorm.nD Cert.MetaNorm.τ).loc Cert.MetaNorm.main_arg2))
      ∧ r.2.sem = fun _ => 0)

def quiescent_MetaNormIdeal [hMetaNormIdeal : Cert.MetaNormIdeal.Facts] : Prop :=
  ∀ (m : (ℓ : Loc Cert.MetaNormIdeal.nD Cert.MetaNormIdeal.τ Cert.MetaNormIdeal.sig) → Buf (Elt Ideal) ℓ) (g : Dev Cert.MetaNormIdeal.nD → PrngReg), Pre_MetaNormIdeal m →
    θ_run (Cert.MetaNormIdeal.defs (F := Ideal)) (onTc (τ := Cert.MetaNormIdeal.τ) (Cert.MetaNormIdeal.main (F := Ideal))) ⟨m, fun _ => 0, g⟩ (fun r => (∀ c : Dev Cert.MetaNormIdeal.nD,
      r.2.mem ((c.tc : Thread Cert.MetaNormIdeal.nD Cert.MetaNormIdeal.τ).loc Cert.MetaNormIdeal.main_arg0) = m ((c.tc : Thread Cert.MetaNormIdeal.nD Cert.MetaNormIdeal.τ).loc Cert.MetaNormIdeal.main_arg0)
      ∧ r.2.mem ((c.tc : Thread Cert.MetaNormIdeal.nD Cert.MetaNormIdeal.τ).loc Cert.MetaNormIdeal.main_arg1) = m ((c.tc : Thread Cert.MetaNormIdeal.nD Cert.MetaNormIdeal.τ).loc Cert.MetaNormIdeal.main_arg1)
      ∧ r.2.mem ((c.tc : Thread Cert.MetaNormIdeal.nD Cert.MetaNormIdeal.τ).loc Cert.MetaNormIdeal.main_arg2) = m ((c.tc : Thread Cert.MetaNormIdeal.nD Cert.MetaNormIdeal.τ).loc Cert.MetaNormIdeal.main_arg2))
      ∧ r.2.sem = fun _ => 0)

def quiescent_MetaNormRefIdeal [hMetaNormRefIdeal : Cert.MetaNormRefIdeal.Facts] : Prop :=
  ∀ (m : (ℓ : Loc Cert.MetaNormRefIdeal.nD Cert.MetaNormRefIdeal.τ Cert.MetaNormRefIdeal.sig) → Buf (Elt Ideal) ℓ) (g : Dev Cert.MetaNormRefIdeal.nD → PrngReg), Pre_MetaNormRefIdeal m →
    θ_run (Cert.MetaNormRefIdeal.defs (F := Ideal)) (onTc (τ := Cert.MetaNormRefIdeal.τ) (Cert.MetaNormRefIdeal.main (F := Ideal))) ⟨m, fun _ => 0, g⟩ (fun r => (∀ c : Dev Cert.MetaNormRefIdeal.nD,
      r.2.mem ((c.tc : Thread Cert.MetaNormRefIdeal.nD Cert.MetaNormRefIdeal.τ).loc Cert.MetaNormRefIdeal.main_arg0) = m ((c.tc : Thread Cert.MetaNormRefIdeal.nD Cert.MetaNormRefIdeal.τ).loc Cert.MetaNormRefIdeal.main_arg0)
      ∧ r.2.mem ((c.tc : Thread Cert.MetaNormRefIdeal.nD Cert.MetaNormRefIdeal.τ).loc Cert.MetaNormRefIdeal.main_arg1) = m ((c.tc : Thread Cert.MetaNormRefIdeal.nD Cert.MetaNormRefIdeal.τ).loc Cert.MetaNormRefIdeal.main_arg1)
      ∧ r.2.mem ((c.tc : Thread Cert.MetaNormRefIdeal.nD Cert.MetaNormRefIdeal.τ).loc Cert.MetaNormRefIdeal.main_arg2) = m ((c.tc : Thread Cert.MetaNormRefIdeal.nD Cert.MetaNormRefIdeal.τ).loc Cert.MetaNormRefIdeal.main_arg2))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1)
      ∧ r.2.mem ((c.tc : Thread Cert.DownGrad.nD Cert.DownGrad.τ).loc Cert.DownGrad.main_arg2) = m ((c.tc : Thread Cert.DownGrad.nD Cert.DownGrad.τ).loc Cert.DownGrad.main_arg2))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1)
      ∧ r.2.mem ((c.tc : Thread Cert.DownGradIdeal.nD Cert.DownGradIdeal.τ).loc Cert.DownGradIdeal.main_arg2) = m ((c.tc : Thread Cert.DownGradIdeal.nD Cert.DownGradIdeal.τ).loc Cert.DownGradIdeal.main_arg2))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1)
      ∧ r.2.mem ((c.tc : Thread Cert.DownGradRefIdeal.nD Cert.DownGradRefIdeal.τ).loc Cert.DownGradRefIdeal.main_arg2) = m ((c.tc : Thread Cert.DownGradRefIdeal.nD Cert.DownGradRefIdeal.τ).loc Cert.DownGradRefIdeal.main_arg2))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1)
      ∧ r.2.mem ((c.tc : Thread Cert.UpGrad.nD Cert.UpGrad.τ).loc Cert.UpGrad.main_arg2) = m ((c.tc : Thread Cert.UpGrad.nD Cert.UpGrad.τ).loc Cert.UpGrad.main_arg2))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
      ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2))
      ∧ r.2.sem = fun _ => 0)

def quiescent_UpGradRefIdeal [hUpGradRefIdeal : Cert.UpGradRefIdeal.Facts] : Prop :=
  ∀ (m : (ℓ : Loc Cert.UpGradRefIdeal.nD Cert.UpGradRefIdeal.τ Cert.UpGradRefIdeal.sig) → Buf (Elt Ideal) ℓ) (g : Dev Cert.UpGradRefIdeal.nD → PrngReg), Pre_UpGradRefIdeal m →
    θ_run (Cert.UpGradRefIdeal.defs (F := Ideal)) (onTc (τ := Cert.UpGradRefIdeal.τ) (Cert.UpGradRefIdeal.main (F := Ideal))) ⟨m, fun _ => 0, g⟩ (fun r => (∀ c : Dev Cert.UpGradRefIdeal.nD,
      r.2.mem ((c.tc : Thread Cert.UpGradRefIdeal.nD Cert.UpGradRefIdeal.τ).loc Cert.UpGradRefIdeal.main_arg0) = m ((c.tc : Thread Cert.UpGradRefIdeal.nD Cert.UpGradRefIdeal.τ).loc Cert.UpGradRefIdeal.main_arg0)
      ∧ r.2.mem ((c.tc : Thread Cert.UpGradRefIdeal.nD Cert.UpGradRefIdeal.τ).loc Cert.UpGradRefIdeal.main_arg1) = m ((c.tc : Thread Cert.UpGradRefIdeal.nD Cert.UpGradRefIdeal.τ).loc Cert.UpGradRefIdeal.main_arg1)
      ∧ r.2.mem ((c.tc : Thread Cert.UpGradRefIdeal.nD Cert.UpGradRefIdeal.τ).loc Cert.UpGradRefIdeal.main_arg2) = m ((c.tc : Thread Cert.UpGradRefIdeal.nD Cert.UpGradRefIdeal.τ).loc Cert.UpGradRefIdeal.main_arg2))
      ∧ r.2.sem = fun _ => 0)

def quiescent_UpBack [hUpBack : Cert.UpBack.Facts] : Prop :=
  ∀ (m : (ℓ : Loc Cert.UpBack.nD Cert.UpBack.τ Cert.UpBack.sig) → Buf (Elt Bits) ℓ) (g : Dev Cert.UpBack.nD → PrngReg), Pre_UpBack m →
    θ_run (Cert.UpBack.defs (F := Bits)) (onTc (τ := Cert.UpBack.τ) (Cert.UpBack.main (F := Bits))) ⟨m, fun _ => 0, g⟩ (fun r => (∀ c : Dev Cert.UpBack.nD,
      r.2.mem ((c.tc : Thread Cert.UpBack.nD Cert.UpBack.τ).loc Cert.UpBack.main_arg0) = m ((c.tc : Thread Cert.UpBack.nD Cert.UpBack.τ).loc Cert.UpBack.main_arg0)
      ∧ r.2.mem ((c.tc : Thread Cert.UpBack.nD Cert.UpBack.τ).loc Cert.UpBack.main_arg1) = m ((c.tc : Thread Cert.UpBack.nD Cert.UpBack.τ).loc Cert.UpBack.main_arg1)
      ∧ r.2.mem ((c.tc : Thread Cert.UpBack.nD Cert.UpBack.τ).loc Cert.UpBack.main_arg2) = m ((c.tc : Thread Cert.UpBack.nD Cert.UpBack.τ).loc Cert.UpBack.main_arg2))
      ∧ r.2.sem = fun _ => 0)

def quiescent_UpBackIdeal [hUpBackIdeal : Cert.UpBackIdeal.Facts] : Prop :=
  ∀ (m : (ℓ : Loc Cert.UpBackIdeal.nD Cert.UpBackIdeal.τ Cert.UpBackIdeal.sig) → Buf (Elt Ideal) ℓ) (g : Dev Cert.UpBackIdeal.nD → PrngReg), Pre_UpBackIdeal m →
    θ_run (Cert.UpBackIdeal.defs (F := Ideal)) (onTc (τ := Cert.UpBackIdeal.τ) (Cert.UpBackIdeal.main (F := Ideal))) ⟨m, fun _ => 0, g⟩ (fun r => (∀ c : Dev Cert.UpBackIdeal.nD,
      r.2.mem ((c.tc : Thread Cert.UpBackIdeal.nD Cert.UpBackIdeal.τ).loc Cert.UpBackIdeal.main_arg0) = m ((c.tc : Thread Cert.UpBackIdeal.nD Cert.UpBackIdeal.τ).loc Cert.UpBackIdeal.main_arg0)
      ∧ r.2.mem ((c.tc : Thread Cert.UpBackIdeal.nD Cert.UpBackIdeal.τ).loc Cert.UpBackIdeal.main_arg1) = m ((c.tc : Thread Cert.UpBackIdeal.nD Cert.UpBackIdeal.τ).loc Cert.UpBackIdeal.main_arg1)
      ∧ r.2.mem ((c.tc : Thread Cert.UpBackIdeal.nD Cert.UpBackIdeal.τ).loc Cert.UpBackIdeal.main_arg2) = m ((c.tc : Thread Cert.UpBackIdeal.nD Cert.UpBackIdeal.τ).loc Cert.UpBackIdeal.main_arg2))
      ∧ r.2.sem = fun _ => 0)

def quiescent_UpBackRefIdeal [hUpBackRefIdeal : Cert.UpBackRefIdeal.Facts] : Prop :=
  ∀ (m : (ℓ : Loc Cert.UpBackRefIdeal.nD Cert.UpBackRefIdeal.τ Cert.UpBackRefIdeal.sig) → Buf (Elt Ideal) ℓ) (g : Dev Cert.UpBackRefIdeal.nD → PrngReg), Pre_UpBackRefIdeal m →
    θ_run (Cert.UpBackRefIdeal.defs (F := Ideal)) (onTc (τ := Cert.UpBackRefIdeal.τ) (Cert.UpBackRefIdeal.main (F := Ideal))) ⟨m, fun _ => 0, g⟩ (fun r => (∀ c : Dev Cert.UpBackRefIdeal.nD,
      r.2.mem ((c.tc : Thread Cert.UpBackRefIdeal.nD Cert.UpBackRefIdeal.τ).loc Cert.UpBackRefIdeal.main_arg0) = m ((c.tc : Thread Cert.UpBackRefIdeal.nD Cert.UpBackRefIdeal.τ).loc Cert.UpBackRefIdeal.main_arg0)
      ∧ r.2.mem ((c.tc : Thread Cert.UpBackRefIdeal.nD Cert.UpBackRefIdeal.τ).loc Cert.UpBackRefIdeal.main_arg1) = m ((c.tc : Thread Cert.UpBackRefIdeal.nD Cert.UpBackRefIdeal.τ).loc Cert.UpBackRefIdeal.main_arg1)
      ∧ r.2.mem ((c.tc : Thread Cert.UpBackRefIdeal.nD Cert.UpBackRefIdeal.τ).loc Cert.UpBackRefIdeal.main_arg2) = m ((c.tc : Thread Cert.UpBackRefIdeal.nD Cert.UpBackRefIdeal.τ).loc Cert.UpBackRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def preserves_ReluSquare_ReluSquareIdeal : Prop :=
  True

def algebraic_ReluSquareIdeal_ReluSquareRefIdeal [hReluSquareIdeal : Cert.ReluSquareIdeal.Facts] [hReluSquareRefIdeal : Cert.ReluSquareRefIdeal.Facts] : Prop :=
  ∀ (m : (ℓ : Loc Cert.ReluSquareIdeal.nD Cert.ReluSquareIdeal.τ Cert.ReluSquareIdeal.sig) → Buf (Elt Ideal) ℓ) (g : Dev Cert.ReluSquareIdeal.nD → PrngReg)
    (m' : (ℓ : Loc Cert.ReluSquareRefIdeal.nD Cert.ReluSquareRefIdeal.τ Cert.ReluSquareRefIdeal.sig) → Buf (Elt Ideal) ℓ) (g' : Dev Cert.ReluSquareRefIdeal.nD → PrngReg), Pre_ReluSquareIdeal m →
    (∀ c : Dev Cert.ReluSquareIdeal.nD,
      m' ((c.tc : Thread Cert.ReluSquareRefIdeal.nD Cert.ReluSquareRefIdeal.τ).loc Cert.ReluSquareRefIdeal.main_arg0) = m ((c.tc : Thread Cert.ReluSquareIdeal.nD Cert.ReluSquareIdeal.τ).loc Cert.ReluSquareIdeal.main_arg0)
      ∧ m' ((c.tc : Thread Cert.ReluSquareRefIdeal.nD Cert.ReluSquareRefIdeal.τ).loc Cert.ReluSquareRefIdeal.main_arg1) = m ((c.tc : Thread Cert.ReluSquareIdeal.nD Cert.ReluSquareIdeal.τ).loc Cert.ReluSquareIdeal.main_arg1)
      ∧ m' ((c.tc : Thread Cert.ReluSquareRefIdeal.nD Cert.ReluSquareRefIdeal.τ).loc Cert.ReluSquareRefIdeal.main_arg2) = m ((c.tc : Thread Cert.ReluSquareIdeal.nD Cert.ReluSquareIdeal.τ).loc Cert.ReluSquareIdeal.main_arg2)) →
    ∃ (v0 : (c : Dev Cert.ReluSquareIdeal.nD) → Buf (Elt Ideal) ((c.tc : Thread Cert.ReluSquareIdeal.nD Cert.ReluSquareIdeal.τ).loc Cert.ReluSquareIdeal.main_v5)),
      θ_run (Cert.ReluSquareIdeal.defs (F := Ideal)) (onTc (τ := Cert.ReluSquareIdeal.τ) (Cert.ReluSquareIdeal.main (F := Ideal))) ⟨m, fun _ => 0, g⟩ (fun r => ∀ c : Dev Cert.ReluSquareIdeal.nD,
          r.2.mem ((c.tc : Thread Cert.ReluSquareIdeal.nD Cert.ReluSquareIdeal.τ).loc Cert.ReluSquareIdeal.main_v5) = v0 c
          ∧ r.2.mem ((c.tc : Thread Cert.ReluSquareIdeal.nD Cert.ReluSquareIdeal.τ).loc Cert.ReluSquareIdeal.main_arg0) = m ((c.tc : Thread Cert.ReluSquareIdeal.nD Cert.ReluSquareIdeal.τ).loc Cert.ReluSquareIdeal.main_arg0)
          ∧ r.2.mem ((c.tc : Thread Cert.ReluSquareIdeal.nD Cert.ReluSquareIdeal.τ).loc Cert.ReluSquareIdeal.main_arg1) = m ((c.tc : Thread Cert.ReluSquareIdeal.nD Cert.ReluSquareIdeal.τ).loc Cert.ReluSquareIdeal.main_arg1)
          ∧ r.2.mem ((c.tc : Thread Cert.ReluSquareIdeal.nD Cert.ReluSquareIdeal.τ).loc Cert.ReluSquareIdeal.main_arg2) = m ((c.tc : Thread Cert.ReluSquareIdeal.nD Cert.ReluSquareIdeal.τ).loc Cert.ReluSquareIdeal.main_arg2))
      ∧ θ_run (Cert.ReluSquareRefIdeal.defs (F := Ideal)) (onTc (τ := Cert.ReluSquareRefIdeal.τ) (Cert.ReluSquareRefIdeal.main (F := Ideal))) ⟨m', fun _ => 0, g'⟩ (fun r => ∀ c : Dev Cert.ReluSquareRefIdeal.nD,
          r.2.mem ((c.tc : Thread Cert.ReluSquareRefIdeal.nD Cert.ReluSquareRefIdeal.τ).loc Cert.ReluSquareRefIdeal.main_v13) = v0 c
          ∧ r.2.mem ((c.tc : Thread Cert.ReluSquareRefIdeal.nD Cert.ReluSquareRefIdeal.τ).loc Cert.ReluSquareRefIdeal.main_arg0) = m' ((c.tc : Thread Cert.ReluSquareRefIdeal.nD Cert.ReluSquareRefIdeal.τ).loc Cert.ReluSquareRefIdeal.main_arg0)
          ∧ r.2.mem ((c.tc : Thread Cert.ReluSquareRefIdeal.nD Cert.ReluSquareRefIdeal.τ).loc Cert.ReluSquareRefIdeal.main_arg1) = m' ((c.tc : Thread Cert.ReluSquareRefIdeal.nD Cert.ReluSquareRefIdeal.τ).loc Cert.ReluSquareRefIdeal.main_arg1)
          ∧ r.2.mem ((c.tc : Thread Cert.ReluSquareRefIdeal.nD Cert.ReluSquareRefIdeal.τ).loc Cert.ReluSquareRefIdeal.main_arg2) = m' ((c.tc : Thread Cert.ReluSquareRefIdeal.nD Cert.ReluSquareRefIdeal.τ).loc Cert.ReluSquareRefIdeal.main_arg2))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)) →
    ∃ (v0 : (c : Dev Cert.GatesIdeal.nD) → Buf (Elt Ideal) ((c.tc : Thread Cert.GatesIdeal.nD Cert.GatesIdeal.τ).loc Cert.GatesIdeal.main_v9_0)) (v1 : (c : Dev Cert.GatesIdeal.nD) → Buf (Elt Ideal) ((c.tc : Thread Cert.GatesIdeal.nD Cert.GatesIdeal.τ).loc Cert.GatesIdeal.main_v9_1)) (v2 : (c : Dev Cert.GatesIdeal.nD) → Buf (Elt Ideal) ((c.tc : Thread Cert.GatesIdeal.nD Cert.GatesIdeal.τ).loc Cert.GatesIdeal.main_v9_2)) (v3 : (c : Dev Cert.GatesIdeal.nD) → Buf (Elt Ideal) ((c.tc : Thread Cert.GatesIdeal.nD Cert.GatesIdeal.τ).loc Cert.GatesIdeal.main_v9_3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v9_0) = v0 c
          ∧ r.2.mem ((c.tc : Thread Cert.GatesIdeal.nD Cert.GatesIdeal.τ).loc Cert.GatesIdeal.main_v9_1) = v1 c
          ∧ r.2.mem ((c.tc : Thread Cert.GatesIdeal.nD Cert.GatesIdeal.τ).loc Cert.GatesIdeal.main_v9_2) = v2 c
          ∧ r.2.mem ((c.tc : Thread Cert.GatesIdeal.nD Cert.GatesIdeal.τ).loc Cert.GatesIdeal.main_v9_3) = v3 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v35) = v0 c
          ∧ r.2.mem ((c.tc : Thread Cert.GatesRefIdeal.nD Cert.GatesRefIdeal.τ).loc Cert.GatesRefIdeal.main_v37) = v1 c
          ∧ r.2.mem ((c.tc : Thread Cert.GatesRefIdeal.nD Cert.GatesRefIdeal.τ).loc Cert.GatesRefIdeal.main_v39) = v2 c
          ∧ r.2.mem ((c.tc : Thread Cert.GatesRefIdeal.nD Cert.GatesRefIdeal.τ).loc Cert.GatesRefIdeal.main_v41) = v3 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4))

def preserves_ConvNorm_ConvNormIdeal : Prop :=
  True

def algebraic_ConvNormIdeal_ConvNormRefIdeal_pre_conv_norm_finite [hConvNormIdeal : Cert.ConvNormIdeal.Facts] [hConvNormRefIdeal : Cert.ConvNormRefIdeal.Facts] [hPre_conv_norm_finite : Cert.Pre_conv_norm_finite.Facts] : Prop :=
  ∀ (m : (ℓ : Loc Cert.ConvNormIdeal.nD Cert.ConvNormIdeal.τ Cert.ConvNormIdeal.sig) → Buf (Elt Ideal) ℓ) (g : Dev Cert.ConvNormIdeal.nD → PrngReg)
    (m' : (ℓ : Loc Cert.ConvNormRefIdeal.nD Cert.ConvNormRefIdeal.τ Cert.ConvNormRefIdeal.sig) → Buf (Elt Ideal) ℓ) (g' : Dev Cert.ConvNormRefIdeal.nD → PrngReg), Pre_ConvNormIdeal_conv_norm_finite m →
    (∀ c : Dev Cert.ConvNormIdeal.nD,
      m' ((c.tc : Thread Cert.ConvNormRefIdeal.nD Cert.ConvNormRefIdeal.τ).loc Cert.ConvNormRefIdeal.main_arg0) = m ((c.tc : Thread Cert.ConvNormIdeal.nD Cert.ConvNormIdeal.τ).loc Cert.ConvNormIdeal.main_arg0)
      ∧ m' ((c.tc : Thread Cert.ConvNormRefIdeal.nD Cert.ConvNormRefIdeal.τ).loc Cert.ConvNormRefIdeal.main_arg1) = m ((c.tc : Thread Cert.ConvNormIdeal.nD Cert.ConvNormIdeal.τ).loc Cert.ConvNormIdeal.main_arg1)
      ∧ m' ((c.tc : Thread Cert.ConvNormRefIdeal.nD Cert.ConvNormRefIdeal.τ).loc Cert.ConvNormRefIdeal.main_arg2) = m ((c.tc : Thread Cert.ConvNormIdeal.nD Cert.ConvNormIdeal.τ).loc Cert.ConvNormIdeal.main_arg2)
      ∧ m' ((c.tc : Thread Cert.ConvNormRefIdeal.nD Cert.ConvNormRefIdeal.τ).loc Cert.ConvNormRefIdeal.main_arg3) = m ((c.tc : Thread Cert.ConvNormIdeal.nD Cert.ConvNormIdeal.τ).loc Cert.ConvNormIdeal.main_arg3)
      ∧ m' ((c.tc : Thread Cert.ConvNormRefIdeal.nD Cert.ConvNormRefIdeal.τ).loc Cert.ConvNormRefIdeal.main_arg4) = m ((c.tc : Thread Cert.ConvNormIdeal.nD Cert.ConvNormIdeal.τ).loc Cert.ConvNormIdeal.main_arg4)) →
    ∃ (v0 : (c : Dev Cert.ConvNormIdeal.nD) → Buf (Elt Ideal) ((c.tc : Thread Cert.ConvNormIdeal.nD Cert.ConvNormIdeal.τ).loc Cert.ConvNormIdeal.main_v4_0)) (v1 : (c : Dev Cert.ConvNormIdeal.nD) → Buf (Elt Ideal) ((c.tc : Thread Cert.ConvNormIdeal.nD Cert.ConvNormIdeal.τ).loc Cert.ConvNormIdeal.main_v4_1)) (v2 : (c : Dev Cert.ConvNormIdeal.nD) → Buf (Elt Ideal) ((c.tc : Thread Cert.ConvNormIdeal.nD Cert.ConvNormIdeal.τ).loc Cert.ConvNormIdeal.main_v4_2)) (v3 : (c : Dev Cert.ConvNormIdeal.nD) → Buf (Elt Ideal) ((c.tc : Thread Cert.ConvNormIdeal.nD Cert.ConvNormIdeal.τ).loc Cert.ConvNormIdeal.main_v4_3)),
      θ_run (Cert.ConvNormIdeal.defs (F := Ideal)) (onTc (τ := Cert.ConvNormIdeal.τ) (Cert.ConvNormIdeal.main (F := Ideal))) ⟨m, fun _ => 0, g⟩ (fun r => ∀ c : Dev Cert.ConvNormIdeal.nD,
          r.2.mem ((c.tc : Thread Cert.ConvNormIdeal.nD Cert.ConvNormIdeal.τ).loc Cert.ConvNormIdeal.main_v4_0) = v0 c
          ∧ r.2.mem ((c.tc : Thread Cert.ConvNormIdeal.nD Cert.ConvNormIdeal.τ).loc Cert.ConvNormIdeal.main_v4_1) = v1 c
          ∧ r.2.mem ((c.tc : Thread Cert.ConvNormIdeal.nD Cert.ConvNormIdeal.τ).loc Cert.ConvNormIdeal.main_v4_2) = v2 c
          ∧ r.2.mem ((c.tc : Thread Cert.ConvNormIdeal.nD Cert.ConvNormIdeal.τ).loc Cert.ConvNormIdeal.main_v4_3) = v3 c
          ∧ r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
          ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
          ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2)
          ∧ r.2.mem ((c.tc : Thread Cert.ConvNormIdeal.nD Cert.ConvNormIdeal.τ).loc Cert.ConvNormIdeal.main_arg3) = m ((c.tc : Thread Cert.ConvNormIdeal.nD Cert.ConvNormIdeal.τ).loc Cert.ConvNormIdeal.main_arg3)
          ∧ r.2.mem ((c.tc : Thread Cert.ConvNormIdeal.nD Cert.ConvNormIdeal.τ).loc Cert.ConvNormIdeal.main_arg4) = m ((c.tc : Thread Cert.ConvNormIdeal.nD Cert.ConvNormIdeal.τ).loc Cert.ConvNormIdeal.main_arg4))
      ∧ θ_run (Cert.ConvNormRefIdeal.defs (F := Ideal)) (onTc (τ := Cert.ConvNormRefIdeal.τ) (Cert.ConvNormRefIdeal.main (F := Ideal))) ⟨m', fun _ => 0, g'⟩ (fun r => ∀ c : Dev Cert.ConvNormRefIdeal.nD,
          r.2.mem ((c.tc : Thread Cert.ConvNormRefIdeal.nD Cert.ConvNormRefIdeal.τ).loc Cert.ConvNormRefIdeal.main_v64) = v0 c
          ∧ r.2.mem ((c.tc : Thread Cert.ConvNormRefIdeal.nD Cert.ConvNormRefIdeal.τ).loc Cert.ConvNormRefIdeal.main_v35) = v1 c
          ∧ r.2.mem ((c.tc : Thread Cert.ConvNormRefIdeal.nD Cert.ConvNormRefIdeal.τ).loc Cert.ConvNormRefIdeal.main_v32) = v2 c
          ∧ r.2.mem ((c.tc : Thread Cert.ConvNormRefIdeal.nD Cert.ConvNormRefIdeal.τ).loc Cert.ConvNormRefIdeal.main_v63) = v3 c
          ∧ r.2.mem ((c.tc : Thread Cert.ConvNormRefIdeal.nD Cert.ConvNormRefIdeal.τ).loc Cert.ConvNormRefIdeal.main_arg0) = m' ((c.tc : Thread Cert.ConvNormRefIdeal.nD Cert.ConvNormRefIdeal.τ).loc Cert.ConvNormRefIdeal.main_arg0)
          ∧ r.2.mem ((c.tc : Thread Cert.ConvNormRefIdeal.nD Cert.ConvNormRefIdeal.τ).loc Cert.ConvNormRefIdeal.main_arg1) = m' ((c.tc : Thread Cert.ConvNormRefIdeal.nD Cert.ConvNormRefIdeal.τ).loc Cert.ConvNormRefIdeal.main_arg1)
          ∧ r.2.mem ((c.tc : Thread Cert.ConvNormRefIdeal.nD Cert.ConvNormRefIdeal.τ).loc Cert.ConvNormRefIdeal.main_arg2) = m' ((c.tc : Thread Cert.ConvNormRefIdeal.nD Cert.ConvNormRefIdeal.τ).loc Cert.ConvNormRefIdeal.main_arg2)
          ∧ r.2.mem ((c.tc : Thread Cert.ConvNormRefIdeal.nD Cert.ConvNormRefIdeal.τ).loc Cert.ConvNormRefIdeal.main_arg3) = m' ((c.tc : Thread Cert.ConvNormRefIdeal.nD Cert.ConvNormRefIdeal.τ).loc Cert.ConvNormRefIdeal.main_arg3)
          ∧ r.2.mem ((c.tc : Thread Cert.ConvNormRefIdeal.nD Cert.ConvNormRefIdeal.τ).loc Cert.ConvNormRefIdeal.main_arg4) = m' ((c.tc : Thread Cert.ConvNormRefIdeal.nD Cert.ConvNormRefIdeal.τ).loc Cert.ConvNormRefIdeal.main_arg4))

def preserves_GluConv_GluConvIdeal : Prop :=
  True

def algebraic_GluConvIdeal_GluConvRefIdeal [hGluConvIdeal : Cert.GluConvIdeal.Facts] [hGluConvRefIdeal : Cert.GluConvRefIdeal.Facts] : Prop :=
  ∀ (m : (ℓ : Loc Cert.GluConvIdeal.nD Cert.GluConvIdeal.τ Cert.GluConvIdeal.sig) → Buf (Elt Ideal) ℓ) (g : Dev Cert.GluConvIdeal.nD → PrngReg)
    (m' : (ℓ : Loc Cert.GluConvRefIdeal.nD Cert.GluConvRefIdeal.τ Cert.GluConvRefIdeal.sig) → Buf (Elt Ideal) ℓ) (g' : Dev Cert.GluConvRefIdeal.nD → PrngReg), Pre_GluConvIdeal m →
    (∀ c : Dev Cert.GluConvIdeal.nD,
      m' ((c.tc : Thread Cert.GluConvRefIdeal.nD Cert.GluConvRefIdeal.τ).loc Cert.GluConvRefIdeal.main_arg0) = m ((c.tc : Thread Cert.GluConvIdeal.nD Cert.GluConvIdeal.τ).loc Cert.GluConvIdeal.main_arg0)
      ∧ m' ((c.tc : Thread Cert.GluConvRefIdeal.nD Cert.GluConvRefIdeal.τ).loc Cert.GluConvRefIdeal.main_arg1) = m ((c.tc : Thread Cert.GluConvIdeal.nD Cert.GluConvIdeal.τ).loc Cert.GluConvIdeal.main_arg1)
      ∧ m' ((c.tc : Thread Cert.GluConvRefIdeal.nD Cert.GluConvRefIdeal.τ).loc Cert.GluConvRefIdeal.main_arg2) = m ((c.tc : Thread Cert.GluConvIdeal.nD Cert.GluConvIdeal.τ).loc Cert.GluConvIdeal.main_arg2)) →
    ∃ (v0 : (c : Dev Cert.GluConvIdeal.nD) → Buf (Elt Ideal) ((c.tc : Thread Cert.GluConvIdeal.nD Cert.GluConvIdeal.τ).loc Cert.GluConvIdeal.main_v3)) (v1 : (c : Dev Cert.GluConvIdeal.nD) → Buf (Elt Ideal) ((c.tc : Thread Cert.GluConvIdeal.nD Cert.GluConvIdeal.τ).loc Cert.GluConvIdeal.main_v4)) (v2 : (c : Dev Cert.GluConvIdeal.nD) → Buf (Elt Ideal) ((c.tc : Thread Cert.GluConvIdeal.nD Cert.GluConvIdeal.τ).loc Cert.GluConvIdeal.main_v5)),
      θ_run (Cert.GluConvIdeal.defs (F := Ideal)) (onTc (τ := Cert.GluConvIdeal.τ) (Cert.GluConvIdeal.main (F := Ideal))) ⟨m, fun _ => 0, g⟩ (fun r => ∀ c : Dev Cert.GluConvIdeal.nD,
          r.2.mem ((c.tc : Thread Cert.GluConvIdeal.nD Cert.GluConvIdeal.τ).loc Cert.GluConvIdeal.main_v3) = v0 c
          ∧ r.2.mem ((c.tc : Thread Cert.GluConvIdeal.nD Cert.GluConvIdeal.τ).loc Cert.GluConvIdeal.main_v4) = v1 c
          ∧ r.2.mem ((c.tc : Thread Cert.GluConvIdeal.nD Cert.GluConvIdeal.τ).loc Cert.GluConvIdeal.main_v5) = v2 c
          ∧ r.2.mem ((c.tc : Thread Cert.GluConvIdeal.nD Cert.GluConvIdeal.τ).loc Cert.GluConvIdeal.main_arg0) = m ((c.tc : Thread Cert.GluConvIdeal.nD Cert.GluConvIdeal.τ).loc Cert.GluConvIdeal.main_arg0)
          ∧ r.2.mem ((c.tc : Thread Cert.GluConvIdeal.nD Cert.GluConvIdeal.τ).loc Cert.GluConvIdeal.main_arg1) = m ((c.tc : Thread Cert.GluConvIdeal.nD Cert.GluConvIdeal.τ).loc Cert.GluConvIdeal.main_arg1)
          ∧ r.2.mem ((c.tc : Thread Cert.GluConvIdeal.nD Cert.GluConvIdeal.τ).loc Cert.GluConvIdeal.main_arg2) = m ((c.tc : Thread Cert.GluConvIdeal.nD Cert.GluConvIdeal.τ).loc Cert.GluConvIdeal.main_arg2))
      ∧ θ_run (Cert.GluConvRefIdeal.defs (F := Ideal)) (onTc (τ := Cert.GluConvRefIdeal.τ) (Cert.GluConvRefIdeal.main (F := Ideal))) ⟨m', fun _ => 0, g'⟩ (fun r => ∀ c : Dev Cert.GluConvRefIdeal.nD,
          r.2.mem ((c.tc : Thread Cert.GluConvRefIdeal.nD Cert.GluConvRefIdeal.τ).loc Cert.GluConvRefIdeal.main_v580) = v0 c
          ∧ r.2.mem ((c.tc : Thread Cert.GluConvRefIdeal.nD Cert.GluConvRefIdeal.τ).loc Cert.GluConvRefIdeal.main_v581) = v1 c
          ∧ r.2.mem ((c.tc : Thread Cert.GluConvRefIdeal.nD Cert.GluConvRefIdeal.τ).loc Cert.GluConvRefIdeal.main_v572) = v2 c
          ∧ r.2.mem ((c.tc : Thread Cert.GluConvRefIdeal.nD Cert.GluConvRefIdeal.τ).loc Cert.GluConvRefIdeal.main_arg0) = m' ((c.tc : Thread Cert.GluConvRefIdeal.nD Cert.GluConvRefIdeal.τ).loc Cert.GluConvRefIdeal.main_arg0)
          ∧ r.2.mem ((c.tc : Thread Cert.GluConvRefIdeal.nD Cert.GluConvRefIdeal.τ).loc Cert.GluConvRefIdeal.main_arg1) = m' ((c.tc : Thread Cert.GluConvRefIdeal.nD Cert.GluConvRefIdeal.τ).loc Cert.GluConvRefIdeal.main_arg1)
          ∧ r.2.mem ((c.tc : Thread Cert.GluConvRefIdeal.nD Cert.GluConvRefIdeal.τ).loc Cert.GluConvRefIdeal.main_arg2) = m' ((c.tc : Thread Cert.GluConvRefIdeal.nD Cert.GluConvRefIdeal.τ).loc Cert.GluConvRefIdeal.main_arg2))

def preserves_MidNorm_MidNormIdeal : Prop :=
  True

def algebraic_MidNormIdeal_MidNormRefIdeal_pre_mid_norm_finite [hMidNormIdeal : Cert.MidNormIdeal.Facts] [hMidNormRefIdeal : Cert.MidNormRefIdeal.Facts] [hPre_mid_norm_finite : Cert.Pre_mid_norm_finite.Facts] : Prop :=
  ∀ (m : (ℓ : Loc Cert.MidNormIdeal.nD Cert.MidNormIdeal.τ Cert.MidNormIdeal.sig) → Buf (Elt Ideal) ℓ) (g : Dev Cert.MidNormIdeal.nD → PrngReg)
    (m' : (ℓ : Loc Cert.MidNormRefIdeal.nD Cert.MidNormRefIdeal.τ Cert.MidNormRefIdeal.sig) → Buf (Elt Ideal) ℓ) (g' : Dev Cert.MidNormRefIdeal.nD → PrngReg), Pre_MidNormIdeal_mid_norm_finite m →
    (∀ c : Dev Cert.MidNormIdeal.nD,
      m' ((c.tc : Thread Cert.MidNormRefIdeal.nD Cert.MidNormRefIdeal.τ).loc Cert.MidNormRefIdeal.main_arg0) = m ((c.tc : Thread Cert.MidNormIdeal.nD Cert.MidNormIdeal.τ).loc Cert.MidNormIdeal.main_arg0)
      ∧ m' ((c.tc : Thread Cert.MidNormRefIdeal.nD Cert.MidNormRefIdeal.τ).loc Cert.MidNormRefIdeal.main_arg1) = m ((c.tc : Thread Cert.MidNormIdeal.nD Cert.MidNormIdeal.τ).loc Cert.MidNormIdeal.main_arg1)
      ∧ m' ((c.tc : Thread Cert.MidNormRefIdeal.nD Cert.MidNormRefIdeal.τ).loc Cert.MidNormRefIdeal.main_arg2) = m ((c.tc : Thread Cert.MidNormIdeal.nD Cert.MidNormIdeal.τ).loc Cert.MidNormIdeal.main_arg2)
      ∧ m' ((c.tc : Thread Cert.MidNormRefIdeal.nD Cert.MidNormRefIdeal.τ).loc Cert.MidNormRefIdeal.main_arg3) = m ((c.tc : Thread Cert.MidNormIdeal.nD Cert.MidNormIdeal.τ).loc Cert.MidNormIdeal.main_arg3)
      ∧ m' ((c.tc : Thread Cert.MidNormRefIdeal.nD Cert.MidNormRefIdeal.τ).loc Cert.MidNormRefIdeal.main_arg4) = m ((c.tc : Thread Cert.MidNormIdeal.nD Cert.MidNormIdeal.τ).loc Cert.MidNormIdeal.main_arg4)
      ∧ m' ((c.tc : Thread Cert.MidNormRefIdeal.nD Cert.MidNormRefIdeal.τ).loc Cert.MidNormRefIdeal.main_arg5) = m ((c.tc : Thread Cert.MidNormIdeal.nD Cert.MidNormIdeal.τ).loc Cert.MidNormIdeal.main_arg5)) →
    ∃ (v0 : (c : Dev Cert.MidNormIdeal.nD) → Buf (Elt Ideal) ((c.tc : Thread Cert.MidNormIdeal.nD Cert.MidNormIdeal.τ).loc Cert.MidNormIdeal.main_v20_0)) (v1 : (c : Dev Cert.MidNormIdeal.nD) → Buf (Elt Ideal) ((c.tc : Thread Cert.MidNormIdeal.nD Cert.MidNormIdeal.τ).loc Cert.MidNormIdeal.main_v20_1)) (v2 : (c : Dev Cert.MidNormIdeal.nD) → Buf (Elt Ideal) ((c.tc : Thread Cert.MidNormIdeal.nD Cert.MidNormIdeal.τ).loc Cert.MidNormIdeal.main_v20_2)) (v3 : (c : Dev Cert.MidNormIdeal.nD) → Buf (Elt Ideal) ((c.tc : Thread Cert.MidNormIdeal.nD Cert.MidNormIdeal.τ).loc Cert.MidNormIdeal.main_v20_3)),
      θ_run (Cert.MidNormIdeal.defs (F := Ideal)) (onTc (τ := Cert.MidNormIdeal.τ) (Cert.MidNormIdeal.main (F := Ideal))) ⟨m, fun _ => 0, g⟩ (fun r => ∀ c : Dev Cert.MidNormIdeal.nD,
          r.2.mem ((c.tc : Thread Cert.MidNormIdeal.nD Cert.MidNormIdeal.τ).loc Cert.MidNormIdeal.main_v20_0) = v0 c
          ∧ r.2.mem ((c.tc : Thread Cert.MidNormIdeal.nD Cert.MidNormIdeal.τ).loc Cert.MidNormIdeal.main_v20_1) = v1 c
          ∧ r.2.mem ((c.tc : Thread Cert.MidNormIdeal.nD Cert.MidNormIdeal.τ).loc Cert.MidNormIdeal.main_v20_2) = v2 c
          ∧ r.2.mem ((c.tc : Thread Cert.MidNormIdeal.nD Cert.MidNormIdeal.τ).loc Cert.MidNormIdeal.main_v20_3) = v3 c
          ∧ r.2.mem ((c.tc : Thread Cert.MidNormIdeal.nD Cert.MidNormIdeal.τ).loc Cert.MidNormIdeal.main_arg0) = m ((c.tc : Thread Cert.MidNormIdeal.nD Cert.MidNormIdeal.τ).loc Cert.MidNormIdeal.main_arg0)
          ∧ r.2.mem ((c.tc : Thread Cert.MidNormIdeal.nD Cert.MidNormIdeal.τ).loc Cert.MidNormIdeal.main_arg1) = m ((c.tc : Thread Cert.MidNormIdeal.nD Cert.MidNormIdeal.τ).loc Cert.MidNormIdeal.main_arg1)
          ∧ r.2.mem ((c.tc : Thread Cert.MidNormIdeal.nD Cert.MidNormIdeal.τ).loc Cert.MidNormIdeal.main_arg2) = m ((c.tc : Thread Cert.MidNormIdeal.nD Cert.MidNormIdeal.τ).loc Cert.MidNormIdeal.main_arg2)
          ∧ r.2.mem ((c.tc : Thread Cert.MidNormIdeal.nD Cert.MidNormIdeal.τ).loc Cert.MidNormIdeal.main_arg3) = m ((c.tc : Thread Cert.MidNormIdeal.nD Cert.MidNormIdeal.τ).loc Cert.MidNormIdeal.main_arg3)
          ∧ r.2.mem ((c.tc : Thread Cert.MidNormIdeal.nD Cert.MidNormIdeal.τ).loc Cert.MidNormIdeal.main_arg4) = m ((c.tc : Thread Cert.MidNormIdeal.nD Cert.MidNormIdeal.τ).loc Cert.MidNormIdeal.main_arg4)
          ∧ r.2.mem ((c.tc : Thread Cert.MidNormIdeal.nD Cert.MidNormIdeal.τ).loc Cert.MidNormIdeal.main_arg5) = m ((c.tc : Thread Cert.MidNormIdeal.nD Cert.MidNormIdeal.τ).loc Cert.MidNormIdeal.main_arg5))
      ∧ θ_run (Cert.MidNormRefIdeal.defs (F := Ideal)) (onTc (τ := Cert.MidNormRefIdeal.τ) (Cert.MidNormRefIdeal.main (F := Ideal))) ⟨m', fun _ => 0, g'⟩ (fun r => ∀ c : Dev Cert.MidNormRefIdeal.nD,
          r.2.mem ((c.tc : Thread Cert.MidNormRefIdeal.nD Cert.MidNormRefIdeal.τ).loc Cert.MidNormRefIdeal.main_v75) = v0 c
          ∧ r.2.mem ((c.tc : Thread Cert.MidNormRefIdeal.nD Cert.MidNormRefIdeal.τ).loc Cert.MidNormRefIdeal.main_v77) = v1 c
          ∧ r.2.mem ((c.tc : Thread Cert.MidNormRefIdeal.nD Cert.MidNormRefIdeal.τ).loc Cert.MidNormRefIdeal.main_v78) = v2 c
          ∧ r.2.mem ((c.tc : Thread Cert.MidNormRefIdeal.nD Cert.MidNormRefIdeal.τ).loc Cert.MidNormRefIdeal.main_v79) = v3 c
          ∧ r.2.mem ((c.tc : Thread Cert.MidNormRefIdeal.nD Cert.MidNormRefIdeal.τ).loc Cert.MidNormRefIdeal.main_arg0) = m' ((c.tc : Thread Cert.MidNormRefIdeal.nD Cert.MidNormRefIdeal.τ).loc Cert.MidNormRefIdeal.main_arg0)
          ∧ r.2.mem ((c.tc : Thread Cert.MidNormRefIdeal.nD Cert.MidNormRefIdeal.τ).loc Cert.MidNormRefIdeal.main_arg1) = m' ((c.tc : Thread Cert.MidNormRefIdeal.nD Cert.MidNormRefIdeal.τ).loc Cert.MidNormRefIdeal.main_arg1)
          ∧ r.2.mem ((c.tc : Thread Cert.MidNormRefIdeal.nD Cert.MidNormRefIdeal.τ).loc Cert.MidNormRefIdeal.main_arg2) = m' ((c.tc : Thread Cert.MidNormRefIdeal.nD Cert.MidNormRefIdeal.τ).loc Cert.MidNormRefIdeal.main_arg2)
          ∧ r.2.mem ((c.tc : Thread Cert.MidNormRefIdeal.nD Cert.MidNormRefIdeal.τ).loc Cert.MidNormRefIdeal.main_arg3) = m' ((c.tc : Thread Cert.MidNormRefIdeal.nD Cert.MidNormRefIdeal.τ).loc Cert.MidNormRefIdeal.main_arg3)
          ∧ r.2.mem ((c.tc : Thread Cert.MidNormRefIdeal.nD Cert.MidNormRefIdeal.τ).loc Cert.MidNormRefIdeal.main_arg4) = m' ((c.tc : Thread Cert.MidNormRefIdeal.nD Cert.MidNormRefIdeal.τ).loc Cert.MidNormRefIdeal.main_arg4)
          ∧ r.2.mem ((c.tc : Thread Cert.MidNormRefIdeal.nD Cert.MidNormRefIdeal.τ).loc Cert.MidNormRefIdeal.main_arg5) = m' ((c.tc : Thread Cert.MidNormRefIdeal.nD Cert.MidNormRefIdeal.τ).loc Cert.MidNormRefIdeal.main_arg5))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)) (v3 : (c : Dev Cert.LossIdeal.nD) → Buf (Elt Ideal) ((c.tc : Thread Cert.LossIdeal.nD Cert.LossIdeal.τ).loc Cert.LossIdeal.main_v3_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_v3_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v54) = v0 c
          ∧ r.2.mem ((c.tc : Thread Cert.LossRefIdeal.nD Cert.LossRefIdeal.τ).loc Cert.LossRefIdeal.main_v56) = v1 c
          ∧ r.2.mem ((c.tc : Thread Cert.LossRefIdeal.nD Cert.LossRefIdeal.τ).loc Cert.LossRefIdeal.main_v57) = v2 c
          ∧ r.2.mem ((c.tc : Thread Cert.LossRefIdeal.nD Cert.LossRefIdeal.τ).loc Cert.LossRefIdeal.main_v58) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_PreNorm_PreNormIdeal : Prop :=
  True

def algebraic_PreNormIdeal_PreNormRefIdeal_pre_pre_norm_finite [hPreNormIdeal : Cert.PreNormIdeal.Facts] [hPreNormRefIdeal : Cert.PreNormRefIdeal.Facts] [hPre_pre_norm_finite : Cert.Pre_pre_norm_finite.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal_pre_norm_finite m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)
      ∧ m' ((c.tc : Thread Cert.PreNormRefIdeal.nD Cert.PreNormRefIdeal.τ).loc Cert.PreNormRefIdeal.main_arg2) = m ((c.tc : Thread Cert.PreNormIdeal.nD Cert.PreNormIdeal.τ).loc Cert.PreNormIdeal.main_arg2)
      ∧ m' ((c.tc : Thread Cert.PreNormRefIdeal.nD Cert.PreNormRefIdeal.τ).loc Cert.PreNormRefIdeal.main_arg3) = m ((c.tc : Thread Cert.PreNormIdeal.nD Cert.PreNormIdeal.τ).loc Cert.PreNormIdeal.main_arg3)
      ∧ m' ((c.tc : Thread Cert.PreNormRefIdeal.nD Cert.PreNormRefIdeal.τ).loc Cert.PreNormRefIdeal.main_arg4) = m ((c.tc : Thread Cert.PreNormIdeal.nD Cert.PreNormIdeal.τ).loc Cert.PreNormIdeal.main_arg4)) →
    ∃ (v0 : (c : Dev Cert.PreNormIdeal.nD) → Buf (Elt Ideal) ((c.tc : Thread Cert.PreNormIdeal.nD Cert.PreNormIdeal.τ).loc Cert.PreNormIdeal.main_v5_0)) (v1 : (c : Dev Cert.PreNormIdeal.nD) → Buf (Elt Ideal) ((c.tc : Thread Cert.PreNormIdeal.nD Cert.PreNormIdeal.τ).loc Cert.PreNormIdeal.main_v5_1)) (v2 : (c : Dev Cert.PreNormIdeal.nD) → Buf (Elt Ideal) ((c.tc : Thread Cert.PreNormIdeal.nD Cert.PreNormIdeal.τ).loc Cert.PreNormIdeal.main_v5_2)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v5_0) = v0 c
          ∧ r.2.mem ((c.tc : Thread Cert.PreNormIdeal.nD Cert.PreNormIdeal.τ).loc Cert.PreNormIdeal.main_v5_1) = v1 c
          ∧ r.2.mem ((c.tc : Thread Cert.PreNormIdeal.nD Cert.PreNormIdeal.τ).loc Cert.PreNormIdeal.main_v5_2) = v2 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
          ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
          ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3)
          ∧ r.2.mem ((c.tc : Thread Cert.PreNormIdeal.nD Cert.PreNormIdeal.τ).loc Cert.PreNormIdeal.main_arg4) = m ((c.tc : Thread Cert.PreNormIdeal.nD Cert.PreNormIdeal.τ).loc Cert.PreNormIdeal.main_arg4))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v39) = v0 c
          ∧ r.2.mem ((c.tc : Thread Cert.PreNormRefIdeal.nD Cert.PreNormRefIdeal.τ).loc Cert.PreNormRefIdeal.main_v38) = v1 c
          ∧ r.2.mem ((c.tc : Thread Cert.PreNormRefIdeal.nD Cert.PreNormRefIdeal.τ).loc Cert.PreNormRefIdeal.main_v40) = v2 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1)
          ∧ r.2.mem ((c.tc : Thread Cert.PreNormRefIdeal.nD Cert.PreNormRefIdeal.τ).loc Cert.PreNormRefIdeal.main_arg2) = m' ((c.tc : Thread Cert.PreNormRefIdeal.nD Cert.PreNormRefIdeal.τ).loc Cert.PreNormRefIdeal.main_arg2)
          ∧ r.2.mem ((c.tc : Thread Cert.PreNormRefIdeal.nD Cert.PreNormRefIdeal.τ).loc Cert.PreNormRefIdeal.main_arg3) = m' ((c.tc : Thread Cert.PreNormRefIdeal.nD Cert.PreNormRefIdeal.τ).loc Cert.PreNormRefIdeal.main_arg3)
          ∧ r.2.mem ((c.tc : Thread Cert.PreNormRefIdeal.nD Cert.PreNormRefIdeal.τ).loc Cert.PreNormRefIdeal.main_arg4) = m' ((c.tc : Thread Cert.PreNormRefIdeal.nD Cert.PreNormRefIdeal.τ).loc Cert.PreNormRefIdeal.main_arg4))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v72)) (v1 : (c : Dev Cert.PoolIdeal.nD) → Buf (Elt Ideal) ((c.tc : Thread Cert.PoolIdeal.nD Cert.PoolIdeal.τ).loc Cert.PoolIdeal.main_v71_1)) (v2 : (c : Dev Cert.PoolIdeal.nD) → Buf (Elt Ideal) ((c.tc : Thread Cert.PoolIdeal.nD Cert.PoolIdeal.τ).loc Cert.PoolIdeal.main_v71_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v72) = v0 c
          ∧ r.2.mem ((c.tc : Thread Cert.PoolIdeal.nD Cert.PoolIdeal.τ).loc Cert.PoolIdeal.main_v71_1) = v1 c
          ∧ r.2.mem ((c.tc : Thread Cert.PoolIdeal.nD Cert.PoolIdeal.τ).loc Cert.PoolIdeal.main_v71_2) = v2 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v138) = v0 c
          ∧ r.2.mem ((c.tc : Thread Cert.PoolRefIdeal.nD Cert.PoolRefIdeal.τ).loc Cert.PoolRefIdeal.main_v86) = v1 c
          ∧ r.2.mem ((c.tc : Thread Cert.PoolRefIdeal.nD Cert.PoolRefIdeal.τ).loc Cert.PoolRefIdeal.main_v139) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_ConvSwish_ConvSwishIdeal : Prop :=
  True

def algebraic_ConvSwishIdeal_ConvSwishRefIdeal [hConvSwishIdeal : Cert.ConvSwishIdeal.Facts] [hConvSwishRefIdeal : Cert.ConvSwishRefIdeal.Facts] : Prop :=
  ∀ (m : (ℓ : Loc Cert.ConvSwishIdeal.nD Cert.ConvSwishIdeal.τ Cert.ConvSwishIdeal.sig) → Buf (Elt Ideal) ℓ) (g : Dev Cert.ConvSwishIdeal.nD → PrngReg)
    (m' : (ℓ : Loc Cert.ConvSwishRefIdeal.nD Cert.ConvSwishRefIdeal.τ Cert.ConvSwishRefIdeal.sig) → Buf (Elt Ideal) ℓ) (g' : Dev Cert.ConvSwishRefIdeal.nD → PrngReg), Pre_ConvSwishIdeal m →
    (∀ c : Dev Cert.ConvSwishIdeal.nD,
      m' ((c.tc : Thread Cert.ConvSwishRefIdeal.nD Cert.ConvSwishRefIdeal.τ).loc Cert.ConvSwishRefIdeal.main_arg0) = m ((c.tc : Thread Cert.ConvSwishIdeal.nD Cert.ConvSwishIdeal.τ).loc Cert.ConvSwishIdeal.main_arg0)
      ∧ m' ((c.tc : Thread Cert.ConvSwishRefIdeal.nD Cert.ConvSwishRefIdeal.τ).loc Cert.ConvSwishRefIdeal.main_arg1) = m ((c.tc : Thread Cert.ConvSwishIdeal.nD Cert.ConvSwishIdeal.τ).loc Cert.ConvSwishIdeal.main_arg1)
      ∧ m' ((c.tc : Thread Cert.ConvSwishRefIdeal.nD Cert.ConvSwishRefIdeal.τ).loc Cert.ConvSwishRefIdeal.main_arg2) = m ((c.tc : Thread Cert.ConvSwishIdeal.nD Cert.ConvSwishIdeal.τ).loc Cert.ConvSwishIdeal.main_arg2)
      ∧ m' ((c.tc : Thread Cert.ConvSwishRefIdeal.nD Cert.ConvSwishRefIdeal.τ).loc Cert.ConvSwishRefIdeal.main_arg3) = m ((c.tc : Thread Cert.ConvSwishIdeal.nD Cert.ConvSwishIdeal.τ).loc Cert.ConvSwishIdeal.main_arg3)
      ∧ m' ((c.tc : Thread Cert.ConvSwishRefIdeal.nD Cert.ConvSwishRefIdeal.τ).loc Cert.ConvSwishRefIdeal.main_arg4) = m ((c.tc : Thread Cert.ConvSwishIdeal.nD Cert.ConvSwishIdeal.τ).loc Cert.ConvSwishIdeal.main_arg4)) →
    ∃ (v0 : (c : Dev Cert.ConvSwishIdeal.nD) → Buf (Elt Ideal) ((c.tc : Thread Cert.ConvSwishIdeal.nD Cert.ConvSwishIdeal.τ).loc Cert.ConvSwishIdeal.main_v2)) (v1 : (c : Dev Cert.ConvSwishIdeal.nD) → Buf (Elt Ideal) ((c.tc : Thread Cert.ConvSwishIdeal.nD Cert.ConvSwishIdeal.τ).loc Cert.ConvSwishIdeal.main_v3)),
      θ_run (Cert.ConvSwishIdeal.defs (F := Ideal)) (onTc (τ := Cert.ConvSwishIdeal.τ) (Cert.ConvSwishIdeal.main (F := Ideal))) ⟨m, fun _ => 0, g⟩ (fun r => ∀ c : Dev Cert.ConvSwishIdeal.nD,
          r.2.mem ((c.tc : Thread Cert.ConvSwishIdeal.nD Cert.ConvSwishIdeal.τ).loc Cert.ConvSwishIdeal.main_v2) = v0 c
          ∧ r.2.mem ((c.tc : Thread Cert.ConvSwishIdeal.nD Cert.ConvSwishIdeal.τ).loc Cert.ConvSwishIdeal.main_v3) = v1 c
          ∧ r.2.mem ((c.tc : Thread Cert.ConvSwishIdeal.nD Cert.ConvSwishIdeal.τ).loc Cert.ConvSwishIdeal.main_arg0) = m ((c.tc : Thread Cert.ConvSwishIdeal.nD Cert.ConvSwishIdeal.τ).loc Cert.ConvSwishIdeal.main_arg0)
          ∧ r.2.mem ((c.tc : Thread Cert.ConvSwishIdeal.nD Cert.ConvSwishIdeal.τ).loc Cert.ConvSwishIdeal.main_arg1) = m ((c.tc : Thread Cert.ConvSwishIdeal.nD Cert.ConvSwishIdeal.τ).loc Cert.ConvSwishIdeal.main_arg1)
          ∧ r.2.mem ((c.tc : Thread Cert.ConvSwishIdeal.nD Cert.ConvSwishIdeal.τ).loc Cert.ConvSwishIdeal.main_arg2) = m ((c.tc : Thread Cert.ConvSwishIdeal.nD Cert.ConvSwishIdeal.τ).loc Cert.ConvSwishIdeal.main_arg2)
          ∧ r.2.mem ((c.tc : Thread Cert.ConvSwishIdeal.nD Cert.ConvSwishIdeal.τ).loc Cert.ConvSwishIdeal.main_arg3) = m ((c.tc : Thread Cert.ConvSwishIdeal.nD Cert.ConvSwishIdeal.τ).loc Cert.ConvSwishIdeal.main_arg3)
          ∧ r.2.mem ((c.tc : Thread Cert.ConvSwishIdeal.nD Cert.ConvSwishIdeal.τ).loc Cert.ConvSwishIdeal.main_arg4) = m ((c.tc : Thread Cert.ConvSwishIdeal.nD Cert.ConvSwishIdeal.τ).loc Cert.ConvSwishIdeal.main_arg4))
      ∧ θ_run (Cert.ConvSwishRefIdeal.defs (F := Ideal)) (onTc (τ := Cert.ConvSwishRefIdeal.τ) (Cert.ConvSwishRefIdeal.main (F := Ideal))) ⟨m', fun _ => 0, g'⟩ (fun r => ∀ c : Dev Cert.ConvSwishRefIdeal.nD,
          r.2.mem ((c.tc : Thread Cert.ConvSwishRefIdeal.nD Cert.ConvSwishRefIdeal.τ).loc Cert.ConvSwishRefIdeal.main_v255) = v0 c
          ∧ r.2.mem ((c.tc : Thread Cert.ConvSwishRefIdeal.nD Cert.ConvSwishRefIdeal.τ).loc Cert.ConvSwishRefIdeal.main_v257) = v1 c
          ∧ r.2.mem ((c.tc : Thread Cert.ConvSwishRefIdeal.nD Cert.ConvSwishRefIdeal.τ).loc Cert.ConvSwishRefIdeal.main_arg0) = m' ((c.tc : Thread Cert.ConvSwishRefIdeal.nD Cert.ConvSwishRefIdeal.τ).loc Cert.ConvSwishRefIdeal.main_arg0)
          ∧ r.2.mem ((c.tc : Thread Cert.ConvSwishRefIdeal.nD Cert.ConvSwishRefIdeal.τ).loc Cert.ConvSwishRefIdeal.main_arg1) = m' ((c.tc : Thread Cert.ConvSwishRefIdeal.nD Cert.ConvSwishRefIdeal.τ).loc Cert.ConvSwishRefIdeal.main_arg1)
          ∧ r.2.mem ((c.tc : Thread Cert.ConvSwishRefIdeal.nD Cert.ConvSwishRefIdeal.τ).loc Cert.ConvSwishRefIdeal.main_arg2) = m' ((c.tc : Thread Cert.ConvSwishRefIdeal.nD Cert.ConvSwishRefIdeal.τ).loc Cert.ConvSwishRefIdeal.main_arg2)
          ∧ r.2.mem ((c.tc : Thread Cert.ConvSwishRefIdeal.nD Cert.ConvSwishRefIdeal.τ).loc Cert.ConvSwishRefIdeal.main_arg3) = m' ((c.tc : Thread Cert.ConvSwishRefIdeal.nD Cert.ConvSwishRefIdeal.τ).loc Cert.ConvSwishRefIdeal.main_arg3)
          ∧ r.2.mem ((c.tc : Thread Cert.ConvSwishRefIdeal.nD Cert.ConvSwishRefIdeal.τ).loc Cert.ConvSwishRefIdeal.main_arg4) = m' ((c.tc : Thread Cert.ConvSwishRefIdeal.nD Cert.ConvSwishRefIdeal.τ).loc Cert.ConvSwishRefIdeal.main_arg4))

def preserves_TwoNorms_TwoNormsIdeal : Prop :=
  True

def algebraic_TwoNormsIdeal_TwoNormsRefIdeal [hTwoNormsIdeal : Cert.TwoNormsIdeal.Facts] [hTwoNormsRefIdeal : Cert.TwoNormsRefIdeal.Facts] : Prop :=
  ∀ (m : (ℓ : Loc Cert.TwoNormsIdeal.nD Cert.TwoNormsIdeal.τ Cert.TwoNormsIdeal.sig) → Buf (Elt Ideal) ℓ) (g : Dev Cert.TwoNormsIdeal.nD → PrngReg)
    (m' : (ℓ : Loc Cert.TwoNormsRefIdeal.nD Cert.TwoNormsRefIdeal.τ Cert.TwoNormsRefIdeal.sig) → Buf (Elt Ideal) ℓ) (g' : Dev Cert.TwoNormsRefIdeal.nD → PrngReg), Pre_TwoNormsIdeal m →
    (∀ c : Dev Cert.TwoNormsIdeal.nD,
      m' ((c.tc : Thread Cert.TwoNormsRefIdeal.nD Cert.TwoNormsRefIdeal.τ).loc Cert.TwoNormsRefIdeal.main_arg0) = m ((c.tc : Thread Cert.TwoNormsIdeal.nD Cert.TwoNormsIdeal.τ).loc Cert.TwoNormsIdeal.main_arg0)
      ∧ m' ((c.tc : Thread Cert.TwoNormsRefIdeal.nD Cert.TwoNormsRefIdeal.τ).loc Cert.TwoNormsRefIdeal.main_arg1) = m ((c.tc : Thread Cert.TwoNormsIdeal.nD Cert.TwoNormsIdeal.τ).loc Cert.TwoNormsIdeal.main_arg1)
      ∧ m' ((c.tc : Thread Cert.TwoNormsRefIdeal.nD Cert.TwoNormsRefIdeal.τ).loc Cert.TwoNormsRefIdeal.main_arg2) = m ((c.tc : Thread Cert.TwoNormsIdeal.nD Cert.TwoNormsIdeal.τ).loc Cert.TwoNormsIdeal.main_arg2)
      ∧ m' ((c.tc : Thread Cert.TwoNormsRefIdeal.nD Cert.TwoNormsRefIdeal.τ).loc Cert.TwoNormsRefIdeal.main_arg3) = m ((c.tc : Thread Cert.TwoNormsIdeal.nD Cert.TwoNormsIdeal.τ).loc Cert.TwoNormsIdeal.main_arg3)) →
    ∃ (v0 : (c : Dev Cert.TwoNormsIdeal.nD) → Buf (Elt Ideal) ((c.tc : Thread Cert.TwoNormsIdeal.nD Cert.TwoNormsIdeal.τ).loc Cert.TwoNormsIdeal.main_v4_0)) (v1 : (c : Dev Cert.TwoNormsIdeal.nD) → Buf (Elt Ideal) ((c.tc : Thread Cert.TwoNormsIdeal.nD Cert.TwoNormsIdeal.τ).loc Cert.TwoNormsIdeal.main_v4_1)),
      θ_run (Cert.TwoNormsIdeal.defs (F := Ideal)) (onTc (τ := Cert.TwoNormsIdeal.τ) (Cert.TwoNormsIdeal.main (F := Ideal))) ⟨m, fun _ => 0, g⟩ (fun r => ∀ c : Dev Cert.TwoNormsIdeal.nD,
          r.2.mem ((c.tc : Thread Cert.TwoNormsIdeal.nD Cert.TwoNormsIdeal.τ).loc Cert.TwoNormsIdeal.main_v4_0) = v0 c
          ∧ r.2.mem ((c.tc : Thread Cert.TwoNormsIdeal.nD Cert.TwoNormsIdeal.τ).loc Cert.TwoNormsIdeal.main_v4_1) = v1 c
          ∧ r.2.mem ((c.tc : Thread Cert.TwoNormsIdeal.nD Cert.TwoNormsIdeal.τ).loc Cert.TwoNormsIdeal.main_arg0) = m ((c.tc : Thread Cert.TwoNormsIdeal.nD Cert.TwoNormsIdeal.τ).loc Cert.TwoNormsIdeal.main_arg0)
          ∧ r.2.mem ((c.tc : Thread Cert.TwoNormsIdeal.nD Cert.TwoNormsIdeal.τ).loc Cert.TwoNormsIdeal.main_arg1) = m ((c.tc : Thread Cert.TwoNormsIdeal.nD Cert.TwoNormsIdeal.τ).loc Cert.TwoNormsIdeal.main_arg1)
          ∧ r.2.mem ((c.tc : Thread Cert.TwoNormsIdeal.nD Cert.TwoNormsIdeal.τ).loc Cert.TwoNormsIdeal.main_arg2) = m ((c.tc : Thread Cert.TwoNormsIdeal.nD Cert.TwoNormsIdeal.τ).loc Cert.TwoNormsIdeal.main_arg2)
          ∧ r.2.mem ((c.tc : Thread Cert.TwoNormsIdeal.nD Cert.TwoNormsIdeal.τ).loc Cert.TwoNormsIdeal.main_arg3) = m ((c.tc : Thread Cert.TwoNormsIdeal.nD Cert.TwoNormsIdeal.τ).loc Cert.TwoNormsIdeal.main_arg3))
      ∧ θ_run (Cert.TwoNormsRefIdeal.defs (F := Ideal)) (onTc (τ := Cert.TwoNormsRefIdeal.τ) (Cert.TwoNormsRefIdeal.main (F := Ideal))) ⟨m', fun _ => 0, g'⟩ (fun r => ∀ c : Dev Cert.TwoNormsRefIdeal.nD,
          r.2.mem ((c.tc : Thread Cert.TwoNormsRefIdeal.nD Cert.TwoNormsRefIdeal.τ).loc Cert.TwoNormsRefIdeal.main_v27) = v0 c
          ∧ r.2.mem ((c.tc : Thread Cert.TwoNormsRefIdeal.nD Cert.TwoNormsRefIdeal.τ).loc Cert.TwoNormsRefIdeal.main_v29) = v1 c
          ∧ r.2.mem ((c.tc : Thread Cert.TwoNormsRefIdeal.nD Cert.TwoNormsRefIdeal.τ).loc Cert.TwoNormsRefIdeal.main_arg0) = m' ((c.tc : Thread Cert.TwoNormsRefIdeal.nD Cert.TwoNormsRefIdeal.τ).loc Cert.TwoNormsRefIdeal.main_arg0)
          ∧ r.2.mem ((c.tc : Thread Cert.TwoNormsRefIdeal.nD Cert.TwoNormsRefIdeal.τ).loc Cert.TwoNormsRefIdeal.main_arg1) = m' ((c.tc : Thread Cert.TwoNormsRefIdeal.nD Cert.TwoNormsRefIdeal.τ).loc Cert.TwoNormsRefIdeal.main_arg1)
          ∧ r.2.mem ((c.tc : Thread Cert.TwoNormsRefIdeal.nD Cert.TwoNormsRefIdeal.τ).loc Cert.TwoNormsRefIdeal.main_arg2) = m' ((c.tc : Thread Cert.TwoNormsRefIdeal.nD Cert.TwoNormsRefIdeal.τ).loc Cert.TwoNormsRefIdeal.main_arg2)
          ∧ r.2.mem ((c.tc : Thread Cert.TwoNormsRefIdeal.nD Cert.TwoNormsRefIdeal.τ).loc Cert.TwoNormsRefIdeal.main_arg3) = m' ((c.tc : Thread Cert.TwoNormsRefIdeal.nD Cert.TwoNormsRefIdeal.τ).loc Cert.TwoNormsRefIdeal.main_arg3))

def preserves_ReluUp_ReluUpIdeal : Prop :=
  True

def algebraic_ReluUpIdeal_ReluUpRefIdeal [hReluUpIdeal : Cert.ReluUpIdeal.Facts] [hReluUpRefIdeal : Cert.ReluUpRefIdeal.Facts] : Prop :=
  ∀ (m : (ℓ : Loc Cert.ReluUpIdeal.nD Cert.ReluUpIdeal.τ Cert.ReluUpIdeal.sig) → Buf (Elt Ideal) ℓ) (g : Dev Cert.ReluUpIdeal.nD → PrngReg)
    (m' : (ℓ : Loc Cert.ReluUpRefIdeal.nD Cert.ReluUpRefIdeal.τ Cert.ReluUpRefIdeal.sig) → Buf (Elt Ideal) ℓ) (g' : Dev Cert.ReluUpRefIdeal.nD → PrngReg), Pre_ReluUpIdeal m →
    (∀ c : Dev Cert.ReluUpIdeal.nD,
      m' ((c.tc : Thread Cert.ReluUpRefIdeal.nD Cert.ReluUpRefIdeal.τ).loc Cert.ReluUpRefIdeal.main_arg0) = m ((c.tc : Thread Cert.ReluUpIdeal.nD Cert.ReluUpIdeal.τ).loc Cert.ReluUpIdeal.main_arg0)
      ∧ m' ((c.tc : Thread Cert.ReluUpRefIdeal.nD Cert.ReluUpRefIdeal.τ).loc Cert.ReluUpRefIdeal.main_arg1) = m ((c.tc : Thread Cert.ReluUpIdeal.nD Cert.ReluUpIdeal.τ).loc Cert.ReluUpIdeal.main_arg1)) →
    ∃ (v0 : (c : Dev Cert.ReluUpIdeal.nD) → Buf (Elt Ideal) ((c.tc : Thread Cert.ReluUpIdeal.nD Cert.ReluUpIdeal.τ).loc Cert.ReluUpIdeal.main_v5_0)) (v1 : (c : Dev Cert.ReluUpIdeal.nD) → Buf (Elt Ideal) ((c.tc : Thread Cert.ReluUpIdeal.nD Cert.ReluUpIdeal.τ).loc Cert.ReluUpIdeal.main_v5_1)),
      θ_run (Cert.ReluUpIdeal.defs (F := Ideal)) (onTc (τ := Cert.ReluUpIdeal.τ) (Cert.ReluUpIdeal.main (F := Ideal))) ⟨m, fun _ => 0, g⟩ (fun r => ∀ c : Dev Cert.ReluUpIdeal.nD,
          r.2.mem ((c.tc : Thread Cert.ReluUpIdeal.nD Cert.ReluUpIdeal.τ).loc Cert.ReluUpIdeal.main_v5_0) = v0 c
          ∧ r.2.mem ((c.tc : Thread Cert.ReluUpIdeal.nD Cert.ReluUpIdeal.τ).loc Cert.ReluUpIdeal.main_v5_1) = v1 c
          ∧ r.2.mem ((c.tc : Thread Cert.ReluUpIdeal.nD Cert.ReluUpIdeal.τ).loc Cert.ReluUpIdeal.main_arg0) = m ((c.tc : Thread Cert.ReluUpIdeal.nD Cert.ReluUpIdeal.τ).loc Cert.ReluUpIdeal.main_arg0)
          ∧ r.2.mem ((c.tc : Thread Cert.ReluUpIdeal.nD Cert.ReluUpIdeal.τ).loc Cert.ReluUpIdeal.main_arg1) = m ((c.tc : Thread Cert.ReluUpIdeal.nD Cert.ReluUpIdeal.τ).loc Cert.ReluUpIdeal.main_arg1))
      ∧ θ_run (Cert.ReluUpRefIdeal.defs (F := Ideal)) (onTc (τ := Cert.ReluUpRefIdeal.τ) (Cert.ReluUpRefIdeal.main (F := Ideal))) ⟨m', fun _ => 0, g'⟩ (fun r => ∀ c : Dev Cert.ReluUpRefIdeal.nD,
          r.2.mem ((c.tc : Thread Cert.ReluUpRefIdeal.nD Cert.ReluUpRefIdeal.τ).loc Cert.ReluUpRefIdeal.main_v2) = v0 c
          ∧ r.2.mem ((c.tc : Thread Cert.ReluUpRefIdeal.nD Cert.ReluUpRefIdeal.τ).loc Cert.ReluUpRefIdeal.main_v6) = v1 c
          ∧ r.2.mem ((c.tc : Thread Cert.ReluUpRefIdeal.nD Cert.ReluUpRefIdeal.τ).loc Cert.ReluUpRefIdeal.main_arg0) = m' ((c.tc : Thread Cert.ReluUpRefIdeal.nD Cert.ReluUpRefIdeal.τ).loc Cert.ReluUpRefIdeal.main_arg0)
          ∧ r.2.mem ((c.tc : Thread Cert.ReluUpRefIdeal.nD Cert.ReluUpRefIdeal.τ).loc Cert.ReluUpRefIdeal.main_arg1) = m' ((c.tc : Thread Cert.ReluUpRefIdeal.nD Cert.ReluUpRefIdeal.τ).loc Cert.ReluUpRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v12_0)) (v1 : (c : Dev Cert.MixIdeal.nD) → Buf (Elt Ideal) ((c.tc : Thread Cert.MixIdeal.nD Cert.MixIdeal.τ).loc Cert.MixIdeal.main_v12_1)) (v2 : (c : Dev Cert.MixIdeal.nD) → Buf (Elt Ideal) ((c.tc : Thread Cert.MixIdeal.nD Cert.MixIdeal.τ).loc Cert.MixIdeal.main_v12_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v12_0) = v0 c
          ∧ r.2.mem ((c.tc : Thread Cert.MixIdeal.nD Cert.MixIdeal.τ).loc Cert.MixIdeal.main_v12_1) = v1 c
          ∧ r.2.mem ((c.tc : Thread Cert.MixIdeal.nD Cert.MixIdeal.τ).loc Cert.MixIdeal.main_v12_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v20) = v0 c
          ∧ r.2.mem ((c.tc : Thread Cert.MixRefIdeal.nD Cert.MixRefIdeal.τ).loc Cert.MixRefIdeal.main_v22) = v1 c
          ∧ r.2.mem ((c.tc : Thread Cert.MixRefIdeal.nD Cert.MixRefIdeal.τ).loc Cert.MixRefIdeal.main_v24) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_TokenNorm_TokenNormIdeal : Prop :=
  True

def algebraic_TokenNormIdeal_TokenNormRefIdeal [hTokenNormIdeal : Cert.TokenNormIdeal.Facts] [hTokenNormRefIdeal : Cert.TokenNormRefIdeal.Facts] : Prop :=
  ∀ (m : (ℓ : Loc Cert.TokenNormIdeal.nD Cert.TokenNormIdeal.τ Cert.TokenNormIdeal.sig) → Buf (Elt Ideal) ℓ) (g : Dev Cert.TokenNormIdeal.nD → PrngReg)
    (m' : (ℓ : Loc Cert.TokenNormRefIdeal.nD Cert.TokenNormRefIdeal.τ Cert.TokenNormRefIdeal.sig) → Buf (Elt Ideal) ℓ) (g' : Dev Cert.TokenNormRefIdeal.nD → PrngReg), Pre_TokenNormIdeal m →
    (∀ c : Dev Cert.TokenNormIdeal.nD,
      m' ((c.tc : Thread Cert.TokenNormRefIdeal.nD Cert.TokenNormRefIdeal.τ).loc Cert.TokenNormRefIdeal.main_arg0) = m ((c.tc : Thread Cert.TokenNormIdeal.nD Cert.TokenNormIdeal.τ).loc Cert.TokenNormIdeal.main_arg0)
      ∧ m' ((c.tc : Thread Cert.TokenNormRefIdeal.nD Cert.TokenNormRefIdeal.τ).loc Cert.TokenNormRefIdeal.main_arg1) = m ((c.tc : Thread Cert.TokenNormIdeal.nD Cert.TokenNormIdeal.τ).loc Cert.TokenNormIdeal.main_arg1)) →
    ∃ (v0 : (c : Dev Cert.TokenNormIdeal.nD) → Buf (Elt Ideal) ((c.tc : Thread Cert.TokenNormIdeal.nD Cert.TokenNormIdeal.τ).loc Cert.TokenNormIdeal.main_v2)) (v1 : (c : Dev Cert.TokenNormIdeal.nD) → Buf (Elt Ideal) ((c.tc : Thread Cert.TokenNormIdeal.nD Cert.TokenNormIdeal.τ).loc Cert.TokenNormIdeal.main_v3)),
      θ_run (Cert.TokenNormIdeal.defs (F := Ideal)) (onTc (τ := Cert.TokenNormIdeal.τ) (Cert.TokenNormIdeal.main (F := Ideal))) ⟨m, fun _ => 0, g⟩ (fun r => ∀ c : Dev Cert.TokenNormIdeal.nD,
          r.2.mem ((c.tc : Thread Cert.TokenNormIdeal.nD Cert.TokenNormIdeal.τ).loc Cert.TokenNormIdeal.main_v2) = v0 c
          ∧ r.2.mem ((c.tc : Thread Cert.TokenNormIdeal.nD Cert.TokenNormIdeal.τ).loc Cert.TokenNormIdeal.main_v3) = v1 c
          ∧ r.2.mem ((c.tc : Thread Cert.TokenNormIdeal.nD Cert.TokenNormIdeal.τ).loc Cert.TokenNormIdeal.main_arg0) = m ((c.tc : Thread Cert.TokenNormIdeal.nD Cert.TokenNormIdeal.τ).loc Cert.TokenNormIdeal.main_arg0)
          ∧ r.2.mem ((c.tc : Thread Cert.TokenNormIdeal.nD Cert.TokenNormIdeal.τ).loc Cert.TokenNormIdeal.main_arg1) = m ((c.tc : Thread Cert.TokenNormIdeal.nD Cert.TokenNormIdeal.τ).loc Cert.TokenNormIdeal.main_arg1))
      ∧ θ_run (Cert.TokenNormRefIdeal.defs (F := Ideal)) (onTc (τ := Cert.TokenNormRefIdeal.τ) (Cert.TokenNormRefIdeal.main (F := Ideal))) ⟨m', fun _ => 0, g'⟩ (fun r => ∀ c : Dev Cert.TokenNormRefIdeal.nD,
          r.2.mem ((c.tc : Thread Cert.TokenNormRefIdeal.nD Cert.TokenNormRefIdeal.τ).loc Cert.TokenNormRefIdeal.main_arg0) = v0 c
          ∧ r.2.mem ((c.tc : Thread Cert.TokenNormRefIdeal.nD Cert.TokenNormRefIdeal.τ).loc Cert.TokenNormRefIdeal.main_v13) = v1 c
          ∧ r.2.mem ((c.tc : Thread Cert.TokenNormRefIdeal.nD Cert.TokenNormRefIdeal.τ).loc Cert.TokenNormRefIdeal.main_arg0) = m' ((c.tc : Thread Cert.TokenNormRefIdeal.nD Cert.TokenNormRefIdeal.τ).loc Cert.TokenNormRefIdeal.main_arg0)
          ∧ r.2.mem ((c.tc : Thread Cert.TokenNormRefIdeal.nD Cert.TokenNormRefIdeal.τ).loc Cert.TokenNormRefIdeal.main_arg1) = m' ((c.tc : Thread Cert.TokenNormRefIdeal.nD Cert.TokenNormRefIdeal.τ).loc Cert.TokenNormRefIdeal.main_arg1))

def preserves_Pooled_PooledIdeal : Prop :=
  True

def algebraic_PooledIdeal_PooledRefIdeal_pre_pooled_finite [hPooledIdeal : Cert.PooledIdeal.Facts] [hPooledRefIdeal : Cert.PooledRefIdeal.Facts] [hPre_pooled_finite : Cert.Pre_pooled_finite.Facts] : Prop :=
  ∀ (m : (ℓ : Loc Cert.PooledIdeal.nD Cert.PooledIdeal.τ Cert.PooledIdeal.sig) → Buf (Elt Ideal) ℓ) (g : Dev Cert.PooledIdeal.nD → PrngReg)
    (m' : (ℓ : Loc Cert.PooledRefIdeal.nD Cert.PooledRefIdeal.τ Cert.PooledRefIdeal.sig) → Buf (Elt Ideal) ℓ) (g' : Dev Cert.PooledRefIdeal.nD → PrngReg), Pre_PooledIdeal_pooled_finite m →
    (∀ c : Dev Cert.PooledIdeal.nD,
      m' ((c.tc : Thread Cert.PooledRefIdeal.nD Cert.PooledRefIdeal.τ).loc Cert.PooledRefIdeal.main_arg0) = m ((c.tc : Thread Cert.PooledIdeal.nD Cert.PooledIdeal.τ).loc Cert.PooledIdeal.main_arg0)
      ∧ m' ((c.tc : Thread Cert.PooledRefIdeal.nD Cert.PooledRefIdeal.τ).loc Cert.PooledRefIdeal.main_arg1) = m ((c.tc : Thread Cert.PooledIdeal.nD Cert.PooledIdeal.τ).loc Cert.PooledIdeal.main_arg1)
      ∧ m' ((c.tc : Thread Cert.PooledRefIdeal.nD Cert.PooledRefIdeal.τ).loc Cert.PooledRefIdeal.main_arg2) = m ((c.tc : Thread Cert.PooledIdeal.nD Cert.PooledIdeal.τ).loc Cert.PooledIdeal.main_arg2)) →
    ∃ (v0 : (c : Dev Cert.PooledIdeal.nD) → Buf (Elt Ideal) ((c.tc : Thread Cert.PooledIdeal.nD Cert.PooledIdeal.τ).loc Cert.PooledIdeal.main_v4)) (v1 : (c : Dev Cert.PooledIdeal.nD) → Buf (Elt Ideal) ((c.tc : Thread Cert.PooledIdeal.nD Cert.PooledIdeal.τ).loc Cert.PooledIdeal.main_v5)),
      θ_run (Cert.PooledIdeal.defs (F := Ideal)) (onTc (τ := Cert.PooledIdeal.τ) (Cert.PooledIdeal.main (F := Ideal))) ⟨m, fun _ => 0, g⟩ (fun r => ∀ c : Dev Cert.PooledIdeal.nD,
          r.2.mem ((c.tc : Thread Cert.PooledIdeal.nD Cert.PooledIdeal.τ).loc Cert.PooledIdeal.main_v4) = v0 c
          ∧ r.2.mem ((c.tc : Thread Cert.PooledIdeal.nD Cert.PooledIdeal.τ).loc Cert.PooledIdeal.main_v5) = v1 c
          ∧ r.2.mem ((c.tc : Thread Cert.PooledIdeal.nD Cert.PooledIdeal.τ).loc Cert.PooledIdeal.main_arg0) = m ((c.tc : Thread Cert.PooledIdeal.nD Cert.PooledIdeal.τ).loc Cert.PooledIdeal.main_arg0)
          ∧ r.2.mem ((c.tc : Thread Cert.PooledIdeal.nD Cert.PooledIdeal.τ).loc Cert.PooledIdeal.main_arg1) = m ((c.tc : Thread Cert.PooledIdeal.nD Cert.PooledIdeal.τ).loc Cert.PooledIdeal.main_arg1)
          ∧ r.2.mem ((c.tc : Thread Cert.PooledIdeal.nD Cert.PooledIdeal.τ).loc Cert.PooledIdeal.main_arg2) = m ((c.tc : Thread Cert.PooledIdeal.nD Cert.PooledIdeal.τ).loc Cert.PooledIdeal.main_arg2))
      ∧ θ_run (Cert.PooledRefIdeal.defs (F := Ideal)) (onTc (τ := Cert.PooledRefIdeal.τ) (Cert.PooledRefIdeal.main (F := Ideal))) ⟨m', fun _ => 0, g'⟩ (fun r => ∀ c : Dev Cert.PooledRefIdeal.nD,
          r.2.mem ((c.tc : Thread Cert.PooledRefIdeal.nD Cert.PooledRefIdeal.τ).loc Cert.PooledRefIdeal.main_v69) = v0 c
          ∧ r.2.mem ((c.tc : Thread Cert.PooledRefIdeal.nD Cert.PooledRefIdeal.τ).loc Cert.PooledRefIdeal.main_v73) = v1 c
          ∧ r.2.mem ((c.tc : Thread Cert.PooledRefIdeal.nD Cert.PooledRefIdeal.τ).loc Cert.PooledRefIdeal.main_arg0) = m' ((c.tc : Thread Cert.PooledRefIdeal.nD Cert.PooledRefIdeal.τ).loc Cert.PooledRefIdeal.main_arg0)
          ∧ r.2.mem ((c.tc : Thread Cert.PooledRefIdeal.nD Cert.PooledRefIdeal.τ).loc Cert.PooledRefIdeal.main_arg1) = m' ((c.tc : Thread Cert.PooledRefIdeal.nD Cert.PooledRefIdeal.τ).loc Cert.PooledRefIdeal.main_arg1)
          ∧ r.2.mem ((c.tc : Thread Cert.PooledRefIdeal.nD Cert.PooledRefIdeal.τ).loc Cert.PooledRefIdeal.main_arg2) = m' ((c.tc : Thread Cert.PooledRefIdeal.nD Cert.PooledRefIdeal.τ).loc Cert.PooledRefIdeal.main_arg2))

def preserves_MetaNorm_MetaNormIdeal : Prop :=
  True

def algebraic_MetaNormIdeal_MetaNormRefIdeal [hMetaNormIdeal : Cert.MetaNormIdeal.Facts] [hMetaNormRefIdeal : Cert.MetaNormRefIdeal.Facts] : Prop :=
  ∀ (m : (ℓ : Loc Cert.MetaNormIdeal.nD Cert.MetaNormIdeal.τ Cert.MetaNormIdeal.sig) → Buf (Elt Ideal) ℓ) (g : Dev Cert.MetaNormIdeal.nD → PrngReg)
    (m' : (ℓ : Loc Cert.MetaNormRefIdeal.nD Cert.MetaNormRefIdeal.τ Cert.MetaNormRefIdeal.sig) → Buf (Elt Ideal) ℓ) (g' : Dev Cert.MetaNormRefIdeal.nD → PrngReg), Pre_MetaNormIdeal m →
    (∀ c : Dev Cert.MetaNormIdeal.nD,
      m' ((c.tc : Thread Cert.MetaNormRefIdeal.nD Cert.MetaNormRefIdeal.τ).loc Cert.MetaNormRefIdeal.main_arg0) = m ((c.tc : Thread Cert.MetaNormIdeal.nD Cert.MetaNormIdeal.τ).loc Cert.MetaNormIdeal.main_arg0)
      ∧ m' ((c.tc : Thread Cert.MetaNormRefIdeal.nD Cert.MetaNormRefIdeal.τ).loc Cert.MetaNormRefIdeal.main_arg1) = m ((c.tc : Thread Cert.MetaNormIdeal.nD Cert.MetaNormIdeal.τ).loc Cert.MetaNormIdeal.main_arg1)
      ∧ m' ((c.tc : Thread Cert.MetaNormRefIdeal.nD Cert.MetaNormRefIdeal.τ).loc Cert.MetaNormRefIdeal.main_arg2) = m ((c.tc : Thread Cert.MetaNormIdeal.nD Cert.MetaNormIdeal.τ).loc Cert.MetaNormIdeal.main_arg2)) →
    ∃ (v0 : (c : Dev Cert.MetaNormIdeal.nD) → Buf (Elt Ideal) ((c.tc : Thread Cert.MetaNormIdeal.nD Cert.MetaNormIdeal.τ).loc Cert.MetaNormIdeal.main_v17_0)) (v1 : (c : Dev Cert.MetaNormIdeal.nD) → Buf (Elt Ideal) ((c.tc : Thread Cert.MetaNormIdeal.nD Cert.MetaNormIdeal.τ).loc Cert.MetaNormIdeal.main_v17_1)),
      θ_run (Cert.MetaNormIdeal.defs (F := Ideal)) (onTc (τ := Cert.MetaNormIdeal.τ) (Cert.MetaNormIdeal.main (F := Ideal))) ⟨m, fun _ => 0, g⟩ (fun r => ∀ c : Dev Cert.MetaNormIdeal.nD,
          r.2.mem ((c.tc : Thread Cert.MetaNormIdeal.nD Cert.MetaNormIdeal.τ).loc Cert.MetaNormIdeal.main_v17_0) = v0 c
          ∧ r.2.mem ((c.tc : Thread Cert.MetaNormIdeal.nD Cert.MetaNormIdeal.τ).loc Cert.MetaNormIdeal.main_v17_1) = v1 c
          ∧ r.2.mem ((c.tc : Thread Cert.MetaNormIdeal.nD Cert.MetaNormIdeal.τ).loc Cert.MetaNormIdeal.main_arg0) = m ((c.tc : Thread Cert.MetaNormIdeal.nD Cert.MetaNormIdeal.τ).loc Cert.MetaNormIdeal.main_arg0)
          ∧ r.2.mem ((c.tc : Thread Cert.MetaNormIdeal.nD Cert.MetaNormIdeal.τ).loc Cert.MetaNormIdeal.main_arg1) = m ((c.tc : Thread Cert.MetaNormIdeal.nD Cert.MetaNormIdeal.τ).loc Cert.MetaNormIdeal.main_arg1)
          ∧ r.2.mem ((c.tc : Thread Cert.MetaNormIdeal.nD Cert.MetaNormIdeal.τ).loc Cert.MetaNormIdeal.main_arg2) = m ((c.tc : Thread Cert.MetaNormIdeal.nD Cert.MetaNormIdeal.τ).loc Cert.MetaNormIdeal.main_arg2))
      ∧ θ_run (Cert.MetaNormRefIdeal.defs (F := Ideal)) (onTc (τ := Cert.MetaNormRefIdeal.τ) (Cert.MetaNormRefIdeal.main (F := Ideal))) ⟨m', fun _ => 0, g'⟩ (fun r => ∀ c : Dev Cert.MetaNormRefIdeal.nD,
          r.2.mem ((c.tc : Thread Cert.MetaNormRefIdeal.nD Cert.MetaNormRefIdeal.τ).loc Cert.MetaNormRefIdeal.main_v1) = v0 c
          ∧ r.2.mem ((c.tc : Thread Cert.MetaNormRefIdeal.nD Cert.MetaNormRefIdeal.τ).loc Cert.MetaNormRefIdeal.main_v15) = v1 c
          ∧ r.2.mem ((c.tc : Thread Cert.MetaNormRefIdeal.nD Cert.MetaNormRefIdeal.τ).loc Cert.MetaNormRefIdeal.main_arg0) = m' ((c.tc : Thread Cert.MetaNormRefIdeal.nD Cert.MetaNormRefIdeal.τ).loc Cert.MetaNormRefIdeal.main_arg0)
          ∧ r.2.mem ((c.tc : Thread Cert.MetaNormRefIdeal.nD Cert.MetaNormRefIdeal.τ).loc Cert.MetaNormRefIdeal.main_arg1) = m' ((c.tc : Thread Cert.MetaNormRefIdeal.nD Cert.MetaNormRefIdeal.τ).loc Cert.MetaNormRefIdeal.main_arg1)
          ∧ r.2.mem ((c.tc : Thread Cert.MetaNormRefIdeal.nD Cert.MetaNormRefIdeal.τ).loc Cert.MetaNormRefIdeal.main_arg2) = m' ((c.tc : Thread Cert.MetaNormRefIdeal.nD Cert.MetaNormRefIdeal.τ).loc Cert.MetaNormRefIdeal.main_arg2))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)
      ∧ m' ((c.tc : Thread Cert.DownGradRefIdeal.nD Cert.DownGradRefIdeal.τ).loc Cert.DownGradRefIdeal.main_arg2) = m ((c.tc : Thread Cert.DownGradIdeal.nD Cert.DownGradIdeal.τ).loc Cert.DownGradIdeal.main_arg2)) →
    ∃ (v0 : (c : Dev Cert.DownGradIdeal.nD) → Buf (Elt Ideal) ((c.tc : Thread Cert.DownGradIdeal.nD Cert.DownGradIdeal.τ).loc Cert.DownGradIdeal.main_v4)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v4) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1)
          ∧ r.2.mem ((c.tc : Thread Cert.DownGradIdeal.nD Cert.DownGradIdeal.τ).loc Cert.DownGradIdeal.main_arg2) = m ((c.tc : Thread Cert.DownGradIdeal.nD Cert.DownGradIdeal.τ).loc Cert.DownGradIdeal.main_arg2))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v2) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1)
          ∧ r.2.mem ((c.tc : Thread Cert.DownGradRefIdeal.nD Cert.DownGradRefIdeal.τ).loc Cert.DownGradRefIdeal.main_arg2) = m' ((c.tc : Thread Cert.DownGradRefIdeal.nD Cert.DownGradRefIdeal.τ).loc Cert.DownGradRefIdeal.main_arg2))

def preserves_UpGrad_UpGradIdeal : Prop :=
  True

def algebraic_UpGradIdeal_UpGradRefIdeal [hUpGradIdeal : Cert.UpGradIdeal.Facts] [hUpGradRefIdeal : Cert.UpGradRefIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradRefIdeal.nD Cert.UpGradRefIdeal.τ Cert.UpGradRefIdeal.sig) → Buf (Elt Ideal) ℓ) (g' : Dev Cert.UpGradRefIdeal.nD → PrngReg), Pre_UpGradIdeal m →
    (∀ c : Dev Cert.UpGradIdeal.nD,
      m' ((c.tc : Thread Cert.UpGradRefIdeal.nD Cert.UpGradRefIdeal.τ).loc Cert.UpGradRefIdeal.main_arg0) = m ((c.tc : Thread Cert.UpGradIdeal.nD Cert.UpGradIdeal.τ).loc Cert.UpGradIdeal.main_arg0)
      ∧ m' ((c.tc : Thread Cert.UpGradRefIdeal.nD Cert.UpGradRefIdeal.τ).loc Cert.UpGradRefIdeal.main_arg1) = m ((c.tc : Thread Cert.UpGradIdeal.nD Cert.UpGradIdeal.τ).loc Cert.UpGradIdeal.main_arg1)
      ∧ m' ((c.tc : Thread Cert.UpGradRefIdeal.nD Cert.UpGradRefIdeal.τ).loc Cert.UpGradRefIdeal.main_arg2) = m ((c.tc : Thread Cert.UpGradIdeal.nD Cert.UpGradIdeal.τ).loc Cert.UpGradIdeal.main_arg2)) →
    ∃ (v0 : (c : Dev Cert.UpGradIdeal.nD) → Buf (Elt Ideal) ((c.tc : Thread Cert.UpGradIdeal.nD Cert.UpGradIdeal.τ).loc Cert.UpGradIdeal.main_v4)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v4) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
          ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2))
      ∧ θ_run (Cert.UpGradRefIdeal.defs (F := Ideal)) (onTc (τ := Cert.UpGradRefIdeal.τ) (Cert.UpGradRefIdeal.main (F := Ideal))) ⟨m', fun _ => 0, g'⟩ (fun r => ∀ c : Dev Cert.UpGradRefIdeal.nD,
          r.2.mem ((c.tc : Thread Cert.UpGradRefIdeal.nD Cert.UpGradRefIdeal.τ).loc Cert.UpGradRefIdeal.main_v4) = v0 c
          ∧ r.2.mem ((c.tc : Thread Cert.UpGradRefIdeal.nD Cert.UpGradRefIdeal.τ).loc Cert.UpGradRefIdeal.main_arg0) = m' ((c.tc : Thread Cert.UpGradRefIdeal.nD Cert.UpGradRefIdeal.τ).loc Cert.UpGradRefIdeal.main_arg0)
          ∧ r.2.mem ((c.tc : Thread Cert.UpGradRefIdeal.nD Cert.UpGradRefIdeal.τ).loc Cert.UpGradRefIdeal.main_arg1) = m' ((c.tc : Thread Cert.UpGradRefIdeal.nD Cert.UpGradRefIdeal.τ).loc Cert.UpGradRefIdeal.main_arg1)
          ∧ r.2.mem ((c.tc : Thread Cert.UpGradRefIdeal.nD Cert.UpGradRefIdeal.τ).loc Cert.UpGradRefIdeal.main_arg2) = m' ((c.tc : Thread Cert.UpGradRefIdeal.nD Cert.UpGradRefIdeal.τ).loc Cert.UpGradRefIdeal.main_arg2))

def preserves_UpBack_UpBackIdeal : Prop :=
  True

def algebraic_UpBackIdeal_UpBackRefIdeal [hUpBackIdeal : Cert.UpBackIdeal.Facts] [hUpBackRefIdeal : Cert.UpBackRefIdeal.Facts] : Prop :=
  ∀ (m : (ℓ : Loc Cert.UpBackIdeal.nD Cert.UpBackIdeal.τ Cert.UpBackIdeal.sig) → Buf (Elt Ideal) ℓ) (g : Dev Cert.UpBackIdeal.nD → PrngReg)
    (m' : (ℓ : Loc Cert.UpBackRefIdeal.nD Cert.UpBackRefIdeal.τ Cert.UpBackRefIdeal.sig) → Buf (Elt Ideal) ℓ) (g' : Dev Cert.UpBackRefIdeal.nD → PrngReg), Pre_UpBackIdeal m →
    (∀ c : Dev Cert.UpBackIdeal.nD,
      m' ((c.tc : Thread Cert.UpBackRefIdeal.nD Cert.UpBackRefIdeal.τ).loc Cert.UpBackRefIdeal.main_arg0) = m ((c.tc : Thread Cert.UpBackIdeal.nD Cert.UpBackIdeal.τ).loc Cert.UpBackIdeal.main_arg0)
      ∧ m' ((c.tc : Thread Cert.UpBackRefIdeal.nD Cert.UpBackRefIdeal.τ).loc Cert.UpBackRefIdeal.main_arg1) = m ((c.tc : Thread Cert.UpBackIdeal.nD Cert.UpBackIdeal.τ).loc Cert.UpBackIdeal.main_arg1)
      ∧ m' ((c.tc : Thread Cert.UpBackRefIdeal.nD Cert.UpBackRefIdeal.τ).loc Cert.UpBackRefIdeal.main_arg2) = m ((c.tc : Thread Cert.UpBackIdeal.nD Cert.UpBackIdeal.τ).loc Cert.UpBackIdeal.main_arg2)) →
    ∃ (v0 : (c : Dev Cert.UpBackIdeal.nD) → Buf (Elt Ideal) ((c.tc : Thread Cert.UpBackIdeal.nD Cert.UpBackIdeal.τ).loc Cert.UpBackIdeal.main_v5)),
      θ_run (Cert.UpBackIdeal.defs (F := Ideal)) (onTc (τ := Cert.UpBackIdeal.τ) (Cert.UpBackIdeal.main (F := Ideal))) ⟨m, fun _ => 0, g⟩ (fun r => ∀ c : Dev Cert.UpBackIdeal.nD,
          r.2.mem ((c.tc : Thread Cert.UpBackIdeal.nD Cert.UpBackIdeal.τ).loc Cert.UpBackIdeal.main_v5) = v0 c
          ∧ r.2.mem ((c.tc : Thread Cert.UpBackIdeal.nD Cert.UpBackIdeal.τ).loc Cert.UpBackIdeal.main_arg0) = m ((c.tc : Thread Cert.UpBackIdeal.nD Cert.UpBackIdeal.τ).loc Cert.UpBackIdeal.main_arg0)
          ∧ r.2.mem ((c.tc : Thread Cert.UpBackIdeal.nD Cert.UpBackIdeal.τ).loc Cert.UpBackIdeal.main_arg1) = m ((c.tc : Thread Cert.UpBackIdeal.nD Cert.UpBackIdeal.τ).loc Cert.UpBackIdeal.main_arg1)
          ∧ r.2.mem ((c.tc : Thread Cert.UpBackIdeal.nD Cert.UpBackIdeal.τ).loc Cert.UpBackIdeal.main_arg2) = m ((c.tc : Thread Cert.UpBackIdeal.nD Cert.UpBackIdeal.τ).loc Cert.UpBackIdeal.main_arg2))
      ∧ θ_run (Cert.UpBackRefIdeal.defs (F := Ideal)) (onTc (τ := Cert.UpBackRefIdeal.τ) (Cert.UpBackRefIdeal.main (F := Ideal))) ⟨m', fun _ => 0, g'⟩ (fun r => ∀ c : Dev Cert.UpBackRefIdeal.nD,
          r.2.mem ((c.tc : Thread Cert.UpBackRefIdeal.nD Cert.UpBackRefIdeal.τ).loc Cert.UpBackRefIdeal.main_v2) = v0 c
          ∧ r.2.mem ((c.tc : Thread Cert.UpBackRefIdeal.nD Cert.UpBackRefIdeal.τ).loc Cert.UpBackRefIdeal.main_arg0) = m' ((c.tc : Thread Cert.UpBackRefIdeal.nD Cert.UpBackRefIdeal.τ).loc Cert.UpBackRefIdeal.main_arg0)
          ∧ r.2.mem ((c.tc : Thread Cert.UpBackRefIdeal.nD Cert.UpBackRefIdeal.τ).loc Cert.UpBackRefIdeal.main_arg1) = m' ((c.tc : Thread Cert.UpBackRefIdeal.nD Cert.UpBackRefIdeal.τ).loc Cert.UpBackRefIdeal.main_arg1)
          ∧ r.2.mem ((c.tc : Thread Cert.UpBackRefIdeal.nD Cert.UpBackRefIdeal.τ).loc Cert.UpBackRefIdeal.main_arg2) = m' ((c.tc : Thread Cert.UpBackRefIdeal.nD Cert.UpBackRefIdeal.τ).loc Cert.UpBackRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg1) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def Claim : Prop :=
  ∃ (hReluSquare : Cert.ReluSquare.Facts) (hReluSquareIdeal : Cert.ReluSquareIdeal.Facts) (hReluSquareRefIdeal : Cert.ReluSquareRefIdeal.Facts) (hGates : Cert.Gates.Facts) (hGatesIdeal : Cert.GatesIdeal.Facts) (hGatesRefIdeal : Cert.GatesRefIdeal.Facts) (hConvNorm : Cert.ConvNorm.Facts) (hConvNormIdeal : Cert.ConvNormIdeal.Facts) (hConvNormRefIdeal : Cert.ConvNormRefIdeal.Facts) (hGluConv : Cert.GluConv.Facts) (hGluConvIdeal : Cert.GluConvIdeal.Facts) (hGluConvRefIdeal : Cert.GluConvRefIdeal.Facts) (hMidNorm : Cert.MidNorm.Facts) (hMidNormIdeal : Cert.MidNormIdeal.Facts) (hMidNormRefIdeal : Cert.MidNormRefIdeal.Facts) (hLoss : Cert.Loss.Facts) (hLossIdeal : Cert.LossIdeal.Facts) (hLossRefIdeal : Cert.LossRefIdeal.Facts) (hPreNorm : Cert.PreNorm.Facts) (hPreNormIdeal : Cert.PreNormIdeal.Facts) (hPreNormRefIdeal : Cert.PreNormRefIdeal.Facts) (hPool : Cert.Pool.Facts) (hPoolIdeal : Cert.PoolIdeal.Facts) (hPoolRefIdeal : Cert.PoolRefIdeal.Facts) (hConvSwish : Cert.ConvSwish.Facts) (hConvSwishIdeal : Cert.ConvSwishIdeal.Facts) (hConvSwishRefIdeal : Cert.ConvSwishRefIdeal.Facts) (hTwoNorms : Cert.TwoNorms.Facts) (hTwoNormsIdeal : Cert.TwoNormsIdeal.Facts) (hTwoNormsRefIdeal : Cert.TwoNormsRefIdeal.Facts) (hReluUp : Cert.ReluUp.Facts) (hReluUpIdeal : Cert.ReluUpIdeal.Facts) (hReluUpRefIdeal : Cert.ReluUpRefIdeal.Facts) (hMix : Cert.Mix.Facts) (hMixIdeal : Cert.MixIdeal.Facts) (hMixRefIdeal : Cert.MixRefIdeal.Facts) (hTokenNorm : Cert.TokenNorm.Facts) (hTokenNormIdeal : Cert.TokenNormIdeal.Facts) (hTokenNormRefIdeal : Cert.TokenNormRefIdeal.Facts) (hPooled : Cert.Pooled.Facts) (hPooledIdeal : Cert.PooledIdeal.Facts) (hPooledRefIdeal : Cert.PooledRefIdeal.Facts) (hMetaNorm : Cert.MetaNorm.Facts) (hMetaNormIdeal : Cert.MetaNormIdeal.Facts) (hMetaNormRefIdeal : Cert.MetaNormRefIdeal.Facts) (hDownGrad : Cert.DownGrad.Facts) (hDownGradIdeal : Cert.DownGradIdeal.Facts) (hDownGradRefIdeal : Cert.DownGradRefIdeal.Facts) (hUpGrad : Cert.UpGrad.Facts) (hUpGradIdeal : Cert.UpGradIdeal.Facts) (hUpGradRefIdeal : Cert.UpGradRefIdeal.Facts) (hUpBack : Cert.UpBack.Facts) (hUpBackIdeal : Cert.UpBackIdeal.Facts) (hUpBackRefIdeal : Cert.UpBackRefIdeal.Facts) (hDown : Cert.Down.Facts) (hDownIdeal : Cert.DownIdeal.Facts) (hDownRefIdeal : Cert.DownRefIdeal.Facts) (hAdam : Cert.Adam.Facts) (hAdamIdeal : Cert.AdamIdeal.Facts) (hAdamRefIdeal : Cert.AdamRefIdeal.Facts) (hPre_conv_norm_finite : Cert.Pre_conv_norm_finite.Facts) (hPre_mid_norm_finite : Cert.Pre_mid_norm_finite.Facts) (hPre_loss_finite : Cert.Pre_loss_finite.Facts) (hPre_pre_norm_finite : Cert.Pre_pre_norm_finite.Facts) (hPre_pool_finite : Cert.Pre_pool_finite.Facts) (hPre_pooled_finite : Cert.Pre_pooled_finite.Facts),
    quiescent_ReluSquare (hReluSquare := hReluSquare)
    ∧ quiescent_ReluSquareIdeal (hReluSquareIdeal := hReluSquareIdeal)
    ∧ quiescent_ReluSquareRefIdeal (hReluSquareRefIdeal := hReluSquareRefIdeal)
    ∧ quiescent_Gates (hGates := hGates)
    ∧ quiescent_GatesIdeal (hGatesIdeal := hGatesIdeal)
    ∧ quiescent_GatesRefIdeal (hGatesRefIdeal := hGatesRefIdeal)
    ∧ quiescent_ConvNorm (hConvNorm := hConvNorm)
    ∧ quiescent_ConvNormIdeal (hConvNormIdeal := hConvNormIdeal)
    ∧ quiescent_ConvNormIdeal_pre_conv_norm_finite (hConvNormIdeal := hConvNormIdeal) (hPre_conv_norm_finite := hPre_conv_norm_finite)
    ∧ quiescent_ConvNormRefIdeal (hConvNormRefIdeal := hConvNormRefIdeal)
    ∧ quiescent_ConvNormRefIdeal_pre_conv_norm_finite (hConvNormRefIdeal := hConvNormRefIdeal) (hPre_conv_norm_finite := hPre_conv_norm_finite)
    ∧ quiescent_GluConv (hGluConv := hGluConv)
    ∧ quiescent_GluConvIdeal (hGluConvIdeal := hGluConvIdeal)
    ∧ quiescent_GluConvRefIdeal (hGluConvRefIdeal := hGluConvRefIdeal)
    ∧ quiescent_MidNorm (hMidNorm := hMidNorm)
    ∧ quiescent_MidNormIdeal (hMidNormIdeal := hMidNormIdeal)
    ∧ quiescent_MidNormIdeal_pre_mid_norm_finite (hMidNormIdeal := hMidNormIdeal) (hPre_mid_norm_finite := hPre_mid_norm_finite)
    ∧ quiescent_MidNormRefIdeal (hMidNormRefIdeal := hMidNormRefIdeal)
    ∧ quiescent_MidNormRefIdeal_pre_mid_norm_finite (hMidNormRefIdeal := hMidNormRefIdeal) (hPre_mid_norm_finite := hPre_mid_norm_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_PreNorm (hPreNorm := hPreNorm)
    ∧ quiescent_PreNormIdeal (hPreNormIdeal := hPreNormIdeal)
    ∧ quiescent_PreNormIdeal_pre_pre_norm_finite (hPreNormIdeal := hPreNormIdeal) (hPre_pre_norm_finite := hPre_pre_norm_finite)
    ∧ quiescent_PreNormRefIdeal (hPreNormRefIdeal := hPreNormRefIdeal)
    ∧ quiescent_PreNormRefIdeal_pre_pre_norm_finite (hPreNormRefIdeal := hPreNormRefIdeal) (hPre_pre_norm_finite := hPre_pre_norm_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_ConvSwish (hConvSwish := hConvSwish)
    ∧ quiescent_ConvSwishIdeal (hConvSwishIdeal := hConvSwishIdeal)
    ∧ quiescent_ConvSwishRefIdeal (hConvSwishRefIdeal := hConvSwishRefIdeal)
    ∧ quiescent_TwoNorms (hTwoNorms := hTwoNorms)
    ∧ quiescent_TwoNormsIdeal (hTwoNormsIdeal := hTwoNormsIdeal)
    ∧ quiescent_TwoNormsRefIdeal (hTwoNormsRefIdeal := hTwoNormsRefIdeal)
    ∧ quiescent_ReluUp (hReluUp := hReluUp)
    ∧ quiescent_ReluUpIdeal (hReluUpIdeal := hReluUpIdeal)
    ∧ quiescent_ReluUpRefIdeal (hReluUpRefIdeal := hReluUpRefIdeal)
    ∧ quiescent_Mix (hMix := hMix)
    ∧ quiescent_MixIdeal (hMixIdeal := hMixIdeal)
    ∧ quiescent_MixRefIdeal (hMixRefIdeal := hMixRefIdeal)
    ∧ quiescent_TokenNorm (hTokenNorm := hTokenNorm)
    ∧ quiescent_TokenNormIdeal (hTokenNormIdeal := hTokenNormIdeal)
    ∧ quiescent_TokenNormRefIdeal (hTokenNormRefIdeal := hTokenNormRefIdeal)
    ∧ quiescent_Pooled (hPooled := hPooled)
    ∧ quiescent_PooledIdeal (hPooledIdeal := hPooledIdeal)
    ∧ quiescent_PooledIdeal_pre_pooled_finite (hPooledIdeal := hPooledIdeal) (hPre_pooled_finite := hPre_pooled_finite)
    ∧ quiescent_PooledRefIdeal (hPooledRefIdeal := hPooledRefIdeal)
    ∧ quiescent_PooledRefIdeal_pre_pooled_finite (hPooledRefIdeal := hPooledRefIdeal) (hPre_pooled_finite := hPre_pooled_finite)
    ∧ quiescent_MetaNorm (hMetaNorm := hMetaNorm)
    ∧ quiescent_MetaNormIdeal (hMetaNormIdeal := hMetaNormIdeal)
    ∧ quiescent_MetaNormRefIdeal (hMetaNormRefIdeal := hMetaNormRefIdeal)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_UpGrad (hUpGrad := hUpGrad)
    ∧ quiescent_UpGradIdeal (hUpGradIdeal := hUpGradIdeal)
    ∧ quiescent_UpGradRefIdeal (hUpGradRefIdeal := hUpGradRefIdeal)
    ∧ quiescent_UpBack (hUpBack := hUpBack)
    ∧ quiescent_UpBackIdeal (hUpBackIdeal := hUpBackIdeal)
    ∧ quiescent_UpBackRefIdeal (hUpBackRefIdeal := hUpBackRefIdeal)
    ∧ quiescent_Down (hDown := hDown)
    ∧ quiescent_DownIdeal (hDownIdeal := hDownIdeal)
    ∧ quiescent_DownRefIdeal (hDownRefIdeal := hDownRefIdeal)
    ∧ quiescent_Adam (hAdam := hAdam)
    ∧ quiescent_AdamIdeal (hAdamIdeal := hAdamIdeal)
    ∧ quiescent_AdamRefIdeal (hAdamRefIdeal := hAdamRefIdeal)
    ∧ preserves_ReluSquare_ReluSquareIdeal
    ∧ algebraic_ReluSquareIdeal_ReluSquareRefIdeal (hReluSquareIdeal := hReluSquareIdeal) (hReluSquareRefIdeal := hReluSquareRefIdeal)
    ∧ preserves_Gates_GatesIdeal
    ∧ algebraic_GatesIdeal_GatesRefIdeal (hGatesIdeal := hGatesIdeal) (hGatesRefIdeal := hGatesRefIdeal)
    ∧ preserves_ConvNorm_ConvNormIdeal
    ∧ algebraic_ConvNormIdeal_ConvNormRefIdeal_pre_conv_norm_finite (hConvNormIdeal := hConvNormIdeal) (hConvNormRefIdeal := hConvNormRefIdeal) (hPre_conv_norm_finite := hPre_conv_norm_finite)
    ∧ preserves_GluConv_GluConvIdeal
    ∧ algebraic_GluConvIdeal_GluConvRefIdeal (hGluConvIdeal := hGluConvIdeal) (hGluConvRefIdeal := hGluConvRefIdeal)
    ∧ preserves_MidNorm_MidNormIdeal
    ∧ algebraic_MidNormIdeal_MidNormRefIdeal_pre_mid_norm_finite (hMidNormIdeal := hMidNormIdeal) (hMidNormRefIdeal := hMidNormRefIdeal) (hPre_mid_norm_finite := hPre_mid_norm_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_PreNorm_PreNormIdeal
    ∧ algebraic_PreNormIdeal_PreNormRefIdeal_pre_pre_norm_finite (hPreNormIdeal := hPreNormIdeal) (hPreNormRefIdeal := hPreNormRefIdeal) (hPre_pre_norm_finite := hPre_pre_norm_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_ConvSwish_ConvSwishIdeal
    ∧ algebraic_ConvSwishIdeal_ConvSwishRefIdeal (hConvSwishIdeal := hConvSwishIdeal) (hConvSwishRefIdeal := hConvSwishRefIdeal)
    ∧ preserves_TwoNorms_TwoNormsIdeal
    ∧ algebraic_TwoNormsIdeal_TwoNormsRefIdeal (hTwoNormsIdeal := hTwoNormsIdeal) (hTwoNormsRefIdeal := hTwoNormsRefIdeal)
    ∧ preserves_ReluUp_ReluUpIdeal
    ∧ algebraic_ReluUpIdeal_ReluUpRefIdeal (hReluUpIdeal := hReluUpIdeal) (hReluUpRefIdeal := hReluUpRefIdeal)
    ∧ preserves_Mix_MixIdeal
    ∧ algebraic_MixIdeal_MixRefIdeal (hMixIdeal := hMixIdeal) (hMixRefIdeal := hMixRefIdeal)
    ∧ preserves_TokenNorm_TokenNormIdeal
    ∧ algebraic_TokenNormIdeal_TokenNormRefIdeal (hTokenNormIdeal := hTokenNormIdeal) (hTokenNormRefIdeal := hTokenNormRefIdeal)
    ∧ preserves_Pooled_PooledIdeal
    ∧ algebraic_PooledIdeal_PooledRefIdeal_pre_pooled_finite (hPooledIdeal := hPooledIdeal) (hPooledRefIdeal := hPooledRefIdeal) (hPre_pooled_finite := hPre_pooled_finite)
    ∧ preserves_MetaNorm_MetaNormIdeal
    ∧ algebraic_MetaNormIdeal_MetaNormRefIdeal (hMetaNormIdeal := hMetaNormIdeal) (hMetaNormRefIdeal := hMetaNormRefIdeal)
    ∧ preserves_DownGrad_DownGradIdeal
    ∧ algebraic_DownGradIdeal_DownGradRefIdeal (hDownGradIdeal := hDownGradIdeal) (hDownGradRefIdeal := hDownGradRefIdeal)
    ∧ preserves_UpGrad_UpGradIdeal
    ∧ algebraic_UpGradIdeal_UpGradRefIdeal (hUpGradIdeal := hUpGradIdeal) (hUpGradRefIdeal := hUpGradRefIdeal)
    ∧ preserves_UpBack_UpBackIdeal
    ∧ algebraic_UpBackIdeal_UpBackRefIdeal (hUpBackIdeal := hUpBackIdeal) (hUpBackRefIdeal := hUpBackRefIdeal)
    ∧ preserves_Down_DownIdeal
    ∧ algebraic_DownIdeal_DownRefIdeal (hDownIdeal := hDownIdeal) (hDownRefIdeal := hDownRefIdeal)
    ∧ preserves_Adam_AdamIdeal
    ∧ algebraic_AdamIdeal_AdamRefIdeal (hAdamIdeal := hAdamIdeal) (hAdamRefIdeal := hAdamRefIdeal)
-- ==== Pre_conv_norm_finite.lean ====
abbrev S2064x1024 : Shape := ⟨2, ![2064, 1024]⟩
abbrev S1x1024 : Shape := ⟨2, ![1, 1024]⟩
abbrev S_ : Shape := ⟨0, ![]⟩

class Facts : Prop where
  bcast_S_S2064x1024 : S_.BroadcastsInDim S2064x1024 (![] : Fin 0 → Fin S2064x1024.rank)
  bcast_S_S1x1024 : S_.BroadcastsInDim S1x1024 (![] : Fin 0 → Fin S1x1024.rank)

variable [Facts]

def fn {F : FTy → Type} [FloatOps F] (main_arg0 : FVec F S2064x1024 .f32) (main_arg1 : FVec F S1x1024 .f32) (main_arg2 : FVec F S1x1024 .f32) (main_arg3 : FVec F S1x1024 .f32) (main_arg4 : FVec F S2064x1024 .f32) : IVec S2064x1024 1 × IVec S1x1024 1 × IVec S1x1024 1 × IVec S1x1024 1 × IVec S2064x1024 1 :=
  let main_v0 : FVec F S2064x1024 .f32 := Host.absf main_arg0
  let main_cst : FVec F S_ .f32 := constant S_ .f32 0x7F800000#32
  let main_v1 : FVec F S2064x1024 .f32 := broadcastInDim S2064x1024 ![] bcast_S_S2064x1024 main_cst
  let main_v2 : IVec S2064x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S2064x1024 .f32 := Host.absf main_arg4
  let main_cst_3 : FVec F S_ .f32 := constant S_ .f32 0x7F800000#32
  let main_v13 : FVec F S2064x1024 .f32 := broadcastInDim S2064x1024 ![] bcast_S_S2064x1024 main_cst_3
  let main_v14 : IVec S2064x1024 1 := cmpf .olt main_v12 main_v13
  (main_v2, main_v5, main_v8, main_v11, main_v14)
-- ==== Pre_loss_finite.lean ====
abbrev S2064x2048 : Shape := ⟨2, ![2064, 2048]⟩
abbrev S2048 : Shape := ⟨1, ![2048]⟩
abbrev S2048x2048 : Shape := ⟨2, ![2048, 2048]⟩
abbrev S_ : Shape := ⟨0, ![]⟩

class Facts : Prop where
  bcast_S_S2064x2048 : S_.BroadcastsInDim S2064x2048 (![] : Fin 0 → Fin S2064x2048.rank)
  bcast_S_S2048 : S_.BroadcastsInDim S2048 (![] : Fin 0 → Fin S2048.rank)
  bcast_S_S2048x2048 : S_.BroadcastsInDim S2048x2048 (![] : Fin 0 → Fin S2048x2048.rank)

variable [Facts]

def fn {F : FTy → Type} [FloatOps F] (main_arg0 : FVec F S2064x2048 .f32) (main_arg1 : FVec F S2064x2048 .f32) (main_arg2 : FVec F S2048 .f32) (main_arg3 : FVec F S2048x2048 .f32) : IVec S2064x2048 1 × IVec S2064x2048 1 × IVec S2048 1 × IVec S2048x2048 1 :=
  let main_v0 : FVec F S2064x2048 .f32 := Host.absf main_arg0
  let main_cst : FVec F S_ .f32 := constant S_ .f32 0x7F800000#32
  let main_v1 : FVec F S2064x2048 .f32 := broadcastInDim S2064x2048 ![] bcast_S_S2064x2048 main_cst
  let main_v2 : IVec S2064x2048 1 := cmpf .olt main_v0 main_v1
  let main_v3 : FVec F S2064x2048 .f32 := Host.absf main_arg1
  let main_cst_0 : FVec F S_ .f32 := constant S_ .f32 0x7F800000#32
  let main_v4 : FVec F S2064x2048 .f32 := broadcastInDim S2064x2048 ![] bcast_S_S2064x2048 main_cst_0
  let main_v5 : IVec S2064x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  (main_v2, main_v5, main_v8, main_v11)
-- ==== Pre_mid_norm_finite.lean ====
abbrev S2064x2048 : Shape := ⟨2, ![2064, 2048]⟩
abbrev S2048 : Shape := ⟨1, ![2048]⟩
abbrev S_ : Shape := ⟨0, ![]⟩

class Facts : Prop where
  bcast_S_S2064x2048 : S_.BroadcastsInDim S2064x2048 (![] : Fin 0 → Fin S2064x2048.rank)
  bcast_S_S2048 : S_.BroadcastsInDim S2048 (![] : Fin 0 → Fin S2048.rank)

variable [Facts]

def fn {F : FTy → Type} [FloatOps F] (main_arg0 : FVec F S2064x2048 .f32) (main_arg1 : FVec F S2064x2048 .f32) (main_arg2 : FVec F S2048 .f32) (main_arg3 : FVec F S2048 .f32) (main_arg4 : FVec F S2064x2048 .f32) (main_arg5 : FVec F S2064x2048 .f32) : IVec S2064x2048 1 × IVec S2064x2048 1 × IVec S2048 1 × IVec S2048 1 × IVec S2064x2048 1 × IVec S2064x2048 1 :=
  let main_v0 : FVec F S2064x2048 .f32 := Host.absf main_arg0
  let main_cst : FVec F S_ .f32 := constant S_ .f32 0x7F800000#32
  let main_v1 : FVec F S2064x2048 .f32 := broadcastInDim S2064x2048 ![] bcast_S_S2064x2048 main_cst
  let main_v2 : IVec S2064x2048 1 := cmpf .olt main_v0 main_v1
  let main_v3 : FVec F S2064x2048 .f32 := Host.absf main_arg1
  let main_cst_0 : FVec F S_ .f32 := constant S_ .f32 0x7F800000#32
  let main_v4 : FVec F S2064x2048 .f32 := broadcastInDim S2064x2048 ![] bcast_S_S2064x2048 main_cst_0
  let main_v5 : IVec S2064x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S2064x2048 .f32 := Host.absf main_arg4
  let main_cst_3 : FVec F S_ .f32 := constant S_ .f32 0x7F800000#32
  let main_v13 : FVec F S2064x2048 .f32 := broadcastInDim S2064x2048 ![] bcast_S_S2064x2048 main_cst_3
  let main_v14 : IVec S2064x2048 1 := cmpf .olt main_v12 main_v13
  let main_v15 : FVec F S2064x2048 .f32 := Host.absf main_arg5
  let main_cst_4 : FVec F S_ .f32 := constant S_ .f32 0x7F800000#32
  let main_v16 : FVec F S2064x2048 .f32 := broadcastInDim S2064x2048 ![] bcast_S_S2064x2048 main_cst_4
  let main_v17 : IVec S2064x2048 1 := cmpf .olt main_v15 main_v16
  (main_v2, main_v5, main_v8, main_v11, main_v14, main_v17)
-- ==== Pre_pool_finite.lean ====
abbrev S2064x1024 : Shape := ⟨2, ![2064, 1024]⟩
abbrev S4x256x256 : Shape := ⟨3, ![4, 256, 256]⟩
abbrev S1024 : Shape := ⟨1, ![1024]⟩
abbrev S_ : Shape := ⟨0, ![]⟩

class Facts : Prop where
  bcast_S_S4x256x256 : S_.BroadcastsInDim S4x256x256 (![] : Fin 0 → Fin S4x256x256.rank)
  bcast_S_S1024 : S_.BroadcastsInDim S1024 (![] : Fin 0 → Fin S1024.rank)
  bcast_S_S2064x1024 : S_.BroadcastsInDim S2064x1024 (![] : Fin 0 → Fin S2064x1024.rank)

variable [Facts]

def fn {F : FTy → Type} [FloatOps F] (main_arg0 : FVec F S2064x1024 .f32) (main_arg1 : FVec F S4x256x256 .f32) (main_arg2 : FVec F S1024 .f32) (main_arg3 : FVec F S2064x1024 .f32) : IVec S4x256x256 1 × IVec S1024 1 × IVec S2064x1024 1 :=
  let main_v0 : FVec F S4x256x256 .f32 := Host.absf main_arg1
  let main_cst : FVec F S_ .f32 := constant S_ .f32 0x7F800000#32
  let main_v1 : FVec F S4x256x256 .f32 := broadcastInDim S4x256x256 ![] bcast_S_S4x256x256 main_cst
  let main_v2 : IVec S4x256x256 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S2064x1024 .f32 := Host.absf main_arg3
  let main_cst_1 : FVec F S_ .f32 := constant S_ .f32 0x7F800000#32
  let main_v7 : FVec F S2064x1024 .f32 := broadcastInDim S2064x1024 ![] bcast_S_S2064x1024 main_cst_1
  let main_v8 : IVec S2064x1024 1 := cmpf .olt main_v6 main_v7
  (main_v2, main_v5, main_v8)
-- ==== Pre_pooled_finite.lean ====
abbrev S2064x1024 : Shape := ⟨2, ![2064, 1024]⟩
abbrev S4x256x256 : Shape := ⟨3, ![4, 256, 256]⟩
abbrev S1024 : Shape := ⟨1, ![1024]⟩
abbrev S_ : Shape := ⟨0, ![]⟩

class Facts : Prop where
  bcast_S_S2064x1024 : S_.BroadcastsInDim S2064x1024 (![] : Fin 0 → Fin S2064x1024.rank)

variable [Facts]

def fn {F : FTy → Type} [FloatOps F] (main_arg0 : FVec F S2064x1024 .f32) (main_arg1 : FVec F S4x256x256 .f32) (main_arg2 : FVec F S1024 .f32) : IVec S2064x1024 1 :=
  let main_v0 : FVec F S2064x1024 .f32 := Host.absf main_arg0
  let main_cst : FVec F S_ .f32 := constant S_ .f32 0x7F800000#32
  let main_v1 : FVec F S2064x1024 .f32 := broadcastInDim S2064x1024 ![] bcast_S_S2064x1024 main_cst
  let main_v2 : IVec S2064x1024 1 := cmpf .olt main_v0 main_v1
  main_v2
-- ==== Pre_pre_norm_finite.lean ====
abbrev S2048x2048 : Shape := ⟨2, ![2048, 2048]⟩
abbrev S16x2048 : Shape := ⟨2, ![16, 2048]⟩
abbrev S2048 : Shape := ⟨1, ![2048]⟩
abbrev S2064x2048 : Shape := ⟨2, ![2064, 2048]⟩
abbrev S_ : Shape := ⟨0, ![]⟩

class Facts : Prop where
  bcast_S_S2048x2048 : S_.BroadcastsInDim S2048x2048 (![] : Fin 0 → Fin S2048x2048.rank)
  bcast_S_S16x2048 : S_.BroadcastsInDim S16x2048 (![] : Fin 0 → Fin S16x2048.rank)
  bcast_S_S2048 : S_.BroadcastsInDim S2048 (![] : Fin 0 → Fin S2048.rank)
  bcast_S_S2064x2048 : S_.BroadcastsInDim S2064x2048 (![] : Fin 0 → Fin S2064x2048.rank)

variable [Facts]

def fn {F : FTy → Type} [FloatOps F] (main_arg0 : FVec F S2048x2048 .f32) (main_arg1 : FVec F S16x2048 .f32) (main_arg2 : FVec F S2048 .f32) (main_arg3 : FVec F S2064x2048 .f32) (main_arg4 : FVec F S2064x2048 .f32) : IVec S2048x2048 1 × IVec S16x2048 1 × IVec S2048 1 × IVec S2064x2048 1 × IVec S2064x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S16x2048 .f32 := Host.absf main_arg1
  let main_cst_0 : FVec F S_ .f32 := constant S_ .f32 0x7F800000#32
  let main_v4 : FVec F S16x2048 .f32 := broadcastInDim S16x2048 ![] bcast_S_S16x2048 main_cst_0
  let main_v5 : IVec S16x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S2064x2048 .f32 := Host.absf main_arg3
  let main_cst_2 : FVec F S_ .f32 := constant S_ .f32 0x7F800000#32
  let main_v10 : FVec F S2064x2048 .f32 := broadcastInDim S2064x2048 ![] bcast_S_S2064x2048 main_cst_2
  let main_v11 : IVec S2064x2048 1 := cmpf .olt main_v9 main_v10
  let main_v12 : FVec F S2064x2048 .f32 := Host.absf main_arg4
  let main_cst_3 : FVec F S_ .f32 := constant S_ .f32 0x7F800000#32
  let main_v13 : FVec F S2064x2048 .f32 := broadcastInDim S2064x2048 ![] bcast_S_S2064x2048 main_cst_3
  let main_v14 : IVec S2064x2048 1 := cmpf .olt main_v12 main_v13
  (main_v2, main_v5, main_v8, main_v11, main_v14)
-- ==== ReluSquare.lean ====
abbrev S2064x8192 : Shape := ⟨2, ![2064, 8192]⟩
abbrev S8192x2048 : Shape := ⟨2, ![8192, 2048]⟩
abbrev S2064x2048 : Shape := ⟨2, ![2064, 2048]⟩
abbrev S_ : Shape := ⟨0, ![]⟩
abbrev S2176x2048 : Shape := ⟨2, ![2176, 2048]⟩
abbrev S2176x8192 : Shape := ⟨2, ![2176, 8192]⟩
abbrev S1088x2048 : Shape := ⟨2, ![1088, 2048]⟩
abbrev S1024x2048 : Shape := ⟨2, ![1024, 2048]⟩
abbrev S1088x1024 : Shape := ⟨2, ![1088, 1024]⟩

abbrev nBuf : Space → Nat
  | .hbm => 13
  | .vmem => 8
  | .smem => 0
  | _ => 0

abbrev bufTy : (tb : Table) → Fin (tcTables nBuf tb) → BufTy
  | .hbm, ⟨0, _⟩ => ⟨S2064x8192, .f32⟩
  | .hbm, ⟨1, _⟩ => ⟨S8192x2048, .f32⟩
  | .hbm, ⟨2, _⟩ => ⟨S2064x2048, .f32⟩
  | .hbm, ⟨3, _⟩ => ⟨S_, .i32⟩
  | .hbm, ⟨4, _⟩ => ⟨S_, .f32⟩
  | .hbm, ⟨5, _⟩ => ⟨S2176x2048, .f32⟩
  | .hbm, ⟨6, _⟩ => ⟨S2176x2048, .bf16⟩
  | .hbm, ⟨7, _⟩ => ⟨S8192x2048, .bf16⟩
  | .hbm, ⟨8, _⟩ => ⟨S_, .i32⟩
  | .hbm, ⟨9, _⟩ => ⟨S_, .f32⟩
  | .hbm, ⟨10, _⟩ => ⟨S2176x8192, .f32⟩
  | .hbm, ⟨11, _⟩ => ⟨S2176x8192, .bf16⟩
  | .hbm, ⟨12, _⟩ => ⟨S2176x8192, .bf16⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .bf16⟩
  | .local _ .vmem, ⟨7, _⟩ => ⟨S1088x1024, .bf16⟩
  | _, _ => ⟨S2064x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReluSquareRefIdeal.lean ====
abbrev S2064x8192 : Shape := ⟨2, ![2064, 8192]⟩
abbrev S8192x2048 : Shape := ⟨2, ![8192, 2048]⟩
abbrev S2064x2048 : Shape := ⟨2, ![2064, 2048]⟩
abbrev S_ : Shape := ⟨0, ![]⟩
abbrev S2176x8192 : Shape := ⟨2, ![2176, 8192]⟩

abbrev nBuf : Space → Nat
  | .hbm => 25
  | .vmem => 0
  | .smem => 0
  | _ => 0

abbrev bufTy : (tb : Table) → Fin (tcTables nBuf tb) → BufTy
  | .hbm, ⟨0, _⟩ => ⟨S2064x8192, .f32⟩
  | .hbm, ⟨1, _⟩ => ⟨S8192x2048, .f32⟩
  | .hbm, ⟨2, _⟩ => ⟨S2064x2048, .f32⟩
  | .hbm, ⟨3, _⟩ => ⟨S_, .f32⟩
  | .hbm, ⟨4, _⟩ => ⟨S2064x8192, .f32⟩
  | .hbm, ⟨5, _⟩ => ⟨S2064x8192, .f32⟩
  | .hbm, ⟨6, _⟩ => ⟨S_, .f32⟩
  | .hbm, ⟨7, _⟩ => ⟨S2064x8192, .f32⟩
  | .hbm, ⟨8, _⟩ => ⟨S2064x8192, .i1⟩
  | .hbm, ⟨9, _⟩ => ⟨S_, .f32⟩
  | .hbm, ⟨10, _⟩ => ⟨S2064x8192, .f32⟩
  | .hbm, ⟨11, _⟩ => ⟨S2064x8192, .f32⟩
  | .hbm, ⟨12, _⟩ => ⟨S_, .f32⟩
  | .hbm, ⟨13, _⟩ => ⟨S2064x8192, .f32⟩
  | .hbm, ⟨14, _⟩ => ⟨S2064x8192, .f32⟩
  | .hbm, ⟨15, _⟩ => ⟨S2064x2048, .f32⟩
  | .hbm, ⟨16, _⟩ => ⟨S2064x8192, .f32⟩
  | .hbm, ⟨17, _⟩ => ⟨S2064x8192, .f32⟩
  | .hbm, ⟨18, _⟩ => ⟨S_, .f32⟩
  | .hbm, ⟨19, _⟩ => ⟨S2064x8192, .f32⟩
  | .hbm, ⟨20, _⟩ => ⟨S2064x8192, .f32⟩
  | .hbm, ⟨21, _⟩ => ⟨S_, .i32⟩
  | .hbm, ⟨22, _⟩ => ⟨S_, .f32⟩
  | .hbm, ⟨23, _⟩ => ⟨S2176x8192, .f32⟩
  | .hbm, ⟨24, _⟩ => ⟨S2176x8192, .bf16⟩
  | _, _ => ⟨S2064x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== Gates.lean ====
abbrev S2064x4096 : Shape := ⟨2, ![2064, 4096]⟩
abbrev S2064x2048 : Shape := ⟨2, ![2064, 2048]⟩
abbrev S2048x2048 : Shape := ⟨2, ![2048, 2048]⟩
abbrev S_ : Shape := ⟨0, ![]⟩
abbrev S2176x2048 : Shape := ⟨2, ![2176, 2048]⟩
abbrev S2176x4096 : Shape := ⟨2, ![2176, 4096]⟩
abbrev S544x2048 : Shape := ⟨2, ![544, 2048]⟩
abbrev S512x2048 : Shape := ⟨2, ![512, 2048]⟩
abbrev S544x512 : Shape := ⟨2, ![544, 512]⟩

abbrev nBuf : Space → Nat
  | .hbm => 26
  | .vmem => 20
  | .smem => 0
  | _ => 0

abbrev bufTy : (tb : Table) → Fin (tcTables nBuf tb) → BufTy
  | .hbm, ⟨0, _⟩ => ⟨S2064x4096, .f32⟩
  | .hbm, ⟨1, _⟩ => ⟨S2064x2048, .f32⟩
  | .hbm, ⟨2, _⟩ => ⟨S2064x2048, .f32⟩
  | .hbm, ⟨3, _⟩ => ⟨S2048x2048, .f32⟩
  | .hbm, ⟨4, _⟩ => ⟨S2064x2048, .f32⟩
  | .hbm, ⟨5, _⟩ => ⟨S_, .i32⟩
  | .hbm, ⟨6, _⟩ => ⟨S_, .f32⟩
  | .hbm, ⟨7, _⟩ => ⟨S2176x2048, .f32⟩
  | .hbm, ⟨8, _⟩ => ⟨S2176x2048, .bf16⟩
  | .hbm, ⟨9, _⟩ => ⟨S2048x2048, .bf16⟩
  | .hbm, ⟨10, _⟩ => ⟨S_, .i32⟩
  | .hbm, ⟨11, _⟩ => ⟨S_, .f32⟩
  | .hbm, ⟨12, _⟩ => ⟨S2176x4096, .f32⟩
  | .hbm, ⟨13, _⟩ => ⟨S2176x4096, .bf16⟩
  | .hbm, ⟨14, _⟩ => ⟨S_, .i32⟩
  | .hbm, ⟨15, _⟩ => ⟨S_, .f32⟩
  | .hbm, ⟨16, _⟩ => ⟨S2176x2048, .f32⟩
  | .hbm, ⟨17, _⟩ => ⟨S2176x2048, .bf16⟩
  | .hbm, ⟨18, _⟩ => ⟨S_, .i32⟩
  | .hbm, ⟨19, _⟩ => ⟨S_, .f32⟩
  | .hbm, ⟨20, _⟩ => ⟨S2176x2048, .f32⟩
  | .hbm, ⟨21, _⟩ => ⟨S2176x2048, .bf16⟩
  | .hbm, ⟨22, _⟩ => ⟨S2176x2048, .bf16⟩
  | .hbm, ⟨23, _⟩ => ⟨S2176x2048, .bf16⟩
  | .hbm, ⟨24, _⟩ => ⟨S2176x2048, .bf16⟩
  | .hbm, ⟨25, _⟩ => ⟨S2176x2048, .bf16⟩
  | .local _ .vmem, ⟨0, _⟩ => ⟨S544x2048, .bf16⟩
  | .local _ .vmem, ⟨1, _⟩ => ⟨S544x2048, .bf16⟩
  | .local _ .vmem, ⟨2, _⟩ => ⟨S512x2048, .bf16⟩
  | .local _ .vmem, ⟨3, _⟩ => ⟨S512x2048, .bf16⟩
  | .local _ .vmem, ⟨4, _⟩ => ⟨S544x512, .bf16⟩
  | .local _ .vmem, ⟨5, _⟩ => ⟨S544x512, .bf16⟩
  | .local _ .vmem, ⟨6, _⟩ => ⟨S544x512, .bf16⟩
  | .local _ .vmem, ⟨7, _⟩ => ⟨S544x512, .bf16⟩
  | .local _ .vmem, ⟨8, _⟩ => ⟨S544x512, .bf16⟩
  | .local _ .vmem, ⟨9, _⟩ => ⟨S544x512, .bf16⟩
  | .local _ .vmem, ⟨10, _⟩ => ⟨S544x512, .bf16⟩
  | .local _ .vmem, ⟨11, _⟩ => ⟨S544x512, .bf16⟩
  | .local _ .vmem, ⟨12, _⟩ => ⟨S544x512, .bf16⟩
  | .local _ .vmem, ⟨13, _⟩ => ⟨S544x512, .bf16⟩
  | .local _ .vmem, ⟨14, _⟩ => ⟨S544x512, .bf16⟩
  | .local _ .vmem, ⟨15, _⟩ => ⟨S544x512, .bf16⟩
  | .local _ .vmem, ⟨16, _⟩ => ⟨S544x512, .bf16⟩
  | .local _ .vmem, ⟨17, _⟩ => ⟨S544x512, .bf16⟩
  | .local _ .vmem, ⟨18, _⟩ => ⟨S544x512, .bf16⟩
  | .local _ .vmem, ⟨19, _⟩ => ⟨S544x512, .bf16⟩
  | _, _ => ⟨S2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_call3_v0 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v9_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S544x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S544x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S544x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S544x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== GatesRefIdeal.lean ====
abbrev S2064x4096 : Shape := ⟨2, ![2064, 4096]⟩
abbrev S2064x2048 : Shape := ⟨2, ![2064, 2048]⟩
abbrev S2048x2048 : Shape := ⟨2, ![2048, 2048]⟩
abbrev S_ : Shape := ⟨0, ![]⟩
abbrev S2176x2048 : Shape := ⟨2, ![2176, 2048]⟩

abbrev nBuf : Space → Nat
  | .hbm => 61
  | .vmem => 0
  | .smem => 0
  | _ => 0

abbrev bufTy : (tb : Table) → Fin (tcTables nBuf tb) → BufTy
  | .hbm, ⟨0, _⟩ => ⟨S2064x4096, .f32⟩
  | .hbm, ⟨1, _⟩ => ⟨S2064x2048, .f32⟩
  | .hbm, ⟨2, _⟩ => ⟨S2064x2048, .f32⟩
  | .hbm, ⟨3, _⟩ => ⟨S2048x2048, .f32⟩
  | .hbm, ⟨4, _⟩ => ⟨S2064x2048, .f32⟩
  | .hbm, ⟨5, _⟩ => ⟨S2064x2048, .f32⟩
  | .hbm, ⟨6, _⟩ => ⟨S2064x2048, .f32⟩
  | .hbm, ⟨7, _⟩ => ⟨S2064x2048, .f32⟩
  | .hbm, ⟨8, _⟩ => ⟨S2064x2048, .f32⟩
  | .hbm, ⟨9, _⟩ => ⟨S_, .f32⟩
  | .hbm, ⟨10, _⟩ => ⟨S2064x2048, .f32⟩
  | .hbm, ⟨11, _⟩ => ⟨S2064x2048, .f32⟩
  | .hbm, ⟨12, _⟩ => ⟨S_, .f32⟩
  | .hbm, ⟨13, _⟩ => ⟨S2064x2048, .f32⟩
  | .hbm, ⟨14, _⟩ => ⟨S2064x2048, .f32⟩
  | .hbm, ⟨15, _⟩ => ⟨S_, .f32⟩
  | .hbm, ⟨16, _⟩ => ⟨S2064x2048, .f32⟩
  | .hbm, ⟨17, _⟩ => ⟨S2064x2048, .f32⟩
  | .hbm, ⟨18, _⟩ => ⟨S2064x2048, .f32⟩
  | .hbm, ⟨19, _⟩ => ⟨S2064x2048, .f32⟩
  | .hbm, ⟨20, _⟩ => ⟨S2064x2048, .f32⟩
  | .hbm, ⟨21, _⟩ => ⟨S2064x2048, .f32⟩
  | .hbm, ⟨22, _⟩ => ⟨S_, .f32⟩
  | .hbm, ⟨23, _⟩ => ⟨S2064x2048, .f32⟩
  | .hbm, ⟨24, _⟩ => ⟨S2064x2048, .f32⟩
  | .hbm, ⟨25, _⟩ => ⟨S_, .f32⟩
  | .hbm, ⟨26, _⟩ => ⟨S2064x2048, .f32⟩
  | .hbm, ⟨27, _⟩ => ⟨S2064x2048, .f32⟩
  | .hbm, ⟨28, _⟩ => ⟨S_, .f32⟩
  | .hbm, ⟨29, _⟩ => ⟨S2064x2048, .f32⟩
  | .hbm, ⟨30, _⟩ => ⟨S2064x2048, .f32⟩
  | .hbm, ⟨31, _⟩ => ⟨S2064x2048, .f32⟩
  | .hbm, ⟨32, _⟩ => ⟨S2064x2048, .f32⟩
  | .hbm, ⟨33, _⟩ => ⟨S2064x2048, .f32⟩
  | .hbm, ⟨34, _⟩ => ⟨S2064x2048, .f32⟩
  | .hbm, ⟨35, _⟩ => ⟨S2064x2048, .f32⟩
  | .hbm, ⟨36, _⟩ => ⟨S2064x2048, .f32⟩
  | .hbm, ⟨37, _⟩ => ⟨S2064x2048, .f32⟩
  | .hbm, ⟨38, _⟩ => ⟨S2064x2048, .f32⟩
  | .hbm, ⟨39, _⟩ => ⟨S2064x2048, .f32⟩
  | .hbm, ⟨40, _⟩ => ⟨S2064x2048, .f32⟩
  | .hbm, ⟨41, _⟩ => ⟨S2064x2048, .f32⟩
  | .hbm, ⟨42, _⟩ => ⟨S2064x4096, .f32⟩
  | .hbm, ⟨43, _⟩ => ⟨S2064x2048, .f32⟩
  | .hbm, ⟨44, _⟩ => ⟨S2064x2048, .f32⟩
  | .hbm, ⟨45, _⟩ => ⟨S_, .i32⟩
  | .hbm, ⟨46, _⟩ => ⟨S_, .f32⟩
  | .hbm, ⟨47, _⟩ => ⟨S2176x2048, .f32⟩
  | .hbm, ⟨48, _⟩ => ⟨S2176x2048, .bf16⟩
  | .hbm, ⟨49, _⟩ => ⟨S_, .i32⟩
  | .hbm, ⟨50, _⟩ => ⟨S_, .f32⟩
  | .hbm, ⟨51, _⟩ => ⟨S2176x2048, .f32⟩
  | .hbm, ⟨52, _⟩ => ⟨S2176x2048, .bf16⟩
  | .hbm, ⟨53, _⟩ => ⟨S_, .i32⟩
  | .hbm, ⟨54, _⟩ => ⟨S_, .f32⟩
  | .hbm, ⟨55, _⟩ => ⟨S2176x2048, .f32⟩
  | .hbm, ⟨56, _⟩ => ⟨S2176x2048, .bf16⟩
  | .hbm, ⟨57, _⟩ => ⟨S_, .i32⟩
  | .hbm, ⟨58, _⟩ => ⟨S_, .f32⟩
  | .hbm, ⟨59, _⟩ => ⟨S2176x2048, .f32⟩
  | .hbm, ⟨60, _⟩ => ⟨S2176x2048, .bf16⟩
  | _, _ => ⟨S2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_call0_v0 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_call1_v0 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_call2_v0 : Ref sig .tc := ⟨.hbm, 54, rfl⟩
abbrev main_v38 : Ref sig .tc := ⟨.hbm, 55, rfl⟩
abbrev main_v39 : Ref sig .tc := ⟨.hbm, 56, rfl⟩
abbrev main_c_7 : Ref sig .tc := ⟨.hbm, 57, rfl⟩
abbrev main_call3_v0 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== ConvNorm.lean ====
abbrev S2064x1024 : Shape := ⟨2, ![2064, 1024]⟩
abbrev S1x1024 : Shape := ⟨2, ![1, 1024]⟩
abbrev S_ : Shape := ⟨0, ![]⟩
abbrev S2176x1024 : Shape := ⟨2, ![2176, 1024]⟩
abbrev S272x1024 : Shape := ⟨2, ![272, 1024]⟩
abbrev S272 : Shape := ⟨1, ![272]⟩
abbrev S272x1 : Shape := ⟨2, ![272, 1]⟩
abbrev S1024 : Shape := ⟨1, ![1024]⟩

abbrev nBuf : Space → Nat
  | .hbm => 17
  | .vmem => 11
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2064x1024, .f32⟩
  | .hbm, ⟨5, _⟩ => ⟨S_, .i32⟩
  | .hbm, ⟨6, _⟩ => ⟨S_, .f32⟩
  | .hbm, ⟨7, _⟩ => ⟨S2176x1024, .f32⟩
  | .hbm, ⟨8, _⟩ => ⟨S_, .i32⟩
  | .hbm, ⟨9, _⟩ => ⟨S_, .f32⟩
  | .hbm, ⟨10, _⟩ => ⟨S2176x1024, .f32⟩
  | .hbm, ⟨11, _⟩ => ⟨S2176x1024, .f32⟩
  | .hbm, ⟨12, _⟩ => ⟨S2176x1024, .f32⟩
  | .hbm, ⟨13, _⟩ => ⟨S2176x1024, .f32⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S1x1024, .f32⟩
  | .local _ .vmem, ⟨5, _⟩ => ⟨S1x1024, .f32⟩
  | .local _ .vmem, ⟨6, _⟩ => ⟨S272x1024, .f32⟩
  | .local _ .vmem, ⟨7, _⟩ => ⟨S272x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v60 : BitVec 1 := Scalar.cmpi .eq arg0 c0_i32
  let v61 : BitVec 32 := Scalar.extui v60
  let c0_i32_22 : BitVec 32 := 0#32
  let v62 : BitVec 1 := Scalar.cmpi .ne v61 c0_i32_22
  v62

def k0_cond2 (i : grid0.Coords) : BitVec 1 :=
  let arg0 : BitVec 32 := BitVec.ofNat 32 (i 0).val
  let c0_i32_23 : BitVec 32 := 0#32
  let v63 : BitVec 1 := Scalar.cmpi .sgt arg0 c0_i32_23
  let v64 : BitVec 32 := Scalar.extui v63
  let c0_i32_24 : BitVec 32 := 0#32
  let v65 : BitVec 1 := Scalar.cmpi .ne v64 c0_i32_24
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvNormRefIdeal.lean ====
abbrev S2064x1024 : Shape := ⟨2, ![2064, 1024]⟩
abbrev S1x1024 : Shape := ⟨2, ![1, 1024]⟩
abbrev S_ : Shape := ⟨0, ![]⟩
abbrev S2064 : Shape := ⟨1, ![2064]⟩
abbrev S2064x1 : Shape := ⟨2, ![2064, 1]⟩
abbrev S1024 : Shape := ⟨1, ![1024]⟩
abbrev S2176x1024 : Shape := ⟨2, ![2176, 1024]⟩

abbrev nBuf : Space → Nat
  | .hbm => 104
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2064x1024, .f32⟩
  | .hbm, ⟨5, _⟩ => ⟨S2064x1024, .f32⟩
  | .hbm, ⟨6, _⟩ => ⟨S2064x1024, .f32⟩
  | .hbm, ⟨7, _⟩ => ⟨S_, .f32⟩
  | .hbm, ⟨8, _⟩ => ⟨S2064, .f32⟩
  | .hbm, ⟨9, _⟩ => ⟨S2064x1, .f32⟩
  | .hbm, ⟨10, _⟩ => ⟨S_, .f32⟩
  | .hbm, ⟨11, _⟩ => ⟨S2064x1, .f32⟩
  | .hbm, ⟨12, _⟩ => ⟨S2064x1, .f32⟩
  | .hbm, ⟨13, _⟩ => ⟨S2064x1024, .f32⟩
  | .hbm, ⟨14, _⟩ => ⟨S2064x1024, .f32⟩
  | .hbm, ⟨15, _⟩ => ⟨S2064x1024, .f32⟩
  | .hbm, ⟨16, _⟩ => ⟨S_, .f32⟩
  | .hbm, ⟨17, _⟩ => ⟨S2064x1024, .f32⟩
  | .hbm, ⟨18, _⟩ => ⟨S2064x1024, .f32⟩
  | .hbm, ⟨19, _⟩ => ⟨S_, .f32⟩
  | .hbm, ⟨20, _⟩ => ⟨S2064, .f32⟩
  | .hbm, ⟨21, _⟩ => ⟨S2064x1, .f32⟩
  | .hbm, ⟨22, _⟩ => ⟨S_, .f32⟩
  | .hbm, ⟨23, _⟩ => ⟨S2064x1, .f32⟩
  | .hbm, ⟨24, _⟩ => ⟨S2064x1, .f32⟩
  | .hbm, ⟨25, _⟩ => ⟨S2064x1024, .f32⟩
  | .hbm, ⟨26, _⟩ => ⟨S2064x1024, .f32⟩
  | .hbm, ⟨27, _⟩ => ⟨S_, .f32⟩
  | .hbm, ⟨28, _⟩ => ⟨S2064x1, .f32⟩
  | .hbm, ⟨29, _⟩ => ⟨S2064x1, .f32⟩
  | .hbm, ⟨30, _⟩ => ⟨S2064x1, .f32⟩
  | .hbm, ⟨31, _⟩ => ⟨S2064x1, .f32⟩
  | .hbm, ⟨32, _⟩ => ⟨S_, .f32⟩
  | .hbm, ⟨33, _⟩ => ⟨S2064x1, .f32⟩
  | .hbm, ⟨34, _⟩ => ⟨S2064x1, .f32⟩
  | .hbm, ⟨35, _⟩ => ⟨S2064x1024, .f32⟩
  | .hbm, ⟨36, _⟩ => ⟨S2064x1024, .f32⟩
  | .hbm, ⟨37, _⟩ => ⟨S2064x1024, .f32⟩
  | .hbm, ⟨38, _⟩ => ⟨S2064x1024, .f32⟩
  | .hbm, ⟨39, _⟩ => ⟨S2064x1024, .f32⟩
  | .hbm, ⟨40, _⟩ => ⟨S2064x1024, .f32⟩
  | .hbm, ⟨41, _⟩ => ⟨S2064x1024, .f32⟩
  | .hbm, ⟨42, _⟩ => ⟨S2064x1024, .f32⟩
  | .hbm, ⟨43, _⟩ => ⟨S_, .f32⟩
  | .hbm, ⟨44, _⟩ => ⟨S2064x1024, .f32⟩
  | .hbm, ⟨45, _⟩ => ⟨S2064x1024, .f32⟩
  | .hbm, ⟨46, _⟩ => ⟨S_, .f32⟩
  | .hbm, ⟨47, _⟩ => ⟨S2064x1024, .f32⟩
  | .hbm, ⟨48, _⟩ => ⟨S2064x1024, .f32⟩
  | .hbm, ⟨49, _⟩ => ⟨S_, .f32⟩
  | .hbm, ⟨50, _⟩ => ⟨S2064x1024, .f32⟩
  | .hbm, ⟨51, _⟩ => ⟨S2064x1024, .f32⟩
  | .hbm, ⟨52, _⟩ => ⟨S2064x1024, .f32⟩
  | .hbm, ⟨53, _⟩ => ⟨S2064x1024, .f32⟩
  | .hbm, ⟨54, _⟩ => ⟨S2064x1024, .f32⟩
  | .hbm, ⟨55, _⟩ => ⟨S2064x1024, .f32⟩
  | .hbm, ⟨56, _⟩ => ⟨S2064x1024, .f32⟩
  | .hbm, ⟨57, _⟩ => ⟨S2064x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2064x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S2064x1024, .f32⟩
  | .hbm, ⟨66, _⟩ => ⟨S2064x1024, .f32⟩
  | .hbm, ⟨67, _⟩ => ⟨S2064x1024, .f32⟩
  | .hbm, ⟨68, _⟩ => ⟨S_, .f32⟩
  | .hbm, ⟨69, _⟩ => ⟨S2064, .f32⟩
  | .hbm, ⟨70, _⟩ => ⟨S2064x1, .f32⟩
  | .hbm, ⟨71, _⟩ => ⟨S2064x1024, .f32⟩
  | .hbm, ⟨72, _⟩ => ⟨S2064x1024, .f32⟩
  | .hbm, ⟨73, _⟩ => ⟨S2064x1, .f32⟩
  | .hbm, ⟨74, _⟩ => ⟨S2064x1024, .f32⟩
  | .hbm, ⟨75, _⟩ => ⟨S_, .f32⟩
  | .hbm, ⟨76, _⟩ => ⟨S2064, .f32⟩
  | .hbm, ⟨77, _⟩ => ⟨S2064x1, .f32⟩
  | .hbm, ⟨78, _⟩ => ⟨S_, .f32⟩
  | .hbm, ⟨79, _⟩ => ⟨S2064x1, .f32⟩
  | .hbm, ⟨80, _⟩ => ⟨S2064x1, .f32⟩
  | .hbm, ⟨81, _⟩ => ⟨S_, .f32⟩
  | .hbm, ⟨82, _⟩ => ⟨S2064, .f32⟩
  | .hbm, ⟨83, _⟩ => ⟨S2064x1024, .f32⟩
  | .hbm, ⟨84, _⟩ => ⟨S2064x1024, .f32⟩
  | .hbm, ⟨85, _⟩ => ⟨S2064x1024, .f32⟩
  | .hbm, ⟨86, _⟩ => ⟨S_, .f32⟩
  | .hbm, ⟨87, _⟩ => ⟨S2064, .f32⟩
  | .hbm, ⟨88, _⟩ => ⟨S2064x1, .f32⟩
  | .hbm, ⟨89, _⟩ => ⟨S2064x1024, .f32⟩
  | .hbm, ⟨90, _⟩ => ⟨S2064x1, .f32⟩
  | .hbm, ⟨91, _⟩ => ⟨S_, .f32⟩
  | .hbm, ⟨92, _⟩ => ⟨S2064x1, .f32⟩
  | .hbm, ⟨93, _⟩ => ⟨S2064x1, .f32⟩
  | .hbm, ⟨94, _⟩ => ⟨S_, .f32⟩
  | .hbm, ⟨95, _⟩ => ⟨S2064, .f32⟩
  | .hbm, ⟨96, _⟩ => ⟨S2064x1024, .f32⟩
  | .hbm, ⟨97, _⟩ => ⟨S2064x1024, .f32⟩
  | .hbm, ⟨98, _⟩ => ⟨S_, .f32⟩
  | .hbm, ⟨99, _⟩ => ⟨S1024, .f32⟩
  | .hbm, ⟨100, _⟩ => ⟨S1x1024, .f32⟩
  | .hbm, ⟨101, _⟩ => ⟨S_, .i32⟩
  | .hbm, ⟨102, _⟩ => ⟨S_, .f32⟩
  | .hbm, ⟨103, _⟩ => ⟨S2176x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v29_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v29_1 : Ref sig .tc := ⟨.hbm, 52, rfl⟩
abbrev main_v29_0 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_12 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_13 : Ref sig .tc := ⟨.hbm, 91, rfl⟩
abbrev main_v57 : Ref sig .tc := ⟨.hbm, 92, rfl⟩
abbrev main_v58 : Ref sig .tc := ⟨.hbm, 93, rfl⟩
abbrev main_cst_14 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_15 : Ref sig .tc := ⟨.hbm, 98, rfl⟩
abbrev main_v62 : Ref sig .tc := ⟨.hbm, 99, rfl⟩
abbrev main_v63 : Ref sig .tc := ⟨.hbm, 100, rfl⟩
abbrev main_c : Ref sig .tc := ⟨.hbm, 101, rfl⟩
abbrev main_call2_v0 : Ref sig .tc := ⟨.hbm, 102, rfl⟩
abbrev main_v64 : Ref sig .tc := ⟨.hbm, 103, rfl⟩

abbrev nD : Nat := 1
abbrev τ : Topo := Topo.v7x

variable {F : FTy → Type} [FloatOps F]
-- ==== GluConv.lean ====
abbrev S2064x3072 : Shape := ⟨2, ![2064, 3072]⟩
abbrev S31x1024 : Shape := ⟨2, ![31, 1024]⟩
abbrev S2064x1024 : Shape := ⟨2, ![2064, 1024]⟩
abbrev S_ : Shape := ⟨0, ![]⟩
abbrev S2176x1024 : Shape := ⟨2, ![2176, 1024]⟩
abbrev S2176x3072 : Shape := ⟨2, ![2176, 3072]⟩
abbrev S32x1024 : Shape := ⟨2, ![32, 1024]⟩
abbrev S128x1024 : Shape := ⟨2, ![128, 1024]⟩
abbrev S8x160x1024 : Shape := ⟨3, ![8, 160, 1024]⟩
abbrev S32x8x1024 : Shape := ⟨3, ![32, 8, 1024]⟩
abbrev S160x1024 : Shape := ⟨2, ![160, 1024]⟩
abbrev S1x160x1024 : Shape := ⟨3, ![1, 160, 1024]⟩
abbrev S128x128 : Shape := ⟨2, ![128, 128]⟩
abbrev S1x128x128 : Shape := ⟨3, ![1, 128, 128]⟩
abbrev S1x128 : Shape := ⟨2, ![1, 128]⟩
abbrev S1x8x128 : Shape := ⟨3, ![1, 8, 128]⟩
abbrev S8x128 : Shape := ⟨2, ![8, 128]⟩
abbrev S16x8x128 : Shape := ⟨3, ![16, 8, 128]⟩

abbrev nBuf : Space → Nat
  | .hbm => 15
  | .vmem => 16
  | .smem => 0
  | _ => 0

abbrev bufTy : (tb : Table) → Fin (tcTables nBuf tb) → BufTy
  | .hbm, ⟨0, _⟩ => ⟨S2064x3072, .f32⟩
  | .hbm, ⟨1, _⟩ => ⟨S31x1024, .f32⟩
  | .hbm, ⟨2, _⟩ => ⟨S2064x1024, .f32⟩
  | .hbm, ⟨3, _⟩ => ⟨S_, .i32⟩
  | .hbm, ⟨4, _⟩ => ⟨S_, .f32⟩
  | .hbm, ⟨5, _⟩ => ⟨S2176x1024, .f32⟩
  | .hbm, ⟨6, _⟩ => ⟨S_, .i32⟩
  | .hbm, ⟨7, _⟩ => ⟨S_, .f32⟩
  | .hbm, ⟨8, _⟩ => ⟨S2176x3072, .f32⟩
  | .hbm, ⟨9, _⟩ => ⟨S2176x1024, .bf16⟩
  | .hbm, ⟨10, _⟩ => ⟨S2176x1024, .bf16⟩
  | .hbm, ⟨11, _⟩ => ⟨S32x1024, .f32⟩
  | .hbm, ⟨12, _⟩ => ⟨S2064x1024, .bf16⟩
  | .hbm, ⟨13, _⟩ => ⟨S2064x1024, .bf16⟩
  | .hbm, ⟨14, _⟩ => ⟨S31x1024, .f32⟩
  | .local _ .vmem, ⟨0, _⟩ => ⟨S128x1024, .f32⟩
  | .local _ .vmem, ⟨1, _⟩ => ⟨S128x1024, .f32⟩
  | .local _ .vmem, ⟨2, _⟩ => ⟨S32x1024, .f32⟩
  | .local _ .vmem, ⟨3, _⟩ => ⟨S32x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S31x1024, .f32⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S32x1024, .f32⟩
  | .local _ .vmem, ⟨14, _⟩ => ⟨S8x160x1024, .f32⟩
  | .local _ .vmem, ⟨15, _⟩ => ⟨S32x8x1024, .f32⟩
  | _, _ => ⟨S2064x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32_3046 : BitVec 32 := 16#32
  let v3900 : BitVec 1 := Scalar.cmpi .eq arg0 c16_i32_3046
  let v3901 : BitVec 32 := Scalar.extui v3900
  let c0_i32_3047 : BitVec 32 := 0#32
  let v3902 : BitVec 1 := Scalar.cmpi .ne v3901 c0_i32_3047
  v3902

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c67_i32 : BitVec 32 := 67#32
  let v2 : BitVec 32 := Scalar.minsi v1 c67_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GluConvRefIdeal.lean ====
abbrev S2064x3072 : Shape := ⟨2, ![2064, 3072]⟩
abbrev S31x1024 : Shape := ⟨2, ![31, 1024]⟩
abbrev S2064x1024 : Shape := ⟨2, ![2064, 1024]⟩
abbrev S_ : Shape := ⟨0, ![]⟩
abbrev S30x1024 : Shape := ⟨2, ![30, 1024]⟩
abbrev S2094x1024 : Shape := ⟨2, ![2094, 1024]⟩
abbrev S1x1024 : Shape := ⟨2, ![1, 1024]⟩
abbrev S1024 : Shape := ⟨1, ![1024]⟩

abbrev nBuf : Space → Nat
  | .hbm => 715
  | .vmem => 0
  | .smem => 0
  | _ => 0

abbrev hbmTy0_0 (i : Nat) : BufTy := match i % 128 with
  | 0 => ⟨S2064x3072, .f32⟩
  | 1 => ⟨S31x1024, .f32⟩
  | 2 => ⟨S2064x1024, .f32⟩
  | 3 => ⟨S2064x1024, .f32⟩
  | 4 => ⟨S2064x1024, .f32⟩
  | 5 => ⟨S2064x1024, .f32⟩
  | 6 => ⟨S2064x1024, .f32⟩
  | 7 => ⟨S2064x1024, .f32⟩
  | 8 => ⟨S_, .f32⟩
  | 9 => ⟨S2064x1024, .f32⟩
  | 10 => ⟨S2064x1024, .f32⟩
  | 11 => ⟨S_, .f32⟩
  | 12 => ⟨S2064x1024, .f32⟩
  | 13 => ⟨S2064x1024, .f32⟩
  | 14 => ⟨S_, .f32⟩
  | 15 => ⟨S2064x1024, .f32⟩
  | 16 => ⟨S2064x1024, .f32⟩
  | 17 => ⟨S2064x1024, .f32⟩
  | 18 => ⟨S2064x1024, .f32⟩
  | 19 => ⟨S_, .f32⟩
  | 20 => ⟨S30x1024, .f32⟩
  | 21 => ⟨S2094x1024, .f32⟩
  | 22 => ⟨S_, .f32⟩
  | 23 => ⟨S30x1024, .f32⟩
  | 24 => ⟨S_, .f32⟩
  | 25 => ⟨S2064x1024, .f32⟩
  | 26 => ⟨S2064x1024, .f32⟩
  | 27 => ⟨S1x1024, .f32⟩
  | 28 => ⟨S1024, .f32⟩
  | 29 => ⟨S1x1024, .f32⟩
  | 30 => ⟨S2064x1024, .f32⟩
  | 31 => ⟨S2064x1024, .f32⟩
  | 32 => ⟨S2064x1024, .f32⟩
  | 33 => ⟨S2064x1024, .f32⟩
  | 34 => ⟨S1x1024, .f32⟩
  | 35 => ⟨S1024, .f32⟩
  | 36 => ⟨S1x1024, .f32⟩
  | 37 => ⟨S2064x1024, .f32⟩
  | 38 => ⟨S2064x1024, .f32⟩
  | 39 => ⟨S2064x1024, .f32⟩
  | 40 => ⟨S2064x1024, .f32⟩
  | 41 => ⟨S1x1024, .f32⟩
  | 42 => ⟨S1024, .f32⟩
  | 43 => ⟨S1x1024, .f32⟩
  | 44 => ⟨S2064x1024, .f32⟩
  | 45 => ⟨S2064x1024, .f32⟩
  | 46 => ⟨S2064x1024, .f32⟩
  | 47 => ⟨S2064x1024, .f32⟩
  | 48 => ⟨S1x1024, .f32⟩
  | 49 => ⟨S1024, .f32⟩
  | 50 => ⟨S1x1024, .f32⟩
  | 51 => ⟨S2064x1024, .f32⟩
  | 52 => ⟨S2064x1024, .f32⟩
  | 53 => ⟨S2064x1024, .f32⟩
  | 54 => ⟨S2064x1024, .f32⟩
  | 55 => ⟨S1x1024, .f32⟩
  | 56 => ⟨S1024, .f32⟩
  | 57 => ⟨S1x1024, .f32⟩
  | 58 => ⟨S2064x1024, .f32⟩
  | 59 => ⟨S2064x1024, .f32⟩
  | 60 => ⟨S2064x1024, .f32⟩
  | 61 => ⟨S2064x1024, .f32⟩
  | 62 => ⟨S1x1024, .f32⟩
  | 63 => ⟨S1024, .f32⟩
  | 64 => ⟨S1x1024, .f32⟩
  | 65 => ⟨S2064x1024, .f32⟩
  | 66 => ⟨S2064x1024, .f32⟩
  | 67 => ⟨S2064x1024, .f32⟩
  | 68 => ⟨S2064x1024, .f32⟩
  | 69 => ⟨S1x1024, .f32⟩
  | 70 => ⟨S1024, .f32⟩
  | 71 => ⟨S1x1024, .f32⟩
  | 72 => ⟨S2064x1024, .f32⟩
  | 73 => ⟨S2064x1024, .f32⟩
  | 74 => ⟨S2064x1024, .f32⟩
  | 75 => ⟨S2064x1024, .f32⟩
  | 76 => ⟨S1x1024, .f32⟩
  | 77 => ⟨S1024, .f32⟩
  | 78 => ⟨S1x1024, .f32⟩
  | 79 => ⟨S2064x1024, .f32⟩
  | 80 => ⟨S2064x1024, .f32⟩
  | 81 => ⟨S2064x1024, .f32⟩
  | 82 => ⟨S2064x1024, .f32⟩
  | 83 => ⟨S1x1024, .f32⟩
  | 84 => ⟨S1024, .f32⟩
  | 85 => ⟨S1x1024, .f32⟩
  | 86 => ⟨S2064x1024, .f32⟩
  | 87 => ⟨S2064x1024, .f32⟩
  | 88 => ⟨S2064x1024, .f32⟩
  | 89 => ⟨S2064x1024, .f32⟩
  | 90 => ⟨S1x1024, .f32⟩
  | 91 => ⟨S1024, .f32⟩
  | 92 => ⟨S1x1024, .f32⟩
  | 93 => ⟨S2064x1024, .f32⟩
  | 94 => ⟨S2064x1024, .f32⟩
  | 95 => ⟨S2064x1024, .f32⟩
  | 96 => ⟨S2064x1024, .f32⟩
  | 97 => ⟨S1x1024, .f32⟩
  | 98 => ⟨S1024, .f32⟩
  | 99 => ⟨S1x1024, .f32⟩
  | 100 => ⟨S2064x1024, .f32⟩
  | 101 => ⟨S2064x1024, .f32⟩
  | 102 => ⟨S2064x1024, .f32⟩
  | 103 => ⟨S2064x1024, .f32⟩
  | 104 => ⟨S1x1024, .f32⟩
  | 105 => ⟨S1024, .f32⟩
  | 106 => ⟨S1x1024, .f32⟩
  | 107 => ⟨S2064x1024, .f32⟩
  | 108 => ⟨S2064x1024, .f32⟩
  | 109 => ⟨S2064x1024, .f32⟩
  | 110 => ⟨S2064x1024, .f32⟩
  | 111 => ⟨S1x1024, .f32⟩
  | 112 => ⟨S1024, .f32⟩
  | 113 => ⟨S1x1024, .f32⟩
  | 114 => ⟨S2064x1024, .f32⟩
  | 115 => ⟨S2064x1024, .f32⟩
  | 116 => ⟨S2064x1024, .f32⟩
  | 117 => ⟨S2064x1024, .f32⟩
  | 118 => ⟨S1x1024, .f32⟩
  | 119 => ⟨S1024, .f32⟩
  | 120 => ⟨S1x1024, .f32⟩
  | 121 => ⟨S2064x1024, .f32⟩
  | 122 => ⟨S2064x1024, .f32⟩
  | 123 => ⟨S2064x1024, .f32⟩
  | 124 => ⟨S2064x1024, .f32⟩
  | 125 => ⟨S1x1024, .f32⟩
  | 126 => ⟨S1024, .f32⟩
  | 127 => ⟨S1x1024, .f32⟩
  | _ => ⟨S2064x3072, .f32⟩

abbrev hbmTy0_1 (i : Nat) : BufTy := match i % 128 with
  | 0 => ⟨S2064x1024, .f32⟩
  | 1 => ⟨S2064x1024, .f32⟩
  | 2 => ⟨S2064x1024, .f32⟩
  | 3 => ⟨S2064x1024, .f32⟩
  | 4 => ⟨S1x1024, .f32⟩
  | 5 => ⟨S1024, .f32⟩
  | 6 => ⟨S1x1024, .f32⟩
  | 7 => ⟨S2064x1024, .f32⟩
  | 8 => ⟨S2064x1024, .f32⟩
  | 9 => ⟨S2064x1024, .f32⟩
  | 10 => ⟨S2064x1024, .f32⟩
  | 11 => ⟨S1x1024, .f32⟩
  | 12 => ⟨S1024, .f32⟩
  | 13 => ⟨S1x1024, .f32⟩
  | 14 => ⟨S2064x1024, .f32⟩
  | 15 => ⟨S2064x1024, .f32⟩
  | 16 => ⟨S2064x1024, .f32⟩
  | 17 => ⟨S2064x1024, .f32⟩
  | 18 => ⟨S1x1024, .f32⟩
  | 19 => ⟨S1024, .f32⟩
  | 20 => ⟨S1x1024, .f32⟩
  | 21 => ⟨S2064x1024, .f32⟩
  | 22 => ⟨S2064x1024, .f32⟩
  | 23 => ⟨S2064x1024, .f32⟩
  | 24 => ⟨S2064x1024, .f32⟩
  | 25 => ⟨S1x1024, .f32⟩
  | 26 => ⟨S1024, .f32⟩
  | 27 => ⟨S1x1024, .f32⟩
  | 28 => ⟨S2064x1024, .f32⟩
  | 29 => ⟨S2064x1024, .f32⟩
  | 30 => ⟨S2064x1024, .f32⟩
  | 31 => ⟨S2064x1024, .f32⟩
  | 32 => ⟨S1x1024, .f32⟩
  | 33 => ⟨S1024, .f32⟩
  | 34 => ⟨S1x1024, .f32⟩
  | 35 => ⟨S2064x1024, .f32⟩
  | 36 => ⟨S2064x1024, .f32⟩
  | 37 => ⟨S2064x1024, .f32⟩
  | 38 => ⟨S2064x1024, .f32⟩
  | 39 => ⟨S1x1024, .f32⟩
  | 40 => ⟨S1024, .f32⟩
  | 41 => ⟨S1x1024, .f32⟩
  | 42 => ⟨S2064x1024, .f32⟩
  | 43 => ⟨S2064x1024, .f32⟩
  | 44 => ⟨S2064x1024, .f32⟩
  | 45 => ⟨S2064x1024, .f32⟩
  | 46 => ⟨S1x1024, .f32⟩
  | 47 => ⟨S1024, .f32⟩
  | 48 => ⟨S1x1024, .f32⟩
  | 49 => ⟨S2064x1024, .f32⟩
  | 50 => ⟨S2064x1024, .f32⟩
  | 51 => ⟨S2064x1024, .f32⟩
  | 52 => ⟨S2064x1024, .f32⟩
  | 53 => ⟨S1x1024, .f32⟩
  | 54 => ⟨S1024, .f32⟩
  | 55 => ⟨S1x1024, .f32⟩
  | 56 => ⟨S2064x1024, .f32⟩
  | 57 => ⟨S2064x1024, .f32⟩
  | 58 => ⟨S2064x1024, .f32⟩
  | 59 => ⟨S2064x1024, .f32⟩
  | 60 => ⟨S1x1024, .f32⟩
  | 61 => ⟨S1024, .f32⟩
  | 62 => ⟨S1x1024, .f32⟩
  | 63 => ⟨S2064x1024, .f32⟩
  | 64 => ⟨S2064x1024, .f32⟩
  | 65 => ⟨S2064x1024, .f32⟩
  | 66 => ⟨S2064x1024, .f32⟩
  | 67 => ⟨S1x1024, .f32⟩
  | 68 => ⟨S1024, .f32⟩
  | 69 => ⟨S1x1024, .f32⟩
  | 70 => ⟨S2064x1024, .f32⟩
  | 71 => ⟨S2064x1024, .f32⟩
  | 72 => ⟨S2064x1024, .f32⟩
  | 73 => ⟨S2064x1024, .f32⟩
  | 74 => ⟨S1x1024, .f32⟩
  | 75 => ⟨S1024, .f32⟩
  | 76 => ⟨S1x1024, .f32⟩
  | 77 => ⟨S2064x1024, .f32⟩
  | 78 => ⟨S2064x1024, .f32⟩
  | 79 => ⟨S2064x1024, .f32⟩
  | 80 => ⟨S2064x1024, .f32⟩
  | 81 => ⟨S1x1024, .f32⟩
  | 82 => ⟨S1024, .f32⟩
  | 83 => ⟨S1x1024, .f32⟩
  | 84 => ⟨S2064x1024, .f32⟩
  | 85 => ⟨S2064x1024, .f32⟩
  | 86 => ⟨S2064x1024, .f32⟩
  | 87 => ⟨S2064x1024, .f32⟩
  | 88 => ⟨S1x1024, .f32⟩
  | 89 => ⟨S1024, .f32⟩
  | 90 => ⟨S1x1024, .f32⟩
  | 91 => ⟨S2064x1024, .f32⟩
  | 92 => ⟨S2064x1024, .f32⟩
  | 93 => ⟨S2064x1024, .f32⟩
  | 94 => ⟨S2064x1024, .f32⟩
  | 95 => ⟨S1x1024, .f32⟩
  | 96 => ⟨S1024, .f32⟩
  | 97 => ⟨S1x1024, .f32⟩
  | 98 => ⟨S2064x1024, .f32⟩
  | 99 => ⟨S2064x1024, .f32⟩
  | 100 => ⟨S2064x1024, .f32⟩
  | 101 => ⟨S2064x1024, .f32⟩
  | 102 => ⟨S1x1024, .f32⟩
  | 103 => ⟨S1024, .f32⟩
  | 104 => ⟨S1x1024, .f32⟩
  | 105 => ⟨S2064x1024, .f32⟩
  | 106 => ⟨S2064x1024, .f32⟩
  | 107 => ⟨S2064x1024, .f32⟩
  | 108 => ⟨S2064x1024, .f32⟩
  | 109 => ⟨S1x1024, .f32⟩
  | 110 => ⟨S1024, .f32⟩
  | 111 => ⟨S1x1024, .f32⟩
  | 112 => ⟨S2064x1024, .f32⟩
  | 113 => ⟨S2064x1024, .f32⟩
  | 114 => ⟨S2064x1024, .f32⟩
  | 115 => ⟨S2064x1024, .f32⟩
  | 116 => ⟨S2064x1024, .f32⟩
  | 117 => ⟨S2064x1024, .f32⟩
  | 118 => ⟨S_, .f32⟩
  | 119 => ⟨S1024, .f32⟩
  | 120 => ⟨S1x1024, .f32⟩
  | 121 => ⟨S2064x1024, .f32⟩
  | 122 => ⟨S2064x1024, .f32⟩
  | 123 => ⟨S_, .f32⟩
  | 124 => ⟨S1024, .f32⟩
  | 125 => ⟨S1x1024, .f32⟩
  | 126 => ⟨S_, .f32⟩
  | 127 => ⟨S31x1024, .f32⟩
  | _ => ⟨S2064x3072, .f32⟩

abbrev hbmTy0_2 (i : Nat) : BufTy := match i % 128 with
  | 0 => ⟨S_, .f32⟩
  | 1 => ⟨S2094x1024, .f32⟩
  | 2 => ⟨S2064x1024, .f32⟩
  | 3 => ⟨S_, .f32⟩
  | 4 => ⟨S1024, .f32⟩
  | 5 => ⟨S1x1024, .f32⟩
  | 6 => ⟨S2064x1024, .f32⟩
  | 7 => ⟨S2064x1024, .f32⟩
  | 8 => ⟨S_, .f32⟩
  | 9 => ⟨S1024, .f32⟩
  | 10 => ⟨S1x1024, .f32⟩
  | 11 => ⟨S_, .f32⟩
  | 12 => ⟨S31x1024, .f32⟩
  | 13 => ⟨S31x1024, .f32⟩
  | 14 => ⟨S_, .f32⟩
  | 15 => ⟨S2094x1024, .f32⟩
  | 16 => ⟨S2094x1024, .f32⟩
  | 17 => ⟨S2064x1024, .f32⟩
  | 18 => ⟨S_, .f32⟩
  | 19 => ⟨S1024, .f32⟩
  | 20 => ⟨S1x1024, .f32⟩
  | 21 => ⟨S2064x1024, .f32⟩
  | 22 => ⟨S2064x1024, .f32⟩
  | 23 => ⟨S_, .f32⟩
  | 24 => ⟨S1024, .f32⟩
  | 25 => ⟨S1x1024, .f32⟩
  | 26 => ⟨S_, .f32⟩
  | 27 => ⟨S31x1024, .f32⟩
  | 28 => ⟨S31x1024, .f32⟩
  | 29 => ⟨S_, .f32⟩
  | 30 => ⟨S2094x1024, .f32⟩
  | 31 => ⟨S2094x1024, .f32⟩
  | 32 => ⟨S2064x1024, .f32⟩
  | 33 => ⟨S_, .f32⟩
  | 34 => ⟨S1024, .f32⟩
  | 35 => ⟨S1x1024, .f32⟩
  | 36 => ⟨S2064x1024, .f32⟩
  | 37 => ⟨S2064x1024, .f32⟩
  | 38 => ⟨S_, .f32⟩
  | 39 => ⟨S1024, .f32⟩
  | 40 => ⟨S1x1024, .f32⟩
  | 41 => ⟨S_, .f32⟩
  | 42 => ⟨S31x1024, .f32⟩
  | 43 => ⟨S31x1024, .f32⟩
  | 44 => ⟨S_, .f32⟩
  | 45 => ⟨S2094x1024, .f32⟩
  | 46 => ⟨S2094x1024, .f32⟩
  | 47 => ⟨S2064x1024, .f32⟩
  | 48 => ⟨S_, .f32⟩
  | 49 => ⟨S1024, .f32⟩
  | 50 => ⟨S1x1024, .f32⟩
  | 51 => ⟨S2064x1024, .f32⟩
  | 52 => ⟨S2064x1024, .f32⟩
  | 53 => ⟨S_, .f32⟩
  | 54 => ⟨S1024, .f32⟩
  | 55 => ⟨S1x1024, .f32⟩
  | 56 => ⟨S_, .f32⟩
  | 57 => ⟨S31x1024, .f32⟩
  | 58 => ⟨S31x1024, .f32⟩
  | 59 => ⟨S_, .f32⟩
  | 60 => ⟨S2094x1024, .f32⟩
  | 61 => ⟨S2094x1024, .f32⟩
  | 62 => ⟨S2064x1024, .f32⟩
  | 63 => ⟨S_, .f32⟩
  | 64 => ⟨S1024, .f32⟩
  | 65 => ⟨S1x1024, .f32⟩
  | 66 => ⟨S2064x1024, .f32⟩
  | 67 => ⟨S2064x1024, .f32⟩
  | 68 => ⟨S_, .f32⟩
  | 69 => ⟨S1024, .f32⟩
  | 70 => ⟨S1x1024, .f32⟩
  | 71 => ⟨S_, .f32⟩
  | 72 => ⟨S31x1024, .f32⟩
  | 73 => ⟨S31x1024, .f32⟩
  | 74 => ⟨S_, .f32⟩
  | 75 => ⟨S2094x1024, .f32⟩
  | 76 => ⟨S2094x1024, .f32⟩
  | 77 => ⟨S2064x1024, .f32⟩
  | 78 => ⟨S_, .f32⟩
  | 79 => ⟨S1024, .f32⟩
  | 80 => ⟨S1x1024, .f32⟩
  | 81 => ⟨S2064x1024, .f32⟩
  | 82 => ⟨S2064x1024, .f32⟩
  | 83 => ⟨S_, .f32⟩
  | 84 => ⟨S1024, .f32⟩
  | 85 => ⟨S1x1024, .f32⟩
  | 86 => ⟨S_, .f32⟩
  | 87 => ⟨S31x1024, .f32⟩
  | 88 => ⟨S31x1024, .f32⟩
  | 89 => ⟨S_, .f32⟩
  | 90 => ⟨S2094x1024, .f32⟩
  | 91 => ⟨S2094x1024, .f32⟩
  | 92 => ⟨S2064x1024, .f32⟩
  | 93 => ⟨S_, .f32⟩
  | 94 => ⟨S1024, .f32⟩
  | 95 => ⟨S1x1024, .f32⟩
  | 96 => ⟨S2064x1024, .f32⟩
  | 97 => ⟨S2064x1024, .f32⟩
  | 98 => ⟨S_, .f32⟩
  | 99 => ⟨S1024, .f32⟩
  | 100 => ⟨S1x1024, .f32⟩
  | 101 => ⟨S_, .f32⟩
  | 102 => ⟨S31x1024, .f32⟩
  | 103 => ⟨S31x1024, .f32⟩
  | 104 => ⟨S_, .f32⟩
  | 105 => ⟨S2094x1024, .f32⟩
  | 106 => ⟨S2094x1024, .f32⟩
  | 107 => ⟨S2064x1024, .f32⟩
  | 108 => ⟨S_, .f32⟩
  | 109 => ⟨S1024, .f32⟩
  | 110 => ⟨S1x1024, .f32⟩
  | 111 => ⟨S2064x1024, .f32⟩
  | 112 => ⟨S2064x1024, .f32⟩
  | 113 => ⟨S_, .f32⟩
  | 114 => ⟨S1024, .f32⟩
  | 115 => ⟨S1x1024, .f32⟩
  | 116 => ⟨S_, .f32⟩
  | 117 => ⟨S31x1024, .f32⟩
  | 118 => ⟨S31x1024, .f32⟩
  | 119 => ⟨S_, .f32⟩
  | 120 => ⟨S2094x1024, .f32⟩
  | 121 => ⟨S2094x1024, .f32⟩
  | 122 => ⟨S2064x1024, .f32⟩
  | 123 => ⟨S_, .f32⟩
  | 124 => ⟨S1024, .f32⟩
  | 125 => ⟨S1x1024, .f32⟩
  | 126 => ⟨S2064x1024, .f32⟩
  | 127 => ⟨S2064x1024, .f32⟩
  | _ => ⟨S2064x3072, .f32⟩

abbrev hbmTy0_3 (i : Nat) : BufTy := match i % 128 with
  | 0 => ⟨S_, .f32⟩
  | 1 => ⟨S1024, .f32⟩
  | 2 => ⟨S1x1024, .f32⟩
  | 3 => ⟨S_, .f32⟩
  | 4 => ⟨S31x1024, .f32⟩
  | 5 => ⟨S31x1024, .f32⟩
  | 6 => ⟨S_, .f32⟩
  | 7 => ⟨S2094x1024, .f32⟩
  | 8 => ⟨S2094x1024, .f32⟩
  | 9 => ⟨S2064x1024, .f32⟩
  | 10 => ⟨S_, .f32⟩
  | 11 => ⟨S1024, .f32⟩
  | 12 => ⟨S1x1024, .f32⟩
  | 13 => ⟨S2064x1024, .f32⟩
  | 14 => ⟨S2064x1024, .f32⟩
  | 15 => ⟨S_, .f32⟩
  | 16 => ⟨S1024, .f32⟩
  | 17 => ⟨S1x1024, .f32⟩
  | 18 => ⟨S_, .f32⟩
  | 19 => ⟨S31x1024, .f32⟩
  | 20 => ⟨S31x1024, .f32⟩
  | 21 => ⟨S_, .f32⟩
  | 22 => ⟨S2094x1024, .f32⟩
  | 23 => ⟨S2094x1024, .f32⟩
  | 24 => ⟨S2064x1024, .f32⟩
  | 25 => ⟨S_, .f32⟩
  | 26 => ⟨S1024, .f32⟩
  | 27 => ⟨S1x1024, .f32⟩
  | 28 => ⟨S2064x1024, .f32⟩
  | 29 => ⟨S2064x1024, .f32⟩
  | 30 => ⟨S_, .f32⟩
  | 31 => ⟨S1024, .f32⟩
  | 32 => ⟨S1x1024, .f32⟩
  | 33 => ⟨S_, .f32⟩
  | 34 => ⟨S31x1024, .f32⟩
  | 35 => ⟨S31x1024, .f32⟩
  | 36 => ⟨S_, .f32⟩
  | 37 => ⟨S2094x1024, .f32⟩
  | 38 => ⟨S2094x1024, .f32⟩
  | 39 => ⟨S2064x1024, .f32⟩
  | 40 => ⟨S_, .f32⟩
  | 41 => ⟨S1024, .f32⟩
  | 42 => ⟨S1x1024, .f32⟩
  | 43 => ⟨S2064x1024, .f32⟩
  | 44 => ⟨S2064x1024, .f32⟩
  | 45 => ⟨S_, .f32⟩
  | 46 => ⟨S1024, .f32⟩
  | 47 => ⟨S1x1024, .f32⟩
  | 48 => ⟨S_, .f32⟩
  | 49 => ⟨S31x1024, .f32⟩
  | 50 => ⟨S31x1024, .f32⟩
  | 51 => ⟨S_, .f32⟩
  | 52 => ⟨S2094x1024, .f32⟩
  | 53 => ⟨S2094x1024, .f32⟩
  | 54 => ⟨S2064x1024, .f32⟩
  | 55 => ⟨S_, .f32⟩
  | 56 => ⟨S1024, .f32⟩
  | 57 => ⟨S1x1024, .f32⟩
  | 58 => ⟨S2064x1024, .f32⟩
  | 59 => ⟨S2064x1024, .f32⟩
  | 60 => ⟨S_, .f32⟩
  | 61 => ⟨S1024, .f32⟩
  | 62 => ⟨S1x1024, .f32⟩
  | 63 => ⟨S_, .f32⟩
  | 64 => ⟨S31x1024, .f32⟩
  | 65 => ⟨S31x1024, .f32⟩
  | 66 => ⟨S_, .f32⟩
  | 67 => ⟨S2094x1024, .f32⟩
  | 68 => ⟨S2094x1024, .f32⟩
  | 69 => ⟨S2064x1024, .f32⟩
  | 70 => ⟨S_, .f32⟩
  | 71 => ⟨S1024, .f32⟩
  | 72 => ⟨S1x1024, .f32⟩
  | 73 => ⟨S2064x1024, .f32⟩
  | 74 => ⟨S2064x1024, .f32⟩
  | 75 => ⟨S_, .f32⟩
  | 76 => ⟨S1024, .f32⟩
  | 77 => ⟨S1x1024, .f32⟩
  | 78 => ⟨S_, .f32⟩
  | 79 => ⟨S31x1024, .f32⟩
  | 80 => ⟨S31x1024, .f32⟩
  | 81 => ⟨S_, .f32⟩
  | 82 => ⟨S2094x1024, .f32⟩
  | 83 => ⟨S2094x1024, .f32⟩
  | 84 => ⟨S2064x1024, .f32⟩
  | 85 => ⟨S_, .f32⟩
  | 86 => ⟨S1024, .f32⟩
  | 87 => ⟨S1x1024, .f32⟩
  | 88 => ⟨S2064x1024, .f32⟩
  | 89 => ⟨S2064x1024, .f32⟩
  | 90 => ⟨S_, .f32⟩
  | 91 => ⟨S1024, .f32⟩
  | 92 => ⟨S1x1024, .f32⟩
  | 93 => ⟨S_, .f32⟩
  | 94 => ⟨S31x1024, .f32⟩
  | 95 => ⟨S31x1024, .f32⟩
  | 96 => ⟨S_, .f32⟩
  | 97 => ⟨S2094x1024, .f32⟩
  | 98 => ⟨S2094x1024, .f32⟩
  | 99 => ⟨S2064x1024, .f32⟩
  | 100 => ⟨S_, .f32⟩
  | 101 => ⟨S1024, .f32⟩
  | 102 => ⟨S1x1024, .f32⟩
  | 103 => ⟨S2064x1024, .f32⟩
  | 104 => ⟨S2064x1024, .f32⟩
  | 105 => ⟨S_, .f32⟩
  | 106 => ⟨S1024, .f32⟩
  | 107 => ⟨S1x1024, .f32⟩
  | 108 => ⟨S_, .f32⟩
  | 109 => ⟨S31x1024, .f32⟩
  | 110 => ⟨S31x1024, .f32⟩
  | 111 => ⟨S_, .f32⟩
  | 112 => ⟨S2094x1024, .f32⟩
  | 113 => ⟨S2094x1024, .f32⟩
  | 114 => ⟨S2064x1024, .f32⟩
  | 115 => ⟨S_, .f32⟩
  | 116 => ⟨S1024, .f32⟩
  | 117 => ⟨S1x1024, .f32⟩
  | 118 => ⟨S2064x1024, .f32⟩
  | 119 => ⟨S2064x1024, .f32⟩
  | 120 => ⟨S_, .f32⟩
  | 121 => ⟨S1024, .f32⟩
  | 122 => ⟨S1x1024, .f32⟩
  | 123 => ⟨S_, .f32⟩
  | 124 => ⟨S31x1024, .f32⟩
  | 125 => ⟨S31x1024, .f32⟩
  | 126 => ⟨S_, .f32⟩
  | 127 => ⟨S2094x1024, .f32⟩
  | _ => ⟨S2064x3072, .f32⟩

abbrev hbmTy0_4 (i : Nat) : BufTy := match i % 128 with
  | 0 => ⟨S2094x1024, .f32⟩
  | 1 => ⟨S2064x1024, .f32⟩
  | 2 => ⟨S_, .f32⟩
  | 3 => ⟨S1024, .f32⟩
  | 4 => ⟨S1x1024, .f32⟩
  | 5 => ⟨S2064x1024, .f32⟩
  | 6 => ⟨S2064x1024, .f32⟩
  | 7 => ⟨S_, .f32⟩
  | 8 => ⟨S1024, .f32⟩
  | 9 => ⟨S1x1024, .f32⟩
  | 10 => ⟨S_, .f32⟩
  | 11 => ⟨S31x1024, .f32⟩
  | 12 => ⟨S31x1024, .f32⟩
  | 13 => ⟨S_, .f32⟩
  | 14 => ⟨S2094x1024, .f32⟩
  | 15 => ⟨S2094x1024, .f32⟩
  | 16 => ⟨S2064x1024, .f32⟩
  | 17 => ⟨S_, .f32⟩
  | 18 => ⟨S1024, .f32⟩
  | 19 => ⟨S1x1024, .f32⟩
  | 20 => ⟨S2064x1024, .f32⟩
  | 21 => ⟨S2064x1024, .f32⟩
  | 22 => ⟨S_, .f32⟩
  | 23 => ⟨S1024, .f32⟩
  | 24 => ⟨S1x1024, .f32⟩
  | 25 => ⟨S_, .f32⟩
  | 26 => ⟨S31x1024, .f32⟩
  | 27 => ⟨S31x1024, .f32⟩
  | 28 => ⟨S_, .f32⟩
  | 29 => ⟨S2094x1024, .f32⟩
  | 30 => ⟨S2094x1024, .f32⟩
  | 31 => ⟨S2064x1024, .f32⟩
  | 32 => ⟨S_, .f32⟩
  | 33 => ⟨S1024, .f32⟩
  | 34 => ⟨S1x1024, .f32⟩
  | 35 => ⟨S2064x1024, .f32⟩
  | 36 => ⟨S2064x1024, .f32⟩
  | 37 => ⟨S_, .f32⟩
  | 38 => ⟨S1024, .f32⟩
  | 39 => ⟨S1x1024, .f32⟩
  | 40 => ⟨S_, .f32⟩
  | 41 => ⟨S31x1024, .f32⟩
  | 42 => ⟨S31x1024, .f32⟩
  | 43 => ⟨S_, .f32⟩
  | 44 => ⟨S2094x1024, .f32⟩
  | 45 => ⟨S2094x1024, .f32⟩
  | 46 => ⟨S2064x1024, .f32⟩
  | 47 => ⟨S_, .f32⟩
  | 48 => ⟨S1024, .f32⟩
  | 49 => ⟨S1x1024, .f32⟩
  | 50 => ⟨S2064x1024, .f32⟩
  | 51 => ⟨S2064x1024, .f32⟩
  | 52 => ⟨S_, .f32⟩
  | 53 => ⟨S1024, .f32⟩
  | 54 => ⟨S1x1024, .f32⟩
  | 55 => ⟨S_, .f32⟩
  | 56 => ⟨S31x1024, .f32⟩
  | 57 => ⟨S31x1024, .f32⟩
  | 58 => ⟨S_, .f32⟩
  | 59 => ⟨S2094x1024, .f32⟩
  | 60 => ⟨S2094x1024, .f32⟩
  | 61 => ⟨S2064x1024, .f32⟩
  | 62 => ⟨S_, .f32⟩
  | 63 => ⟨S1024, .f32⟩
  | 64 => ⟨S1x1024, .f32⟩
  | 65 => ⟨S2064x1024, .f32⟩
  | 66 => ⟨S2064x1024, .f32⟩
  | 67 => ⟨S_, .f32⟩
  | 68 => ⟨S1024, .f32⟩
  | 69 => ⟨S1x1024, .f32⟩
  | 70 => ⟨S_, .f32⟩
  | 71 => ⟨S31x1024, .f32⟩
  | 72 => ⟨S31x1024, .f32⟩
  | 73 => ⟨S_, .f32⟩
  | 74 => ⟨S2094x1024, .f32⟩
  | 75 => ⟨S2094x1024, .f32⟩
  | 76 => ⟨S2064x1024, .f32⟩
  | 77 => ⟨S_, .f32⟩
  | 78 => ⟨S1024, .f32⟩
  | 79 => ⟨S1x1024, .f32⟩
  | 80 => ⟨S2064x1024, .f32⟩
  | 81 => ⟨S2064x1024, .f32⟩
  | 82 => ⟨S_, .f32⟩
  | 83 => ⟨S1024, .f32⟩
  | 84 => ⟨S1x1024, .f32⟩
  | 85 => ⟨S_, .f32⟩
  | 86 => ⟨S31x1024, .f32⟩
  | 87 => ⟨S31x1024, .f32⟩
  | 88 => ⟨S_, .f32⟩
  | 89 => ⟨S2094x1024, .f32⟩
  | 90 => ⟨S2094x1024, .f32⟩
  | 91 => ⟨S2064x1024, .f32⟩
  | 92 => ⟨S_, .f32⟩
  | 93 => ⟨S1024, .f32⟩
  | 94 => ⟨S1x1024, .f32⟩
  | 95 => ⟨S2064x1024, .f32⟩
  | 96 => ⟨S2064x1024, .f32⟩
  | 97 => ⟨S_, .f32⟩
  | 98 => ⟨S1024, .f32⟩
  | 99 => ⟨S1x1024, .f32⟩
  | 100 => ⟨S_, .f32⟩
  | 101 => ⟨S31x1024, .f32⟩
  | 102 => ⟨S31x1024, .f32⟩
  | 103 => ⟨S_, .f32⟩
  | 104 => ⟨S2094x1024, .f32⟩
  | 105 => ⟨S2094x1024, .f32⟩
  | 106 => ⟨S2064x1024, .f32⟩
  | 107 => ⟨S_, .f32⟩
  | 108 => ⟨S1024, .f32⟩
  | 109 => ⟨S1x1024, .f32⟩
  | 110 => ⟨S2064x1024, .f32⟩
  | 111 => ⟨S2064x1024, .f32⟩
  | 112 => ⟨S_, .f32⟩
  | 113 => ⟨S1024, .f32⟩
  | 114 => ⟨S1x1024, .f32⟩
  | 115 => ⟨S_, .f32⟩
  | 116 => ⟨S31x1024, .f32⟩
  | 117 => ⟨S31x1024, .f32⟩
  | 118 => ⟨S_, .f32⟩
  | 119 => ⟨S2094x1024, .f32⟩
  | 120 => ⟨S2094x1024, .f32⟩
  | 121 => ⟨S2064x1024, .f32⟩
  | 122 => ⟨S_, .f32⟩
  | 123 => ⟨S1024, .f32⟩
  | 124 => ⟨S1x1024, .f32⟩
  | 125 => ⟨S2064x1024, .f32⟩
  | 126 => ⟨S2064x1024, .f32⟩
  | 127 => ⟨S_, .f32⟩
  | _ => ⟨S2064x3072, .f32⟩

abbrev hbmTy0_5 (i : Nat) : BufTy := match i % 128 with
  | 0 => ⟨S1024, .f32⟩
  | 1 => ⟨S1x1024, .f32⟩
  | 2 => ⟨S_, .f32⟩
  | 3 => ⟨S31x1024, .f32⟩
  | 4 => ⟨S31x1024, .f32⟩
  | 5 => ⟨S_, .f32⟩
  | 6 => ⟨S2094x1024, .f32⟩
  | 7 => ⟨S2094x1024, .f32⟩
  | 8 => ⟨S2064x1024, .f32⟩
  | 9 => ⟨S_, .f32⟩
  | 10 => ⟨S1024, .f32⟩
  | 11 => ⟨S1x1024, .f32⟩
  | 12 => ⟨S2064x1024, .f32⟩
  | 13 => ⟨S2064x1024, .f32⟩
  | 14 => ⟨S_, .f32⟩
  | 15 => ⟨S1024, .f32⟩
  | 16 => ⟨S1x1024, .f32⟩
  | 17 => ⟨S_, .f32⟩
  | 18 => ⟨S31x1024, .f32⟩
  | 19 => ⟨S31x1024, .f32⟩
  | 20 => ⟨S_, .f32⟩
  | 21 => ⟨S2094x1024, .f32⟩
  | 22 => ⟨S2094x1024, .f32⟩
  | 23 => ⟨S2064x1024, .f32⟩
  | 24 => ⟨S_, .f32⟩
  | 25 => ⟨S1024, .f32⟩
  | 26 => ⟨S1x1024, .f32⟩
  | 27 => ⟨S2064x1024, .f32⟩
  | 28 => ⟨S2064x1024, .f32⟩
  | 29 => ⟨S_, .f32⟩
  | 30 => ⟨S1024, .f32⟩
  | 31 => ⟨S1x1024, .f32⟩
  | 32 => ⟨S_, .f32⟩
  | 33 => ⟨S31x1024, .f32⟩
  | 34 => ⟨S31x1024, .f32⟩
  | 35 => ⟨S_, .f32⟩
  | 36 => ⟨S2094x1024, .f32⟩
  | 37 => ⟨S2094x1024, .f32⟩
  | 38 => ⟨S2064x1024, .f32⟩
  | 39 => ⟨S_, .f32⟩
  | 40 => ⟨S1024, .f32⟩
  | 41 => ⟨S1x1024, .f32⟩
  | 42 => ⟨S2064x1024, .f32⟩
  | 43 => ⟨S2064x1024, .f32⟩
  | 44 => ⟨S_, .f32⟩
  | 45 => ⟨S1024, .f32⟩
  | 46 => ⟨S1x1024, .f32⟩
  | 47 => ⟨S_, .f32⟩
  | 48 => ⟨S31x1024, .f32⟩
  | 49 => ⟨S31x1024, .f32⟩
  | 50 => ⟨S_, .f32⟩
  | 51 => ⟨S2094x1024, .f32⟩
  | 52 => ⟨S2094x1024, .f32⟩
  | 53 => ⟨S2064x1024, .f32⟩
  | 54 => ⟨S_, .f32⟩
  | 55 => ⟨S1024, .f32⟩
  | 56 => ⟨S1x1024, .f32⟩
  | 57 => ⟨S2064x1024, .f32⟩
  | 58 => ⟨S2064x1024, .f32⟩
  | 59 => ⟨S_, .f32⟩
  | 60 => ⟨S1024, .f32⟩
  | 61 => ⟨S1x1024, .f32⟩
  | 62 => ⟨S_, .f32⟩
  | 63 => ⟨S31x1024, .f32⟩
  | 64 => ⟨S31x1024, .f32⟩
  | 65 => ⟨S_, .f32⟩
  | 66 => ⟨S2094x1024, .f32⟩
  | 67 => ⟨S2094x1024, .f32⟩
  | 68 => ⟨S30x1024, .f32⟩
  | 69 => ⟨S2064x1024, .f32⟩
  | 70 => ⟨S2064x1024, .f32⟩
  | 71 => ⟨S2064x1024, .f32⟩
  | 72 => ⟨S2064x1024, .f32⟩
  | 73 => ⟨S2064x1024, .bf16⟩
  | 74 => ⟨S2064x1024, .bf16⟩
  | _ => ⟨S2064x3072, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2064x3072, .f32⟩

abbrev bufTy : (tb : Table) → Fin (tcTables nBuf tb) → BufTy
  | .hbm, ⟨i, _⟩ => hbmTy i
  | _, _ => ⟨S2064x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_cst_5 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_cst_6 : Ref sig .tc := ⟨.hbm, 251, rfl⟩
abbrev main_v241 : Ref sig .tc := ⟨.hbm, 252, rfl⟩
abbrev main_v242 : Ref sig .tc := ⟨.hbm, 253, rfl⟩
abbrev main_cst_7 : Ref sig .tc := ⟨.hbm, 254, rfl⟩
abbrev main_v243 : Ref sig .tc := ⟨.hbm, 255, rfl⟩
abbrev main_cst_8 : Ref sig .tc := ⟨.hbm, 256, rfl⟩
abbrev main_v244 : Ref sig .tc := ⟨.hbm, 257, rfl⟩
abbrev main_v245 : Ref sig .tc := ⟨.hbm, 258, rfl⟩
abbrev main_cst_9 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_cst_10 : Ref sig .tc := ⟨.hbm, 264, rfl⟩
abbrev main_v250 : Ref sig .tc := ⟨.hbm, 265, rfl⟩
abbrev main_v251 : Ref sig .tc := ⟨.hbm, 266, rfl⟩
abbrev main_cst_11 : Ref sig .tc := ⟨.hbm, 267, rfl⟩
abbrev main_v252 : Ref sig .tc := ⟨.hbm, 268, rfl⟩
abbrev main_v253 : Ref sig .tc := ⟨.hbm, 269, rfl⟩
abbrev main_cst_12 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_cst_13 : Ref sig .tc := ⟨.hbm, 274, rfl⟩
abbrev main_v257 : Ref sig .tc := ⟨.hbm, 275, rfl⟩
abbrev main_v258 : Ref sig .tc := ⟨.hbm, 276, rfl⟩
abbrev main_v259 : Ref sig .tc := ⟨.hbm, 277, rfl⟩
abbrev main_v260 : Ref sig .tc := ⟨.hbm, 278, rfl⟩
abbrev main_cst_14 : Ref sig .tc := ⟨.hbm, 279, rfl⟩
abbrev main_v261 : Ref sig .tc := ⟨.hbm, 280, rfl⟩
abbrev main_v262 : Ref sig .tc := ⟨.hbm, 281, rfl⟩
abbrev main_cst_15 : Ref sig .tc := ⟨.hbm, 282, rfl⟩
abbrev main_v263 : Ref sig .tc := ⟨.hbm, 283, rfl⟩
abbrev main_v264 : Ref sig .tc := ⟨.hbm, 284, rfl⟩
abbrev main_cst_16 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_cst_17 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_cst_18 : Ref sig .tc := ⟨.hbm, 294, rfl⟩
abbrev main_v272 : Ref sig .tc := ⟨.hbm, 295, rfl⟩
abbrev main_v273 : Ref sig .tc := ⟨.hbm, 296, rfl⟩
abbrev main_cst_19 : Ref sig .tc := ⟨.hbm, 297, rfl⟩
abbrev main_v274 : Ref sig .tc := ⟨.hbm, 298, rfl⟩
abbrev main_v275 : Ref sig .tc := ⟨.hbm, 299, rfl⟩
abbrev main_cst_20 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_cst_21 : Ref sig .tc := ⟨.hbm, 304, rfl⟩
abbrev main_v279 : Ref sig .tc := ⟨.hbm, 305, rfl⟩
abbrev main_v280 : Ref sig .tc := ⟨.hbm, 306, rfl⟩
abbrev main_v281 : Ref sig .tc := ⟨.hbm, 307, rfl⟩
abbrev main_v282 : Ref sig .tc := ⟨.hbm, 308, rfl⟩
abbrev main_cst_22 : Ref sig .tc := ⟨.hbm, 309, rfl⟩
abbrev main_v283 : Ref sig .tc := ⟨.hbm, 310, rfl⟩
abbrev main_v284 : Ref sig .tc := ⟨.hbm, 311, rfl⟩
abbrev main_cst_23 : Ref sig .tc := ⟨.hbm, 312, rfl⟩
abbrev main_v285 : Ref sig .tc := ⟨.hbm, 313, rfl⟩
abbrev main_v286 : Ref sig .tc := ⟨.hbm, 314, rfl⟩
abbrev main_cst_24 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_cst_25 : Ref sig .tc := ⟨.hbm, 319, rfl⟩
abbrev main_v290 : Ref sig .tc := ⟨.hbm, 320, rfl⟩
abbrev main_v291 : Ref sig .tc := ⟨.hbm, 321, rfl⟩
abbrev main_v292 : Ref sig .tc := ⟨.hbm, 322, rfl⟩
abbrev main_v293 : Ref sig .tc := ⟨.hbm, 323, rfl⟩
abbrev main_cst_26 : Ref sig .tc := ⟨.hbm, 324, rfl⟩
abbrev main_v294 : Ref sig .tc := ⟨.hbm, 325, rfl⟩
abbrev main_v295 : Ref sig .tc := ⟨.hbm, 326, rfl⟩
abbrev main_cst_27 : Ref sig .tc := ⟨.hbm, 327, rfl⟩
abbrev main_v296 : Ref sig .tc := ⟨.hbm, 328, rfl⟩
abbrev main_v297 : Ref sig .tc := ⟨.hbm, 329, rfl⟩
abbrev main_cst_28 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_cst_29 : Ref sig .tc := ⟨.hbm, 334, rfl⟩
abbrev main_v301 : Ref sig .tc := ⟨.hbm, 335, rfl⟩
abbrev main_v302 : Ref sig .tc := ⟨.hbm, 336, rfl⟩
abbrev main_v303 : Ref sig .tc := ⟨.hbm, 337, rfl⟩
abbrev main_v304 : Ref sig .tc := ⟨.hbm, 338, rfl⟩
abbrev main_cst_30 : Ref sig .tc := ⟨.hbm, 339, rfl⟩
abbrev main_v305 : Ref sig .tc := ⟨.hbm, 340, rfl⟩
abbrev main_v306 : Ref sig .tc := ⟨.hbm, 341, rfl⟩
abbrev main_cst_31 : Ref sig .tc := ⟨.hbm, 342, rfl⟩
abbrev main_v307 : Ref sig .tc := ⟨.hbm, 343, rfl⟩
abbrev main_v308 : Ref sig .tc := ⟨.hbm, 344, rfl⟩
abbrev main_cst_32 : Ref sig .tc := ⟨.hbm, 345, rfl⟩
abbrev main_v309 : Ref sig .tc := ⟨.hbm, 346, rfl⟩
abbrev main_v310 : Ref sig .tc := ⟨.hbm, 347, rfl⟩
abbrev main_v311 : Ref sig .tc := ⟨.hbm, 348, rfl⟩
abbrev main_cst_33 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_cst_34 : Ref sig .tc := ⟨.hbm, 354, rfl⟩
abbrev main_v316 : Ref sig .tc := ⟨.hbm, 355, rfl⟩
abbrev main_v317 : Ref sig .tc := ⟨.hbm, 356, rfl⟩
abbrev main_cst_35 : Ref sig .tc := ⟨.hbm, 357, rfl⟩
abbrev main_v318 : Ref sig .tc := ⟨.hbm, 358, rfl⟩
abbrev main_v319 : Ref sig .tc := ⟨.hbm, 359, rfl⟩
abbrev main_cst_36 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_cst_37 : Ref sig .tc := ⟨.hbm, 364, rfl⟩
abbrev main_v323 : Ref sig .tc := ⟨.hbm, 365, rfl⟩
abbrev main_v324 : Ref sig .tc := ⟨.hbm, 366, rfl⟩
abbrev main_v325 : Ref sig .tc := ⟨.hbm, 367, rfl⟩
abbrev main_v326 : Ref sig .tc := ⟨.hbm, 368, rfl⟩
abbrev main_cst_38 : Ref sig .tc := ⟨.hbm, 369, rfl⟩
abbrev main_v327 : Ref sig .tc := ⟨.hbm, 370, rfl⟩
abbrev main_v328 : Ref sig .tc := ⟨.hbm, 371, rfl⟩
abbrev main_cst_39 : Ref sig .tc := ⟨.hbm, 372, rfl⟩
abbrev main_v329 : Ref sig .tc := ⟨.hbm, 373, rfl⟩
abbrev main_v330 : Ref sig .tc := ⟨.hbm, 374, rfl⟩
abbrev main_cst_40 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_cst_41 : Ref sig .tc := ⟨.hbm, 379, rfl⟩
abbrev main_v334 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_cst_42 : Ref sig .tc := ⟨.hbm, 384, rfl⟩
abbrev main_v338 : Ref sig .tc := ⟨.hbm, 385, rfl⟩
abbrev main_v339 : Ref sig .tc := ⟨.hbm, 386, rfl⟩
abbrev main_cst_43 : Ref sig .tc := ⟨.hbm, 387, rfl⟩
abbrev main_v340 : Ref sig .tc := ⟨.hbm, 388, rfl⟩
abbrev main_v341 : Ref sig .tc := ⟨.hbm, 389, rfl⟩
abbrev main_cst_44 : Ref sig .tc := ⟨.hbm, 390, rfl⟩
abbrev main_v342 : Ref sig .tc := ⟨.hbm, 391, rfl⟩
abbrev main_v343 : Ref sig .tc := ⟨.hbm, 392, rfl⟩
abbrev main_v344 : Ref sig .tc := ⟨.hbm, 393, rfl⟩
abbrev main_cst_45 : Ref sig .tc := ⟨.hbm, 394, rfl⟩
abbrev main_v345 : Ref sig .tc := ⟨.hbm, 395, rfl⟩
abbrev main_v346 : Ref sig .tc := ⟨.hbm, 396, rfl⟩
abbrev main_v347 : Ref sig .tc := ⟨.hbm, 397, rfl⟩
abbrev main_v348 : Ref sig .tc := ⟨.hbm, 398, rfl⟩
abbrev main_cst_46 : Ref sig .tc := ⟨.hbm, 399, rfl⟩
abbrev main_v349 : Ref sig .tc := ⟨.hbm, 400, rfl⟩
abbrev main_v350 : Ref sig .tc := ⟨.hbm, 401, rfl⟩
abbrev main_cst_47 : Ref sig .tc := ⟨.hbm, 402, rfl⟩
abbrev main_v351 : Ref sig .tc := ⟨.hbm, 403, rfl⟩
abbrev main_v352 : Ref sig .tc := ⟨.hbm, 404, rfl⟩
abbrev main_cst_48 : Ref sig .tc := ⟨.hbm, 405, rfl⟩
abbrev main_v353 : Ref sig .tc := ⟨.hbm, 406, rfl⟩
abbrev main_v354 : Ref sig .tc := ⟨.hbm, 407, rfl⟩
abbrev main_v355 : Ref sig .tc := ⟨.hbm, 408, rfl⟩
abbrev main_cst_49 : Ref sig .tc := ⟨.hbm, 409, rfl⟩
abbrev main_v356 : Ref sig .tc := ⟨.hbm, 410, rfl⟩
abbrev main_v357 : Ref sig .tc := ⟨.hbm, 411, rfl⟩
abbrev main_v358 : Ref sig .tc := ⟨.hbm, 412, rfl⟩
abbrev main_v359 : Ref sig .tc := ⟨.hbm, 413, rfl⟩
abbrev main_cst_50 : Ref sig .tc := ⟨.hbm, 414, rfl⟩
abbrev main_v360 : Ref sig .tc := ⟨.hbm, 415, rfl⟩
abbrev main_v361 : Ref sig .tc := ⟨.hbm, 416, rfl⟩
abbrev main_cst_51 : Ref sig .tc := ⟨.hbm, 417, rfl⟩
abbrev main_v362 : Ref sig .tc := ⟨.hbm, 418, rfl⟩
abbrev main_v363 : Ref sig .tc := ⟨.hbm, 419, rfl⟩
abbrev main_cst_52 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_cst_53 : Ref sig .tc := ⟨.hbm, 424, rfl⟩
abbrev main_v367 : Ref sig .tc := ⟨.hbm, 425, rfl⟩
abbrev main_v368 : Ref sig .tc := ⟨.hbm, 426, rfl⟩
abbrev main_v369 : Ref sig .tc := ⟨.hbm, 427, rfl⟩
abbrev main_v370 : Ref sig .tc := ⟨.hbm, 428, rfl⟩
abbrev main_cst_54 : Ref sig .tc := ⟨.hbm, 429, rfl⟩
abbrev main_v371 : Ref sig .tc := ⟨.hbm, 430, rfl⟩
abbrev main_v372 : Ref sig .tc := ⟨.hbm, 431, rfl⟩
abbrev main_cst_55 : Ref sig .tc := ⟨.hbm, 432, rfl⟩
abbrev main_v373 : Ref sig .tc := ⟨.hbm, 433, rfl⟩
abbrev main_v374 : Ref sig .tc := ⟨.hbm, 434, rfl⟩
abbrev main_cst_56 : Ref sig .tc := ⟨.hbm, 435, rfl⟩
abbrev main_v375 : Ref sig .tc := ⟨.hbm, 436, rfl⟩
abbrev main_v376 : Ref sig .tc := ⟨.hbm, 437, rfl⟩
abbrev main_v377 : Ref sig .tc := ⟨.hbm, 438, rfl⟩
abbrev main_cst_57 : Ref sig .tc := ⟨.hbm, 439, rfl⟩
abbrev main_v378 : Ref sig .tc := ⟨.hbm, 440, rfl⟩
abbrev main_v379 : Ref sig .tc := ⟨.hbm, 441, rfl⟩
abbrev main_v380 : Ref sig .tc := ⟨.hbm, 442, rfl⟩
abbrev main_v381 : Ref sig .tc := ⟨.hbm, 443, rfl⟩
abbrev main_cst_58 : Ref sig .tc := ⟨.hbm, 444, rfl⟩
abbrev main_v382 : Ref sig .tc := ⟨.hbm, 445, rfl⟩
abbrev main_v383 : Ref sig .tc := ⟨.hbm, 446, rfl⟩
abbrev main_cst_59 : Ref sig .tc := ⟨.hbm, 447, rfl⟩
abbrev main_v384 : Ref sig .tc := ⟨.hbm, 448, rfl⟩
abbrev main_v385 : Ref sig .tc := ⟨.hbm, 449, rfl⟩
abbrev main_cst_60 : Ref sig .tc := ⟨.hbm, 450, rfl⟩
abbrev main_v386 : Ref sig .tc := ⟨.hbm, 451, rfl⟩
abbrev main_v387 : Ref sig .tc := ⟨.hbm, 452, rfl⟩
abbrev main_v388 : Ref sig .tc := ⟨.hbm, 453, rfl⟩
abbrev main_cst_61 : Ref sig .tc := ⟨.hbm, 454, rfl⟩
abbrev main_v389 : Ref sig .tc := ⟨.hbm, 455, rfl⟩
abbrev main_v390 : Ref sig .tc := ⟨.hbm, 456, rfl⟩
abbrev main_v391 : Ref sig .tc := ⟨.hbm, 457, rfl⟩
abbrev main_v392 : Ref sig .tc := ⟨.hbm, 458, rfl⟩
abbrev main_cst_62 : Ref sig .tc := ⟨.hbm, 459, rfl⟩
abbrev main_v393 : Ref sig .tc := ⟨.hbm, 460, rfl⟩
abbrev main_v394 : Ref sig .tc := ⟨.hbm, 461, rfl⟩
abbrev main_cst_63 : Ref sig .tc := ⟨.hbm, 462, rfl⟩
abbrev main_v395 : Ref sig .tc := ⟨.hbm, 463, rfl⟩
abbrev main_v396 : Ref sig .tc := ⟨.hbm, 464, rfl⟩
abbrev main_cst_64 : Ref sig .tc := ⟨.hbm, 465, rfl⟩
abbrev main_v397 : Ref sig .tc := ⟨.hbm, 466, rfl⟩
abbrev main_v398 : Ref sig .tc := ⟨.hbm, 467, rfl⟩
abbrev main_v399 : Ref sig .tc := ⟨.hbm, 468, rfl⟩
abbrev main_cst_65 : Ref sig .tc := ⟨.hbm, 469, rfl⟩
abbrev main_v400 : Ref sig .tc := ⟨.hbm, 470, rfl⟩
abbrev main_v401 : Ref sig .tc := ⟨.hbm, 471, rfl⟩
abbrev main_v402 : Ref sig .tc := ⟨.hbm, 472, rfl⟩
abbrev main_v403 : Ref sig .tc := ⟨.hbm, 473, rfl⟩
abbrev main_cst_66 : Ref sig .tc := ⟨.hbm, 474, rfl⟩
abbrev main_v404 : Ref sig .tc := ⟨.hbm, 475, rfl⟩
abbrev main_v405 : Ref sig .tc := ⟨.hbm, 476, rfl⟩
abbrev main_cst_67 : Ref sig .tc := ⟨.hbm, 477, rfl⟩
abbrev main_v406 : Ref sig .tc := ⟨.hbm, 478, rfl⟩
abbrev main_v407 : Ref sig .tc := ⟨.hbm, 479, rfl⟩
abbrev main_cst_68 : Ref sig .tc := ⟨.hbm, 480, rfl⟩
abbrev main_v408 : Ref sig .tc := ⟨.hbm, 481, rfl⟩
abbrev main_v409 : Ref sig .tc := ⟨.hbm, 482, rfl⟩
abbrev main_v410 : Ref sig .tc := ⟨.hbm, 483, rfl⟩
abbrev main_cst_69 : Ref sig .tc := ⟨.hbm, 484, rfl⟩
abbrev main_v411 : Ref sig .tc := ⟨.hbm, 485, rfl⟩
abbrev main_v412 : Ref sig .tc := ⟨.hbm, 486, rfl⟩
abbrev main_v413 : Ref sig .tc := ⟨.hbm, 487, rfl⟩
abbrev main_v414 : Ref sig .tc := ⟨.hbm, 488, rfl⟩
abbrev main_cst_70 : Ref sig .tc := ⟨.hbm, 489, rfl⟩
abbrev main_v415 : Ref sig .tc := ⟨.hbm, 490, rfl⟩
abbrev main_v416 : Ref sig .tc := ⟨.hbm, 491, rfl⟩
abbrev main_cst_71 : Ref sig .tc := ⟨.hbm, 492, rfl⟩
abbrev main_v417 : Ref sig .tc := ⟨.hbm, 493, rfl⟩
abbrev main_v418 : Ref sig .tc := ⟨.hbm, 494, rfl⟩
abbrev main_cst_72 : Ref sig .tc := ⟨.hbm, 495, rfl⟩
abbrev main_v419 : Ref sig .tc := ⟨.hbm, 496, rfl⟩
abbrev main_v420 : Ref sig .tc := ⟨.hbm, 497, rfl⟩
abbrev main_v421 : Ref sig .tc := ⟨.hbm, 498, rfl⟩
abbrev main_cst_73 : Ref sig .tc := ⟨.hbm, 499, rfl⟩
abbrev main_v422 : Ref sig .tc := ⟨.hbm, 500, rfl⟩
abbrev main_v423 : Ref sig .tc := ⟨.hbm, 501, rfl⟩
abbrev main_v424 : Ref sig .tc := ⟨.hbm, 502, rfl⟩
abbrev main_v425 : Ref sig .tc := ⟨.hbm, 503, rfl⟩
abbrev main_cst_74 : Ref sig .tc := ⟨.hbm, 504, rfl⟩
abbrev main_v426 : Ref sig .tc := ⟨.hbm, 505, rfl⟩
abbrev main_v427 : Ref sig .tc := ⟨.hbm, 506, rfl⟩
abbrev main_cst_75 : Ref sig .tc := ⟨.hbm, 507, rfl⟩
abbrev main_v428 : Ref sig .tc := ⟨.hbm, 508, rfl⟩
abbrev main_v429 : Ref sig .tc := ⟨.hbm, 509, rfl⟩
abbrev main_cst_76 : Ref sig .tc := ⟨.hbm, 510, rfl⟩
abbrev main_v430 : Ref sig .tc := ⟨.hbm, 511, rfl⟩
abbrev main_v431 : Ref sig .tc := ⟨.hbm, 512, rfl⟩
abbrev main_v432 : Ref sig .tc := ⟨.hbm, 513, rfl⟩
abbrev main_cst_77 : Ref sig .tc := ⟨.hbm, 514, rfl⟩
abbrev main_v433 : Ref sig .tc := ⟨.hbm, 515, rfl⟩
abbrev main_v434 : Ref sig .tc := ⟨.hbm, 516, rfl⟩
abbrev main_v435 : Ref sig .tc := ⟨.hbm, 517, rfl⟩
abbrev main_v436 : Ref sig .tc := ⟨.hbm, 518, rfl⟩
abbrev main_cst_78 : Ref sig .tc := ⟨.hbm, 519, rfl⟩
abbrev main_v437 : Ref sig .tc := ⟨.hbm, 520, rfl⟩
abbrev main_v438 : Ref sig .tc := ⟨.hbm, 521, rfl⟩
abbrev main_cst_79 : Ref sig .tc := ⟨.hbm, 522, rfl⟩
abbrev main_v439 : Ref sig .tc := ⟨.hbm, 523, rfl⟩
abbrev main_v440 : Ref sig .tc := ⟨.hbm, 524, rfl⟩
abbrev main_cst_80 : Ref sig .tc := ⟨.hbm, 525, rfl⟩
abbrev main_v441 : Ref sig .tc := ⟨.hbm, 526, rfl⟩
abbrev main_v442 : Ref sig .tc := ⟨.hbm, 527, rfl⟩
abbrev main_v443 : Ref sig .tc := ⟨.hbm, 528, rfl⟩
abbrev main_cst_81 : Ref sig .tc := ⟨.hbm, 529, rfl⟩
abbrev main_v444 : Ref sig .tc := ⟨.hbm, 530, rfl⟩
abbrev main_v445 : Ref sig .tc := ⟨.hbm, 531, rfl⟩
abbrev main_v446 : Ref sig .tc := ⟨.hbm, 532, rfl⟩
abbrev main_v447 : Ref sig .tc := ⟨.hbm, 533, rfl⟩
abbrev main_cst_82 : Ref sig .tc := ⟨.hbm, 534, rfl⟩
abbrev main_v448 : Ref sig .tc := ⟨.hbm, 535, rfl⟩
abbrev main_v449 : Ref sig .tc := ⟨.hbm, 536, rfl⟩
abbrev main_cst_83 : Ref sig .tc := ⟨.hbm, 537, rfl⟩
abbrev main_v450 : Ref sig .tc := ⟨.hbm, 538, rfl⟩
abbrev main_v451 : Ref sig .tc := ⟨.hbm, 539, rfl⟩
abbrev main_cst_84 : Ref sig .tc := ⟨.hbm, 540, rfl⟩
abbrev main_v452 : Ref sig .tc := ⟨.hbm, 541, rfl⟩
abbrev main_v453 : Ref sig .tc := ⟨.hbm, 542, rfl⟩
abbrev main_v454 : Ref sig .tc := ⟨.hbm, 543, rfl⟩
abbrev main_cst_85 : Ref sig .tc := ⟨.hbm, 544, rfl⟩
abbrev main_v455 : Ref sig .tc := ⟨.hbm, 545, rfl⟩
abbrev main_v456 : Ref sig .tc := ⟨.hbm, 546, rfl⟩
abbrev main_v457 : Ref sig .tc := ⟨.hbm, 547, rfl⟩
abbrev main_v458 : Ref sig .tc := ⟨.hbm, 548, rfl⟩
abbrev main_cst_86 : Ref sig .tc := ⟨.hbm, 549, rfl⟩
abbrev main_v459 : Ref sig .tc := ⟨.hbm, 550, rfl⟩
abbrev main_v460 : Ref sig .tc := ⟨.hbm, 551, rfl⟩
abbrev main_cst_87 : Ref sig .tc := ⟨.hbm, 552, rfl⟩
abbrev main_v461 : Ref sig .tc := ⟨.hbm, 553, rfl⟩
abbrev main_v462 : Ref sig .tc := ⟨.hbm, 554, rfl⟩
abbrev main_cst_88 : Ref sig .tc := ⟨.hbm, 555, rfl⟩
abbrev main_v463 : Ref sig .tc := ⟨.hbm, 556, rfl⟩
abbrev main_v464 : Ref sig .tc := ⟨.hbm, 557, rfl⟩
abbrev main_v465 : Ref sig .tc := ⟨.hbm, 558, rfl⟩
abbrev main_cst_89 : Ref sig .tc := ⟨.hbm, 559, rfl⟩
abbrev main_v466 : Ref sig .tc := ⟨.hbm, 560, rfl⟩
abbrev main_v467 : Ref sig .tc := ⟨.hbm, 561, rfl⟩
abbrev main_v468 : Ref sig .tc := ⟨.hbm, 562, rfl⟩
abbrev main_v469 : Ref sig .tc := ⟨.hbm, 563, rfl⟩
abbrev main_cst_90 : Ref sig .tc := ⟨.hbm, 564, rfl⟩
abbrev main_v470 : Ref sig .tc := ⟨.hbm, 565, rfl⟩
abbrev main_v471 : Ref sig .tc := ⟨.hbm, 566, rfl⟩
abbrev main_cst_91 : Ref sig .tc := ⟨.hbm, 567, rfl⟩
abbrev main_v472 : Ref sig .tc := ⟨.hbm, 568, rfl⟩
abbrev main_v473 : Ref sig .tc := ⟨.hbm, 569, rfl⟩
abbrev main_cst_92 : Ref sig .tc := ⟨.hbm, 570, rfl⟩
abbrev main_v474 : Ref sig .tc := ⟨.hbm, 571, rfl⟩
abbrev main_v475 : Ref sig .tc := ⟨.hbm, 572, rfl⟩
abbrev main_v476 : Ref sig .tc := ⟨.hbm, 573, rfl⟩
abbrev main_cst_93 : Ref sig .tc := ⟨.hbm, 574, rfl⟩
abbrev main_v477 : Ref sig .tc := ⟨.hbm, 575, rfl⟩
abbrev main_v478 : Ref sig .tc := ⟨.hbm, 576, rfl⟩
abbrev main_v479 : Ref sig .tc := ⟨.hbm, 577, rfl⟩
abbrev main_v480 : Ref sig .tc := ⟨.hbm, 578, rfl⟩
abbrev main_cst_94 : Ref sig .tc := ⟨.hbm, 579, rfl⟩
abbrev main_v481 : Ref sig .tc := ⟨.hbm, 580, rfl⟩
abbrev main_v482 : Ref sig .tc := ⟨.hbm, 581, rfl⟩
abbrev main_cst_95 : Ref sig .tc := ⟨.hbm, 582, rfl⟩
abbrev main_v483 : Ref sig .tc := ⟨.hbm, 583, rfl⟩
abbrev main_v484 : Ref sig .tc := ⟨.hbm, 584, rfl⟩
abbrev main_cst_96 : Ref sig .tc := ⟨.hbm, 585, rfl⟩
abbrev main_v485 : Ref sig .tc := ⟨.hbm, 586, rfl⟩
abbrev main_v486 : Ref sig .tc := ⟨.hbm, 587, rfl⟩
abbrev main_v487 : Ref sig .tc := ⟨.hbm, 588, rfl⟩
abbrev main_cst_97 : Ref sig .tc := ⟨.hbm, 589, rfl⟩
abbrev main_v488 : Ref sig .tc := ⟨.hbm, 590, rfl⟩
abbrev main_v489 : Ref sig .tc := ⟨.hbm, 591, rfl⟩
abbrev main_v490 : Ref sig .tc := ⟨.hbm, 592, rfl⟩
abbrev main_v491 : Ref sig .tc := ⟨.hbm, 593, rfl⟩
abbrev main_cst_98 : Ref sig .tc := ⟨.hbm, 594, rfl⟩
abbrev main_v492 : Ref sig .tc := ⟨.hbm, 595, rfl⟩
abbrev main_v493 : Ref sig .tc := ⟨.hbm, 596, rfl⟩
abbrev main_cst_99 : Ref sig .tc := ⟨.hbm, 597, rfl⟩
abbrev main_v494 : Ref sig .tc := ⟨.hbm, 598, rfl⟩
abbrev main_v495 : Ref sig .tc := ⟨.hbm, 599, rfl⟩
abbrev main_cst_100 : Ref sig .tc := ⟨.hbm, 600, rfl⟩
abbrev main_v496 : Ref sig .tc := ⟨.hbm, 601, rfl⟩
abbrev main_v497 : Ref sig .tc := ⟨.hbm, 602, rfl⟩
abbrev main_v498 : Ref sig .tc := ⟨.hbm, 603, rfl⟩
abbrev main_cst_101 : Ref sig .tc := ⟨.hbm, 604, rfl⟩
abbrev main_v499 : Ref sig .tc := ⟨.hbm, 605, rfl⟩
abbrev main_v500 : Ref sig .tc := ⟨.hbm, 606, rfl⟩
abbrev main_v501 : Ref sig .tc := ⟨.hbm, 607, rfl⟩
abbrev main_v502 : Ref sig .tc := ⟨.hbm, 608, rfl⟩
abbrev main_cst_102 : Ref sig .tc := ⟨.hbm, 609, rfl⟩
abbrev main_v503 : Ref sig .tc := ⟨.hbm, 610, rfl⟩
abbrev main_v504 : Ref sig .tc := ⟨.hbm, 611, rfl⟩
abbrev main_cst_103 : Ref sig .tc := ⟨.hbm, 612, rfl⟩
abbrev main_v505 : Ref sig .tc := ⟨.hbm, 613, rfl⟩
abbrev main_v506 : Ref sig .tc := ⟨.hbm, 614, rfl⟩
abbrev main_cst_104 : Ref sig .tc := ⟨.hbm, 615, rfl⟩
abbrev main_v507 : Ref sig .tc := ⟨.hbm, 616, rfl⟩
abbrev main_v508 : Ref sig .tc := ⟨.hbm, 617, rfl⟩
abbrev main_v509 : Ref sig .tc := ⟨.hbm, 618, rfl⟩
abbrev main_cst_105 : Ref sig .tc := ⟨.hbm, 619, rfl⟩
abbrev main_v510 : Ref sig .tc := ⟨.hbm, 620, rfl⟩
abbrev main_v511 : Ref sig .tc := ⟨.hbm, 621, rfl⟩
abbrev main_v512 : Ref sig .tc := ⟨.hbm, 622, rfl⟩
abbrev main_v513 : Ref sig .tc := ⟨.hbm, 623, rfl⟩
abbrev main_cst_106 : Ref sig .tc := ⟨.hbm, 624, rfl⟩
abbrev main_v514 : Ref sig .tc := ⟨.hbm, 625, rfl⟩
abbrev main_v515 : Ref sig .tc := ⟨.hbm, 626, rfl⟩
abbrev main_cst_107 : Ref sig .tc := ⟨.hbm, 627, rfl⟩
abbrev main_v516 : Ref sig .tc := ⟨.hbm, 628, rfl⟩
abbrev main_v517 : Ref sig .tc := ⟨.hbm, 629, rfl⟩
abbrev main_cst_108 : Ref sig .tc := ⟨.hbm, 630, rfl⟩
abbrev main_v518 : Ref sig .tc := ⟨.hbm, 631, rfl⟩
abbrev main_v519 : Ref sig .tc := ⟨.hbm, 632, rfl⟩
abbrev main_v520 : Ref sig .tc := ⟨.hbm, 633, rfl⟩
abbrev main_cst_109 : Ref sig .tc := ⟨.hbm, 634, rfl⟩
abbrev main_v521 : Ref sig .tc := ⟨.hbm, 635, rfl⟩
abbrev main_v522 : Ref sig .tc := ⟨.hbm, 636, rfl⟩
abbrev main_v523 : Ref sig .tc := ⟨.hbm, 637, rfl⟩
abbrev main_v524 : Ref sig .tc := ⟨.hbm, 638, rfl⟩
abbrev main_cst_110 : Ref sig .tc := ⟨.hbm, 639, rfl⟩
abbrev main_v525 : Ref sig .tc := ⟨.hbm, 640, rfl⟩
abbrev main_v526 : Ref sig .tc := ⟨.hbm, 641, rfl⟩
abbrev main_cst_111 : Ref sig .tc := ⟨.hbm, 642, rfl⟩
abbrev main_v527 : Ref sig .tc := ⟨.hbm, 643, rfl⟩
abbrev main_v528 : Ref sig .tc := ⟨.hbm, 644, rfl⟩
abbrev main_cst_112 : Ref sig .tc := ⟨.hbm, 645, rfl⟩
abbrev main_v529 : Ref sig .tc := ⟨.hbm, 646, rfl⟩
abbrev main_v530 : Ref sig .tc := ⟨.hbm, 647, rfl⟩
abbrev main_v531 : Ref sig .tc := ⟨.hbm, 648, rfl⟩
abbrev main_cst_113 : Ref sig .tc := ⟨.hbm, 649, rfl⟩
abbrev main_v532 : Ref sig .tc := ⟨.hbm, 650, rfl⟩
abbrev main_v533 : Ref sig .tc := ⟨.hbm, 651, rfl⟩
abbrev main_v534 : Ref sig .tc := ⟨.hbm, 652, rfl⟩
abbrev main_v535 : Ref sig .tc := ⟨.hbm, 653, rfl⟩
abbrev main_cst_114 : Ref sig .tc := ⟨.hbm, 654, rfl⟩
abbrev main_v536 : Ref sig .tc := ⟨.hbm, 655, rfl⟩
abbrev main_v537 : Ref sig .tc := ⟨.hbm, 656, rfl⟩
abbrev main_cst_115 : Ref sig .tc := ⟨.hbm, 657, rfl⟩
abbrev main_v538 : Ref sig .tc := ⟨.hbm, 658, rfl⟩
abbrev main_v539 : Ref sig .tc := ⟨.hbm, 659, rfl⟩
abbrev main_cst_116 : Ref sig .tc := ⟨.hbm, 660, rfl⟩
abbrev main_v540 : Ref sig .tc := ⟨.hbm, 661, rfl⟩
abbrev main_v541 : Ref sig .tc := ⟨.hbm, 662, rfl⟩
abbrev main_v542 : Ref sig .tc := ⟨.hbm, 663, rfl⟩
abbrev main_cst_117 : Ref sig .tc := ⟨.hbm, 664, rfl⟩
abbrev main_v543 : Ref sig .tc := ⟨.hbm, 665, rfl⟩
abbrev main_v544 : Ref sig .tc := ⟨.hbm, 666, rfl⟩
abbrev main_v545 : Ref sig .tc := ⟨.hbm, 667, rfl⟩
abbrev main_v546 : Ref sig .tc := ⟨.hbm, 668, rfl⟩
abbrev main_cst_118 : Ref sig .tc := ⟨.hbm, 669, rfl⟩
abbrev main_v547 : Ref sig .tc := ⟨.hbm, 670, rfl⟩
abbrev main_v548 : Ref sig .tc := ⟨.hbm, 671, rfl⟩
abbrev main_cst_119 : Ref sig .tc := ⟨.hbm, 672, rfl⟩
abbrev main_v549 : Ref sig .tc := ⟨.hbm, 673, rfl⟩
abbrev main_v550 : Ref sig .tc := ⟨.hbm, 674, rfl⟩
abbrev main_cst_120 : Ref sig .tc := ⟨.hbm, 675, rfl⟩
abbrev main_v551 : Ref sig .tc := ⟨.hbm, 676, rfl⟩
abbrev main_v552 : Ref sig .tc := ⟨.hbm, 677, rfl⟩
abbrev main_v553 : Ref sig .tc := ⟨.hbm, 678, rfl⟩
abbrev main_cst_121 : Ref sig .tc := ⟨.hbm, 679, rfl⟩
abbrev main_v554 : Ref sig .tc := ⟨.hbm, 680, rfl⟩
abbrev main_v555 : Ref sig .tc := ⟨.hbm, 681, rfl⟩
abbrev main_v556 : Ref sig .tc := ⟨.hbm, 682, rfl⟩
abbrev main_v557 : Ref sig .tc := ⟨.hbm, 683, rfl⟩
abbrev main_cst_122 : Ref sig .tc := ⟨.hbm, 684, rfl⟩
abbrev main_v558 : Ref sig .tc := ⟨.hbm, 685, rfl⟩
abbrev main_v559 : Ref sig .tc := ⟨.hbm, 686, rfl⟩
abbrev main_cst_123 : Ref sig .tc := ⟨.hbm, 687, rfl⟩
abbrev main_v560 : Ref sig .tc := ⟨.hbm, 688, rfl⟩
abbrev main_v561 : Ref sig .tc := ⟨.hbm, 689, rfl⟩
abbrev main_cst_124 : Ref sig .tc := ⟨.hbm, 690, rfl⟩
abbrev main_v562 : Ref sig .tc := ⟨.hbm, 691, rfl⟩
abbrev main_v563 : Ref sig .tc := ⟨.hbm, 692, rfl⟩
abbrev main_v564 : Ref sig .tc := ⟨.hbm, 693, rfl⟩
abbrev main_cst_125 : Ref sig .tc := ⟨.hbm, 694, rfl⟩
abbrev main_v565 : Ref sig .tc := ⟨.hbm, 695, rfl⟩
abbrev main_v566 : Ref sig .tc := ⟨.hbm, 696, rfl⟩
abbrev main_v567 : Ref sig .tc := ⟨.hbm, 697, rfl⟩
abbrev main_v568 : Ref sig .tc := ⟨.hbm, 698, rfl⟩
abbrev main_cst_126 : Ref sig .tc := ⟨.hbm, 699, rfl⟩
abbrev main_v569 : Ref sig .tc := ⟨.hbm, 700, rfl⟩
abbrev main_v570 : Ref sig .tc := ⟨.hbm, 701, rfl⟩
abbrev main_cst_127 : Ref sig .tc := ⟨.hbm, 702, rfl⟩
abbrev main_v571 : Ref sig .tc := ⟨.hbm, 703, rfl⟩
abbrev main_v572 : Ref sig .tc := ⟨.hbm, 704, rfl⟩
abbrev main_cst_128 : Ref sig .tc := ⟨.hbm, 705, rfl⟩
abbrev main_v573 : Ref sig .tc := ⟨.hbm, 706, rfl⟩
abbrev main_v574 : Ref sig .tc := ⟨.hbm, 707, rfl⟩
abbrev main_v575 : Ref sig .tc := ⟨.hbm, 708, rfl⟩
abbrev main_v576 : Ref sig .tc := ⟨.hbm, 709, rfl⟩
abbrev main_v577 : Ref sig .tc := ⟨.hbm, 710, rfl⟩
abbrev main_v578 : Ref sig .tc := ⟨.hbm, 711, rfl⟩
abbrev main_v579 : Ref sig .tc := ⟨.hbm, 712, rfl⟩
abbrev main_v580 : Ref sig .tc := ⟨.hbm, 713, rfl⟩
abbrev main_v581 : Ref sig .tc := ⟨.hbm, 714, rfl⟩

abbrev nD : Nat := 1
abbrev τ : Topo := Topo.v7x

variable {F : FTy → Type} [FloatOps F]
-- ==== MidNorm.lean ====
abbrev S2064x2048 : Shape := ⟨2, ![2064, 2048]⟩
abbrev S2048 : Shape := ⟨1, ![2048]⟩
abbrev S_ : Shape := ⟨0, ![]⟩
abbrev S2064 : Shape := ⟨1, ![2064]⟩
abbrev S2064x1 : Shape := ⟨2, ![2064, 1]⟩
abbrev S1x2048 : Shape := ⟨2, ![1, 2048]⟩
abbrev S2176x2048 : Shape := ⟨2, ![2176, 2048]⟩
abbrev S272x2048 : Shape := ⟨2, ![272, 2048]⟩
abbrev S272 : Shape := ⟨1, ![272]⟩
abbrev S272x1 : Shape := ⟨2, ![272, 1]⟩

abbrev nBuf : Space → Nat
  | .hbm => 41
  | .vmem => 16
  | .smem => 0
  | _ => 0

abbrev bufTy : (tb : Table) → Fin (tcTables nBuf tb) → BufTy
  | .hbm, ⟨0, _⟩ => ⟨S2064x2048, .f32⟩
  | .hbm, ⟨1, _⟩ => ⟨S2064x2048, .f32⟩
  | .hbm, ⟨2, _⟩ => ⟨S2048, .f32⟩
  | .hbm, ⟨3, _⟩ => ⟨S2048, .f32⟩
  | .hbm, ⟨4, _⟩ => ⟨S2064x2048, .f32⟩
  | .hbm, ⟨5, _⟩ => ⟨S2064x2048, .f32⟩
  | .hbm, ⟨6, _⟩ => ⟨S2064x2048, .f32⟩
  | .hbm, ⟨7, _⟩ => ⟨S_, .f32⟩
  | .hbm, ⟨8, _⟩ => ⟨S2064, .f32⟩
  | .hbm, ⟨9, _⟩ => ⟨S2064x1, .f32⟩
  | .hbm, ⟨10, _⟩ => ⟨S_, .f32⟩
  | .hbm, ⟨11, _⟩ => ⟨S2064x1, .f32⟩
  | .hbm, ⟨12, _⟩ => ⟨S2064x1, .f32⟩
  | .hbm, ⟨13, _⟩ => ⟨S_, .f32⟩
  | .hbm, ⟨14, _⟩ => ⟨S2064x1, .f32⟩
  | .hbm, ⟨15, _⟩ => ⟨S2064x1, .f32⟩
  | .hbm, ⟨16, _⟩ => ⟨S2064x1, .f32⟩
  | .hbm, ⟨17, _⟩ => ⟨S2064x2048, .f32⟩
  | .hbm, ⟨18, _⟩ => ⟨S2064x2048, .f32⟩
  | .hbm, ⟨19, _⟩ => ⟨S1x2048, .f32⟩
  | .hbm, ⟨20, _⟩ => ⟨S2064x2048, .f32⟩
  | .hbm, ⟨21, _⟩ => ⟨S2064x2048, .f32⟩
  | .hbm, ⟨22, _⟩ => ⟨S2064x2048, .f32⟩
  | .hbm, ⟨23, _⟩ => ⟨S_, .i32⟩
  | .hbm, ⟨24, _⟩ => ⟨S_, .f32⟩
  | .hbm, ⟨25, _⟩ => ⟨S2176x2048, .f32⟩
  | .hbm, ⟨26, _⟩ => ⟨S_, .i32⟩
  | .hbm, ⟨27, _⟩ => ⟨S_, .f32⟩
  | .hbm, ⟨28, _⟩ => ⟨S2176x2048, .f32⟩
  | .hbm, ⟨29, _⟩ => ⟨S_, .i32⟩
  | .hbm, ⟨30, _⟩ => ⟨S_, .f32⟩
  | .hbm, ⟨31, _⟩ => ⟨S2176x2048, .f32⟩
  | .hbm, ⟨32, _⟩ => ⟨S_, .i32⟩
  | .hbm, ⟨33, _⟩ => ⟨S_, .f32⟩
  | .hbm, ⟨34, _⟩ => ⟨S2176x2048, .f32⟩
  | .hbm, ⟨35, _⟩ => ⟨S1x2048, .f32⟩
  | .hbm, ⟨36, _⟩ => ⟨S1x2048, .f32⟩
  | .hbm, ⟨37, _⟩ => ⟨S2176x2048, .f32⟩
  | .hbm, ⟨38, _⟩ => ⟨S2176x2048, .bf16⟩
  | .hbm, ⟨39, _⟩ => ⟨S1x2048, .f32⟩
  | .hbm, ⟨40, _⟩ => ⟨S1x2048, .f32⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S272x2048, .f32⟩
  | .local _ .vmem, ⟨5, _⟩ => ⟨S272x2048, .f32⟩
  | .local _ .vmem, ⟨6, _⟩ => ⟨S272x2048, .f32⟩
  | .local _ .vmem, ⟨7, _⟩ => ⟨S272x2048, .f32⟩
  | .local _ .vmem, ⟨8, _⟩ => ⟨S1x2048, .f32⟩
  | .local _ .vmem, ⟨9, _⟩ => ⟨S1x2048, .f32⟩
  | .local _ .vmem, ⟨10, _⟩ => ⟨S272x2048, .f32⟩
  | .local _ .vmem, ⟨11, _⟩ => ⟨S272x2048, .f32⟩
  | .local _ .vmem, ⟨12, _⟩ => ⟨S272x2048, .bf16⟩
  | .local _ .vmem, ⟨13, _⟩ => ⟨S272x2048, .bf16⟩
  | .local _ .vmem, ⟨14, _⟩ => ⟨S1x2048, .f32⟩
  | .local _ .vmem, ⟨15, _⟩ => ⟨S1x2048, .f32⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_c_2 : Ref sig .tc := ⟨.hbm, 26, rfl⟩
abbrev main_call1_v0 : Ref sig .tc := ⟨.hbm, 27, rfl⟩
abbrev main_v15 : Ref sig .tc := ⟨.hbm, 28, rfl⟩
abbrev main_c_3 : Ref sig .tc := ⟨.hbm, 29, rfl⟩
abbrev main_call2_v0 : Ref sig .tc := ⟨.hbm, 30, rfl⟩
abbrev main_v16 : Ref sig .tc := ⟨.hbm, 31, rfl⟩
abbrev main_c_4 : Ref sig .tc := ⟨.hbm, 32, rfl⟩
abbrev main_call3_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_v20_2 : Ref sig .tc := ⟨.hbm, 39, rfl⟩
abbrev main_v20_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v66 : BitVec 1 := Scalar.cmpi .eq arg0 c0_i32
  let v67 : BitVec 32 := Scalar.extui v66
  let c0_i32_26 : BitVec 32 := 0#32
  let v68 : BitVec 1 := Scalar.cmpi .ne v67 c0_i32_26
  v68

def k0_cond2 (i : grid0.Coords) : BitVec 1 :=
  let arg0 : BitVec 32 := BitVec.ofNat 32 (i 0).val
  let c0_i32_27 : BitVec 32 := 0#32
  let v69 : BitVec 1 := Scalar.cmpi .sgt arg0 c0_i32_27
  let v70 : BitVec 32 := Scalar.extui v69
  let c0_i32_28 : BitVec 32 := 0#32
  let v71 : BitVec 1 := Scalar.cmpi .ne v70 c0_i32_28
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S272x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MidNormRefIdeal.lean ====
abbrev S2064x2048 : Shape := ⟨2, ![2064, 2048]⟩
abbrev S2048 : Shape := ⟨1, ![2048]⟩
abbrev S_ : Shape := ⟨0, ![]⟩
abbrev S2064 : Shape := ⟨1, ![2064]⟩
abbrev S2064x1 : Shape := ⟨2, ![2064, 1]⟩
abbrev S1x2048 : Shape := ⟨2, ![1, 2048]⟩
abbrev S2176x2048 : Shape := ⟨2, ![2176, 2048]⟩

abbrev nBuf : Space → Nat
  | .hbm => 108
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S2064x2048, .f32⟩
  | .hbm, ⟨2, _⟩ => ⟨S2048, .f32⟩
  | .hbm, ⟨3, _⟩ => ⟨S2048, .f32⟩
  | .hbm, ⟨4, _⟩ => ⟨S2064x2048, .f32⟩
  | .hbm, ⟨5, _⟩ => ⟨S2064x2048, .f32⟩
  | .hbm, ⟨6, _⟩ => ⟨S2064x2048, .f32⟩
  | .hbm, ⟨7, _⟩ => ⟨S_, .f32⟩
  | .hbm, ⟨8, _⟩ => ⟨S2064, .f32⟩
  | .hbm, ⟨9, _⟩ => ⟨S2064x1, .f32⟩
  | .hbm, ⟨10, _⟩ => ⟨S_, .f32⟩
  | .hbm, ⟨11, _⟩ => ⟨S2064x1, .f32⟩
  | .hbm, ⟨12, _⟩ => ⟨S2064x1, .f32⟩
  | .hbm, ⟨13, _⟩ => ⟨S_, .f32⟩
  | .hbm, ⟨14, _⟩ => ⟨S2064x1, .f32⟩
  | .hbm, ⟨15, _⟩ => ⟨S2064x1, .f32⟩
  | .hbm, ⟨16, _⟩ => ⟨S2064x1, .f32⟩
  | .hbm, ⟨17, _⟩ => ⟨S2064x1, .f32⟩
  | .hbm, ⟨18, _⟩ => ⟨S_, .f32⟩
  | .hbm, ⟨19, _⟩ => ⟨S2064x1, .f32⟩
  | .hbm, ⟨20, _⟩ => ⟨S2064x1, .f32⟩
  | .hbm, ⟨21, _⟩ => ⟨S2064x2048, .f32⟩
  | .hbm, ⟨22, _⟩ => ⟨S2064x2048, .f32⟩
  | .hbm, ⟨23, _⟩ => ⟨S1x2048, .f32⟩
  | .hbm, ⟨24, _⟩ => ⟨S2064x2048, .f32⟩
  | .hbm, ⟨25, _⟩ => ⟨S2064x2048, .f32⟩
  | .hbm, ⟨26, _⟩ => ⟨S2064x2048, .f32⟩
  | .hbm, ⟨27, _⟩ => ⟨S2064x2048, .f32⟩
  | .hbm, ⟨28, _⟩ => ⟨S_, .f32⟩
  | .hbm, ⟨29, _⟩ => ⟨S2064, .f32⟩
  | .hbm, ⟨30, _⟩ => ⟨S2064x1, .f32⟩
  | .hbm, ⟨31, _⟩ => ⟨S_, .f32⟩
  | .hbm, ⟨32, _⟩ => ⟨S2064x1, .f32⟩
  | .hbm, ⟨33, _⟩ => ⟨S2064x1, .f32⟩
  | .hbm, ⟨34, _⟩ => ⟨S_, .f32⟩
  | .hbm, ⟨35, _⟩ => ⟨S2064x1, .f32⟩
  | .hbm, ⟨36, _⟩ => ⟨S2064x1, .f32⟩
  | .hbm, ⟨37, _⟩ => ⟨S2064x1, .f32⟩
  | .hbm, ⟨38, _⟩ => ⟨S2064x1, .f32⟩
  | .hbm, ⟨39, _⟩ => ⟨S_, .f32⟩
  | .hbm, ⟨40, _⟩ => ⟨S2064x1, .f32⟩
  | .hbm, ⟨41, _⟩ => ⟨S2064x1, .f32⟩
  | .hbm, ⟨42, _⟩ => ⟨S2064x2048, .f32⟩
  | .hbm, ⟨43, _⟩ => ⟨S2064x2048, .f32⟩
  | .hbm, ⟨44, _⟩ => ⟨S1x2048, .f32⟩
  | .hbm, ⟨45, _⟩ => ⟨S2064x2048, .f32⟩
  | .hbm, ⟨46, _⟩ => ⟨S2064x2048, .f32⟩
  | .hbm, ⟨47, _⟩ => ⟨S2064x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2064x2048, .f32⟩
  | .hbm, ⟨52, _⟩ => ⟨S2064x2048, .f32⟩
  | .hbm, ⟨53, _⟩ => ⟨S_, .f32⟩
  | .hbm, ⟨54, _⟩ => ⟨S2048, .f32⟩
  | .hbm, ⟨55, _⟩ => ⟨S2064x2048, .f32⟩
  | .hbm, ⟨56, _⟩ => ⟨S_, .f32⟩
  | .hbm, ⟨57, _⟩ => ⟨S2064, .f32⟩
  | .hbm, ⟨58, _⟩ => ⟨S2064x1, .f32⟩
  | .hbm, ⟨59, _⟩ => ⟨S2064x2048, .f32⟩
  | .hbm, ⟨60, _⟩ => ⟨S2064x2048, .f32⟩
  | .hbm, ⟨61, _⟩ => ⟨S2064x2048, .f32⟩
  | .hbm, ⟨62, _⟩ => ⟨S2064x1, .f32⟩
  | .hbm, ⟨63, _⟩ => ⟨S_, .f32⟩
  | .hbm, ⟨64, _⟩ => ⟨S2064x1, .f32⟩
  | .hbm, ⟨65, _⟩ => ⟨S2064x1, .f32⟩
  | .hbm, ⟨66, _⟩ => ⟨S_, .f32⟩
  | .hbm, ⟨67, _⟩ => ⟨S2064, .f32⟩
  | .hbm, ⟨68, _⟩ => ⟨S2064x2048, .f32⟩
  | .hbm, ⟨69, _⟩ => ⟨S2064x2048, .f32⟩
  | .hbm, ⟨70, _⟩ => ⟨S2064x2048, .f32⟩
  | .hbm, ⟨71, _⟩ => ⟨S2064x2048, .f32⟩
  | .hbm, ⟨72, _⟩ => ⟨S2064x2048, .f32⟩
  | .hbm, ⟨73, _⟩ => ⟨S2064x2048, .f32⟩
  | .hbm, ⟨74, _⟩ => ⟨S2064x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S2064x2048, .f32⟩
  | .hbm, ⟨79, _⟩ => ⟨S2064x2048, .f32⟩
  | .hbm, ⟨80, _⟩ => ⟨S_, .f32⟩
  | .hbm, ⟨81, _⟩ => ⟨S2048, .f32⟩
  | .hbm, ⟨82, _⟩ => ⟨S2064x2048, .f32⟩
  | .hbm, ⟨83, _⟩ => ⟨S_, .f32⟩
  | .hbm, ⟨84, _⟩ => ⟨S2064, .f32⟩
  | .hbm, ⟨85, _⟩ => ⟨S2064x1, .f32⟩
  | .hbm, ⟨86, _⟩ => ⟨S2064x2048, .f32⟩
  | .hbm, ⟨87, _⟩ => ⟨S2064x2048, .f32⟩
  | .hbm, ⟨88, _⟩ => ⟨S2064x1, .f32⟩
  | .hbm, ⟨89, _⟩ => ⟨S_, .f32⟩
  | .hbm, ⟨90, _⟩ => ⟨S2064x1, .f32⟩
  | .hbm, ⟨91, _⟩ => ⟨S2064x1, .f32⟩
  | .hbm, ⟨92, _⟩ => ⟨S_, .f32⟩
  | .hbm, ⟨93, _⟩ => ⟨S2064, .f32⟩
  | .hbm, ⟨94, _⟩ => ⟨S2064x2048, .f32⟩
  | .hbm, ⟨95, _⟩ => ⟨S2064x2048, .f32⟩
  | .hbm, ⟨96, _⟩ => ⟨S2064x2048, .f32⟩
  | .hbm, ⟨97, _⟩ => ⟨S2064x2048, .f32⟩
  | .hbm, ⟨98, _⟩ => ⟨S2064x2048, .f32⟩
  | .hbm, ⟨99, _⟩ => ⟨S_, .i32⟩
  | .hbm, ⟨100, _⟩ => ⟨S_, .f32⟩
  | .hbm, ⟨101, _⟩ => ⟨S2176x2048, .f32⟩
  | .hbm, ⟨102, _⟩ => ⟨S_, .i32⟩
  | .hbm, ⟨103, _⟩ => ⟨S_, .f32⟩
  | .hbm, ⟨104, _⟩ => ⟨S2176x2048, .f32⟩
  | .hbm, ⟨105, _⟩ => ⟨S2176x2048, .bf16⟩
  | .hbm, ⟨106, _⟩ => ⟨S1x2048, .f32⟩
  | .hbm, ⟨107, _⟩ => ⟨S1x2048, .f32⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c : Ref sig .tc := ⟨.hbm, 99, rfl⟩
abbrev main_call0_v0 : Ref sig .tc := ⟨.hbm, 100, rfl⟩
abbrev main_v75 : Ref sig .tc := ⟨.hbm, 101, rfl⟩
abbrev main_c_17 : Ref sig .tc := ⟨.hbm, 102, rfl⟩
abbrev main_call1_v0 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== Loss.lean ====
abbrev S2064x2048 : Shape := ⟨2, ![2064, 2048]⟩
abbrev S2048 : Shape := ⟨1, ![2048]⟩
abbrev S2048x2048 : Shape := ⟨2, ![2048, 2048]⟩
abbrev S_ : Shape := ⟨0, ![]⟩
abbrev S2176x2048 : Shape := ⟨2, ![2176, 2048]⟩
abbrev S1x2048 : Shape := ⟨2, ![1, 2048]⟩
abbrev S1x128 : Shape := ⟨2, ![1, 128]⟩
abbrev S128x2048 : Shape := ⟨2, ![128, 2048]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 15
  | .vmem => 13
  | .smem => 0
  | _ => 0

abbrev bufTy : (tb : Table) → Fin (tcTables nBuf tb) → BufTy
  | .hbm, ⟨0, _⟩ => ⟨S2064x2048, .f32⟩
  | .hbm, ⟨1, _⟩ => ⟨S2064x2048, .f32⟩
  | .hbm, ⟨2, _⟩ => ⟨S2048, .f32⟩
  | .hbm, ⟨3, _⟩ => ⟨S2048x2048, .f32⟩
  | .hbm, ⟨4, _⟩ => ⟨S_, .i32⟩
  | .hbm, ⟨5, _⟩ => ⟨S_, .f32⟩
  | .hbm, ⟨6, _⟩ => ⟨S2176x2048, .f32⟩
  | .hbm, ⟨7, _⟩ => ⟨S_, .i32⟩
  | .hbm, ⟨8, _⟩ => ⟨S_, .f32⟩
  | .hbm, ⟨9, _⟩ => ⟨S2176x2048, .f32⟩
  | .hbm, ⟨10, _⟩ => ⟨S1x2048, .f32⟩
  | .hbm, ⟨11, _⟩ => ⟨S2176x2048, .f32⟩
  | .hbm, ⟨12, _⟩ => ⟨S2176x2048, .bf16⟩
  | .hbm, ⟨13, _⟩ => ⟨S1x2048, .f32⟩
  | .hbm, ⟨14, _⟩ => ⟨S1x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .bf16⟩
  | .local _ .vmem, ⟨10, _⟩ => ⟨S128x2048, .bf16⟩
  | .local _ .vmem, ⟨11, _⟩ => ⟨S1x2048, .f32⟩
  | .local _ .vmem, ⟨12, _⟩ => ⟨S1x128, .f32⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32_24 : BitVec 32 := 0#32
  let v65 : BitVec 1 := Scalar.cmpi .eq arg0 c0_i32_24
  let v66 : BitVec 32 := Scalar.extui v65
  let c0_i32_25 : BitVec 32 := 0#32
  let v67 : BitVec 1 := Scalar.cmpi .ne v66 c0_i32_25
  v67

def k0_cond2 (i : grid0.Coords) : BitVec 1 :=
  let arg0 : BitVec 32 := BitVec.ofNat 32 (i 0).val
  let c0_i32_26 : BitVec 32 := 0#32
  let v68 : BitVec 1 := Scalar.cmpi .sgt arg0 c0_i32_26
  let v69 : BitVec 32 := Scalar.extui v68
  let c0_i32_27 : BitVec 32 := 0#32
  let v70 : BitVec 1 := Scalar.cmpi .ne v69 c0_i32_27
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S2064x2048 : Shape := ⟨2, ![2064, 2048]⟩
abbrev S2048 : Shape := ⟨1, ![2048]⟩
abbrev S2048x2048 : Shape := ⟨2, ![2048, 2048]⟩
abbrev S_ : Shape := ⟨0, ![]⟩
abbrev S2064 : Shape := ⟨1, ![2064]⟩
abbrev S2064x1 : Shape := ⟨2, ![2064, 1]⟩
abbrev S1x2048 : Shape := ⟨2, ![1, 2048]⟩
abbrev S2176x2048 : Shape := ⟨2, ![2176, 2048]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S2064x2048, .f32⟩
  | .hbm, ⟨2, _⟩ => ⟨S2048, .f32⟩
  | .hbm, ⟨3, _⟩ => ⟨S2048x2048, .f32⟩
  | .hbm, ⟨4, _⟩ => ⟨S2064x2048, .f32⟩
  | .hbm, ⟨5, _⟩ => ⟨S_, .f32⟩
  | .hbm, ⟨6, _⟩ => ⟨S2064, .f32⟩
  | .hbm, ⟨7, _⟩ => ⟨S2064x1, .f32⟩
  | .hbm, ⟨8, _⟩ => ⟨S_, .f32⟩
  | .hbm, ⟨9, _⟩ => ⟨S2064x1, .f32⟩
  | .hbm, ⟨10, _⟩ => ⟨S2064x1, .f32⟩
  | .hbm, ⟨11, _⟩ => ⟨S_, .f32⟩
  | .hbm, ⟨12, _⟩ => ⟨S2064x1, .f32⟩
  | .hbm, ⟨13, _⟩ => ⟨S2064x1, .f32⟩
  | .hbm, ⟨14, _⟩ => ⟨S2064x1, .f32⟩
  | .hbm, ⟨15, _⟩ => ⟨S2064x1, .f32⟩
  | .hbm, ⟨16, _⟩ => ⟨S_, .f32⟩
  | .hbm, ⟨17, _⟩ => ⟨S2064x1, .f32⟩
  | .hbm, ⟨18, _⟩ => ⟨S2064x1, .f32⟩
  | .hbm, ⟨19, _⟩ => ⟨S2064x2048, .f32⟩
  | .hbm, ⟨20, _⟩ => ⟨S2064x2048, .f32⟩
  | .hbm, ⟨21, _⟩ => ⟨S1x2048, .f32⟩
  | .hbm, ⟨22, _⟩ => ⟨S2064x2048, .f32⟩
  | .hbm, ⟨23, _⟩ => ⟨S2064x2048, .f32⟩
  | .hbm, ⟨24, _⟩ => ⟨S2064x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2064x2048, .f32⟩
  | .hbm, ⟨51, _⟩ => ⟨S2064x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S2064x2048, .f32⟩
  | .hbm, ⟨56, _⟩ => ⟨S2064x2048, .f32⟩
  | .hbm, ⟨57, _⟩ => ⟨S_, .f32⟩
  | .hbm, ⟨58, _⟩ => ⟨S2048, .f32⟩
  | .hbm, ⟨59, _⟩ => ⟨S2064x2048, .f32⟩
  | .hbm, ⟨60, _⟩ => ⟨S_, .f32⟩
  | .hbm, ⟨61, _⟩ => ⟨S2064, .f32⟩
  | .hbm, ⟨62, _⟩ => ⟨S2064x1, .f32⟩
  | .hbm, ⟨63, _⟩ => ⟨S2064x2048, .f32⟩
  | .hbm, ⟨64, _⟩ => ⟨S2064x2048, .f32⟩
  | .hbm, ⟨65, _⟩ => ⟨S2064x1, .f32⟩
  | .hbm, ⟨66, _⟩ => ⟨S_, .f32⟩
  | .hbm, ⟨67, _⟩ => ⟨S2064x1, .f32⟩
  | .hbm, ⟨68, _⟩ => ⟨S2064x1, .f32⟩
  | .hbm, ⟨69, _⟩ => ⟨S_, .f32⟩
  | .hbm, ⟨70, _⟩ => ⟨S2064, .f32⟩
  | .hbm, ⟨71, _⟩ => ⟨S2064x2048, .f32⟩
  | .hbm, ⟨72, _⟩ => ⟨S2064x2048, .f32⟩
  | .hbm, ⟨73, _⟩ => ⟨S2064x2048, .f32⟩
  | .hbm, ⟨74, _⟩ => ⟨S2064x2048, .f32⟩
  | .hbm, ⟨75, _⟩ => ⟨S2064x2048, .f32⟩
  | .hbm, ⟨76, _⟩ => ⟨S_, .i32⟩
  | .hbm, ⟨77, _⟩ => ⟨S_, .f32⟩
  | .hbm, ⟨78, _⟩ => ⟨S2176x2048, .f32⟩
  | .hbm, ⟨79, _⟩ => ⟨S_, .i32⟩
  | .hbm, ⟨80, _⟩ => ⟨S_, .f32⟩
  | .hbm, ⟨81, _⟩ => ⟨S2176x2048, .f32⟩
  | .hbm, ⟨82, _⟩ => ⟨S2176x2048, .bf16⟩
  | .hbm, ⟨83, _⟩ => ⟨S1x2048, .f32⟩
  | .hbm, ⟨84, _⟩ => ⟨S1x128, .f32⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_cst_12 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_v40 : Ref sig .tc := ⟨.hbm, 59, rfl⟩
abbrev main_cst_14 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_cst_16 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c : Ref sig .tc := ⟨.hbm, 76, rfl⟩
abbrev main_call0_v0 : Ref sig .tc := ⟨.hbm, 77, rfl⟩
abbrev main_v54 : Ref sig .tc := ⟨.hbm, 78, rfl⟩
abbrev main_c_17 : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]
-- ==== PreNorm.lean ====
abbrev S2048x2048 : Shape := ⟨2, ![2048, 2048]⟩
abbrev S16x2048 : Shape := ⟨2, ![16, 2048]⟩
abbrev S2048 : Shape := ⟨1, ![2048]⟩
abbrev S2064x2048 : Shape := ⟨2, ![2064, 2048]⟩
abbrev S_ : Shape := ⟨0, ![]⟩
abbrev S2176x2048 : Shape := ⟨2, ![2176, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 19
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S16x2048, .f32⟩
  | .hbm, ⟨2, _⟩ => ⟨S2048, .f32⟩
  | .hbm, ⟨3, _⟩ => ⟨S2064x2048, .f32⟩
  | .hbm, ⟨4, _⟩ => ⟨S2064x2048, .f32⟩
  | .hbm, ⟨5, _⟩ => ⟨S_, .i32⟩
  | .hbm, ⟨6, _⟩ => ⟨S_, .f32⟩
  | .hbm, ⟨7, _⟩ => ⟨S2176x2048, .f32⟩
  | .hbm, ⟨8, _⟩ => ⟨S_, .i32⟩
  | .hbm, ⟨9, _⟩ => ⟨S_, .f32⟩
  | .hbm, ⟨10, _⟩ => ⟨S2176x2048, .f32⟩
  | .hbm, ⟨11, _⟩ => ⟨S2064x2048, .f32⟩
  | .hbm, ⟨12, _⟩ => ⟨S_, .i32⟩
  | .hbm, ⟨13, _⟩ => ⟨S_, .f32⟩
  | .hbm, ⟨14, _⟩ => ⟨S2176x2048, .f32⟩
  | .hbm, ⟨15, _⟩ => ⟨S1x2048, .f32⟩
  | .hbm, ⟨16, _⟩ => ⟨S2048x2048, .f32⟩
  | .hbm, ⟨17, _⟩ => ⟨S16x2048, .f32⟩
  | .hbm, ⟨18, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x2048, .f32⟩
  | .local _ .vmem, ⟨7, _⟩ => ⟨S128x2048, .f32⟩
  | .local _ .vmem, ⟨8, _⟩ => ⟨S128x2048, .f32⟩
  | .local _ .vmem, ⟨9, _⟩ => ⟨S16x2048, .f32⟩
  | .local _ .vmem, ⟨10, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_c_1 : Ref sig .tc := ⟨.hbm, 12, rfl⟩
abbrev main_call2_v0 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_14 : BitVec 32 := 0#32
  let v37 : BitVec 1 := Scalar.cmpi .ne v36 c0_i32_14
  v37

def k0_cond2 (i : grid0.Coords) : BitVec 1 :=
  let arg0 : BitVec 32 := BitVec.ofNat 32 (i 0).val
  let c0_i32_15 : BitVec 32 := 0#32
  let v38 : BitVec 1 := Scalar.cmpi .sgt arg0 c0_i32_15
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PreNormRefIdeal.lean ====
abbrev S2048x2048 : Shape := ⟨2, ![2048, 2048]⟩
abbrev S16x2048 : Shape := ⟨2, ![16, 2048]⟩
abbrev S2048 : Shape := ⟨1, ![2048]⟩
abbrev S2064x2048 : Shape := ⟨2, ![2064, 2048]⟩
abbrev S_ : Shape := ⟨0, ![]⟩
abbrev S2064 : Shape := ⟨1, ![2064]⟩
abbrev S2064x1 : Shape := ⟨2, ![2064, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S16x2048, .f32⟩
  | .hbm, ⟨2, _⟩ => ⟨S2048, .f32⟩
  | .hbm, ⟨3, _⟩ => ⟨S2064x2048, .f32⟩
  | .hbm, ⟨4, _⟩ => ⟨S2064x2048, .f32⟩
  | .hbm, ⟨5, _⟩ => ⟨S2064x2048, .f32⟩
  | .hbm, ⟨6, _⟩ => ⟨S2064x2048, .f32⟩
  | .hbm, ⟨7, _⟩ => ⟨S_, .f32⟩
  | .hbm, ⟨8, _⟩ => ⟨S2064, .f32⟩
  | .hbm, ⟨9, _⟩ => ⟨S2064x1, .f32⟩
  | .hbm, ⟨10, _⟩ => ⟨S_, .f32⟩
  | .hbm, ⟨11, _⟩ => ⟨S2064x1, .f32⟩
  | .hbm, ⟨12, _⟩ => ⟨S2064x1, .f32⟩
  | .hbm, ⟨13, _⟩ => ⟨S_, .f32⟩
  | .hbm, ⟨14, _⟩ => ⟨S2064x1, .f32⟩
  | .hbm, ⟨15, _⟩ => ⟨S2064x1, .f32⟩
  | .hbm, ⟨16, _⟩ => ⟨S2064x1, .f32⟩
  | .hbm, ⟨17, _⟩ => ⟨S2064x1, .f32⟩
  | .hbm, ⟨18, _⟩ => ⟨S_, .f32⟩
  | .hbm, ⟨19, _⟩ => ⟨S2064x1, .f32⟩
  | .hbm, ⟨20, _⟩ => ⟨S2064x1, .f32⟩
  | .hbm, ⟨21, _⟩ => ⟨S2064x2048, .f32⟩
  | .hbm, ⟨22, _⟩ => ⟨S2064x2048, .f32⟩
  | .hbm, ⟨23, _⟩ => ⟨S1x2048, .f32⟩
  | .hbm, ⟨24, _⟩ => ⟨S2064x2048, .f32⟩
  | .hbm, ⟨25, _⟩ => ⟨S2064x2048, .f32⟩
  | .hbm, ⟨26, _⟩ => ⟨S2064x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S2064x2048, .f32⟩
  | .hbm, ⟨31, _⟩ => ⟨S2064x2048, .f32⟩
  | .hbm, ⟨32, _⟩ => ⟨S_, .f32⟩
  | .hbm, ⟨33, _⟩ => ⟨S2048, .f32⟩
  | .hbm, ⟨34, _⟩ => ⟨S2064x2048, .f32⟩
  | .hbm, ⟨35, _⟩ => ⟨S_, .f32⟩
  | .hbm, ⟨36, _⟩ => ⟨S2064, .f32⟩
  | .hbm, ⟨37, _⟩ => ⟨S2064x1, .f32⟩
  | .hbm, ⟨38, _⟩ => ⟨S2064x2048, .f32⟩
  | .hbm, ⟨39, _⟩ => ⟨S2064x2048, .f32⟩
  | .hbm, ⟨40, _⟩ => ⟨S2064x2048, .f32⟩
  | .hbm, ⟨41, _⟩ => ⟨S2064x1, .f32⟩
  | .hbm, ⟨42, _⟩ => ⟨S_, .f32⟩
  | .hbm, ⟨43, _⟩ => ⟨S2064x1, .f32⟩
  | .hbm, ⟨44, _⟩ => ⟨S2064x1, .f32⟩
  | .hbm, ⟨45, _⟩ => ⟨S_, .f32⟩
  | .hbm, ⟨46, _⟩ => ⟨S2064, .f32⟩
  | .hbm, ⟨47, _⟩ => ⟨S2064x2048, .f32⟩
  | .hbm, ⟨48, _⟩ => ⟨S2064x2048, .f32⟩
  | .hbm, ⟨49, _⟩ => ⟨S2064x2048, .f32⟩
  | .hbm, ⟨50, _⟩ => ⟨S2064x2048, .f32⟩
  | .hbm, ⟨51, _⟩ => ⟨S2064x2048, .f32⟩
  | .hbm, ⟨52, _⟩ => ⟨S16x2048, .f32⟩
  | .hbm, ⟨53, _⟩ => ⟨S2048x2048, .f32⟩
  | .hbm, ⟨54, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Pool.lean ====
abbrev S2064x1024 : Shape := ⟨2, ![2064, 1024]⟩
abbrev S4x256x256 : Shape := ⟨3, ![4, 256, 256]⟩
abbrev S1024 : Shape := ⟨1, ![1024]⟩
abbrev S2064x4x256 : Shape := ⟨3, ![2064, 4, 256]⟩
abbrev S_ : Shape := ⟨0, ![]⟩
abbrev S2064 : Shape := ⟨1, ![2064]⟩
abbrev S2064x1x256 : Shape := ⟨3, ![2064, 1, 256]⟩
abbrev S2064x256 : Shape := ⟨2, ![2064, 256]⟩
abbrev S2x256 : Shape := ⟨2, ![2, 256]⟩
abbrev S2062x256 : Shape := ⟨2, ![2062, 256]⟩
abbrev S2064x1 : Shape := ⟨2, ![2064, 1]⟩
abbrev S4x256 : Shape := ⟨2, ![4, 256]⟩
abbrev S2060x256 : Shape := ⟨2, ![2060, 256]⟩
abbrev S8x256 : Shape := ⟨2, ![8, 256]⟩
abbrev S2056x256 : Shape := ⟨2, ![2056, 256]⟩
abbrev S16x256 : Shape := ⟨2, ![16, 256]⟩
abbrev S2048x256 : Shape := ⟨2, ![2048, 256]⟩
abbrev S2176x1024 : Shape := ⟨2, ![2176, 1024]⟩
abbrev S1x1024 : Shape := ⟨2, ![1, 1024]⟩
abbrev S2176x256 : Shape := ⟨2, ![2176, 256]⟩
abbrev S1x256x256 : Shape := ⟨3, ![1, 256, 256]⟩
abbrev S1x256 : Shape := ⟨2, ![1, 256]⟩
abbrev S256x256 : Shape := ⟨2, ![256, 256]⟩
abbrev S256 : Shape := ⟨1, ![256]⟩
abbrev S2176x1 : Shape := ⟨2, ![2176, 1]⟩

abbrev nBuf : Space → Nat
  | .hbm => 97
  | .vmem => 14
  | .smem => 0
  | _ => 0

abbrev bufTy : (tb : Table) → Fin (tcTables nBuf tb) → BufTy
  | .hbm, ⟨0, _⟩ => ⟨S2064x1024, .f32⟩
  | .hbm, ⟨1, _⟩ => ⟨S4x256x256, .f32⟩
  | .hbm, ⟨2, _⟩ => ⟨S1024, .f32⟩
  | .hbm, ⟨3, _⟩ => ⟨S2064x1024, .f32⟩
  | .hbm, ⟨4, _⟩ => ⟨S2064x4x256, .f32⟩
  | .hbm, ⟨5, _⟩ => ⟨S_, .f32⟩
  | .hbm, ⟨6, _⟩ => ⟨S_, .f32⟩
  | .hbm, ⟨7, _⟩ => ⟨S2064x4x256, .f32⟩
  | .hbm, ⟨8, _⟩ => ⟨S2064, .i32⟩
  | .hbm, ⟨9, _⟩ => ⟨S2064x1x256, .f32⟩
  | .hbm, ⟨10, _⟩ => ⟨S2064x256, .f32⟩
  | .hbm, ⟨11, _⟩ => ⟨S_, .f32⟩
  | .hbm, ⟨12, _⟩ => ⟨S2x256, .f32⟩
  | .hbm, ⟨13, _⟩ => ⟨S2062x256, .f32⟩
  | .hbm, ⟨14, _⟩ => ⟨S2064x256, .f32⟩
  | .hbm, ⟨15, _⟩ => ⟨S_, .i32⟩
  | .hbm, ⟨16, _⟩ => ⟨S2064, .i32⟩
  | .hbm, ⟨17, _⟩ => ⟨S2064, .i32⟩
  | .hbm, ⟨18, _⟩ => ⟨S_, .i32⟩
  | .hbm, ⟨19, _⟩ => ⟨S2064, .i32⟩
  | .hbm, ⟨20, _⟩ => ⟨S2064, .i32⟩
  | .hbm, ⟨21, _⟩ => ⟨S2064, .f32⟩
  | .hbm, ⟨22, _⟩ => ⟨S2064x1, .f32⟩
  | .hbm, ⟨23, _⟩ => ⟨S2064x256, .f32⟩
  | .hbm, ⟨24, _⟩ => ⟨S2064x256, .f32⟩
  | .hbm, ⟨25, _⟩ => ⟨S2064x256, .f32⟩
  | .hbm, ⟨26, _⟩ => ⟨S2064x1x256, .f32⟩
  | .hbm, ⟨27, _⟩ => ⟨S2064x256, .f32⟩
  | .hbm, ⟨28, _⟩ => ⟨S_, .f32⟩
  | .hbm, ⟨29, _⟩ => ⟨S4x256, .f32⟩
  | .hbm, ⟨30, _⟩ => ⟨S2060x256, .f32⟩
  | .hbm, ⟨31, _⟩ => ⟨S2064x256, .f32⟩
  | .hbm, ⟨32, _⟩ => ⟨S_, .i32⟩
  | .hbm, ⟨33, _⟩ => ⟨S2064, .i32⟩
  | .hbm, ⟨34, _⟩ => ⟨S2064, .i32⟩
  | .hbm, ⟨35, _⟩ => ⟨S_, .i32⟩
  | .hbm, ⟨36, _⟩ => ⟨S2064, .i32⟩
  | .hbm, ⟨37, _⟩ => ⟨S2064, .i32⟩
  | .hbm, ⟨38, _⟩ => ⟨S2064, .f32⟩
  | .hbm, ⟨39, _⟩ => ⟨S2064x1, .f32⟩
  | .hbm, ⟨40, _⟩ => ⟨S2064x256, .f32⟩
  | .hbm, ⟨41, _⟩ => ⟨S2064x256, .f32⟩
  | .hbm, ⟨42, _⟩ => ⟨S2064x256, .f32⟩
  | .hbm, ⟨43, _⟩ => ⟨S2064x1x256, .f32⟩
  | .hbm, ⟨44, _⟩ => ⟨S2064x256, .f32⟩
  | .hbm, ⟨45, _⟩ => ⟨S_, .f32⟩
  | .hbm, ⟨46, _⟩ => ⟨S8x256, .f32⟩
  | .hbm, ⟨47, _⟩ => ⟨S2056x256, .f32⟩
  | .hbm, ⟨48, _⟩ => ⟨S2064x256, .f32⟩
  | .hbm, ⟨49, _⟩ => ⟨S_, .i32⟩
  | .hbm, ⟨50, _⟩ => ⟨S2064, .i32⟩
  | .hbm, ⟨51, _⟩ => ⟨S2064, .i32⟩
  | .hbm, ⟨52, _⟩ => ⟨S_, .i32⟩
  | .hbm, ⟨53, _⟩ => ⟨S2064, .i32⟩
  | .hbm, ⟨54, _⟩ => ⟨S2064, .i32⟩
  | .hbm, ⟨55, _⟩ => ⟨S2064, .f32⟩
  | .hbm, ⟨56, _⟩ => ⟨S2064x1, .f32⟩
  | .hbm, ⟨57, _⟩ => ⟨S2064x256, .f32⟩
  | .hbm, ⟨58, _⟩ => ⟨S2064x256, .f32⟩
  | .hbm, ⟨59, _⟩ => ⟨S2064x256, .f32⟩
  | .hbm, ⟨60, _⟩ => ⟨S2064x1x256, .f32⟩
  | .hbm, ⟨61, _⟩ => ⟨S2064x256, .f32⟩
  | .hbm, ⟨62, _⟩ => ⟨S_, .f32⟩
  | .hbm, ⟨63, _⟩ => ⟨S16x256, .f32⟩
  | .hbm, ⟨64, _⟩ => ⟨S2048x256, .f32⟩
  | .hbm, ⟨65, _⟩ => ⟨S2064x256, .f32⟩
  | .hbm, ⟨66, _⟩ => ⟨S_, .i32⟩
  | .hbm, ⟨67, _⟩ => ⟨S2064, .i32⟩
  | .hbm, ⟨68, _⟩ => ⟨S2064, .i32⟩
  | .hbm, ⟨69, _⟩ => ⟨S_, .i32⟩
  | .hbm, ⟨70, _⟩ => ⟨S2064, .i32⟩
  | .hbm, ⟨71, _⟩ => ⟨S2064, .i32⟩
  | .hbm, ⟨72, _⟩ => ⟨S2064, .f32⟩
  | .hbm, ⟨73, _⟩ => ⟨S2064x1, .f32⟩
  | .hbm, ⟨74, _⟩ => ⟨S2064x256, .f32⟩
  | .hbm, ⟨75, _⟩ => ⟨S2064x256, .f32⟩
  | .hbm, ⟨76, _⟩ => ⟨S2064x256, .f32⟩
  | .hbm, ⟨77, _⟩ => ⟨S2064x1x256, .f32⟩
  | .hbm, ⟨78, _⟩ => ⟨S2064x1x256, .f32⟩
  | .hbm, ⟨79, _⟩ => ⟨S2064x1x256, .f32⟩
  | .hbm, ⟨80, _⟩ => ⟨S2064x1x256, .f32⟩
  | .hbm, ⟨81, _⟩ => ⟨S2064x4x256, .f32⟩
  | .hbm, ⟨82, _⟩ => ⟨S2064x4x256, .f32⟩
  | .hbm, ⟨83, _⟩ => ⟨S2064x1024, .f32⟩
  | .hbm, ⟨84, _⟩ => ⟨S_, .i32⟩
  | .hbm, ⟨85, _⟩ => ⟨S_, .f32⟩
  | .hbm, ⟨86, _⟩ => ⟨S2176x1024, .f32⟩
  | .hbm, ⟨87, _⟩ => ⟨S2176x1024, .bf16⟩
  | .hbm, ⟨88, _⟩ => ⟨S_, .i32⟩
  | .hbm, ⟨89, _⟩ => ⟨S_, .f32⟩
  | .hbm, ⟨90, _⟩ => ⟨S2176x1024, .f32⟩
  | .hbm, ⟨91, _⟩ => ⟨S4x256x256, .bf16⟩
  | .hbm, ⟨92, _⟩ => ⟨S1x1024, .f32⟩
  | .hbm, ⟨93, _⟩ => ⟨S2176x1024, .bf16⟩
  | .hbm, ⟨94, _⟩ => ⟨S4x256x256, .f32⟩
  | .hbm, ⟨95, _⟩ => ⟨S1x1024, .f32⟩
  | .hbm, ⟨96, _⟩ => ⟨S2064x1024, .bf16⟩
  | .local _ .vmem, ⟨0, _⟩ => ⟨S2176x256, .f32⟩
  | .local _ .vmem, ⟨1, _⟩ => ⟨S2176x256, .f32⟩
  | .local _ .vmem, ⟨2, _⟩ => ⟨S2176x256, .bf16⟩
  | .local _ .vmem, ⟨3, _⟩ => ⟨S2176x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256, .f32⟩
  | .local _ .vmem, ⟨7, _⟩ => ⟨S1x256, .f32⟩
  | .local _ .vmem, ⟨8, _⟩ => ⟨S2176x256, .bf16⟩
  | .local _ .vmem, ⟨9, _⟩ => ⟨S2176x256, .bf16⟩
  | .local _ .vmem, ⟨10, _⟩ => ⟨S1x256x256, .f32⟩
  | .local _ .vmem, ⟨11, _⟩ => ⟨S1x256x256, .f32⟩
  | .local _ .vmem, ⟨12, _⟩ => ⟨S1x256, .f32⟩
  | .local _ .vmem, ⟨13, _⟩ => ⟨S1x256, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_8 : Ref sig .tc := ⟨.hbm, 66, rfl⟩
abbrev main_v50 : Ref sig .tc := ⟨.hbm, 67, rfl⟩
abbrev main_v51 : Ref sig .tc := ⟨.hbm, 68, rfl⟩
abbrev main_c_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c_10 : Ref sig .tc := ⟨.hbm, 84, rfl⟩
abbrev main_call1_v0 : Ref sig .tc := ⟨.hbm, 85, rfl⟩
abbrev main_v66 : Ref sig .tc := ⟨.hbm, 86, rfl⟩
abbrev main_v67 : Ref sig .tc := ⟨.hbm, 87, rfl⟩
abbrev main_c_11 : Ref sig .tc := ⟨.hbm, 88, rfl⟩
abbrev main_call2_v0 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71_0 : Ref sig .tc := ⟨.hbm, 93, rfl⟩
abbrev main_v71_1 : Ref sig .tc := ⟨.hbm, 94, rfl⟩
abbrev main_v71_2 : Ref sig .tc := ⟨.hbm, 95, rfl⟩
abbrev main_v72 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolRefIdeal.lean ====
abbrev S2064x1024 : Shape := ⟨2, ![2064, 1024]⟩
abbrev S4x256x256 : Shape := ⟨3, ![4, 256, 256]⟩
abbrev S1024 : Shape := ⟨1, ![1024]⟩
abbrev S2064x4x256 : Shape := ⟨3, ![2064, 4, 256]⟩
abbrev S_ : Shape := ⟨0, ![]⟩
abbrev S2064 : Shape := ⟨1, ![2064]⟩
abbrev S2064x1x256 : Shape := ⟨3, ![2064, 1, 256]⟩
abbrev S2064x256 : Shape := ⟨2, ![2064, 256]⟩
abbrev S2x256 : Shape := ⟨2, ![2, 256]⟩
abbrev S2062x256 : Shape := ⟨2, ![2062, 256]⟩
abbrev S2064x1 : Shape := ⟨2, ![2064, 1]⟩
abbrev S4x256 : Shape := ⟨2, ![4, 256]⟩
abbrev S2060x256 : Shape := ⟨2, ![2060, 256]⟩
abbrev S8x256 : Shape := ⟨2, ![8, 256]⟩
abbrev S2056x256 : Shape := ⟨2, ![2056, 256]⟩
abbrev S16x256 : Shape := ⟨2, ![16, 256]⟩
abbrev S2048x256 : Shape := ⟨2, ![2048, 256]⟩
abbrev S4x256x2064 : Shape := ⟨3, ![4, 256, 2064]⟩
abbrev S1x1024 : Shape := ⟨2, ![1, 1024]⟩
abbrev S4x2064x256 : Shape := ⟨3, ![4, 2064, 256]⟩

abbrev nBuf : Space → Nat
  | .hbm => 174
  | .vmem => 0
  | .smem => 0
  | _ => 0

abbrev hbmTy0_0 (i : Nat) : BufTy := match i % 128 with
  | 0 => ⟨S2064x1024, .f32⟩
  | 1 => ⟨S4x256x256, .f32⟩
  | 2 => ⟨S1024, .f32⟩
  | 3 => ⟨S2064x1024, .f32⟩
  | 4 => ⟨S2064x4x256, .f32⟩
  | 5 => ⟨S_, .f32⟩
  | 6 => ⟨S_, .f32⟩
  | 7 => ⟨S2064x4x256, .f32⟩
  | 8 => ⟨S2064, .i32⟩
  | 9 => ⟨S2064x1x256, .f32⟩
  | 10 => ⟨S2064x256, .f32⟩
  | 11 => ⟨S_, .f32⟩
  | 12 => ⟨S2x256, .f32⟩
  | 13 => ⟨S2062x256, .f32⟩
  | 14 => ⟨S2064x256, .f32⟩
  | 15 => ⟨S_, .f32⟩
  | 16 => ⟨S2x256, .f32⟩
  | 17 => ⟨S_, .i32⟩
  | 18 => ⟨S2064, .i32⟩
  | 19 => ⟨S2064, .i32⟩
  | 20 => ⟨S_, .i32⟩
  | 21 => ⟨S2064, .i32⟩
  | 22 => ⟨S2064, .i32⟩
  | 23 => ⟨S2064, .f32⟩
  | 24 => ⟨S2064x1, .f32⟩
  | 25 => ⟨S2064x256, .f32⟩
  | 26 => ⟨S2064x256, .f32⟩
  | 27 => ⟨S2064x256, .f32⟩
  | 28 => ⟨S2064x1x256, .f32⟩
  | 29 => ⟨S2064x256, .f32⟩
  | 30 => ⟨S_, .f32⟩
  | 31 => ⟨S4x256, .f32⟩
  | 32 => ⟨S2060x256, .f32⟩
  | 33 => ⟨S2064x256, .f32⟩
  | 34 => ⟨S_, .f32⟩
  | 35 => ⟨S4x256, .f32⟩
  | 36 => ⟨S_, .i32⟩
  | 37 => ⟨S2064, .i32⟩
  | 38 => ⟨S2064, .i32⟩
  | 39 => ⟨S_, .i32⟩
  | 40 => ⟨S2064, .i32⟩
  | 41 => ⟨S2064, .i32⟩
  | 42 => ⟨S2064, .f32⟩
  | 43 => ⟨S2064x1, .f32⟩
  | 44 => ⟨S2064x256, .f32⟩
  | 45 => ⟨S2064x256, .f32⟩
  | 46 => ⟨S2064x256, .f32⟩
  | 47 => ⟨S2064x1x256, .f32⟩
  | 48 => ⟨S2064x256, .f32⟩
  | 49 => ⟨S_, .f32⟩
  | 50 => ⟨S8x256, .f32⟩
  | 51 => ⟨S2056x256, .f32⟩
  | 52 => ⟨S2064x256, .f32⟩
  | 53 => ⟨S_, .f32⟩
  | 54 => ⟨S8x256, .f32⟩
  | 55 => ⟨S_, .i32⟩
  | 56 => ⟨S2064, .i32⟩
  | 57 => ⟨S2064, .i32⟩
  | 58 => ⟨S_, .i32⟩
  | 59 => ⟨S2064, .i32⟩
  | 60 => ⟨S2064, .i32⟩
  | 61 => ⟨S2064, .f32⟩
  | 62 => ⟨S2064x1, .f32⟩
  | 63 => ⟨S2064x256, .f32⟩
  | 64 => ⟨S2064x256, .f32⟩
  | 65 => ⟨S2064x256, .f32⟩
  | 66 => ⟨S2064x1x256, .f32⟩
  | 67 => ⟨S2064x256, .f32⟩
  | 68 => ⟨S_, .f32⟩
  | 69 => ⟨S16x256, .f32⟩
  | 70 => ⟨S2048x256, .f32⟩
  | 71 => ⟨S2064x256, .f32⟩
  | 72 => ⟨S_, .f32⟩
  | 73 => ⟨S16x256, .f32⟩
  | 74 => ⟨S_, .i32⟩
  | 75 => ⟨S2064, .i32⟩
  | 76 => ⟨S2064, .i32⟩
  | 77 => ⟨S_, .i32⟩
  | 78 => ⟨S2064, .i32⟩
  | 79 => ⟨S2064, .i32⟩
  | 80 => ⟨S2064, .f32⟩
  | 81 => ⟨S2064x1, .f32⟩
  | 82 => ⟨S2064x256, .f32⟩
  | 83 => ⟨S2064x256, .f32⟩
  | 84 => ⟨S2064x256, .f32⟩
  | 85 => ⟨S2064x1x256, .f32⟩
  | 86 => ⟨S2064x1x256, .f32⟩
  | 87 => ⟨S2064x1x256, .f32⟩
  | 88 => ⟨S2064x1x256, .f32⟩
  | 89 => ⟨S2064x4x256, .f32⟩
  | 90 => ⟨S2064x4x256, .f32⟩
  | 91 => ⟨S4x256x2064, .f32⟩
  | 92 => ⟨S2064x4x256, .f32⟩
  | 93 => ⟨S2064x1024, .f32⟩
  | 94 => ⟨S1x1024, .f32⟩
  | 95 => ⟨S2064x1024, .f32⟩
  | 96 => ⟨S2064x1024, .f32⟩
  | 97 => ⟨S2064x1024, .f32⟩
  | 98 => ⟨S_, .f32⟩
  | 99 => ⟨S1024, .f32⟩
  | 100 => ⟨S1x1024, .f32⟩
  | 101 => ⟨S2064x1024, .f32⟩
  | 102 => ⟨S2064x1024, .f32⟩
  | 103 => ⟨S_, .f32⟩
  | 104 => ⟨S1024, .f32⟩
  | 105 => ⟨S2064x4x256, .f32⟩
  | 106 => ⟨S4x256x2064, .f32⟩
  | 107 => ⟨S4x2064x256, .f32⟩
  | 108 => ⟨S2064x4x256, .f32⟩
  | 109 => ⟨S4x256x256, .f32⟩
  | 110 => ⟨S4x256x256, .f32⟩
  | 111 => ⟨S2064x4x256, .f32⟩
  | 112 => ⟨S2064x1x256, .f32⟩
  | 113 => ⟨S2064x256, .f32⟩
  | 114 => ⟨S2064x1x256, .f32⟩
  | 115 => ⟨S2064x256, .f32⟩
  | 116 => ⟨S2064x1x256, .f32⟩
  | 117 => ⟨S2064x256, .f32⟩
  | 118 => ⟨S2064x1x256, .f32⟩
  | 119 => ⟨S2064x256, .f32⟩
  | 120 => ⟨S2064x256, .f32⟩
  | 121 => ⟨S2064x256, .f32⟩
  | 122 => ⟨S2064x256, .f32⟩
  | 123 => ⟨S16x256, .f32⟩
  | 124 => ⟨S2048x256, .f32⟩
  | 125 => ⟨S_, .f32⟩
  | 126 => ⟨S2064x256, .f32⟩
  | 127 => ⟨S2064x256, .f32⟩
  | _ => ⟨S2064x1024, .f32⟩

abbrev hbmTy0_1 (i : Nat) : BufTy := match i % 128 with
  | 0 => ⟨S2064x1x256, .f32⟩
  | 1 => ⟨S_, .f32⟩
  | 2 => ⟨S2064x4x256, .f32⟩
  | 3 => ⟨S2064x256, .f32⟩
  | 4 => ⟨S2064x256, .f32⟩
  | 5 => ⟨S2064x256, .f32⟩
  | 6 => ⟨S8x256, .f32⟩
  | 7 => ⟨S2056x256, .f32⟩
  | 8 => ⟨S_, .f32⟩
  | 9 => ⟨S2064x256, .f32⟩
  | 10 => ⟨S2064x256, .f32⟩
  | 11 => ⟨S2064x1x256, .f32⟩
  | 12 => ⟨S_, .f32⟩
  | 13 => ⟨S2064x4x256, .f32⟩
  | 14 => ⟨S2064x4x256, .f32⟩
  | 15 => ⟨S2064x256, .f32⟩
  | 16 => ⟨S2064x256, .f32⟩
  | 17 => ⟨S2064x256, .f32⟩
  | 18 => ⟨S4x256, .f32⟩
  | 19 => ⟨S2060x256, .f32⟩
  | 20 => ⟨S_, .f32⟩
  | 21 => ⟨S2064x256, .f32⟩
  | 22 => ⟨S2064x256, .f32⟩
  | 23 => ⟨S2064x1x256, .f32⟩
  | 24 => ⟨S_, .f32⟩
  | 25 => ⟨S2064x4x256, .f32⟩
  | 26 => ⟨S2064x4x256, .f32⟩
  | 27 => ⟨S2064x256, .f32⟩
  | 28 => ⟨S2064x256, .f32⟩
  | 29 => ⟨S2064x256, .f32⟩
  | 30 => ⟨S2x256, .f32⟩
  | 31 => ⟨S2062x256, .f32⟩
  | 32 => ⟨S_, .f32⟩
  | 33 => ⟨S2064x256, .f32⟩
  | 34 => ⟨S2064x256, .f32⟩
  | 35 => ⟨S2064x1x256, .f32⟩
  | 36 => ⟨S_, .f32⟩
  | 37 => ⟨S2064x4x256, .f32⟩
  | 38 => ⟨S2064x4x256, .f32⟩
  | 39 => ⟨S_, .f32⟩
  | 40 => ⟨S_, .f32⟩
  | 41 => ⟨S2064x4x256, .f32⟩
  | 42 => ⟨S2064x4x256, .f32⟩
  | 43 => ⟨S2064x1024, .f32⟩
  | 44 => ⟨S2064x1024, .bf16⟩
  | 45 => ⟨S1x1024, .f32⟩
  | _ => ⟨S2064x1024, .f32⟩

abbrev hbmTy (i : Nat) : BufTy := match i / 128 with
  | 0 => hbmTy0_0 i
  | 1 => hbmTy0_1 i
  | _ => ⟨S2064x1024, .f32⟩

abbrev bufTy : (tb : Table) → Fin (tcTables nBuf tb) → BufTy
  | .hbm, ⟨i, _⟩ => hbmTy i
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_c_12 : Ref sig .tc := ⟨.hbm, 74, rfl⟩
abbrev main_v54 : Ref sig .tc := ⟨.hbm, 75, rfl⟩
abbrev main_v55 : Ref sig .tc := ⟨.hbm, 76, rfl⟩
abbrev main_c_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_14 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_15 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_16 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_17 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_18 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_19 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_20 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_cst_21 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_cst_22 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_23 : Ref sig .tc := ⟨.hbm, 164, rfl⟩
abbrev main_v133 : Ref sig .tc := ⟨.hbm, 165, rfl⟩
abbrev main_v134 : Ref sig .tc := ⟨.hbm, 166, rfl⟩
abbrev main_call1_call0_cst : Ref sig .tc := ⟨.hbm, 167, rfl⟩
abbrev main_call1_call0_v0 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩

abbrev nD : Nat := 1
abbrev τ : Topo := Topo.v7x

variable {F : FTy → Type} [FloatOps F]
-- ==== ConvSwish.lean ====
abbrev S2064x3072 : Shape := ⟨2, ![2064, 3072]⟩
abbrev S31x1024 : Shape := ⟨2, ![31, 1024]⟩
abbrev S1x1024 : Shape := ⟨2, ![1, 1024]⟩
abbrev S_ : Shape := ⟨0, ![]⟩
abbrev S2176x3072 : Shape := ⟨2, ![2176, 3072]⟩
abbrev S2176x1024 : Shape := ⟨2, ![2176, 1024]⟩
abbrev S128x1024 : Shape := ⟨2, ![128, 1024]⟩
abbrev S32x1024 : Shape := ⟨2, ![32, 1024]⟩
abbrev S8x160x1024 : Shape := ⟨3, ![8, 160, 1024]⟩
abbrev S160x1024 : Shape := ⟨2, ![160, 1024]⟩
abbrev S1x160x1024 : Shape := ⟨3, ![1, 160, 1024]⟩
abbrev S128x128 : Shape := ⟨2, ![128, 128]⟩
abbrev S1x128 : Shape := ⟨2, ![1, 128]⟩
abbrev S1x128x128 : Shape := ⟨3, ![1, 128, 128]⟩
abbrev S128 : Shape := ⟨1, ![128]⟩
abbrev S128x1 : Shape := ⟨2, ![128, 1]⟩
abbrev S2064x1024 : Shape := ⟨2, ![2064, 1024]⟩

abbrev nBuf : Space → Nat
  | .hbm => 12
  | .vmem => 17
  | .smem => 0
  | _ => 0

abbrev bufTy : (tb : Table) → Fin (tcTables nBuf tb) → BufTy
  | .hbm, ⟨0, _⟩ => ⟨S2064x3072, .f32⟩
  | .hbm, ⟨1, _⟩ => ⟨S31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S_, .i32⟩
  | .hbm, ⟨6, _⟩ => ⟨S_, .f32⟩
  | .hbm, ⟨7, _⟩ => ⟨S2176x3072, .f32⟩
  | .hbm, ⟨8, _⟩ => ⟨S2176x1024, .bf16⟩
  | .hbm, ⟨9, _⟩ => ⟨S2176x1024, .f32⟩
  | .hbm, ⟨10, _⟩ => ⟨S2064x1024, .bf16⟩
  | .hbm, ⟨11, _⟩ => ⟨S2064x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S31x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S128x1024, .bf16⟩
  | .local _ .vmem, ⟨13, _⟩ => ⟨S128x1024, .bf16⟩
  | .local _ .vmem, ⟨14, _⟩ => ⟨S128x1024, .f32⟩
  | .local _ .vmem, ⟨15, _⟩ => ⟨S128x1024, .f32⟩
  | .local _ .vmem, ⟨16, _⟩ => ⟨S8x160x1024, .f32⟩
  | _, _ => ⟨S2064x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvSwishRefIdeal.lean ====
abbrev S2064x3072 : Shape := ⟨2, ![2064, 3072]⟩
abbrev S31x1024 : Shape := ⟨2, ![31, 1024]⟩
abbrev S1x1024 : Shape := ⟨2, ![1, 1024]⟩
abbrev S2064x1024 : Shape := ⟨2, ![2064, 1024]⟩
abbrev S_ : Shape := ⟨0, ![]⟩
abbrev S30x1024 : Shape := ⟨2, ![30, 1024]⟩
abbrev S2094x1024 : Shape := ⟨2, ![2094, 1024]⟩
abbrev S1024 : Shape := ⟨1, ![1024]⟩
abbrev S2064 : Shape := ⟨1, ![2064]⟩
abbrev S2064x1 : Shape := ⟨2, ![2064, 1]⟩

abbrev nBuf : Space → Nat
  | .hbm => 280
  | .vmem => 0
  | .smem => 0
  | _ => 0

abbrev hbmTy0_0 (i : Nat) : BufTy := match i % 128 with
  | 0 => ⟨S2064x3072, .f32⟩
  | 1 => ⟨S31x1024, .f32⟩
  | 2 => ⟨S1x1024, .f32⟩
  | 3 => ⟨S1x1024, .f32⟩
  | 4 => ⟨S1x1024, .f32⟩
  | 5 => ⟨S2064x1024, .f32⟩
  | 6 => ⟨S2064x1024, .f32⟩
  | 7 => ⟨S2064x1024, .f32⟩
  | 8 => ⟨S2064x1024, .f32⟩
  | 9 => ⟨S2064x1024, .f32⟩
  | 10 => ⟨S_, .f32⟩
  | 11 => ⟨S2064x1024, .f32⟩
  | 12 => ⟨S2064x1024, .f32⟩
  | 13 => ⟨S_, .f32⟩
  | 14 => ⟨S2064x1024, .f32⟩
  | 15 => ⟨S2064x1024, .f32⟩
  | 16 => ⟨S2064x1024, .f32⟩
  | 17 => ⟨S_, .f32⟩
  | 18 => ⟨S30x1024, .f32⟩
  | 19 => ⟨S2094x1024, .f32⟩
  | 20 => ⟨S_, .f32⟩
  | 21 => ⟨S2064x1024, .f32⟩
  | 22 => ⟨S2064x1024, .f32⟩
  | 23 => ⟨S1x1024, .f32⟩
  | 24 => ⟨S1024, .f32⟩
  | 25 => ⟨S1x1024, .f32⟩
  | 26 => ⟨S2064x1024, .f32⟩
  | 27 => ⟨S2064x1024, .f32⟩
  | 28 => ⟨S2064x1024, .f32⟩
  | 29 => ⟨S2064x1024, .f32⟩
  | 30 => ⟨S1x1024, .f32⟩
  | 31 => ⟨S1024, .f32⟩
  | 32 => ⟨S1x1024, .f32⟩
  | 33 => ⟨S2064x1024, .f32⟩
  | 34 => ⟨S2064x1024, .f32⟩
  | 35 => ⟨S2064x1024, .f32⟩
  | 36 => ⟨S2064x1024, .f32⟩
  | 37 => ⟨S1x1024, .f32⟩
  | 38 => ⟨S1024, .f32⟩
  | 39 => ⟨S1x1024, .f32⟩
  | 40 => ⟨S2064x1024, .f32⟩
  | 41 => ⟨S2064x1024, .f32⟩
  | 42 => ⟨S2064x1024, .f32⟩
  | 43 => ⟨S2064x1024, .f32⟩
  | 44 => ⟨S1x1024, .f32⟩
  | 45 => ⟨S1024, .f32⟩
  | 46 => ⟨S1x1024, .f32⟩
  | 47 => ⟨S2064x1024, .f32⟩
  | 48 => ⟨S2064x1024, .f32⟩
  | 49 => ⟨S2064x1024, .f32⟩
  | 50 => ⟨S2064x1024, .f32⟩
  | 51 => ⟨S1x1024, .f32⟩
  | 52 => ⟨S1024, .f32⟩
  | 53 => ⟨S1x1024, .f32⟩
  | 54 => ⟨S2064x1024, .f32⟩
  | 55 => ⟨S2064x1024, .f32⟩
  | 56 => ⟨S2064x1024, .f32⟩
  | 57 => ⟨S2064x1024, .f32⟩
  | 58 => ⟨S1x1024, .f32⟩
  | 59 => ⟨S1024, .f32⟩
  | 60 => ⟨S1x1024, .f32⟩
  | 61 => ⟨S2064x1024, .f32⟩
  | 62 => ⟨S2064x1024, .f32⟩
  | 63 => ⟨S2064x1024, .f32⟩
  | 64 => ⟨S2064x1024, .f32⟩
  | 65 => ⟨S1x1024, .f32⟩
  | 66 => ⟨S1024, .f32⟩
  | 67 => ⟨S1x1024, .f32⟩
  | 68 => ⟨S2064x1024, .f32⟩
  | 69 => ⟨S2064x1024, .f32⟩
  | 70 => ⟨S2064x1024, .f32⟩
  | 71 => ⟨S2064x1024, .f32⟩
  | 72 => ⟨S1x1024, .f32⟩
  | 73 => ⟨S1024, .f32⟩
  | 74 => ⟨S1x1024, .f32⟩
  | 75 => ⟨S2064x1024, .f32⟩
  | 76 => ⟨S2064x1024, .f32⟩
  | 77 => ⟨S2064x1024, .f32⟩
  | 78 => ⟨S2064x1024, .f32⟩
  | 79 => ⟨S1x1024, .f32⟩
  | 80 => ⟨S1024, .f32⟩
  | 81 => ⟨S1x1024, .f32⟩
  | 82 => ⟨S2064x1024, .f32⟩
  | 83 => ⟨S2064x1024, .f32⟩
  | 84 => ⟨S2064x1024, .f32⟩
  | 85 => ⟨S2064x1024, .f32⟩
  | 86 => ⟨S1x1024, .f32⟩
  | 87 => ⟨S1024, .f32⟩
  | 88 => ⟨S1x1024, .f32⟩
  | 89 => ⟨S2064x1024, .f32⟩
  | 90 => ⟨S2064x1024, .f32⟩
  | 91 => ⟨S2064x1024, .f32⟩
  | 92 => ⟨S2064x1024, .f32⟩
  | 93 => ⟨S1x1024, .f32⟩
  | 94 => ⟨S1024, .f32⟩
  | 95 => ⟨S1x1024, .f32⟩
  | 96 => ⟨S2064x1024, .f32⟩
  | 97 => ⟨S2064x1024, .f32⟩
  | 98 => ⟨S2064x1024, .f32⟩
  | 99 => ⟨S2064x1024, .f32⟩
  | 100 => ⟨S1x1024, .f32⟩
  | 101 => ⟨S1024, .f32⟩
  | 102 => ⟨S1x1024, .f32⟩
  | 103 => ⟨S2064x1024, .f32⟩
  | 104 => ⟨S2064x1024, .f32⟩
  | 105 => ⟨S2064x1024, .f32⟩
  | 106 => ⟨S2064x1024, .f32⟩
  | 107 => ⟨S1x1024, .f32⟩
  | 108 => ⟨S1024, .f32⟩
  | 109 => ⟨S1x1024, .f32⟩
  | 110 => ⟨S2064x1024, .f32⟩
  | 111 => ⟨S2064x1024, .f32⟩
  | 112 => ⟨S2064x1024, .f32⟩
  | 113 => ⟨S2064x1024, .f32⟩
  | 114 => ⟨S1x1024, .f32⟩
  | 115 => ⟨S1024, .f32⟩
  | 116 => ⟨S1x1024, .f32⟩
  | 117 => ⟨S2064x1024, .f32⟩
  | 118 => ⟨S2064x1024, .f32⟩
  | 119 => ⟨S2064x1024, .f32⟩
  | 120 => ⟨S2064x1024, .f32⟩
  | 121 => ⟨S1x1024, .f32⟩
  | 122 => ⟨S1024, .f32⟩
  | 123 => ⟨S1x1024, .f32⟩
  | 124 => ⟨S2064x1024, .f32⟩
  | 125 => ⟨S2064x1024, .f32⟩
  | 126 => ⟨S2064x1024, .f32⟩
  | 127 => ⟨S2064x1024, .f32⟩
  | _ => ⟨S2064x3072, .f32⟩

abbrev hbmTy0_1 (i : Nat) : BufTy := match i % 128 with
  | 0 => ⟨S1x1024, .f32⟩
  | 1 => ⟨S1024, .f32⟩
  | 2 => ⟨S1x1024, .f32⟩
  | 3 => ⟨S2064x1024, .f32⟩
  | 4 => ⟨S2064x1024, .f32⟩
  | 5 => ⟨S2064x1024, .f32⟩
  | 6 => ⟨S2064x1024, .f32⟩
  | 7 => ⟨S1x1024, .f32⟩
  | 8 => ⟨S1024, .f32⟩
  | 9 => ⟨S1x1024, .f32⟩
  | 10 => ⟨S2064x1024, .f32⟩
  | 11 => ⟨S2064x1024, .f32⟩
  | 12 => ⟨S2064x1024, .f32⟩
  | 13 => ⟨S2064x1024, .f32⟩
  | 14 => ⟨S1x1024, .f32⟩
  | 15 => ⟨S1024, .f32⟩
  | 16 => ⟨S1x1024, .f32⟩
  | 17 => ⟨S2064x1024, .f32⟩
  | 18 => ⟨S2064x1024, .f32⟩
  | 19 => ⟨S2064x1024, .f32⟩
  | 20 => ⟨S2064x1024, .f32⟩
  | 21 => ⟨S1x1024, .f32⟩
  | 22 => ⟨S1024, .f32⟩
  | 23 => ⟨S1x1024, .f32⟩
  | 24 => ⟨S2064x1024, .f32⟩
  | 25 => ⟨S2064x1024, .f32⟩
  | 26 => ⟨S2064x1024, .f32⟩
  | 27 => ⟨S2064x1024, .f32⟩
  | 28 => ⟨S1x1024, .f32⟩
  | 29 => ⟨S1024, .f32⟩
  | 30 => ⟨S1x1024, .f32⟩
  | 31 => ⟨S2064x1024, .f32⟩
  | 32 => ⟨S2064x1024, .f32⟩
  | 33 => ⟨S2064x1024, .f32⟩
  | 34 => ⟨S2064x1024, .f32⟩
  | 35 => ⟨S1x1024, .f32⟩
  | 36 => ⟨S1024, .f32⟩
  | 37 => ⟨S1x1024, .f32⟩
  | 38 => ⟨S2064x1024, .f32⟩
  | 39 => ⟨S2064x1024, .f32⟩
  | 40 => ⟨S2064x1024, .f32⟩
  | 41 => ⟨S2064x1024, .f32⟩
  | 42 => ⟨S1x1024, .f32⟩
  | 43 => ⟨S1024, .f32⟩
  | 44 => ⟨S1x1024, .f32⟩
  | 45 => ⟨S2064x1024, .f32⟩
  | 46 => ⟨S2064x1024, .f32⟩
  | 47 => ⟨S2064x1024, .f32⟩
  | 48 => ⟨S2064x1024, .f32⟩
  | 49 => ⟨S1x1024, .f32⟩
  | 50 => ⟨S1024, .f32⟩
  | 51 => ⟨S1x1024, .f32⟩
  | 52 => ⟨S2064x1024, .f32⟩
  | 53 => ⟨S2064x1024, .f32⟩
  | 54 => ⟨S2064x1024, .f32⟩
  | 55 => ⟨S2064x1024, .f32⟩
  | 56 => ⟨S1x1024, .f32⟩
  | 57 => ⟨S1024, .f32⟩
  | 58 => ⟨S1x1024, .f32⟩
  | 59 => ⟨S2064x1024, .f32⟩
  | 60 => ⟨S2064x1024, .f32⟩
  | 61 => ⟨S2064x1024, .f32⟩
  | 62 => ⟨S2064x1024, .f32⟩
  | 63 => ⟨S1x1024, .f32⟩
  | 64 => ⟨S1024, .f32⟩
  | 65 => ⟨S1x1024, .f32⟩
  | 66 => ⟨S2064x1024, .f32⟩
  | 67 => ⟨S2064x1024, .f32⟩
  | 68 => ⟨S2064x1024, .f32⟩
  | 69 => ⟨S2064x1024, .f32⟩
  | 70 => ⟨S1x1024, .f32⟩
  | 71 => ⟨S1024, .f32⟩
  | 72 => ⟨S1x1024, .f32⟩
  | 73 => ⟨S2064x1024, .f32⟩
  | 74 => ⟨S2064x1024, .f32⟩
  | 75 => ⟨S2064x1024, .f32⟩
  | 76 => ⟨S2064x1024, .f32⟩
  | 77 => ⟨S1x1024, .f32⟩
  | 78 => ⟨S1024, .f32⟩
  | 79 => ⟨S1x1024, .f32⟩
  | 80 => ⟨S2064x1024, .f32⟩
  | 81 => ⟨S2064x1024, .f32⟩
  | 82 => ⟨S2064x1024, .f32⟩
  | 83 => ⟨S2064x1024, .f32⟩
  | 84 => ⟨S1x1024, .f32⟩
  | 85 => ⟨S1024, .f32⟩
  | 86 => ⟨S1x1024, .f32⟩
  | 87 => ⟨S2064x1024, .f32⟩
  | 88 => ⟨S2064x1024, .f32⟩
  | 89 => ⟨S2064x1024, .f32⟩
  | 90 => ⟨S2064x1024, .f32⟩
  | 91 => ⟨S1x1024, .f32⟩
  | 92 => ⟨S1024, .f32⟩
  | 93 => ⟨S1x1024, .f32⟩
  | 94 => ⟨S2064x1024, .f32⟩
  | 95 => ⟨S2064x1024, .f32⟩
  | 96 => ⟨S2064x1024, .f32⟩
  | 97 => ⟨S2064x1024, .f32⟩
  | 98 => ⟨S1x1024, .f32⟩
  | 99 => ⟨S1024, .f32⟩
  | 100 => ⟨S1x1024, .f32⟩
  | 101 => ⟨S2064x1024, .f32⟩
  | 102 => ⟨S2064x1024, .f32⟩
  | 103 => ⟨S2064x1024, .f32⟩
  | 104 => ⟨S2064x1024, .f32⟩
  | 105 => ⟨S1x1024, .f32⟩
  | 106 => ⟨S1024, .f32⟩
  | 107 => ⟨S1x1024, .f32⟩
  | 108 => ⟨S2064x1024, .f32⟩
  | 109 => ⟨S2064x1024, .f32⟩
  | 110 => ⟨S2064x1024, .f32⟩
  | 111 => ⟨S2064x1024, .f32⟩
  | 112 => ⟨S2064x1024, .f32⟩
  | 113 => ⟨S_, .f32⟩
  | 114 => ⟨S2064, .f32⟩
  | 115 => ⟨S2064x1, .f32⟩
  | 116 => ⟨S_, .f32⟩
  | 117 => ⟨S2064x1, .f32⟩
  | 118 => ⟨S2064x1, .f32⟩
  | 119 => ⟨S2064x1024, .f32⟩
  | 120 => ⟨S2064x1024, .f32⟩
  | 121 => ⟨S2064x1024, .f32⟩
  | 122 => ⟨S_, .f32⟩
  | 123 => ⟨S2064, .f32⟩
  | 124 => ⟨S2064x1, .f32⟩
  | 125 => ⟨S_, .f32⟩
  | 126 => ⟨S2064x1, .f32⟩
  | 127 => ⟨S2064x1, .f32⟩
  | _ => ⟨S2064x3072, .f32⟩

abbrev hbmTy0_2 (i : Nat) : BufTy := match i % 128 with
  | 0 => ⟨S2064x1024, .f32⟩
  | 1 => ⟨S2064x1024, .f32⟩
  | 2 => ⟨S_, .f32⟩
  | 3 => ⟨S2064x1, .f32⟩
  | 4 => ⟨S2064x1, .f32⟩
  | 5 => ⟨S2064x1, .f32⟩
  | 6 => ⟨S2064x1024, .f32⟩
  | 7 => ⟨S2064x1024, .f32⟩
  | 8 => ⟨S2064x1024, .f32⟩
  | 9 => ⟨S2064x1024, .f32⟩
  | 10 => ⟨S2064x1024, .f32⟩
  | 11 => ⟨S2064x1024, .f32⟩
  | 12 => ⟨S2064x1024, .f32⟩
  | 13 => ⟨S2064x1024, .f32⟩
  | 14 => ⟨S_, .f32⟩
  | 15 => ⟨S2064x1024, .f32⟩
  | 16 => ⟨S2064x1024, .f32⟩
  | 17 => ⟨S_, .f32⟩
  | 18 => ⟨S2064x1024, .f32⟩
  | 19 => ⟨S2064x1024, .f32⟩
  | 20 => ⟨S2064x1024, .f32⟩
  | 21 => ⟨S2064x1024, .bf16⟩
  | 22 => ⟨S2064x1024, .f32⟩
  | 23 => ⟨S2064x1024, .f32⟩
  | _ => ⟨S2064x3072, .f32⟩

abbrev hbmTy (i : Nat) : BufTy := match i / 128 with
  | 0 => hbmTy0_0 i
  | 1 => hbmTy0_1 i
  | 2 => hbmTy0_2 i
  | _ => ⟨S2064x3072, .f32⟩

abbrev bufTy : (tb : Table) → Fin (tcTables nBuf tb) → BufTy
  | .hbm, ⟨i, _⟩ => hbmTy i
  | _, _ => ⟨S2064x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_cst_3 : Ref sig .tc := ⟨.hbm, 241, rfl⟩
abbrev main_v232 : Ref sig .tc := ⟨.hbm, 242, rfl⟩
abbrev main_v233 : Ref sig .tc := ⟨.hbm, 243, rfl⟩
abbrev main_cst_4 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_cst_5 : Ref sig .tc := ⟨.hbm, 250, rfl⟩
abbrev main_v239 : Ref sig .tc := ⟨.hbm, 251, rfl⟩
abbrev main_v240 : Ref sig .tc := ⟨.hbm, 252, rfl⟩
abbrev main_cst_6 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_cst_7 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_call0_v0 : Ref sig .tc := ⟨.hbm, 268, rfl⟩
abbrev main_call0_v1 : Ref sig .tc := ⟨.hbm, 269, rfl⟩
abbrev main_call0_cst : Ref sig .tc := ⟨.hbm, 270, rfl⟩
abbrev main_call0_v2 : Ref sig .tc := ⟨.hbm, 271, rfl⟩
abbrev main_call0_v3 : Ref sig .tc := ⟨.hbm, 272, rfl⟩
abbrev main_call0_cst_0 : Ref sig .tc := ⟨.hbm, 273, rfl⟩
abbrev main_call0_v4 : Ref sig .tc := ⟨.hbm, 274, rfl⟩
abbrev main_call0_v5 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩

abbrev nD : Nat := 1
abbrev τ : Topo := Topo.v7x

variable {F : FTy → Type} [FloatOps F]
-- ==== TwoNorms.lean ====
abbrev S2064x2048 : Shape := ⟨2, ![2064, 2048]⟩
abbrev S2048 : Shape := ⟨1, ![2048]⟩
abbrev S_ : Shape := ⟨0, ![]⟩
abbrev S2176x2048 : Shape := ⟨2, ![2176, 2048]⟩
abbrev S1x2048 : Shape := ⟨2, ![1, 2048]⟩
abbrev S272x2048 : Shape := ⟨2, ![272, 2048]⟩
abbrev S272 : Shape := ⟨1, ![272]⟩
abbrev S272x1 : Shape := ⟨2, ![272, 1]⟩

abbrev nBuf : Space → Nat
  | .hbm => 14
  | .vmem => 10
  | .smem => 0
  | _ => 0

abbrev bufTy : (tb : Table) → Fin (tcTables nBuf tb) → BufTy
  | .hbm, ⟨0, _⟩ => ⟨S2064x2048, .f32⟩
  | .hbm, ⟨1, _⟩ => ⟨S2064x2048, .f32⟩
  | .hbm, ⟨2, _⟩ => ⟨S2048, .f32⟩
  | .hbm, ⟨3, _⟩ => ⟨S2048, .f32⟩
  | .hbm, ⟨4, _⟩ => ⟨S_, .i32⟩
  | .hbm, ⟨5, _⟩ => ⟨S_, .f32⟩
  | .hbm, ⟨6, _⟩ => ⟨S2176x2048, .f32⟩
  | .hbm, ⟨7, _⟩ => ⟨S_, .i32⟩
  | .hbm, ⟨8, _⟩ => ⟨S_, .f32⟩
  | .hbm, ⟨9, _⟩ => ⟨S2176x2048, .f32⟩
  | .hbm, ⟨10, _⟩ => ⟨S1x2048, .f32⟩
  | .hbm, ⟨11, _⟩ => ⟨S1x2048, .f32⟩
  | .hbm, ⟨12, _⟩ => ⟨S2176x2048, .f32⟩
  | .hbm, ⟨13, _⟩ => ⟨S2176x2048, .bf16⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S1x2048, .f32⟩
  | .local _ .vmem, ⟨5, _⟩ => ⟨S1x2048, .f32⟩
  | .local _ .vmem, ⟨6, _⟩ => ⟨S272x2048, .f32⟩
  | .local _ .vmem, ⟨7, _⟩ => ⟨S272x2048, .f32⟩
  | .local _ .vmem, ⟨8, _⟩ => ⟨S272x2048, .bf16⟩
  | .local _ .vmem, ⟨9, _⟩ => ⟨S272x2048, .bf16⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S272x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== TwoNormsRefIdeal.lean ====
abbrev S2064x2048 : Shape := ⟨2, ![2064, 2048]⟩
abbrev S2048 : Shape := ⟨1, ![2048]⟩
abbrev S_ : Shape := ⟨0, ![]⟩
abbrev S2064 : Shape := ⟨1, ![2064]⟩
abbrev S2064x1 : Shape := ⟨2, ![2064, 1]⟩
abbrev S1x2048 : Shape := ⟨2, ![1, 2048]⟩
abbrev S2176x2048 : Shape := ⟨2, ![2176, 2048]⟩

abbrev nBuf : Space → Nat
  | .hbm => 44
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S2064x2048, .f32⟩
  | .hbm, ⟨2, _⟩ => ⟨S2048, .f32⟩
  | .hbm, ⟨3, _⟩ => ⟨S2048, .f32⟩
  | .hbm, ⟨4, _⟩ => ⟨S2064x2048, .f32⟩
  | .hbm, ⟨5, _⟩ => ⟨S_, .f32⟩
  | .hbm, ⟨6, _⟩ => ⟨S2064, .f32⟩
  | .hbm, ⟨7, _⟩ => ⟨S2064x1, .f32⟩
  | .hbm, ⟨8, _⟩ => ⟨S_, .f32⟩
  | .hbm, ⟨9, _⟩ => ⟨S2064x1, .f32⟩
  | .hbm, ⟨10, _⟩ => ⟨S2064x1, .f32⟩
  | .hbm, ⟨11, _⟩ => ⟨S_, .f32⟩
  | .hbm, ⟨12, _⟩ => ⟨S2064x1, .f32⟩
  | .hbm, ⟨13, _⟩ => ⟨S2064x1, .f32⟩
  | .hbm, ⟨14, _⟩ => ⟨S2064x1, .f32⟩
  | .hbm, ⟨15, _⟩ => ⟨S2064x2048, .f32⟩
  | .hbm, ⟨16, _⟩ => ⟨S2064x2048, .f32⟩
  | .hbm, ⟨17, _⟩ => ⟨S1x2048, .f32⟩
  | .hbm, ⟨18, _⟩ => ⟨S2064x2048, .f32⟩
  | .hbm, ⟨19, _⟩ => ⟨S2064x2048, .f32⟩
  | .hbm, ⟨20, _⟩ => ⟨S2064x2048, .f32⟩
  | .hbm, ⟨21, _⟩ => ⟨S2064x2048, .f32⟩
  | .hbm, ⟨22, _⟩ => ⟨S_, .f32⟩
  | .hbm, ⟨23, _⟩ => ⟨S2064, .f32⟩
  | .hbm, ⟨24, _⟩ => ⟨S2064x1, .f32⟩
  | .hbm, ⟨25, _⟩ => ⟨S_, .f32⟩
  | .hbm, ⟨26, _⟩ => ⟨S2064x1, .f32⟩
  | .hbm, ⟨27, _⟩ => ⟨S2064x1, .f32⟩
  | .hbm, ⟨28, _⟩ => ⟨S_, .f32⟩
  | .hbm, ⟨29, _⟩ => ⟨S2064x1, .f32⟩
  | .hbm, ⟨30, _⟩ => ⟨S2064x1, .f32⟩
  | .hbm, ⟨31, _⟩ => ⟨S2064x1, .f32⟩
  | .hbm, ⟨32, _⟩ => ⟨S2064x2048, .f32⟩
  | .hbm, ⟨33, _⟩ => ⟨S2064x2048, .f32⟩
  | .hbm, ⟨34, _⟩ => ⟨S1x2048, .f32⟩
  | .hbm, ⟨35, _⟩ => ⟨S2064x2048, .f32⟩
  | .hbm, ⟨36, _⟩ => ⟨S2064x2048, .f32⟩
  | .hbm, ⟨37, _⟩ => ⟨S_, .i32⟩
  | .hbm, ⟨38, _⟩ => ⟨S_, .f32⟩
  | .hbm, ⟨39, _⟩ => ⟨S2176x2048, .f32⟩
  | .hbm, ⟨40, _⟩ => ⟨S_, .i32⟩
  | .hbm, ⟨41, _⟩ => ⟨S_, .f32⟩
  | .hbm, ⟨42, _⟩ => ⟨S2176x2048, .f32⟩
  | .hbm, ⟨43, _⟩ => ⟨S2176x2048, .bf16⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_call0_v0 : Ref sig .tc := ⟨.hbm, 38, rfl⟩
abbrev main_v27 : Ref sig .tc := ⟨.hbm, 39, rfl⟩
abbrev main_c_5 : Ref sig .tc := ⟨.hbm, 40, rfl⟩
abbrev main_call1_v0 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== ReluUp.lean ====
abbrev S2064x2048 : Shape := ⟨2, ![2064, 2048]⟩
abbrev S2048x8192 : Shape := ⟨2, ![2048, 8192]⟩
abbrev S_ : Shape := ⟨0, ![]⟩
abbrev S2176x2048 : Shape := ⟨2, ![2176, 2048]⟩
abbrev S2048x4x2048 : Shape := ⟨3, ![2048, 4, 2048]⟩
abbrev S4x2048x2048 : Shape := ⟨3, ![4, 2048, 2048]⟩
abbrev S2176x8192 : Shape := ⟨2, ![2176, 8192]⟩
abbrev S1x2048x512 : Shape := ⟨3, ![1, 2048, 512]⟩
abbrev S2176x512 : Shape := ⟨2, ![2176, 512]⟩
abbrev S2048x512 : Shape := ⟨2, ![2048, 512]⟩

abbrev nBuf : Space → Nat
  | .hbm => 11
  | .vmem => 7
  | .smem => 0
  | _ => 0

abbrev bufTy : (tb : Table) → Fin (tcTables nBuf tb) → BufTy
  | .hbm, ⟨0, _⟩ => ⟨S2064x2048, .f32⟩
  | .hbm, ⟨1, _⟩ => ⟨S2048x8192, .f32⟩
  | .hbm, ⟨2, _⟩ => ⟨S_, .i32⟩
  | .hbm, ⟨3, _⟩ => ⟨S_, .f32⟩
  | .hbm, ⟨4, _⟩ => ⟨S2176x2048, .f32⟩
  | .hbm, ⟨5, _⟩ => ⟨S2176x2048, .bf16⟩
  | .hbm, ⟨6, _⟩ => ⟨S2048x4x2048, .f32⟩
  | .hbm, ⟨7, _⟩ => ⟨S4x2048x2048, .f32⟩
  | .hbm, ⟨8, _⟩ => ⟨S4x2048x2048, .bf16⟩
  | .hbm, ⟨9, _⟩ => ⟨S2176x8192, .bf16⟩
  | .hbm, ⟨10, _⟩ => ⟨S2176x8192, .bf16⟩
  | .local _ .vmem, ⟨0, _⟩ => ⟨S2176x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S2176x512, .bf16⟩
  | .local _ .vmem, ⟨4, _⟩ => ⟨S2176x512, .bf16⟩
  | .local _ .vmem, ⟨5, _⟩ => ⟨S2176x512, .bf16⟩
  | .local _ .vmem, ⟨6, _⟩ => ⟨S2176x512, .bf16⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReluUpRefIdeal.lean ====
abbrev S2064x2048 : Shape := ⟨2, ![2064, 2048]⟩
abbrev S2048x8192 : Shape := ⟨2, ![2048, 8192]⟩
abbrev S2064x8192 : Shape := ⟨2, ![2064, 8192]⟩
abbrev S_ : Shape := ⟨0, ![]⟩
abbrev S2176x8192 : Shape := ⟨2, ![2176, 8192]⟩

abbrev nBuf : Space → Nat
  | .hbm => 15
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S2048x8192, .f32⟩
  | .hbm, ⟨2, _⟩ => ⟨S2064x8192, .f32⟩
  | .hbm, ⟨3, _⟩ => ⟨S_, .i32⟩
  | .hbm, ⟨4, _⟩ => ⟨S_, .f32⟩
  | .hbm, ⟨5, _⟩ => ⟨S2176x8192, .f32⟩
  | .hbm, ⟨6, _⟩ => ⟨S2176x8192, .bf16⟩
  | .hbm, ⟨7, _⟩ => ⟨S_, .f32⟩
  | .hbm, ⟨8, _⟩ => ⟨S2064x8192, .f32⟩
  | .hbm, ⟨9, _⟩ => ⟨S2064x8192, .f32⟩
  | .hbm, ⟨10, _⟩ => ⟨S2064x8192, .f32⟩
  | .hbm, ⟨11, _⟩ => ⟨S_, .i32⟩
  | .hbm, ⟨12, _⟩ => ⟨S_, .f32⟩
  | .hbm, ⟨13, _⟩ => ⟨S2176x8192, .f32⟩
  | .hbm, ⟨14, _⟩ => ⟨S2176x8192, .bf16⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_call1_cst : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call2_v0 : Ref sig .tc := ⟨.hbm, 12, rfl⟩
abbrev main_v5 : Ref sig .tc := ⟨.hbm, 13, rfl⟩
abbrev main_v6 : Ref sig .tc := ⟨.hbm, 14, rfl⟩

abbrev nD : Nat := 1
abbrev τ : Topo := Topo.v7x

variable {F : FTy → Type} [FloatOps F]
-- ==== Mix.lean ====
abbrev S2064x1024 : Shape := ⟨2, ![2064, 1024]⟩
abbrev S1024x2048 : Shape := ⟨2, ![1024, 2048]⟩
abbrev S2064x4096 : Shape := ⟨2, ![2064, 4096]⟩
abbrev S_ : Shape := ⟨0, ![]⟩
abbrev S2176x1024 : Shape := ⟨2, ![2176, 1024]⟩
abbrev S1024x4x512 : Shape := ⟨3, ![1024, 4, 512]⟩
abbrev S4x1024x512 : Shape := ⟨3, ![4, 1024, 512]⟩
abbrev S2176x4096 : Shape := ⟨2, ![2176, 4096]⟩
abbrev S2176x2048 : Shape := ⟨2, ![2176, 2048]⟩
abbrev S1088x1024 : Shape := ⟨2, ![1088, 1024]⟩
abbrev S1x1024x512 : Shape := ⟨3, ![1, 1024, 512]⟩
abbrev S1088x512 : Shape := ⟨2, ![1088, 512]⟩
abbrev S1024x512 : Shape := ⟨2, ![1024, 512]⟩

abbrev nBuf : Space → Nat
  | .hbm => 26
  | .vmem => 18
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S1024x2048, .f32⟩
  | .hbm, ⟨3, _⟩ => ⟨S1024x2048, .f32⟩
  | .hbm, ⟨4, _⟩ => ⟨S2064x4096, .f32⟩
  | .hbm, ⟨5, _⟩ => ⟨S_, .i32⟩
  | .hbm, ⟨6, _⟩ => ⟨S_, .f32⟩
  | .hbm, ⟨7, _⟩ => ⟨S2176x1024, .f32⟩
  | .hbm, ⟨8, _⟩ => ⟨S2176x1024, .bf16⟩
  | .hbm, ⟨9, _⟩ => ⟨S_, .i32⟩
  | .hbm, ⟨10, _⟩ => ⟨S_, .f32⟩
  | .hbm, ⟨11, _⟩ => ⟨S2176x1024, .f32⟩
  | .hbm, ⟨12, _⟩ => ⟨S2176x1024, .bf16⟩
  | .hbm, ⟨13, _⟩ => ⟨S1024x4x512, .f32⟩
  | .hbm, ⟨14, _⟩ => ⟨S4x1024x512, .f32⟩
  | .hbm, ⟨15, _⟩ => ⟨S4x1024x512, .bf16⟩
  | .hbm, ⟨16, _⟩ => ⟨S1024x4x512, .f32⟩
  | .hbm, ⟨17, _⟩ => ⟨S4x1024x512, .f32⟩
  | .hbm, ⟨18, _⟩ => ⟨S4x1024x512, .bf16⟩
  | .hbm, ⟨19, _⟩ => ⟨S_, .i32⟩
  | .hbm, ⟨20, _⟩ => ⟨S_, .f32⟩
  | .hbm, ⟨21, _⟩ => ⟨S2176x4096, .f32⟩
  | .hbm, ⟨22, _⟩ => ⟨S2176x4096, .bf16⟩
  | .hbm, ⟨23, _⟩ => ⟨S2176x2048, .bf16⟩
  | .hbm, ⟨24, _⟩ => ⟨S2176x2048, .bf16⟩
  | .hbm, ⟨25, _⟩ => ⟨S2176x2048, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1088x512, .bf16⟩
  | .local _ .vmem, ⟨9, _⟩ => ⟨S1088x512, .bf16⟩
  | .local _ .vmem, ⟨10, _⟩ => ⟨S1088x512, .bf16⟩
  | .local _ .vmem, ⟨11, _⟩ => ⟨S1088x512, .bf16⟩
  | .local _ .vmem, ⟨12, _⟩ => ⟨S1088x512, .bf16⟩
  | .local _ .vmem, ⟨13, _⟩ => ⟨S1088x512, .bf16⟩
  | .local _ .vmem, ⟨14, _⟩ => ⟨S1088x512, .bf16⟩
  | .local _ .vmem, ⟨15, _⟩ => ⟨S1088x512, .bf16⟩
  | .local _ .vmem, ⟨16, _⟩ => ⟨S1088x512, .bf16⟩
  | .local _ .vmem, ⟨17, _⟩ => ⟨S1088x512, .bf16⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call2_v0 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1088x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1088x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1088x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1088x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1088x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MixRefIdeal.lean ====
abbrev S2064x1024 : Shape := ⟨2, ![2064, 1024]⟩
abbrev S1024x2048 : Shape := ⟨2, ![1024, 2048]⟩
abbrev S2064x4096 : Shape := ⟨2, ![2064, 4096]⟩
abbrev S2064x2048 : Shape := ⟨2, ![2064, 2048]⟩
abbrev S_ : Shape := ⟨0, ![]⟩
abbrev S2176x2048 : Shape := ⟨2, ![2176, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S1024x2048, .f32⟩
  | .hbm, ⟨3, _⟩ => ⟨S1024x2048, .f32⟩
  | .hbm, ⟨4, _⟩ => ⟨S2064x4096, .f32⟩
  | .hbm, ⟨5, _⟩ => ⟨S2064x2048, .f32⟩
  | .hbm, ⟨6, _⟩ => ⟨S2064x2048, .f32⟩
  | .hbm, ⟨7, _⟩ => ⟨S2064x2048, .f32⟩
  | .hbm, ⟨8, _⟩ => ⟨S2064x2048, .f32⟩
  | .hbm, ⟨9, _⟩ => ⟨S2064x2048, .f32⟩
  | .hbm, ⟨10, _⟩ => ⟨S2064x2048, .f32⟩
  | .hbm, ⟨11, _⟩ => ⟨S_, .f32⟩
  | .hbm, ⟨12, _⟩ => ⟨S2064x2048, .f32⟩
  | .hbm, ⟨13, _⟩ => ⟨S2064x2048, .f32⟩
  | .hbm, ⟨14, _⟩ => ⟨S_, .f32⟩
  | .hbm, ⟨15, _⟩ => ⟨S2064x2048, .f32⟩
  | .hbm, ⟨16, _⟩ => ⟨S2064x2048, .f32⟩
  | .hbm, ⟨17, _⟩ => ⟨S2064x2048, .f32⟩
  | .hbm, ⟨18, _⟩ => ⟨S2064x2048, .f32⟩
  | .hbm, ⟨19, _⟩ => ⟨S2064x2048, .f32⟩
  | .hbm, ⟨20, _⟩ => ⟨S_, .f32⟩
  | .hbm, ⟨21, _⟩ => ⟨S2064x2048, .f32⟩
  | .hbm, ⟨22, _⟩ => ⟨S2064x2048, .f32⟩
  | .hbm, ⟨23, _⟩ => ⟨S_, .f32⟩
  | .hbm, ⟨24, _⟩ => ⟨S2064x2048, .f32⟩
  | .hbm, ⟨25, _⟩ => ⟨S2064x2048, .f32⟩
  | .hbm, ⟨26, _⟩ => ⟨S2064x2048, .f32⟩
  | .hbm, ⟨27, _⟩ => ⟨S2064x2048, .f32⟩
  | .hbm, ⟨28, _⟩ => ⟨S_, .i32⟩
  | .hbm, ⟨29, _⟩ => ⟨S_, .f32⟩
  | .hbm, ⟨30, _⟩ => ⟨S2176x2048, .f32⟩
  | .hbm, ⟨31, _⟩ => ⟨S2176x2048, .bf16⟩
  | .hbm, ⟨32, _⟩ => ⟨S_, .i32⟩
  | .hbm, ⟨33, _⟩ => ⟨S_, .f32⟩
  | .hbm, ⟨34, _⟩ => ⟨S2176x2048, .f32⟩
  | .hbm, ⟨35, _⟩ => ⟨S2176x2048, .bf16⟩
  | .hbm, ⟨36, _⟩ => ⟨S_, .i32⟩
  | .hbm, ⟨37, _⟩ => ⟨S_, .f32⟩
  | .hbm, ⟨38, _⟩ => ⟨S2176x2048, .f32⟩
  | .hbm, ⟨39, _⟩ => ⟨S2176x2048, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_call1_v0 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_call2_v0 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== TokenNorm.lean ====
abbrev S2048x2048 : Shape := ⟨2, ![2048, 2048]⟩
abbrev S2048 : Shape := ⟨1, ![2048]⟩
abbrev S1x2048 : Shape := ⟨2, ![1, 2048]⟩
abbrev S2176x2048 : Shape := ⟨2, ![2176, 2048]⟩
abbrev S128x2048 : Shape := ⟨2, ![128, 2048]⟩
abbrev S128 : Shape := ⟨1, ![128]⟩
abbrev S128x1 : Shape := ⟨2, ![128, 1]⟩

abbrev nBuf : Space → Nat
  | .hbm => 7
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2176x2048, .f32⟩
  | .hbm, ⟨4, _⟩ => ⟨S2176x2048, .bf16⟩
  | .hbm, ⟨5, _⟩ => ⟨S2048x2048, .f32⟩
  | .hbm, ⟨6, _⟩ => ⟨S2048x2048, .bf16⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .bf16⟩
  | .local _ .vmem, ⟨6, _⟩ => ⟨S128x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== TokenNormRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Pooled.lean ====
abbrev S2064x1024 : Shape := ⟨2, ![2064, 1024]⟩
abbrev S4x256x256 : Shape := ⟨3, ![4, 256, 256]⟩
abbrev S1024 : Shape := ⟨1, ![1024]⟩
abbrev S_ : Shape := ⟨0, ![]⟩
abbrev S2176x1024 : Shape := ⟨2, ![2176, 1024]⟩
abbrev S1x1024 : Shape := ⟨2, ![1, 1024]⟩
abbrev S2176x256 : Shape := ⟨2, ![2176, 256]⟩
abbrev S1x256x256 : Shape := ⟨3, ![1, 256, 256]⟩
abbrev S1x256 : Shape := ⟨2, ![1, 256]⟩
abbrev S2176x1 : Shape := ⟨2, ![2176, 1]⟩
abbrev S256x256 : Shape := ⟨2, ![256, 256]⟩

abbrev nBuf : Space → Nat
  | .hbm => 12
  | .vmem => 10
  | .smem => 0
  | _ => 0

abbrev bufTy : (tb : Table) → Fin (tcTables nBuf tb) → BufTy
  | .hbm, ⟨0, _⟩ => ⟨S2064x1024, .f32⟩
  | .hbm, ⟨1, _⟩ => ⟨S4x256x256, .f32⟩
  | .hbm, ⟨2, _⟩ => ⟨S1024, .f32⟩
  | .hbm, ⟨3, _⟩ => ⟨S_, .i32⟩
  | .hbm, ⟨4, _⟩ => ⟨S_, .f32⟩
  | .hbm, ⟨5, _⟩ => ⟨S2176x1024, .f32⟩
  | .hbm, ⟨6, _⟩ => ⟨S4x256x256, .bf16⟩
  | .hbm, ⟨7, _⟩ => ⟨S1x1024, .f32⟩
  | .hbm, ⟨8, _⟩ => ⟨S2176x1024, .bf16⟩
  | .hbm, ⟨9, _⟩ => ⟨S2176x1024, .bf16⟩
  | .hbm, ⟨10, _⟩ => ⟨S2064x1024, .bf16⟩
  | .hbm, ⟨11, _⟩ => ⟨S2064x1024, .bf16⟩
  | .local _ .vmem, ⟨0, _⟩ => ⟨S2176x256, .f32⟩
  | .local _ .vmem, ⟨1, _⟩ => ⟨S2176x256, .f32⟩
  | .local _ .vmem, ⟨2, _⟩ => ⟨S1x256x256, .bf16⟩
  | .local _ .vmem, ⟨3, _⟩ => ⟨S1x256x256, .bf16⟩
  | .local _ .vmem, ⟨4, _⟩ => ⟨S1x256, .f32⟩
  | .local _ .vmem, ⟨5, _⟩ => ⟨S1x256, .f32⟩
  | .local _ .vmem, ⟨6, _⟩ => ⟨S2176x256, .bf16⟩
  | .local _ .vmem, ⟨7, _⟩ => ⟨S2176x256, .bf16⟩
  | .local _ .vmem, ⟨8, _⟩ => ⟨S2176x256, .bf16⟩
  | .local _ .vmem, ⟨9, _⟩ => ⟨S2176x256, .bf16⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PooledRefIdeal.lean ====
abbrev S2064x1024 : Shape := ⟨2, ![2064, 1024]⟩
abbrev S4x256x256 : Shape := ⟨3, ![4, 256, 256]⟩
abbrev S1024 : Shape := ⟨1, ![1024]⟩
abbrev S2064x4x256 : Shape := ⟨3, ![2064, 4, 256]⟩
abbrev S_ : Shape := ⟨0, ![]⟩
abbrev S2064 : Shape := ⟨1, ![2064]⟩
abbrev S2064x1x256 : Shape := ⟨3, ![2064, 1, 256]⟩
abbrev S2064x256 : Shape := ⟨2, ![2064, 256]⟩
abbrev S2x256 : Shape := ⟨2, ![2, 256]⟩
abbrev S2062x256 : Shape := ⟨2, ![2062, 256]⟩
abbrev S2064x1 : Shape := ⟨2, ![2064, 1]⟩
abbrev S4x256 : Shape := ⟨2, ![4, 256]⟩
abbrev S2060x256 : Shape := ⟨2, ![2060, 256]⟩
abbrev S8x256 : Shape := ⟨2, ![8, 256]⟩
abbrev S2056x256 : Shape := ⟨2, ![2056, 256]⟩
abbrev S16x256 : Shape := ⟨2, ![16, 256]⟩
abbrev S2048x256 : Shape := ⟨2, ![2048, 256]⟩
abbrev S4x256x2064 : Shape := ⟨3, ![4, 256, 2064]⟩
abbrev S1x1024 : Shape := ⟨2, ![1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S4x256x256, .f32⟩
  | .hbm, ⟨2, _⟩ => ⟨S1024, .f32⟩
  | .hbm, ⟨3, _⟩ => ⟨S2064x4x256, .f32⟩
  | .hbm, ⟨4, _⟩ => ⟨S_, .f32⟩
  | .hbm, ⟨5, _⟩ => ⟨S_, .f32⟩
  | .hbm, ⟨6, _⟩ => ⟨S2064x4x256, .f32⟩
  | .hbm, ⟨7, _⟩ => ⟨S2064, .i32⟩
  | .hbm, ⟨8, _⟩ => ⟨S2064x1x256, .f32⟩
  | .hbm, ⟨9, _⟩ => ⟨S2064x256, .f32⟩
  | .hbm, ⟨10, _⟩ => ⟨S_, .f32⟩
  | .hbm, ⟨11, _⟩ => ⟨S2x256, .f32⟩
  | .hbm, ⟨12, _⟩ => ⟨S2062x256, .f32⟩
  | .hbm, ⟨13, _⟩ => ⟨S2064x256, .f32⟩
  | .hbm, ⟨14, _⟩ => ⟨S_, .i32⟩
  | .hbm, ⟨15, _⟩ => ⟨S2064, .i32⟩
  | .hbm, ⟨16, _⟩ => ⟨S2064, .i32⟩
  | .hbm, ⟨17, _⟩ => ⟨S_, .i32⟩
  | .hbm, ⟨18, _⟩ => ⟨S2064, .i32⟩
  | .hbm, ⟨19, _⟩ => ⟨S2064, .i32⟩
  | .hbm, ⟨20, _⟩ => ⟨S2064, .f32⟩
  | .hbm, ⟨21, _⟩ => ⟨S2064x1, .f32⟩
  | .hbm, ⟨22, _⟩ => ⟨S2064x256, .f32⟩
  | .hbm, ⟨23, _⟩ => ⟨S2064x256, .f32⟩
  | .hbm, ⟨24, _⟩ => ⟨S2064x256, .f32⟩
  | .hbm, ⟨25, _⟩ => ⟨S2064x1x256, .f32⟩
  | .hbm, ⟨26, _⟩ => ⟨S2064x256, .f32⟩
  | .hbm, ⟨27, _⟩ => ⟨S_, .f32⟩
  | .hbm, ⟨28, _⟩ => ⟨S4x256, .f32⟩
  | .hbm, ⟨29, _⟩ => ⟨S2060x256, .f32⟩
  | .hbm, ⟨30, _⟩ => ⟨S2064x256, .f32⟩
  | .hbm, ⟨31, _⟩ => ⟨S_, .i32⟩
  | .hbm, ⟨32, _⟩ => ⟨S2064, .i32⟩
  | .hbm, ⟨33, _⟩ => ⟨S2064, .i32⟩
  | .hbm, ⟨34, _⟩ => ⟨S_, .i32⟩
  | .hbm, ⟨35, _⟩ => ⟨S2064, .i32⟩
  | .hbm, ⟨36, _⟩ => ⟨S2064, .i32⟩
  | .hbm, ⟨37, _⟩ => ⟨S2064, .f32⟩
  | .hbm, ⟨38, _⟩ => ⟨S2064x1, .f32⟩
  | .hbm, ⟨39, _⟩ => ⟨S2064x256, .f32⟩
  | .hbm, ⟨40, _⟩ => ⟨S2064x256, .f32⟩
  | .hbm, ⟨41, _⟩ => ⟨S2064x256, .f32⟩
  | .hbm, ⟨42, _⟩ => ⟨S2064x1x256, .f32⟩
  | .hbm, ⟨43, _⟩ => ⟨S2064x256, .f32⟩
  | .hbm, ⟨44, _⟩ => ⟨S_, .f32⟩
  | .hbm, ⟨45, _⟩ => ⟨S8x256, .f32⟩
  | .hbm, ⟨46, _⟩ => ⟨S2056x256, .f32⟩
  | .hbm, ⟨47, _⟩ => ⟨S2064x256, .f32⟩
  | .hbm, ⟨48, _⟩ => ⟨S_, .i32⟩
  | .hbm, ⟨49, _⟩ => ⟨S2064, .i32⟩
  | .hbm, ⟨50, _⟩ => ⟨S2064, .i32⟩
  | .hbm, ⟨51, _⟩ => ⟨S_, .i32⟩
  | .hbm, ⟨52, _⟩ => ⟨S2064, .i32⟩
  | .hbm, ⟨53, _⟩ => ⟨S2064, .i32⟩
  | .hbm, ⟨54, _⟩ => ⟨S2064, .f32⟩
  | .hbm, ⟨55, _⟩ => ⟨S2064x1, .f32⟩
  | .hbm, ⟨56, _⟩ => ⟨S2064x256, .f32⟩
  | .hbm, ⟨57, _⟩ => ⟨S2064x256, .f32⟩
  | .hbm, ⟨58, _⟩ => ⟨S2064x256, .f32⟩
  | .hbm, ⟨59, _⟩ => ⟨S2064x1x256, .f32⟩
  | .hbm, ⟨60, _⟩ => ⟨S2064x256, .f32⟩
  | .hbm, ⟨61, _⟩ => ⟨S_, .f32⟩
  | .hbm, ⟨62, _⟩ => ⟨S16x256, .f32⟩
  | .hbm, ⟨63, _⟩ => ⟨S2048x256, .f32⟩
  | .hbm, ⟨64, _⟩ => ⟨S2064x256, .f32⟩
  | .hbm, ⟨65, _⟩ => ⟨S_, .i32⟩
  | .hbm, ⟨66, _⟩ => ⟨S2064, .i32⟩
  | .hbm, ⟨67, _⟩ => ⟨S2064, .i32⟩
  | .hbm, ⟨68, _⟩ => ⟨S_, .i32⟩
  | .hbm, ⟨69, _⟩ => ⟨S2064, .i32⟩
  | .hbm, ⟨70, _⟩ => ⟨S2064, .i32⟩
  | .hbm, ⟨71, _⟩ => ⟨S2064, .f32⟩
  | .hbm, ⟨72, _⟩ => ⟨S2064x1, .f32⟩
  | .hbm, ⟨73, _⟩ => ⟨S2064x256, .f32⟩
  | .hbm, ⟨74, _⟩ => ⟨S2064x256, .f32⟩
  | .hbm, ⟨75, _⟩ => ⟨S2064x256, .f32⟩
  | .hbm, ⟨76, _⟩ => ⟨S2064x1x256, .f32⟩
  | .hbm, ⟨77, _⟩ => ⟨S2064x1x256, .f32⟩
  | .hbm, ⟨78, _⟩ => ⟨S2064x1x256, .f32⟩
  | .hbm, ⟨79, _⟩ => ⟨S2064x1x256, .f32⟩
  | .hbm, ⟨80, _⟩ => ⟨S2064x4x256, .f32⟩
  | .hbm, ⟨81, _⟩ => ⟨S2064x4x256, .f32⟩
  | .hbm, ⟨82, _⟩ => ⟨S4x256x2064, .f32⟩
  | .hbm, ⟨83, _⟩ => ⟨S2064x4x256, .f32⟩
  | .hbm, ⟨84, _⟩ => ⟨S2064x1024, .f32⟩
  | .hbm, ⟨85, _⟩ => ⟨S2064x1024, .f32⟩
  | .hbm, ⟨86, _⟩ => ⟨S2064x1024, .bf16⟩
  | .hbm, ⟨87, _⟩ => ⟨S1x1024, .f32⟩
  | .hbm, ⟨88, _⟩ => ⟨S2064x1024, .f32⟩
  | .hbm, ⟨89, _⟩ => ⟨S2064x1024, .f32⟩
  | .hbm, ⟨90, _⟩ => ⟨S2064x1024, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_c_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_8 : Ref sig .tc := ⟨.hbm, 65, rfl⟩
abbrev main_v50 : Ref sig .tc := ⟨.hbm, 66, rfl⟩
abbrev main_v51 : Ref sig .tc := ⟨.hbm, 67, rfl⟩
abbrev main_c_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩

abbrev nD : Nat := 1
abbrev τ : Topo := Topo.v7x

variable {F : FTy → Type} [FloatOps F]
-- ==== MetaNorm.lean ====
abbrev S16x2048 : Shape := ⟨2, ![16, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S2176x2048 : Shape := ⟨2, ![2176, 2048]⟩
abbrev S2048x1 : Shape := ⟨2, ![2048, 1]⟩
abbrev S128x2048 : Shape := ⟨2, ![128, 2048]⟩
abbrev S128 : Shape := ⟨1, ![128]⟩
abbrev S128x1 : Shape := ⟨2, ![128, 1]⟩

abbrev nBuf : Space → Nat
  | .hbm => 29
  | .vmem => 4
  | .smem => 0
  | _ => 0

abbrev bufTy : (tb : Table) → Fin (tcTables nBuf tb) → BufTy
  | .hbm, ⟨0, _⟩ => ⟨S16x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S_, .i32⟩
  | .hbm, ⟨5, _⟩ => ⟨S_, .f32⟩
  | .hbm, ⟨6, _⟩ => ⟨S2176x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .bf16⟩
  | .hbm, ⟨24, _⟩ => ⟨S_, .i32⟩
  | .hbm, ⟨25, _⟩ => ⟨S_, .bf16⟩
  | .hbm, ⟨26, _⟩ => ⟨S2176x2048, .bf16⟩
  | .hbm, ⟨27, _⟩ => ⟨S2176x2048, .f32⟩
  | .hbm, ⟨28, _⟩ => ⟨S2176x2048, .bf16⟩
  | .local _ .vmem, ⟨0, _⟩ => ⟨S16x2048, .f32⟩
  | .local _ .vmem, ⟨1, _⟩ => ⟨S1x2048, .f32⟩
  | .local _ .vmem, ⟨2, _⟩ => ⟨S128x2048, .f32⟩
  | .local _ .vmem, ⟨3, _⟩ => ⟨S128x2048, .bf16⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_call1_v0 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MetaNormRefIdeal.lean ====
abbrev S16x2048 : Shape := ⟨2, ![16, 2048]⟩
abbrev S2048x2048 : Shape := ⟨2, ![2048, 2048]⟩
abbrev S2048 : Shape := ⟨1, ![2048]⟩
abbrev S2064x2048 : Shape := ⟨2, ![2064, 2048]⟩
abbrev S_ : Shape := ⟨0, ![]⟩
abbrev S2176x2048 : Shape := ⟨2, ![2176, 2048]⟩
abbrev S2176 : Shape := ⟨1, ![2176]⟩
abbrev S2176x1 : Shape := ⟨2, ![2176, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x2048, .f32⟩
  | .hbm, ⟨2, _⟩ => ⟨S2048, .f32⟩
  | .hbm, ⟨3, _⟩ => ⟨S2064x2048, .f32⟩
  | .hbm, ⟨4, _⟩ => ⟨S_, .i32⟩
  | .hbm, ⟨5, _⟩ => ⟨S_, .f32⟩
  | .hbm, ⟨6, _⟩ => ⟨S2176x2048, .f32⟩
  | .hbm, ⟨7, _⟩ => ⟨S2176x2048, .f32⟩
  | .hbm, ⟨8, _⟩ => ⟨S_, .f32⟩
  | .hbm, ⟨9, _⟩ => ⟨S2176, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S_, .f32⟩
  | .hbm, ⟨15, _⟩ => ⟨S2176x1, .f32⟩
  | .hbm, ⟨16, _⟩ => ⟨S2176x1, .f32⟩
  | .hbm, ⟨17, _⟩ => ⟨S2176x1, .f32⟩
  | .hbm, ⟨18, _⟩ => ⟨S2176x2048, .f32⟩
  | .hbm, ⟨19, _⟩ => ⟨S2176x2048, .f32⟩
  | .hbm, ⟨20, _⟩ => ⟨S1x2048, .f32⟩
  | .hbm, ⟨21, _⟩ => ⟨S2176x2048, .f32⟩
  | .hbm, ⟨22, _⟩ => ⟨S2176x2048, .f32⟩
  | .hbm, ⟨23, _⟩ => ⟨S2176x2048, .bf16⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== DownGrad.lean ====
abbrev S2064x8192 : Shape := ⟨2, ![2064, 8192]⟩
abbrev S8192x2048 : Shape := ⟨2, ![8192, 2048]⟩
abbrev S2064x2048 : Shape := ⟨2, ![2064, 2048]⟩
abbrev S_ : Shape := ⟨0, ![]⟩
abbrev S2176x8192 : Shape := ⟨2, ![2176, 8192]⟩
abbrev S2176x2048 : Shape := ⟨2, ![2176, 2048]⟩
abbrev S2176x1024 : Shape := ⟨2, ![2176, 1024]⟩
abbrev S1024x1024 : Shape := ⟨2, ![1024, 1024]⟩

abbrev nBuf : Space → Nat
  | .hbm => 12
  | .vmem => 6
  | .smem => 0
  | _ => 0

abbrev bufTy : (tb : Table) → Fin (tcTables nBuf tb) → BufTy
  | .hbm, ⟨0, _⟩ => ⟨S2064x8192, .f32⟩
  | .hbm, ⟨1, _⟩ => ⟨S8192x2048, .f32⟩
  | .hbm, ⟨2, _⟩ => ⟨S2064x2048, .f32⟩
  | .hbm, ⟨3, _⟩ => ⟨S_, .i32⟩
  | .hbm, ⟨4, _⟩ => ⟨S_, .f32⟩
  | .hbm, ⟨5, _⟩ => ⟨S2176x8192, .f32⟩
  | .hbm, ⟨6, _⟩ => ⟨S2176x8192, .bf16⟩
  | .hbm, ⟨7, _⟩ => ⟨S_, .i32⟩
  | .hbm, ⟨8, _⟩ => ⟨S_, .f32⟩
  | .hbm, ⟨9, _⟩ => ⟨S2176x2048, .f32⟩
  | .hbm, ⟨10, _⟩ => ⟨S2176x2048, .bf16⟩
  | .hbm, ⟨11, _⟩ => ⟨S8192x2048, .f32⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .f32⟩
  | _, _ => ⟨S2064x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownGradRefIdeal.lean ====
abbrev S2064x8192 : Shape := ⟨2, ![2064, 8192]⟩
abbrev S8192x2048 : Shape := ⟨2, ![8192, 2048]⟩
abbrev S2064x2048 : Shape := ⟨2, ![2064, 2048]⟩
abbrev S2048x8192 : Shape := ⟨2, ![2048, 8192]⟩

abbrev nBuf : Space → Nat
  | .hbm => 6
  | .vmem => 0
  | .smem => 0
  | _ => 0

abbrev bufTy : (tb : Table) → Fin (tcTables nBuf tb) → BufTy
  | .hbm, ⟨0, _⟩ => ⟨S2064x8192, .f32⟩
  | .hbm, ⟨1, _⟩ => ⟨S8192x2048, .f32⟩
  | .hbm, ⟨2, _⟩ => ⟨S2064x2048, .f32⟩
  | .hbm, ⟨3, _⟩ => ⟨S2064x2048, .f32⟩
  | .hbm, ⟨4, _⟩ => ⟨S2048x8192, .f32⟩
  | .hbm, ⟨5, _⟩ => ⟨S8192x2048, .f32⟩
  | _, _ => ⟨S2064x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpGrad.lean ====
abbrev S2064x2048 : Shape := ⟨2, ![2064, 2048]⟩
abbrev S2048x8192 : Shape := ⟨2, ![2048, 8192]⟩
abbrev S2064x8192 : Shape := ⟨2, ![2064, 8192]⟩
abbrev S_ : Shape := ⟨0, ![]⟩
abbrev S2176x2048 : Shape := ⟨2, ![2176, 2048]⟩
abbrev S2176x8192 : Shape := ⟨2, ![2176, 8192]⟩
abbrev S4x2048x2048 : Shape := ⟨3, ![4, 2048, 2048]⟩
abbrev S2176x1024 : Shape := ⟨2, ![2176, 1024]⟩
abbrev S1x1024x1024 : Shape := ⟨3, ![1, 1024, 1024]⟩
abbrev S1024x1024 : Shape := ⟨2, ![1024, 1024]⟩

abbrev nBuf : Space → Nat
  | .hbm => 12
  | .vmem => 6
  | .smem => 0
  | _ => 0

abbrev bufTy : (tb : Table) → Fin (tcTables nBuf tb) → BufTy
  | .hbm, ⟨0, _⟩ => ⟨S2064x2048, .f32⟩
  | .hbm, ⟨1, _⟩ => ⟨S2048x8192, .f32⟩
  | .hbm, ⟨2, _⟩ => ⟨S2064x8192, .f32⟩
  | .hbm, ⟨3, _⟩ => ⟨S_, .i32⟩
  | .hbm, ⟨4, _⟩ => ⟨S_, .f32⟩
  | .hbm, ⟨5, _⟩ => ⟨S2176x2048, .f32⟩
  | .hbm, ⟨6, _⟩ => ⟨S2176x2048, .bf16⟩
  | .hbm, ⟨7, _⟩ => ⟨S_, .i32⟩
  | .hbm, ⟨8, _⟩ => ⟨S_, .f32⟩
  | .hbm, ⟨9, _⟩ => ⟨S2176x8192, .f32⟩
  | .hbm, ⟨10, _⟩ => ⟨S2176x8192, .bf16⟩
  | .hbm, ⟨11, _⟩ => ⟨S4x2048x2048, .f32⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1x1024x1024, .f32⟩
  | .local _ .vmem, ⟨5, _⟩ => ⟨S1x1024x1024, .f32⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== UpGradRefIdeal.lean ====
abbrev S2064x2048 : Shape := ⟨2, ![2064, 2048]⟩
abbrev S2048x8192 : Shape := ⟨2, ![2048, 8192]⟩
abbrev S2064x8192 : Shape := ⟨2, ![2064, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S2048x8192, .f32⟩
  | .hbm, ⟨2, _⟩ => ⟨S2064x8192, .f32⟩
  | .hbm, ⟨3, _⟩ => ⟨S2064x8192, .f32⟩
  | .hbm, ⟨4, _⟩ => ⟨S8192x2048, .f32⟩
  | .hbm, ⟨5, _⟩ => ⟨S2048x8192, .f32⟩
  | .hbm, ⟨6, _⟩ => ⟨S2048x4x2048, .f32⟩
  | .hbm, ⟨7, _⟩ => ⟨S4x2048x2048, .f32⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpBack.lean ====
abbrev S2064x2048 : Shape := ⟨2, ![2064, 2048]⟩
abbrev S2048x8192 : Shape := ⟨2, ![2048, 8192]⟩
abbrev S2064x8192 : Shape := ⟨2, ![2064, 8192]⟩
abbrev S_ : Shape := ⟨0, ![]⟩
abbrev S2176x8192 : Shape := ⟨2, ![2176, 8192]⟩
abbrev S2048x4x2048 : Shape := ⟨3, ![2048, 4, 2048]⟩
abbrev S4x2048x2048 : Shape := ⟨3, ![4, 2048, 2048]⟩
abbrev S2176x2048 : Shape := ⟨2, ![2176, 2048]⟩
abbrev S1088x2048 : Shape := ⟨2, ![1088, 2048]⟩
abbrev S1x1024x2048 : Shape := ⟨3, ![1, 1024, 2048]⟩
abbrev S1088x1024 : Shape := ⟨2, ![1088, 1024]⟩
abbrev S1024x2048 : Shape := ⟨2, ![1024, 2048]⟩

abbrev nBuf : Space → Nat
  | .hbm => 11
  | .vmem => 7
  | .smem => 0
  | _ => 0

abbrev bufTy : (tb : Table) → Fin (tcTables nBuf tb) → BufTy
  | .hbm, ⟨0, _⟩ => ⟨S2064x2048, .f32⟩
  | .hbm, ⟨1, _⟩ => ⟨S2048x8192, .f32⟩
  | .hbm, ⟨2, _⟩ => ⟨S2064x8192, .f32⟩
  | .hbm, ⟨3, _⟩ => ⟨S_, .i32⟩
  | .hbm, ⟨4, _⟩ => ⟨S_, .f32⟩
  | .hbm, ⟨5, _⟩ => ⟨S2176x8192, .f32⟩
  | .hbm, ⟨6, _⟩ => ⟨S2176x8192, .bf16⟩
  | .hbm, ⟨7, _⟩ => ⟨S2048x4x2048, .f32⟩
  | .hbm, ⟨8, _⟩ => ⟨S4x2048x2048, .f32⟩
  | .hbm, ⟨9, _⟩ => ⟨S4x2048x2048, .bf16⟩
  | .hbm, ⟨10, _⟩ => ⟨S2176x2048, .f32⟩
  | .local _ .vmem, ⟨0, _⟩ => ⟨S1088x2048, .bf16⟩
  | .local _ .vmem, ⟨1, _⟩ => ⟨S1088x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpBackRefIdeal.lean ====
abbrev S2064x2048 : Shape := ⟨2, ![2064, 2048]⟩
abbrev S2048x8192 : Shape := ⟨2, ![2048, 8192]⟩
abbrev S2064x8192 : Shape := ⟨2, ![2064, 8192]⟩
abbrev S_ : Shape := ⟨0, ![]⟩
abbrev S2176x2048 : Shape := ⟨2, ![2176, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2064x2048, .f32⟩
  | .hbm, ⟨1, _⟩ => ⟨S2048x8192, .f32⟩
  | .hbm, ⟨2, _⟩ => ⟨S2064x8192, .f32⟩
  | .hbm, ⟨3, _⟩ => ⟨S2064x8192, .f32⟩
  | .hbm, ⟨4, _⟩ => ⟨S2064x2048, .f32⟩
  | .hbm, ⟨5, _⟩ => ⟨S_, .i32⟩
  | .hbm, ⟨6, _⟩ => ⟨S_, .f32⟩
  | .hbm, ⟨7, _⟩ => ⟨S2176x2048, .f32⟩
  | _, _ => ⟨S2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Down.lean ====
abbrev S2064x8192 : Shape := ⟨2, ![2064, 8192]⟩
abbrev S8192x2048 : Shape := ⟨2, ![8192, 2048]⟩
abbrev S_ : Shape := ⟨0, ![]⟩
abbrev S2176x8192 : Shape := ⟨2, ![2176, 8192]⟩
abbrev S2176x2048 : Shape := ⟨2, ![2176, 2048]⟩
abbrev S1088x2048 : Shape := ⟨2, ![1088, 2048]⟩
abbrev S2048x1024 : Shape := ⟨2, ![2048, 1024]⟩
abbrev S1088x1024 : Shape := ⟨2, ![1088, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2064x8192, .f32⟩
  | .hbm, ⟨1, _⟩ => ⟨S8192x2048, .f32⟩
  | .hbm, ⟨2, _⟩ => ⟨S_, .i32⟩
  | .hbm, ⟨3, _⟩ => ⟨S_, .f32⟩
  | .hbm, ⟨4, _⟩ => ⟨S2176x8192, .f32⟩
  | .hbm, ⟨5, _⟩ => ⟨S2176x8192, .bf16⟩
  | .hbm, ⟨6, _⟩ => ⟨S8192x2048, .bf16⟩
  | .hbm, ⟨7, _⟩ => ⟨S2176x2048, .f32⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2064x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S2064x8192 : Shape := ⟨2, ![2064, 8192]⟩
abbrev S8192x2048 : Shape := ⟨2, ![8192, 2048]⟩
abbrev S2064x2048 : Shape := ⟨2, ![2064, 2048]⟩
abbrev S_ : Shape := ⟨0, ![]⟩
abbrev S2176x2048 : Shape := ⟨2, ![2176, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2064x8192, .f32⟩
  | .hbm, ⟨1, _⟩ => ⟨S8192x2048, .f32⟩
  | .hbm, ⟨2, _⟩ => ⟨S2064x2048, .f32⟩
  | .hbm, ⟨3, _⟩ => ⟨S_, .i32⟩
  | .hbm, ⟨4, _⟩ => ⟨S_, .f32⟩
  | .hbm, ⟨5, _⟩ => ⟨S2176x2048, .f32⟩
  | _, _ => ⟨S2064x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Adam.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Common.lean ====
/-
  What the calls have in common: every one reads its row arrays with 112 rows of zeros put in their front.
-/
module

public import Idealize.ShloMosaic.Lib.Pipeline.ValueKit
public import Idealize.ShloMosaic.Lib.Pointwise
public import Idealize.ShloMosaic.Lib.Claim

@[expose] public section

noncomputable section

namespace Cert.Common

open Idealize.ShloMosaic

/-- What stands at row `r` of an array of 2064 rows after 112 rows of zeros are put in its front. -/
def front {n : ℕ} (X : FVec Ideal ⟨2, ![2064, n]⟩ .f32) (r : ℕ) (k : Fin n) : EReal :=
  if h : 112 ≤ r ∧ r - 112 < 2064 then X (ix2 ⟨r - 112, h.2⟩ k) else 0

/-- `front` depends on the values of its row and column alone. -/
theorem front_congr {n : ℕ} (X : FVec Ideal ⟨2, ![2064, n]⟩ .f32) {r r' : ℕ} {k k' : Fin n} (hr : r = r') (hk : k.val = k'.val) :
    front X r k = front X r' k' := by
  obtain rfl := hr; obtain rfl := Fin.ext hk; rfl

/-- The integer zero that fills the front rows is the real zero. -/
theorem sitofp_zero : (FloatOps.sitofp .f32 (0#32) : Ideal .f32) = (0 : EReal) := by
  show (((0#32 : BitVec 32).toInt : ℝ) : EReal) = 0
  simp

/-- Two multi-indices of rank two with equal coordinates are equal. -/
theorem ext2 {a b : ℕ} {i j : (⟨2, ![a, b]⟩ : Shape).Idx} (h0 : (i 0).val = (j 0).val) (h1 : (i 1).val = (j 1).val) : i = j :=
  funext fun k => Fin.ext (match k with | ⟨0, _⟩ => h0 | ⟨1, _⟩ => h1)

/-- An array of rows with 112 rows of zeros in its front. -/
def frontA {n : ℕ} (X : FVec Ideal ⟨2, ![2064, n]⟩ .f32) (φ : FTy) : FVec Ideal ⟨2, ![2176, n]⟩ φ := fun i => front X (i 0).val (i 1)

/-- Putting rows of zeros in front of an array gives `frontA`. -/
theorem pad_front {n : ℕ} (X : FVec Ideal ⟨2, ![2064, n]⟩ .f32) (hp : (⟨2, ![2064, n]⟩ : Shape).Pads (![112, 0] : Fin 2 → Nat) ![0, 0] ![0, 0] ⟨2, ![2176, n]⟩)
    (hs : 0 < (⟨0, ![]⟩ : Shape).numel) (z : FVec Ideal ⟨0, ![]⟩ .f32) (hz : ∀ i, (z i : EReal) = 0) :
    pad ⟨2, ![2176, n]⟩ ![112, 0] ![0, 0] ![0, 0] X z hp hs = (frontA X .f32 : FVec Ideal ⟨2, ![2176, n]⟩ .f32) := by
  funext i
  pointwise [front, frontA, hz]
  split
  · exact congrArg X (ext2 (by simp [Shape.Idx.norm]) (by simp [Shape.Idx.norm]))
  · rfl

end Cert.Common

end
-- ==== Proof.ReluSquare.lean ====
/-
  The gradient through the squared relu of the MLP: what the call leaves in its result array is the derivative of the
  reference's `square(relu(a)) @ w_down` with respect to `a`.
-/
module

public import proofs.«01_k».proof.Defs
public import proofs.«01_k».proof.Proof.Gen.ReluSquareIdeal.Value
public import proofs.«01_k».proof.Proof.Gen.ReluSquareRefIdeal.Read
public import proofs.«01_k».proof.Proof.Gen.ReluSquare.Frame
public import proofs.«01_k».proof.Proof.Common

@[expose] public section

set_option maxRecDepth 16384

noncomputable section

namespace Cert.ReluSquareIdeal.Grad

open Idealize.ShloMosaic Idealize.ShloMosaic.TcCoe Idealize.SL.Sem
open Idealize.ShloMosaic.Pipeline (Dat)
open Cert.ReluSquareIdeal Cert.ReluSquareIdeal.Gen Cert.Common

variable (m : (ℓ : Loc nD τ sig) → Buf (Elt Ideal) ℓ)

/-- The blocks each grid point reads and writes. -/
theorem idx : ∀ t : Fin cfg0.N, win0_0.index t = ![t.val / 8, 0] ∧ win0_1.index t = ![t.val % 8, 0]
    ∧ win0_2.index t = ![t.val / 8, t.val % 8] ∧ win0_3.index t = ![t.val / 8, t.val % 8] ∧ t.val < 16 :=
  (by decide +kernel : ∀ t : Fin grid0.N, _)

/-- The region finds `df` with zeros in its front. -/
theorem V_v1 (c : Dev nD) : V m c main_v1 = truncf (F := Ideal) .bf16 (pad S2176x2048 ![112, 0] ![0, 0] ![0, 0]
    (m ((c : Thread nD τ).loc main_arg2)) (sitofp .f32 (constantI S_ 32 0#32)) pads_S2064x2048_S2176x2048_11200_000 h_S_) bitsLt_bf16_f32 := by
  unfold V
  simp only [hostOps0, hostOps0_1, hostOps0_2, hostOps0_3, hostOps0_4, List.flatten_cons, List.flatten_nil, List.append_nil, List.cons_append, List.nil_append]
  after_results
  rfl

/-- The region finds `w_down`. -/
theorem V_v2 (c : Dev nD) : V m c main_v2 = truncf (F := Ideal) .bf16 (m ((c : Thread nD τ).loc main_arg1)) bitsLt_bf16_f32 := by
  unfold V
  simp only [hostOps0, hostOps0_1, hostOps0_2, hostOps0_3, hostOps0_4, List.flatten_cons, List.flatten_nil, List.append_nil, List.cons_append, List.nil_append]
  after_results
  try rfl

/-- The region finds `a` with zeros in its front. -/
theorem V_v4 (c : Dev nD) : V m c main_v4 = truncf (F := Ideal) .bf16 (pad S2176x8192 ![112, 0] ![0, 0] ![0, 0]
    (m ((c : Thread nD τ).loc main_arg0)) (sitofp .f32 (constantI S_ 32 0#32)) pads_S2064x8192_S2176x8192_11200_000 h_S_) bitsLt_bf16_f32 := by
  unfold V
  simp only [hostOps0, hostOps0_1, hostOps0_2, hostOps0_3, hostOps0_4, List.flatten_cons, List.flatten_nil, List.append_nil, List.cons_append, List.nil_append]
  after_results
  rfl

/-- `df` with zeros in its front, at an element. -/
theorem pad_df (X : FVec Ideal S2064x2048 .f32) (i : S2176x2048.Idx) :
    truncf (F := Ideal) .bf16 (pad S2176x2048 ![112, 0] ![0, 0] ![0, 0] X (sitofp .f32 (constantI S_ 32 0#32))
      pads_S2064x2048_S2176x2048_11200_000 h_S_) bitsLt_bf16_f32 i = front X (i 0).val (i 1) := by
  pointwise [front, sitofp_zero]

/-- `a` with zeros in its front, at an element. -/
theorem pad_a (X : FVec Ideal S2064x8192 .f32) (i : S2176x8192.Idx) :
    truncf (F := Ideal) .bf16 (pad S2176x8192 ![112, 0] ![0, 0] ![0, 0] X (sitofp .f32 (constantI S_ 32 0#32))
      pads_S2064x8192_S2176x8192_11200_000 h_S_) bitsLt_bf16_f32 i = front X (i 0).val (i 1) := by
  pointwise [front, sitofp_zero]

/-- The block of `df`: rows of the padded array. -/
theorem blk0 (c : Dev nD) (t : Fin cfg0.N) (r : Fin 1088) (k : Fin 2048) :
    (iblk m c 0 t : FVec Ideal S1088x2048 .bf16) (ix2 r k) = front (m ((c : Thread nD τ).loc main_arg2)) (t.val / 8 * 1088 + r.val) k := by
  have h0 := (idx t).1
  show V m c main_v1 (((cfg0.win 0).blk t).view.emb (ix2 r k)) = _
  rw [V_v1]
  have e0 : ((((cfg0.win 0).blk t).view.emb (ix2 r k)) 0).val = t.val / 8 * 1088 + r.val := by blk_simp [h0]
  have e1 : ((((cfg0.win 0).blk t).view.emb (ix2 r k)) 1).val = k.val := by blk_simp [h0]
  generalize (((cfg0.win 0).blk t).view.emb (ix2 r k)) = e at e0 e1 ⊢
  exact (pad_df _ e).trans (front_congr _ e0 e1)

/-- The block of `w_down`. -/
theorem blk1 (c : Dev nD) (t : Fin cfg0.N) (r : Fin 1024) (k : Fin 2048) :
    (iblk m c 1 t : FVec Ideal S1024x2048 .bf16) (ix2 r k)
      = (m ((c : Thread nD τ).loc main_arg1) : FVec Ideal S8192x2048 .f32) (ix2 ⟨t.val % 8 * 1024 + r.val, by omega⟩ k) := by
  have h0 := (idx t).2.1
  show V m c main_v2 (((cfg0.win 1).blk t).view.emb (ix2 r k)) = _
  rw [V_v2]
  have e0 : ((((cfg0.win 1).blk t).view.emb (ix2 r k)) 0).val = t.val % 8 * 1024 + r.val := by blk_simp [h0]
  have e1 : ((((cfg0.win 1).blk t).view.emb (ix2 r k)) 1).val = k.val := by blk_simp [h0]
  generalize (((cfg0.win 1).blk t).view.emb (ix2 r k)) = e at e0 e1 ⊢
  exact congrArg (m ((c : Thread nD τ).loc main_arg1)) (ext2 e0 e1)

/-- The block of `a`. -/
theorem blk2 (c : Dev nD) (t : Fin cfg0.N) (r : Fin 1088) (k : Fin 1024) :
    (iblk m c 2 t : FVec Ideal S1088x1024 .bf16) (ix2 r k)
      = front (m ((c : Thread nD τ).loc main_arg0)) (t.val / 8 * 1088 + r.val) (⟨t.val % 8 * 1024 + k.val, by omega⟩ : Fin 8192) := by
  have h0 := (idx t).2.2.1
  show V m c main_v4 (((cfg0.win 2).blk t).view.emb (ix2 r k)) = _
  rw [V_v4]
  have e0 : ((((cfg0.win 2).blk t).view.emb (ix2 r k)) 0).val = t.val / 8 * 1088 + r.val := by blk_simp [h0]
  have e1 : ((((cfg0.win 2).blk t).view.emb (ix2 r k)) 1).val = t.val % 8 * 1024 + k.val := by blk_simp [h0]
  generalize (((cfg0.win 2).blk t).view.emb (ix2 r k)) = e at e0 e1 ⊢
  exact (pad_a _ e).trans (front_congr _ e0 e1)

open Cert.ReluSquareRefIdeal.Read in
/-- The reference at an element, rows of zeros in the front. -/
theorem ref_at (a : FVec Ideal S2064x8192 .f32) (w : FVec Ideal S8192x2048 .f32) (df : FVec Ideal S2064x2048 .f32) (i : S2176x8192.Idx) :
    (val_main_v13 (F := Ideal) a w df i : EReal) = (∑ k : Fin 2048, front df (i 0).val k * w (ix2 (i 1) k))
      * (Ideal.ofBits FTy.f32 1073741824#32 * max (front a (i 0).val (i 1)) 0) := by
  pointwise [val_main_v13, val_main_v12, val_main_v11, val_main_v10, val_main_v9, val_main_v8, val_main_v6, val_main_v5,
    val_main_v2, val_main_v1, val_main_v0, val_main_call0_v0, val_main_call0_cst, val_main_cst, val_main_cst_1, val_main_cst_2,
    val_main_call1_v0, val_main_c, front, sitofp_zero]
  by_cases h : 112 ≤ (i 0).val ∧ (i 0).val - 112 < 2064
  · simp only [dif_pos h]
    split
    · rfl
    · rename_i h'
      rw [max_eq_right (not_lt.mp h'), mul_zero, mul_zero]
  · simp only [dif_neg h, max_self, mul_zero]

open Cert.ReluSquareRefIdeal.Read in
/-- What a grid point stores at a place of its block is the reference's value at that place of the array. -/
theorem point (c : Dev nD) (t : Fin cfg0.N) (y : S1088x1024.Idx) : k0_pay1 (iblk m c 0 t) (iblk m c 1 t) (iblk m c 2 t) y
    = val_main_v13 (F := Ideal) (m ((c : Thread nD τ).loc main_arg0)) (m ((c : Thread nD τ).loc main_arg1))
        (m ((c : Thread nD τ).loc main_arg2)) (((cfg0.win 3).blk t).view.emb y) := by
  have h0 := (idx t).2.2.2.1
  have e0 : ((((cfg0.win 3).blk t).view.emb y) 0).val = t.val / 8 * 1088 + (y 0).val := by blk_simp [h0]
  have e1 : ((((cfg0.win 3).blk t).view.emb y) 1).val = t.val % 8 * 1024 + (y 1).val := by blk_simp [h0]
  generalize (((cfg0.win 3).blk t).view.emb y) = e at e0 e1 ⊢
  rw [show y = ix2 (y 0) (y 1) from ext2 rfl rfl]
  have key : ∀ (x0 : FVec Ideal S1088x2048 .bf16) (x1 : FVec Ideal S1024x2048 .bf16) (x2 : FVec Ideal S1088x1024 .bf16)
      (r : Fin 1088) (k : Fin 1024), (k0_pay1 (F := Ideal) x0 x1 x2 (ix2 r k) : EReal)
        = (∑ j : Fin 2048, x0 (ix2 r j) * x1 (ix2 k j)) * (Ideal.ofBits FTy.f32 1073741824#32 * max (x2 (ix2 r k)) 0) := by
    intro x0 x1 x2 r k
    pointwise [k0_pay1]
  refine (key _ _ _ (y 0) (y 1)).trans ?_
  refine Eq.trans ?_ (ref_at _ _ _ e).symm
  refine congrArg₂ (· * ·) (Finset.sum_congr rfl fun j _ => ?_) ?_
  · refine congrArg₂ (· * ·) ((blk0 m c t (y 0) j).trans (front_congr _ e0.symm rfl)) ((blk1 m c t (y 1) j).trans
      (congrArg (m ((c : Thread nD τ).loc main_arg1)) (ext2 e1.symm rfl)))
  · exact congrArg (fun x => Ideal.ofBits FTy.f32 1073741824#32 * max x 0) ((blk2 m c t (y 0) (y 1)).trans (front_congr _ e0.symm e1.symm))

open Cert.ReluSquareRefIdeal.Read in
/-- The result array after the last grid point is the reference's. -/
theorem final (c : Dev nD) : (dats m 0 c).arrAt 3 (cfgs 0).N = val_main_v13 (F := Ideal) (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp; rw [after0_3]; frame_out; exact point m c t y

/-- The reference runs to its end with every counter at zero. -/
theorem frame_ref : Cert.quiescent_ReluSquareRefIdeal := fun m ρ _ =>
  (θ_run Cert.ReluSquareRefIdeal.defs _ _).mono
    (fun r h => ⟨fun c => (h c).2, sem_eq_zero_of_no_sems (by decide) r.2⟩) (Cert.ReluSquareRefIdeal.Value.run (F := Ideal) m ρ)

/-- Over the reals the call's result is the reference's. -/
theorem algebraic : Cert.algebraic_ReluSquareIdeal_ReluSquareRefIdeal := by
  pair_intro
  · run_from Cert.ReluSquareIdeal.Gen.run_main m g
    exacts [V_main_arg0 m c, V_main_arg1 m c, V_main_arg2 m c]
  · run_from Cert.ReluSquareRefIdeal.Value.run m' g'
    exact (final m c).symm

/-- Everything that is claimed of this call. -/
theorem claims : Cert.quiescent_ReluSquare ∧ Cert.quiescent_ReluSquareIdeal ∧ Cert.quiescent_ReluSquareRefIdeal
    ∧ Cert.preserves_ReluSquare_ReluSquareIdeal ∧ Cert.algebraic_ReluSquareIdeal_ReluSquareRefIdeal :=
  ⟨fun m ρ _ => Cert.ReluSquare.Gen.frame m ρ, fun m ρ _ => Cert.ReluSquareIdeal.Gen.frame m ρ, frame_ref, trivial, algebraic⟩

end Cert.ReluSquareIdeal.Grad

end
-- ==== Proof.GateGrads.lean ====
/-
  The gradients through the two sigmoid gates: the four arrays the call leaves are the derivative of the reference's
  `(sigmoid(gate_a) * ya + sigmoid(gate_b) * yb) @ w_o` with respect to `ya`, `yb` and the two gates.
-/
module

public import proofs.«01_k».proof.Defs
public import proofs.«01_k».proof.Proof.Gen.GatesIdeal.Value
public import proofs.«01_k».proof.Proof.Gen.GatesRefIdeal.Read
public import proofs.«01_k».proof.Proof.Gen.Gates.Frame
public import proofs.«01_k».proof.Proof.Common

@[expose] public section

set_option maxRecDepth 16384

noncomputable section

namespace Cert.GatesIdeal.Grad

open Idealize.ShloMosaic Idealize.ShloMosaic.TcCoe Idealize.SL.Sem
open Idealize.ShloMosaic.Pipeline (Dat)
open Cert.GatesIdeal Cert.GatesIdeal.Gen Cert.Common

variable (m : (ℓ : Loc nD τ sig) → Buf (Elt Ideal) ℓ)

/-- The blocks each grid point reads and writes. -/
theorem idx : ∀ t : Fin cfg0.N, win0_0.index t = ![t.val / 4, 0] ∧ win0_1.index t = ![t.val % 4, 0]
    ∧ win0_2.index t = ![t.val / 4, t.val % 4] ∧ win0_3.index t = ![t.val / 4, 4 + t.val % 4]
    ∧ win0_4.index t = ![t.val / 4, t.val % 4] ∧ win0_5.index t = ![t.val / 4, t.val % 4]
    ∧ win0_6.index t = ![t.val / 4, t.val % 4] ∧ win0_7.index t = ![t.val / 4, t.val % 4]
    ∧ win0_8.index t = ![t.val / 4, t.val % 4] ∧ win0_9.index t = ![t.val / 4, t.val % 4] ∧ t.val < 16 :=
  (by decide +kernel : ∀ t : Fin grid0.N, _)

/-- The fill of the front rows is zero. -/
theorem fill_zero (i : S_.Idx) : ((sitofp .f32 (constantI S_ 32 0#32) : FVec Ideal S_ .f32) i : EReal) = 0 := sitofp_zero

/-- What the region finds in its five operands: the arguments, those with rows behind rows of zeros. -/
theorem entries (c : Dev nD) : V m c main_v1 = frontA (m ((c : Thread nD τ).loc main_arg4)) .bf16
    ∧ V m c main_v2 = truncf (F := Ideal) .bf16 (m ((c : Thread nD τ).loc main_arg3)) bitsLt_bf16_f32
    ∧ V m c main_v4 = frontA (m ((c : Thread nD τ).loc main_arg0)) .bf16
    ∧ V m c main_v6 = frontA (m ((c : Thread nD τ).loc main_arg1)) .bf16
    ∧ V m c main_v8 = frontA (m ((c : Thread nD τ).loc main_arg2)) .bf16 := by
  refine ⟨?_, ?_, ?_, ?_, ?_⟩ <;> unfold V <;>
    simp only [hostOps0, hostOps0_1, hostOps0_2, hostOps0_3, hostOps0_4, hostOps0_5, hostOps0_6, hostOps0_7, hostOps0_8,
      List.flatten_cons, List.flatten_nil, List.append_nil, List.cons_append, List.nil_append] <;> after_results
  · exact pad_front (m ((c : Thread nD τ).loc main_arg4)) pads_S2064x2048_S2176x2048_11200_000 h_S_ _ fill_zero
  · exact pad_front (m ((c : Thread nD τ).loc main_arg0)) pads_S2064x4096_S2176x4096_11200_000 h_S_ _ fill_zero
  · exact pad_front (m ((c : Thread nD τ).loc main_arg1)) pads_S2064x2048_S2176x2048_11200_000 h_S_ _ fill_zero
  · exact pad_front (m ((c : Thread nD τ).loc main_arg2)) pads_S2064x2048_S2176x2048_11200_000 h_S_ _ fill_zero

/-- The block of `do`. -/
theorem blk0 (c : Dev nD) (t : Fin cfg0.N) (r : Fin 544) (k : Fin 2048) :
    (iblk m c 0 t : FVec Ideal S544x2048 .bf16) (ix2 r k) = front (m ((c : Thread nD τ).loc main_arg4)) (t.val / 4 * 544 + r.val) k := by
  have h0 := (idx t).1
  show V m c main_v1 (((cfg0.win 0).blk t).view.emb (ix2 r k)) = _
  rw [(entries m c).1]
  exact front_congr _ (by blk_simp [h0]) (by blk_simp [h0])

/-- The block of `w_o`. -/
theorem blk1 (c : Dev nD) (t : Fin cfg0.N) (r : Fin 512) (k : Fin 2048) :
    (iblk m c 1 t : FVec Ideal S512x2048 .bf16) (ix2 r k)
      = (m ((c : Thread nD τ).loc main_arg3) : FVec Ideal S2048x2048 .f32) (ix2 ⟨t.val % 4 * 512 + r.val, by omega⟩ k) := by
  have h0 := (idx t).2.1
  show V m c main_v2 (((cfg0.win 1).blk t).view.emb (ix2 r k)) = _
  rw [(entries m c).2.1]
  exact congrArg (m ((c : Thread nD τ).loc main_arg3)) (ext2 (by blk_simp [h0]) (by blk_simp [h0]))

/-- The block of the first gate: the left half of the gates' columns. -/
theorem blk2 (c : Dev nD) (t : Fin cfg0.N) (r : Fin 544) (k : Fin 512) :
    (iblk m c 2 t : FVec Ideal S544x512 .bf16) (ix2 r k)
      = front (m ((c : Thread nD τ).loc main_arg0)) (t.val / 4 * 544 + r.val) (⟨t.val % 4 * 512 + k.val, by omega⟩ : Fin 4096) := by
  have h0 := (idx t).2.2.1
  show V m c main_v4 (((cfg0.win 2).blk t).view.emb (ix2 r k)) = _
  rw [(entries m c).2.2.1]
  exact front_congr _ (by blk_simp [h0]) (by blk_simp [h0])

/-- The block of the second gate: the right half of the gates' columns. -/
theorem blk3 (c : Dev nD) (t : Fin cfg0.N) (r : Fin 544) (k : Fin 512) :
    (iblk m c 3 t : FVec Ideal S544x512 .bf16) (ix2 r k)
      = front (m ((c : Thread nD τ).loc main_arg0)) (t.val / 4 * 544 + r.val) (⟨2048 + (t.val % 4 * 512 + k.val), by omega⟩ : Fin 4096) := by
  have h0 := (idx t).2.2.2.1
  show V m c main_v4 (((cfg0.win 3).blk t).view.emb (ix2 r k)) = _
  rw [(entries m c).2.2.1]
  exact front_congr _ (by blk_simp [h0]) (by blk_simp [h0]; dsimp only; omega)

/-- The block of `ya`. -/
theorem blk4 (c : Dev nD) (t : Fin cfg0.N) (r : Fin 544) (k : Fin 512) :
    (iblk m c 4 t : FVec Ideal S544x512 .bf16) (ix2 r k)
      = front (m ((c : Thread nD τ).loc main_arg1)) (t.val / 4 * 544 + r.val) (⟨t.val % 4 * 512 + k.val, by omega⟩ : Fin 2048) := by
  have h0 := (idx t).2.2.2.2.1
  show V m c main_v6 (((cfg0.win 4).blk t).view.emb (ix2 r k)) = _
  rw [(entries m c).2.2.2.1]
  exact front_congr _ (by blk_simp [h0]) (by blk_simp [h0])

/-- The block of `yb`. -/
theorem blk5 (c : Dev nD) (t : Fin cfg0.N) (r : Fin 544) (k : Fin 512) :
    (iblk m c 5 t : FVec Ideal S544x512 .bf16) (ix2 r k)
      = front (m ((c : Thread nD τ).loc main_arg2)) (t.val / 4 * 544 + r.val) (⟨t.val % 4 * 512 + k.val, by omega⟩ : Fin 2048) := by
  have h0 := (idx t).2.2.2.2.2.1
  show V m c main_v8 (((cfg0.win 5).blk t).view.emb (ix2 r k)) = _
  rw [(entries m c).2.2.2.2]
  exact front_congr _ (by blk_simp [h0]) (by blk_simp [h0])

/-- `do @ w_oᵀ` at an element: the gradient of the gated sum. -/
def dm (go : FVec Ideal S2064x2048 .f32) (w : FVec Ideal S2048x2048 .f32) (r : ℕ) (k : Fin 2048) : EReal :=
  ∑ j : Fin 2048, front go r j * w (ix2 k j)

/-- On a row of the front that gradient is zero. -/
theorem dm_front (go : FVec Ideal S2064x2048 .f32) (w : FVec Ideal S2048x2048 .f32) (r : ℕ) (k : Fin 2048)
    (h : ¬(112 ≤ r ∧ r - 112 < 2064)) : dm go w r k = 0 := by
  refine Finset.sum_eq_zero fun j _ => ?_
  rw [front, dif_neg h, zero_mul]

/-- The gradient of an output that stands behind a gate `g`. -/
def dout (G : FVec Ideal S2064x4096 .f32) (go : FVec Ideal S2064x2048 .f32) (w : FVec Ideal S2048x2048 .f32) (r : ℕ) (k : Fin 2048)
    (k' : Fin 4096) : EReal := dm go w r k * Ideal.logistic (front G r k')

/-- The gradient of a gate in front of an output `Y`. -/
def dgate (G : FVec Ideal S2064x4096 .f32) (Y go : FVec Ideal S2064x2048 .f32) (w : FVec Ideal S2048x2048 .f32) (r : ℕ) (k : Fin 2048)
    (k' : Fin 4096) : EReal :=
  dm go w r k * front Y r k * Ideal.logistic (front G r k') * (1 - Ideal.logistic (front G r k'))

/-- Both are zero on a row of the front. -/
theorem dout_front (G : FVec Ideal S2064x4096 .f32) (go : FVec Ideal S2064x2048 .f32) (w : FVec Ideal S2048x2048 .f32) (r : ℕ) (k : Fin 2048)
    (g : Fin 4096) (h : ¬(112 ≤ r ∧ r - 112 < 2064)) : dout G go w r k g = 0 := by
  unfold dout; rw [dm_front _ _ _ _ h, zero_mul]

/-- Both are zero on a row of the front. -/
theorem dgate_front (G : FVec Ideal S2064x4096 .f32) (Y go : FVec Ideal S2064x2048 .f32) (w : FVec Ideal S2048x2048 .f32) (r : ℕ) (k : Fin 2048)
    (g : Fin 4096) (h : ¬(112 ≤ r ∧ r - 112 < 2064)) : dgate G Y go w r k g = 0 := by
  unfold dgate; rw [dm_front _ _ _ _ h, zero_mul, zero_mul, zero_mul]

/-- The column `k` of the left half of the gates. -/
abbrev left (k : Fin 2048) : Fin 4096 := ⟨k.val, lt_of_lt_of_le k.isLt (by decide)⟩

/-- The column `k` of the right half of the gates. -/
abbrev right (k : Fin 2048) : Fin 4096 := ⟨2048 + k.val, Nat.add_lt_add_left k.isLt 2048⟩

open Cert.GatesRefIdeal.Read in
/-- The reference's gradient of `ya`. -/
theorem ref_ya (G : FVec Ideal S2064x4096 .f32) (w : FVec Ideal S2048x2048 .f32) (go : FVec Ideal S2064x2048 .f32) (i : S2176x2048.Idx) :
    (val_main_v35 (F := Ideal) G w go i : EReal) = dout G go w (i 0).val (i 1) (left (i 1)) := by
  by_cases h : 112 ≤ (i 0).val ∧ (i 0).val - 112 < 2064
  · pointwise [val_main_v35, val_main_v34, val_main_v28, val_main_v24, val_main_v7, val_main_v6, val_main_v5, val_main_v4, val_main_v3,
      val_main_v2, val_main_v0, val_main_cst, val_main_cst_0, val_main_call0_v0, val_main_c, dout, dm, front, dif_pos h]
    rw [mul_comm]
    rfl
  · refine Eq.trans ?_ (dout_front _ _ _ _ (i 1) _ h).symm
    pointwise [val_main_v35, val_main_v34, val_main_call0_v0, val_main_c, dif_neg h, sitofp_zero]

open Cert.GatesRefIdeal.Read in
/-- The reference's gradient of `yb`. -/
theorem ref_yb (G : FVec Ideal S2064x4096 .f32) (w : FVec Ideal S2048x2048 .f32) (go : FVec Ideal S2064x2048 .f32) (i : S2176x2048.Idx) :
    (val_main_v37 (F := Ideal) G w go i : EReal) = dout G go w (i 0).val (i 1) (right (i 1)) := by
  by_cases h : 112 ≤ (i 0).val ∧ (i 0).val - 112 < 2064
  · pointwise [val_main_v37, val_main_v36, val_main_v25, val_main_v24, val_main_v17, val_main_v16, val_main_v15, val_main_v14, val_main_v13,
      val_main_v12, val_main_v1, val_main_cst_2, val_main_cst_3, val_main_call1_v0, val_main_c_5, dout, dm, front, dif_pos h]
    rw [mul_comm]
    rfl
  · refine Eq.trans ?_ (dout_front _ _ _ _ (i 1) _ h).symm
    pointwise [val_main_v37, val_main_v36, val_main_call1_v0, val_main_c_5, dif_neg h, sitofp_zero]

open Cert.GatesRefIdeal.Read in
/-- The reference's gradient of the first gate. -/
theorem ref_ga (G : FVec Ideal S2064x4096 .f32) (ya yb : FVec Ideal S2064x2048 .f32) (w : FVec Ideal S2048x2048 .f32)
    (go : FVec Ideal S2064x2048 .f32) (i : S2176x2048.Idx) :
    (val_main_v39 (F := Ideal) G ya yb w go i : EReal) = dgate G ya go w (i 0).val (i 1) (left (i 1)) := by
  by_cases h : 112 ≤ (i 0).val ∧ (i 0).val - 112 < 2064
  · pointwise [val_main_v39, val_main_v38, val_main_v32, val_main_v31, val_main_v30, val_main_v29, val_main_v24, val_main_v10, val_main_v9,
      val_main_v8, val_main_v7, val_main_v6, val_main_v5, val_main_v4, val_main_v3, val_main_v2, val_main_v0, val_main_cst,
      val_main_cst_0, val_main_cst_1, val_main_call2_v0, val_main_c_6, dgate, dm, front, dif_pos h]
    rw [mul_assoc (_ * _)]
    rfl
  · refine Eq.trans ?_ (dgate_front _ _ _ _ _ (i 1) _ h).symm
    pointwise [val_main_v39, val_main_v38, val_main_call2_v0, val_main_c_6, dif_neg h, sitofp_zero]

open Cert.GatesRefIdeal.Read in
/-- The reference's gradient of the second gate. -/
theorem ref_gb (G : FVec Ideal S2064x4096 .f32) (ya yb : FVec Ideal S2064x2048 .f32) (w : FVec Ideal S2048x2048 .f32)
    (go : FVec Ideal S2064x2048 .f32) (i : S2176x2048.Idx) :
    (val_main_v41 (F := Ideal) G ya yb w go i : EReal) = dgate G yb go w (i 0).val (i 1) (right (i 1)) := by
  by_cases h : 112 ≤ (i 0).val ∧ (i 0).val - 112 < 2064
  · pointwise [val_main_v41, val_main_v40, val_main_v33, val_main_v31, val_main_v27, val_main_v26, val_main_v24, val_main_v20, val_main_v19,
      val_main_v18, val_main_v17, val_main_v16, val_main_v15, val_main_v14, val_main_v13, val_main_v12, val_main_v1, val_main_cst_2,
      val_main_cst_3, val_main_cst_4, val_main_call3_v0, val_main_c_7, dgate, dm, front, dif_pos h]
    rw [mul_assoc (_ * _)]
    rfl
  · refine Eq.trans ?_ (dgate_front _ _ _ _ _ (i 1) _ h).symm
    pointwise [val_main_v41, val_main_v40, val_main_call3_v0, val_main_c_7, dif_neg h, sitofp_zero]

/-- The product with `w_o` on a block is the gradient of the gated sum at the block's place. -/
theorem blk_dm (c : Dev nD) (t : Fin cfg0.N) (r : Fin 544) (k : Fin 512) :
    (∑ j : Fin 2048, (HMul.hMul (α := EReal) (β := EReal) ((iblk m c 0 t : FVec Ideal S544x2048 .bf16) (ix2 r j)) ((iblk m c 1 t : FVec Ideal S512x2048 .bf16) (ix2 k j)) : EReal))
      = dm (m ((c : Thread nD τ).loc main_arg4)) (m ((c : Thread nD τ).loc main_arg3)) (t.val / 4 * 544 + r.val) ⟨t.val % 4 * 512 + k.val, by omega⟩ :=
  Finset.sum_congr rfl fun j _ => congrArg₂ (fun a b : EReal => a * b) (blk0 m c t r j) (blk1 m c t k j)

/-- A gradient behind a gate depends on the values of its row and columns alone. -/
theorem dout_congr (G : FVec Ideal S2064x4096 .f32) (go : FVec Ideal S2064x2048 .f32) (w : FVec Ideal S2048x2048 .f32) {r r' : ℕ} {k k' : Fin 2048}
    {g g' : Fin 4096} (hr : r = r') (hk : k.val = k'.val) (hg : g.val = g'.val) : dout G go w r k g = dout G go w r' k' g' := by
  obtain rfl := hr; obtain rfl := Fin.ext hk; obtain rfl := Fin.ext hg; rfl

/-- A gate's gradient depends on the values of its row and columns alone. -/
theorem dgate_congr (G : FVec Ideal S2064x4096 .f32) (Y go : FVec Ideal S2064x2048 .f32) (w : FVec Ideal S2048x2048 .f32) {r r' : ℕ} {k k' : Fin 2048}
    {g g' : Fin 4096} (hr : r = r') (hk : k.val = k'.val) (hg : g.val = g'.val) : dgate G Y go w r k g = dgate G Y go w r' k' g' := by
  obtain rfl := hr; obtain rfl := Fin.ext hk; obtain rfl := Fin.ext hg; rfl

/-- The kernel's gradient behind the first gate, from its blocks. -/
theorem pay_ya (x0 : FVec Ideal S544x2048 .bf16) (x1 : FVec Ideal S512x2048 .bf16) (g : FVec Ideal S544x512 .bf16) (r : Fin 544) (k : Fin 512) :
    (k0_pay5 (F := Ideal) x0 x1 g (ix2 r k) : EReal) = (∑ j : Fin 2048, x0 (ix2 r j) * x1 (ix2 k j)) * Ideal.logistic (g (ix2 r k)) := by
  pointwise [k0_pay5, k0_pay2, k0_pay3]

/-- The kernel's gradient behind the second gate, from its blocks. -/
theorem pay_yb (x0 : FVec Ideal S544x2048 .bf16) (x1 : FVec Ideal S512x2048 .bf16) (g : FVec Ideal S544x512 .bf16) (r : Fin 544) (k : Fin 512) :
    (k0_pay6 (F := Ideal) x0 x1 g (ix2 r k) : EReal) = (∑ j : Fin 2048, x0 (ix2 r j) * x1 (ix2 k j)) * Ideal.logistic (g (ix2 r k)) := by
  pointwise [k0_pay6, k0_pay2, k0_pay4]

/-- The kernel's gradient of the first gate, from its blocks. -/
theorem pay_ga (x0 : FVec Ideal S544x2048 .bf16) (x1 : FVec Ideal S512x2048 .bf16) (g y : FVec Ideal S544x512 .bf16) (r : Fin 544) (k : Fin 512) :
    (k0_pay7 (F := Ideal) x0 x1 g y (ix2 r k) : EReal) = (∑ j : Fin 2048, x0 (ix2 r j) * x1 (ix2 k j)) * y (ix2 r k)
      * Ideal.logistic (g (ix2 r k)) * (1 - Ideal.logistic (g (ix2 r k))) := by
  pointwise [k0_pay7, k0_pay2, k0_pay3]

/-- The kernel's gradient of the second gate, from its blocks. -/
theorem pay_gb (x0 : FVec Ideal S544x2048 .bf16) (x1 : FVec Ideal S512x2048 .bf16) (g y : FVec Ideal S544x512 .bf16) (r : Fin 544) (k : Fin 512) :
    (k0_pay1 (F := Ideal) (k0_pay4 g) (k0_pay8 x0 x1 g y) (Scalar.ofBits .f32 0x3F800000#32) (ix2 r k) : EReal)
      = (∑ j : Fin 2048, x0 (ix2 r j) * x1 (ix2 k j)) * y (ix2 r k) * Ideal.logistic (g (ix2 r k)) * (1 - Ideal.logistic (g (ix2 r k))) := by
  pointwise [k0_pay1, k0_pay8, k0_pay2, k0_pay4]

open Cert.GatesRefIdeal.Read in
/-- The gradient of `ya` after the last grid point. -/
theorem final_ya (c : Dev nD) : (dats m 0 c).arrAt 6 (cfgs 0).N = val_main_v35 (F := Ideal) (m ((c : Thread nD τ).loc main_arg0))
    (m ((c : Thread nD τ).loc main_arg3)) (m ((c : Thread nD τ).loc main_arg4)) := by
  refine (dats m 0 c).arrAt_eq_of_covers 6 _ (by decide +kernel) fun t _ y => ?_
  blk_simp; rw [after0_6]; frame_out
  have h0 := (idx t).2.2.2.2.2.2.1
  have e0 : ((((cfg0.win 6).blk t).view.emb y) 0).val = t.val / 4 * 544 + (y 0).val := by blk_simp [h0]
  have e1 : ((((cfg0.win 6).blk t).view.emb y) 1).val = t.val % 4 * 512 + (y 1).val := by blk_simp [h0]
  refine Eq.trans ?_ (ref_ya _ _ _ _).symm
  rw [show y = ix2 (y 0) (y 1) from ext2 rfl rfl]
  refine (pay_ya _ _ _ (y 0) (y 1)).trans ((congrArg₂ (fun a b => a * Ideal.logistic b) (blk_dm m c t (y 0) (y 1)) (blk2 m c t (y 0) (y 1))).trans ?_)
  exact dout_congr _ _ _ e0.symm e1.symm e1.symm

open Cert.GatesRefIdeal.Read in
/-- The gradient of `yb` after the last grid point. -/
theorem final_yb (c : Dev nD) : (dats m 0 c).arrAt 7 (cfgs 0).N = val_main_v37 (F := Ideal) (m ((c : Thread nD τ).loc main_arg0))
    (m ((c : Thread nD τ).loc main_arg3)) (m ((c : Thread nD τ).loc main_arg4)) := by
  refine (dats m 0 c).arrAt_eq_of_covers 7 _ (by decide +kernel) fun t _ y => ?_
  blk_simp; rw [after0_7]; frame_out
  have h0 := (idx t).2.2.2.2.2.2.2.1
  have e0 : ((((cfg0.win 7).blk t).view.emb y) 0).val = t.val / 4 * 544 + (y 0).val := by blk_simp [h0]
  have e1 : ((((cfg0.win 7).blk t).view.emb y) 1).val = t.val % 4 * 512 + (y 1).val := by blk_simp [h0]
  refine Eq.trans ?_ (ref_yb _ _ _ _).symm
  rw [show y = ix2 (y 0) (y 1) from ext2 rfl rfl]
  refine (pay_yb _ _ _ (y 0) (y 1)).trans ((congrArg₂ (fun a b => a * Ideal.logistic b) (blk_dm m c t (y 0) (y 1)) (blk3 m c t (y 0) (y 1))).trans ?_)
  exact dout_congr _ _ _ e0.symm e1.symm (congrArg (2048 + ·) e1.symm)

/-- A gate's gradient from equal pieces. -/
theorem gate_pieces {a a' y y' g g' : EReal} (ha : a = a') (hy : y = y') (hg : g = g') :
    a * y * Ideal.logistic g * (1 - Ideal.logistic g) = a' * y' * Ideal.logistic g' * (1 - Ideal.logistic g') := by
  rw [ha, hy, hg]

open Cert.GatesRefIdeal.Read in
/-- The gradient of the first gate after the last grid point. -/
theorem final_ga (c : Dev nD) : (dats m 0 c).arrAt 8 (cfgs 0).N = val_main_v39 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 8 _ (by decide +kernel) fun t _ y => ?_
  blk_simp; rw [after0_8]; frame_out
  have h0 := (idx t).2.2.2.2.2.2.2.2.1
  have e0 : ((((cfg0.win 8).blk t).view.emb y) 0).val = t.val / 4 * 544 + (y 0).val := by blk_simp [h0]
  have e1 : ((((cfg0.win 8).blk t).view.emb y) 1).val = t.val % 4 * 512 + (y 1).val := by blk_simp [h0]
  refine Eq.trans ?_ (ref_ga _ _ _ _ _ _).symm
  rw [show y = ix2 (y 0) (y 1) from ext2 rfl rfl]
  refine (pay_ga _ _ _ _ (y 0) (y 1)).trans ((gate_pieces (blk_dm m c t (y 0) (y 1)) (blk4 m c t (y 0) (y 1)) (blk2 m c t (y 0) (y 1))).trans ?_)
  exact dgate_congr _ _ _ _ e0.symm e1.symm e1.symm

open Cert.GatesRefIdeal.Read in
/-- The gradient of the second gate after the last grid point. -/
theorem final_gb (c : Dev nD) : (dats m 0 c).arrAt 9 (cfgs 0).N = val_main_v41 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 9 _ (by decide +kernel) fun t _ y => ?_
  blk_simp; rw [after0_9]; frame_out
  have h0 := (idx t).2.2.2.2.2.2.2.2.2.1
  have e0 : ((((cfg0.win 9).blk t).view.emb y) 0).val = t.val / 4 * 544 + (y 0).val := by blk_simp [h0]
  have e1 : ((((cfg0.win 9).blk t).view.emb y) 1).val = t.val % 4 * 512 + (y 1).val := by blk_simp [h0]
  refine Eq.trans ?_ (ref_gb _ _ _ _ _ _).symm
  rw [show y = ix2 (y 0) (y 1) from ext2 rfl rfl]
  refine (pay_gb _ _ _ _ (y 0) (y 1)).trans ((gate_pieces (blk_dm m c t (y 0) (y 1)) (blk5 m c t (y 0) (y 1)) (blk3 m c t (y 0) (y 1))).trans ?_)
  exact dgate_congr _ _ _ _ e0.symm e1.symm (congrArg (2048 + ·) e1.symm)

/-- The reference runs to its end with every counter at zero. -/
theorem frame_ref : Cert.quiescent_GatesRefIdeal := fun m ρ _ =>
  (θ_run Cert.GatesRefIdeal.defs _ _).mono
    (fun r h => ⟨fun c => (h c).2.2.2.2, sem_eq_zero_of_no_sems (by decide) r.2⟩) (Cert.GatesRefIdeal.Value.run (F := Ideal) m ρ)

open Cert.GatesRefIdeal.Read in
/-- Over the reals the call's four results are the reference's. -/
theorem algebraic : Cert.algebraic_GatesIdeal_GatesRefIdeal := by
  pair_intro
  · run_from Cert.GatesIdeal.Gen.run_main m g
    exacts [V_main_arg0 m c, V_main_arg1 m c, V_main_arg2 m c, V_main_arg3 m c, V_main_arg4 m c]
  · run_from Cert.GatesRefIdeal.Value.run m' g'
    · exact (val_main_v35_eq _ _ _).trans (final_ya m c).symm
    · exact (val_main_v37_eq _ _ _).trans (final_yb m c).symm
    · refine ((val_main_v39_eq _ _ _ _ _).trans (congrArg (val_main_v39 (F := Ideal) (m ((c : Thread nD τ).loc main_arg0))
        (m ((c : Thread nD τ).loc main_arg1)) (m ((c : Thread nD τ).loc main_arg2)) (m ((c : Thread nD τ).loc main_arg3)))
        (hagree c).2.2.2.2)).trans (final_ga m c).symm
    · refine ((val_main_v41_eq _ _ _ _ _).trans (congrArg (val_main_v41 (F := Ideal) (m ((c : Thread nD τ).loc main_arg0))
        (m ((c : Thread nD τ).loc main_arg1)) (m ((c : Thread nD τ).loc main_arg2)) (m ((c : Thread nD τ).loc main_arg3)))
        (hagree c).2.2.2.2)).trans (final_gb m c).symm

/-- Everything that is claimed of this call. -/
theorem claims : Cert.quiescent_Gates ∧ Cert.quiescent_GatesIdeal ∧ Cert.quiescent_GatesRefIdeal
    ∧ Cert.preserves_Gates_GatesIdeal ∧ Cert.algebraic_GatesIdeal_GatesRefIdeal :=
  ⟨fun m ρ _ => Cert.Gates.Gen.frame m ρ, fun m ρ _ => Cert.GatesIdeal.Gen.frame m ρ, frame_ref, trivial, algebraic⟩

end Cert.GatesIdeal.Grad

end
-- ==== Proof.RealKit.lean ====
/-
  From extended reals to reals: where every element of an array is finite it is an array of reals, and the operations
  of the kernels on such arrays are the operations on reals.
-/
module

public import Idealize.ShloMosaic.Lib.Pipeline.ValueKit
public import Idealize.ShloMosaic.Lib.Pointwise
public import Idealize.ShloMosaic.Lib.Claim
public import Idealize.ShloMosaic.Lib.IdealHost

@[expose] public section

noncomputable section

namespace Cert.RealKit

open Idealize.ShloMosaic

/-- A sum of reals, taken in the extended reals, is the real sum. -/
theorem sum_coe {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- An array of finite elements is an array of reals. -/
theorem reals {s : Shape} (X : FVec Ideal s .f32) {b : (⟨0, ![]⟩ : Shape).BroadcastsInDim s (![] : Fin 0 → Fin s.rank)}
    (h : cmpf .olt (Host.absf X) (broadcastInDim s ![] b (constant (F := Ideal) ⟨0, ![]⟩ .f32 0x7F800000#32)) = fun _ => 1#1) :
    ∃ x : s.Idx → ℝ, ∀ i, (X i : EReal) = (x i : EReal) := by
  refine ⟨fun i => (X i : EReal).toReal, fun i => (EReal.coe_toReal ?_ ?_).symm⟩ <;> intro hX <;>
    have hi : Ideal.cmp .olt (max (X i : EReal) (-X i)) (Ideal.ofBits .f32 0x7F800000#32) = 1#1 := congrFun h i <;>
    rw [hX] at hi <;> simp [Ideal.cmp, Ideal.ofBits, Ideal.ieee] at hi

/-- The word of 1024. -/
theorem w1024 : Ideal.ofBits .f32 0x44800000#32 = ((1024 : ℝ) : EReal) := by
  simp [Ideal.ofBits, Ideal.ieee, -EReal.coe_mul]; norm_num

/-- The word of 2048. -/
theorem w2048 : Ideal.ofBits .f32 0x45000000#32 = ((2048 : ℝ) : EReal) := by
  simp [Ideal.ofBits, Ideal.ieee, -EReal.coe_mul]; norm_num

/-- The word of 2. -/
theorem w2 : Ideal.ofBits .f32 0x40000000#32 = ((2 : ℝ) : EReal) := by
  simp [Ideal.ofBits, Ideal.ieee, -EReal.coe_mul]; norm_num

/-- The word of minus one half. -/
theorem wmhalf : Ideal.ofBits .f32 0xBF000000#32 = ((-(1 / 2) : ℝ) : EReal) := by
  simp [Ideal.ofBits, Ideal.ieee, -EReal.coe_mul, -EReal.coe_neg]; norm_num

/-- The number that the word of 1e-5 denotes. -/
def eps5 : ℝ := 10995116 / 2 ^ 40

/-- The word of 1e-5. -/
theorem weps5 : Ideal.ofBits .f32 0x3727C5AC#32 = (eps5 : EReal) := by
  simp [Ideal.ofBits, Ideal.ieee, -EReal.coe_mul, eps5]; norm_num

theorem eps5_pos : 0 < eps5 := by unfold eps5; norm_num

/-- The number that the word of 1e-6 denotes. -/
def eps6 : ℝ := 8796093 / 2 ^ 43

/-- The word of 1e-6. -/
theorem weps6 : Ideal.ofBits .f32 0x358637BD#32 = (eps6 : EReal) := by
  simp [Ideal.ofBits, Ideal.ieee, -EReal.coe_mul, eps6]; norm_num

theorem eps6_pos : 0 < eps6 := by unfold eps6; norm_num

/-- A quotient of reals by a divisor that is not zero. -/
theorem div_real (a b : ℝ) (h : b ≠ 0) : Ideal.div (a : EReal) (b : EReal) = ((a / b : ℝ) : EReal) := by
  rw [Ideal.div, if_neg (by exact_mod_cast h), ← EReal.coe_inv, ← EReal.coe_mul, div_eq_mul_inv]

/-- The reciprocal root of a positive real. -/
theorem rsqrt_real (a : ℝ) (h : 0 < a) : Ideal.rsqrt (a : EReal) = (((Real.sqrt a)⁻¹ : ℝ) : EReal) := by
  rw [Ideal.rsqrt_coe, if_neg (not_lt.mpr h.le), if_neg h.ne']

end Cert.RealKit

end
-- ==== Proof.LayerNorm.lean ====
/-
  Layer norm and swish of one row of reals, and the gradient through them, as functions of the row.
-/
module

public import proofs.«01_k».proof.Proof.RealKit

@[expose] public section

noncomputable section

namespace Cert.LayerNorm

open Cert.RealKit

variable (g b c d : Fin 1024 → ℝ)

/-- The row about its mean. -/
def cen (j : Fin 1024) : ℝ := c j - (∑ k, c k) / 1024
/-- The variance, and the small number added to it. -/
def var : ℝ := (∑ k, cen c k * cen c k) / 1024 + eps5
/-- The reciprocal of the deviation. -/
def rs : ℝ := (Real.sqrt (var c))⁻¹
/-- The normalised row. -/
def xh (j : Fin 1024) : ℝ := cen c j * rs c
/-- The row after gain and bias. -/
def ln (j : Fin 1024) : ℝ := xh c j * g j + b j
/-- The sigmoid. -/
def sg (x : ℝ) : ℝ := (1 + Real.exp (-x))⁻¹
/-- The gradient in front of the swish, `d` being the one behind it. -/
def dln (j : Fin 1024) : ℝ := d j * (sg (ln g b c j) * (1 + ln g b c j * (1 - sg (ln g b c j))))
/-- The gradient of the normalised row. -/
def dxh (j : Fin 1024) : ℝ := dln g b c d j * g j
/-- The gradient of the row. -/
def dc (j : Fin 1024) : ℝ :=
  rs c * (dxh g b c d j - (∑ k, dxh g b c d k) / 1024 - xh c j * ((∑ k, dxh g b c d k * xh c k) / 1024))

theorem var_pos : 0 < var c :=
  add_pos_of_nonneg_of_pos (div_nonneg (Finset.sum_nonneg fun k _ => mul_self_nonneg _) (by norm_num)) eps5_pos

theorem rs_sq : rs c * rs c = (var c)⁻¹ := by
  unfold rs; rw [← mul_inv, Real.mul_self_sqrt (var_pos c).le]

/-- About its mean, a row sums to zero. -/
theorem sum_cen : ∑ k, cen c k = 0 := by
  unfold cen
  rw [Finset.sum_sub_distrib, Finset.sum_const, Finset.card_univ, Fintype.card_fin]
  simp; ring

/-- The gradient through the swish, as the product rule gives it. -/
theorem dln_rule (j : Fin 1024) : dln g b c d j
    = d j * sg (ln g b c j) + ln g b c j * d j * (sg (ln g b c j) * (1 - sg (ln g b c j))) := by
  unfold dln; ring

/-- The share of the gradient that runs through the variance. -/
def dvar (j : Fin 1024) : ℝ := (∑ k, cen c k * dxh g b c d k) * (-(1 / 2) * (rs c / var c)) / 1024 * (2 * cen c j)

theorem dvar_eq (j : Fin 1024) : dvar g b c d j = -(rs c * (xh c j * ((∑ k, dxh g b c d k * xh c k) / 1024))) := by
  have h : ∑ k, dxh g b c d k * xh c k = (∑ k, cen c k * dxh g b c d k) * rs c := by
    rw [Finset.sum_mul]; exact Finset.sum_congr rfl fun k _ => by unfold xh; ring
  rw [h]; unfold dvar xh
  rw [div_eq_mul_inv (rs c), ← rs_sq]; ring

/-- The gradient of the row, as the chain rule gives it: through the row itself, its variance and its mean. -/
theorem dc_rule (j : Fin 1024) : dc g b c d j
    = dxh g b c d j * rs c + dvar g b c d j + ((∑ k, -(dxh g b c d k * rs c)) + ∑ k, -dvar g b c d k) / 1024 := by
  have h0 : ∑ k, -dvar g b c d k = 0 := by
    have : ∀ k, -dvar g b c d k = cen c k * (-((∑ k, cen c k * dxh g b c d k) * (-(1 / 2) * (rs c / var c)) / 1024 * 2)) := fun k => by
      unfold dvar; ring
    rw [Finset.sum_congr rfl fun k _ => this k, ← Finset.sum_mul, sum_cen, zero_mul]
  have h1 : ∑ k, -(dxh g b c d k * rs c) = -((∑ k, dxh g b c d k) * rs c) := by
    rw [Finset.sum_neg_distrib, Finset.sum_mul]
  rw [h0, h1, dvar_eq]; unfold dc; ring

/-- No gradient comes back where none arrives. -/
theorem dln_zero (j : Fin 1024) : dln g b c (fun _ => 0) j = 0 := by unfold dln; ring
theorem dc_zero (j : Fin 1024) : dc g b c (fun _ => 0) j = 0 := by
  have : ∀ k, dxh g b c (fun _ => 0) k = 0 := fun k => by unfold dxh; rw [dln_zero, zero_mul]
  unfold dc; simp [this]

end Cert.LayerNorm

end
-- ==== Proof.ConvNormPay.lean ====
/-
  What the body of the kernel computes from a tile of reals: the layer norm's gradient of every row of the tile, and the
  tile's sums over its rows.
-/
module

public import proofs.«01_k».proof.Proof.LayerNorm
public import proofs.«01_k».proof.Proof.Common
public import proofs.«01_k».proof.Proof.Gen.ConvNormIdeal.Skeleton

@[expose] public section

noncomputable section

namespace Cert.ConvNormIdeal.Grad

open Cert.ConvNormIdeal Cert.ConvNormIdeal.Gen Cert.RealKit Cert.LayerNorm
open Idealize.ShloMosaic Idealize.ShloMosaic.TcCoe

variable {x0 x3 : FVec Ideal S272x1024 .f32} {x1 x2 : FVec Ideal S1x1024 .f32}
  {c d : Fin 272 → Fin 1024 → ℝ} {g b : Fin 1024 → ℝ}

theorem pay_cen (h0 : ∀ r k, (x0 (ix2 r k) : EReal) = (c r k : EReal)) (r : Fin 272) (k : Fin 1024) :
    (k0_pay8 (F := Ideal) x0 (ix2 r k) : EReal) = (cen (c r) k : EReal) := by
  pointwise [k0_pay8]
  simp only [h0, sum_coe, w1024]
  rw [div_real _ _ (by norm_num), ← EReal.coe_sub]; rfl

theorem pay_rs (h0 : ∀ r k, (x0 (ix2 r k) : EReal) = (c r k : EReal)) (r : Fin 272) (k : Fin 1) :
    (k0_pay9 (F := Ideal) x0 (ix2 r k) : EReal) = (rs (c r) : EReal) := by
  pointwise [k0_pay9]
  simp only [pay_cen h0, ← EReal.coe_mul, sum_coe, w1024, weps5]
  rw [div_real _ _ (by norm_num), ← EReal.coe_add]; exact rsqrt_real _ (var_pos (c r))

theorem pay_xh (h0 : ∀ r k, (x0 (ix2 r k) : EReal) = (c r k : EReal)) (r : Fin 272) (k : Fin 1024) :
    (k0_pay10 (F := Ideal) x0 (ix2 r k) : EReal) = (xh (c r) k : EReal) := by
  pointwise [k0_pay10]
  simp only [pay_cen h0, pay_rs h0, ← EReal.coe_mul]; rfl

theorem pay_dln (h0 : ∀ r k, (x0 (ix2 r k) : EReal) = (c r k : EReal)) (h3 : ∀ r k, (x3 (ix2 r k) : EReal) = (d r k : EReal))
    (h1 : ∀ z k, (x1 (ix2 z k) : EReal) = (g k : EReal)) (h2 : ∀ z k, (x2 (ix2 z k) : EReal) = (b k : EReal))
    (r : Fin 272) (k : Fin 1024) : (k0_pay11 (F := Ideal) x0 x1 x2 x3 (ix2 r k) : EReal) = (dln g b (c r) (d r) k : EReal) := by
  pointwise [k0_pay11]
  simp only [pay_xh h0, h1, h2, h3, ← EReal.coe_mul, ← EReal.coe_add, Ideal.logistic_coe, ← EReal.coe_one, ← EReal.coe_sub]
  rfl

theorem pay_dxh (h0 : ∀ r k, (x0 (ix2 r k) : EReal) = (c r k : EReal)) (h3 : ∀ r k, (x3 (ix2 r k) : EReal) = (d r k : EReal))
    (h1 : ∀ z k, (x1 (ix2 z k) : EReal) = (g k : EReal)) (h2 : ∀ z k, (x2 (ix2 z k) : EReal) = (b k : EReal))
    (r : Fin 272) (k : Fin 1024) : (k0_pay12 (F := Ideal) x0 x1 x2 x3 (ix2 r k) : EReal) = (dxh g b (c r) (d r) k : EReal) := by
  pointwise [k0_pay12]
  simp only [pay_dln h0 h3 h1 h2, h1, ← EReal.coe_mul]; rfl

theorem pay_mean (h0 : ∀ r k, (x0 (ix2 r k) : EReal) = (c r k : EReal)) (h3 : ∀ r k, (x3 (ix2 r k) : EReal) = (d r k : EReal))
    (h1 : ∀ z k, (x1 (ix2 z k) : EReal) = (g k : EReal)) (h2 : ∀ z k, (x2 (ix2 z k) : EReal) = (b k : EReal))
    (r : Fin 272) (k : Fin 1024) :
    (k0_pay13 (F := Ideal) x0 x1 x2 x3 (ix2 r k) : EReal) = ((dxh g b (c r) (d r) k - (∑ j, dxh g b (c r) (d r) j) / 1024 : ℝ) : EReal) := by
  pointwise [k0_pay13]
  simp only [pay_dxh h0 h3 h1 h2, sum_coe, w1024]
  rw [div_real _ _ (by norm_num), ← EReal.coe_sub]

/-- The row's gradient. -/
theorem pay_dc (h0 : ∀ r k, (x0 (ix2 r k) : EReal) = (c r k : EReal)) (h3 : ∀ r k, (x3 (ix2 r k) : EReal) = (d r k : EReal))
    (h1 : ∀ z k, (x1 (ix2 z k) : EReal) = (g k : EReal)) (h2 : ∀ z k, (x2 (ix2 z k) : EReal) = (b k : EReal))
    (r : Fin 272) (k : Fin 1024) :
    (k0_pay1 (F := Ideal) (k0_pay9 (F := Ideal) x0) (k0_pay10 x0) (k0_pay12 x0 x1 x2 x3) (k0_pay13 x0 x1 x2 x3) (ix2 r k) : EReal)
      = (dc g b (c r) (d r) k : EReal) := by
  pointwise [k0_pay1]
  simp only [pay_xh h0, pay_rs h0, pay_dxh h0 h3 h1 h2, pay_mean h0 h3 h1 h2, sum_coe, w1024, ← EReal.coe_mul]
  rw [div_real _ _ (by norm_num)]
  simp only [← EReal.coe_mul, ← EReal.coe_sub]
  rfl

/-- The tile's part of the gain's gradient. -/
theorem pay_dlg (h0 : ∀ r k, (x0 (ix2 r k) : EReal) = (c r k : EReal)) (h3 : ∀ r k, (x3 (ix2 r k) : EReal) = (d r k : EReal))
    (h1 : ∀ z k, (x1 (ix2 z k) : EReal) = (g k : EReal)) (h2 : ∀ z k, (x2 (ix2 z k) : EReal) = (b k : EReal))
    (z : Fin 1) (k : Fin 1024) : (k0_pay2 (F := Ideal) (k0_pay10 (F := Ideal) x0) (k0_pay11 x0 x1 x2 x3) (ix2 z k) : EReal)
      = ((∑ r, dln g b (c r) (d r) k * xh (c r) k : ℝ) : EReal) := by
  pointwise [k0_pay2]
  simp only [pay_xh h0, pay_dln h0 h3 h1 h2, ← EReal.coe_mul, sum_coe]

/-- The tile's part of the bias's gradient. -/
theorem pay_dlb (h0 : ∀ r k, (x0 (ix2 r k) : EReal) = (c r k : EReal)) (h3 : ∀ r k, (x3 (ix2 r k) : EReal) = (d r k : EReal))
    (h1 : ∀ z k, (x1 (ix2 z k) : EReal) = (g k : EReal)) (h2 : ∀ z k, (x2 (ix2 z k) : EReal) = (b k : EReal))
    (z : Fin 1) (k : Fin 1024) : (k0_pay3 (F := Ideal) (k0_pay11 (F := Ideal) x0 x1 x2 x3) (ix2 z k) : EReal)
      = ((∑ r, dln g b (c r) (d r) k : ℝ) : EReal) := by
  pointwise [k0_pay3]
  simp only [pay_dln h0 h3 h1 h2, sum_coe]

/-- The tile's part of the gradient of the convolution's bias. -/
theorem pay_db (h0 : ∀ r k, (x0 (ix2 r k) : EReal) = (c r k : EReal)) (h3 : ∀ r k, (x3 (ix2 r k) : EReal) = (d r k : EReal))
    (h1 : ∀ z k, (x1 (ix2 z k) : EReal) = (g k : EReal)) (h2 : ∀ z k, (x2 (ix2 z k) : EReal) = (b k : EReal))
    (z : Fin 1) (k : Fin 1024) :
    (k0_pay4 (F := Ideal) (k0_pay9 (F := Ideal) x0) (k0_pay10 x0) (k0_pay12 x0 x1 x2 x3) (k0_pay13 x0 x1 x2 x3) (ix2 z k) : EReal)
      = ((∑ r, dc g b (c r) (d r) k : ℝ) : EReal) := by
  pointwise [k0_pay4]
  simp only [pay_dc h0 h3 h1 h2, sum_coe]

end Cert.ConvNormIdeal.Grad

end
-- ==== Proof.ConvNormRef.lean ====
/-
  The reference of the layer norm's gradient, read at arrays of reals.
-/
module

public import proofs.«01_k».proof.Proof.LayerNorm
public import proofs.«01_k».proof.Proof.Common
public import proofs.«01_k».proof.Proof.Gen.ConvNormRefIdeal.Read

@[expose] public section

noncomputable section

namespace Cert.ConvNormRefIdeal.Grad

open Cert.ConvNormRefIdeal Cert.ConvNormRefIdeal.Gen Cert.ConvNormRefIdeal.Read Cert.RealKit Cert.LayerNorm Cert.Common
open Idealize.ShloMosaic Idealize.ShloMosaic.TcCoe

variable {x0 x4 : FVec Ideal S2064x1024 .f32} {x1 x2 x3 : FVec Ideal S1x1024 .f32}
  {a d : Fin 2064 → Fin 1024 → ℝ} {w g b : Fin 1024 → ℝ}

/-- The convolution's row with its bias. -/
abbrev row (a : Fin 2064 → Fin 1024 → ℝ) (w : Fin 1024 → ℝ) (r : Fin 2064) (k : Fin 1024) : ℝ := a r k + w k

theorem ref_row (h0 : ∀ r k, (x0 (ix2 r k) : EReal) = (a r k : EReal)) (h1 : ∀ z k, (x1 (ix2 z k) : EReal) = (w k : EReal))
    (r : Fin 2064) (k : Fin 1024) : (val_main_v1 (F := Ideal) x0 x1 (ix2 r k) : EReal) = (row a w r k : EReal) := by
  pointwise [val_main_v1, val_main_v0]
  simp only [h0, h1, ← EReal.coe_add]

theorem ref_mean (h0 : ∀ r k, (x0 (ix2 r k) : EReal) = (a r k : EReal)) (h1 : ∀ z k, (x1 (ix2 z k) : EReal) = (w k : EReal))
    (r : Fin 2064) (z : Fin 1) :
    (val_main_v5 (F := Ideal) x0 x1 (ix2 r z) : EReal) = (((∑ k, row a w r k) / 1024 : ℝ) : EReal) := by
  pointwise [val_main_v5, val_main_v4, val_main_v3, val_main_v2, val_main_cst, val_main_cst_0]
  simp only [ref_row h0 h1, sum_coe, w1024]
  rw [div_real _ _ (by norm_num)]

theorem ref_cen (h0 : ∀ r k, (x0 (ix2 r k) : EReal) = (a r k : EReal)) (h1 : ∀ z k, (x1 (ix2 z k) : EReal) = (w k : EReal))
    (r : Fin 2064) (k : Fin 1024) : (val_main_v7 (F := Ideal) x0 x1 (ix2 r k) : EReal) = (cen (row a w r) k : EReal) := by
  pointwise [val_main_v7, val_main_v6]
  simp only [ref_row h0 h1, ref_mean h0 h1, ← EReal.coe_sub]; rfl

theorem ref_cen' (h0 : ∀ r k, (x0 (ix2 r k) : EReal) = (a r k : EReal)) (h1 : ∀ z k, (x1 (ix2 z k) : EReal) = (w k : EReal))
    (r : Fin 2064) (k : Fin 1024) : (val_main_v16 (F := Ideal) x0 x1 (ix2 r k) : EReal) = (cen (row a w r) k : EReal) := by
  pointwise [val_main_v16, val_main_v15]
  simp only [ref_row h0 h1, ref_mean h0 h1, ← EReal.coe_sub]; rfl

theorem ref_var (h0 : ∀ r k, (x0 (ix2 r k) : EReal) = (a r k : EReal)) (h1 : ∀ z k, (x1 (ix2 z k) : EReal) = (w k : EReal))
    (r : Fin 2064) (z : Fin 1) : (val_main_v18 (F := Ideal) x0 x1 (ix2 r z) : EReal) = (var (row a w r) : EReal) := by
  pointwise [val_main_v18, val_main_v17, val_main_v14, val_main_v13, val_main_v12, val_main_v11, val_main_v8, val_main_cst_2,
    val_main_cst_3, val_main_cst_4]
  simp only [ref_cen h0 h1, ← EReal.coe_mul, sum_coe, w1024, weps5]
  rw [div_real _ _ (by norm_num), ← EReal.coe_add]; rfl

theorem ref_rs (h0 : ∀ r k, (x0 (ix2 r k) : EReal) = (a r k : EReal)) (h1 : ∀ z k, (x1 (ix2 z k) : EReal) = (w k : EReal))
    (r : Fin 2064) (z : Fin 1) : (val_main_v19 (F := Ideal) x0 x1 (ix2 r z) : EReal) = (rs (row a w r) : EReal) := by
  pointwise [val_main_v19]
  rw [ref_var h0 h1, rsqrt_real _ (var_pos _)]; rfl

theorem ref_xh (h0 : ∀ r k, (x0 (ix2 r k) : EReal) = (a r k : EReal)) (h1 : ∀ z k, (x1 (ix2 z k) : EReal) = (w k : EReal))
    (r : Fin 2064) (k : Fin 1024) : (val_main_v24 (F := Ideal) x0 x1 (ix2 r k) : EReal) = (xh (row a w r) k : EReal) := by
  pointwise [val_main_v24, val_main_v23]
  simp only [ref_cen' h0 h1, ref_rs h0 h1, ← EReal.coe_mul]; rfl

theorem ref_ln (h0 : ∀ r k, (x0 (ix2 r k) : EReal) = (a r k : EReal)) (h1 : ∀ z k, (x1 (ix2 z k) : EReal) = (w k : EReal))
    (h2 : ∀ z k, (x2 (ix2 z k) : EReal) = (g k : EReal)) (h3 : ∀ z k, (x3 (ix2 z k) : EReal) = (b k : EReal))
    (r : Fin 2064) (k : Fin 1024) :
    (val_main_v28 (F := Ideal) x0 x1 x2 x3 (ix2 r k) : EReal) = (ln g b (row a w r) k : EReal) := by
  pointwise [val_main_v28, val_main_v27, val_main_v26, val_main_v25]
  simp only [ref_xh h0 h1, h2, h3, ← EReal.coe_mul, ← EReal.coe_add]; rfl

theorem ref_sg (h0 : ∀ r k, (x0 (ix2 r k) : EReal) = (a r k : EReal)) (h1 : ∀ z k, (x1 (ix2 z k) : EReal) = (w k : EReal))
    (h2 : ∀ z k, (x2 (ix2 z k) : EReal) = (g k : EReal)) (h3 : ∀ z k, (x3 (ix2 z k) : EReal) = (b k : EReal))
    (r : Fin 2064) (k : Fin 1024) :
    (val_main_v29_2 (F := Ideal) x0 x1 x2 x3 (ix2 r k) : EReal) = (sg (ln g b (row a w r) k) : EReal) := by
  pointwise [val_main_v29_2, val_main_call0_v4, val_main_call0_v3, val_main_call0_v2, val_main_call0_v1, val_main_call0_v0,
    val_main_call0_cst, val_main_call0_cst_0]
  rw [ref_ln h0 h1 h2 h3]; exact Ideal.logistic_coe _

theorem ref_dln (h0 : ∀ r k, (x0 (ix2 r k) : EReal) = (a r k : EReal)) (h1 : ∀ z k, (x1 (ix2 z k) : EReal) = (w k : EReal))
    (h2 : ∀ z k, (x2 (ix2 z k) : EReal) = (g k : EReal)) (h3 : ∀ z k, (x3 (ix2 z k) : EReal) = (b k : EReal))
    (h4 : ∀ r k, (x4 (ix2 r k) : EReal) = (d r k : EReal)) (r : Fin 2064) (k : Fin 1024) :
    (val_main_v30 (F := Ideal) x0 x1 x2 x3 x4 (ix2 r k) : EReal) = (dln g b (row a w r) (d r) k : EReal) := by
  pointwise [val_main_v30, val_main_call1_v0, val_main_call1_v1, val_main_call1_v2, val_main_v29_1, val_main_call0_v7,
    val_main_call0_v6, val_main_call0_cst_1]
  simp only [ref_ln h0 h1 h2 h3, ref_sg h0 h1 h2 h3, h4, ← EReal.coe_one, ← EReal.coe_sub, ← EReal.coe_mul, ← EReal.coe_add]
  rw [dln_rule]

theorem ref_dxh (h0 : ∀ r k, (x0 (ix2 r k) : EReal) = (a r k : EReal)) (h1 : ∀ z k, (x1 (ix2 z k) : EReal) = (w k : EReal))
    (h2 : ∀ z k, (x2 (ix2 z k) : EReal) = (g k : EReal)) (h3 : ∀ z k, (x3 (ix2 z k) : EReal) = (b k : EReal))
    (h4 : ∀ r k, (x4 (ix2 r k) : EReal) = (d r k : EReal)) (r : Fin 2064) (k : Fin 1024) :
    (val_main_v37 (F := Ideal) x0 x1 x2 x3 x4 (ix2 r k) : EReal) = (dxh g b (row a w r) (d r) k : EReal) := by
  pointwise [val_main_v37, val_main_v36]
  simp only [ref_dln h0 h1 h2 h3 h4, h2, ← EReal.coe_mul]; rfl

/-- The gradient through the row itself. -/
theorem ref_direct (h0 : ∀ r k, (x0 (ix2 r k) : EReal) = (a r k : EReal)) (h1 : ∀ z k, (x1 (ix2 z k) : EReal) = (w k : EReal))
    (h2 : ∀ z k, (x2 (ix2 z k) : EReal) = (g k : EReal)) (h3 : ∀ z k, (x3 (ix2 z k) : EReal) = (b k : EReal))
    (h4 : ∀ r k, (x4 (ix2 r k) : EReal) = (d r k : EReal)) (r : Fin 2064) (k : Fin 1024) :
    (val_main_v42 (F := Ideal) x0 x1 x2 x3 x4 (ix2 r k) : EReal)
      = ((dxh g b (row a w r) (d r) k * rs (row a w r) : ℝ) : EReal) := by
  pointwise [val_main_v42, val_main_v41]
  simp only [ref_dxh h0 h1 h2 h3 h4, ref_rs h0 h1, ← EReal.coe_mul]

/-- The gradient through the variance. -/
theorem ref_dvar (h0 : ∀ r k, (x0 (ix2 r k) : EReal) = (a r k : EReal)) (h1 : ∀ z k, (x1 (ix2 z k) : EReal) = (w k : EReal))
    (h2 : ∀ z k, (x2 (ix2 z k) : EReal) = (g k : EReal)) (h3 : ∀ z k, (x3 (ix2 z k) : EReal) = (b k : EReal))
    (h4 : ∀ r k, (x4 (ix2 r k) : EReal) = (d r k : EReal)) (r : Fin 2064) (k : Fin 1024) :
    (val_main_v51 (F := Ideal) x0 x1 x2 x3 x4 (ix2 r k) : EReal) = (dvar g b (row a w r) (d r) k : EReal) := by
  pointwise [val_main_v51, val_main_v50, val_main_v49, val_main_v48, val_main_v47, val_main_v43, val_main_v40, val_main_v39,
    val_main_v38, val_main_v22, val_main_v21, val_main_v20, val_main_v10, val_main_v9, val_main_cst_1, val_main_cst_5,
    val_main_cst_8, val_main_cst_10, val_main_cst_11]
  simp only [ref_cen h0 h1, ref_cen' h0 h1, ref_dxh h0 h1 h2 h3 h4, ref_rs h0 h1, ref_var h0 h1, w1024, w2, wmhalf,
    div_real _ _ (var_pos _).ne', ← EReal.coe_mul, sum_coe]
  rw [div_real _ _ (by norm_num), Fin.sum_univ_one, ← EReal.coe_mul]; rfl

/-- The gradient of the row. -/
theorem ref_dc (h0 : ∀ r k, (x0 (ix2 r k) : EReal) = (a r k : EReal)) (h1 : ∀ z k, (x1 (ix2 z k) : EReal) = (w k : EReal))
    (h2 : ∀ z k, (x2 (ix2 z k) : EReal) = (g k : EReal)) (h3 : ∀ z k, (x3 (ix2 z k) : EReal) = (b k : EReal))
    (h4 : ∀ r k, (x4 (ix2 r k) : EReal) = (d r k : EReal)) (r : Fin 2064) (k : Fin 1024) :
    (val_main_v61 (F := Ideal) x0 x1 x2 x3 x4 (ix2 r k) : EReal) = (dc g b (row a w r) (d r) k : EReal) := by
  pointwise [val_main_v61, val_main_v60, val_main_v59, val_main_v58, val_main_v57, val_main_v56, val_main_v55, val_main_v54,
    val_main_v53, val_main_v52, val_main_v46, val_main_v45, val_main_v44, val_main_cst_9, val_main_cst_12, val_main_cst_13,
    val_main_cst_14]
  simp only [ref_direct h0 h1 h2 h3 h4, ref_dvar h0 h1 h2 h3 h4, w1024, ← EReal.coe_neg, sum_coe, ← EReal.coe_add]
  rw [div_real _ _ (by norm_num), Fin.sum_univ_one, ← EReal.coe_add, dc_rule]

/-- The gain's gradient. -/
theorem ref_dlg (h0 : ∀ r k, (x0 (ix2 r k) : EReal) = (a r k : EReal)) (h1 : ∀ z k, (x1 (ix2 z k) : EReal) = (w k : EReal))
    (h2 : ∀ z k, (x2 (ix2 z k) : EReal) = (g k : EReal)) (h3 : ∀ z k, (x3 (ix2 z k) : EReal) = (b k : EReal))
    (h4 : ∀ r k, (x4 (ix2 r k) : EReal) = (d r k : EReal)) (z : Fin 1) (k : Fin 1024) :
    (val_main_v35 (F := Ideal) x0 x1 x2 x3 x4 (ix2 z k) : EReal)
      = ((∑ r, dln g b (row a w r) (d r) k * xh (row a w r) k : ℝ) : EReal) := by
  pointwise [val_main_v35, val_main_v34, val_main_v33, val_main_cst_7]
  simp only [ref_xh h0 h1, ref_dln h0 h1 h2 h3 h4, ← EReal.coe_mul, sum_coe, mul_comm]

/-- The bias's gradient. -/
theorem ref_dlb (h0 : ∀ r k, (x0 (ix2 r k) : EReal) = (a r k : EReal)) (h1 : ∀ z k, (x1 (ix2 z k) : EReal) = (w k : EReal))
    (h2 : ∀ z k, (x2 (ix2 z k) : EReal) = (g k : EReal)) (h3 : ∀ z k, (x3 (ix2 z k) : EReal) = (b k : EReal))
    (h4 : ∀ r k, (x4 (ix2 r k) : EReal) = (d r k : EReal)) (z : Fin 1) (k : Fin 1024) :
    (val_main_v32 (F := Ideal) x0 x1 x2 x3 x4 (ix2 z k) : EReal)
      = ((∑ r, dln g b (row a w r) (d r) k : ℝ) : EReal) := by
  pointwise [val_main_v32, val_main_v31, val_main_cst_6]
  simp only [ref_dln h0 h1 h2 h3 h4, sum_coe]

/-- The gradient of the convolution's bias. -/
theorem ref_db (h0 : ∀ r k, (x0 (ix2 r k) : EReal) = (a r k : EReal)) (h1 : ∀ z k, (x1 (ix2 z k) : EReal) = (w k : EReal))
    (h2 : ∀ z k, (x2 (ix2 z k) : EReal) = (g k : EReal)) (h3 : ∀ z k, (x3 (ix2 z k) : EReal) = (b k : EReal))
    (h4 : ∀ r k, (x4 (ix2 r k) : EReal) = (d r k : EReal)) (z : Fin 1) (k : Fin 1024) :
    (val_main_v63 (F := Ideal) x0 x1 x2 x3 x4 (ix2 z k) : EReal)
      = ((∑ r, dc g b (row a w r) (d r) k : ℝ) : EReal) := by
  pointwise [val_main_v63, val_main_v62, val_main_cst_15]
  simp only [ref_dc h0 h1 h2 h3 h4, sum_coe]

end Cert.ConvNormRefIdeal.Grad

end
-- ==== Proof.FrontSums.lean ====
/-
  Sums over the kernel's 2176 rows, tile by tile, of a function that vanishes on the 112 rows in front.
-/
module

public import proofs.«01_k».proof.Proof.RealKit
public import Idealize.ShloMosaic.Lib.Pipeline.ValueKit.Acc

@[expose] public section

noncomputable section

namespace Cert.RealKit

/-- The sums of `T` tiles of `n` rows are the sum over the 2064 rows behind the front. -/
theorem sum_tiles (T n : ℕ) (hT : T * n = 112 + 2064) (f : ℕ → ℝ) (h : ∀ R, R < 112 → f R = 0) :
    ∑ t : Fin T, ∑ r : Fin n, f (t.val * n + r.val) = ∑ r : Fin 2064, f (112 + r.val) := by
  rw [Fin.sum_mul_add_fin (L := 112 + 2064) T n (fun l => f l.val) hT.symm, Fin.sum_univ_add,
    Finset.sum_eq_zero fun i _ => h _ i.isLt, zero_add]
  rfl

end Cert.RealKit

end
-- ==== Proof.ConvNormGrads.lean ====
/-
  The gradient through bias, layer norm and swish behind the convolution: for finite arguments the four arrays the call
  leaves are the derivative of the reference's `silu(layer_norm(c + b_dw, ln_g, ln_b))` with respect to the rows `c`, the
  gain, the bias and `b_dw`.
-/
module

public import proofs.«01_k».proof.Defs
public import proofs.«01_k».proof.Proof.Gen.ConvNormIdeal.Value
public import proofs.«01_k».proof.Proof.Gen.ConvNormRefIdeal.Read
public import proofs.«01_k».proof.Proof.Gen.ConvNorm.Frame
public import proofs.«01_k».proof.Proof.Gen.Pre_conv_norm_finite
public import proofs.«01_k».proof.Proof.ConvNormPay
public import proofs.«01_k».proof.Proof.ConvNormRef
public import proofs.«01_k».proof.Proof.FrontSums

@[expose] public section

set_option maxRecDepth 16384

noncomputable section

namespace Cert.ConvNormIdeal.Grad

open Idealize.ShloMosaic Idealize.ShloMosaic.TcCoe Idealize.SL.Sem
open Idealize.ShloMosaic.Pipeline (Dat)
open Cert.ConvNormIdeal Cert.ConvNormIdeal.Gen Cert.Common Cert.RealKit Cert.LayerNorm
open Cert.ConvNormRefIdeal.Grad (row)

variable (m : (ℓ : Loc nD τ sig) → Buf (Elt Ideal) ℓ)

/-- The blocks each grid point reads and writes. -/
theorem idx : ∀ t : Fin cfg0.N, win0_0.index t = ![t.val, 0] ∧ win0_1.index t = ![t.val, 0]
    ∧ win0_2.index t = ![0, 0] ∧ win0_3.index t = ![0, 0] ∧ win0_4.index t = ![t.val, 0] ∧ t.val < 8 :=
  (by decide +kernel : ∀ t : Fin grid0.N, _)

/-- The fill of the front rows is zero. -/
theorem fill_zero (i : S_.Idx) : ((sitofp .f32 (constantI S_ 32 0#32) : FVec Ideal S_ .f32) i : EReal) = 0 := sitofp_zero

/-- What the region finds in its two row operands: the arguments behind rows of zeros, the bias added to the second. -/
theorem entries (c : Dev nD) : V m c main_v0 = frontA (m ((c : Thread nD τ).loc main_arg4)) .f32
    ∧ V m c main_v3 = addf (F := Ideal) (frontA (m ((c : Thread nD τ).loc main_arg0)) .f32)
        (broadcastInDim S2176x1024 ![0, 1] bcast_S1x1024_S2176x1024_0_1 (m ((c : Thread nD τ).loc main_arg1))) := by
  refine ⟨?_, ?_⟩ <;> unfold V <;>
    simp only [hostOps0, hostOps0_1, hostOps0_2, hostOps0_3, hostOps0_4,
      List.flatten_cons, List.flatten_nil, List.append_nil, List.cons_append, List.nil_append] <;> after_results
  · exact pad_front (m ((c : Thread nD τ).loc main_arg4)) pads_S2064x1024_S2176x1024_11200_000 h_S_ _ fill_zero
  · exact congrArg (fun A => addf (F := Ideal) A _)
      (pad_front (m ((c : Thread nD τ).loc main_arg0)) pads_S2064x1024_S2176x1024_11200_000 h_S_ _ fill_zero)

/-- A row of the kernel's array: `x` behind rows of zeros. -/
def rowN (x : Fin 2064 → Fin 1024 → ℝ) (R : ℕ) (k : Fin 1024) : ℝ := if h : 112 ≤ R ∧ R - 112 < 2064 then x ⟨R - 112, h.2⟩ k else 0

theorem front_real {X : FVec Ideal S2064x1024 .f32} {x : Fin 2064 → Fin 1024 → ℝ} (hX : ∀ r k, (X (ix2 r k) : EReal) = (x r k : EReal))
    (R : ℕ) (k : Fin 1024) : front X R k = (rowN x R k : EReal) := by
  unfold front rowN; split
  · exact hX _ _
  · rfl

/-- The gradient of a row of the kernel's array. -/
def dcN (a d : Fin 2064 → Fin 1024 → ℝ) (w g b : Fin 1024 → ℝ) (R : ℕ) (k : Fin 1024) : ℝ :=
  dc g b (fun k => rowN a R k + w k) (rowN d R) k
def dlnN (a d : Fin 2064 → Fin 1024 → ℝ) (w g b : Fin 1024 → ℝ) (R : ℕ) (k : Fin 1024) : ℝ :=
  dln g b (fun k => rowN a R k + w k) (rowN d R) k
def dlgN (a d : Fin 2064 → Fin 1024 → ℝ) (w g b : Fin 1024 → ℝ) (R : ℕ) (k : Fin 1024) : ℝ :=
  dlnN a d w g b R k * xh (fun k => rowN a R k + w k) k

section rows
variable (a d : Fin 2064 → Fin 1024 → ℝ) (w g b : Fin 1024 → ℝ) (k : Fin 1024)

/-- Behind the front, a row is the argument's. -/
theorem rowN_in (x : Fin 2064 → Fin 1024 → ℝ) (R : ℕ) (h : 112 ≤ R ∧ R - 112 < 2064) : rowN x R = x ⟨R - 112, h.2⟩ :=
  funext fun k => dif_pos h
theorem rowN_out (x : Fin 2064 → Fin 1024 → ℝ) (R : ℕ) (h : ¬(112 ≤ R ∧ R - 112 < 2064)) : rowN x R = fun _ => 0 :=
  funext fun k => dif_neg h

theorem dcN_in (R : ℕ) (h : 112 ≤ R ∧ R - 112 < 2064) : dcN a d w g b R k = dc g b (row a w ⟨R - 112, h.2⟩) (d ⟨R - 112, h.2⟩) k := by
  unfold dcN; rw [rowN_in a R h, rowN_in d R h]
theorem dlnN_in (R : ℕ) (h : 112 ≤ R ∧ R - 112 < 2064) : dlnN a d w g b R k = dln g b (row a w ⟨R - 112, h.2⟩) (d ⟨R - 112, h.2⟩) k := by
  unfold dlnN; rw [rowN_in a R h, rowN_in d R h]
theorem dlgN_in (R : ℕ) (h : 112 ≤ R ∧ R - 112 < 2064) : dlgN a d w g b R k
    = dln g b (row a w ⟨R - 112, h.2⟩) (d ⟨R - 112, h.2⟩) k * xh (row a w ⟨R - 112, h.2⟩) k := by
  unfold dlgN; rw [dlnN_in a d w g b k R h, rowN_in a R h]
theorem dcN_out (R : ℕ) (h : ¬(112 ≤ R ∧ R - 112 < 2064)) : dcN a d w g b R k = 0 := by
  unfold dcN; rw [rowN_out d R h]; exact dc_zero _ _ _ _
theorem dlnN_out (R : ℕ) (h : ¬(112 ≤ R ∧ R - 112 < 2064)) : dlnN a d w g b R k = 0 := by
  unfold dlnN; rw [rowN_out d R h]; exact dln_zero _ _ _ _
theorem dlgN_out (R : ℕ) (h : ¬(112 ≤ R ∧ R - 112 < 2064)) : dlgN a d w g b R k = 0 := by
  unfold dlgN; rw [dlnN_out a d w g b k R h, zero_mul]
end rows

/-- The arguments hold these reals. -/
structure Args (c : Dev nD) (a d : Fin 2064 → Fin 1024 → ℝ) (w g b : Fin 1024 → ℝ) : Prop where
  rows : ∀ r k, ((m ((c : Thread nD τ).loc main_arg0) : FVec Ideal S2064x1024 .f32) (ix2 r k) : EReal) = (a r k : EReal)
  bias : ∀ z k, ((m ((c : Thread nD τ).loc main_arg1) : FVec Ideal S1x1024 .f32) (ix2 z k) : EReal) = (w k : EReal)
  gain : ∀ z k, ((m ((c : Thread nD τ).loc main_arg2) : FVec Ideal S1x1024 .f32) (ix2 z k) : EReal) = (g k : EReal)
  shift : ∀ z k, ((m ((c : Thread nD τ).loc main_arg3) : FVec Ideal S1x1024 .f32) (ix2 z k) : EReal) = (b k : EReal)
  cot : ∀ r k, ((m ((c : Thread nD τ).loc main_arg4) : FVec Ideal S2064x1024 .f32) (ix2 r k) : EReal) = (d r k : EReal)

variable {m} {c : Dev nD} {a d : Fin 2064 → Fin 1024 → ℝ} {w g b : Fin 1024 → ℝ}

/-- The tile of the arriving gradient. -/
theorem blk_d (h : Args m c a d w g b) (t : Fin cfg0.N) (r : Fin 272) (k : Fin 1024) :
    ((iblk m c 0 t : FVec Ideal S272x1024 .f32) (ix2 r k) : EReal) = (rowN d (t.val * 272 + r.val) k : EReal) := by
  have h0 := (idx t).1
  show V m c main_v0 (((cfg0.win 0).blk t).view.emb (ix2 r k)) = _
  rw [(entries m c).1]
  exact (front_congr _ (by blk_simp [h0]) (by blk_simp [h0])).trans (front_real h.cot _ _)

/-- The tile of the rows. -/
theorem blk_c (h : Args m c a d w g b) (t : Fin cfg0.N) (r : Fin 272) (k : Fin 1024) :
    ((iblk m c 1 t : FVec Ideal S272x1024 .f32) (ix2 r k) : EReal) = ((rowN a (t.val * 272 + r.val) k + w k : ℝ) : EReal) := by
  have h0 := (idx t).2.1
  show V m c main_v3 (((cfg0.win 1).blk t).view.emb (ix2 r k)) = _
  rw [(entries m c).2, show ((cfg0.win 1).blk t).view.emb (ix2 r k) = ix2 ⟨t.val * 272 + r.val, by have := (idx t).2.2.2.2.2; omega⟩ k
    from ext2 (by blk_simp [h0]) (by blk_simp [h0])]
  pointwise [frontA]
  rw [front_real h.rows, h.bias, ← EReal.coe_add]

/-- The gain. -/
theorem blk_g (h : Args m c a d w g b) (t : Fin cfg0.N) (z : Fin 1) (k : Fin 1024) :
    ((iblk m c 2 t : FVec Ideal S1x1024 .f32) (ix2 z k) : EReal) = (g k : EReal) := by
  have h0 := (idx t).2.2.1
  show V m c main_arg2 (((cfg0.win 2).blk t).view.emb (ix2 z k)) = _
  rw [V_main_arg2, ← h.gain z k]
  exact congrArg (m ((c : Thread nD τ).loc main_arg2)) (ext2 (by blk_simp [h0]) (by blk_simp [h0]))

/-- The bias. -/
theorem blk_b (h : Args m c a d w g b) (t : Fin cfg0.N) (z : Fin 1) (k : Fin 1024) :
    ((iblk m c 3 t : FVec Ideal S1x1024 .f32) (ix2 z k) : EReal) = (b k : EReal) := by
  have h0 := (idx t).2.2.2.1
  show V m c main_arg3 (((cfg0.win 3).blk t).view.emb (ix2 z k)) = _
  rw [V_main_arg3, ← h.shift z k]
  exact congrArg (m ((c : Thread nD τ).loc main_arg3)) (ext2 (by blk_simp [h0]) (by blk_simp [h0]))

/-- The rows' gradient that a point leaves. -/
theorem outs_dc (h : Args m c a d w g b) (t : Fin cfg0.N) (r : Fin 272) (k : Fin 1024) :
    (((outsAt0 m c t.val t.isLt).1 : FVec Ideal S272x1024 .f32) (ix2 r k) : EReal) = (dcN a d w g b (t.val * 272 + r.val) k : EReal) := by
  have e := pay_dc (blk_c h t) (blk_d h t) (blk_g h t) (blk_b h t) r k
  by_cases h0 : t.val % 8 = 0
  · rw [outsAt0_A m c t h0 (by have := (idx t).2.2.2.2.2; omega)]; frame_out; exact e
  · rw [outsAt0_B m c t h0 (by omega)]; frame_out; exact e

/-- The sum over the tiles of a function of the kernel's rows that vanishes in front. -/
theorem last_sum (f : (n : ℕ) → n < cfg0.N → FVec Ideal S1x1024 .f32) (q : ℕ → Fin 1024 → ℝ) (q' : Fin 2064 → Fin 1024 → ℝ)
    (hin : ∀ k R (h : 112 ≤ R ∧ R - 112 < 2064), q R k = q' ⟨R - 112, h.2⟩ k) (hout : ∀ k R, ¬(112 ≤ R ∧ R - 112 < 2064) → q R k = 0)
    (hA : ∀ t : Fin cfg0.N, t.val % 8 = 0 → ∀ z k, (f t.val t.isLt (ix2 z k) : EReal) = ((∑ r : Fin 272, q (t.val * 272 + r.val) k : ℝ) : EReal))
    (hB : ∀ t : Fin cfg0.N, ¬t.val % 8 = 0 → ∀ z k, (f t.val t.isLt (ix2 z k) : EReal)
      = (f (t.val - 1) (Nat.lt_of_le_of_lt (Nat.sub_le _ _) t.isLt) (ix2 z k) : EReal) + ((∑ r : Fin 272, q (t.val * 272 + r.val) k : ℝ) : EReal))
    (z : Fin 1) (k : Fin 1024) : (f t0_7.val t0_7.isLt (ix2 z k) : EReal) = ((∑ r, q' r k : ℝ) : EReal) := by
  rw [Pipeline.eq_sum_fin_of_reset_step_apply_last (fun n h j => (f n h (ix2 z j) : EReal)) 8 (fun _ => 0)
    (fun t j => ((∑ r : Fin 272, q (t.val * 272 + r.val) j : ℝ) : EReal)) (fun t h j => (hA t h z j).trans (zero_add _).symm)
    (fun t h j => hB t h z j) (le_of_eq N_0) t0_7 rfl k, zero_add, sum_coe]
  refine congrArg _ (Eq.trans ?_ ((sum_tiles 8 272 rfl (fun R => q R k) fun R hR => hout k R (by omega)).trans
    (Finset.sum_congr rfl fun r _ => (hin k (112 + r.val) ⟨by omega, by have := r.isLt; omega⟩).trans
      (congrArg (q' · k) (Fin.ext (by simp))))))
  rfl

/-- A later point adds its part to what the point before left. -/
theorem step_dlg (x y : FVec Ideal S272x1024 .f32) (u : FVec Ideal S1x1024 .f32) (z : Fin 1) (k : Fin 1024) :
    (k0_pay5 (F := Ideal) x y u (ix2 z k) : EReal) = (u (ix2 z k) : EReal) + (k0_pay2 (F := Ideal) x y (ix2 z k) : EReal) := by pointwise [k0_pay5]
theorem step_dlb (y : FVec Ideal S272x1024 .f32) (u : FVec Ideal S1x1024 .f32) (z : Fin 1) (k : Fin 1024) :
    (k0_pay6 (F := Ideal) y u (ix2 z k) : EReal) = (u (ix2 z k) : EReal) + (k0_pay3 (F := Ideal) y (ix2 z k) : EReal) := by pointwise [k0_pay6]
theorem step_db (v : FVec Ideal S272x1 .f32) (x y p : FVec Ideal S272x1024 .f32) (u : FVec Ideal S1x1024 .f32) (z : Fin 1) (k : Fin 1024) :
    (k0_pay7 (F := Ideal) v x y p u (ix2 z k) : EReal) = (u (ix2 z k) : EReal) + (k0_pay4 (F := Ideal) v x y p (ix2 z k) : EReal) := by
  pointwise [k0_pay7]

/-- What the last point leaves of the gain's gradient. -/
theorem last_dlg (h : Args m c a d w g b) (z : Fin 1) (k : Fin 1024) : ((outsAt0 m c t0_7.val t0_7.isLt).2.1 (ix2 z k) : EReal)
    = ((∑ r, dln g b (row a w r) (d r) k * xh (row a w r) k : ℝ) : EReal) := by
  refine last_sum (fun n hn => (outsAt0 m c n hn).2.1) (dlgN a d w g b) (fun r k => dln g b (row a w r) (d r) k * xh (row a w r) k)
    (dlgN_in a d w g b) (dlgN_out a d w g b) (fun t h0 z k => ?_) (fun t h0 z k => ?_) z k
  · rw [outsAt0_A m c t h0 (by have := (idx t).2.2.2.2.2; omega)]; frame_out
    exact pay_dlg (blk_c h t) (blk_d h t) (blk_g h t) (blk_b h t) z k
  · rw [outsAt0_B m c t h0 (by omega)]; frame_out
    exact (step_dlg _ _ _ z k).trans (congrArg _ (pay_dlg (blk_c h t) (blk_d h t) (blk_g h t) (blk_b h t) z k))

/-- What the last point leaves of the bias's gradient. -/
theorem last_dlb (h : Args m c a d w g b) (z : Fin 1) (k : Fin 1024) : ((outsAt0 m c t0_7.val t0_7.isLt).2.2.1 (ix2 z k) : EReal)
    = ((∑ r, dln g b (row a w r) (d r) k : ℝ) : EReal) := by
  refine last_sum (fun n hn => (outsAt0 m c n hn).2.2.1) (dlnN a d w g b) (fun r k => dln g b (row a w r) (d r) k)
    (dlnN_in a d w g b) (dlnN_out a d w g b) (fun t h0 z k => ?_) (fun t h0 z k => ?_) z k
  · rw [outsAt0_A m c t h0 (by have := (idx t).2.2.2.2.2; omega)]; frame_out
    exact pay_dlb (blk_c h t) (blk_d h t) (blk_g h t) (blk_b h t) z k
  · rw [outsAt0_B m c t h0 (by omega)]; frame_out
    exact (step_dlb _ _ z k).trans (congrArg _ (pay_dlb (blk_c h t) (blk_d h t) (blk_g h t) (blk_b h t) z k))

/-- What the last point leaves of the gradient of the convolution's bias. -/
theorem last_db (h : Args m c a d w g b) (z : Fin 1) (k : Fin 1024) : ((outsAt0 m c t0_7.val t0_7.isLt).2.2.2 (ix2 z k) : EReal)
    = ((∑ r, dc g b (row a w r) (d r) k : ℝ) : EReal) := by
  refine last_sum (fun n hn => (outsAt0 m c n hn).2.2.2) (dcN a d w g b) (fun r k => dc g b (row a w r) (d r) k)
    (dcN_in a d w g b) (dcN_out a d w g b) (fun t h0 z k => ?_) (fun t h0 z k => ?_) z k
  · rw [outsAt0_A m c t h0 (by have := (idx t).2.2.2.2.2; omega)]; frame_out
    exact pay_db (blk_c h t) (blk_d h t) (blk_g h t) (blk_b h t) z k
  · rw [outsAt0_B m c t h0 (by omega)]; frame_out
    exact (step_db _ _ _ _ _ z k).trans (congrArg _ (pay_db (blk_c h t) (blk_d h t) (blk_g h t) (blk_b h t) z k))

open Cert.ConvNormRefIdeal.Read Cert.ConvNormRefIdeal.Grad

/-- The reference's rows' gradient stands behind rows of zeros. -/
theorem ref_front (h : Args m c a d w g b) (i : S2176x1024.Idx) {R : ℕ} (k : Fin 1024) (hR : (i 0).val = R) (hk : (i 1).val = k.val) :
    (val_main_v64 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) i : EReal) = (dcN a d w g b R k : EReal) := by
  refine (congrFun (pad_front _ _ _ _ fun i => ?_) i).trans ((front_congr _ hR hk).trans ?_)
  · exact sitofp_zero
  · unfold front
    split
    · next hR => exact (ref_dc h.rows h.bias h.gain h.shift h.cot _ _).trans (congrArg _ (dcN_in a d w g b k _ hR).symm)
    · next hR => exact EReal.coe_zero.symm.trans (congrArg _ (dcN_out a d w g b k _ hR).symm)

/-- The rows' gradient after the last grid point. -/
theorem final_dc (h : Args m c a d w g b) : (dats m 0 c).arrAt 4 (cfgs 0).N = val_main_v64 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 4 _ (by decide +kernel) fun t _ y => ?_
  blk_simp; rw [after0_4]
  have h0 := (idx t).2.2.2.2.1
  have e0 : ((((cfg0.win 4).blk t).view.emb y) 0).val = t.val * 272 + (y 0).val := by blk_simp [h0]
  have e1 : ((((cfg0.win 4).blk t).view.emb y) 1).val = (y 1).val := by blk_simp [h0]
  refine Eq.trans ?_ (ref_front h _ _ e0 e1).symm
  rw [show y = ix2 (y 0) (y 1) from ext2 rfl rfl]
  exact outs_dc h t (y 0) (y 1)

/-- The gain's gradient after the last grid point. -/
theorem final_dlg (h : Args m c a d w g b) : (dats m 0 c).arrAt 5 (cfgs 0).N = val_main_v35 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_after_last 5 t0_7 (by decide +kernel) _ fun j => ?_
  rw [after0_5, show j = ix2 (j 0) (j 1) from ext2 rfl rfl]
  exact (last_dlg h (j 0) (j 1)).trans (ref_dlg h.rows h.bias h.gain h.shift h.cot (j 0) (j 1)).symm

/-- The bias's gradient after the last grid point. -/
theorem final_dlb (h : Args m c a d w g b) : (dats m 0 c).arrAt 6 (cfgs 0).N = val_main_v32 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_after_last 6 t0_7 (by decide +kernel) _ fun j => ?_
  rw [after0_6, show j = ix2 (j 0) (j 1) from ext2 rfl rfl]
  exact (last_dlb h (j 0) (j 1)).trans (ref_dlb h.rows h.bias h.gain h.shift h.cot (j 0) (j 1)).symm

/-- The gradient of the convolution's bias after the last grid point. -/
theorem final_db (h : Args m c a d w g b) : (dats m 0 c).arrAt 7 (cfgs 0).N = val_main_v63 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_after_last 7 t0_7 (by decide +kernel) _ fun j => ?_
  rw [after0_7, show j = ix2 (j 0) (j 1) from ext2 rfl rfl]
  exact (last_db h (j 0) (j 1)).trans (ref_db h.rows h.bias h.gain h.shift h.cot (j 0) (j 1)).symm

/-- Finite arguments are real numbers; a parameter's one row is a function of its column. -/
theorem args_of_pre (h : Cert.Pre_ConvNormIdeal_conv_norm_finite m) (c : Dev nD) : ∃ a d w g b, Args m c a d w g b := by
  obtain ⟨h0, h1, h2, h3, h4⟩ := h c
  obtain ⟨a, ha⟩ := reals _ h0
  obtain ⟨w, hw⟩ := reals _ h1
  obtain ⟨g, hg⟩ := reals _ h2
  obtain ⟨b, hb⟩ := reals _ h3
  obtain ⟨d, hd⟩ := reals _ h4
  exact ⟨fun r k => a (ix2 r k), fun r k => d (ix2 r k), fun k => w (ix2 0 k), fun k => g (ix2 0 k), fun k => b (ix2 0 k),
    fun r k => ha _, fun z k => (hw _).trans (by rw [Subsingleton.elim z 0]), fun z k => (hg _).trans (by rw [Subsingleton.elim z 0]),
    fun z k => (hb _).trans (by rw [Subsingleton.elim z 0]), fun r k => hd _⟩

/-- A function of five arguments at equal arguments. -/
theorem congr5 {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

/-- The reference runs to its end with every counter at zero. -/
theorem frame_ref : Cert.quiescent_ConvNormRefIdeal := fun m ρ _ =>
  (θ_run Cert.ConvNormRefIdeal.defs _ _).mono
    (fun r h => ⟨fun c => (h c).2.2.2.2, sem_eq_zero_of_no_sems (by decide) r.2⟩) (Cert.ConvNormRefIdeal.Value.run (F := Ideal) m ρ)

/-- Over the reals, for finite arguments, the call's four results are the reference's. -/
theorem algebraic : Cert.algebraic_ConvNormIdeal_ConvNormRefIdeal_pre_conv_norm_finite := by
  pair_intro
  · run_from Cert.ConvNormIdeal.Gen.run_main m g
    exacts [V_main_arg0 m c, V_main_arg1 m c, V_main_arg4 m c]
  · refine θ_run_mono (Cert.ConvNormRefIdeal.Value.run m' g') fun r hr c => ?_
    obtain ⟨a, d, w, gg, b, h⟩ := args_of_pre hpre c
    obtain ⟨e0, e1, e2, e3, e4⟩ := hagree c
    exact ⟨(hr c).1.trans ((val_main_v64_eq m' c).trans ((congr5 _ e0 e1 e2 e3 e4).trans (final_dc h).symm)),
      (hr c).2.1.trans ((val_main_v35_eq m' c).trans ((congr5 _ e0 e1 e2 e3 e4).trans (final_dlg h).symm)),
      (hr c).2.2.1.trans ((val_main_v32_eq m' c).trans ((congr5 _ e0 e1 e2 e3 e4).trans (final_dlb h).symm)),
      (hr c).2.2.2.1.trans ((val_main_v63_eq m' c).trans ((congr5 _ e0 e1 e2 e3 e4).trans (final_db h).symm)),
      (hr c).2.2.2.2⟩

/-- Everything that is claimed of this call. -/
theorem claims : Cert.quiescent_ConvNorm ∧ Cert.quiescent_ConvNormIdeal ∧ Cert.quiescent_ConvNormIdeal_pre_conv_norm_finite
    ∧ Cert.quiescent_ConvNormRefIdeal ∧ Cert.quiescent_ConvNormRefIdeal_pre_conv_norm_finite
    ∧ Cert.preserves_ConvNorm_ConvNormIdeal ∧ Cert.algebraic_ConvNormIdeal_ConvNormRefIdeal_pre_conv_norm_finite :=
  ⟨fun m ρ _ => Cert.ConvNorm.Gen.frame m ρ, fun m ρ _ => Cert.ConvNormIdeal.Gen.frame m ρ, fun m ρ _ => Cert.ConvNormIdeal.Gen.frame m ρ,
    frame_ref, fun m ρ _ => frame_ref m ρ trivial, trivial, algebraic⟩

end Cert.ConvNormIdeal.Grad

end
-- ==== Proof.ConvRun.lean ====
module

public import proofs.«01_k».proof.Proof.Gen.GluConvIdeal.Frame

/-!
# What one grid point of the convolution's backward pass stores, written with the tap and the lane chunk as variables

The kernel's body is unrolled over 8 lane chunks of 128 columns and, in each, over the 31 taps.  Here its stores are
named once, for any chunk and any tap, and the unrolled lists of stores are shown to be these families.
-/

@[expose] public section

set_option maxRecDepth 16384

noncomputable section

namespace Cert.GluConvProof

open Idealize.ShloMosaic Idealize.ShloMosaic.TcCoe Idealize.SL.Sem
open Cert.GluConvIdeal Cert.GluConvIdeal.Gen

variable {F : FTy → Type} [FloatOps F]

/-- A lane chunk of a tile lies in the tile. -/
theorem inb_chunk (c : Fin 8) : ∀ a, (![0, 128 * c.val] : Fin 2 → Nat) a + S128x128.size a ≤ S128x1024.size a := by
  revert c; decide

/-- One tap's row of a lane chunk lies in the taps. -/
theorem inb_tap (k : Fin 31) (c : Fin 8) :
    ∀ a, (![k.val, 128 * c.val] : Fin 2 → Nat) a + S1x128.size a ≤ S31x1024.size a := by
  revert k c; decide

/-- The rows that tap `k` reads lie in the rotated copy `(30 - k) % 8`. -/
theorem inb_slab (k : Fin 31) (c : Fin 8) :
    ∀ a, (![(30 - k.val) % 8, 8 * ((30 - k.val) / 8), 128 * c.val] : Fin 3 → Nat) a + S1x128x128.size a
      ≤ S8x160x1024.size a := by
  revert k c; decide

/-- One tap's eight partial sums of a lane chunk lie in the accumulator. -/
theorem inb_acc (k : Fin 31) (c : Fin 8) :
    ∀ a, (![k.val, 0, 128 * c.val] : Fin 3 → Nat) a + S1x8x128.size a ≤ S32x8x1024.size a := by
  revert k c; decide

/-- A lane chunk of a tile. -/
def chunk (M : Memref sig .tc .vmem S128x1024 .f32) (hM : M.IsWhole) (x : Vec F S128x1024 .f32) (c : Fin 8) :
    Vec F S128x128 .f32 :=
  View.readAt (Elt F) M.view (Rect.unit (s := S128x1024) ![0, 128 * c.val] S128x128.size (inb_chunk c)).toLoadRect (hM.unread x)

/-- One tap's weights in a lane chunk. -/
def tapRow (M : Memref sig .tc .vmem S31x1024 .f32) (hM : M.IsWhole) (x : Vec F S31x1024 .f32) (c : Fin 8)
    (k : Fin 31) : Vec F S1x128 .f32 :=
  View.readAt (Elt F) M.view (Rect.unit (s := S31x1024) ![k.val, 128 * c.val] S1x128.size (inb_tap k c)).toLoadRect (hM.unread x)

/-- The rows of the cotangent that tap `k` meets, read from the rotated copies. -/
def slab (M : Memref sig .tc .vmem S8x160x1024 .f32) (L : List (View.Piece (Elt F) S8x160x1024 .f32)) (c : Fin 8)
    (k : Fin 31) : Vec F S1x128x128 .f32 :=
  M.view.readCov L (Rect.unit (s := S8x160x1024) ![(30 - k.val) % 8, 8 * ((30 - k.val) / 8), 128 * c.val] S1x128x128.size
    (inb_slab k c)).toLoadRect

/-- The place of one tap's partial sums of a lane chunk. -/
def accRect (k : Fin 31) (c : Fin 8) : Rect S32x8x1024 := Rect.unit ![k.val, 0, 128 * c.val] S1x8x128.size (inb_acc k c)

/-- The convolution's gradient after `n` taps. -/
def dconv (W : Fin 31 → Vec F S1x128 .f32) (D : Fin 31 → Vec F S1x128x128 .f32) :
    (n : ℕ) → n ≤ 31 → FVec F S128x128 .f32
  | 0, _ => broadcast S128x128 (Scalar.ofBits .f32 0x00000000#32)
  | n + 1, h => addf (dconv W D n (by omega))
      (mulf (broadcastTo S128x128 (W ⟨n, h⟩) broadcasts_S1x128_S128x128)
        (shapeCast S128x128 (D ⟨n, h⟩) shapeCasts_S1x128x128_S128x128))

/-- The value half's gradient in a lane chunk. -/
def dvalue (g : Vec F S128x128 .f32) (da : FVec F S128x128 .f32) : FVec F S128x128 .bf16 :=
  truncf .bf16 (mulf da (k0_pay14 g)) bitsLt_bf16_f32

/-- The gate half's gradient in a lane chunk. -/
def dgateOf (v g : Vec F S128x128 .f32) (da : FVec F S128x128 .f32) : FVec F S128x128 .bf16 :=
  truncf .bf16 (mulf (mulf (mulf da (k0_pay13 v)) (k0_pay14 g))
    (subf (broadcast S128x128 (Scalar.ofBits .f32 0x3F800000#32)) (k0_pay14 g))) bitsLt_bf16_f32

/-- One tap's partial sums: what was there and the tile's products summed over its groups of eight rows. -/
def dtap (v g : Vec F S128x128 .f32) (d : Vec F S1x128x128 .f32) (acc : Vec F S1x8x128 .f32) : FVec F S1x8x128 .f32 :=
  shapeCast S1x8x128 (addf (shapeCast S8x128 acc shapeCasts_S1x8x128_S8x128)
    (multiReduction .add [0] S8x128
      (shapeCast S16x8x128 (mulf (k0_pay15 v g) (shapeCast S128x128 d shapeCasts_S1x128x128_S128x128))
        shapeCasts_S128x128_S16x8x128)
      0x00000000#32 reduces_S16x8x128_S8x128 (.inl rfl) rfl)) shapeCasts_S8x128_S1x8x128

/-- The eight rotated copies of a tile's rows and the 32 rows that follow. -/
def copies (i : grid0.Coords) (x1 : Vec F S32x1024 .f32) (x0 : Vec F S128x1024 .f32) :
    List (View.Piece (Elt F) S8x160x1024 .f32) :=
  [⟨Rect.unit ![7, 0, 0] S1x160x1024.size inb_S8x160x1024_S1x160x1024_7_0_0, k0_pay11 (k0_pay3 i x1 x0)⟩,
   ⟨Rect.unit ![6, 0, 0] S1x160x1024.size inb_S8x160x1024_S1x160x1024_6_0_0, k0_pay10 (k0_pay3 i x1 x0)⟩,
   ⟨Rect.unit ![5, 0, 0] S1x160x1024.size inb_S8x160x1024_S1x160x1024_5_0_0, k0_pay9 (k0_pay3 i x1 x0) 155#32⟩,
   ⟨Rect.unit ![4, 0, 0] S1x160x1024.size inb_S8x160x1024_S1x160x1024_4_0_0, k0_pay8 i x1 x0⟩,
   ⟨Rect.unit ![3, 0, 0] S1x160x1024.size inb_S8x160x1024_S1x160x1024_3_0_0, k0_pay7 i x1 x0⟩,
   ⟨Rect.unit ![2, 0, 0] S1x160x1024.size inb_S8x160x1024_S1x160x1024_2_0_0, k0_pay6 i x1 x0⟩,
   ⟨Rect.unit ![1, 0, 0] S1x160x1024.size inb_S8x160x1024_S1x160x1024_1_0_0, k0_pay5 i x1 x0⟩,
   ⟨Rect.unit ![0, 0, 0] S1x160x1024.size inb_S8x160x1024_S1x160x1024_0_0_0, k0_pay4 i x1 x0⟩]

section point

variable (c : Dev nD) (i : grid0.Coords)
  (arg1 : Memref sig .tc .vmem S128x1024 .f32) (harg1 : arg1.IsWhole)
  (arg2 : Memref sig .tc .vmem S32x1024 .f32) (harg2 : arg2.IsWhole)
  (arg3 : Memref sig .tc .vmem S128x1024 .f32) (harg3 : arg3.IsWhole)
  (arg4 : Memref sig .tc .vmem S128x1024 .f32) (harg4 : arg4.IsWhole)
  (arg5 : Memref sig .tc .vmem S31x1024 .f32) (harg5 : arg5.IsWhole)
  (arg6 : Memref sig .tc .vmem S128x1024 .bf16) (harg6 : arg6.IsWhole)
  (arg7 : Memref sig .tc .vmem S128x1024 .bf16) (harg7 : arg7.IsWhole)
  (arg8 : Memref sig .tc .vmem S32x1024 .f32) (harg8 : arg8.IsWhole)
  (arg9 : Memref sig .tc .vmem S8x160x1024 .f32) (harg9 : arg9.IsWhole)
  (arg10 : Memref sig .tc .vmem S32x8x1024 .f32) (harg10 : arg10.IsWhole)
  (x0 : Vec F S128x1024 .f32) (x1 : Vec F S32x1024 .f32) (x2 : Vec F S128x1024 .f32) (x3 : Vec F S128x1024 .f32)
  (x4 : Vec F S31x1024 .f32) (xs1 : Vec F S32x8x1024 .f32)

/-- The rotated copies a point leaves, as it stores them from what it loads. -/
def rot : List (View.Piece (Elt F) S8x160x1024 .f32) :=
  copies i (View.readAt (Elt F) arg2.view (Rect.unit (s := S32x1024) ![0, 0] S32x1024.size inb_S32x1024_S32x1024_0_0).toLoadRect
      (harg2.unread x1))
    (View.readAt (Elt F) arg1.view (Rect.unit (s := S128x1024) ![0, 0] S128x1024.size inb_S128x1024_S128x1024_0_0).toLoadRect
      (harg1.unread x0))

/-- The convolution's gradient in lane chunk `k`. -/
def daAt (k : Fin 8) : FVec F S128x128 .f32 :=
  dconv (tapRow arg5 harg5 x4 k) (slab arg9 (rot i arg1 harg1 arg2 harg2 x0 x1) k) 31 le_rfl

/-- The stores into the value half's gradient. -/
def storesV : List (View.Piece (Elt F) S128x1024 .bf16) :=
  List.ofFn fun j : Fin 8 => ⟨Rect.unit (s := S128x1024) ![0, 128 * j.rev.val] S128x128.size (inb_chunk j.rev),
    dvalue (chunk arg4 harg4 x3 j.rev) (daAt i arg1 harg1 arg2 harg2 arg5 harg5 arg9 x0 x1 x4 j.rev)⟩

/-- The stores into the gate half's gradient. -/
def storesG : List (View.Piece (Elt F) S128x1024 .bf16) :=
  List.ofFn fun j : Fin 8 => ⟨Rect.unit (s := S128x1024) ![0, 128 * j.rev.val] S128x128.size (inb_chunk j.rev),
    dgateOf (chunk arg3 harg3 x2 j.rev) (chunk arg4 harg4 x3 j.rev)
      (daAt i arg1 harg1 arg2 harg2 arg5 harg5 arg9 x0 x1 x4 j.rev)⟩

/-- One step of the accumulation, tap `n % 31` of lane chunk `n / 31`, over the contents `acc` of its place. -/
def step (n : ℕ) (h : n < 248) (acc : Vec F S1x8x128 .f32) : FVec F S1x8x128 .f32 :=
  dtap (chunk arg3 harg3 x2 ⟨n / 31, by omega⟩) (chunk arg4 harg4 x3 ⟨n / 31, by omega⟩)
    (slab arg9 (rot i arg1 harg1 arg2 harg2 x0 x1) ⟨n / 31, by omega⟩ ⟨n % 31, by omega⟩) acc

/-- The place of step `n`. -/
def stepRect (n : ℕ) (h : n < 248) : Rect S32x8x1024 := accRect ⟨n % 31, by omega⟩ ⟨n / 31, by omega⟩

/-- The stores into the accumulator after `n` steps, each over what the point found there. -/
def storesA : (n : ℕ) → n ≤ 248 → List (View.Piece (Elt F) S32x8x1024 .f32)
  | 0, _ => []
  | n + 1, h => ⟨stepRect n h, step i arg1 harg1 arg2 harg2 arg3 harg3 arg4 harg4 arg9 x0 x1 x2 x3 n h
      (View.readAt (Elt F) arg10.view (stepRect n h).toLoadRect (harg10.unread xs1))⟩ :: storesA n (by omega)

/-- The stores into the accumulator after `n` steps of the first point, which clears it. -/
def storesA0 : (n : ℕ) → n ≤ 248 → List (View.Piece (Elt F) S32x8x1024 .f32)
  | 0, _ => [⟨Rect.unit (s := S32x8x1024) ![0, 0, 0] S32x8x1024.size inb_S32x8x1024_S32x8x1024_0_0_0, k0_pay12⟩]
  | n + 1, h => ⟨stepRect n h, step i arg1 harg1 arg2 harg2 arg3 harg3 arg4 harg4 arg9 x0 x1 x2 x3 n h
      (arg10.view.readCov (storesA0 n (by omega)) (stepRect n h).toLoadRect)⟩ :: storesA0 n (by omega)

/-- What the first point stores into the value half's gradient. -/
theorem run_A_V (hc0 : cond0_0 i) (hc1 : ¬cond0_1 i) :
    (kernelRun0_A c i arg1 harg1 arg2 harg2 arg3 harg3 arg4 harg4 arg5 harg5 arg6 harg6 arg7 harg7 arg8 harg8 arg9 harg9
      arg10 harg10 hc0 hc1 x0 x1 x2 x3 x4).1
      = storesV i arg1 harg1 arg2 harg2 arg4 harg4 arg5 harg5 arg9 x0 x1 x3 x4 := by
  sl_kernel_rfl

/-- What the first point stores into the gate half's gradient. -/
theorem run_A_G (hc0 : cond0_0 i) (hc1 : ¬cond0_1 i) :
    (kernelRun0_A c i arg1 harg1 arg2 harg2 arg3 harg3 arg4 harg4 arg5 harg5 arg6 harg6 arg7 harg7 arg8 harg8 arg9 harg9
      arg10 harg10 hc0 hc1 x0 x1 x2 x3 x4).2.1
      = storesG i arg1 harg1 arg2 harg2 arg3 harg3 arg4 harg4 arg5 harg5 arg9 x0 x1 x2 x3 x4 := by
  sl_kernel_rfl

/-- What the first point stores into the accumulator. -/
theorem run_A_A (hc0 : cond0_0 i) (hc1 : ¬cond0_1 i) :
    (kernelRun0_A c i arg1 harg1 arg2 harg2 arg3 harg3 arg4 harg4 arg5 harg5 arg6 harg6 arg7 harg7 arg8 harg8 arg9 harg9
      arg10 harg10 hc0 hc1 x0 x1 x2 x3 x4).2.2.2.1
      = storesA0 i arg1 harg1 arg2 harg2 arg3 harg3 arg4 harg4 arg9 arg10 x0 x1 x2 x3 248 le_rfl := by
  sl_kernel_rfl

/-- What the middle point stores into the value half's gradient. -/
theorem run_B_V (hc0 : ¬cond0_0 i) (hc1 : ¬cond0_1 i) :
    (kernelRun0_B c i arg1 harg1 arg2 harg2 arg3 harg3 arg4 harg4 arg5 harg5 arg6 harg6 arg7 harg7 arg8 harg8 arg9 harg9
      arg10 harg10 hc0 hc1 x0 x1 x2 x3 x4 xs1).1
      = storesV i arg1 harg1 arg2 harg2 arg4 harg4 arg5 harg5 arg9 x0 x1 x3 x4 := by
  sl_kernel_rfl

/-- What the middle point stores into the gate half's gradient. -/
theorem run_B_G (hc0 : ¬cond0_0 i) (hc1 : ¬cond0_1 i) :
    (kernelRun0_B c i arg1 harg1 arg2 harg2 arg3 harg3 arg4 harg4 arg5 harg5 arg6 harg6 arg7 harg7 arg8 harg8 arg9 harg9
      arg10 harg10 hc0 hc1 x0 x1 x2 x3 x4 xs1).2.1
      = storesG i arg1 harg1 arg2 harg2 arg3 harg3 arg4 harg4 arg5 harg5 arg9 x0 x1 x2 x3 x4 := by
  sl_kernel_rfl

/-- What the middle point stores into the accumulator. -/
theorem run_B_A (hc0 : ¬cond0_0 i) (hc1 : ¬cond0_1 i) :
    (kernelRun0_B c i arg1 harg1 arg2 harg2 arg3 harg3 arg4 harg4 arg5 harg5 arg6 harg6 arg7 harg7 arg8 harg8 arg9 harg9
      arg10 harg10 hc0 hc1 x0 x1 x2 x3 x4 xs1).2.2.2.1
      = storesA i arg1 harg1 arg2 harg2 arg3 harg3 arg4 harg4 arg9 arg10 harg10 x0 x1 x2 x3 xs1 248 le_rfl := by
  sl_kernel_rfl

/-- What the last point stores into the value half's gradient. -/
theorem run_C_V (hc0 : ¬cond0_0 i) (hc1 : cond0_1 i) :
    (kernelRun0_C c i arg1 harg1 arg2 harg2 arg3 harg3 arg4 harg4 arg5 harg5 arg6 harg6 arg7 harg7 arg8 harg8 arg9 harg9
      arg10 harg10 hc0 hc1 x0 x1 x2 x3 x4 xs1).1
      = storesV i arg1 harg1 arg2 harg2 arg4 harg4 arg5 harg5 arg9 x0 x1 x3 x4 := by
  sl_kernel_rfl

/-- What the last point stores into the gate half's gradient. -/
theorem run_C_G (hc0 : ¬cond0_0 i) (hc1 : cond0_1 i) :
    (kernelRun0_C c i arg1 harg1 arg2 harg2 arg3 harg3 arg4 harg4 arg5 harg5 arg6 harg6 arg7 harg7 arg8 harg8 arg9 harg9
      arg10 harg10 hc0 hc1 x0 x1 x2 x3 x4 xs1).2.1
      = storesG i arg1 harg1 arg2 harg2 arg3 harg3 arg4 harg4 arg5 harg5 arg9 x0 x1 x2 x3 x4 := by
  sl_kernel_rfl

/-- What the last point stores into the accumulator. -/
theorem run_C_A (hc0 : ¬cond0_0 i) (hc1 : cond0_1 i) :
    (kernelRun0_C c i arg1 harg1 arg2 harg2 arg3 harg3 arg4 harg4 arg5 harg5 arg6 harg6 arg7 harg7 arg8 harg8 arg9 harg9
      arg10 harg10 hc0 hc1 x0 x1 x2 x3 x4 xs1).2.2.2.1
      = storesA i arg1 harg1 arg2 harg2 arg3 harg3 arg4 harg4 arg9 arg10 harg10 x0 x1 x2 x3 xs1 248 le_rfl := by
  sl_kernel_rfl

/-- What the last point stores into the taps' gradient: the accumulator's eight partial sums added. -/
theorem run_C_W (hc0 : ¬cond0_0 i) (hc1 : cond0_1 i) :
    (kernelRun0_C c i arg1 harg1 arg2 harg2 arg3 harg3 arg4 harg4 arg5 harg5 arg6 harg6 arg7 harg7 arg8 harg8 arg9 harg9
      arg10 harg10 hc0 hc1 x0 x1 x2 x3 x4 xs1).2.2.1
      = [⟨Rect.unit (s := S32x1024) ![0, 0] S32x1024.size inb_S32x1024_S32x1024_0_0,
          k0_pay2 (View.readAt (Elt F) arg10.view
            (Rect.unit (s := S32x8x1024) ![0, 0, 0] S32x8x1024.size inb_S32x8x1024_S32x8x1024_0_0_0).toLoadRect
            (arg10.view.writes (Elt F) (harg10.unread xs1)
              (storesA i arg1 harg1 arg2 harg2 arg3 harg3 arg4 harg4 arg9 arg10 harg10 x0 x1 x2 x3 xs1 248 le_rfl)))⟩] := by
  sl_kernel_rfl

end point

end Cert.GluConvProof
-- ==== Proof.ConvTile.lean ====
/-
  What one grid point of the convolution's backward pass stores, read at an index.
-/
module

public import proofs.«01_k».proof.Proof.ConvRun
public import proofs.«01_k».proof.Proof.Common
public import Idealize.ShloMosaic.Lib.WholeRead

@[expose] public section

set_option maxRecDepth 16384

noncomputable section

namespace Cert.GluConvProof

open Idealize.ShloMosaic Idealize.ShloMosaic.TcCoe Idealize.SL.Sem
open Cert.GluConvIdeal Cert.GluConvIdeal.Gen
open Cert.Common (ext2)

/-- Whether the tile has a successor, as a number. -/
def follows (i : grid0.Coords) : EReal :=
  (((Scalar.extui (Scalar.cmpi .slt (BitVec.ofNat 32 (i 0).val) 16#32) : BitVec 32).toInt : ℝ) : EReal)

/-- A tile of the cotangent and the 32 rows after it. -/
theorem ext_apply (i : grid0.Coords) (x1 : FVec Ideal S32x1024 .f32) (x0 : FVec Ideal S128x1024 .f32) (r : Fin 160)
    (j : Fin 1024) :
    k0_pay3 (F := Ideal) i x1 x0 (ix2 r j)
      = if h : r.val < 128 then x0 (ix2 ⟨r, h⟩ j) else x1 (ix2 ⟨r - 128, by omega⟩ j) * follows i := by
  pointwise [k0_pay3]
  rfl

/-- The convolution's gradient is the sum over the taps. -/
theorem dconv_apply (W : Fin 31 → FVec Ideal S1x128 .f32) (D : Fin 31 → FVec Ideal S1x128x128 .f32) (n : ℕ) (h : n ≤ 31)
    (r j : Fin 128) :
    dconv (F := Ideal) W D n h (ix2 r j)
      = ∑ k : Fin n, W ⟨k, by omega⟩ (ix2 0 j) * D ⟨k, by omega⟩ (ix3 0 r j) := by
  induction n with
  | zero =>
    rw [dconv]
    pointwise
    rfl
  | succ n ih =>
    rw [dconv, Fin.sum_univ_castSucc]
    pointwise
    rw [ih]
    rfl

/-- One tap's partial sums, at an index. -/
theorem dtap_apply (v g : FVec Ideal S128x128 .f32) (d : FVec Ideal S1x128x128 .f32) (acc : FVec Ideal S1x8x128 .f32)
    (s : Fin 8) (j : Fin 128) :
    dtap (F := Ideal) v g d acc (ix3 0 s j)
      = acc (ix3 0 s j) + ∑ p : Fin 16, v (ix2 ⟨p * 8 + s, by omega⟩ j) * Ideal.logistic (g (ix2 ⟨p * 8 + s, by omega⟩ j))
          * d (ix3 0 ⟨p * 8 + s, by omega⟩ j) := by
  pointwise [dtap, k0_pay15, k0_pay13, k0_pay14]

/-- Row `y` of the copy rotated by `b` is row `b + y`, as long as that row exists. -/
theorem copies_apply (i : grid0.Coords) (x1 : FVec Ideal S32x1024 .f32) (x0 : FVec Ideal S128x1024 .f32)
    (y : S8x160x1024.Idx) (h : (y 0 : ℕ) + y 1 < 160) :
    View.canon (copies (F := Ideal) i x1 x0) y = k0_pay3 (F := Ideal) i x1 x0 (ix2 ⟨(y 0 : ℕ) + y 1, h⟩ (y 2)) := by
  unfold copies
  canon_tiles x h
  all_goals pointwise [k0_pay4, k0_pay5, k0_pay6, k0_pay7, k0_pay8, k0_pay9, k0_pay10, k0_pay11]
  all_goals exact congrArg _ (ext2 (show _ = (y 0 : ℕ) + y 1 by show _ = (y 0 : ℕ) + y 1; first | omega | (show (x 1 : ℕ) = _; omega) | (show ((x 1 : ℕ) + 160 - _) % 160 = _; omega)) h2.symm)

section point

variable (i : grid0.Coords)
  (arg1 : Memref sig .tc .vmem S128x1024 .f32) (harg1 : arg1.IsWhole)
  (arg2 : Memref sig .tc .vmem S32x1024 .f32) (harg2 : arg2.IsWhole)
  (arg3 : Memref sig .tc .vmem S128x1024 .f32) (harg3 : arg3.IsWhole)
  (arg4 : Memref sig .tc .vmem S128x1024 .f32) (harg4 : arg4.IsWhole)
  (arg5 : Memref sig .tc .vmem S31x1024 .f32) (harg5 : arg5.IsWhole)
  (arg9 : Memref sig .tc .vmem S8x160x1024 .f32)
  (arg10 : Memref sig .tc .vmem S32x8x1024 .f32) (harg10 : arg10.IsWhole)
  (x0 : FVec Ideal S128x1024 .f32) (x1 : FVec Ideal S32x1024 .f32) (x2 : FVec Ideal S128x1024 .f32)
  (x3 : FVec Ideal S128x1024 .f32) (x4 : FVec Ideal S31x1024 .f32) (xs1 : FVec Ideal S32x8x1024 .f32)

/-- The cotangent's row that tap `k` meets at the tile's row `r`. -/
def met (k : ℕ) (r : Fin 128) (j : Fin 1024) : EReal :=
  k0_pay3 (F := Ideal) i x1 x0 (ix2 ⟨30 - k + r, by omega⟩ j)

/-- Loading a whole array gives the array. -/
theorem rot_eq : rot (F := Ideal) i arg1 harg1 arg2 harg2 x0 x1 = copies (F := Ideal) i x1 x0 := by
  have e1 : (View.readAt (Elt Ideal) arg2.view
      (Rect.unit (s := S32x1024) ![0, 0] S32x1024.size inb_S32x1024_S32x1024_0_0).toLoadRect (harg2.unread x1)
        : FVec Ideal S32x1024 .f32) = x1 := by
    funext y
    refine (harg2.readAt_unread (Val := Elt Ideal) x1 _ y).trans (congrArg x1 (ext2 ?_ ?_))
    · exact (Rect.idx_unit_val _ _ _ y 0).trans (Nat.zero_add _)
    · exact (Rect.idx_unit_val _ _ _ y 1).trans (Nat.zero_add _)
  have e0 : (View.readAt (Elt Ideal) arg1.view
      (Rect.unit (s := S128x1024) ![0, 0] S128x1024.size inb_S128x1024_S128x1024_0_0).toLoadRect (harg1.unread x0)
        : FVec Ideal S128x1024 .f32) = x0 := by
    funext y
    refine (harg1.readAt_unread (Val := Elt Ideal) x0 _ y).trans (congrArg x0 (ext2 ?_ ?_))
    · exact (Rect.idx_unit_val _ _ _ y 0).trans (Nat.zero_add _)
    · exact (Rect.idx_unit_val _ _ _ y 1).trans (Nat.zero_add _)
  exact congrArg₂ (copies (F := Ideal) i) e1 e0

/-- A lane chunk read at an index. -/
theorem chunk_apply (c : Fin 8) (r j : Fin 128) :
    (chunk (F := Ideal) arg3 harg3 x2 c : FVec Ideal S128x128 .f32) (ix2 r j) = x2 (ix2 r ⟨128 * c + j, by omega⟩) := by
  refine (harg3.readAt_unread (Val := Elt Ideal) x2 _ _).trans (congrArg x2 (ext2 ?_ ?_))
  · exact (Rect.idx_unit_val _ _ _ _ 0).trans (Nat.zero_add _)
  · exact Rect.idx_unit_val _ _ _ _ 1

/-- A tap's weights in a lane chunk, at an index. -/
theorem tapRow_apply (c : Fin 8) (k : Fin 31) (j : Fin 128) :
    (tapRow (F := Ideal) arg5 harg5 x4 c k : FVec Ideal S1x128 .f32) (ix2 0 j) = x4 (ix2 k ⟨128 * c + j, by omega⟩) := by
  refine (harg5.readAt_unread (Val := Elt Ideal) x4 _ _).trans (congrArg x4 (ext2 ?_ ?_))
  · exact (Rect.idx_unit_val _ _ _ _ 0).trans (Nat.add_zero _)
  · exact Rect.idx_unit_val _ _ _ _ 1

/-- The rows that a tap meets, at an index. -/
theorem slab_apply (c : Fin 8) (k : Fin 31) (r j : Fin 128) :
    (slab (F := Ideal) arg9 (rot (F := Ideal) i arg1 harg1 arg2 harg2 x0 x1) c k : FVec Ideal S1x128x128 .f32) (ix3 0 r j)
      = met i x0 x1 k r ⟨128 * c + j, by omega⟩ := by
  rw [rot_eq]
  refine (congrFun (View.readCov_eq_canon' arg9.view _ _) _).trans ?_
  have h0 := Rect.idx_unit_val (s := S8x160x1024) ![(30 - k.val) % 8, 8 * ((30 - k.val) / 8), 128 * c.val] S1x128x128.size (inb_slab k c) (ix3 0 r j) 0
  have h1 := Rect.idx_unit_val (s := S8x160x1024) ![(30 - k.val) % 8, 8 * ((30 - k.val) / 8), 128 * c.val] S1x128x128.size (inb_slab k c) (ix3 0 r j) 1
  have h2 := Rect.idx_unit_val (s := S8x160x1024) ![(30 - k.val) % 8, 8 * ((30 - k.val) / 8), 128 * c.val] S1x128x128.size (inb_slab k c) (ix3 0 r j) 2
  generalize (Rect.unit (s := S8x160x1024) ![(30 - k.val) % 8, 8 * ((30 - k.val) / 8), 128 * c.val] S1x128x128.size (inb_slab k c)).idx (ix3 0 r j) = y at h0 h1 h2
  have h0' : (y 0 : ℕ) = (30 - k.val) % 8 + 0 := h0
  have h1' : (y 1 : ℕ) = 8 * ((30 - k.val) / 8) + r := h1
  have h2' : (y 2 : ℕ) = 128 * c + j := h2
  refine (copies_apply i x1 x0 y (by omega)).trans (congrArg _ (ext2 ?_ h2'))
  show (y 0 : ℕ) + y 1 = 30 - k + r
  omega

/-- The convolution's gradient at a tile's row and a column. -/
def da (r : Fin 128) (j : Fin 1024) : EReal := ∑ k : Fin 31, x4 (ix2 k j) * met i x0 x1 k r j

theorem daAt_apply (c : Fin 8) (r j : Fin 128) :
    daAt (F := Ideal) i arg1 harg1 arg2 harg2 arg5 harg5 arg9 x0 x1 x4 c (ix2 r j) = da i x0 x1 x4 r ⟨128 * c + j, by omega⟩ := by
  refine (dconv_apply _ _ _ _ _ _).trans (Finset.sum_congr rfl fun k _ => ?_)
  exact congrArg₂ (· * ·) (tapRow_apply arg5 harg5 x4 c k j) (slab_apply i arg1 harg1 arg2 harg2 arg9 x0 x1 c k r j)

/-- Eight stores, one per lane chunk, read back: if chunk `c` holds `G` at its own columns, the whole holds `G`. -/
theorem stores_apply (P : Fin 8 → FVec Ideal S128x128 .bf16) (G : Fin 128 → Fin 1024 → EReal)
    (h : ∀ c r j, P c (ix2 r j) = G r ⟨128 * c + j, by omega⟩) (r : Fin 128) (j : Fin 1024) :
    View.canon (List.ofFn fun c : Fin 8 =>
      (⟨Rect.unit (s := S128x1024) ![0, 128 * c.rev.val] S128x128.size (inb_chunk c.rev), P c.rev⟩
        : View.Piece (Elt Ideal) S128x1024 .bf16)) (ix2 r j) = G r j := by
  refine View.canon_ofFn_unit_eq_of_forall (Val := Elt Ideal) (S := S128x1024) (e := .bf16)
    (fun c : Fin 8 => ![0, 128 * c.rev.val]) S128x128.size (fun c => inb_chunk c.rev) (fun c => P c.rev) (ix2 r j) _
    ⟨(⟨(j : ℕ) / 128, by omega⟩ : Fin 8).rev, fun a => ?_⟩ fun c x hx => ?_
  · dsimp only
    rw [Fin.rev_rev]
    match a with
    | ⟨0, _⟩ => exact ⟨Nat.zero_le _, show (r : ℕ) < 0 + 128 by omega⟩
    | ⟨1, _⟩ => exact ⟨show 128 * ((j : ℕ) / 128) ≤ j by omega, show (j : ℕ) < 128 * ((j : ℕ) / 128) + 128 by omega⟩
  · obtain ⟨p, q, rfl⟩ : ∃ (p q : Fin 128), x = ix2 p q := ⟨x 0, x 1, ext2 rfl rfl⟩
    have h0 : (r : ℕ) = p := (hx 0).trans (Nat.zero_add _)
    have h1 : (j : ℕ) = 128 * c.rev.val + q := hx 1
    obtain rfl := Fin.ext h0
    refine (h c.rev r q).trans (congrArg (G r) (Fin.ext h1.symm))

/-- The value half's gradient that a point stores. -/
theorem storesV_apply (r : Fin 128) (j : Fin 1024) :
    View.canon (storesV (F := Ideal) i arg1 harg1 arg2 harg2 arg4 harg4 arg5 harg5 arg9 x0 x1 x3 x4) (ix2 r j)
      = da i x0 x1 x4 r j * Ideal.logistic (x3 (ix2 r j)) := by
  refine stores_apply (fun c => dvalue (F := Ideal) (chunk (F := Ideal) arg4 harg4 x3 c)
    (daAt (F := Ideal) i arg1 harg1 arg2 harg2 arg5 harg5 arg9 x0 x1 x4 c))
    (fun r j => da i x0 x1 x4 r j * Ideal.logistic (x3 (ix2 r j))) (fun c r j => ?_) r j
  have hp (g d : FVec Ideal S128x128 .f32) :
      dvalue (F := Ideal) g d (ix2 r j) = d (ix2 r j) * Ideal.logistic (g (ix2 r j)) := by
    pointwise [dvalue, k0_pay14]
  refine (hp _ _).trans ?_
  rw [daAt_apply, chunk_apply]

/-- The gate half's gradient that a point stores. -/
theorem storesG_apply (r : Fin 128) (j : Fin 1024) :
    View.canon (storesG (F := Ideal) i arg1 harg1 arg2 harg2 arg3 harg3 arg4 harg4 arg5 harg5 arg9 x0 x1 x2 x3 x4) (ix2 r j)
      = da i x0 x1 x4 r j * x2 (ix2 r j) * Ideal.logistic (x3 (ix2 r j)) * (1 - Ideal.logistic (x3 (ix2 r j))) := by
  refine stores_apply (fun c => dgateOf (F := Ideal) (chunk (F := Ideal) arg3 harg3 x2 c)
    (chunk (F := Ideal) arg4 harg4 x3 c) (daAt (F := Ideal) i arg1 harg1 arg2 harg2 arg5 harg5 arg9 x0 x1 x4 c))
    (fun r j => da i x0 x1 x4 r j * x2 (ix2 r j) * Ideal.logistic (x3 (ix2 r j)) * (1 - Ideal.logistic (x3 (ix2 r j))))
    (fun c r j => ?_) r j
  have hp (v g d : FVec Ideal S128x128 .f32) :
      dgateOf (F := Ideal) v g d (ix2 r j) = d (ix2 r j) * v (ix2 r j) * Ideal.logistic (g (ix2 r j))
        * (1 - Ideal.logistic (g (ix2 r j))) := by
    pointwise [dgateOf, k0_pay13, k0_pay14]
  refine (hp _ _ _).trans ?_
  rw [daAt_apply, chunk_apply, chunk_apply]

/-- What a tile adds to row `s` of tap `k`'s eight partial sums. -/
def part (k : ℕ) (s : Fin 8) (j : Fin 1024) : EReal :=
  ∑ p : Fin 16, x2 (ix2 ⟨p * 8 + s, by omega⟩ j) * Ideal.logistic (x3 (ix2 ⟨p * 8 + s, by omega⟩ j))
    * met i x0 x1 k ⟨p * 8 + s, by omega⟩ j

/-- One step of the accumulation, at an index. -/
theorem step_apply (n : ℕ) (h : n < 248) (acc : FVec Ideal S1x8x128 .f32) (s : Fin 8) (j : Fin 128) :
    step (F := Ideal) i arg1 harg1 arg2 harg2 arg3 harg3 arg4 harg4 arg9 x0 x1 x2 x3 n h acc (ix3 0 s j)
      = acc (ix3 0 s j) + part i x0 x1 x2 x3 (n % 31) s ⟨128 * (n / 31) + j, by omega⟩ := by
  refine (dtap_apply _ _ _ _ _ _).trans (congrArg (acc (ix3 0 s j) + ·) (Finset.sum_congr rfl fun p _ => ?_))
  rw [chunk_apply, chunk_apply, slab_apply]

/-- Two multi-indices of rank three with equal coordinates are equal. -/
theorem ext3 {a b c : ℕ} {i j : (⟨3, ![a, b, c]⟩ : Shape).Idx} (h0 : (i 0).val = (j 0).val) (h1 : (i 1).val = (j 1).val)
    (h2 : (i 2).val = (j 2).val) : i = j :=
  funext fun k => Fin.ext (match k with | ⟨0, _⟩ => h0 | ⟨1, _⟩ => h1 | ⟨2, _⟩ => h2)

/-- Where step `n` puts its partial sums. -/
theorem stepRect_emb (n : ℕ) (h : n < 248) (x : S1x8x128.Idx) :
    (stepRect n h).emb x = ix3 ⟨n % 31, by omega⟩ (x 1) ⟨128 * (n / 31) + (x 2 : ℕ), by have : (x 2 : ℕ) < 128 := (x 2).isLt; omega⟩ := by
  have h0 := Rect.idx_unit_val (s := S32x8x1024) ![n % 31, 0, 128 * (n / 31)] S1x8x128.size (inb_acc ⟨n % 31, by omega⟩ ⟨n / 31, by omega⟩) x
  have x0 : (x 0 : ℕ) < 1 := (x 0).isLt
  refine funext fun a => Fin.ext ?_
  match a with
  | ⟨0, _⟩ => exact (h0 0).trans (show n % 31 + (x 0 : ℕ) = n % 31 by omega)
  | ⟨1, _⟩ => exact (h0 1).trans (Nat.zero_add _)
  | ⟨2, _⟩ => exact h0 2

/-- The index lies where step `n` puts its partial sums. -/
theorem mem_stepRect (n : ℕ) (h : n < 248) (k : Fin 32) (s : Fin 8) (j : Fin 1024) :
    (ix3 k s j : S32x8x1024.Idx) ∈ (stepRect n h).set ↔ (k : ℕ) < 31 ∧ 31 * ((j : ℕ) / 128) + k = n := by
  constructor
  · intro hm
    obtain ⟨x, hx⟩ := (stepRect n h).exists_idx_of_mem hm
    have hx' := (stepRect_emb n h x).symm.trans hx
    have x2 : (x 2 : ℕ) < 128 := (x 2).isLt
    have e0 : n % 31 = (k : ℕ) := congrArg (fun i : S32x8x1024.Idx => (i 0 : ℕ)) hx'
    have e2 : 128 * (n / 31) + (x 2 : ℕ) = (j : ℕ) := congrArg (fun i : S32x8x1024.Idx => (i 2 : ℕ)) hx'
    omega
  · rintro ⟨hk, rfl⟩
    have e := stepRect_emb _ h (ix3 0 s ⟨(j : ℕ) % 128, by omega⟩)
    have e' : (ix3 k s j : S32x8x1024.Idx) = (stepRect _ h).emb (ix3 0 s ⟨(j : ℕ) % 128, by omega⟩) := by
      rw [e]
      exact ext3 (show (k : ℕ) = _ % 31 by omega) rfl (show (j : ℕ) = 128 * (_ / 31) + (j : ℕ) % 128 by omega)
    rw [e']
    exact (stepRect _ h).idx_mem _

/-- The index that step `n` reads and writes there, in the step's own coordinates. -/
theorem stepRect_preimage (n : ℕ) (h : n < 248) (k : Fin 32) (s : Fin 8) (j : Fin 1024)
    (hm : (ix3 k s j : S32x8x1024.Idx) ∈ (stepRect n h).set) :
    ∃ (p : Fin 8) (q : Fin 128), (stepRect n h).emb (ix3 0 p q) = (ix3 k s j : S32x8x1024.Idx) ∧ n % 31 = (k : ℕ) ∧ p = s
      ∧ (⟨128 * (n / 31) + q, by omega⟩ : Fin 1024) = j := by
  have hk := (mem_stepRect n h k s j).mp hm
  refine ⟨s, ⟨(j : ℕ) % 128, by omega⟩, ?_, by omega, rfl, Fin.ext (show 128 * (n / 31) + (j : ℕ) % 128 = (j : ℕ) by omega)⟩
  rw [stepRect_emb]
  exact ext3 (show n % 31 = (k : ℕ) by omega) rfl (show 128 * (n / 31) + (j : ℕ) % 128 = (j : ℕ) by omega)

theorem part_congr {k k' : ℕ} {s s' : Fin 8} {j j' : Fin 1024} (hk : k = k') (hs : s = s') (hj : j = j') :
    part i x0 x1 x2 x3 k s j = part i x0 x1 x2 x3 k' s' j' := by
  rw [hk, hs, hj]

/-- The accumulator after `n` steps over what the point found in it. -/
theorem storesA_apply (n : ℕ) (h : n ≤ 248) (k : Fin 32) (s : Fin 8) (j : Fin 1024) :
    (arg10.view.read (Elt Ideal) (arg10.view.writes (Elt Ideal) (harg10.unread xs1)
      (storesA (F := Ideal) i arg1 harg1 arg2 harg2 arg3 harg3 arg4 harg4 arg9 arg10 harg10 x0 x1 x2 x3 xs1 n h))
        : FVec Ideal S32x8x1024 .f32) (ix3 k s j)
      = if (k : ℕ) < 31 ∧ 31 * ((j : ℕ) / 128) + k < n then xs1 (ix3 k s j) + part i x0 x1 x2 x3 k s j
        else xs1 (ix3 k s j) := by
  induction n with
  | zero =>
    rw [if_neg (by omega), storesA, View.writes_nil]
    exact congrFun (harg10.read_unread (Val := Elt Ideal) xs1) _
  | succ n ih =>
    rw [storesA]
    by_cases hm : (ix3 k s j : S32x8x1024.Idx) ∈ (stepRect n h).set
    · have hk := (mem_stepRect n h k s j).mp hm
      rw [if_pos ⟨hk.1, by omega⟩]
      obtain ⟨p, q, hx⟩ := stepRect_preimage n h k s j hm
      have e := View.read_writes_cons_emb (Val := Elt Ideal) arg10.view (harg10.unread xs1) (stepRect n h)
        (step (F := Ideal) i arg1 harg1 arg2 harg2 arg3 harg3 arg4 harg4 arg9 x0 x1 x2 x3 n h
          (View.readAt (Elt Ideal) arg10.view (stepRect n h).toLoadRect (harg10.unread xs1)))
        (storesA (F := Ideal) i arg1 harg1 arg2 harg2 arg3 harg3 arg4 harg4 arg9 arg10 harg10 x0 x1 x2 x3 xs1 n (by omega))
        (ix3 0 p q)
      rw [hx.1] at e
      refine e.trans ((step_apply i arg1 harg1 arg2 harg2 arg3 harg3 arg4 harg4 arg9 x0 x1 x2 x3 n h _ p q).trans ?_)
      refine congrArg₂ (· + ·) ?_ (part_congr i x0 x1 x2 x3 hx.2.1 hx.2.2.1 hx.2.2.2)
      exact (harg10.readAt_unread (Val := Elt Ideal) xs1 _ _).trans (congrArg xs1 hx.1)
    · have hk := fun hk => hm ((mem_stepRect n h k s j).mpr hk)
      rw [View.writes_cons]
      refine (View.read_slice_write_of_not_mem (Val := Elt Ideal) (v := arg10.view) (stepRect n h) _ _ _
        (by rwa [Rect.map_emb_univ])).trans ((ih (by omega)).trans (if_congr ?_ rfl rfl))
      constructor
      · exact fun h => ⟨h.1, by omega⟩
      · exact fun h => ⟨h.1, by by_contra hn; exact hk ⟨h.1, by omega⟩⟩

/-- A step's store is not seen elsewhere. -/
theorem canon_cons_away (n : ℕ) (h : n < 248) (w : (stepRect n h).shape.Idx → Elt Ideal .f32)
    (L : List (View.Piece (Elt Ideal) S32x8x1024 .f32)) {y : S32x8x1024.Idx} (hm : y ∉ (stepRect n h).set) :
    View.canon ((⟨stepRect n h, w⟩ : View.Piece (Elt Ideal) S32x8x1024 .f32) :: L) y = View.canon L y :=
  View.canon_cons_of_not_mem _ _ hm

/-- The accumulator after `n` steps of the first point. -/
theorem storesA0_apply (n : ℕ) (h : n ≤ 248) (k : Fin 32) (s : Fin 8) (j : Fin 1024) :
    (View.canon (storesA0 (F := Ideal) i arg1 harg1 arg2 harg2 arg3 harg3 arg4 harg4 arg9 arg10 x0 x1 x2 x3 n h)
        : FVec Ideal S32x8x1024 .f32) (ix3 k s j)
      = if (k : ℕ) < 31 ∧ 31 * ((j : ℕ) / 128) + k < n then part i x0 x1 x2 x3 k s j else 0 := by
  induction n generalizing k s j with
  | zero =>
    rw [if_neg (by omega), storesA0]
    have e := View.canon_cons_emb (Val := Elt Ideal)
      (e := .f32) (Rect.unit (s := S32x8x1024) ![0, 0, 0] S32x8x1024.size inb_S32x8x1024_S32x8x1024_0_0_0)
      (k0_pay12 (F := Ideal)) [] (ix3 k s j)
    have hi : (Rect.unit (s := S32x8x1024) ![0, 0, 0] S32x8x1024.size inb_S32x8x1024_S32x8x1024_0_0_0).emb (ix3 k s j)
        = (ix3 k s j : S32x8x1024.Idx) := by
      have h0 := Rect.idx_unit_val (s := S32x8x1024) ![0, 0, 0] S32x8x1024.size inb_S32x8x1024_S32x8x1024_0_0_0 (ix3 k s j)
      exact ext3 ((h0 0).trans (Nat.zero_add _)) ((h0 1).trans (Nat.zero_add _)) ((h0 2).trans (Nat.zero_add _))
    rw [hi] at e
    refine e.trans ?_
    pointwise [k0_pay12]
  | succ n ih =>
    rw [storesA0]
    by_cases hm : (ix3 k s j : S32x8x1024.Idx) ∈ (stepRect n h).set
    · have hk := (mem_stepRect n h k s j).mp hm
      rw [if_pos ⟨hk.1, by omega⟩]
      obtain ⟨p, q, hx⟩ := stepRect_preimage n h k s j hm
      have e := View.canon_cons_emb (Val := Elt Ideal) (stepRect n h)
        (step (F := Ideal) i arg1 harg1 arg2 harg2 arg3 harg3 arg4 harg4 arg9 x0 x1 x2 x3 n h
          (arg10.view.readCov
            (storesA0 (F := Ideal) i arg1 harg1 arg2 harg2 arg3 harg3 arg4 harg4 arg9 arg10 x0 x1 x2 x3 n (by omega))
            (stepRect n h).toLoadRect))
        (storesA0 (F := Ideal) i arg1 harg1 arg2 harg2 arg3 harg3 arg4 harg4 arg9 arg10 x0 x1 x2 x3 n (by omega))
        (ix3 0 p q)
      rw [hx.1] at e
      refine e.trans ((step_apply i arg1 harg1 arg2 harg2 arg3 harg3 arg4 harg4 arg9 x0 x1 x2 x3 n h _ p q).trans ?_)
      refine Eq.trans (congrArg₂ (· + ·) ?_ (part_congr i x0 x1 x2 x3 hx.2.1 hx.2.2.1 hx.2.2.2)) (zero_add _)
      have e0 := (ih (by omega) k s j).trans (if_neg (by omega))
      rw [← hx.1] at e0
      exact (congrFun (View.readCov_eq_canon' (Val := Elt Ideal) arg10.view
        (storesA0 (F := Ideal) i arg1 harg1 arg2 harg2 arg3 harg3 arg4 harg4 arg9 arg10 x0 x1 x2 x3 n (by omega))
        (stepRect n h).toLoadRect) (ix3 0 p q)).trans e0
    · have hk := fun hk => hm ((mem_stepRect n h k s j).mpr hk)
      have e := canon_cons_away n h
        (step (F := Ideal) i arg1 harg1 arg2 harg2 arg3 harg3 arg4 harg4 arg9 x0 x1 x2 x3 n h
          (arg10.view.readCov (storesA0 (F := Ideal) i arg1 harg1 arg2 harg2 arg3 harg3 arg4 harg4 arg9 arg10
            x0 x1 x2 x3 n (Nat.le_of_succ_le h)) (stepRect n h).toLoadRect))
        (storesA0 (F := Ideal) i arg1 harg1 arg2 harg2 arg3 harg3 arg4 harg4 arg9 arg10 x0 x1 x2 x3 n
          (Nat.le_of_succ_le h)) hm
      refine (show _ from e).trans ((ih (Nat.le_of_succ_le h) k s j).trans (if_congr ?_ rfl rfl))
      constructor
      · exact fun h => ⟨h.1, by omega⟩
      · exact fun h => ⟨h.1, by by_contra hn; exact hk ⟨h.1, by omega⟩⟩

end point

end Cert.GluConvProof
-- ==== Proof.ConvPoints.lean ====
/-
  What the convolution's backward pass holds after each grid point, from the arguments.
-/
module

public import proofs.«01_k».proof.Proof.ConvTile

@[expose] public section

set_option maxRecDepth 16384

noncomputable section

namespace Cert.GluConvProof

open Idealize.ShloMosaic Idealize.ShloMosaic.TcCoe Idealize.SL.Sem
open Idealize.ShloMosaic.Pipeline (Dat)
open Cert.GluConvIdeal Cert.GluConvIdeal.Gen
open Cert.Common

section point

variable (c : Dev nD) (i : grid0.Coords)
  (arg1 : Memref sig .tc .vmem S128x1024 .f32) (harg1 : arg1.IsWhole)
  (arg2 : Memref sig .tc .vmem S32x1024 .f32) (harg2 : arg2.IsWhole)
  (arg3 : Memref sig .tc .vmem S128x1024 .f32) (harg3 : arg3.IsWhole)
  (arg4 : Memref sig .tc .vmem S128x1024 .f32) (harg4 : arg4.IsWhole)
  (arg5 : Memref sig .tc .vmem S31x1024 .f32) (harg5 : arg5.IsWhole)
  (arg6 : Memref sig .tc .vmem S128x1024 .bf16) (harg6 : arg6.IsWhole)
  (arg7 : Memref sig .tc .vmem S128x1024 .bf16) (harg7 : arg7.IsWhole)
  (arg8 : Memref sig .tc .vmem S32x1024 .f32) (harg8 : arg8.IsWhole)
  (arg9 : Memref sig .tc .vmem S8x160x1024 .f32) (harg9 : arg9.IsWhole)
  (arg10 : Memref sig .tc .vmem S32x8x1024 .f32) (harg10 : arg10.IsWhole)
  (x0 : FVec Ideal S128x1024 .f32) (x1 : FVec Ideal S32x1024 .f32) (x2 : FVec Ideal S128x1024 .f32)
  (x3 : FVec Ideal S128x1024 .f32) (x4 : FVec Ideal S31x1024 .f32) (xs1 : FVec Ideal S32x8x1024 .f32)

/-- The value half's gradient that the first point leaves. -/
theorem out_A_V (hc0 : cond0_0 i) (hc1 : ¬cond0_1 i) (r : Fin 128) (j : Fin 1024) :
    (out0_A_5 (F := Ideal) c i arg1 harg1 arg2 harg2 arg3 harg3 arg4 harg4 arg5 harg5 arg6 harg6 arg7 harg7 arg8 harg8 arg9 harg9 arg10 harg10 hc0 hc1 x0 x1 x2 x3 x4 : FVec Ideal S128x1024 .bf16) (ix2 r j)
      = da i x0 x1 x4 r j * Ideal.logistic (x3 (ix2 r j)) := by
  rw [out0_A_5, run_A_V, View.read_writes_junk_eq_canon]
  exact storesV_apply i arg1 harg1 arg2 harg2 arg4 harg4 arg5 harg5 arg9 x0 x1 x3 x4 r j

/-- The gate half's gradient that the first point leaves. -/
theorem out_A_G (hc0 : cond0_0 i) (hc1 : ¬cond0_1 i) (r : Fin 128) (j : Fin 1024) :
    (out0_A_6 (F := Ideal) c i arg1 harg1 arg2 harg2 arg3 harg3 arg4 harg4 arg5 harg5 arg6 harg6 arg7 harg7 arg8 harg8 arg9 harg9 arg10 harg10 hc0 hc1 x0 x1 x2 x3 x4 : FVec Ideal S128x1024 .bf16) (ix2 r j)
      = da i x0 x1 x4 r j * x2 (ix2 r j) * Ideal.logistic (x3 (ix2 r j)) * (1 - Ideal.logistic (x3 (ix2 r j))) := by
  rw [out0_A_6, run_A_G, View.read_writes_junk_eq_canon]
  exact storesG_apply i arg1 harg1 arg2 harg2 arg3 harg3 arg4 harg4 arg5 harg5 arg9 x0 x1 x2 x3 x4 r j

/-- The accumulator that the first point leaves. -/
theorem acc_A (hc0 : cond0_0 i) (hc1 : ¬cond0_1 i) (k : Fin 32) (hk : k.val < 31) (s : Fin 8) (j : Fin 1024) :
    (sout0_A_1 (F := Ideal) c i arg1 harg1 arg2 harg2 arg3 harg3 arg4 harg4 arg5 harg5 arg6 harg6 arg7 harg7 arg8 harg8 arg9 harg9 arg10 harg10 hc0 hc1 x0 x1 x2 x3 x4 : FVec Ideal S32x8x1024 .f32) (ix3 k s j)
      = part i x0 x1 x2 x3 k s j := by
  rw [sout0_A_1, run_A_A, View.read_writes_junk_eq_canon]
  exact (storesA0_apply i arg1 harg1 arg2 harg2 arg3 harg3 arg4 harg4 arg9 arg10 x0 x1 x2 x3 248 le_rfl k s j).trans
    (if_pos ⟨hk, by omega⟩)

/-- The value half's gradient that the middle point leaves. -/
theorem out_B_V (hc0 : ¬cond0_0 i) (hc1 : ¬cond0_1 i) (r : Fin 128) (j : Fin 1024) :
    (out0_B_5 (F := Ideal) c i arg1 harg1 arg2 harg2 arg3 harg3 arg4 harg4 arg5 harg5 arg6 harg6 arg7 harg7 arg8 harg8 arg9 harg9 arg10 harg10 hc0 hc1 x0 x1 x2 x3 x4 xs1 : FVec Ideal S128x1024 .bf16) (ix2 r j)
      = da i x0 x1 x4 r j * Ideal.logistic (x3 (ix2 r j)) := by
  rw [out0_B_5, run_B_V, View.read_writes_junk_eq_canon]
  exact storesV_apply i arg1 harg1 arg2 harg2 arg4 harg4 arg5 harg5 arg9 x0 x1 x3 x4 r j

/-- The gate half's gradient that the middle point leaves. -/
theorem out_B_G (hc0 : ¬cond0_0 i) (hc1 : ¬cond0_1 i) (r : Fin 128) (j : Fin 1024) :
    (out0_B_6 (F := Ideal) c i arg1 harg1 arg2 harg2 arg3 harg3 arg4 harg4 arg5 harg5 arg6 harg6 arg7 harg7 arg8 harg8 arg9 harg9 arg10 harg10 hc0 hc1 x0 x1 x2 x3 x4 xs1 : FVec Ideal S128x1024 .bf16) (ix2 r j)
      = da i x0 x1 x4 r j * x2 (ix2 r j) * Ideal.logistic (x3 (ix2 r j)) * (1 - Ideal.logistic (x3 (ix2 r j))) := by
  rw [out0_B_6, run_B_G, View.read_writes_junk_eq_canon]
  exact storesG_apply i arg1 harg1 arg2 harg2 arg3 harg3 arg4 harg4 arg5 harg5 arg9 x0 x1 x2 x3 x4 r j

/-- The accumulator that the middle point leaves. -/
theorem acc_B (hc0 : ¬cond0_0 i) (hc1 : ¬cond0_1 i) (k : Fin 32) (hk : k.val < 31) (s : Fin 8) (j : Fin 1024) :
    (sout0_B_1 (F := Ideal) c i arg1 harg1 arg2 harg2 arg3 harg3 arg4 harg4 arg5 harg5 arg6 harg6 arg7 harg7 arg8 harg8 arg9 harg9 arg10 harg10 hc0 hc1 x0 x1 x2 x3 x4 xs1 : FVec Ideal S32x8x1024 .f32) (ix3 k s j)
      = xs1 (ix3 k s j) + part i x0 x1 x2 x3 k s j := by
  rw [sout0_B_1, run_B_A]
  exact (storesA_apply i arg1 harg1 arg2 harg2 arg3 harg3 arg4 harg4 arg9 arg10 harg10 x0 x1 x2 x3 xs1 248 le_rfl k s j).trans
    (if_pos ⟨hk, by omega⟩)

/-- The value half's gradient that the last point leaves. -/
theorem out_C_V (hc0 : ¬cond0_0 i) (hc1 : cond0_1 i) (r : Fin 128) (j : Fin 1024) :
    (out0_C_5 (F := Ideal) c i arg1 harg1 arg2 harg2 arg3 harg3 arg4 harg4 arg5 harg5 arg6 harg6 arg7 harg7 arg8 harg8 arg9 harg9 arg10 harg10 hc0 hc1 x0 x1 x2 x3 x4 xs1 : FVec Ideal S128x1024 .bf16) (ix2 r j)
      = da i x0 x1 x4 r j * Ideal.logistic (x3 (ix2 r j)) := by
  rw [out0_C_5, run_C_V, View.read_writes_junk_eq_canon]
  exact storesV_apply i arg1 harg1 arg2 harg2 arg4 harg4 arg5 harg5 arg9 x0 x1 x3 x4 r j

/-- The gate half's gradient that the last point leaves. -/
theorem out_C_G (hc0 : ¬cond0_0 i) (hc1 : cond0_1 i) (r : Fin 128) (j : Fin 1024) :
    (out0_C_6 (F := Ideal) c i arg1 harg1 arg2 harg2 arg3 harg3 arg4 harg4 arg5 harg5 arg6 harg6 arg7 harg7 arg8 harg8 arg9 harg9 arg10 harg10 hc0 hc1 x0 x1 x2 x3 x4 xs1 : FVec Ideal S128x1024 .bf16) (ix2 r j)
      = da i x0 x1 x4 r j * x2 (ix2 r j) * Ideal.logistic (x3 (ix2 r j)) * (1 - Ideal.logistic (x3 (ix2 r j))) := by
  rw [out0_C_6, run_C_G, View.read_writes_junk_eq_canon]
  exact storesG_apply i arg1 harg1 arg2 harg2 arg3 harg3 arg4 harg4 arg5 harg5 arg9 x0 x1 x2 x3 x4 r j

/-- The accumulator that the last point leaves. -/
theorem acc_C (hc0 : ¬cond0_0 i) (hc1 : cond0_1 i) (k : Fin 32) (hk : k.val < 31) (s : Fin 8) (j : Fin 1024) :
    (sout0_C_1 (F := Ideal) c i arg1 harg1 arg2 harg2 arg3 harg3 arg4 harg4 arg5 harg5 arg6 harg6 arg7 harg7 arg8 harg8 arg9 harg9 arg10 harg10 hc0 hc1 x0 x1 x2 x3 x4 xs1 : FVec Ideal S32x8x1024 .f32) (ix3 k s j)
      = xs1 (ix3 k s j) + part i x0 x1 x2 x3 k s j := by
  rw [sout0_C_1, run_C_A]
  exact (storesA_apply i arg1 harg1 arg2 harg2 arg3 harg3 arg4 harg4 arg9 arg10 harg10 x0 x1 x2 x3 xs1 248 le_rfl k s j).trans
    (if_pos ⟨hk, by omega⟩)

/-- The taps' gradient that the last point leaves: the accumulator's eight partial sums added. -/
theorem out_C_W (hc0 : ¬cond0_0 i) (hc1 : cond0_1 i) (k : Fin 32) (j : Fin 1024) :
    (out0_C_7 (F := Ideal) c i arg1 harg1 arg2 harg2 arg3 harg3 arg4 harg4 arg5 harg5 arg6 harg6 arg7 harg7 arg8 harg8 arg9 harg9 arg10 harg10 hc0 hc1 x0 x1 x2 x3 x4 xs1 : FVec Ideal S32x1024 .f32) (ix2 k j)
      = ∑ s : Fin 8, (sout0_C_1 (F := Ideal) c i arg1 harg1 arg2 harg2 arg3 harg3 arg4 harg4 arg5 harg5 arg6 harg6 arg7 harg7 arg8 harg8 arg9 harg9 arg10 harg10 hc0 hc1 x0 x1 x2 x3 x4 xs1 : FVec Ideal S32x8x1024 .f32) (ix3 k s j) := by
  rw [out0_C_7, run_C_W, View.read_writes_junk_eq_canon, sout0_C_1, run_C_A]
  generalize arg10.view.writes (Elt Ideal) (harg10.unread xs1)
    (storesA (F := Ideal) i arg1 harg1 arg2 harg2 arg3 harg3 arg4 harg4 arg9 arg10 harg10 x0 x1 x2 x3 xs1 248 le_rfl) = b
  have e := View.canon_cons_emb (Val := Elt Ideal) (e := .f32)
    (Rect.unit (s := S32x1024) ![0, 0] S32x1024.size inb_S32x1024_S32x1024_0_0)
    (k0_pay2 (F := Ideal) (View.readAt (Elt Ideal) arg10.view
      (Rect.unit (s := S32x8x1024) ![0, 0, 0] S32x8x1024.size inb_S32x8x1024_S32x8x1024_0_0_0).toLoadRect b)) [] (ix2 k j)
  have hi : (Rect.unit (s := S32x1024) ![0, 0] S32x1024.size inb_S32x1024_S32x1024_0_0).emb (ix2 k j)
      = (ix2 k j : S32x1024.Idx) := by
    have h0 := Rect.idx_unit_val (s := S32x1024) ![0, 0] S32x1024.size inb_S32x1024_S32x1024_0_0 (ix2 k j)
    exact ext2 ((h0 0).trans (Nat.zero_add _)) ((h0 1).trans (Nat.zero_add _))
  rw [hi] at e
  refine e.trans ?_
  have hp (a : FVec Ideal S32x8x1024 .f32) : k0_pay2 (F := Ideal) a (ix2 k j) = ∑ s : Fin 8, a (ix3 k s j) := by
    pointwise [k0_pay2]
  refine (hp _).trans (Finset.sum_congr rfl fun s _ => ?_)
  have h0 := Rect.idx_unit_val (s := S32x8x1024) ![0, 0, 0] S32x8x1024.size inb_S32x8x1024_S32x8x1024_0_0_0 (ix3 k s j)
  exact congrArg (arg10.view.read (Elt Ideal) b)
    (ext3 ((h0 0).trans (Nat.zero_add _)) ((h0 1).trans (Nat.zero_add _)) ((h0 2).trans (Nat.zero_add _)))

end point

variable (m : (ℓ : Loc nD τ sig) → Buf (Elt Ideal) ℓ)

/-- The blocks each grid point reads and writes; only the last point has no tile after it. -/
theorem idx : ∀ t : Fin cfg0.N, win0_0.index t = ![t.val, 0] ∧ win0_1.index t = ![min ((t.val + 1) * 4) 67, 0]
    ∧ win0_2.index t = ![t.val, 1] ∧ win0_3.index t = ![t.val, 2] ∧ win0_4.index t = ![0, 0]
    ∧ win0_5.index t = ![t.val, 0] ∧ win0_6.index t = ![t.val, 0] ∧ win0_7.index t = ![0, 0] ∧ t.val < 17
    ∧ (Scalar.extui (Scalar.cmpi .slt (BitVec.ofNat 32 (grid0.coords t 0).val) 16#32) : BitVec 32)
        = if t.val < 16 then 1#32 else 0#32 :=
  (by decide +kernel : ∀ t : Fin grid0.N, _)

/-- The fill of the front rows is zero. -/
theorem fill_zero (i : S_.Idx) : ((sitofp .f32 (constantI S_ 32 0#32) : FVec Ideal S_ .f32) i : EReal) = 0 := sitofp_zero

/-- What the region finds in its operands: the arguments, those with rows behind rows of zeros. -/
theorem entries (c : Dev nD) : V m c main_v0 = frontA (m ((c : Thread nD τ).loc main_arg2)) .f32
    ∧ V m c main_v1 = frontA (m ((c : Thread nD τ).loc main_arg0)) .f32
    ∧ V m c main_arg1 = m ((c : Thread nD τ).loc main_arg1) := by
  refine ⟨?_, ?_, V_main_arg1 m c⟩ <;> unfold V V0 <;>
    simp only [hostOps0, hostOps0_1, hostOps0_2, hostOps0_3,
      List.flatten_cons, List.flatten_nil, List.append_nil, List.cons_append, List.nil_append] <;> after_results
  · exact pad_front (m ((c : Thread nD τ).loc main_arg2)) pads_S2064x1024_S2176x1024_11200_000 h_S_ _ fill_zero
  · exact pad_front (m ((c : Thread nD τ).loc main_arg0)) pads_S2064x3072_S2176x3072_11200_000 h_S_ _ fill_zero

/-- The tile of the cotangent. -/
theorem blk0 (c : Dev nD) (t : Fin cfg0.N) (r : Fin 128) (j : Fin 1024) :
    (iblk m c 0 t : FVec Ideal S128x1024 .f32) (ix2 r j) = front (m ((c : Thread nD τ).loc main_arg2)) (t.val * 128 + r.val) j := by
  have h0 := (idx t).1
  show V m c main_v0 (((cfg0.win 0).blk t).view.emb (ix2 r j)) = _
  rw [(entries m c).1]
  exact front_congr _ (by blk_simp [h0]) (by blk_simp [h0])

/-- The 32 rows that follow it. -/
theorem blk1 (c : Dev nD) (t : Fin cfg0.N) (r : Fin 32) (j : Fin 1024) :
    (iblk m c 1 t : FVec Ideal S32x1024 .f32) (ix2 r j)
      = front (m ((c : Thread nD τ).loc main_arg2)) (min ((t.val + 1) * 4) 67 * 32 + r.val) j := by
  have h0 := (idx t).2.1
  show V m c main_v0 (((cfg0.win 1).blk t).view.emb (ix2 r j)) = _
  rw [(entries m c).1]
  exact front_congr _ (by blk_simp [h0]) (by blk_simp [h0])

/-- The tile of the value half. -/
theorem blk2 (c : Dev nD) (t : Fin cfg0.N) (r : Fin 128) (j : Fin 1024) :
    (iblk m c 2 t : FVec Ideal S128x1024 .f32) (ix2 r j)
      = front (m ((c : Thread nD τ).loc main_arg0)) (t.val * 128 + r.val) (⟨1024 + j.val, by omega⟩ : Fin 3072) := by
  have h0 := (idx t).2.2.1
  show V m c main_v1 (((cfg0.win 2).blk t).view.emb (ix2 r j)) = _
  rw [(entries m c).2.1]
  exact front_congr _ (by blk_simp [h0]) (by blk_simp [h0])

/-- The tile of the gate half. -/
theorem blk3 (c : Dev nD) (t : Fin cfg0.N) (r : Fin 128) (j : Fin 1024) :
    (iblk m c 3 t : FVec Ideal S128x1024 .f32) (ix2 r j)
      = front (m ((c : Thread nD τ).loc main_arg0)) (t.val * 128 + r.val) (⟨2048 + j.val, by omega⟩ : Fin 3072) := by
  have h0 := (idx t).2.2.2.1
  show V m c main_v1 (((cfg0.win 3).blk t).view.emb (ix2 r j)) = _
  rw [(entries m c).2.1]
  exact front_congr _ (by blk_simp [h0]) (by blk_simp [h0])

/-- The taps. -/
theorem blk4 (c : Dev nD) (t : Fin cfg0.N) (k : Fin 31) (j : Fin 1024) :
    (iblk m c 4 t : FVec Ideal S31x1024 .f32) (ix2 k j)
      = (m ((c : Thread nD τ).loc main_arg1) : FVec Ideal S31x1024 .f32) (ix2 k j) := by
  have h0 := (idx t).2.2.2.2.1
  show V m c main_arg1 (((cfg0.win 4).blk t).view.emb (ix2 k j)) = _
  rw [(entries m c).2.2]
  exact congrArg (m ((c : Thread nD τ).loc main_arg1)) (ext2 (by blk_simp [h0]) (by blk_simp [h0]))

/-- The tile has a successor but at the last point. -/
theorem follows_eq (t : Fin cfg0.N) : follows (grid0.coords t) = if t.val < 16 then 1 else 0 := by
  rw [follows, (idx t).2.2.2.2.2.2.2.2.2]
  split
  · show (((1#32 : BitVec 32).toInt : ℝ) : EReal) = 1
    simp
  · show (((0#32 : BitVec 32).toInt : ℝ) : EReal) = 0
    simp

/-- The row of the cotangent that tap `k` meets at row `r` of tile `t` is `30 - k` rows further on. -/
theorem met_eq (c : Dev nD) (t : Fin cfg0.N) (k : ℕ) (r : Fin 128) (j : Fin 1024) :
    met (grid0.coords t) (iblk m c 0 t) (iblk m c 1 t) k r j
      = front (m ((c : Thread nD τ).loc main_arg2)) (t.val * 128 + r.val + (30 - k)) j := by
  have ht := (idx t).2.2.2.2.2.2.2.2.1
  rw [met, ext_apply]
  split
  · rename_i h
    refine (blk0 m c t _ j).trans (front_congr _ ?_ rfl)
    dsimp only at h ⊢
    omega
  · rename_i h
    dsimp only at h
    rw [follows_eq]
    by_cases h16 : t.val < 16
    · rw [if_pos h16, mul_one]
      refine (blk1 m c t _ j).trans (front_congr _ ?_ rfl)
      dsimp only
      omega
    · rw [if_neg h16, mul_zero, front, dif_neg (by omega)]

/-- The convolution's gradient at row `R`. -/
def daRow (D : FVec Ideal S2064x1024 .f32) (w : FVec Ideal S31x1024 .f32) (R : ℕ) (j : Fin 1024) : EReal :=
  ∑ k : Fin 31, w (ix2 k j) * front D (R + (30 - k.val)) j

/-- It is what a point computes at its rows. -/
theorem da_eq (c : Dev nD) (t : Fin cfg0.N) (r : Fin 128) (j : Fin 1024) :
    da (grid0.coords t) (iblk m c 0 t) (iblk m c 1 t) (iblk m c 4 t) r j
      = daRow (m ((c : Thread nD τ).loc main_arg2)) (m ((c : Thread nD τ).loc main_arg1)) (t.val * 128 + r.val) j :=
  Finset.sum_congr rfl fun k _ => congrArg₂ (· * ·) (blk4 m c t k j) (met_eq m c t k r j)

/-- The value half at row `R`. -/
abbrev valueRow (P : FVec Ideal S2064x3072 .f32) (R : ℕ) (j : Fin 1024) : EReal := front P R (⟨1024 + j.val, by omega⟩ : Fin 3072)

/-- The gate at row `R`. -/
abbrev gateRow (P : FVec Ideal S2064x3072 .f32) (R : ℕ) (j : Fin 1024) : EReal :=
  Ideal.logistic (front P R (⟨2048 + j.val, by omega⟩ : Fin 3072))

/-- The value half's gradient after a point. -/
theorem after_V (c : Dev nD) (t : Fin cfg0.N) (r : Fin 128) (j : Fin 1024) :
    ((outsAt0 m c t.val t.isLt).1 : FVec Ideal S128x1024 .bf16) (ix2 r j)
      = daRow (m ((c : Thread nD τ).loc main_arg2)) (m ((c : Thread nD τ).loc main_arg1)) (t.val * 128 + r.val) j
        * gateRow (m ((c : Thread nD τ).loc main_arg0)) (t.val * 128 + r.val) j := by
  rw [← da_eq, gateRow, ← blk3 m c t r j]
  by_cases h0 : t.val % 17 = 0
  · rw [outsAt0_A m c t h0 (by omega)]
    dsimp only
    exact out_A_V ..
  · by_cases h1 : t.val % 17 = 16
    · rw [outsAt0_C m c t h0 h1]
      dsimp only
      exact out_C_V ..
    · rw [outsAt0_B m c t h0 h1]
      dsimp only
      exact out_B_V ..

/-- The gate half's gradient after a point. -/
theorem after_G (c : Dev nD) (t : Fin cfg0.N) (r : Fin 128) (j : Fin 1024) :
    ((outsAt0 m c t.val t.isLt).2.1 : FVec Ideal S128x1024 .bf16) (ix2 r j)
      = daRow (m ((c : Thread nD τ).loc main_arg2)) (m ((c : Thread nD τ).loc main_arg1)) (t.val * 128 + r.val) j
        * valueRow (m ((c : Thread nD τ).loc main_arg0)) (t.val * 128 + r.val) j
        * gateRow (m ((c : Thread nD τ).loc main_arg0)) (t.val * 128 + r.val) j
        * (1 - gateRow (m ((c : Thread nD τ).loc main_arg0)) (t.val * 128 + r.val) j) := by
  rw [← da_eq, gateRow, ← blk3 m c t r j, valueRow, ← blk2 m c t r j]
  by_cases h0 : t.val % 17 = 0
  · rw [outsAt0_A m c t h0 (by omega)]
    dsimp only
    exact out_A_G ..
  · by_cases h1 : t.val % 17 = 16
    · rw [outsAt0_C m c t h0 h1]
      dsimp only
      exact out_C_G ..
    · rw [outsAt0_B m c t h0 h1]
      dsimp only
      exact out_B_G ..

/-- One row's product in the gradient of tap `k`. -/
def prodRow (P : FVec Ideal S2064x3072 .f32) (D : FVec Ideal S2064x1024 .f32) (k : ℕ) (j : Fin 1024) (R : ℕ) : EReal :=
  valueRow P R j * gateRow P R j * front D (R + (30 - k)) j

/-- The partial sum a point adds. -/
theorem part_eq (c : Dev nD) (t : Fin cfg0.N) (k : ℕ) (s : Fin 8) (j : Fin 1024) :
    part (grid0.coords t) (iblk m c 0 t) (iblk m c 1 t) (iblk m c 2 t) (iblk m c 3 t) k s j
      = ∑ p : Fin 16, prodRow (m ((c : Thread nD τ).loc main_arg0)) (m ((c : Thread nD τ).loc main_arg2)) k j
          (t.val * 128 + (p.val * 8 + s.val)) :=
  Finset.sum_congr rfl fun p _ => congrArg₂ (· * ·)
    (congrArg₂ (· * ·) (blk2 m c t _ j) (congrArg Ideal.logistic (blk3 m c t _ j))) (met_eq m c t k _ j)

/-- The accumulator after the first point. -/
theorem acc_first (c : Dev nD) (t : Fin cfg0.N) (h0 : t.val % 17 = 0) (k : Fin 32) (hk : k.val < 31) (s : Fin 8) (j : Fin 1024) :
    ((outsAt0 m c t.val t.isLt).2.2.2 : FVec Ideal S32x8x1024 .f32) (ix3 k s j)
      = part (grid0.coords t) (iblk m c 0 t) (iblk m c 1 t) (iblk m c 2 t) (iblk m c 3 t) k s j := by
  rw [outsAt0_A m c t h0 (by omega)]
  dsimp only
  exact acc_A (k := k) (hk := hk) (s := s) (j := j) ..

/-- The accumulator after a later point. -/
theorem acc_next (c : Dev nD) (t : Fin cfg0.N) (h0 : ¬t.val % 17 = 0) (k : Fin 32) (hk : k.val < 31) (s : Fin 8) (j : Fin 1024) :
    ((outsAt0 m c t.val t.isLt).2.2.2 : FVec Ideal S32x8x1024 .f32) (ix3 k s j)
      = ((outsAt0 m c (t.val - 1) (Nat.lt_of_le_of_lt (Nat.sub_le _ _) t.isLt)).2.2.2 : FVec Ideal S32x8x1024 .f32) (ix3 k s j)
        + part (grid0.coords t) (iblk m c 0 t) (iblk m c 1 t) (iblk m c 2 t) (iblk m c 3 t) k s j := by
  by_cases h1 : t.val % 17 = 16
  · rw [outsAt0_C m c t h0 h1]
    dsimp only
    exact acc_C (k := k) (hk := hk) (s := s) (j := j) ..
  · rw [outsAt0_B m c t h0 h1]
    dsimp only
    exact acc_B (k := k) (hk := hk) (s := s) (j := j) ..

/-- The taps' gradient after the last point, from the accumulator. -/
theorem after_W (c : Dev nD) (t : Fin cfg0.N) (h1 : t.val % 17 = 16) (k : Fin 32) (j : Fin 1024) :
    ((outsAt0 m c t.val t.isLt).2.2.1 : FVec Ideal S32x1024 .f32) (ix2 k j)
      = ∑ s : Fin 8, ((outsAt0 m c t.val t.isLt).2.2.2 : FVec Ideal S32x8x1024 .f32) (ix3 k s j) := by
  rw [outsAt0_C m c t (by omega) h1]
  dsimp only
  exact out_C_W ..

/-- The taps' gradient after the last point is the sum over all rows. -/
theorem after_W_eq (c : Dev nD) (t : Fin cfg0.N) (h1 : t.val % 17 = 16) (k : Fin 32) (hk : k.val < 31) (j : Fin 1024) :
    ((outsAt0 m c t.val t.isLt).2.2.1 : FVec Ideal S32x1024 .f32) (ix2 k j)
      = ∑ R : Fin 2176, prodRow (m ((c : Thread nD τ).loc main_arg0)) (m ((c : Thread nD τ).loc main_arg2)) k j R.val := by
  have ht := (idx t).2.2.2.2.2.2.2.2.1
  have hN : cfg0.N = 17 := N_0
  rw [after_W m c t h1]
  have key (s : Fin 8) := Pipeline.eq_sum_fin_of_reset_step_apply_last
    (fun n h (_ : Unit) => ((outsAt0 m c n h).2.2.2 : FVec Ideal S32x8x1024 .f32) (ix3 k s j)) 17 (fun _ => (0 : EReal))
    (fun t _ => part (grid0.coords t) (iblk m c 0 t) (iblk m c 1 t) (iblk m c 2 t) (iblk m c 3 t) k s j)
    (fun t h _ => (acc_first m c t h k hk s j).trans (zero_add _).symm)
    (fun t h _ => acc_next m c t h k hk s j) (le_of_eq N_0) t (by omega) ()
  refine (Finset.sum_congr rfl fun s _ => (key s).trans (zero_add _)).trans ?_
  rw [Finset.sum_comm]
  simp only [part_eq]
  generalize prodRow (m ((c : Thread nD τ).loc main_arg0)) (m ((c : Thread nD τ).loc main_arg2)) k j = f
  refine (Finset.sum_congr rfl fun x _ => (Finset.sum_comm).trans
    (Fin.sum_mul_add_fin (L := 128) 16 8 (fun l => f (x.val * 128 + l.val)) rfl)).trans ?_
  exact Fin.sum_mul_add_fin (L := 2176) cfg0.N 128 (fun l => f l.val) (by rw [hN])
-- ==== Proof.ConvRef.lean ====
/-
  The reference's gradients of the gated convolution, read at an index: its 31 unrolled taps are named once, for any tap.
-/
module

public import proofs.«01_k».proof.Proof.Gen.GluConvRefIdeal.Read
public import proofs.«01_k».proof.Proof.Common

@[expose] public section

set_option maxRecDepth 16384

noncomputable section

namespace Cert.GluConvRefProof

open Idealize.ShloMosaic Idealize.ShloMosaic.TcCoe Idealize.SL.Sem
open Cert.GluConvRefIdeal Cert.GluConvRefIdeal.Gen Cert.GluConvRefIdeal.Read
open Cert.Common

variable {F : FTy → Type} [FloatOps F]

/-- The rows that tap `k` reads lie in the padded array. -/
theorem slices_rows (k : Fin 31) : S2094x1024.Slices ![k.val, 0] S2064x1024 := by
  revert k; decide

/-- Tap `k` is a row of the taps. -/
theorem slices_tap (k : Fin 31) : S31x1024.Slices ![k.val, 0] S1x1024 := by
  revert k; decide

/-- One tap's gradient with zeros at the other taps. -/
theorem pads_tap (k : Fin 31) : S1x1024.Pads ![k.val, 0] ![30 - k.val, 0] ![0, 0] S31x1024 := by
  revert k; decide

/-- One tap's part of the input's gradient with zeros in the rows it does not reach. -/
theorem pads_rows (k : Fin 31) : S2064x1024.Pads ![k.val, 0] ![30 - k.val, 0] ![0, 0] S2094x1024 := by
  revert k; decide

/-- The zero that fills and that sums start from. -/
def zeroF : FVec F S_ .f32 := constant S_ .f32 0x00000000#32

/-- Tap `k`'s part of the taps' gradient. -/
def dwTap (a : FVec F S2094x1024 .f32) (d : FVec F S2064x1024 .f32) (k : Fin 31) : FVec F S31x1024 .f32 :=
  pad S31x1024 ![k.val, 0] ![30 - k.val, 0] ![0, 0]
    (broadcastInDim S1x1024 ![1] bcast_S1024_S1x1024_1 (Host.reduceAdd
      (shapeCast S1x1024 (Host.reduceAdd (mulf (extractStridedSlice S2064x1024 ![k.val, 0] a (slices_rows k)) d) zeroF
        reducesTo_S2064x1024_S1024_d0 h_S_) shapeCasts_S1024_S1x1024) zeroF reducesTo_S1x1024_S1024_d0 h_S_))
    zeroF (pads_tap k) h_S_

/-- Tap `k`'s part of the input's gradient. -/
def daTap (w : FVec F S31x1024 .f32) (d : FVec F S2064x1024 .f32) (k : Fin 31) : FVec F S2094x1024 .f32 :=
  pad S2094x1024 ![k.val, 0] ![30 - k.val, 0] ![0, 0]
    (mulf d (broadcastInDim S2064x1024 ![0, 1] bcast_S1x1024_S2064x1024_0_1 (broadcastInDim S1x1024 ![1] bcast_S1024_S1x1024_1
      (shapeCast S1024 (extractStridedSlice S1x1024 ![k.val, 0] w (slices_tap k)) shapeCasts_S1x1024_S1024))))
    zeroF (pads_rows k) h_S_

/-- The parts of the taps from the last one down, added. -/
def fold {s : Shape} (f : Fin 31 → FVec F s .f32) : ℕ → FVec F s .f32
  | 0 => f 30
  | n + 1 => addf (fold f n) (f ⟨30 - (n + 1), by omega⟩)

/-- The reference's gradient of the taps. -/
theorem dw_eq (x0 : FVec F S2064x3072 .f32) (x2 : FVec F S2064x1024 .f32) :
    val_main_v572 (F := F) x0 x2 = fold (dwTap (val_main_v14 (F := F) x0) (val_main_v234 (F := F) x2)) 30 := rfl

/-- The reference's gradient of the padded input. -/
theorem da_eq (x1 : FVec F S31x1024 .f32) (x2 : FVec F S2064x1024 .f32) :
    val_main_v574 (F := F) x1 x2 = fold (daTap x1 (val_main_v234 (F := F) x2)) 30 := rfl

/-- The sum of the taps' parts, at an index. -/
theorem fold_apply {s : Shape} (f : Fin 31 → FVec Ideal s .f32) (n : ℕ) (i : s.Idx) :
    fold (F := Ideal) f n i = ∑ l : Fin (n + 1), f ⟨30 - l.val, by omega⟩ i := by
  induction n with
  | zero => rw [fold, Fin.sum_univ_one]; rfl
  | succ n ih =>
    rw [fold, Fin.sum_univ_castSucc]
    exact congrArg₂ (· + ·) ih rfl

/-- All 31 parts. -/
theorem fold_all {s : Shape} (f : Fin 31 → FVec Ideal s .f32) (i : s.Idx) :
    fold (F := Ideal) f 30 i = ∑ k : Fin 31, f k i := by
  rw [fold_apply, ← Equiv.sum_comp Fin.revPerm]
  refine Finset.sum_congr rfl fun l _ => ?_
  exact congrArg (fun k => f k i) (Fin.ext (by have := l.isLt; simp [Fin.rev]; omega))

/-- Tap `k`'s part of the taps' gradient, at an index. -/
theorem dwTap_apply (a : FVec Ideal S2094x1024 .f32) (d : FVec Ideal S2064x1024 .f32) (k r : Fin 31) (j : Fin 1024) :
    dwTap (F := Ideal) a d k (ix2 r j)
      = if r = k then ∑ R : Fin 2064, a (ix2 ⟨k.val + R.val, by omega⟩ j) * d (ix2 R j) else 0 := by
  pointwise [dwTap, zeroF]
  rw [Fin.sum_univ_one]
  by_cases h : r = k
  · rw [if_pos h, dif_pos (by omega)]
  · rw [if_neg h, dif_neg (by omega)]

/-- Tap `k`'s part of the input's gradient, at an index. -/
theorem daTap_apply (w : FVec Ideal S31x1024 .f32) (d : FVec Ideal S2064x1024 .f32) (k : Fin 31) (q : Fin 2094) (j : Fin 1024) :
    daTap (F := Ideal) w d k (ix2 q j)
      = if h : k.val ≤ q.val ∧ q.val - k.val < 2064 then d (ix2 ⟨q.val - k.val, h.2⟩ j) * w (ix2 k j) else 0 := by
  pointwise [daTap, zeroF]

end Cert.GluConvRefProof

end
-- ==== Proof.ConvGrads.lean ====
/-
  The backward pass of the gated depthwise convolution: the gradients of the value half, of the gate half and of the 31
  taps are the derivative of the reference's forward lines.
-/
module

public import proofs.«01_k».proof.Defs
public import proofs.«01_k».proof.Proof.Gen.GluConv.Frame
public import proofs.«01_k».proof.Proof.ConvPoints
public import proofs.«01_k».proof.Proof.ConvRef

@[expose] public section

set_option maxRecDepth 16384

noncomputable section

namespace Cert.GluConvProof

open Idealize.ShloMosaic Idealize.ShloMosaic.TcCoe Idealize.SL.Sem
open Idealize.ShloMosaic.Pipeline (Dat)
open Cert.GluConvIdeal Cert.GluConvIdeal.Gen
open Cert.Common

/-- A sum over all rows of a function that vanishes off 2064 consecutive ones. -/
theorem sum_shift (f : ℕ → EReal) (a : ℕ) (ha : a ≤ 112) (h : ∀ R, R < a ∨ a + 2064 ≤ R → f R = 0) :
    ∑ R : Fin 2176, f R.val = ∑ R : Fin 2064, f (a + R.val) := by
  have e : 2176 = a + 2064 + (112 - a) := by omega
  rw [Fin.sum_univ_eq_sum_range f, Fin.sum_univ_eq_sum_range (fun R => f (a + R)), e, Finset.sum_range_add, Finset.sum_range_add,
    Finset.sum_eq_zero fun R hR => h R (.inl (Finset.mem_range.mp hR)), zero_add,
    Finset.sum_eq_zero fun R _ => h _ (.inr (Nat.le_add_right _ R)), add_zero]

/-- What stands behind the front. -/
theorem front_behind {n : ℕ} (X : FVec Ideal ⟨2, ![2064, n]⟩ .f32) (R : Fin 2064) (k : Fin n) :
    front X (112 + R.val) k = X (ix2 R k) := by
  rw [front, dif_pos (by omega)]
  exact congrArg X (ext2 (show 112 + R.val - 112 = R.val by omega) rfl)

open Cert.GluConvRefIdeal.Read in
/-- The reference's gradient of the convolution's input. -/
theorem ref_da (w : FVec Ideal S31x1024 .f32) (D : FVec Ideal S2064x1024 .f32) (r : Fin 2064) (j : Fin 1024) :
    (val_main_v576 (F := Ideal) w D (ix2 r j) : EReal) = daRow D w (112 + r.val) j := by
  have h : (val_main_v576 (F := Ideal) w D (ix2 r j) : EReal) = val_main_v574 (F := Ideal) w D (ix2 ⟨30 + r.val, by omega⟩ j) := by
    pointwise [val_main_v576]
  rw [h, Cert.GluConvRefProof.da_eq, Cert.GluConvRefProof.fold_all, daRow]
  refine Finset.sum_congr rfl fun k _ => ?_
  have hd (i : S2064x1024.Idx) : (val_main_v234 (F := Ideal) D i : EReal) = D i := by pointwise [val_main_v234]
  rw [Cert.GluConvRefProof.daTap_apply, front]
  split <;> rename_i h
  · rw [dif_pos (by dsimp only at h; omega), hd]
    refine (mul_comm _ _).trans (congrArg (w (ix2 k j) * ·) (congrArg D (ext2 ?_ rfl)))
    show 30 + r.val - k.val = 112 + r.val + (30 - k.val) - 112
    omega
  · rw [dif_neg (by dsimp only at h; omega), mul_zero]

open Cert.GluConvRefIdeal.Read in
/-- The reference's gradient of the value half. -/
theorem ref_dv (P : FVec Ideal S2064x3072 .f32) (w : FVec Ideal S31x1024 .f32) (D : FVec Ideal S2064x1024 .f32) (r : Fin 2064) (j : Fin 1024) :
    (val_main_v580 (F := Ideal) P w D (ix2 r j) : EReal) = daRow D w (112 + r.val) j * gateRow P (112 + r.val) j := by
  rw [gateRow, front_behind, ← ref_da]
  pointwise [val_main_v580, val_main_v578, val_main_v8, val_main_v7, val_main_v6, val_main_v5, val_main_v4, val_main_v3, val_main_v2,
    val_main_cst, val_main_cst_0]
  rfl

open Cert.GluConvRefIdeal.Read in
/-- The reference's gradient of the gate half. -/
theorem ref_dg (P : FVec Ideal S2064x3072 .f32) (w : FVec Ideal S31x1024 .f32) (D : FVec Ideal S2064x1024 .f32) (r : Fin 2064) (j : Fin 1024) :
    (val_main_v581 (F := Ideal) P w D (ix2 r j) : EReal) = daRow D w (112 + r.val) j * valueRow P (112 + r.val) j
      * gateRow P (112 + r.val) j * (1 - gateRow P (112 + r.val) j) := by
  rw [gateRow, valueRow, front_behind, front_behind, ← ref_da]
  pointwise [val_main_v581, val_main_v579, val_main_v577, val_main_v11, val_main_v10, val_main_v9, val_main_v8, val_main_v7, val_main_v6,
    val_main_v5, val_main_v4, val_main_v3, val_main_v2, val_main_v1, val_main_cst, val_main_cst_0, val_main_cst_1]
  rw [mul_comm (P _), ← mul_assoc]
  rfl

open Cert.GluConvRefIdeal.Read in
/-- The convolution's padded input, at an index. -/
theorem ref_a (P : FVec Ideal S2064x3072 .f32) (q : Fin 2094) (j : Fin 1024) :
    (val_main_v14 (F := Ideal) P (ix2 q j) : EReal) = valueRow P (82 + q.val) j * gateRow P (82 + q.val) j := by
  by_cases h : q.val < 30
  · refine Eq.trans ?_ ((congrArg (· * _) (dif_neg (by omega))).trans (zero_mul _)).symm
    pointwise [val_main_v14, val_main_v13, val_main_cst_2, h]
  · have e : 82 + q.val = 112 + (⟨q.val - 30, by omega⟩ : Fin 2064).val := by dsimp only; omega
    rw [gateRow, valueRow, e, front_behind, front_behind]
    pointwise [val_main_v14, val_main_v12, val_main_v8, val_main_v7, val_main_v6,
      val_main_v5, val_main_v4, val_main_v3, val_main_v2, val_main_v1, val_main_cst, val_main_cst_0, h]
    rfl

open Cert.GluConvRefIdeal.Read in
/-- The reference's gradient of the taps. -/
theorem ref_dw (P : FVec Ideal S2064x3072 .f32) (D : FVec Ideal S2064x1024 .f32) (k : Fin 31) (j : Fin 1024) :
    (val_main_v572 (F := Ideal) P D (ix2 k j) : EReal) = ∑ R : Fin 2176, prodRow P D k j R.val := by
  have hd (i : S2064x1024.Idx) : (val_main_v234 (F := Ideal) D i : EReal) = D i := by pointwise [val_main_v234]
  rw [Cert.GluConvRefProof.dw_eq, Cert.GluConvRefProof.fold_all, Finset.sum_eq_single k]
  · rw [Cert.GluConvRefProof.dwTap_apply, if_pos rfl, sum_shift (prodRow P D k j) (82 + k.val) (by omega)]
    · refine Finset.sum_congr rfl fun R _ => ?_
      rw [hd, ref_a, prodRow, show 82 + k.val + R.val + (30 - k.val) = 112 + R.val by omega, front_behind,
        show 82 + k.val + R.val = 82 + (k.val + R.val) by omega]
    · intro R hR
      rw [prodRow, front, dif_neg (by omega), mul_zero]
  · intro k' _ h
    rw [Cert.GluConvRefProof.dwTap_apply, if_neg (Ne.symm h)]
  · exact fun h => absurd (Finset.mem_univ k) h

variable (m : (ℓ : Loc nD τ sig) → Buf (Elt Ideal) ℓ)

/-- The value half's gradient after the region. -/
theorem arr_V (c : Dev nD) : (dats m 0 c).arrAt 5 (cfgs 0).N = (fun y : S2176x1024.Idx =>
    daRow (m ((c : Thread nD τ).loc main_arg2)) (m ((c : Thread nD τ).loc main_arg1)) (y 0).val (y 1)
      * gateRow (m ((c : Thread nD τ).loc main_arg0)) (y 0).val (y 1) : FVec Ideal S2176x1024 .bf16) := by
  refine (dats m 0 c).arrAt_eq_of_covers 5 _ (by decide +kernel) fun t _ y => ?_
  have h0 := (idx t).2.2.2.2.2.1
  obtain ⟨p, q, rfl⟩ : ∃ (p : Fin 128) (q : Fin 1024), y = ix2 p q := ⟨y 0, y 1, ext2 rfl rfl⟩
  have e0 : ((((cfg0.win 5).blk t).view.emb (ix2 p q)) 0).val = t.val * 128 + p.val := by blk_simp [h0]
  have e1 : ((((cfg0.win 5).blk t).view.emb (ix2 p q)) 1) = q := Fin.ext (by blk_simp [h0])
  blk_simp
  rw [after0_5]
  exact (after_V m c t p q).trans (congrArg₂ (fun (R : ℕ) (j : Fin 1024) =>
    daRow (m ((c : Thread nD τ).loc main_arg2)) (m ((c : Thread nD τ).loc main_arg1)) R j * gateRow (m ((c : Thread nD τ).loc main_arg0)) R j) (by rw [h0]; rfl) e1.symm)

/-- The gate half's gradient after the region. -/
theorem arr_G (c : Dev nD) : (dats m 0 c).arrAt 6 (cfgs 0).N = (fun y : S2176x1024.Idx =>
    daRow (m ((c : Thread nD τ).loc main_arg2)) (m ((c : Thread nD τ).loc main_arg1)) (y 0).val (y 1)
      * valueRow (m ((c : Thread nD τ).loc main_arg0)) (y 0).val (y 1)
      * gateRow (m ((c : Thread nD τ).loc main_arg0)) (y 0).val (y 1)
      * (1 - gateRow (m ((c : Thread nD τ).loc main_arg0)) (y 0).val (y 1)) : FVec Ideal S2176x1024 .bf16) := by
  refine (dats m 0 c).arrAt_eq_of_covers 6 _ (by decide +kernel) fun t _ y => ?_
  have h0 := (idx t).2.2.2.2.2.2.1
  obtain ⟨p, q, rfl⟩ : ∃ (p : Fin 128) (q : Fin 1024), y = ix2 p q := ⟨y 0, y 1, ext2 rfl rfl⟩
  have e0 : ((((cfg0.win 6).blk t).view.emb (ix2 p q)) 0).val = t.val * 128 + p.val := by blk_simp [h0]
  have e1 : ((((cfg0.win 6).blk t).view.emb (ix2 p q)) 1) = q := Fin.ext (by blk_simp [h0])
  blk_simp
  rw [after0_6]
  exact (after_G m c t p q).trans (congrArg₂ (fun (R : ℕ) (j : Fin 1024) =>
    daRow (m ((c : Thread nD τ).loc main_arg2)) (m ((c : Thread nD τ).loc main_arg1)) R j * valueRow (m ((c : Thread nD τ).loc main_arg0)) R j * gateRow (m ((c : Thread nD τ).loc main_arg0)) R j * (1 - gateRow (m ((c : Thread nD τ).loc main_arg0)) R j)) (by rw [h0]; rfl) e1.symm)

/-- The last point. -/
abbrev tLast : Fin cfg0.N := ⟨16, by rw [show cfg0.N = 17 from N_0]; decide⟩

/-- The taps' gradient after the region is what the last point leaves. -/
theorem arr_W (c : Dev nD) : (dats m 0 c).arrAt 7 (cfgs 0).N = ((outsAt0 m c tLast.val tLast.isLt).2.2.1 : FVec Ideal S32x1024 .f32) := by
  refine (dats m 0 c).arrAt_eq_of_covers 7 _ (by decide +kernel) fun t ht y => ?_
  have h0 := (idx t).2.2.2.2.2.2.2.1
  have h7 := (idx t).2.2.2.2.2.2.2.2.1
  have hl := (flush0_7 t).mp ht
  obtain rfl : t = tLast := Fin.ext (show t.val = 16 by omega)
  blk_simp
  rw [after0_7]
  refine congrArg ((outsAt0 m c tLast.val tLast.isLt).2.2.1 : FVec Ideal S32x1024 .f32) ?_
  exact ext2 (by blk_simp [h0]) (by blk_simp [h0])

/-- The three results: the rows behind the front, and the 31 taps. -/
theorem results (c : Dev nD) :
    Pipeline.afterTail₀ cfgs (dats m) 0 (V0 m) [hostOps1] c main_v3
        = extractStridedSlice S2064x1024 ![112, 0] ((dats m 0 c).arrAt 5 (cfgs 0).N : FVec Ideal S2176x1024 .bf16) slices_S2176x1024_S2064x1024_112_0
    ∧ Pipeline.afterTail₀ cfgs (dats m) 0 (V0 m) [hostOps1] c main_v4
        = extractStridedSlice S2064x1024 ![112, 0] ((dats m 0 c).arrAt 6 (cfgs 0).N : FVec Ideal S2176x1024 .bf16) slices_S2176x1024_S2064x1024_112_0
    ∧ Pipeline.afterTail₀ cfgs (dats m) 0 (V0 m) [hostOps1] c main_v5
        = extractStridedSlice S31x1024 ![0, 0] ((dats m 0 c).arrAt 7 (cfgs 0).N : FVec Ideal S32x1024 .f32) slices_S32x1024_S31x1024_0_0 := by
  refine ⟨?_, ?_, ?_⟩ <;> unfold Pipeline.afterTail₀ <;>
    simp only [hostOps1, List.flatten_cons, List.flatten_nil, List.append_nil, List.cons_append, List.nil_append] <;> after_results
  · exact congrArg (extractStridedSlice S2064x1024 ![112, 0] · slices_S2176x1024_S2064x1024_112_0)
      ((dats m 0 c).withArrays_arrAt launch₀0.sharedIn (V0 m c) (A_eq m c) 5)
  · exact congrArg (extractStridedSlice S2064x1024 ![112, 0] · slices_S2176x1024_S2064x1024_112_0)
      ((dats m 0 c).withArrays_arrAt launch₀0.sharedIn (V0 m c) (A_eq m c) 6)
  · exact congrArg (extractStridedSlice S31x1024 ![0, 0] · slices_S32x1024_S31x1024_0_0)
      ((dats m 0 c).withArrays_arrAt launch₀0.sharedIn (V0 m c) (A_eq m c) 7)

open Cert.GluConvRefIdeal.Read in
/-- The first result is the reference's gradient of the value half. -/
theorem final_v (c : Dev nD) : Pipeline.afterTail₀ cfgs (dats m) 0 (V0 m) [hostOps1] c main_v3
    = val_main_v580 (F := Ideal) (m ((c : Thread nD τ).loc main_arg0)) (m ((c : Thread nD τ).loc main_arg1))
        (m ((c : Thread nD τ).loc main_arg2)) := by
  rw [(results m c).1, arr_V]
  funext (i : S2064x1024.Idx)
  obtain ⟨r, j, rfl⟩ : ∃ (r : Fin 2064) (j : Fin 1024), i = ix2 r j := ⟨i 0, i 1, ext2 rfl rfl⟩
  refine Eq.trans ?_ (ref_dv _ _ _ r j).symm
  pointwise

open Cert.GluConvRefIdeal.Read in
/-- The second result is the reference's gradient of the gate half. -/
theorem final_g (c : Dev nD) : Pipeline.afterTail₀ cfgs (dats m) 0 (V0 m) [hostOps1] c main_v4
    = val_main_v581 (F := Ideal) (m ((c : Thread nD τ).loc main_arg0)) (m ((c : Thread nD τ).loc main_arg1))
        (m ((c : Thread nD τ).loc main_arg2)) := by
  rw [(results m c).2.1, arr_G]
  funext (i : S2064x1024.Idx)
  obtain ⟨r, j, rfl⟩ : ∃ (r : Fin 2064) (j : Fin 1024), i = ix2 r j := ⟨i 0, i 1, ext2 rfl rfl⟩
  refine Eq.trans ?_ (ref_dg _ _ _ r j).symm
  pointwise

open Cert.GluConvRefIdeal.Read in
/-- The third result is the reference's gradient of the taps. -/
theorem final_w (c : Dev nD) : Pipeline.afterTail₀ cfgs (dats m) 0 (V0 m) [hostOps1] c main_v5
    = val_main_v572 (F := Ideal) (m ((c : Thread nD τ).loc main_arg0)) (m ((c : Thread nD τ).loc main_arg2)) := by
  rw [(results m c).2.2, arr_W]
  funext (i : S31x1024.Idx)
  obtain ⟨k, j, rfl⟩ : ∃ (k : Fin 31) (j : Fin 1024), i = ix2 k j := ⟨i 0, i 1, ext2 rfl rfl⟩
  refine Eq.trans ?_ ((after_W_eq m c tLast rfl ⟨k.val, by omega⟩ k.isLt j).trans (ref_dw _ _ k j).symm)
  generalize ((outsAt0 m c tLast.val tLast.isLt).2.2.1 : FVec Ideal S32x1024 .f32) = a
  pointwise

/-- The reference runs to its end with every counter at zero. -/
theorem frame_ref : Cert.quiescent_GluConvRefIdeal := fun m ρ _ =>
  (θ_run Cert.GluConvRefIdeal.defs _ _).mono
    (fun r h => ⟨fun c => (h c).2.2.2, sem_eq_zero_of_no_sems (by decide) r.2⟩) (Cert.GluConvRefIdeal.Value.run (F := Ideal) m ρ)

/-- A function of three arguments at equal arguments. -/
theorem congr3 {α β γ δ : Type} (f : α → β → γ → δ) {a a' : α} {b b' : β} {d d' : γ} (ha : a = a') (hb : b = b') (hd : d = d') :
    f a b d = f a' b' d' := by
  rw [ha, hb, hd]

/-- Over the reals the call's three results are the reference's. -/
theorem algebraic : Cert.algebraic_GluConvIdeal_GluConvRefIdeal := by
  pair_intro
  · run_from Cert.GluConvIdeal.Gen.run_main m g
    exacts [W_main_arg0 m (dats m) c, W_main_arg2 m (dats m) c]
  · run_from Cert.GluConvRefIdeal.Value.run m' g'
    · exact (Cert.GluConvRefIdeal.Read.val_main_v580_eq (F := Ideal) _).trans ((congr3 (Cert.GluConvRefIdeal.Read.val_main_v580 (F := Ideal))
        (hagree c).1 (hagree c).2.1 (hagree c).2.2).trans (final_v m c).symm)
    · exact (Cert.GluConvRefIdeal.Read.val_main_v581_eq (F := Ideal) _).trans ((congr3 (Cert.GluConvRefIdeal.Read.val_main_v581 (F := Ideal))
        (hagree c).1 (hagree c).2.1 (hagree c).2.2).trans (final_g m c).symm)
    · exact (Cert.GluConvRefIdeal.Read.val_main_v572_eq (F := Ideal) _).trans ((congrArg₂ (Cert.GluConvRefIdeal.Read.val_main_v572 (F := Ideal))
        (hagree c).1 (hagree c).2.2).trans (final_w m c).symm)

/-- Everything that is claimed of this call. -/
theorem claims : Cert.quiescent_GluConv ∧ Cert.quiescent_GluConvIdeal ∧ Cert.quiescent_GluConvRefIdeal
    ∧ Cert.preserves_GluConv_GluConvIdeal ∧ Cert.algebraic_GluConvIdeal_GluConvRefIdeal :=
  ⟨fun m ρ _ => Cert.GluConv.Gen.frame m ρ, fun m ρ _ => Cert.GluConvIdeal.Gen.frame m ρ, frame_ref, trivial, algebraic⟩

end Cert.GluConvProof

end
-- ==== Proof.RmsNorm.lean ====
/-
  The root-mean-square norm of one row of reals, and the gradient through it, as functions of the row.
-/
module

public import proofs.«01_k».proof.Proof.RealKit

@[expose] public section

noncomputable section

namespace Cert.RmsNorm

open Cert.RealKit

variable (g x d : Fin 2048 → ℝ)

/-- The mean square, and the small number added to it. -/
def var : ℝ := (∑ k, x k * x k) / 2048 + eps6
/-- The reciprocal of its root. -/
def rs : ℝ := (Real.sqrt (var x))⁻¹
/-- The normalised row. -/
def yn (j : Fin 2048) : ℝ := x j * rs x
/-- The gradient of the row, `d` being the gradient behind the norm and its gain `g`. -/
def dx (j : Fin 2048) : ℝ := rs x * (d j * g j - yn x j * ((∑ k, d k * g k * yn x k) / 2048))
/-- Half the share of the gradient that runs through the mean square, over the row. -/
def drift : ℝ := (∑ k, x k * (d k * g k)) * (-(1 / 2) * (rs x / var x)) / 2048

theorem var_pos : 0 < var x :=
  add_pos_of_nonneg_of_pos (div_nonneg (Finset.sum_nonneg fun k _ => mul_self_nonneg _) (by norm_num)) eps6_pos

theorem rs_sq : rs x * rs x = (var x)⁻¹ := by
  unfold rs; rw [← mul_inv, Real.mul_self_sqrt (var_pos x).le]

/-- The gradient of the row, as the chain rule gives it: through the row itself and twice through the mean square. -/
theorem dx_rule (j : Fin 2048) : dx g x d j = d j * g j * rs x + x j * drift g x d + drift g x d * x j := by
  have h : ∑ k, d k * g k * yn x k = (∑ k, x k * (d k * g k)) * rs x := by
    rw [Finset.sum_mul]; exact Finset.sum_congr rfl fun k _ => by unfold yn; ring
  unfold dx drift; rw [h]; unfold yn
  rw [div_eq_mul_inv (rs x), ← rs_sq]; ring

/-- No gradient comes back where none arrives. -/
theorem dx_zero (j : Fin 2048) : dx g x (fun _ => 0) j = 0 := by
  unfold dx; simp

end Cert.RmsNorm

end
-- ==== Proof.MidNormPay.lean ====
/-
  What the body of the kernel computes from a tile of reals: the gradients through both norms of every row of the tile, and
  the tile's sums over its rows.
-/
module

public import proofs.«01_k».proof.Proof.RmsNorm
public import proofs.«01_k».proof.Proof.Common
public import proofs.«01_k».proof.Proof.Gen.MidNormIdeal.Skeleton

@[expose] public section

noncomputable section

namespace Cert.MidNormIdeal.Grad

open Cert.MidNormIdeal Cert.MidNormIdeal.Gen Cert.RealKit Cert.RmsNorm
open Idealize.ShloMosaic Idealize.ShloMosaic.TcCoe

variable {u v e : FVec Ideal S272x2048 .f32} {w : FVec Ideal S1x2048 .f32} {d x y : Fin 272 → Fin 2048 → ℝ} {g : Fin 2048 → ℝ}

/-- The second norm's scale. -/
theorem pay_rs (h2 : ∀ r k, (v (ix2 r k) : EReal) = (x r k : EReal)) (r : Fin 272) (k : Fin 1) :
    (k0_pay9 (F := Ideal) v (ix2 r k) : EReal) = (rs (x r) : EReal) := by
  pointwise [k0_pay9, k0_pay8]
  simp only [h2, ← EReal.coe_mul, sum_coe, w2048, weps6]
  rw [div_real _ _ (by norm_num), ← EReal.coe_add]; exact rsqrt_real _ (var_pos (x r))

theorem pay_yn (h2 : ∀ r k, (v (ix2 r k) : EReal) = (x r k : EReal)) (r : Fin 272) (k : Fin 2048) :
    (k0_pay10 (F := Ideal) v (ix2 r k) : EReal) = (yn (x r) k : EReal) := by
  pointwise [k0_pay10, k0_pay8]
  simp only [pay_rs h2, h2, ← EReal.coe_mul]; rfl

/-- The tile's part of the second gain's gradient. -/
theorem pay_dgm (h0 : ∀ r k, (u (ix2 r k) : EReal) = (d r k : EReal)) (h2 : ∀ r k, (v (ix2 r k) : EReal) = (x r k : EReal))
    (z : Fin 1) (k : Fin 2048) : (k0_pay11 (F := Ideal) u v (ix2 z k) : EReal) = ((∑ r, d r k * yn (x r) k : ℝ) : EReal) := by
  pointwise [k0_pay11, k0_pay7]
  simp only [pay_yn h2, h0, ← EReal.coe_mul, sum_coe]

/-- The gradient in front of the second norm. -/
theorem pay_dh (h0 : ∀ r k, (u (ix2 r k) : EReal) = (d r k : EReal)) (h2 : ∀ r k, (v (ix2 r k) : EReal) = (x r k : EReal))
    (h4 : ∀ z k, (w (ix2 z k) : EReal) = (g k : EReal)) (h6 : ∀ r k, (e (ix2 r k) : EReal) = (y r k : EReal))
    (r : Fin 272) (k : Fin 2048) : (k0_pay12 (F := Ideal) u v w e (ix2 r k) : EReal) = ((y r k + dx g (x r) (d r) k : ℝ) : EReal) := by
  pointwise [k0_pay12, k0_pay7]
  simp only [pay_yn h2, pay_rs h2, h0, h4, h6, sum_coe, w2048, ← EReal.coe_mul]
  rw [div_real _ _ (by norm_num)]
  simp only [← EReal.coe_mul, ← EReal.coe_sub, ← EReal.coe_add]
  rfl

/-- The first norm's scale. -/
theorem pay_rs' (h2 : ∀ r k, (v (ix2 r k) : EReal) = (x r k : EReal)) (r : Fin 272) (k : Fin 1) :
    (k0_pay1 (F := Ideal) v (ix2 r k) : EReal) = (rs (x r) : EReal) := by
  pointwise [k0_pay1]
  simp only [h2, ← EReal.coe_mul, sum_coe, w2048, weps6]
  rw [div_real _ _ (by norm_num), ← EReal.coe_add]; exact rsqrt_real _ (var_pos (x r))

theorem pay_yn' (h2 : ∀ r k, (v (ix2 r k) : EReal) = (x r k : EReal)) (r : Fin 272) (k : Fin 2048) :
    (k0_pay2 (F := Ideal) v (ix2 r k) : EReal) = (yn (x r) k : EReal) := by
  pointwise [k0_pay2]
  simp only [pay_rs' h2, h2, ← EReal.coe_mul]; rfl

/-- The tile's part of the first gain's gradient. -/
theorem pay_dgp (h0 : ∀ r k, (u (ix2 r k) : EReal) = (d r k : EReal)) (h2 : ∀ r k, (v (ix2 r k) : EReal) = (x r k : EReal))
    (z : Fin 1) (k : Fin 2048) : (k0_pay3 (F := Ideal) u v (ix2 z k) : EReal) = ((∑ r, d r k * yn (x r) k : ℝ) : EReal) := by
  pointwise [k0_pay3]
  simp only [pay_yn' h2, h0, ← EReal.coe_mul, sum_coe]

/-- The gradient in front of the first norm. -/
theorem pay_do (h0 : ∀ r k, (u (ix2 r k) : EReal) = (d r k : EReal)) (h2 : ∀ r k, (v (ix2 r k) : EReal) = (x r k : EReal))
    (h4 : ∀ z k, (w (ix2 z k) : EReal) = (g k : EReal)) (r : Fin 272) (k : Fin 2048) :
    (k0_pay4 (F := Ideal) u v w (ix2 r k) : EReal) = (dx g (x r) (d r) k : EReal) := by
  pointwise [k0_pay4]
  simp only [pay_yn' h2, pay_rs' h2, h0, h4, sum_coe, w2048, ← EReal.coe_mul]
  rw [div_real _ _ (by norm_num)]
  simp only [← EReal.coe_mul, ← EReal.coe_sub]
  rfl

/-- The rows of the first norm pass unchanged. -/
theorem pay_id (v : FVec Ideal S272x2048 .f32) (r : Fin 272) (k : Fin 2048) : (k0_pay13 (F := Ideal) v (ix2 r k) : EReal) = v (ix2 r k) := by
  pointwise [k0_pay13]

/-- A later point adds its part to what the point before left. -/
theorem step_dgm (p q : FVec Ideal S1x2048 .f32) (z : Fin 1) (k : Fin 2048) :
    (k0_pay5 (F := Ideal) p q (ix2 z k) : EReal) = (q (ix2 z k) : EReal) + (p (ix2 z k) : EReal) := by pointwise [k0_pay5]
theorem step_dgp (p : FVec Ideal S1x2048 .f32) (z : Fin 1) (k : Fin 2048) :
    (k0_pay6 (F := Ideal) u v p (ix2 z k) : EReal) = (p (ix2 z k) : EReal) + (k0_pay3 (F := Ideal) u v (ix2 z k) : EReal) := by pointwise [k0_pay6]

end Cert.MidNormIdeal.Grad

end
-- ==== Proof.MidNormRef.lean ====
/-
  The reference of the gradient through both norms, read at arrays of reals.
-/
module

public import proofs.«01_k».proof.Proof.RmsNorm
public import proofs.«01_k».proof.Proof.Common
public import proofs.«01_k».proof.Proof.Gen.MidNormRefIdeal.Read

@[expose] public section

noncomputable section

namespace Cert.MidNormRefIdeal.Grad

open Cert.MidNormRefIdeal Cert.MidNormRefIdeal.Gen Cert.MidNormRefIdeal.Read Cert.RealKit Cert.RmsNorm Cert.Common
open Idealize.ShloMosaic Idealize.ShloMosaic.TcCoe

/-- The arguments: rows, the mixers' rows, both gains, and the gradients that arrive. -/
structure Reals (x0 x1 : FVec Ideal S2064x2048 .f32) (x2 x3 : FVec Ideal S2048 .f32) (x4 x5 : FVec Ideal S2064x2048 .f32)
    (h o : Fin 2064 → Fin 2048 → ℝ) (p q : Fin 2048 → ℝ) (e d : Fin 2064 → Fin 2048 → ℝ) : Prop where
  a0 : ∀ r k, (x0 (ix2 r k) : EReal) = (h r k : EReal)
  a1 : ∀ r k, (x1 (ix2 r k) : EReal) = (o r k : EReal)
  a2 : ∀ k, (x2 (ix1 k) : EReal) = (p k : EReal)
  a3 : ∀ k, (x3 (ix1 k) : EReal) = (q k : EReal)
  a4 : ∀ r k, (x4 (ix2 r k) : EReal) = (e r k : EReal)
  a5 : ∀ r k, (x5 (ix2 r k) : EReal) = (d r k : EReal)

/-- The rows behind the first norm and the residual sum. -/
def mid (h o : Fin 2064 → Fin 2048 → ℝ) (p : Fin 2048 → ℝ) (r : Fin 2064) (k : Fin 2048) : ℝ := h r k + yn (o r) k * p k
/-- The gradient in front of the second norm. -/
def dmid (h o : Fin 2064 → Fin 2048 → ℝ) (p q : Fin 2048 → ℝ) (e d : Fin 2064 → Fin 2048 → ℝ) (r : Fin 2064) (k : Fin 2048) : ℝ :=
  e r k + dx q (mid h o p r) (d r) k

variable {x0 x1 x4 x5 : FVec Ideal S2064x2048 .f32} {x2 x3 : FVec Ideal S2048 .f32}
  {h o e d : Fin 2064 → Fin 2048 → ℝ} {p q : Fin 2048 → ℝ}

theorem ref_var1 (H : Reals x0 x1 x2 x3 x4 x5 h o p q e d) (r : Fin 2064) (z : Fin 1) :
    (val_main_v6 (F := Ideal) x1 (ix2 r z) : EReal) = (var (o r) : EReal) := by
  pointwise [val_main_v6, val_main_v5, val_main_v4, val_main_v3, val_main_v2, val_main_v1, val_main_v0, val_main_cst, val_main_cst_0,
    val_main_cst_1]
  simp only [H.a1, ← EReal.coe_mul, sum_coe, w2048, weps6]
  rw [div_real _ _ (by norm_num), ← EReal.coe_add]; rfl

theorem ref_rs1 (H : Reals x0 x1 x2 x3 x4 x5 h o p q e d) (r : Fin 2064) (z : Fin 1) :
    (val_main_v7 (F := Ideal) x1 (ix2 r z) : EReal) = (rs (o r) : EReal) := by
  pointwise [val_main_v7]
  rw [ref_var1 H, rsqrt_real _ (var_pos _)]; rfl

theorem ref_fac1 (H : Reals x0 x1 x2 x3 x4 x5 h o p q e d) (r : Fin 2064) (z : Fin 1) :
    (val_main_v10 (F := Ideal) x1 (ix2 r z) : EReal) = ((-(1 / 2) * (rs (o r) / var (o r)) : ℝ) : EReal) := by
  pointwise [val_main_v10, val_main_v9, val_main_v8, val_main_cst_2]
  rw [ref_var1 H, ref_rs1 H, wmhalf, div_real _ _ (var_pos _).ne', ← EReal.coe_mul]

theorem ref_yn1 (H : Reals x0 x1 x2 x3 x4 x5 h o p q e d) (r : Fin 2064) (k : Fin 2048) :
    (val_main_v12 (F := Ideal) x1 (ix2 r k) : EReal) = (yn (o r) k : EReal) := by
  pointwise [val_main_v12, val_main_v11]
  simp only [H.a1, ref_rs1 H, ← EReal.coe_mul]; rfl

theorem ref_mid (H : Reals x0 x1 x2 x3 x4 x5 h o p q e d) (r : Fin 2064) (k : Fin 2048) :
    (val_main_v16 (F := Ideal) x0 x1 x2 (ix2 r k) : EReal) = (mid h o p r k : EReal) := by
  pointwise [val_main_v16, val_main_v15, val_main_v14, val_main_v13]
  simp only [H.a0, H.a2, ref_yn1 H, ← EReal.coe_mul, ← EReal.coe_add]; rfl

theorem ref_var2 (H : Reals x0 x1 x2 x3 x4 x5 h o p q e d) (r : Fin 2064) (z : Fin 1) :
    (val_main_v23 (F := Ideal) x0 x1 x2 (ix2 r z) : EReal) = (var (mid h o p r) : EReal) := by
  pointwise [val_main_v23, val_main_v22, val_main_v21, val_main_v20, val_main_v19, val_main_v18, val_main_v17, val_main_cst_3,
    val_main_cst_4, val_main_cst_5]
  simp only [ref_mid H, ← EReal.coe_mul, sum_coe, w2048, weps6]
  rw [div_real _ _ (by norm_num), ← EReal.coe_add]; rfl

theorem ref_rs2 (H : Reals x0 x1 x2 x3 x4 x5 h o p q e d) (r : Fin 2064) (z : Fin 1) :
    (val_main_v24 (F := Ideal) x0 x1 x2 (ix2 r z) : EReal) = (rs (mid h o p r) : EReal) := by
  pointwise [val_main_v24]
  rw [ref_var2 H, rsqrt_real _ (var_pos _)]; rfl

theorem ref_yn2 (H : Reals x0 x1 x2 x3 x4 x5 h o p q e d) (r : Fin 2064) (k : Fin 2048) :
    (val_main_v29 (F := Ideal) x0 x1 x2 (ix2 r k) : EReal) = (yn (mid h o p r) k : EReal) := by
  pointwise [val_main_v29, val_main_v28]
  simp only [ref_mid H, ref_rs2 H, ← EReal.coe_mul]; rfl

theorem ref_dy2 (H : Reals x0 x1 x2 x3 x4 x5 h o p q e d) (r : Fin 2064) (k : Fin 2048) :
    (val_main_v37 (F := Ideal) x3 x5 (ix2 r k) : EReal) = ((d r k * q k : ℝ) : EReal) := by
  pointwise [val_main_v37, val_main_v36, val_main_v30]
  simp only [H.a3, H.a5, ← EReal.coe_mul]

theorem ref_drift2 (H : Reals x0 x1 x2 x3 x4 x5 h o p q e d) (r : Fin 2064) (k : Fin 2048) :
    (val_main_v49 (F := Ideal) x0 x1 x2 x3 x5 (ix2 r k) : EReal) = (drift q (mid h o p r) (d r) : EReal) := by
  pointwise [val_main_v49, val_main_v48, val_main_v47, val_main_v46, val_main_v45, val_main_v41, val_main_v40, val_main_v39, val_main_v27,
    val_main_v26, val_main_v25, val_main_cst_6, val_main_cst_9, val_main_cst_10, val_main_cst_11]
  simp only [ref_mid H, ref_dy2 H, ref_rs2 H, ref_var2 H, w2048, wmhalf, div_real _ _ (var_pos _).ne', ← EReal.coe_mul, sum_coe]
  rw [div_real _ _ (by norm_num), Fin.sum_univ_one]; rfl

/-- The gradient in front of the second norm. -/
theorem ref_dmid (H : Reals x0 x1 x2 x3 x4 x5 h o p q e d) (r : Fin 2064) (k : Fin 2048) :
    (val_main_v53 (F := Ideal) x0 x1 x2 x3 x4 x5 (ix2 r k) : EReal) = (dmid h o p q e d r k : EReal) := by
  pointwise [val_main_v53, val_main_v52, val_main_v51, val_main_v50, val_main_v44, val_main_v43, val_main_v42]
  simp only [ref_mid H, ref_dy2 H, ref_rs2 H, ref_drift2 H, H.a4, ← EReal.coe_mul, ← EReal.coe_add]
  unfold dmid; rw [dx_rule]
  exact congrArg _ (by ring)

/-- The second gain's gradient. -/
theorem ref_dgm (H : Reals x0 x1 x2 x3 x4 x5 h o p q e d) (z : Fin 1) (k : Fin 2048) :
    (val_main_v78 (F := Ideal) x0 x1 x2 x5 (ix2 z k) : EReal) = ((∑ r, d r k * yn (mid h o p r) k : ℝ) : EReal) := by
  pointwise [val_main_v78, val_main_v38, val_main_v35, val_main_v34, val_main_v33, val_main_cst_7, val_main_cst_8]
  simp only [ref_yn2 H, H.a5, ← EReal.coe_mul, sum_coe, Fin.sum_univ_one, mul_comm]

theorem ref_dy1 (H : Reals x0 x1 x2 x3 x4 x5 h o p q e d) (r : Fin 2064) (k : Fin 2048) :
    (val_main_v59 (F := Ideal) x0 x1 x2 x3 x4 x5 (ix2 r k) : EReal) = ((dmid h o p q e d r k * p k : ℝ) : EReal) := by
  pointwise [val_main_v59, val_main_v58, val_main_v54, val_main_v13]
  simp only [H.a2, ref_dmid H, ← EReal.coe_mul]

theorem ref_drift1 (H : Reals x0 x1 x2 x3 x4 x5 h o p q e d) (r : Fin 2064) (k : Fin 2048) :
    (val_main_v70 (F := Ideal) x0 x1 x2 x3 x4 x5 (ix2 r k) : EReal) = (drift p (o r) (dmid h o p q e d r) : EReal) := by
  pointwise [val_main_v70, val_main_v69, val_main_v68, val_main_v67, val_main_v66, val_main_v63, val_main_v62, val_main_v61,
    val_main_cst_14, val_main_cst_15, val_main_cst_16]
  simp only [H.a1, ref_dy1 H, ref_fac1 H, w2048, ← EReal.coe_mul, sum_coe]
  rw [div_real _ _ (by norm_num), Fin.sum_univ_one]; rfl

/-- The gradient in front of the first norm. -/
theorem ref_do (H : Reals x0 x1 x2 x3 x4 x5 h o p q e d) (r : Fin 2064) (k : Fin 2048) :
    (val_main_v74 (F := Ideal) x0 x1 x2 x3 x4 x5 (ix2 r k) : EReal) = (dx p (o r) (dmid h o p q e d r) k : EReal) := by
  pointwise [val_main_v74, val_main_v73, val_main_v72, val_main_v71, val_main_v65, val_main_v64]
  simp only [H.a1, ref_dy1 H, ref_rs1 H, ref_drift1 H, ← EReal.coe_mul, ← EReal.coe_add]
  rw [dx_rule]

/-- The first gain's gradient. -/
theorem ref_dgp (H : Reals x0 x1 x2 x3 x4 x5 h o p q e d) (z : Fin 1) (k : Fin 2048) :
    (val_main_v79 (F := Ideal) x0 x1 x2 x3 x4 x5 (ix2 z k) : EReal) = ((∑ r, dmid h o p q e d r k * yn (o r) k : ℝ) : EReal) := by
  pointwise [val_main_v79, val_main_v60, val_main_v57, val_main_v56, val_main_v55, val_main_v54, val_main_cst_12, val_main_cst_13]
  simp only [ref_yn1 H, ref_dmid H, ← EReal.coe_mul, sum_coe, Fin.sum_univ_one, mul_comm]

end Cert.MidNormRefIdeal.Grad

end
-- ==== Proof.FrontRows.lean ====
/-
  Rows of reals behind 112 rows of zeros, and the sum that a kernel gathers over its tiles of such rows.
-/
module

public import proofs.«01_k».proof.Proof.Common
public import proofs.«01_k».proof.Proof.FrontSums

@[expose] public section

noncomputable section

namespace Cert.FrontRows

open Idealize.ShloMosaic Cert.Common Cert.RealKit

variable {n : ℕ}

/-- A row of the kernel's array: `x` behind rows of zeros. -/
def rowN (x : Fin 2064 → Fin n → ℝ) (R : ℕ) (k : Fin n) : ℝ := if h : 112 ≤ R ∧ R - 112 < 2064 then x ⟨R - 112, h.2⟩ k else 0

/-- An array of reals behind rows of zeros. -/
theorem front_real {X : FVec Ideal ⟨2, ![2064, n]⟩ .f32} {x : Fin 2064 → Fin n → ℝ} (hX : ∀ r k, (X (ix2 r k) : EReal) = (x r k : EReal))
    (R : ℕ) (k : Fin n) : front X R k = (rowN x R k : EReal) := by
  unfold front rowN; split
  · exact hX _ _
  · rfl

/-- Behind the front, a row is the argument's. -/
theorem rowN_in (x : Fin 2064 → Fin n → ℝ) (R : ℕ) (h : 112 ≤ R ∧ R - 112 < 2064) : rowN x R = x ⟨R - 112, h.2⟩ :=
  funext fun k => dif_pos h
theorem rowN_out (x : Fin 2064 → Fin n → ℝ) (R : ℕ) (h : ¬(112 ≤ R ∧ R - 112 < 2064)) : rowN x R = fun _ => 0 :=
  funext fun k => dif_neg h

/-- What is gathered over `T` tiles of `B` rows is the sum over the argument's rows. -/
theorem gathered {N : ℕ} (T B : ℕ) (hT : T * B = 112 + 2064) (hN : N = T) (f : (t : ℕ) → t < N → FVec Ideal ⟨2, ![1, n]⟩ .f32)
    (x : Fin 2064 → Fin n → ℝ)
    (hA : ∀ t : Fin N, t.val % T = 0 → ∀ z k, (f t.val t.isLt (ix2 z k) : EReal) = ((∑ r : Fin B, rowN x (t.val * B + r.val) k : ℝ) : EReal))
    (hB : ∀ t : Fin N, ¬t.val % T = 0 → ∀ z k, (f t.val t.isLt (ix2 z k) : EReal)
      = (f (t.val - 1) (Nat.lt_of_le_of_lt (Nat.sub_le _ _) t.isLt) (ix2 z k) : EReal) + ((∑ r : Fin B, rowN x (t.val * B + r.val) k : ℝ) : EReal))
    (t : Fin N) (ht : t.val + 1 = N) (z : Fin 1) (k : Fin n) : (f t.val t.isLt (ix2 z k) : EReal) = ((∑ r, x r k : ℝ) : EReal) := by
  subst hN
  rw [Pipeline.eq_sum_fin_of_reset_step_apply_last (fun n h j => (f n h (ix2 z j) : EReal)) N (fun _ => 0)
    (fun t j => ((∑ r : Fin B, rowN x (t.val * B + r.val) j : ℝ) : EReal)) (fun t h j => (hA t h z j).trans (zero_add _).symm)
    (fun t h j => hB t h z j) le_rfl t ht k, zero_add, sum_coe]
  refine congrArg _ ((sum_tiles N B hT (fun R => rowN x R k) fun R hR => congrFun (rowN_out x R (by omega)) k).trans
    (Finset.sum_congr rfl fun r _ => (congrFun (rowN_in x (112 + r.val) ⟨by omega, by have := r.isLt; omega⟩) k).trans
      (congrArg (x · k) (Fin.ext (by simp)))))

end Cert.FrontRows

end
-- ==== Proof.MidNormGrads.lean ====
/-
  The gradient through the norm behind the mixers, the residual sum and the norm in front of the MLP: for finite arguments
  the four arrays the call leaves are the derivative of the reference's `h1 = h + rms_norm(o, g_post)` and
  `rms_norm(h1, g_pre)` with respect to `h`, `o` and both gains.
-/
module

public import proofs.«01_k».proof.Defs
public import proofs.«01_k».proof.Proof.Gen.MidNormIdeal.Value
public import proofs.«01_k».proof.Proof.Gen.MidNormRefIdeal.Read
public import proofs.«01_k».proof.Proof.Gen.MidNorm.Frame
public import proofs.«01_k».proof.Proof.Gen.Pre_mid_norm_finite
public import proofs.«01_k».proof.Proof.MidNormPay
public import proofs.«01_k».proof.Proof.MidNormRef
public import proofs.«01_k».proof.Proof.FrontRows

@[expose] public section

set_option maxRecDepth 16384

noncomputable section

namespace Cert.MidNormIdeal.Grad

open Idealize.ShloMosaic Idealize.ShloMosaic.TcCoe Idealize.SL.Sem
open Idealize.ShloMosaic.Pipeline (Dat)
open Cert.MidNormIdeal Cert.MidNormIdeal.Gen Cert.Common Cert.RealKit Cert.RmsNorm Cert.FrontRows
open Cert.MidNormRefIdeal.Grad (Reals mid dmid ref_mid ref_dmid ref_do ref_dgm ref_dgp)
open Cert.MidNormRefIdeal.Read

variable (m : (ℓ : Loc nD τ sig) → Buf (Elt Ideal) ℓ)

/-- The blocks each grid point reads and writes. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ t.val < 8 :=
  (by decide +kernel : ∀ t : Fin grid0.N, _)

/-- The fill of the front rows is zero. -/
theorem fill_zero (i : S_.Idx) : ((sitofp .f32 (constantI S_ 32 0#32) : FVec Ideal S_ .f32) i : EReal) = 0 := sitofp_zero

/-- What the region finds in its operands: the arguments behind rows of zeros, the rows in front of the second norm
    computed by the reference's lines, and both gains as arrays of one row. -/
theorem entries (c : Dev nD) : V m c main_v14 = frontA (m ((c : Thread nD τ).loc main_arg4)) .f32
    ∧ V m c main_v15 = frontA (m ((c : Thread nD τ).loc main_arg5)) .f32
    ∧ V m c main_v16 = frontA (val_main_v16 (F := Ideal) (m ((c : Thread nD τ).loc main_arg0)) (m ((c : Thread nD τ).loc main_arg1))
        (m ((c : Thread nD τ).loc main_arg2))) .f32
    ∧ V m c main_v17 = frontA (m ((c : Thread nD τ).loc main_arg1)) .f32
    ∧ V m c main_v18 = broadcastInDim S1x2048 ![1] bcast_S2048_S1x2048_1 (m ((c : Thread nD τ).loc main_arg3))
    ∧ V m c main_v19 = broadcastInDim S1x2048 ![1] bcast_S2048_S1x2048_1 (m ((c : Thread nD τ).loc main_arg2)) := by
  refine ⟨?_, ?_, ?_, ?_, ?_, ?_⟩ <;> unfold V <;>
    simp only [hostOps0, hostOps0_1, hostOps0_2, hostOps0_3, hostOps0_4, hostOps0_5, hostOps0_6, hostOps0_7, hostOps0_8,
      List.flatten_cons, List.flatten_nil, List.append_nil, List.cons_append, List.nil_append] <;> after_results
  · exact pad_front (m ((c : Thread nD τ).loc main_arg4)) pads_S2064x2048_S2176x2048_11200_000 h_S_ _ fill_zero
  · exact pad_front (m ((c : Thread nD τ).loc main_arg5)) pads_S2064x2048_S2176x2048_11200_000 h_S_ _ fill_zero
  · exact pad_front (val_main_v16 (F := Ideal) (m ((c : Thread nD τ).loc main_arg0)) (m ((c : Thread nD τ).loc main_arg1))
        (m ((c : Thread nD τ).loc main_arg2))) pads_S2064x2048_S2176x2048_11200_000 h_S_ _ fill_zero
  · exact pad_front (m ((c : Thread nD τ).loc main_arg1)) pads_S2064x2048_S2176x2048_11200_000 h_S_ _ fill_zero

/-- The arguments hold these reals. -/
abbrev Args (c : Dev nD) (h o : Fin 2064 → Fin 2048 → ℝ) (p q : Fin 2048 → ℝ) (e d : Fin 2064 → Fin 2048 → ℝ) : Prop :=
  Reals (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) h o p q e d

variable {m} {c : Dev nD} {h o e d : Fin 2064 → Fin 2048 → ℝ} {p q : Fin 2048 → ℝ}

/-- The tiles of the arriving gradients, of the rows in front of the second norm and of the mixers' rows. -/
theorem blk0 (H : Args m c h o p q e d) (t : Fin cfg0.N) (r : Fin 272) (k : Fin 2048) :
    ((iblk m c 0 t : FVec Ideal S272x2048 .f32) (ix2 r k) : EReal) = (rowN e (t.val * 272 + r.val) k : EReal) := by
  have h0 := (idx t).1
  show V m c main_v14 (((cfg0.win 0).blk t).view.emb (ix2 r k)) = _
  rw [(entries m c).1]
  exact (front_congr _ (by blk_simp [h0]) (by blk_simp [h0])).trans (front_real H.a4 _ _)

theorem blk1 (H : Args m c h o p q e d) (t : Fin cfg0.N) (r : Fin 272) (k : Fin 2048) :
    ((iblk m c 1 t : FVec Ideal S272x2048 .f32) (ix2 r k) : EReal) = (rowN d (t.val * 272 + r.val) k : EReal) := by
  have h0 := (idx t).2.1
  show V m c main_v15 (((cfg0.win 1).blk t).view.emb (ix2 r k)) = _
  rw [(entries m c).2.1]
  exact (front_congr _ (by blk_simp [h0]) (by blk_simp [h0])).trans (front_real H.a5 _ _)

theorem blk2 (H : Args m c h o p q e d) (t : Fin cfg0.N) (r : Fin 272) (k : Fin 2048) :
    ((iblk m c 2 t : FVec Ideal S272x2048 .f32) (ix2 r k) : EReal) = (rowN (mid h o p) (t.val * 272 + r.val) k : EReal) := by
  have h0 := (idx t).2.2.1
  show V m c main_v16 (((cfg0.win 2).blk t).view.emb (ix2 r k)) = _
  rw [(entries m c).2.2.1]
  exact (front_congr _ (by blk_simp [h0]) (by blk_simp [h0])).trans (front_real (ref_mid H) _ _)

theorem blk3 (H : Args m c h o p q e d) (t : Fin cfg0.N) (r : Fin 272) (k : Fin 2048) :
    ((iblk m c 3 t : FVec Ideal S272x2048 .f32) (ix2 r k) : EReal) = (rowN o (t.val * 272 + r.val) k : EReal) := by
  have h0 := (idx t).2.2.2.1
  show V m c main_v17 (((cfg0.win 3).blk t).view.emb (ix2 r k)) = _
  rw [(entries m c).2.2.2.1]
  exact (front_congr _ (by blk_simp [h0]) (by blk_simp [h0])).trans (front_real H.a1 _ _)

/-- An array of one row reads its one-dimensional origin. -/
theorem row_apply (x : FVec Ideal S2048 .f32) (z : Fin 1) (k : Fin 2048) :
    (broadcastInDim S1x2048 ![1] bcast_S2048_S1x2048_1 x : FVec Ideal S1x2048 .f32) (ix2 z k) = x (ix1 k) := by pointwise

/-- The gains. -/
theorem blk4 (H : Args m c h o p q e d) (t : Fin cfg0.N) (z : Fin 1) (k : Fin 2048) :
    ((iblk m c 4 t : FVec Ideal S1x2048 .f32) (ix2 z k) : EReal) = (q k : EReal) := by
  have h0 := (idx t).2.2.2.2.1
  show V m c main_v18 (((cfg0.win 4).blk t).view.emb (ix2 z k)) = _
  rw [(entries m c).2.2.2.2.1, show ((cfg0.win 4).blk t).view.emb (ix2 z k) = ix2 z k from ext2 (by blk_simp [h0]) (by blk_simp [h0])]
  exact (row_apply _ z k).trans (H.a3 k)

theorem blk5 (H : Args m c h o p q e d) (t : Fin cfg0.N) (z : Fin 1) (k : Fin 2048) :
    ((iblk m c 5 t : FVec Ideal S1x2048 .f32) (ix2 z k) : EReal) = (p k : EReal) := by
  have h0 := (idx t).2.2.2.2.2.1
  show V m c main_v19 (((cfg0.win 5).blk t).view.emb (ix2 z k)) = _
  rw [(entries m c).2.2.2.2.2, show ((cfg0.win 5).blk t).view.emb (ix2 z k) = ix2 z k from ext2 (by blk_simp [h0]) (by blk_simp [h0])]
  exact (row_apply _ z k).trans (H.a2 k)

/-- On a row of the kernel's arrays the gradients are those of the argument's row, and zero in front. -/
theorem dmidN (R : ℕ) (k : Fin 2048) :
    rowN e R k + dx q (rowN (mid h o p) R) (rowN d R) k = rowN (dmid h o p q e d) R k := by
  by_cases hR : 112 ≤ R ∧ R - 112 < 2064
  · simp only [rowN_in _ R hR]; rfl
  · simp only [rowN_out _ R hR, dx_zero, add_zero]

theorem doN (R : ℕ) (k : Fin 2048) :
    dx p (rowN o R) (rowN (dmid h o p q e d) R) k = rowN (fun r k => dx p (o r) (dmid h o p q e d r) k) R k := by
  by_cases hR : 112 ≤ R ∧ R - 112 < 2064
  · simp only [rowN_in _ R hR]
  · simp only [rowN_out _ R hR, dx_zero]

theorem gainN (x y : Fin 2064 → Fin 2048 → ℝ) (R : ℕ) (k : Fin 2048) :
    rowN y R k * yn (rowN x R) k = rowN (fun r k => y r k * yn (x r) k) R k := by
  by_cases hR : 112 ≤ R ∧ R - 112 < 2064
  · simp only [rowN_in _ R hR]
  · simp only [rowN_out _ R hR, zero_mul]

/-- The tile of the gradient in front of the second norm. -/
theorem tile_dh (H : Args m c h o p q e d) (t : Fin cfg0.N) (r : Fin 272) (k : Fin 2048) :
    (k0_pay12 (F := Ideal) (iblk m c 1 t) (iblk m c 2 t) (iblk m c 4 t) (iblk m c 0 t) (ix2 r k) : EReal)
      = (rowN (dmid h o p q e d) (t.val * 272 + r.val) k : EReal) :=
  (pay_dh (blk1 H t) (blk2 H t) (blk4 H t) (blk0 H t) r k).trans (congrArg _ (dmidN _ k))

theorem tile_o (H : Args m c h o p q e d) (t : Fin cfg0.N) (r : Fin 272) (k : Fin 2048) :
    (k0_pay13 (F := Ideal) (iblk m c 3 t) (ix2 r k) : EReal) = (rowN o (t.val * 272 + r.val) k : EReal) :=
  (pay_id _ r k).trans (blk3 H t r k)

/-- What a point leaves of the gradient in front of the second norm. -/
theorem outs_dh (H : Args m c h o p q e d) (t : Fin cfg0.N) (r : Fin 272) (k : Fin 2048) :
    (((outsAt0 m c t.val t.isLt).1 : FVec Ideal S272x2048 .f32) (ix2 r k) : EReal) = (rowN (dmid h o p q e d) (t.val * 272 + r.val) k : EReal) := by
  have e := tile_dh H t r k
  by_cases h0 : t.val % 8 = 0
  · rw [outsAt0_A m c t h0 (by have := (idx t).2.2.2.2.2.2.2.2; omega)]; frame_out; exact e
  · rw [outsAt0_B m c t h0 (by omega)]; frame_out; exact e

/-- What a point leaves of the gradient in front of the first norm. -/
theorem outs_do (H : Args m c h o p q e d) (t : Fin cfg0.N) (r : Fin 272) (k : Fin 2048) :
    (((outsAt0 m c t.val t.isLt).2.1 : FVec Ideal S272x2048 .bf16) (ix2 r k) : EReal)
      = (rowN (fun r k => dx p (o r) (dmid h o p q e d r) k) (t.val * 272 + r.val) k : EReal) := by
  have e := (pay_do (tile_dh H t) (tile_o H t) (blk5 H t) r k).trans (congrArg _ (doN _ k))
  by_cases h0 : t.val % 8 = 0
  · rw [outsAt0_A m c t h0 (by have := (idx t).2.2.2.2.2.2.2.2; omega)]; frame_out; exact e
  · rw [outsAt0_B m c t h0 (by omega)]; frame_out; exact e

/-- A tile's sum over its rows. -/
theorem tile_sum (x y : Fin 2064 → Fin 2048 → ℝ) (t : ℕ) (k : Fin 2048) :
    (∑ r : Fin 272, rowN y (t * 272 + r.val) k * yn (rowN x (t * 272 + r.val)) k)
      = ∑ r : Fin 272, rowN (fun r k => y r k * yn (x r) k) (t * 272 + r.val) k :=
  Finset.sum_congr rfl fun r _ => gainN x y _ k

/-- What the last point leaves of the second gain's gradient. -/
theorem last_dgm (H : Args m c h o p q e d) (z : Fin 1) (k : Fin 2048) : ((outsAt0 m c t0_7.val t0_7.isLt).2.2.1 (ix2 z k) : EReal)
    = ((∑ r, d r k * yn (mid h o p r) k : ℝ) : EReal) := by
  refine gathered 8 272 rfl N_0 (fun n hn => (outsAt0 m c n hn).2.2.1) (fun r k => d r k * yn (mid h o p r) k)
    (fun t h0 z k => ?_) (fun t h0 z k => ?_) t0_7 rfl z k
  · rw [outsAt0_A m c t h0 (by have := (idx t).2.2.2.2.2.2.2.2; omega)]; frame_out
    exact (pay_dgm (blk1 H t) (blk2 H t) z k).trans (congrArg _ (tile_sum _ _ _ k))
  · rw [outsAt0_B m c t h0 (by omega)]; frame_out
    exact (step_dgm _ _ z k).trans (congrArg _ ((pay_dgm (blk1 H t) (blk2 H t) z k).trans (congrArg _ (tile_sum _ _ _ k))))

/-- What the last point leaves of the first gain's gradient. -/
theorem last_dgp (H : Args m c h o p q e d) (z : Fin 1) (k : Fin 2048) : ((outsAt0 m c t0_7.val t0_7.isLt).2.2.2 (ix2 z k) : EReal)
    = ((∑ r, dmid h o p q e d r k * yn (o r) k : ℝ) : EReal) := by
  refine gathered 8 272 rfl N_0 (fun n hn => (outsAt0 m c n hn).2.2.2) (fun r k => dmid h o p q e d r k * yn (o r) k)
    (fun t h0 z k => ?_) (fun t h0 z k => ?_) t0_7 rfl z k
  · rw [outsAt0_A m c t h0 (by have := (idx t).2.2.2.2.2.2.2.2; omega)]; frame_out
    exact (pay_dgp (tile_dh H t) (tile_o H t) z k).trans (congrArg _ (tile_sum _ _ _ k))
  · rw [outsAt0_B m c t h0 (by omega)]; frame_out
    exact (step_dgp _ z k).trans (congrArg _ ((pay_dgp (tile_dh H t) (tile_o H t) z k).trans (congrArg _ (tile_sum _ _ _ k))))

/-- The gradient of `h` after the last grid point. -/
theorem final_dh (H : Args m c h o p q e d) : (dats m 0 c).arrAt 6 (cfgs 0).N = val_main_v75 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp; rw [after0_6]
  have h0 := (idx t).2.2.2.2.2.2.1
  have e0 : ((((cfg0.win 6).blk t).view.emb y) 0).val = t.val * 272 + (y 0).val := by blk_simp [h0]
  have e1 : ((((cfg0.win 6).blk t).view.emb y) 1).val = (y 1).val := by blk_simp [h0]
  refine Eq.trans ?_ ((congrFun (pad_front _ _ _ _ fun _ => sitofp_zero) _).trans
    ((front_congr _ e0 e1).trans (front_real (ref_dmid H) _ (y 1)))).symm
  rw [show y = ix2 (y 0) (y 1) from ext2 rfl rfl]
  exact outs_dh H t (y 0) (y 1)

/-- The gradient of `o` after the last grid point. -/
theorem final_do (H : Args m c h o p q e d) : (dats m 0 c).arrAt 7 (cfgs 0).N = val_main_v77 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp; rw [after0_7]
  have h0 := (idx t).2.2.2.2.2.2.2.1
  have e0 : ((((cfg0.win 7).blk t).view.emb y) 0).val = t.val * 272 + (y 0).val := by blk_simp [h0]
  have e1 : ((((cfg0.win 7).blk t).view.emb y) 1).val = (y 1).val := by blk_simp [h0]
  refine Eq.trans ?_ ((congrFun (pad_front (n := 2048) (val_main_v74 (F := Ideal) _ _ _ _ _ _) pads_S2064x2048_S2176x2048_11200_000 h_S_ _ fun _ => sitofp_zero) _).trans
    ((front_congr _ e0 e1).trans (front_real (ref_do H) _ (y 1)))).symm
  rw [show y = ix2 (y 0) (y 1) from ext2 rfl rfl]
  exact outs_do H t (y 0) (y 1)

/-- The second gain's gradient after the last grid point. -/
theorem final_dgm (H : Args m c h o p q e d) : (dats m 0 c).arrAt 8 (cfgs 0).N = val_main_v78 (F := Ideal)
    (m ((c : Thread nD τ).loc main_arg0)) (m ((c : Thread nD τ).loc main_arg1)) (m ((c : Thread nD τ).loc main_arg2))
    (m ((c : Thread nD τ).loc main_arg5)) := by
  refine (dats m 0 c).arrAt_eq_of_after_last 8 t0_7 (by decide +kernel) _ fun j => ?_
  rw [after0_8, show j = ix2 (j 0) (j 1) from ext2 rfl rfl]
  exact (last_dgm H (j 0) (j 1)).trans (ref_dgm H (j 0) (j 1)).symm

/-- The first gain's gradient after the last grid point. -/
theorem final_dgp (H : Args m c h o p q e d) : (dats m 0 c).arrAt 9 (cfgs 0).N = val_main_v79 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_after_last 9 t0_7 (by decide +kernel) _ fun j => ?_
  rw [after0_9, show j = ix2 (j 0) (j 1) from ext2 rfl rfl]
  exact (last_dgp H (j 0) (j 1)).trans (ref_dgp H (j 0) (j 1)).symm

/-- Finite arguments are real numbers. -/
theorem args_of_pre (hp : Cert.Pre_MidNormIdeal_mid_norm_finite m) (c : Dev nD) : ∃ h o p q e d, Args m c h o p q e d := by
  obtain ⟨h0, h1, h2, h3, h4, h5⟩ := hp c
  obtain ⟨h, a0⟩ := reals _ h0
  obtain ⟨o, a1⟩ := reals _ h1
  obtain ⟨p, a2⟩ := reals _ h2
  obtain ⟨q, a3⟩ := reals _ h3
  obtain ⟨e, a4⟩ := reals _ h4
  obtain ⟨d, a5⟩ := reals _ h5
  exact ⟨fun r k => h (ix2 r k), fun r k => o (ix2 r k), fun k => p (ix1 k), fun k => q (ix1 k), fun r k => e (ix2 r k), fun r k => d (ix2 r k),
    fun r k => a0 _, fun r k => a1 _, fun k => a2 _, fun k => a3 _, fun r k => a4 _, fun r k => a5 _⟩

/-- The four results for finite arguments. -/
theorem finals (hp : Cert.Pre_MidNormIdeal_mid_norm_finite m) (c : Dev nD) :
    (dats m 0 c).arrAt 6 (cfgs 0).N = val_main_v75 (F := Ideal) (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
    ∧ (dats m 0 c).arrAt 7 (cfgs 0).N = val_main_v77 (F := Ideal) (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
    ∧ (dats m 0 c).arrAt 8 (cfgs 0).N = val_main_v78 (F := Ideal) (m ((c : Thread nD τ).loc main_arg0))
      (m ((c : Thread nD τ).loc main_arg1))
      (m ((c : Thread nD τ).loc main_arg2))
      (m ((c : Thread nD τ).loc main_arg5))
    ∧ (dats m 0 c).arrAt 9 (cfgs 0).N = val_main_v79 (F := Ideal) (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5)) := by
  obtain ⟨h, o, p, q, e, d, H⟩ := args_of_pre hp c
  exact ⟨final_dh H, final_do H, final_dgm H, final_dgp H⟩

/-- The reference runs to its end with every counter at zero. -/
theorem frame_ref : Cert.quiescent_MidNormRefIdeal := fun m ρ _ =>
  (θ_run Cert.MidNormRefIdeal.defs _ _).mono
    (fun r h => ⟨fun c => (h c).2.2.2.2, sem_eq_zero_of_no_sems (by decide) r.2⟩) (Cert.MidNormRefIdeal.Value.run (F := Ideal) m ρ)

/-- A function of six arguments at equal arguments, and of four. -/
theorem congr6 {α β γ δ ε ζ η : Type} (f : α → β → γ → δ → ε → ζ → η) {a a' : α} {b b' : β} {c c' : γ} {d d' : δ} {e e' : ε} {g g' : ζ}
    (ha : a = a') (hb : b = b') (hc : c = c') (hd : d = d') (he : e = e') (hg : g = g') : f a b c d e g = f a' b' c' d' e' g' := by
  subst ha hb hc hd he hg; rfl
theorem congr4 {α β γ δ η : Type} (f : α → β → γ → δ → η) {a a' : α} {b b' : β} {c c' : γ} {d d' : δ}
    (ha : a = a') (hb : b = b') (hc : c = c') (hd : d = d') : f a b c d = f a' b' c' d' := by
  subst ha hb hc hd; rfl

set_option maxHeartbeats 2000000 in
/-- Over the reals, for finite arguments, the call's four results are the reference's. -/
theorem algebraic : Cert.algebraic_MidNormIdeal_MidNormRefIdeal_pre_mid_norm_finite := by
  pair_intro
  · run_from Cert.MidNormIdeal.Gen.run_main m g
    exacts [V_main_arg0 m c, V_main_arg1 m c, V_main_arg2 m c, V_main_arg3 m c, V_main_arg4 m c, V_main_arg5 m c]
  · refine θ_run_mono (Cert.MidNormRefIdeal.Value.run m' g') fun r hr c => ?_
    have hfin := finals hpre c
    have he := hagree c
    have hr' := hr c
    have e0 := he.1
    have e1 := he.2.1
    have e2 := he.2.2.1
    have e3 := he.2.2.2.1
    have e4 := he.2.2.2.2.1
    have e5 := he.2.2.2.2.2
    refine ⟨?_, ?_, ?_, ?_, hr'.2.2.2.2⟩
    · exact hr'.1.trans ((val_main_v75_eq m' c).trans ((congr6 (val_main_v75 (F := Ideal)) e0 e1 e2 e3 e4 e5).trans hfin.1.symm))
    · exact hr'.2.1.trans ((val_main_v77_eq m' c).trans ((congr6 (val_main_v77 (F := Ideal)) e0 e1 e2 e3 e4 e5).trans hfin.2.1.symm))
    · exact hr'.2.2.1.trans ((val_main_v78_eq (F := Ideal) _ _ _ _).trans
        ((congr4 (val_main_v78 (F := Ideal)) e0 e1 e2 e5).trans hfin.2.2.1.symm))
    · exact hr'.2.2.2.1.trans ((val_main_v79_eq m' c).trans ((congr6 (val_main_v79 (F := Ideal)) e0 e1 e2 e3 e4 e5).trans hfin.2.2.2.symm))

/-- Everything that is claimed of this call. -/
theorem claims : Cert.quiescent_MidNorm ∧ Cert.quiescent_MidNormIdeal ∧ Cert.quiescent_MidNormIdeal_pre_mid_norm_finite
    ∧ Cert.quiescent_MidNormRefIdeal ∧ Cert.quiescent_MidNormRefIdeal_pre_mid_norm_finite
    ∧ Cert.preserves_MidNorm_MidNormIdeal ∧ Cert.algebraic_MidNormIdeal_MidNormRefIdeal_pre_mid_norm_finite :=
  ⟨fun m ρ _ => Cert.MidNorm.Gen.frame m ρ, fun m ρ _ => Cert.MidNormIdeal.Gen.frame m ρ, fun m ρ _ => Cert.MidNormIdeal.Gen.frame m ρ,
    frame_ref, fun m ρ _ => frame_ref m ρ trivial, trivial, algebraic⟩

end Cert.MidNormIdeal.Grad

end
-- ==== Proof.LossPay.lean ====
/-
  What the body of the loss kernel computes from a tile of reals: the difference to the target, its part of the loss, the
  gradient behind and in front of the norm, and the tile's part of the gain's gradient.
-/
module

public import proofs.«01_k».proof.Proof.RmsNorm
public import proofs.«01_k».proof.Proof.Common
public import proofs.«01_k».proof.Proof.Gen.LossIdeal.Skeleton

@[expose] public section

noncomputable section

namespace Cert.LossIdeal.Grad

open Cert.LossIdeal Cert.LossIdeal.Gen Cert.RealKit Cert.RmsNorm
open Idealize.ShloMosaic Idealize.ShloMosaic.TcCoe

/-- The word of 1/2048. -/
theorem winv2048 : Ideal.ofBits .f32 0x3A000000#32 = ((1 / 2048 : ℝ) : EReal) := by
  simp [Ideal.ofBits, Ideal.ieee, -EReal.coe_mul]; norm_num

/-- The word of one half. -/
theorem whalf : Ideal.ofBits .f32 0x3F000000#32 = ((1 / 2 : ℝ) : EReal) := by
  simp [Ideal.ofBits, Ideal.ieee, -EReal.coe_mul]; norm_num

/-- The word of one. -/
theorem wone : Ideal.ofBits .f32 0x3F800000#32 = ((1 : ℝ) : EReal) := by
  simp [Ideal.ofBits, Ideal.ieee, -EReal.coe_mul]; norm_num

/-- The factor that switches the first tile off. -/
def live (n : ℕ) : ℝ := if n = 0 then 0 else 1

/-- The word that the comparison with zero gives. -/
theorem live_word : ∀ n : Fin 17, (Scalar.extui (Scalar.cmpi .sgt (BitVec.ofNat 32 n.val) 0#32) : BitVec 32).toInt = if n.val = 0 then 0 else 1 := by
  decide +kernel

theorem live_eq (n : ℕ) (hn : n < 17) :
    (FloatOps.sitofp .f32 (Scalar.extui (Scalar.cmpi .sgt (BitVec.ofNat 32 n) 0#32) : BitVec 32) : Ideal .f32) = (live n : EReal) := by
  show ((((Scalar.extui (Scalar.cmpi .sgt (BitVec.ofNat 32 n) 0#32) : BitVec 32).toInt : ℝ)) : EReal) = _
  rw [live_word ⟨n, hn⟩]; unfold live; split <;> simp

variable {i : grid0.Coords} {v0 v4 v22 u : FVec Ideal S128x2048 .f32} {v2 : FVec Ideal S1x2048 .f32} {f h s d : Fin 128 → Fin 2048 → ℝ}
  {g : Fin 2048 → ℝ}

/-- The rows pass unchanged, as does the gain. -/
theorem pay_rows (h0 : ∀ r k, (v0 (ix2 r k) : EReal) = (f r k : EReal)) (r : Fin 128) (k : Fin 2048) :
    (k0_pay8 (F := Ideal) v0 (ix2 r k) : EReal) = (f r k : EReal) := by
  pointwise [k0_pay8]; exact h0 r k
theorem pay_gain (h2 : ∀ z k, (v2 (ix2 z k) : EReal) = (g k : EReal)) (z : Fin 1) (k : Fin 2048) :
    (k0_pay9 (F := Ideal) v2 (ix2 z k) : EReal) = (g k : EReal) := by
  pointwise [k0_pay9]; exact h2 z k
theorem pay_sq (h0 : ∀ r k, (v0 (ix2 r k) : EReal) = (f r k : EReal)) (r : Fin 128) (k : Fin 2048) :
    (k0_pay13 (F := Ideal) v0 (ix2 r k) : EReal) = ((f r k * f r k : ℝ) : EReal) := by
  pointwise [k0_pay13]; simp only [pay_rows h0, ← EReal.coe_mul]

/-- The difference to the target, switched off in the first tile. -/
def diffT (i : grid0.Coords) (f h s : Fin 128 → Fin 2048 → ℝ) (g : Fin 2048 → ℝ) (r : Fin 128) (k : Fin 2048) : ℝ :=
  (h r k + yn (f r) k * g k - s r k) * live (i 0).val

theorem pay_diff (h0 : ∀ r k, (v0 (ix2 r k) : EReal) = (f r k : EReal)) (h2 : ∀ z k, (v2 (ix2 z k) : EReal) = (g k : EReal))
    (h4 : ∀ r k, (v4 (ix2 r k) : EReal) = (h r k : EReal)) (h22 : ∀ r k, (v22 (ix2 r k) : EReal) = (s r k : EReal)) (r : Fin 128) (k : Fin 2048) :
    (k0_pay10 (F := Ideal) i v0 v2 v4 v22 (ix2 r k) : EReal) = (diffT i f h s g r k : EReal) := by
  have hl := live_eq (i 0).val (i 0).isLt
  pointwise [k0_pay10]
  simp only [pay_rows h0, pay_gain h2, h4, h22, ← EReal.coe_mul, sum_coe, w2048, weps6]
  rw [div_real _ _ (by norm_num), ← EReal.coe_add]
  have hr : Ideal.rsqrt (((∑ k, f r k * f r k) / 2048 + eps6 : ℝ) : EReal) = ((rs (f r) : ℝ) : EReal) := rsqrt_real _ (var_pos (f r))
  rw [hr]
  refine (congrArg (fun l : EReal => ((h r k : EReal) + (f r k : EReal) * ((rs (f r) : ℝ) : EReal) * (g k : EReal) - (s r k : EReal)) * l) hl).trans ?_
  simp only [← EReal.coe_mul, ← EReal.coe_add, ← EReal.coe_sub]
  rfl

/-- The tile's part of the loss. -/
theorem pay_loss (h10 : ∀ r k, (k0_pay10 (F := Ideal) i v0 v2 v4 v22 (ix2 r k) : EReal) = (d r k : EReal)) (z w : Fin 1) :
    (k0_pay11 (F := Ideal) i v0 v2 v4 v22 (ix2 z w) : EReal) = ((∑ r, 1 / 2 * ((∑ k, d r k * d r k) / 2048) : ℝ) : EReal) := by
  pointwise [k0_pay11]
  simp only [h10, ← EReal.coe_mul, sum_coe, w2048, whalf, div_real _ _ (by norm_num : (2048 : ℝ) ≠ 0)]
  rw [Finset.mul_sum]

/-- The gradient behind the norm. -/
theorem pay_dy (h10 : ∀ r k, (k0_pay10 (F := Ideal) i v0 v2 v4 v22 (ix2 r k) : EReal) = (d r k : EReal)) (r : Fin 128) (k : Fin 2048) :
    (k0_pay12 (F := Ideal) i v0 v2 v4 v22 (ix2 r k) : EReal) = ((d r k / 2048 : ℝ) : EReal) := by
  pointwise [k0_pay12]
  simp only [h10, winv2048, ← EReal.coe_mul]
  rw [mul_one_div]

/-- The norm's scale. -/
theorem pay_rs (h38 : ∀ r k, (u (ix2 r k) : EReal) = ((f r k * f r k : ℝ) : EReal)) (r : Fin 128) (z : Fin 1) :
    (k0_pay1 (F := Ideal) u (ix2 r z) : EReal) = (rs (f r) : EReal) := by
  pointwise [k0_pay1]
  simp only [h38, sum_coe, w2048, weps6]
  rw [div_real _ _ (by norm_num), ← EReal.coe_add]; exact rsqrt_real _ (var_pos (f r))

theorem pay_yn (h1 : ∀ r k, (v0 (ix2 r k) : EReal) = (f r k : EReal)) (h38 : ∀ r k, (u (ix2 r k) : EReal) = ((f r k * f r k : ℝ) : EReal))
    (r : Fin 128) (k : Fin 2048) : (k0_pay2 (F := Ideal) v0 u (ix2 r k) : EReal) = (yn (f r) k : EReal) := by
  pointwise [k0_pay2]
  simp only [pay_rs h38, h1, ← EReal.coe_mul]; rfl

/-- The tile's part of the gain's gradient. -/
theorem pay_dg (h1 : ∀ r k, (v0 (ix2 r k) : EReal) = (f r k : EReal)) (h36 : ∀ r k, (v4 (ix2 r k) : EReal) = (d r k : EReal))
    (h38 : ∀ r k, (u (ix2 r k) : EReal) = ((f r k * f r k : ℝ) : EReal)) (z : Fin 1) (k : Fin 2048) :
    (k0_pay3 (F := Ideal) v0 v4 u (ix2 z k) : EReal) = ((∑ r, d r k * yn (f r) k : ℝ) : EReal) := by
  pointwise [k0_pay3]
  simp only [pay_yn h1 h38, h36, ← EReal.coe_mul, sum_coe]

/-- The gradient in front of the norm. -/
theorem pay_df (h1 : ∀ r k, (v0 (ix2 r k) : EReal) = (f r k : EReal)) (h3 : ∀ z k, (v2 (ix2 z k) : EReal) = (g k : EReal))
    (h36 : ∀ r k, (v4 (ix2 r k) : EReal) = (d r k : EReal)) (h38 : ∀ r k, (u (ix2 r k) : EReal) = ((f r k * f r k : ℝ) : EReal))
    (r : Fin 128) (k : Fin 2048) : (k0_pay4 (F := Ideal) v0 v2 v4 u (ix2 r k) : EReal) = (dx g (f r) (d r) k : EReal) := by
  pointwise [k0_pay4]
  simp only [pay_yn h1 h38, pay_rs h38, h3, h36, sum_coe, w2048, ← EReal.coe_mul]
  rw [div_real _ _ (by norm_num)]
  simp only [← EReal.coe_mul, ← EReal.coe_sub]
  rfl

/-- The first point leaves its part of the loss in every lane. -/
theorem loss_first (p : FVec Ideal S1x1 .f32) (z : Fin 1) (k : Fin 128) : (k0_pay5 (F := Ideal) p (ix2 z k) : EReal) = p (ix2 0 0) := by
  pointwise [k0_pay5]

/-- A later point adds its part to what the point before left. -/
theorem step_dg (p : FVec Ideal S1x2048 .f32) (z : Fin 1) (k : Fin 2048) :
    (k0_pay6 (F := Ideal) v0 v4 u p (ix2 z k) : EReal) = (p (ix2 z k) : EReal) + (k0_pay3 (F := Ideal) v0 v4 u (ix2 z k) : EReal) := by
  pointwise [k0_pay6]
theorem step_loss (p : FVec Ideal S1x1 .f32) (q : FVec Ideal S1x128 .f32) (z : Fin 1) (k : Fin 128) :
    (k0_pay7 (F := Ideal) p q (ix2 z k) : EReal) = (q (ix2 z k) : EReal) + (p (ix2 0 0) : EReal) := by
  pointwise [k0_pay7]

end Cert.LossIdeal.Grad

end
-- ==== Proof.LossRef.lean ====
/-
  The reference of the loss and of its gradient, read at arrays of reals.
-/
module

public import proofs.«01_k».proof.Proof.RmsNorm
public import proofs.«01_k».proof.Proof.Common
public import proofs.«01_k».proof.Proof.LossPay
public import proofs.«01_k».proof.Proof.Gen.LossRefIdeal.Read

@[expose] public section

noncomputable section

namespace Cert.LossRefIdeal.Grad

open Cert.LossRefIdeal Cert.LossRefIdeal.Gen Cert.LossRefIdeal.Read Cert.RealKit Cert.RmsNorm Cert.Common
open Cert.LossIdeal.Grad (whalf wone)
open Idealize.ShloMosaic Idealize.ShloMosaic.TcCoe

/-- The arguments: the MLP's rows, the residual rows, the gain and the target. -/
structure Reals (x0 x1 : FVec Ideal S2064x2048 .f32) (x2 : FVec Ideal S2048 .f32) (x3 : FVec Ideal S2048x2048 .f32)
    (f h : Fin 2064 → Fin 2048 → ℝ) (g : Fin 2048 → ℝ) (s : Fin 2048 → Fin 2048 → ℝ) : Prop where
  a0 : ∀ r k, (x0 (ix2 r k) : EReal) = (f r k : EReal)
  a1 : ∀ r k, (x1 (ix2 r k) : EReal) = (h r k : EReal)
  a2 : ∀ k, (x2 (ix1 k) : EReal) = (g k : EReal)
  a3 : ∀ r k, (x3 (ix2 r k) : EReal) = (s r k : EReal)

/-- The difference to the target, which the first 16 rows do not have. -/
def diff (f h : Fin 2064 → Fin 2048 → ℝ) (g : Fin 2048 → ℝ) (s : Fin 2048 → Fin 2048 → ℝ) (r : Fin 2064) (k : Fin 2048) : ℝ :=
  if hr : 16 ≤ r.val then h r k + yn (f r) k * g k - s ⟨r.val - 16, by have := r.isLt; omega⟩ k else 0
/-- The gradient behind the norm. -/
def dy (f h : Fin 2064 → Fin 2048 → ℝ) (g : Fin 2048 → ℝ) (s : Fin 2048 → Fin 2048 → ℝ) (r : Fin 2064) (k : Fin 2048) : ℝ :=
  diff f h g s r k / 2048
/-- A row's part of the loss. -/
def part (f h : Fin 2064 → Fin 2048 → ℝ) (g : Fin 2048 → ℝ) (s : Fin 2048 → Fin 2048 → ℝ) (r : Fin 2064) : ℝ :=
  1 / 2 * ((∑ k, diff f h g s r k * diff f h g s r k) / 2048)

variable {x0 x1 : FVec Ideal S2064x2048 .f32} {x2 : FVec Ideal S2048 .f32} {x3 : FVec Ideal S2048x2048 .f32}
  {f h : Fin 2064 → Fin 2048 → ℝ} {g : Fin 2048 → ℝ} {s : Fin 2048 → Fin 2048 → ℝ}

theorem ref_var (H : Reals x0 x1 x2 x3 f h g s) (r : Fin 2064) (z : Fin 1) :
    (val_main_v6 (F := Ideal) x0 (ix2 r z) : EReal) = (var (f r) : EReal) := by
  pointwise [val_main_v6, val_main_v5, val_main_v4, val_main_v3, val_main_v2, val_main_v1, val_main_v0, val_main_cst, val_main_cst_0,
    val_main_cst_1]
  simp only [H.a0, ← EReal.coe_mul, sum_coe, w2048, weps6]
  rw [div_real _ _ (by norm_num), ← EReal.coe_add]; rfl

theorem ref_rs (H : Reals x0 x1 x2 x3 f h g s) (r : Fin 2064) (z : Fin 1) :
    (val_main_v7 (F := Ideal) x0 (ix2 r z) : EReal) = (rs (f r) : EReal) := by
  pointwise [val_main_v7]
  rw [ref_var H, rsqrt_real _ (var_pos _)]; rfl

theorem ref_fac (H : Reals x0 x1 x2 x3 f h g s) (r : Fin 2064) (z : Fin 1) :
    (val_main_v10 (F := Ideal) x0 (ix2 r z) : EReal) = ((-(1 / 2) * (rs (f r) / var (f r)) : ℝ) : EReal) := by
  pointwise [val_main_v10, val_main_v9, val_main_v8, val_main_cst_2]
  rw [ref_var H, ref_rs H, wmhalf, div_real _ _ (var_pos _).ne', ← EReal.coe_mul]

theorem ref_yn (H : Reals x0 x1 x2 x3 f h g s) (r : Fin 2064) (k : Fin 2048) :
    (val_main_v12 (F := Ideal) x0 (ix2 r k) : EReal) = (yn (f r) k : EReal) := by
  pointwise [val_main_v12, val_main_v11]
  simp only [H.a0, ref_rs H, ← EReal.coe_mul]; rfl

theorem ref_y (H : Reals x0 x1 x2 x3 f h g s) (r : Fin 2064) (k : Fin 2048) :
    (val_main_v16 (F := Ideal) x0 x1 x2 (ix2 r k) : EReal) = ((h r k + yn (f r) k * g k : ℝ) : EReal) := by
  pointwise [val_main_v16, val_main_v15, val_main_v14, val_main_v13]
  simp only [H.a1, H.a2, ref_yn H, ← EReal.coe_mul, ← EReal.coe_add]

/-- Row `r` of the sequence is row `16 + r` of the rows. -/
theorem ref_diff (H : Reals x0 x1 x2 x3 f h g s) (r : Fin 2048) (k : Fin 2048) :
    (val_main_v18 (F := Ideal) x0 x1 x2 x3 (ix2 r k) : EReal) = (diff f h g s ⟨16 + r.val, by omega⟩ k : EReal) := by
  have hy := ref_y H ⟨16 + r.val, by omega⟩ k
  pointwise [val_main_v18, val_main_v17]
  refine (congrArg₂ (fun a b : EReal => a - b) hy (H.a3 r k)).trans ?_
  rw [← EReal.coe_sub]; unfold diff
  rw [dif_pos (Nat.le_add_right 16 r.val), show (⟨16 + r.val - 16, by omega⟩ : Fin 2048) = r from Fin.ext (by simp)]

/-- The first rows have no part in the loss. -/
theorem part_zero (r : Fin 2064) (hr : r.val < 16) : part f h g s r = 0 := by
  unfold part diff; simp [dif_neg (not_le.mpr hr)]

/-- The loss. -/
theorem ref_loss (H : Reals x0 x1 x2 x3 f h g s) (z : Fin 1) (k : Fin 128) :
    (val_main_v58 (F := Ideal) x0 x1 x2 x3 (ix2 z k) : EReal) = ((∑ r, part f h g s r : ℝ) : EReal) := by
  pointwise [val_main_v58, val_main_v26, val_main_v25, val_main_v24, val_main_v23, val_main_v22, val_main_v19, val_main_cst_4, val_main_cst_5,
    val_main_cst_6, val_main_cst_7]
  simp only [ref_diff H, ← EReal.coe_mul, sum_coe, w2048, whalf, div_real _ _ (by norm_num : (2048 : ℝ) ≠ 0)]
  refine congrArg _ ?_
  rw [show (∑ r, part f h g s r) = ∑ r : Fin 16, part f h g s (Fin.castAdd 2048 r) + ∑ r : Fin 2048, part f h g s (Fin.natAdd 16 r) from
      Fin.sum_univ_add (a := 16) (b := 2048) _, Finset.sum_eq_zero fun r _ => part_zero _ r.isLt, zero_add, Finset.mul_sum]
  rfl

/-- The gradient behind the norm. -/
theorem ref_dy (H : Reals x0 x1 x2 x3 f h g s) (r : Fin 2064) (k : Fin 2048) :
    (val_main_v33 (F := Ideal) x0 x1 x2 x3 (ix2 r k) : EReal) = (dy f h g s r k : EReal) := by
  pointwise [val_main_v33, val_main_v32, val_main_v31, val_main_v30, val_main_v29, val_main_v28, val_main_v27, val_main_v21, val_main_v20,
    val_main_cst_3, val_main_cst_8, val_main_cst_9, val_main_cst_10, val_main_cst_11]
  split
  · next hr =>
    rw [ref_diff H, w2, whalf, w2048, div_real _ _ (by norm_num), ← EReal.coe_mul, ← EReal.coe_mul]
    refine congrArg _ ?_
    rw [show (⟨16 + (r.val - 16), by omega⟩ : Fin 2064) = r from Fin.ext (by simp; omega)]
    unfold dy; ring
  · next hr =>
    unfold dy diff; rw [dif_neg (by have := r.isLt; omega), zero_div]; rfl

theorem ref_dyg (H : Reals x0 x1 x2 x3 f h g s) (r : Fin 2064) (k : Fin 2048) :
    (val_main_v38 (F := Ideal) x0 x1 x2 x3 (ix2 r k) : EReal) = ((dy f h g s r k * g k : ℝ) : EReal) := by
  pointwise [val_main_v38, val_main_v37, val_main_v13]
  simp only [H.a2, ref_dy H, ← EReal.coe_mul]

theorem ref_drift (H : Reals x0 x1 x2 x3 f h g s) (r : Fin 2064) (k : Fin 2048) :
    (val_main_v49 (F := Ideal) x0 x1 x2 x3 (ix2 r k) : EReal) = (drift g (f r) (dy f h g s r) : EReal) := by
  pointwise [val_main_v49, val_main_v48, val_main_v47, val_main_v46, val_main_v45, val_main_v42, val_main_v41, val_main_v40,
    val_main_cst_14, val_main_cst_15, val_main_cst_16]
  simp only [H.a0, ref_dyg H, ref_fac H, w2048, ← EReal.coe_mul, sum_coe]
  rw [div_real _ _ (by norm_num), Fin.sum_univ_one]; rfl

/-- The gradient in front of the norm. -/
theorem ref_df (H : Reals x0 x1 x2 x3 f h g s) (r : Fin 2064) (k : Fin 2048) :
    (val_main_v53 (F := Ideal) x0 x1 x2 x3 (ix2 r k) : EReal) = (dx g (f r) (dy f h g s r) k : EReal) := by
  pointwise [val_main_v53, val_main_v52, val_main_v51, val_main_v50, val_main_v44, val_main_v43]
  simp only [H.a0, ref_dyg H, ref_rs H, ref_drift H, ← EReal.coe_mul, ← EReal.coe_add]
  rw [dx_rule]

/-- The gain's gradient. -/
theorem ref_dg (H : Reals x0 x1 x2 x3 f h g s) (z : Fin 1) (k : Fin 2048) :
    (val_main_v57 (F := Ideal) x0 x1 x2 x3 (ix2 z k) : EReal) = ((∑ r, dy f h g s r k * yn (f r) k : ℝ) : EReal) := by
  pointwise [val_main_v57, val_main_v39, val_main_v36, val_main_v35, val_main_v34, val_main_cst_12, val_main_cst_13]
  simp only [ref_yn H, ref_dy H, ← EReal.coe_mul, sum_coe, Fin.sum_univ_one, mul_comm]

end Cert.LossRefIdeal.Grad

end
-- ==== Proof.LossGrads.lean ====
/-
  The loss head: for finite arguments the four arrays the call leaves are the loss (in every lane) and its gradient with
  respect to the MLP's rows, the residual rows and the gain of the last norm.
-/
module

public import proofs.«01_k».proof.Defs
public import proofs.«01_k».proof.Proof.Gen.LossIdeal.Value
public import proofs.«01_k».proof.Proof.Gen.LossRefIdeal.Read
public import proofs.«01_k».proof.Proof.Gen.Loss.Frame
public import proofs.«01_k».proof.Proof.Gen.Pre_loss_finite
public import proofs.«01_k».proof.Proof.LossPay
public import proofs.«01_k».proof.Proof.LossRef
public import proofs.«01_k».proof.Proof.FrontRows

@[expose] public section

set_option maxRecDepth 16384

noncomputable section

namespace Cert.LossIdeal.Grad

open Idealize.ShloMosaic Idealize.ShloMosaic.TcCoe Idealize.SL.Sem
open Idealize.ShloMosaic.Pipeline (Dat)
open Cert.LossIdeal Cert.LossIdeal.Gen Cert.Common Cert.RealKit Cert.RmsNorm Cert.FrontRows
open Cert.LossRefIdeal.Grad (Reals diff dy part ref_loss ref_dy ref_df ref_dg)
open Cert.LossRefIdeal.Read

variable (m : (ℓ : Loc nD τ sig) → Buf (Elt Ideal) ℓ)

/-- The blocks each grid point reads and writes. -/
theorem idx : ∀ t : Fin cfg0.N, win0_0.index t = ![t.val, 0] ∧ win0_1.index t = ![t.val, 0] ∧ win0_2.index t = ![t.val - 1, 0]
    ∧ win0_3.index t = ![0, 0] ∧ win0_4.index t = ![t.val, 0] ∧ win0_5.index t = ![t.val, 0] ∧ win0_6.index t = ![0, 0]
    ∧ win0_7.index t = ![0, 0] ∧ t.val < 17 ∧ (grid0.coords t 0).val = t.val :=
  (by decide +kernel : ∀ t : Fin grid0.N, _)

theorem lt17 (t : Fin cfg0.N) : t.val < 17 := (idx t).2.2.2.2.2.2.2.2.1

/-- The fill of the front rows is zero. -/
theorem fill_zero (i : S_.Idx) : ((sitofp .f32 (constantI S_ 32 0#32) : FVec Ideal S_ .f32) i : EReal) = 0 := sitofp_zero

/-- What the region finds in its operands: both arrays of rows behind rows of zeros, and the gain as an array of one row. -/
theorem entries (c : Dev nD) : V m c main_v0 = frontA (m ((c : Thread nD τ).loc main_arg0)) .f32
    ∧ V m c main_v1 = frontA (m ((c : Thread nD τ).loc main_arg1)) .f32
    ∧ V m c main_v2 = broadcastInDim S1x2048 ![1] bcast_S2048_S1x2048_1 (m ((c : Thread nD τ).loc main_arg2)) := by
  refine ⟨?_, ?_, ?_⟩ <;> unfold V <;>
    simp only [hostOps0, hostOps0_1, hostOps0_2, hostOps0_3, hostOps0_4,
      List.flatten_cons, List.flatten_nil, List.append_nil, List.cons_append, List.nil_append] <;> after_results
  · exact pad_front (m ((c : Thread nD τ).loc main_arg0)) pads_S2064x2048_S2176x2048_11200_000 h_S_ _ fill_zero
  · exact pad_front (m ((c : Thread nD τ).loc main_arg1)) pads_S2064x2048_S2176x2048_11200_000 h_S_ _ fill_zero

/-- The arguments hold these reals. -/
abbrev Args (c : Dev nD) (f h : Fin 2064 → Fin 2048 → ℝ) (g : Fin 2048 → ℝ) (s : Fin 2048 → Fin 2048 → ℝ) : Prop :=
  Reals (m ((c : Thread nD τ).loc main_arg0)) (m ((c : Thread nD τ).loc main_arg1)) (m ((c : Thread nD τ).loc main_arg2))
    (m ((c : Thread nD τ).loc main_arg3)) f h g s

variable {m} {c : Dev nD} {f h : Fin 2064 → Fin 2048 → ℝ} {g : Fin 2048 → ℝ} {s : Fin 2048 → Fin 2048 → ℝ}

/-- The tiles of the MLP's rows and of the residual rows. -/
theorem blk0 (H : Args m c f h g s) (t : Fin cfg0.N) (r : Fin 128) (k : Fin 2048) :
    ((iblk m c 0 t : FVec Ideal S128x2048 .f32) (ix2 r k) : EReal) = (rowN f (t.val * 128 + r.val) k : EReal) := by
  have h0 := (idx t).1
  show V m c main_v0 (((cfg0.win 0).blk t).view.emb (ix2 r k)) = _
  rw [(entries m c).1]
  exact (front_congr _ (by blk_simp [h0]) (by blk_simp [h0])).trans (front_real H.a0 _ _)

theorem blk1 (H : Args m c f h g s) (t : Fin cfg0.N) (r : Fin 128) (k : Fin 2048) :
    ((iblk m c 1 t : FVec Ideal S128x2048 .f32) (ix2 r k) : EReal) = (rowN h (t.val * 128 + r.val) k : EReal) := by
  have h0 := (idx t).2.1
  show V m c main_v1 (((cfg0.win 1).blk t).view.emb (ix2 r k)) = _
  rw [(entries m c).2.1]
  exact (front_congr _ (by blk_simp [h0]) (by blk_simp [h0])).trans (front_real H.a1 _ _)

/-- The tile of the target: the first tile reads the same rows as the second. -/
def goal (s : Fin 2048 → Fin 2048 → ℝ) (t : Fin cfg0.N) (r : Fin 128) (k : Fin 2048) : ℝ :=
  s ⟨(t.val - 1) * 128 + r.val, by have := lt17 t; omega⟩ k

theorem blk2 (H : Args m c f h g s) (t : Fin cfg0.N) (r : Fin 128) (k : Fin 2048) :
    ((iblk m c 2 t : FVec Ideal S128x2048 .f32) (ix2 r k) : EReal) = (goal s t r k : EReal) := by
  have h0 := (idx t).2.2.1
  show V m c main_arg3 (((cfg0.win 2).blk t).view.emb (ix2 r k)) = _
  rw [V_main_arg3 m c, show ((cfg0.win 2).blk t).view.emb (ix2 r k) = ix2 ⟨(t.val - 1) * 128 + r.val, by have := lt17 t; omega⟩ k from
    ext2 (by blk_simp [h0]) (by blk_simp [h0])]
  exact H.a3 _ k

/-- An array of one row reads its one-dimensional origin. -/
theorem row_apply (x : FVec Ideal S2048 .f32) (z : Fin 1) (k : Fin 2048) :
    (broadcastInDim S1x2048 ![1] bcast_S2048_S1x2048_1 x : FVec Ideal S1x2048 .f32) (ix2 z k) = x (ix1 k) := by pointwise

/-- The gain. -/
theorem blk3 (H : Args m c f h g s) (t : Fin cfg0.N) (z : Fin 1) (k : Fin 2048) :
    ((iblk m c 3 t : FVec Ideal S1x2048 .f32) (ix2 z k) : EReal) = (g k : EReal) := by
  have h0 := (idx t).2.2.2.1
  show V m c main_v2 (((cfg0.win 3).blk t).view.emb (ix2 z k)) = _
  rw [(entries m c).2.2, show ((cfg0.win 3).blk t).view.emb (ix2 z k) = ix2 z k from ext2 (by blk_simp [h0]) (by blk_simp [h0])]
  exact (row_apply _ z k).trans (H.a2 k)

/-- On a row of the kernel's arrays the difference to the target is that of the argument's row, and zero in the first tile. -/
theorem diffN (t : Fin cfg0.N) (r : Fin 128) (k : Fin 2048) :
    diffT (grid0.coords t) (fun r => rowN f (t.val * 128 + r.val)) (fun r => rowN h (t.val * 128 + r.val)) (goal s t) g r k
      = rowN (diff f h g s) (t.val * 128 + r.val) k := by
  have ht := lt17 t
  have hr := r.isLt
  unfold diffT live; rw [(idx t).2.2.2.2.2.2.2.2.2]
  by_cases h0 : t.val = 0
  · rw [if_pos h0, mul_zero]
    by_cases hR : 112 ≤ t.val * 128 + r.val ∧ t.val * 128 + r.val - 112 < 2064
    · rw [rowN_in _ _ hR]; unfold diff; rw [dif_neg (by simp only [h0]; omega)]
    · rw [rowN_out _ _ hR]
  · have hR : 112 ≤ t.val * 128 + r.val ∧ t.val * 128 + r.val - 112 < 2064 := by omega
    rw [if_neg h0, mul_one]
    simp only [rowN_in _ _ hR]
    unfold diff goal; rw [dif_pos (by show 16 ≤ t.val * 128 + r.val - 112; omega)]
    refine congrArg (fun i : Fin 2048 => _ - s i k) (Fin.ext ?_)
    show (t.val - 1) * 128 + r.val = t.val * 128 + r.val - 112 - 16
    omega

theorem dfN (R : ℕ) (k : Fin 2048) : dx g (rowN f R) (rowN (dy f h g s) R) k = rowN (fun r k => dx g (f r) (dy f h g s r) k) R k := by
  by_cases hR : 112 ≤ R ∧ R - 112 < 2064
  · simp only [rowN_in _ R hR]
  · simp only [rowN_out _ R hR, dx_zero]

theorem dgN (R : ℕ) (k : Fin 2048) : rowN (dy f h g s) R k * yn (rowN f R) k = rowN (fun r k => dy f h g s r k * yn (f r) k) R k := by
  by_cases hR : 112 ≤ R ∧ R - 112 < 2064
  · simp only [rowN_in _ R hR]
  · simp only [rowN_out _ R hR, zero_mul]

theorem partN (R : ℕ) (j : Fin 128) :
    1 / 2 * ((∑ k, rowN (diff f h g s) R k * rowN (diff f h g s) R k) / 2048) = rowN (fun r (_ : Fin 128) => part f h g s r) R j := by
  by_cases hR : 112 ≤ R ∧ R - 112 < 2064
  · simp only [rowN_in _ R hR]; rfl
  · simp [rowN_out _ R hR]

theorem dyN (R : ℕ) (k : Fin 2048) : rowN (diff f h g s) R k / 2048 = rowN (dy f h g s) R k := by
  by_cases hR : 112 ≤ R ∧ R - 112 < 2064
  · simp only [rowN_in _ R hR]; rfl
  · simp only [rowN_out _ R hR, zero_div]

/-- The tile of the difference, of the gradient behind the norm, and of the rows. -/
theorem tile_diff (H : Args m c f h g s) (t : Fin cfg0.N) (r : Fin 128) (k : Fin 2048) :
    (k0_pay10 (F := Ideal) (grid0.coords t) (iblk m c 0 t) (iblk m c 3 t) (iblk m c 1 t) (iblk m c 2 t) (ix2 r k) : EReal)
      = (rowN (diff f h g s) (t.val * 128 + r.val) k : EReal) :=
  (pay_diff (blk0 H t) (blk3 H t) (blk1 H t) (blk2 H t) r k).trans (congrArg _ (diffN t r k))

theorem tile_dy (H : Args m c f h g s) (t : Fin cfg0.N) (r : Fin 128) (k : Fin 2048) :
    (k0_pay12 (F := Ideal) (grid0.coords t) (iblk m c 0 t) (iblk m c 3 t) (iblk m c 1 t) (iblk m c 2 t) (ix2 r k) : EReal)
      = (rowN (dy f h g s) (t.val * 128 + r.val) k : EReal) :=
  (pay_dy (tile_diff H t) r k).trans (congrArg _ (dyN _ k))

theorem tile_df (H : Args m c f h g s) (t : Fin cfg0.N) (r : Fin 128) (k : Fin 2048) :
    (k0_pay4 (F := Ideal) (k0_pay8 (iblk m c 0 t)) (k0_pay9 (iblk m c 3 t))
      (k0_pay12 (grid0.coords t) (iblk m c 0 t) (iblk m c 3 t) (iblk m c 1 t) (iblk m c 2 t)) (k0_pay13 (iblk m c 0 t)) (ix2 r k) : EReal)
      = (rowN (fun r k => dx g (f r) (dy f h g s r) k) (t.val * 128 + r.val) k : EReal) :=
  (pay_df (pay_rows (blk0 H t)) (pay_gain (blk3 H t)) (tile_dy H t) (pay_sq (blk0 H t)) r k).trans (congrArg _ (dfN _ k))

/-- The tile's part of the gain's gradient, and of the loss. -/
theorem tile_dg (H : Args m c f h g s) (t : Fin cfg0.N) (z : Fin 1) (k : Fin 2048) :
    (k0_pay3 (F := Ideal) (k0_pay8 (iblk m c 0 t)) (k0_pay12 (grid0.coords t) (iblk m c 0 t) (iblk m c 3 t) (iblk m c 1 t) (iblk m c 2 t))
      (k0_pay13 (iblk m c 0 t)) (ix2 z k) : EReal)
      = ((∑ r : Fin 128, rowN (fun r k => dy f h g s r k * yn (f r) k) (t.val * 128 + r.val) k : ℝ) : EReal) :=
  (pay_dg (pay_rows (blk0 H t)) (tile_dy H t) (pay_sq (blk0 H t)) z k).trans (congrArg _ (Finset.sum_congr rfl fun r _ => dgN _ k))

theorem tile_loss (H : Args m c f h g s) (t : Fin cfg0.N) (z w : Fin 1) (j : Fin 128) :
    (k0_pay11 (F := Ideal) (grid0.coords t) (iblk m c 0 t) (iblk m c 3 t) (iblk m c 1 t) (iblk m c 2 t) (ix2 z w) : EReal)
      = ((∑ r : Fin 128, rowN (fun r (_ : Fin 128) => part f h g s r) (t.val * 128 + r.val) j : ℝ) : EReal) :=
  (pay_loss (tile_diff H t) z w).trans (congrArg _ (Finset.sum_congr rfl fun r _ => partN _ j))

/-- What a point leaves of the gradient behind the norm, and in front of it. -/
theorem outs_dy (H : Args m c f h g s) (t : Fin cfg0.N) (r : Fin 128) (k : Fin 2048) :
    (((outsAt0 m c t.val t.isLt).1 : FVec Ideal S128x2048 .f32) (ix2 r k) : EReal) = (rowN (dy f h g s) (t.val * 128 + r.val) k : EReal) := by
  have e := tile_dy H t r k
  by_cases h0 : t.val % 17 = 0
  · rw [outsAt0_A m c t h0 (by have := lt17 t; omega)]; frame_out; exact e
  · rw [outsAt0_B m c t h0 (by omega)]; frame_out; exact e

theorem outs_df (H : Args m c f h g s) (t : Fin cfg0.N) (r : Fin 128) (k : Fin 2048) :
    (((outsAt0 m c t.val t.isLt).2.1 : FVec Ideal S128x2048 .bf16) (ix2 r k) : EReal)
      = (rowN (fun r k => dx g (f r) (dy f h g s r) k) (t.val * 128 + r.val) k : EReal) := by
  have e := tile_df H t r k
  by_cases h0 : t.val % 17 = 0
  · rw [outsAt0_A m c t h0 (by have := lt17 t; omega)]; frame_out; exact e
  · rw [outsAt0_B m c t h0 (by omega)]; frame_out; exact e

/-- The last point. -/
abbrev tLast : Fin cfg0.N := ⟨16, by rw [show cfg0.N = 17 from N_0]; decide⟩

/-- What the last point leaves of the gain's gradient, and of the loss. -/
theorem last_dg (H : Args m c f h g s) (z : Fin 1) (k : Fin 2048) : ((outsAt0 m c tLast.val tLast.isLt).2.2.1 (ix2 z k) : EReal)
    = ((∑ r, dy f h g s r k * yn (f r) k : ℝ) : EReal) := by
  refine gathered 17 128 rfl N_0 (fun n hn => (outsAt0 m c n hn).2.2.1) (fun r k => dy f h g s r k * yn (f r) k)
    (fun t h0 z k => ?_) (fun t h0 z k => ?_) tLast N_0.symm z k
  · have e := tile_dg H t z k
    rw [outsAt0_A m c t h0 (by have := lt17 t; omega)]; frame_out; exact e
  · have e := tile_dg H t z k
    rw [outsAt0_B m c t h0 (by omega)]; frame_out
    exact (step_dg _ z k).trans (congrArg _ e)

theorem last_loss (H : Args m c f h g s) (z : Fin 1) (k : Fin 128) : ((outsAt0 m c tLast.val tLast.isLt).2.2.2 (ix2 z k) : EReal)
    = ((∑ r, part f h g s r : ℝ) : EReal) := by
  refine gathered 17 128 rfl N_0 (fun n hn => (outsAt0 m c n hn).2.2.2) (fun r _ => part f h g s r)
    (fun t h0 z k => ?_) (fun t h0 z k => ?_) tLast N_0.symm z k
  · have e := tile_loss H t 0 0 k
    rw [outsAt0_A m c t h0 (by have := lt17 t; omega)]; frame_out
    exact (loss_first _ z k).trans e
  · have e := tile_loss H t 0 0 k
    rw [outsAt0_B m c t h0 (by omega)]; frame_out
    exact (step_loss _ _ z k).trans (congrArg _ e)

/-- The gradient behind the norm after the last grid point. -/
theorem final_dy (H : Args m c f h g s) : (dats m 0 c).arrAt 4 (cfgs 0).N = val_main_v54 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 4 _ (by decide +kernel) fun t _ y => ?_
  blk_simp; rw [after0_4]
  have h0 := (idx t).2.2.2.2.1
  have e0 : ((((cfg0.win 4).blk t).view.emb y) 0).val = t.val * 128 + (y 0).val := by blk_simp [h0]
  have e1 : ((((cfg0.win 4).blk t).view.emb y) 1).val = (y 1).val := by blk_simp [h0]
  refine Eq.trans ?_ ((congrFun (pad_front (n := 2048) (val_main_v33 (F := Ideal) _ _ _ _) pads_S2064x2048_S2176x2048_11200_000 h_S_ _ fun _ => sitofp_zero) _).trans
    ((front_congr _ e0 e1).trans (front_real (ref_dy H) _ (y 1)))).symm
  rw [show y = ix2 (y 0) (y 1) from ext2 rfl rfl]
  exact outs_dy H t (y 0) (y 1)

/-- The gradient in front of the norm after the last grid point. -/
theorem final_df (H : Args m c f h g s) : (dats m 0 c).arrAt 5 (cfgs 0).N = val_main_v56 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 5 _ (by decide +kernel) fun t _ y => ?_
  blk_simp; rw [after0_5]
  have h0 := (idx t).2.2.2.2.2.1
  have e0 : ((((cfg0.win 5).blk t).view.emb y) 0).val = t.val * 128 + (y 0).val := by blk_simp [h0]
  have e1 : ((((cfg0.win 5).blk t).view.emb y) 1).val = (y 1).val := by blk_simp [h0]
  refine Eq.trans ?_ ((congrFun (pad_front (n := 2048) (val_main_v53 (F := Ideal) _ _ _ _) pads_S2064x2048_S2176x2048_11200_000 h_S_ _ fun _ => sitofp_zero) _).trans
    ((front_congr _ e0 e1).trans (front_real (ref_df H) _ (y 1)))).symm
  rw [show y = ix2 (y 0) (y 1) from ext2 rfl rfl]
  exact outs_df H t (y 0) (y 1)

/-- The gain's gradient after the last grid point. -/
theorem final_dg (H : Args m c f h g s) : (dats m 0 c).arrAt 6 (cfgs 0).N = val_main_v57 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 6 _ (by decide +kernel) fun t ht y => ?_
  have h0 := (idx t).2.2.2.2.2.2.1
  have hl := (flush0_6 t).mp ht
  have hN := lt17 t
  obtain rfl : t = tLast := Fin.ext (show t.val = 16 by omega)
  blk_simp
  rw [after0_6, show y = ix2 (y 0) (y 1) from ext2 rfl rfl]
  refine (last_dg H (y 0) (y 1)).trans ((ref_dg H (y 0) (y 1)).symm.trans ?_)
  exact congrArg (val_main_v57 (F := Ideal) _ _ _ _) (ext2 (by blk_simp [h0]) (by blk_simp [h0]))

/-- The loss after the last grid point. -/
theorem final_loss (H : Args m c f h g s) : (dats m 0 c).arrAt 7 (cfgs 0).N = val_main_v58 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 7 _ (by decide +kernel) fun t ht y => ?_
  have h0 := (idx t).2.2.2.2.2.2.2.1
  have hl := (flush0_7 t).mp ht
  have hN := lt17 t
  obtain rfl : t = tLast := Fin.ext (show t.val = 16 by omega)
  blk_simp
  rw [after0_7, show y = ix2 (y 0) (y 1) from ext2 rfl rfl]
  refine (last_loss H (y 0) (y 1)).trans ((ref_loss H (y 0) (y 1)).symm.trans ?_)
  exact congrArg (val_main_v58 (F := Ideal) _ _ _ _) (ext2 (by blk_simp [h0]) (by blk_simp [h0]))

/-- Finite arguments are real numbers. -/
theorem args_of_pre (hp : Cert.Pre_LossIdeal_loss_finite m) (c : Dev nD) : ∃ f h g s, Args m c f h g s := by
  obtain ⟨h0, h1, h2, h3⟩ := hp c
  obtain ⟨f, a0⟩ := reals _ h0
  obtain ⟨h, a1⟩ := reals _ h1
  obtain ⟨g, a2⟩ := reals _ h2
  obtain ⟨s, a3⟩ := reals _ h3
  exact ⟨fun r k => f (ix2 r k), fun r k => h (ix2 r k), fun k => g (ix1 k), fun r k => s (ix2 r k),
    fun r k => a0 _, fun r k => a1 _, fun k => a2 _, fun r k => a3 _⟩

/-- The four results for finite arguments. -/
theorem finals (hp : Cert.Pre_LossIdeal_loss_finite m) (c : Dev nD) :
    (dats m 0 c).arrAt 4 (cfgs 0).N = val_main_v54 (F := Ideal) (m ((c : Thread nD τ).loc main_arg0)) (m ((c : Thread nD τ).loc main_arg1))
      (m ((c : Thread nD τ).loc main_arg2)) (m ((c : Thread nD τ).loc main_arg3))
    ∧ (dats m 0 c).arrAt 5 (cfgs 0).N = val_main_v56 (F := Ideal) (m ((c : Thread nD τ).loc main_arg0)) (m ((c : Thread nD τ).loc main_arg1))
      (m ((c : Thread nD τ).loc main_arg2)) (m ((c : Thread nD τ).loc main_arg3))
    ∧ (dats m 0 c).arrAt 6 (cfgs 0).N = val_main_v57 (F := Ideal) (m ((c : Thread nD τ).loc main_arg0)) (m ((c : Thread nD τ).loc main_arg1))
      (m ((c : Thread nD τ).loc main_arg2)) (m ((c : Thread nD τ).loc main_arg3))
    ∧ (dats m 0 c).arrAt 7 (cfgs 0).N = val_main_v58 (F := Ideal) (m ((c : Thread nD τ).loc main_arg0)) (m ((c : Thread nD τ).loc main_arg1))
      (m ((c : Thread nD τ).loc main_arg2)) (m ((c : Thread nD τ).loc main_arg3)) := by
  obtain ⟨f, h, g, s, H⟩ := args_of_pre hp c
  exact ⟨final_dy H, final_df H, final_dg H, final_loss H⟩

/-- The reference runs to its end with every counter at zero. -/
theorem frame_ref : Cert.quiescent_LossRefIdeal := fun m ρ _ =>
  (θ_run Cert.LossRefIdeal.defs _ _).mono
    (fun r h => ⟨fun c => (h c).2.2.2.2, sem_eq_zero_of_no_sems (by decide) r.2⟩) (Cert.LossRefIdeal.Value.run (F := Ideal) m ρ)

/-- A function of four arguments at equal arguments. -/
theorem congr4 {α β γ δ η : Type} (f : α → β → γ → δ → η) {a a' : α} {b b' : β} {c c' : γ} {d d' : δ}
    (ha : a = a') (hb : b = b') (hc : c = c') (hd : d = d') : f a b c d = f a' b' c' d' := by
  subst ha hb hc hd; rfl

set_option maxHeartbeats 2000000 in
/-- Over the reals, for finite arguments, the call's four results are the reference's. -/
theorem algebraic : Cert.algebraic_LossIdeal_LossRefIdeal_pre_loss_finite := by
  pair_intro
  · run_from Cert.LossIdeal.Gen.run_main m g
    exacts [V_main_arg0 m c, V_main_arg1 m c, V_main_arg2 m c]
  · refine θ_run_mono (Cert.LossRefIdeal.Value.run m' g') fun r hr c => ?_
    have hfin := finals hpre c
    obtain ⟨e0, e1, e2, e3⟩ := hagree c
    have hr' := hr c
    refine ⟨?_, ?_, ?_, ?_, hr'.2.2.2.2⟩
    · exact hr'.1.trans ((val_main_v54_eq (F := Ideal) _ _ _ _).trans ((congr4 (val_main_v54 (F := Ideal)) e0 e1 e2 e3).trans hfin.1.symm))
    · exact hr'.2.1.trans ((val_main_v56_eq m' c).trans ((congr4 (val_main_v56 (F := Ideal)) e0 e1 e2 e3).trans hfin.2.1.symm))
    · exact hr'.2.2.1.trans ((val_main_v57_eq (F := Ideal) _ _ _ _).trans ((congr4 (val_main_v57 (F := Ideal)) e0 e1 e2 e3).trans hfin.2.2.1.symm))
    · exact hr'.2.2.2.1.trans ((val_main_v58_eq (F := Ideal) _ _ _ _).trans ((congr4 (val_main_v58 (F := Ideal)) e0 e1 e2 e3).trans hfin.2.2.2.symm))

/-- Everything that is claimed of this call. -/
theorem claims : Cert.quiescent_Loss ∧ Cert.quiescent_LossIdeal ∧ Cert.quiescent_LossIdeal_pre_loss_finite
    ∧ Cert.quiescent_LossRefIdeal ∧ Cert.quiescent_LossRefIdeal_pre_loss_finite
    ∧ Cert.preserves_Loss_LossIdeal ∧ Cert.algebraic_LossIdeal_LossRefIdeal_pre_loss_finite :=
  ⟨fun m ρ _ => Cert.Loss.Gen.frame m ρ, fun m ρ _ => Cert.LossIdeal.Gen.frame m ρ, fun m ρ _ => Cert.LossIdeal.Gen.frame m ρ,
    frame_ref, fun m ρ _ => frame_ref m ρ trivial, trivial, algebraic⟩

end Cert.LossIdeal.Grad

end
-- ==== Proof.PreNormRun.lean ====
/- The run of the pre-norm's backward call.

   The generated modules give this call's skeleton and launch but not its run: the gradient of the meta
   tokens is stored at the first grid point only and its buffer is then handed on untouched, to be written
   back after the last point. This module writes that run, for any float values. -/
module

public import proofs.«01_k».proof.Proof.Gen.PreNormIdeal.Frame
public import proofs.«01_k».proof.Proof.Gen.PreNormIdeal.Skeleton
public import Idealize.ShloMosaic.Lib.Pipeline.ValueKit
public import Idealize.ShloMosaic.Lib.VecWindow
public import Idealize.ShloMosaic.Lib.Pipeline.TableIdle

@[expose] public section

set_option maxRecDepth 16384

noncomputable section

namespace Cert.PreNormIdeal.Grad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PreNormIdeal.Gen

variable {F : FTy → Type} [FloatOps F]

local notation "𝕄" => MT nD τ sig Unit (Elt F) ℕ (UR sig nD τ) ℕ

/-! ## The body on any staging buffers -/

/-- A load of everything a whole buffer holds reads all of it. -/
theorem load_all {sp : Space} {s : Shape} {e : EltTy} {a : Memref sig .tc sp s e} (ha : a.IsWhole)
    (x : s.Idx → Elt F e) {off : Fin s.rank → ℕ} (inb : ∀ k, off k + s.size k ≤ s.size k) :
    a.view.readAt (Elt F) (Rect.unit (s := s) off s.size inb).toLoadRect (ha.unread x) = x := by
  rw [View.readAt_full, ha.read_unread]

set_option maxHeartbeats 1000000 in
/-- At the first point the body stores the tile's sum `dh + d`, its last sixteen rows as the meta tokens'
    gradient, and the tile's share of the weight's gradient. -/
theorem run_first (c : Dev nD) (i : grid0.Coords)
    (arg1 : Memref sig .tc .vmem S128x2048 .f32) (harg1 : arg1.IsWhole) (arg2 : Memref sig .tc .vmem S128x2048 .f32) (harg2 : arg2.IsWhole)
    (arg3 : Memref sig .tc .vmem S128x2048 .f32) (harg3 : arg3.IsWhole) (arg4 : Memref sig .tc .vmem S1x2048 .f32) (harg4 : arg4.IsWhole)
    (arg5 : Memref sig .tc .vmem S128x2048 .f32) (harg5 : arg5.IsWhole) (arg6 : Memref sig .tc .vmem S16x2048 .f32) (harg6 : arg6.IsWhole)
    (arg7 : Memref sig .tc .vmem S1x2048 .f32) (harg7 : arg7.IsWhole)
    (hc0 : k0_cond1 i = 1#1) (hc1 : ¬k0_cond2 i = 1#1)
    (x0 : Vec F S128x2048 .f32) (x1 : Vec F S128x2048 .f32) (x2 : Vec F S128x2048 .f32) (x3 : Vec F S1x2048 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay7 x1 x2 x3 x0)
            ∗ owns (c : Thread nD τ) arg6 fullShare (k0_pay8 x1 x2 x3 x0)
            ∗ owns (c : Thread nD τ) arg7 fullShare (k0_pay6 x1 x2)) -∗ K ⟨⟩))
      ⊢ wp frame (wpE (defs₀ (F := F)) Variants.none c none) E
          (cc0_pre_norm_bwd i arg1 harg1 arg2 harg2 arg3 harg3 arg4 harg4 arg5 harg5 arg6 harg6 arg7 harg7) K := by
  simp only [cc0_pre_norm_bwd_eq_skeleton]; unfold cc0_pre_norm_bwd_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    exact (View.read_writes_full _ _ _ _ _).trans (by rw [load_all, load_all, load_all, load_all])
  isplitl [H5]
  · iexists _; isplitr; swap; · iexact H5
    ipureintro
    exact (View.read_writes_full _ _ _ _ _).trans (by rw [load_all, load_all, load_all, load_all])
  iexists _; isplitr; swap; · iexact H6
  ipureintro
  exact (View.read_writes_full _ _ _ _ _).trans (by rw [load_all, load_all])

set_option maxHeartbeats 1000000 in
/-- At a later point the body stores the tile's sum and adds the tile's share of the weight's gradient to
    what the points before left; the meta tokens' buffer is not touched. -/
theorem run_later (c : Dev nD) (i : grid0.Coords)
    (arg1 : Memref sig .tc .vmem S128x2048 .f32) (harg1 : arg1.IsWhole) (arg2 : Memref sig .tc .vmem S128x2048 .f32) (harg2 : arg2.IsWhole)
    (arg3 : Memref sig .tc .vmem S128x2048 .f32) (harg3 : arg3.IsWhole) (arg4 : Memref sig .tc .vmem S1x2048 .f32) (harg4 : arg4.IsWhole)
    (arg5 : Memref sig .tc .vmem S128x2048 .f32) (harg5 : arg5.IsWhole) (arg6 : Memref sig .tc .vmem S16x2048 .f32) (harg6 : arg6.IsWhole)
    (arg7 : Memref sig .tc .vmem S1x2048 .f32) (harg7 : arg7.IsWhole)
    (hc0 : ¬k0_cond1 i = 1#1) (hc1 : k0_cond2 i = 1#1)
    (x0 : Vec F S128x2048 .f32) (x1 : Vec F S128x2048 .f32) (x2 : Vec F S128x2048 .f32) (x3 : Vec F S1x2048 .f32)
    (xo : Vec F S1x2048 .f32) (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ owns (c : Thread nD τ) arg7 fullShare xo
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay7 x1 x2 x3 x0)
            ∗ owns (c : Thread nD τ) arg7 fullShare (k0_pay1 (k0_pay6 x1 x2) xo)) -∗ K ⟨⟩))
      ⊢ wp frame (wpE (defs₀ (F := F)) Variants.none c none) E
          (cc0_pre_norm_bwd i arg1 harg1 arg2 harg2 arg3 harg3 arg4 harg4 arg5 harg5 arg6 harg6 arg7 harg7) K := by
  simp only [cc0_pre_norm_bwd_eq_skeleton]; unfold cc0_pre_norm_bwd_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
  obtain rfl := harg1.eq_unread hf0; obtain rfl := harg2.eq_unread hf1; obtain rfl := harg3.eq_unread hf2
  obtain rfl := harg4.eq_unread hf3; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    exact (View.read_writes_full _ _ _ _ _).trans (by rw [load_all, load_all, load_all, load_all])
  iexists _; isplitr; swap; · iexact H6
  ipureintro
  exact (View.read_writes_full _ _ _ _ _).trans (by rw [load_all]; unfold run_later.sl.r; rw [load_all, load_all])

/-! ## The grid's points -/

/-- The grid has seventeen points. -/
theorem points : cfg0.N = 17 := N_0
/-- The first point. -/
def tFirst : Fin cfg0.N := ⟨0, by rw [points]; norm_num⟩
/-- The first branch is taken at the first point only. -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- The second branch is taken at every later point. -/
theorem later_iff : ∀ t : Fin cfg0.N, k0_cond2 (grid0.coords t) = 1#1 ↔ t.val ≠ 0 :=
  (by decide +kernel : ∀ t : Fin grid0.N, k0_cond2 (grid0.coords t) = 1#1 ↔ t.val ≠ 0)
/-- The meta tokens' window is stored into at the first point only. -/
theorem idle5 : ∀ t : Fin cfg0.N, cfg0.idle 5 (grid0.coords t) = !decide (t.val = 0) :=
  (by decide +kernel : ∀ t : Fin grid0.N, cfg0.idle 5 (grid0.coords t) = !decide (t.val = 0))
/-- The weight's window is stored into at every point. -/
theorem live6 : ∀ t : Fin cfg0.N, cfg0.idle 6 (grid0.coords t) = false :=
  (by decide +kernel : ∀ t : Fin grid0.N, cfg0.idle 6 (grid0.coords t) = false)
/-- The meta tokens' window is written back after the last point only. -/
theorem flush5 : ∀ t : Fin cfg0.N, (cfg0.win 5).flush t = decide (t.val = 16) :=
  (by decide +kernel : ∀ t : Fin grid0.N, win0_5.flush t = decide (t.val = 16))
/-- The weight's window is written back after the last point only. -/
theorem flush6 : ∀ t : Fin cfg0.N, (cfg0.win 6).flush t = decide (t.val = 16) :=
  (by decide +kernel : ∀ t : Fin grid0.N, win0_6.flush t = decide (t.val = 16))

/-- A window never written back below point `n`, live at the first point, holds something stored from
    point 1 on. -/
theorem stored_of (w : Fin cfg0.W) (hf : ∀ t : Fin cfg0.N, (cfg0.win w).flush t = decide (t.val = 16))
    (hl : cfg0.idle w (grid0.coords tFirst) = false) : ∀ n : ℕ, 1 ≤ n → n < 17 → cfg0.fresh w n = false
  | 0, h, _ => absurd h (by norm_num)
  | 1, _, _ => by
    rw [cfg0.fresh_succ w 0 (by rw [points]; norm_num), hf]
    show (decide ((0 : ℕ) = 16) || (cfg0.idle w (grid0.coords tFirst) && _)) = false
    rw [hl]; rfl
  | n + 2, _, h => by
    rw [cfg0.fresh_succ w (n + 1) (by rw [points]; omega), hf, stored_of w hf hl (n + 1) (by omega) (by omega),
      Bool.and_false, Bool.or_false]
    exact decide_eq_false (by show ¬(n + 1 = 16); omega)

/-! ## What the points leave -/

variable (m : (ℓ : Loc nD τ sig) → Buf (Elt F) ℓ) (ρ : Dev nD → PrngReg)

/-- The weight's gradient after point `n`: the shares of the tiles up to it, added one by one. -/
def gainAt (c : Dev nD) : (n : ℕ) → n < cfg0.N → FVec F S1x2048 .f32
  | 0, h => k0_pay6 (iblk m c 1 ⟨0, h⟩) (iblk m c 2 ⟨0, h⟩)
  | n + 1, h => k0_pay1 (k0_pay6 (iblk m c 1 ⟨n + 1, h⟩) (iblk m c 2 ⟨n + 1, h⟩)) (gainAt c n (Nat.lt_of_succ_lt h))

/-- The meta tokens' gradient, as the first point stores it. -/
def metaGrad (c : Dev nD) : FVec F S16x2048 .f32 :=
  k0_pay8 (iblk m c 1 tFirst) (iblk m c 2 tFirst) (iblk m c 3 tFirst) (iblk m c 0 tFirst)

/-- The proof data: inputs stay, the rows' window holds its tile's sum, the meta tokens' window what the first
    point stored, the weight's window the running sum. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay7 (iblk m c 1 t) (iblk m c 2 t) (iblk m c 3 t) (iblk m c 0 t)
    | ⟨5, _⟩ => metaGrad m c
    | ⟨6, _⟩ => gainAt m c t.val t.isLt
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]
/-- What each window holds after a point. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t
    = k0_pay7 (iblk m c 1 t) (iblk m c 2 t) (iblk m c 3 t) (iblk m c 0 t) := by dsimp only [dats]
theorem after5 (c : Dev nD) (t : Fin cfg0.N) : (dats m 0 c).after 5 t = metaGrad m c := by dsimp only [dats]
theorem after6 (c : Dev nD) (t : Fin cfg0.N) : (dats m 0 c).after 6 t = gainAt m c t.val t.isLt := by dsimp only [dats]

/-- The inputs' buffers hold their blocks at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- From point 1 on the meta tokens' buffer holds what the first point stored. -/
theorem before5 (c : Dev nD) (t : Fin cfg0.N) (h : t.val ≠ 0) (d) : (dats m 0 c).before 5 t d = metaGrad m c := by
  have hN : t.val < 17 := lt_of_lt_of_eq t.isLt points
  rw [Dat.before_out_traj _ 5 rfl (fun _ _ => rfl) (fun t _ _ _ => by rw [after5, after5]) t.val t rfl d,
    if_neg (by rw [stored_of 5 flush5 (by rw [idle5]; rfl) t.val (by omega) hN]; exact Bool.false_ne_true), after5]

/-- From point 1 on the weight's buffer holds the sum over the points before. -/
theorem before6 (c : Dev nD) (t : Fin cfg0.N) (h : t.val ≠ 0) (d) :
    (dats m 0 c).before 6 t d = gainAt m c (t.val - 1) (lt_of_le_of_lt (Nat.sub_le _ _) t.isLt) := by
  have hN : t.val < 17 := lt_of_lt_of_eq t.isLt points
  rw [Dat.before_out_traj _ 6 rfl (fun _ _ => rfl)
      (fun t _ hi _ => absurd ((live6 t).symm.trans hi) Bool.false_ne_true) t.val t rfl d,
    if_neg (by rw [stored_of 6 flush6 (live6 _) t.val (by omega) hN]; exact Bool.false_ne_true), after6]

/-- What the meta tokens' buffer is left at: at the first point what that stored, later what it held. -/
theorem leaves5 (c : Dev nD) (t : Fin cfg0.N) :
    owns (c : Thread nD τ) ((cfg0.win 5).stage (cfg0.slots t 5)) fullShare (metaGrad m c)
      ⊢ ((dats m 0 c).leavesExact 5 t : sProp 𝕄) := by
  by_cases h : t.val = 0
  · rw [show (dats m 0 c).leavesExact 5 t = owns (c : Thread nD τ) ((cfg0.win 5).stage (cfg0.slots t 5)) fullShare ((dats m 0 c).after 5 t)
      from by unfold Dat.leavesExact; rw [idle5 t, h]; rfl, after5]
  · have hi : cfg0.idle 5 (grid0.coords t) = true := by rw [idle5, decide_eq_false h]; rfl
    by_cases h' : t.val = 16
    · rw [show (dats m 0 c).leavesExact 5 t = owns (c : Thread nD τ) ((cfg0.win 5).stage (cfg0.slots t 5)) fullShare ((dats m 0 c).after 5 t)
        from by unfold Dat.leavesExact; rw [hi, flush5, decide_eq_true h'], after5]
    · rw [Dat.leavesExact_idle _ 5 t hi (by rw [flush5, decide_eq_false h'])]
      iintro H
      iexists (metaGrad m c)
      rw [before5 m c t h]
      iexact H

/-! ## The body at every point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

/-- A window stored into at a point is left at what the point leaves. -/
theorem leaves_live (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl,
    leaves_live m c 4 t rfl, leaves_live m c 6 t (live6 t), after0, after1, after2, after3, after4, after6]
  by_cases h : t.val = 0
  · have ht : t = tFirst := Fin.ext h
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ ((first_iff t).mpr h) (fun h' => (later_iff t).mp h' h)
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5 m c t)
      rw [show metaGrad m c = k0_pay8 (iblk m c 1 t) (iblk m c 2 t) (iblk m c 3 t) (iblk m c 0 t) from by rw [ht]; rfl]
      iexact H5
    rw [show gainAt m c t.val t.isLt = k0_pay6 (iblk m c 1 t) (iblk m c 2 t) from by subst ht; rfl]
    iexact H6
  · have e6 : gainAt m c t.val t.isLt = k0_pay1 (k0_pay6 (iblk m c 1 t) (iblk m c 2 t))
        (gainAt m c (t.val - 1) (lt_of_le_of_lt (Nat.sub_le _ _) t.isLt)) := by
      obtain ⟨n, hn⟩ := t
      cases n with
      | zero => exact absurd rfl h
      | succ n => rfl
    simp only [before5 m c t h, before6 m c t h]
    rw [e6]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ (fun h' => h ((first_iff t).mp h')) ((later_iff t).mpr h)
      (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexists _; iexact H4
    isplitl [H6]; · iexact H6
    iintro ⟨H0, H1, H2, H3, H4, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5 m c t); iexact H5
    iexact H6

/-- The body table's row is the body at the point. -/
theorem defs₀_row (t : Fin cfg0.N) : defs₀ (F := F) .tc cfg0.body (cfg0.bodyArgs t (cfg0.slots t)) = bodyAt0 t := by
  unfold defs₀; rw [Defs.onTc_tc]

/-- The body keeps its obligation at every point. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run ends, the semaphores at zero, the windows' arrays as the points left them, the rest as the region
    found it. -/
theorem run_ends : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_ends m ρ)

/-- The arguments end unchanged and the semaphores at zero, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_ends m ρ))

end Cert.PreNormIdeal.Grad

end
-- ==== Proof.PreNormPay.lean ====
/-
  What the body of the pre-norm's backward kernel computes from a tile of reals: the gradient of the rows, its last sixteen
  rows, and the tile's part of the gain's gradient.
-/
module

public import proofs.«01_k».proof.Proof.RmsNorm
public import proofs.«01_k».proof.Proof.Common
public import proofs.«01_k».proof.Proof.Gen.PreNormIdeal.Skeleton

@[expose] public section

noncomputable section

namespace Cert.PreNormIdeal.Grad

open Cert.PreNormIdeal Cert.PreNormIdeal.Gen Cert.RealKit Cert.RmsNorm Cert.Common
open Idealize.ShloMosaic Idealize.ShloMosaic.TcCoe

variable {v0 v2 v31 : FVec Ideal S128x2048 .f32} {v4 : FVec Ideal S1x2048 .f32} {d h e : Fin 128 → Fin 2048 → ℝ} {g : Fin 2048 → ℝ}

/-- The gradient behind the norm and the rows pass unchanged. -/
theorem pay_d (h0 : ∀ r k, (v0 (ix2 r k) : EReal) = (d r k : EReal)) (r : Fin 128) (k : Fin 2048) :
    (k0_pay2 (F := Ideal) v0 (ix2 r k) : EReal) = (d r k : EReal) := by
  pointwise [k0_pay2]; exact h0 r k
theorem pay_h (h2 : ∀ r k, (v2 (ix2 r k) : EReal) = (h r k : EReal)) (r : Fin 128) (k : Fin 2048) :
    (k0_pay3 (F := Ideal) v2 (ix2 r k) : EReal) = (h r k : EReal) := by
  pointwise [k0_pay3]; exact h2 r k

/-- The norm's scale. -/
theorem pay_rs (h2 : ∀ r k, (v2 (ix2 r k) : EReal) = (h r k : EReal)) (r : Fin 128) (z : Fin 1) :
    (k0_pay4 (F := Ideal) v2 (ix2 r z) : EReal) = (rs (h r) : EReal) := by
  pointwise [k0_pay4]
  simp only [pay_h h2, ← EReal.coe_mul, sum_coe, w2048, weps6]
  rw [div_real _ _ (by norm_num), ← EReal.coe_add]; exact rsqrt_real _ (var_pos (h r))

/-- The normalised rows. -/
theorem pay_yn (h2 : ∀ r k, (v2 (ix2 r k) : EReal) = (h r k : EReal)) (r : Fin 128) (k : Fin 2048) :
    (k0_pay5 (F := Ideal) v2 (ix2 r k) : EReal) = (yn (h r) k : EReal) := by
  pointwise [k0_pay5]
  simp only [pay_rs h2, pay_h h2, ← EReal.coe_mul]; rfl

/-- The tile's part of the gain's gradient. -/
theorem pay_dg (h0 : ∀ r k, (v0 (ix2 r k) : EReal) = (d r k : EReal)) (h2 : ∀ r k, (v2 (ix2 r k) : EReal) = (h r k : EReal))
    (z : Fin 1) (k : Fin 2048) : (k0_pay6 (F := Ideal) v0 v2 (ix2 z k) : EReal) = ((∑ r, d r k * yn (h r) k : ℝ) : EReal) := by
  pointwise [k0_pay6]
  simp only [pay_yn h2, pay_d h0, ← EReal.coe_mul, sum_coe]

/-- The gradient of the rows. -/
theorem pay_dh (h0 : ∀ r k, (v0 (ix2 r k) : EReal) = (d r k : EReal)) (h2 : ∀ r k, (v2 (ix2 r k) : EReal) = (h r k : EReal))
    (h4 : ∀ z k, (v4 (ix2 z k) : EReal) = (g k : EReal)) (h31 : ∀ r k, (v31 (ix2 r k) : EReal) = (e r k : EReal))
    (r : Fin 128) (k : Fin 2048) : (k0_pay7 (F := Ideal) v0 v2 v4 v31 (ix2 r k) : EReal) = ((e r k + dx g (h r) (d r) k : ℝ) : EReal) := by
  pointwise [k0_pay7]
  simp only [pay_yn h2, pay_rs h2, pay_d h0, h4, h31, sum_coe, w2048, ← EReal.coe_mul]
  rw [div_real _ _ (by norm_num)]
  simp only [← EReal.coe_mul, ← EReal.coe_sub, ← EReal.coe_add]
  rfl

/-- Its last sixteen rows. -/
theorem pay_meta (r : Fin 16) (k : Fin 2048) :
    k0_pay8 (F := Ideal) v0 v2 v4 v31 (ix2 r k) = k0_pay7 (F := Ideal) v0 v2 v4 v31 (ix2 ⟨112 + r.val, by omega⟩ k) := by
  pointwise [k0_pay8]

/-- A later point adds its part to what the point before left. -/
theorem step_dg (p q : FVec Ideal S1x2048 .f32) (z : Fin 1) (k : Fin 2048) :
    (k0_pay1 (F := Ideal) p q (ix2 z k) : EReal) = (q (ix2 z k) : EReal) + (p (ix2 z k) : EReal) := by
  pointwise [k0_pay1]

end Cert.PreNormIdeal.Grad

end
-- ==== Proof.PreNormRef.lean ====
/-
  The reference of the gradient through the first norm and the meta tokens, read at arrays of reals.
-/
module

public import proofs.«01_k».proof.Proof.RmsNorm
public import proofs.«01_k».proof.Proof.Common
public import proofs.«01_k».proof.Proof.Gen.PreNormRefIdeal.Read

@[expose] public section

noncomputable section

namespace Cert.PreNormRefIdeal.Grad

open Cert.PreNormRefIdeal Cert.PreNormRefIdeal.Gen Cert.PreNormRefIdeal.Read Cert.RealKit Cert.RmsNorm Cert.Common
open Idealize.ShloMosaic Idealize.ShloMosaic.TcCoe

/-- The arguments: the tokens' rows, the meta tokens' rows, the gain, and the gradients that arrive in front of and behind the norm. -/
structure Reals (x0 : FVec Ideal S2048x2048 .f32) (x1 : FVec Ideal S16x2048 .f32) (x2 : FVec Ideal S2048 .f32) (x3 x4 : FVec Ideal S2064x2048 .f32)
    (x : Fin 2048 → Fin 2048 → ℝ) (u : Fin 16 → Fin 2048 → ℝ) (g : Fin 2048 → ℝ) (e d : Fin 2064 → Fin 2048 → ℝ) : Prop where
  a0 : ∀ r k, (x0 (ix2 r k) : EReal) = (x r k : EReal)
  a1 : ∀ r k, (x1 (ix2 r k) : EReal) = (u r k : EReal)
  a2 : ∀ k, (x2 (ix1 k) : EReal) = (g k : EReal)
  a3 : ∀ r k, (x3 (ix2 r k) : EReal) = (e r k : EReal)
  a4 : ∀ r k, (x4 (ix2 r k) : EReal) = (d r k : EReal)

/-- The meta tokens in front of the tokens. -/
def tok (x : Fin 2048 → Fin 2048 → ℝ) (u : Fin 16 → Fin 2048 → ℝ) (r : Fin 2064) (k : Fin 2048) : ℝ :=
  if h : r.val < 16 then u ⟨r.val, h⟩ k else x ⟨r.val - 16, by omega⟩ k
/-- The gradient of the rows. -/
def dtok (x : Fin 2048 → Fin 2048 → ℝ) (u : Fin 16 → Fin 2048 → ℝ) (g : Fin 2048 → ℝ) (e d : Fin 2064 → Fin 2048 → ℝ) (r : Fin 2064) (k : Fin 2048) : ℝ :=
  e r k + dx g (tok x u r) (d r) k

variable {x0 : FVec Ideal S2048x2048 .f32} {x1 : FVec Ideal S16x2048 .f32} {x2 : FVec Ideal S2048 .f32} {x3 x4 : FVec Ideal S2064x2048 .f32}
  {x : Fin 2048 → Fin 2048 → ℝ} {u : Fin 16 → Fin 2048 → ℝ} {g : Fin 2048 → ℝ} {e d : Fin 2064 → Fin 2048 → ℝ}

theorem ref_tok (H : Reals x0 x1 x2 x3 x4 x u g e d) (r : Fin 2064) (k : Fin 2048) :
    (val_main_v0 (F := Ideal) x0 x1 (ix2 r k) : EReal) = (tok x u r k : EReal) := by
  pointwise [val_main_v0]
  unfold tok
  split
  · exact H.a1 _ _
  · exact H.a0 _ _

theorem ref_var (H : Reals x0 x1 x2 x3 x4 x u g e d) (r : Fin 2064) (z : Fin 1) :
    (val_main_v7 (F := Ideal) x0 x1 (ix2 r z) : EReal) = (var (tok x u r) : EReal) := by
  pointwise [val_main_v7, val_main_v6, val_main_v5, val_main_v4, val_main_v3, val_main_v2, val_main_v1, val_main_cst, val_main_cst_0,
    val_main_cst_1]
  simp only [ref_tok H, ← EReal.coe_mul, sum_coe, w2048, weps6]
  rw [div_real _ _ (by norm_num), ← EReal.coe_add]; rfl

theorem ref_rs (H : Reals x0 x1 x2 x3 x4 x u g e d) (r : Fin 2064) (z : Fin 1) :
    (val_main_v8 (F := Ideal) x0 x1 (ix2 r z) : EReal) = (rs (tok x u r) : EReal) := by
  pointwise [val_main_v8]
  rw [ref_var H, rsqrt_real _ (var_pos _)]; rfl

theorem ref_yn (H : Reals x0 x1 x2 x3 x4 x u g e d) (r : Fin 2064) (k : Fin 2048) :
    (val_main_v13 (F := Ideal) x0 x1 (ix2 r k) : EReal) = (yn (tok x u r) k : EReal) := by
  pointwise [val_main_v13, val_main_v12]
  simp only [ref_tok H, ref_rs H, ← EReal.coe_mul]; rfl

theorem ref_dy (H : Reals x0 x1 x2 x3 x4 x u g e d) (r : Fin 2064) (k : Fin 2048) :
    (val_main_v21 (F := Ideal) x2 x4 (ix2 r k) : EReal) = ((d r k * g k : ℝ) : EReal) := by
  pointwise [val_main_v21, val_main_v20, val_main_v14]
  simp only [H.a2, H.a4, ← EReal.coe_mul]

theorem ref_drift (H : Reals x0 x1 x2 x3 x4 x u g e d) (r : Fin 2064) (k : Fin 2048) :
    (val_main_v33 (F := Ideal) x0 x1 x2 x4 (ix2 r k) : EReal) = (drift g (tok x u r) (d r) : EReal) := by
  pointwise [val_main_v33, val_main_v32, val_main_v31, val_main_v30, val_main_v29, val_main_v25, val_main_v24, val_main_v23, val_main_v11,
    val_main_v10, val_main_v9, val_main_cst_2, val_main_cst_5, val_main_cst_6, val_main_cst_7]
  simp only [ref_tok H, ref_dy H, ref_rs H, ref_var H, w2048, wmhalf, div_real _ _ (var_pos _).ne', ← EReal.coe_mul, sum_coe]
  rw [div_real _ _ (by norm_num), Fin.sum_univ_one]; rfl

/-- The gradient of the rows. -/
theorem ref_dtok (H : Reals x0 x1 x2 x3 x4 x u g e d) (r : Fin 2064) (k : Fin 2048) :
    (val_main_v37 (F := Ideal) x0 x1 x2 x3 x4 (ix2 r k) : EReal) = (dtok x u g e d r k : EReal) := by
  pointwise [val_main_v37, val_main_v36, val_main_v35, val_main_v34, val_main_v28, val_main_v27, val_main_v26]
  simp only [ref_tok H, ref_dy H, ref_rs H, ref_drift H, H.a3, ← EReal.coe_mul, ← EReal.coe_add]
  unfold dtok; rw [dx_rule]
  exact congrArg _ (by ring)

/-- The gradients of the tokens and of the meta tokens are its parts. -/
theorem ref_dx (H : Reals x0 x1 x2 x3 x4 x u g e d) (r : Fin 2048) (k : Fin 2048) :
    (val_main_v39 (F := Ideal) x0 x1 x2 x3 x4 (ix2 r k) : EReal) = (dtok x u g e d ⟨r.val + 16, by omega⟩ k : EReal) := by
  pointwise [val_main_v39]
  refine Eq.trans (congrArg (val_main_v37 (F := Ideal) x0 x1 x2 x3 x4) (ext2 ?_ ?_)) (ref_dtok H ⟨r.val + 16, by omega⟩ k)
  · simp; try omega
  · simp

theorem ref_du (H : Reals x0 x1 x2 x3 x4 x u g e d) (r : Fin 16) (k : Fin 2048) :
    (val_main_v38 (F := Ideal) x0 x1 x2 x3 x4 (ix2 r k) : EReal) = (dtok x u g e d ⟨r.val, by omega⟩ k : EReal) := by
  pointwise [val_main_v38]
  refine Eq.trans (congrArg (val_main_v37 (F := Ideal) x0 x1 x2 x3 x4) (ext2 ?_ ?_)) (ref_dtok H ⟨r.val, by omega⟩ k)
  · simp
  · simp

/-- The gain's gradient. -/
theorem ref_dg (H : Reals x0 x1 x2 x3 x4 x u g e d) (z : Fin 1) (k : Fin 2048) :
    (val_main_v40 (F := Ideal) x0 x1 x4 (ix2 z k) : EReal) = ((∑ r, d r k * yn (tok x u r) k : ℝ) : EReal) := by
  pointwise [val_main_v40, val_main_v22, val_main_v19, val_main_v18, val_main_v17, val_main_cst_3, val_main_cst_4]
  simp only [ref_yn H, H.a4, ← EReal.coe_mul, sum_coe, Fin.sum_univ_one, mul_comm]

end Cert.PreNormRefIdeal.Grad

end
-- ==== Proof.PreNormGrads.lean ====
/-
  The gradient through the first norm: for finite arguments the three arrays the call leaves are the reference's gradients
  with respect to the tokens, the meta tokens and the gain.
-/
module

public import proofs.«01_k».proof.Defs
public import proofs.«01_k».proof.Proof.Gen.PreNorm.Frame
public import proofs.«01_k».proof.Proof.Gen.PreNormRefIdeal.Read
public import proofs.«01_k».proof.Proof.Gen.PreNormRefIdeal.Run
public import proofs.«01_k».proof.Proof.Gen.Pre_pre_norm_finite
public import Idealize.ShloMosaic.Lib.Pipeline.ValueKit
public import proofs.«01_k».proof.Proof.PreNormRun
public import proofs.«01_k».proof.Proof.PreNormPay
public import proofs.«01_k».proof.Proof.PreNormRef
public import proofs.«01_k».proof.Proof.FrontRows

@[expose] public section

set_option maxRecDepth 16384

noncomputable section

namespace Cert.PreNormIdeal.Grad

open Idealize.ShloMosaic Idealize.ShloMosaic.TcCoe Idealize.SL.Sem
open Idealize.ShloMosaic.Pipeline (Dat)
open Cert.PreNormIdeal Cert.PreNormIdeal.Gen Cert.Common Cert.RealKit Cert.RmsNorm Cert.FrontRows
open Cert.PreNormRefIdeal.Grad (Reals tok dtok ref_tok ref_dx ref_du ref_dg)
open Cert.PreNormRefIdeal.Read

variable (m : (ℓ : Loc nD τ sig) → Buf (Elt Ideal) ℓ)

/-- The blocks each grid point reads and writes. -/
theorem idx : ∀ t : Fin cfg0.N, win0_0.index t = ![t.val, 0] ∧ win0_1.index t = ![t.val, 0] ∧ win0_2.index t = ![t.val, 0]
    ∧ win0_3.index t = ![0, 0] ∧ win0_4.index t = ![t.val - 1, 0] ∧ win0_5.index t = ![0, 0] ∧ win0_6.index t = ![0, 0]
    ∧ win0_4.flush t = decide (1 ≤ t.val) ∧ t.val < 17 :=
  (by decide +kernel : ∀ t : Fin grid0.N, _)

theorem lt17 (t : Fin cfg0.N) : t.val < 17 := (idx t).2.2.2.2.2.2.2.2

/-- The fill of the front rows is zero. -/
theorem fill_zero (i : S_.Idx) : ((sitofp .f32 (constantI S_ 32 0#32) : FVec Ideal S_ .f32) i : EReal) = 0 := sitofp_zero

/-- What the region finds in its operands: both gradients that arrive and the meta tokens followed by the tokens, each behind
    rows of zeros, and the gain as an array of one row. -/
theorem entries (c : Dev nD) : V m c main_v0 = frontA (m ((c : Thread nD τ).loc main_arg3)) .f32
    ∧ V m c main_v1 = frontA (m ((c : Thread nD τ).loc main_arg4)) .f32
    ∧ V m c main_v3 = frontA (val_main_v0 (F := Ideal) (m ((c : Thread nD τ).loc main_arg0)) (m ((c : Thread nD τ).loc main_arg1))) .f32
    ∧ V m c main_v4 = broadcastInDim S1x2048 ![1] bcast_S2048_S1x2048_1 (m ((c : Thread nD τ).loc main_arg2)) := by
  refine ⟨?_, ?_, ?_, ?_⟩ <;> unfold V <;>
    simp only [hostOps0, hostOps0_1, hostOps0_2, hostOps0_3, hostOps0_4, hostOps0_5, hostOps0_6,
      List.flatten_cons, List.flatten_nil, List.append_nil, List.cons_append, List.nil_append] <;> after_results
  · exact pad_front (m ((c : Thread nD τ).loc main_arg3)) pads_S2064x2048_S2176x2048_11200_000 h_S_ _ fill_zero
  · exact pad_front (m ((c : Thread nD τ).loc main_arg4)) pads_S2064x2048_S2176x2048_11200_000 h_S_ _ fill_zero
  · exact pad_front (val_main_v0 (F := Ideal) (m ((c : Thread nD τ).loc main_arg0)) (m ((c : Thread nD τ).loc main_arg1)))
      pads_S2064x2048_S2176x2048_11200_000 h_S_ _ fill_zero

/-- The arguments hold these reals. -/
abbrev Args (c : Dev nD) (x : Fin 2048 → Fin 2048 → ℝ) (u : Fin 16 → Fin 2048 → ℝ) (g : Fin 2048 → ℝ) (e d : Fin 2064 → Fin 2048 → ℝ) : Prop :=
  Reals (m ((c : Thread nD τ).loc main_arg0)) (m ((c : Thread nD τ).loc main_arg1)) (m ((c : Thread nD τ).loc main_arg2))
    (m ((c : Thread nD τ).loc main_arg3)) (m ((c : Thread nD τ).loc main_arg4)) x u g e d

variable {m} {c : Dev nD} {x : Fin 2048 → Fin 2048 → ℝ} {u : Fin 16 → Fin 2048 → ℝ} {g : Fin 2048 → ℝ} {e d : Fin 2064 → Fin 2048 → ℝ}

/-- The tiles of the gradients that arrive and of the rows. -/
theorem blk0 (H : Args m c x u g e d) (t : Fin cfg0.N) (r : Fin 128) (k : Fin 2048) :
    ((iblk m c 0 t : FVec Ideal S128x2048 .f32) (ix2 r k) : EReal) = (rowN e (t.val * 128 + r.val) k : EReal) := by
  have h0 := (idx t).1
  show V m c main_v0 (((cfg0.win 0).blk t).view.emb (ix2 r k)) = _
  rw [(entries m c).1]
  exact (front_congr _ (by blk_simp [h0]) (by blk_simp [h0])).trans (front_real H.a3 _ _)

theorem blk1 (H : Args m c x u g e d) (t : Fin cfg0.N) (r : Fin 128) (k : Fin 2048) :
    ((iblk m c 1 t : FVec Ideal S128x2048 .f32) (ix2 r k) : EReal) = (rowN d (t.val * 128 + r.val) k : EReal) := by
  have h0 := (idx t).2.1
  show V m c main_v1 (((cfg0.win 1).blk t).view.emb (ix2 r k)) = _
  rw [(entries m c).2.1]
  exact (front_congr _ (by blk_simp [h0]) (by blk_simp [h0])).trans (front_real H.a4 _ _)

theorem blk2 (H : Args m c x u g e d) (t : Fin cfg0.N) (r : Fin 128) (k : Fin 2048) :
    ((iblk m c 2 t : FVec Ideal S128x2048 .f32) (ix2 r k) : EReal) = (rowN (tok x u) (t.val * 128 + r.val) k : EReal) := by
  have h0 := (idx t).2.2.1
  show V m c main_v3 (((cfg0.win 2).blk t).view.emb (ix2 r k)) = _
  rw [(entries m c).2.2.1]
  exact (front_congr _ (by blk_simp [h0]) (by blk_simp [h0])).trans (front_real (ref_tok H) _ _)

/-- An array of one row reads its one-dimensional origin. -/
theorem row_apply (y : FVec Ideal S2048 .f32) (z : Fin 1) (k : Fin 2048) :
    (broadcastInDim S1x2048 ![1] bcast_S2048_S1x2048_1 y : FVec Ideal S1x2048 .f32) (ix2 z k) = y (ix1 k) := by pointwise

/-- The gain. -/
theorem blk3 (H : Args m c x u g e d) (t : Fin cfg0.N) (z : Fin 1) (k : Fin 2048) :
    ((iblk m c 3 t : FVec Ideal S1x2048 .f32) (ix2 z k) : EReal) = (g k : EReal) := by
  have h0 := (idx t).2.2.2.1
  show V m c main_v4 (((cfg0.win 3).blk t).view.emb (ix2 z k)) = _
  rw [(entries m c).2.2.2, show ((cfg0.win 3).blk t).view.emb (ix2 z k) = ix2 z k from ext2 (by blk_simp [h0]) (by blk_simp [h0])]
  exact (row_apply _ z k).trans (H.a2 k)

/-- On a row of the kernel's arrays the gradient is that of the argument's row, and zero in front. -/
theorem dtokN (R : ℕ) (k : Fin 2048) : rowN e R k + dx g (rowN (tok x u) R) (rowN d R) k = rowN (dtok x u g e d) R k := by
  by_cases hR : 112 ≤ R ∧ R - 112 < 2064
  · simp only [rowN_in _ R hR]; rfl
  · simp only [rowN_out _ R hR, dx_zero, add_zero]

theorem dgN (R : ℕ) (k : Fin 2048) : rowN d R k * yn (rowN (tok x u) R) k = rowN (fun r k => d r k * yn (tok x u r) k) R k := by
  by_cases hR : 112 ≤ R ∧ R - 112 < 2064
  · simp only [rowN_in _ R hR]
  · simp only [rowN_out _ R hR, zero_mul]

/-- The tile of the gradient. -/
theorem tile_dtok (H : Args m c x u g e d) (t : Fin cfg0.N) (r : Fin 128) (k : Fin 2048) :
    (k0_pay7 (F := Ideal) (iblk m c 1 t) (iblk m c 2 t) (iblk m c 3 t) (iblk m c 0 t) (ix2 r k) : EReal)
      = (rowN (dtok x u g e d) (t.val * 128 + r.val) k : EReal) :=
  (pay_dh (blk1 H t) (blk2 H t) (blk3 H t) (blk0 H t) r k).trans (congrArg _ (dtokN _ k))

/-- The tile's part of the gain's gradient. -/
theorem tile_dg (H : Args m c x u g e d) (t : Fin cfg0.N) (z : Fin 1) (k : Fin 2048) :
    (k0_pay6 (F := Ideal) (iblk m c 1 t) (iblk m c 2 t) (ix2 z k) : EReal)
      = ((∑ r : Fin 128, rowN (fun r k => d r k * yn (tok x u r) k) (t.val * 128 + r.val) k : ℝ) : EReal) :=
  (pay_dg (blk1 H t) (blk2 H t) z k).trans (congrArg _ (Finset.sum_congr rfl fun r _ => dgN _ k))

/-- The last point. -/
abbrev tLast : Fin cfg0.N := ⟨16, by rw [show cfg0.N = 17 from N_0]; decide⟩

/-- What the last point leaves of the gain's gradient. -/
theorem last_dg (H : Args m c x u g e d) (z : Fin 1) (k : Fin 2048) : (gainAt m c tLast.val tLast.isLt (ix2 z k) : EReal)
    = ((∑ r, d r k * yn (tok x u r) k : ℝ) : EReal) := by
  refine gathered 17 128 rfl N_0 (fun n hn => gainAt m c n hn) (fun r k => d r k * yn (tok x u r) k)
    (fun t h0 z k => ?_) (fun t h0 z k => ?_) tLast N_0.symm z k
  · have hl := lt17 t
    obtain ⟨_ | n, hn⟩ := t
    · exact tile_dg H ⟨0, hn⟩ z k
    · exact absurd h0 (by simp only at hl ⊢; omega)
  · obtain ⟨_ | n, hn⟩ := t
    · exact absurd rfl h0
    · exact (step_dg _ _ z k).trans (congrArg _ (tile_dg H ⟨n + 1, hn⟩ z k))

/-- The tokens' gradient after the last grid point. -/
theorem final_dx (H : Args m c x u g e d) : (dats m 0 c).arrAt 4 (cfgs 0).N = val_main_v39 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 4 _ (by decide +kernel) fun t ht y => ?_
  have h0 := (idx t).2.2.2.2.1
  have hl : 1 ≤ t.val := of_decide_eq_true ((idx t).2.2.2.2.2.2.2.1.symm.trans ht)
  have hN := lt17 t
  obtain ⟨p, q, rfl⟩ : ∃ (p : Fin 128) (q : Fin 2048), y = ix2 p q := ⟨y 0, y 1, ext2 rfl rfl⟩
  have hp := p.isLt
  blk_simp
  rw [after4]
  have hR : 112 ≤ t.val * 128 + p.val ∧ t.val * 128 + p.val - 112 < 2064 := by omega
  refine (tile_dtok H t p q).trans (Eq.trans ?_ ((ref_dx H ⟨(t.val - 1) * 128 + p.val, by omega⟩ q).symm.trans ?_))
  · rw [rowN_in _ _ hR]
    exact congrArg (fun i : Fin 2064 => ((dtok x u g e d i q : ℝ) : EReal)) (Fin.ext (by show _ - 112 = (t.val - 1) * 128 + p.val + 16; omega))
  · exact congrArg (val_main_v39 (F := Ideal) _ _ _ _ _) (ext2 (by blk_simp [h0]) (by blk_simp [h0]))

/-- The meta tokens' gradient after the last grid point. -/
theorem final_du (H : Args m c x u g e d) : (dats m 0 c).arrAt 5 (cfgs 0).N = val_main_v38 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t ht y => ?_
  have h0 := (idx t).2.2.2.2.2.1
  obtain ⟨p, q, rfl⟩ : ∃ (p : Fin 16) (q : Fin 2048), y = ix2 p q := ⟨y 0, y 1, ext2 rfl rfl⟩
  have hp := p.isLt
  blk_simp
  rw [after5]
  have hR : 112 ≤ (tFirst : Fin cfg0.N).val * 128 + (112 + p.val) ∧ (tFirst : Fin cfg0.N).val * 128 + (112 + p.val) - 112 < 2064 := by
    show 112 ≤ 0 * 128 + (112 + p.val) ∧ 0 * 128 + (112 + p.val) - 112 < 2064; omega
  refine (pay_meta p q).trans ((tile_dtok H tFirst ⟨112 + p.val, by omega⟩ q).trans (Eq.trans ?_ ((ref_du H p q).symm.trans ?_)))
  · rw [rowN_in _ _ hR]
    exact congrArg (fun i : Fin 2064 => ((dtok x u g e d i q : ℝ) : EReal)) (Fin.ext (by show 0 * 128 + (112 + p.val) - 112 = p.val; omega))
  · exact congrArg (val_main_v38 (F := Ideal) _ _ _ _ _) (ext2 (by blk_simp [h0]) (by blk_simp [h0]))

/-- The gain's gradient after the last grid point. -/
theorem final_dg (H : Args m c x u g e d) : (dats m 0 c).arrAt 6 (cfgs 0).N = val_main_v40 (F := Ideal)
    (m ((c : Thread nD τ).loc main_arg0)) (m ((c : Thread nD τ).loc main_arg1)) (m ((c : Thread nD τ).loc main_arg4)) := by
  refine (dats m 0 c).arrAt_eq_of_covers 6 _ (by decide +kernel) fun t ht y => ?_
  have h0 := (idx t).2.2.2.2.2.2.1
  have hl : t.val = 16 := of_decide_eq_true ((flush6 t).symm.trans ht)
  obtain rfl : t = tLast := Fin.ext hl
  obtain ⟨p, q, rfl⟩ : ∃ (p : Fin 1) (q : Fin 2048), y = ix2 p q := ⟨y 0, y 1, ext2 rfl rfl⟩
  blk_simp
  rw [after6]
  refine (last_dg H p q).trans ((ref_dg H p q).symm.trans ?_)
  exact congrArg (val_main_v40 (F := Ideal) _ _ _) (ext2 (by blk_simp [h0]) (by blk_simp [h0]))

/-- Finite arguments are real numbers. -/
theorem args_of_pre (hp : Cert.Pre_PreNormIdeal_pre_norm_finite m) (c : Dev nD) : ∃ x u g e d, Args m c x u g e d := by
  obtain ⟨h0, h1, h2, h3, h4⟩ := hp c
  obtain ⟨x, a0⟩ := reals _ h0
  obtain ⟨u, a1⟩ := reals _ h1
  obtain ⟨g, a2⟩ := reals _ h2
  obtain ⟨e, a3⟩ := reals _ h3
  obtain ⟨d, a4⟩ := reals _ h4
  exact ⟨fun r k => x (ix2 r k), fun r k => u (ix2 r k), fun k => g (ix1 k), fun r k => e (ix2 r k), fun r k => d (ix2 r k),
    fun r k => a0 _, fun r k => a1 _, fun k => a2 _, fun r k => a3 _, fun r k => a4 _⟩

/-- The three results for finite arguments. -/
theorem finals (hp : Cert.Pre_PreNormIdeal_pre_norm_finite m) (c : Dev nD) :
    (dats m 0 c).arrAt 4 (cfgs 0).N = val_main_v39 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
    ∧ (dats m 0 c).arrAt 5 (cfgs 0).N = val_main_v38 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
    ∧ (dats m 0 c).arrAt 6 (cfgs 0).N = val_main_v40 (F := Ideal) (m ((c : Thread nD τ).loc main_arg0)) (m ((c : Thread nD τ).loc main_arg1))
      (m ((c : Thread nD τ).loc main_arg4)) := by
  obtain ⟨x, u, g, e, d, H⟩ := args_of_pre hp c
  exact ⟨final_dx H, final_du H, final_dg H⟩

/-- The reference runs to its end with every counter at zero. -/
theorem frame_ref : Cert.quiescent_PreNormRefIdeal := fun m ρ _ =>
  (θ_run Cert.PreNormRefIdeal.defs _ _).mono
    (fun r h => ⟨fun c => (h c).2.2.2, sem_eq_zero_of_no_sems (by decide) r.2⟩) (Cert.PreNormRefIdeal.Value.run (F := Ideal) m ρ)

/-- A function of five arguments at equal arguments. -/
theorem congr5 {α β γ δ ε η : Type} (f : α → β → γ → δ → ε → η) {a a' : α} {b b' : β} {c c' : γ} {d d' : δ} {e e' : ε}
    (ha : a = a') (hb : b = b') (hc : c = c') (hd : d = d') (he : e = e') : f a b c d e = f a' b' c' d' e' := by
  subst ha hb hc hd he; rfl

/-- A function of three arguments at equal arguments. -/
theorem congr3 {α β γ η : Type} (f : α → β → γ → η) {a a' : α} {b b' : β} {c c' : γ}
    (ha : a = a') (hb : b = b') (hc : c = c') : f a b c = f a' b' c' := by
  subst ha hb hc; rfl

set_option maxHeartbeats 2000000 in
/-- Over the reals, for finite arguments, the call's three results are the reference's gradients. -/
theorem algebraic : Cert.algebraic_PreNormIdeal_PreNormRefIdeal_pre_pre_norm_finite := by
  pair_intro
  · run_from Cert.PreNormIdeal.Grad.run_main m g
    exacts [V_main_arg0 m c, V_main_arg1 m c, V_main_arg2 m c, V_main_arg3 m c, V_main_arg4 m c]
  · refine θ_run_mono (Cert.PreNormRefIdeal.Value.run m' g') fun r hr c => ?_
    have hfin := finals hpre c
    obtain ⟨e0, e1, e2, e3, e4⟩ := hagree c
    have hr' := hr c
    refine ⟨?_, ?_, ?_, hr'.2.2.2⟩
    · exact hr'.1.trans ((val_main_v39_eq m' c).trans ((congr5 (val_main_v39 (F := Ideal)) e0 e1 e2 e3 e4).trans hfin.1.symm))
    · exact hr'.2.1.trans ((val_main_v38_eq m' c).trans ((congr5 (val_main_v38 (F := Ideal)) e0 e1 e2 e3 e4).trans hfin.2.1.symm))
    · exact hr'.2.2.1.trans ((val_main_v40_eq (F := Ideal) _ _ _).trans ((congr3 (val_main_v40 (F := Ideal)) e0 e1 e4).trans hfin.2.2.symm))

/-- Before idealisation the call has the same text, so the run over any float values gives its frame too. -/
theorem frame_kernel : Cert.quiescent_PreNorm := fun m ρ _ =>
  Eq.mp (by sl_kernel_rfl) (frame (F := Bits) m ρ)

/-- Everything that is claimed of this call. -/
theorem claims : Cert.quiescent_PreNorm ∧ Cert.quiescent_PreNormIdeal ∧ Cert.quiescent_PreNormIdeal_pre_pre_norm_finite
    ∧ Cert.quiescent_PreNormRefIdeal ∧ Cert.quiescent_PreNormRefIdeal_pre_pre_norm_finite
    ∧ Cert.preserves_PreNorm_PreNormIdeal ∧ Cert.algebraic_PreNormIdeal_PreNormRefIdeal_pre_pre_norm_finite :=
  ⟨frame_kernel, fun m ρ _ => frame m ρ, fun m ρ _ => frame m ρ,
    frame_ref, fun m ρ _ => frame_ref m ρ trivial, trivial, algebraic⟩

end Cert.PreNormIdeal.Grad

end
-- ==== Proof.PoolSums.lean ====
/-
  Sums over windows of rows: the running sum that is taken from the last row backwards, and why a difference of rows
  that are one window apart sums to the rows of one window.
-/
module

public import proofs.«01_k».proof.Proof.RealKit
public import proofs.«01_k».proof.Proof.Common

@[expose] public section

noncomputable section

namespace Cert.PoolSums

open Idealize.ShloMosaic Cert.RealKit

/-- A fold that adds a term per position is the start plus the sum of the terms. -/
theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- Three coordinates of which the last two have one value. -/
def tall (N : ℕ) : (⟨3, ![N, 1, 1]⟩ : Shape).Idx ≃ Fin N where
  toFun i := i 0
  invFun n := ix3 n 0 0
  left_inv i := funext fun a => match a with
    | ⟨0, _⟩ => rfl
    | ⟨1, _⟩ => Subsingleton.elim (α := Fin 1) _ _
    | ⟨2, _⟩ => Subsingleton.elim (α := Fin 1) _ _
  right_inv _ := rfl

/-- A function of a row, zero from row `N` on. -/
def past {N : ℕ} (f : Fin N → ℝ) (R : ℕ) : ℝ := if h : R < N then f ⟨R, h⟩ else 0

/-- The running sum of an array's rows from the last one backwards, over the reals. -/
theorem suffix_sum {N A B : ℕ} (hi : Fin 3 → ℕ) (x : FVec Ideal ⟨3, ![N, A, B]⟩ .f32) (f : Fin N → Fin A → Fin B → ℝ)
    (hx : ∀ l g k, (x (ix3 l g k) : EReal) = (f l g k : EReal)) (init : FVec Ideal ⟨0, ![]⟩ .f32) (hz : ∀ i, (init i : EReal) = 0)
    (h : (⟨3, ![N, A, B]⟩ : Shape).ReduceWindows (![N, 1, 1] : Fin 3 → ℕ) ![1, 1, 1] ![0, 0, 0] hi ⟨3, ![N, A, B]⟩)
    (hu : 0 < (⟨0, ![]⟩ : Shape).numel) (l : Fin N) (g : Fin A) (k : Fin B) :
    (Host.reduceWindowAdd (t := ⟨3, ![N, A, B]⟩) ![N, 1, 1] ![1, 1, 1] ![0, 0, 0] hi x init h hu (ix3 l g k) : EReal)
      = ((∑ n ∈ Finset.range N, past (fun r => f r g k) (l.val + n) : ℝ) : EReal) := by
  show (List.finRange _).foldl (fun r n => r + _) _ = _
  rw [foldl_add, hz, zero_add, ← Fin.sum_univ_def]
  refine Eq.trans ?_ ((Equiv.sum_comp (⟨3, ![N, 1, 1]⟩ : Shape).rowMajor.symm fun w : (⟨3, ![N, 1, 1]⟩ : Shape).Idx =>
    ((past (fun r => f r g k) (l.val + (w 0).val) : ℝ) : EReal)).trans ?_)
  · refine Finset.sum_congr rfl fun n _ => ?_
    obtain ⟨w, hw⟩ : ∃ w : (⟨3, ![N, 1, 1]⟩ : Shape).Idx, w = (⟨3, ![N, 1, 1]⟩ : Shape).rowMajor.symm n := ⟨_, rfl⟩
    refine Eq.trans ?_ (congrArg (fun u : (⟨3, ![N, 1, 1]⟩ : Shape).Idx => ((past (fun r => f r g k) (l.val + (u 0).val) : ℝ) : EReal)) hw)
    dsimp only
    have h1 : (w 1).val = 0 := Nat.lt_one_iff.mp (w 1).isLt
    have h2 : (w 2).val = 0 := Nat.lt_one_iff.mp (w 2).isLt
    split
    · next hin =>
      have h0 : l.val * 1 + (w 0).val - 0 < N := by rw [hw]; exact (hin 0).2
      rw [past, dif_pos (by omega), ← hx]
      refine congrArg x (funext fun a => Fin.ext ?_)
      have e0 : l.val * 1 + (w 0).val - 0 = l.val + (w 0).val := by omega
      have e1 : g.val * 1 + (w 1).val - 0 = g.val := by omega
      have e2 : k.val * 1 + (w 2).val - 0 = k.val := by omega
      rw [hw] at e0 e1 e2
      match a with
      | ⟨0, _⟩ => exact e0.trans (congrArg (fun u : (⟨3, ![N, 1, 1]⟩ : Shape).Idx => l.val + (u 0).val) hw.symm)
      | ⟨1, _⟩ => exact e1
      | ⟨2, _⟩ => exact e2
    · next hin =>
      rw [past, dif_neg]
      · rfl
      · refine fun hl => hin fun a => ?_
        have e0 : 0 ≤ l.val * 1 + (w 0).val ∧ l.val * 1 + (w 0).val - 0 < N := by omega
        have e1 : 0 ≤ g.val * 1 + (w 1).val ∧ g.val * 1 + (w 1).val - 0 < A := by have := g.isLt; omega
        have e2 : 0 ≤ k.val * 1 + (w 2).val ∧ k.val * 1 + (w 2).val - 0 < B := by have := k.isLt; omega
        rw [hw] at e0 e1 e2
        match a with
        | ⟨0, _⟩ => exact e0
        | ⟨1, _⟩ => exact e1
        | ⟨2, _⟩ => exact e2
  · rw [← Equiv.sum_comp (tall N).symm, ← sum_coe, ← Fin.sum_univ_eq_sum_range (fun n => ((past (fun r => f r g k) (l.val + n) : ℝ) : EReal))]
    rfl

/-- Summed from row `l` on, the difference of the rows `W` apart is the sum of the `W` rows from `l` on. -/
theorem window {N : ℕ} (W : ℕ) (f : Fin N → ℝ) (l : ℕ) :
    ∑ n ∈ Finset.range N, past (fun r : Fin N => f r - past f (r.val + W)) (l + n) = ∑ n ∈ Finset.range W, past f (l + n) := by
  have e (R : ℕ) : past (fun r : Fin N => f r - past f (r.val + W)) R = past f R - past f (R + W) := by
    unfold past; split
    · rfl
    · rw [dif_neg (by omega), sub_zero]
  have z (M : ℕ) : ∑ n ∈ Finset.range M, past f (l + (N + n)) = 0 := Finset.sum_eq_zero fun n _ => dif_neg (by omega)
  have a := Finset.sum_range_add (fun n => past f (l + n)) N W
  have b := Finset.sum_range_add (fun n => past f (l + n)) W N
  rw [z, add_zero] at a
  rw [Nat.add_comm W N, a] at b
  simp only [e, Finset.sum_sub_distrib]
  rw [b]
  simp only [show ∀ n, l + n + W = l + (W + n) from fun n => by omega]
  ring

end Cert.PoolSums

end
-- ==== Proof.PoolRef.lean ====
/-
  The reference of the multi-scale pooling's gradient, read at reals.
-/
module

public import proofs.«01_k».proof.Proof.PoolSums
public import proofs.«01_k».proof.Proof.Gen.PoolRefIdeal.Read

@[expose] public section

set_option maxRecDepth 16384

noncomputable section

namespace Cert.PoolRefIdeal.Grad

open Cert.PoolRefIdeal Cert.PoolRefIdeal.Gen Cert.PoolRefIdeal.Read Cert.RealKit Cert.Common Cert.PoolSums
open Idealize.ShloMosaic Idealize.ShloMosaic.TcCoe

/-- Column `e` of group `g`. -/
def col (g : Fin 4) (e : Fin 256) : Fin 1024 := ⟨g.val * 256 + e.val, by omega⟩

/-- The arguments that are reals: the groups' matrices, the scale and the gradient that arrives. -/
structure Reals (x1 : FVec Ideal S4x256x256 .f32) (x2 : FVec Ideal S1024 .f32) (x3 : FVec Ideal S2064x1024 .f32)
    (w : Fin 4 → Fin 256 → Fin 256 → ℝ) (s : Fin 1024 → ℝ) (y : Fin 2064 → Fin 1024 → ℝ) : Prop where
  a1 : ∀ g c e, (x1 (ix3 g c e) : EReal) = (w g c e : EReal)
  a2 : ∀ k, (x2 (ix1 k) : EReal) = (s k : EReal)
  a3 : ∀ r k, (x3 (ix2 r k) : EReal) = (y r k : EReal)

variable {x1 : FVec Ideal S4x256x256 .f32} {x2 : FVec Ideal S1024 .f32} {x3 : FVec Ideal S2064x1024 .f32}
  {w : Fin 4 → Fin 256 → Fin 256 → ℝ} {s : Fin 1024 → ℝ} {y : Fin 2064 → Fin 1024 → ℝ}

/-- The gradient of the deviation from the pooled rows. -/
def dd (w : Fin 4 → Fin 256 → Fin 256 → ℝ) (s : Fin 1024 → ℝ) (y : Fin 2064 → Fin 1024 → ℝ) (g : Fin 4) (l : Fin 2064) (k : Fin 256) : ℝ :=
  ∑ e, y l (col g e) * s (col g e) * w g k e

/-- How many rows a window of `W` rows that ends at row `l` holds. -/
def cnt (W l : ℕ) : ℝ := ((min (l + 1) W : ℕ) : ℝ)

theorem cnt_ne (W l : ℕ) (h : 0 < W) : cnt W l ≠ 0 := by unfold cnt; exact_mod_cast (by omega : min (l + 1) W ≠ 0)

/-- The count's word, for every row. -/
theorem count (W : BitVec 32) (n : ℕ) (h : ∀ l : Fin 2064, (IntOp.minsi (IntOp.addi (BitVec.ofNat 32 l.val) 1#32) W).toInt = (min (l.val + 1) n : ℕ))
    (l : Fin 2064) : (FloatOps.sitofp .f32 (IntOp.minsi (IntOp.addi (BitVec.ofNat 32 l.val) 1#32) W) : Ideal .f32) = (cnt n l.val : EReal) := by
  show (((IntOp.minsi (IntOp.addi (BitVec.ofNat 32 l.val) 1#32) W).toInt : ℝ) : EReal) = _
  rw [h]; rfl

theorem cnt2 (l : Fin 2064) (z : Fin 1) : (val_main_v14 (F := Ideal) (ix2 l z) : EReal) = (cnt 2 l.val : EReal) := by
  pointwise [val_main_v14, val_main_v13, val_main_v12, val_main_v11, val_main_v10, val_main_v9, val_main_v2, val_main_c, val_main_c_1]
  exact count _ 2 (by decide +kernel) l
theorem cnt4 (l : Fin 2064) (z : Fin 1) : (val_main_v29 (F := Ideal) (ix2 l z) : EReal) = (cnt 4 l.val : EReal) := by
  pointwise [val_main_v29, val_main_v28, val_main_v27, val_main_v26, val_main_v25, val_main_v24, val_main_v2, val_main_c_4, val_main_c_5]
  exact count _ 4 (by decide +kernel) l
theorem cnt8 (l : Fin 2064) (z : Fin 1) : (val_main_v44 (F := Ideal) (ix2 l z) : EReal) = (cnt 8 l.val : EReal) := by
  pointwise [val_main_v44, val_main_v43, val_main_v42, val_main_v41, val_main_v40, val_main_v39, val_main_v2, val_main_c_8, val_main_c_9]
  exact count _ 8 (by decide +kernel) l
theorem cnt16 (l : Fin 2064) (z : Fin 1) : (val_main_v59 (F := Ideal) (ix2 l z) : EReal) = (cnt 16 l.val : EReal) := by
  pointwise [val_main_v59, val_main_v58, val_main_v57, val_main_v56, val_main_v55, val_main_v54, val_main_v2, val_main_c_12, val_main_c_13]
  exact count _ 16 (by decide +kernel) l

theorem v84 (H : Reals x1 x2 x3 w s y) (l : Fin 2064) (g : Fin 4) (k : Fin 256) :
    (val_main_v84 (F := Ideal) x1 x2 x3 (ix3 l g k) : EReal) = (dd w s y g l k : EReal) := by
  pointwise [val_main_v84, val_main_v83, val_main_v82, val_main_v81, val_main_v79, val_main_v78, val_main_v72]
  simp only [H.a1, H.a2, H.a3, ← EReal.coe_mul, sum_coe]; rfl

/-- The gradient of a row's mean over its window. -/
def mean (w : Fin 4 → Fin 256 → Fin 256 → ℝ) (s : Fin 1024 → ℝ) (y : Fin 2064 → Fin 1024 → ℝ) (g : Fin 4) (l : Fin 2064) (k : Fin 256) : ℝ :=
  dd w s y g l k / cnt (2 ^ (g.val + 1)) l.val

theorem v97 (H : Reals x1 x2 x3 w s y) (l : Fin 2064) (k : Fin 256) :
    (val_main_v97 (F := Ideal) x1 x2 x3 (ix2 l k) : EReal) = (mean w s y 3 l k : EReal) := by
  pointwise [val_main_v97, val_main_v96, val_main_v95, val_main_v94]
  exact (congrArg₂ Ideal.div (v84 H l 3 k) (cnt16 l 0)).trans (div_real _ _ (cnt_ne _ _ (by norm_num)))
theorem v106 (H : Reals x1 x2 x3 w s y) (l : Fin 2064) (k : Fin 256) :
    (val_main_v106 (F := Ideal) x1 x2 x3 (ix2 l k) : EReal) = (mean w s y 2 l k : EReal) := by
  pointwise [val_main_v106, val_main_v105, val_main_v93, val_main_v92]
  exact (congrArg₂ Ideal.div (v84 H l 2 k) (cnt8 l 0)).trans (div_real _ _ (cnt_ne _ _ (by norm_num)))
theorem v116 (H : Reals x1 x2 x3 w s y) (l : Fin 2064) (k : Fin 256) :
    (val_main_v116 (F := Ideal) x1 x2 x3 (ix2 l k) : EReal) = (mean w s y 1 l k : EReal) := by
  pointwise [val_main_v116, val_main_v115, val_main_v91, val_main_v90]
  exact (congrArg₂ Ideal.div (v84 H l 1 k) (cnt4 l 0)).trans (div_real _ _ (cnt_ne _ _ (by norm_num)))
theorem v126 (H : Reals x1 x2 x3 w s y) (l : Fin 2064) (k : Fin 256) :
    (val_main_v126 (F := Ideal) x1 x2 x3 (ix2 l k) : EReal) = (mean w s y 0 l k : EReal) := by
  pointwise [val_main_v126, val_main_v125, val_main_v89, val_main_v88]
  exact (congrArg₂ Ideal.div (v84 H l 0 k) (cnt2 l 0)).trans (div_real _ _ (cnt_ne _ _ (by norm_num)))

/-- An array less the same array `W` rows further on. -/
theorem apart (W M : ℕ) (hW : W + M = 2064) (x : FVec Ideal ⟨2, ![2064, 256]⟩ .f32) (f : Fin 2064 → Fin 256 → ℝ)
    (hx : ∀ l k, (x (ix2 l k) : EReal) = (f l k : EReal)) (z : FVec Ideal ⟨0, ![]⟩ .f32) (hz : ∀ i, (z i : EReal) = 0)
    (hs : (⟨2, ![2064, 256]⟩ : Shape).Slices (![W, 0] : Fin 2 → ℕ) ⟨2, ![M, 256]⟩)
    (hp : (⟨2, ![M, 256]⟩ : Shape).Pads (![0, 0] : Fin 2 → ℕ) ![W, 0] ![0, 0] ⟨2, ![2064, 256]⟩) (hu : 0 < (⟨0, ![]⟩ : Shape).numel)
    (l : Fin 2064) (k : Fin 256) :
    (addf x (pad ⟨2, ![2064, 256]⟩ ![0, 0] ![W, 0] ![0, 0] (extractStridedSlice ⟨2, ![M, 256]⟩ ![W, 0] (Host.negf x) hs) z hp hu) (ix2 l k) : EReal)
      = ((f l k - past (fun r => f r k) (l.val + W) : ℝ) : EReal) := by
  have hl := l.isLt
  by_cases h : l.val < M
  · rw [past, dif_pos (by omega)]
    pointwise [hx, hz, h]
    rw [← EReal.coe_neg, ← EReal.coe_add, sub_eq_add_neg]
    exact congrArg (fun u : ℝ => ((f l k + -u : ℝ) : EReal)) (congrArg₂ f (Fin.ext (by simp [Shape.Idx.norm, Nat.add_comm]))
      (Fin.ext (by simp [Shape.Idx.norm])))
  rw [past, dif_neg (by omega)]
  pointwise [hx, hz, h]

theorem v134 (H : Reals x1 x2 x3 w s y) (l : Fin 2064) (g : Fin 4) (k : Fin 256) :
    (val_main_v134 (F := Ideal) x1 x2 x3 (ix3 l g k) : EReal)
      = ((mean w s y g l k - past (fun r => mean w s y g r k) (l.val + 2 ^ (g.val + 1)) : ℝ) : EReal) := by
  have z (i) : (val_main_cst_16 (F := Ideal) i : EReal) = 0 := by pointwise [val_main_cst_16]
  have z17 (i) : (val_main_cst_17 (F := Ideal) i : EReal) = 0 := by pointwise [val_main_cst_17]
  have z19 (i) : (val_main_cst_19 (F := Ideal) i : EReal) = 0 := by pointwise [val_main_cst_19]
  have z21 (i) : (val_main_cst_21 (F := Ideal) i : EReal) = 0 := by pointwise [val_main_cst_21]
  have z23 (i) : (val_main_cst_23 (F := Ideal) i : EReal) = 0 := by pointwise [val_main_cst_23]
  have h3 (l k) : (val_main_v102 (F := Ideal) x1 x2 x3 (ix2 l k) : EReal) = _ := apart 16 2048 rfl _ _ (v97 H) _ z _ _ _ l k
  have h2 (l k) : (val_main_v111 (F := Ideal) x1 x2 x3 (ix2 l k) : EReal) = _ := apart 8 2056 rfl _ _ (v106 H) _ z _ _ _ l k
  have h1 (l k) : (val_main_v121 (F := Ideal) x1 x2 x3 (ix2 l k) : EReal) = _ := apart 4 2060 rfl _ _ (v116 H) _ z _ _ _ l k
  have h0 (l k) : (val_main_v131 (F := Ideal) x1 x2 x3 (ix2 l k) : EReal) = _ := apart 2 2062 rfl _ _ (v126 H) _ z _ _ _ l k
  fin_cases g
  all_goals
    pointwise [val_main_v134, val_main_v133, val_main_v132, val_main_v124, val_main_v123, val_main_v122, val_main_v114, val_main_v113,
      val_main_v112, val_main_v104, val_main_v103, z17, z19, z21, z23]
    try simp only [zero_add, add_zero]
  · exact h0 l k
  · exact h1 l k
  · exact h2 l k
  · exact h3 l k

/-- The gradient of the pooled rows. -/
def dz (w : Fin 4 → Fin 256 → Fin 256 → ℝ) (s : Fin 1024 → ℝ) (y : Fin 2064 → Fin 1024 → ℝ) (g : Fin 4) (l : Fin 2064) (k : Fin 256) : ℝ :=
  ∑ n ∈ Finset.range (2 ^ (g.val + 1)), past (fun r => mean w s y g r k) (l.val + n) - dd w s y g l k

theorem v136 (H : Reals x1 x2 x3 w s y) (l : Fin 2064) (g : Fin 4) (k : Fin 256) :
    (val_main_v136 (F := Ideal) x1 x2 x3 (ix3 l g k) : EReal) = (dz w s y g l k : EReal) := by
  have h : (val_main_v135 (F := Ideal) x1 x2 x3 (ix3 l g k) : EReal) = _ :=
    suffix_sum _ _ _ (fun l g k => v134 H l g k) _ (fun i => by pointwise [val_main_call1_call0_v0, val_main_call1_call0_cst]) _ _ l g k
  pointwise [val_main_v136, val_main_v87]
  rw [v84 H, h, window, ← EReal.coe_neg, ← EReal.coe_add, neg_add_eq_sub]; rfl

theorem ref_dz (H : Reals x1 x2 x3 w s y) (l : Fin 2064) (g : Fin 4) (k : Fin 256) :
    (val_main_v138 (F := Ideal) x1 x2 x3 (ix2 l (col g k)) : EReal) = (dz w s y g l k : EReal) := by
  pointwise [val_main_v138, val_main_v137]
  refine Eq.trans (congrArg (val_main_v136 (F := Ideal) x1 x2 x3) ?_) (v136 H l g k)
  exact funext fun a => Fin.ext (match a with
    | ⟨0, _⟩ => rfl
    | ⟨1, _⟩ => show (g.val * 256 + k.val) / 256 = g.val by omega
    | ⟨2, _⟩ => show (g.val * 256 + k.val) % 256 = k.val by omega)

variable {x0 : FVec Ideal S2064x1024 .f32}

/-- The reference's gradient of the groups' matrices. -/
theorem ref_dw (H : Reals x1 x2 x3 w s y) (g : Fin 4) (c e : Fin 256) :
    (val_main_v86 (F := Ideal) x0 x2 x3 (ix3 g c e) : EReal)
      = ∑ l : Fin 2064, (val_main_v68 (F := Ideal) x0 (ix3 l g c) : EReal) * ((y l (col g e) * s (col g e) : ℝ) : EReal) := by
  pointwise [val_main_v86, val_main_v85, val_main_v82, val_main_v81, val_main_v79, val_main_v78, val_main_v72]
  simp only [H.a2, H.a3, ← EReal.coe_mul]
  exact Finset.sum_congr rfl fun l _ => mul_comm _ _

/-- The reference's gradient of the scale. -/
theorem ref_ds (H : Reals x1 x2 x3 w s y) (z : Fin 1) (g : Fin 4) (e : Fin 256) :
    (val_main_v139 (F := Ideal) x0 x1 x3 (ix2 z (col g e)) : EReal)
      = ∑ l : Fin 2064, (y l (col g e) : EReal) * ∑ c : Fin 256, (val_main_v68 (F := Ideal) x0 (ix3 l g c) : EReal) * (w g c e : EReal) := by
  pointwise [val_main_v139, val_main_v80, val_main_v77, val_main_v76, val_main_v75, val_main_v71, val_main_v70, val_main_v69, val_main_cst_14,
    val_main_cst_15]
  rw [Fin.sum_univ_one]
  refine Finset.sum_congr rfl fun l _ => ?_
  rw [H.a3, mul_comm]
  refine congrArg _ (Finset.sum_congr rfl fun c _ => ?_)
  rw [mul_comm, ← H.a1]
  have eg : (⟨(col g e).val / 256, by omega⟩ : Fin 4) = g := Fin.ext (show (g.val * 256 + e.val) / 256 = g.val by omega)
  have ee : (⟨(col g e).val % 256, by omega⟩ : Fin 256) = e := Fin.ext (show (g.val * 256 + e.val) % 256 = e.val by omega)
  rw [eg, ee]

end Cert.PoolRefIdeal.Grad

end
-- ==== Proof.PoolPay.lean ====
/-
  What the body of the pooling's gradient computes from one group's columns: reals for the rows' gradient, the matrix and
  the scale; anything at all for the deviation.
-/
module

public import proofs.«01_k».proof.Proof.PoolSums
public import proofs.«01_k».proof.Proof.Gen.PoolIdeal.Skeleton

@[expose] public section

set_option maxRecDepth 16384

noncomputable section

namespace Cert.PoolIdeal.Grad

open Cert.PoolIdeal Cert.PoolIdeal.Gen Cert.RealKit Cert.PoolSums
open Idealize.ShloMosaic Idealize.ShloMosaic.TcCoe

/-- The word of one. -/
theorem wone : Ideal.ofBits .f32 0x3F800000#32 = ((1 : ℝ) : EReal) := by
  simp [Ideal.ofBits, Ideal.ieee, -EReal.coe_mul]; norm_num

variable {i : grid0.Coords} {v0 : FVec Ideal S2176x256 .f32} {v2 : FVec Ideal S2176x256 .bf16} {v4 : FVec Ideal S1x256x256 .bf16}
  {v11 : FVec Ideal S1x256 .f32} {p : Fin 2176 → Fin 256 → ℝ} {q : Fin 256 → Fin 256 → ℝ} {s : Fin 256 → ℝ}

/-- The scale's gradient. -/
theorem pay_ds (h0 : ∀ r k, (v0 (ix2 r k) : EReal) = (p r k : EReal)) (h4 : ∀ z c e, (v4 (ix3 z c e) : EReal) = (q c e : EReal)) (z : Fin 1) (e : Fin 256) :
    (k0_pay5 (F := Ideal) v0 v2 v4 (ix2 z e) : EReal) = ∑ r : Fin 2176, (p r e : EReal) * ∑ c : Fin 256, (v2 (ix2 r c) : EReal) * (q c e : EReal) := by
  pointwise [k0_pay5, k0_pay2, k0_pay3, k0_pay4]
  simp only [h0, h4]

/-- The rows' gradient times the scale. -/
theorem pay_scaled (h0 : ∀ r k, (v0 (ix2 r k) : EReal) = (p r k : EReal)) (h11 : ∀ z e, (v11 (ix2 z e) : EReal) = (s e : EReal)) (r : Fin 2176) (e : Fin 256) :
    (k0_pay6 (F := Ideal) v0 v11 (ix2 r e) : EReal) = ((p r e * s e : ℝ) : EReal) := by
  pointwise [k0_pay6, k0_pay2]
  simp only [h0, h11, EReal.coe_mul]

/-- The matrix's gradient. -/
theorem pay_dw (h0 : ∀ r k, (v0 (ix2 r k) : EReal) = (p r k : EReal)) (h11 : ∀ z e, (v11 (ix2 z e) : EReal) = (s e : EReal)) (z : Fin 1) (c e : Fin 256) :
    (k0_pay7 (F := Ideal) v0 v2 v11 (ix3 z c e) : EReal) = ∑ r : Fin 2176, (v2 (ix2 r c) : EReal) * ((p r e * s e : ℝ) : EReal) := by
  pointwise [k0_pay7, k0_pay3]
  simp only [pay_scaled h0 h11]

/-- The deviation's gradient. -/
theorem pay_dd (h0 : ∀ r k, (v0 (ix2 r k) : EReal) = (p r k : EReal)) (h4 : ∀ z c e, (v4 (ix3 z c e) : EReal) = (q c e : EReal))
    (h11 : ∀ z e, (v11 (ix2 z e) : EReal) = (s e : EReal)) (r : Fin 2176) (k : Fin 256) :
    (k0_pay8 (F := Ideal) v0 v4 v11 (ix2 r k) : EReal) = ((∑ e, p r e * s e * q k e : ℝ) : EReal) := by
  pointwise [k0_pay8, k0_pay4]
  simp only [pay_scaled h0 h11, h4, ← EReal.coe_mul, sum_coe]

/-- How many rows the window that ends at row `R` holds, for group `g`. -/
def cntK (g R : ℕ) : ℝ := ((min (2 ^ (g + 1)) (max 1 (R - 111)) : ℕ) : ℝ)

theorem count_word : ∀ (g : Fin 4) (R : Fin 2176), (IntOp.minsi (Scalar.shli 2#32 (BitVec.ofNat 32 g.val))
    (IntOp.maxsi 1#32 (IntOp.subi (BitVec.ofNat 32 R.val) 111#32))).toInt = (min (2 ^ (g.val + 1)) (max 1 (R.val - 111)) : ℕ) := by
  decide +kernel

/-- The mean's gradient. -/
theorem pay_mean {d : Fin 2176 → Fin 256 → ℝ} (h8 : ∀ r k, (k0_pay8 (F := Ideal) v0 v4 v11 (ix2 r k) : EReal) = (d r k : EReal)) (r : Fin 2176) (k : Fin 256) :
    (k0_pay9 (F := Ideal) i v0 v4 v11 (ix2 r k) : EReal) = ((d r k * (1 / cntK (i 0).val r.val) : ℝ) : EReal) := by
  have hc : (FloatOps.sitofp .f32 (IntOp.minsi (Scalar.shli 2#32 (BitVec.ofNat 32 (i 0).val))
      (IntOp.maxsi 1#32 (IntOp.subi (BitVec.ofNat 32 r.val) 111#32))) : Ideal .f32) = (cntK (i 0).val r.val : EReal) := by
    show ((_ : ℝ) : EReal) = _
    rw [count_word (i 0) r]; rfl
  have hn : cntK (i 0).val r.val ≠ 0 := by
    unfold cntK
    have : 0 < 2 ^ ((i 0).val + 1) := Nat.two_pow_pos _
    exact_mod_cast (by omega : min (2 ^ ((i 0).val + 1)) (max 1 (r.val - 111)) ≠ 0)
  pointwise [k0_pay9]
  rw [h8, hc, ← EReal.coe_one, div_real _ _ hn, ← EReal.coe_mul]

/-- The sum of `a` rows from row `R` on, around the end. -/
def win (f : Fin 2176 → Fin 256 → ℝ) (a : ℕ) (R : ℕ) (k : Fin 256) : ℝ := ∑ n ∈ Finset.range a, f ⟨(R + n) % 2176, Nat.mod_lt _ (by norm_num)⟩ k

theorem win_one (f : Fin 2176 → Fin 256 → ℝ) (r : Fin 2176) (k : Fin 256) : win f 1 r.val k = f r k := by
  rw [win, Finset.sum_range_one]; exact congrArg (f · k) (Fin.ext (by simp [Nat.mod_eq_of_lt r.isLt]))

theorem win_double (f : Fin 2176 → Fin 256 → ℝ) (a R : ℕ) (k : Fin 256) : win f (a + a) R k = win f a R k + win f a ((R + a) % 2176) k := by
  unfold win
  rw [Finset.sum_range_add]
  refine congrArg _ (Finset.sum_congr rfl fun n _ => congrArg (f · k) (Fin.ext ?_))
  show (R + (a + n)) % 2176 = ((R + a) % 2176 + n) % 2176
  omega

/-- The array plus itself turned by `a` rows. -/
theorem turned (a : ℕ) (h0 : 0 < a) (ha : a < 2176) (c : BitVec 32) (hc : c.toNat = 2176 - a) (x : FVec Ideal S2176x256 .f32) (f : Fin 2176 → Fin 256 → ℝ)
    (hx : ∀ r k, (x (ix2 r k) : EReal) = (win f a r.val k : EReal)) (r : Fin 2176) (k : Fin 256) :
    (addf x (dynamicRotate 0 c none x rotates_S2176x256_d0) (ix2 r k) : EReal) = (win f (a + a) r.val k : EReal) := by
  pointwise [hx]
  rw [win_double, EReal.coe_add]
  refine congrArg (fun R : ℕ => (win f a r.val k : EReal) + (win f a R k : EReal)) ?_
  rw [hc]; omega

/-- One round: the doubled window where the group's window is that long. -/
def roundOf (g j : ℕ) (c : BitVec 32) (x : FVec Ideal S2176x256 .f32) : FVec Ideal S2176x256 .f32 :=
  Scalar.select (Scalar.cmpi .sge (BitVec.ofNat 32 g) (BitVec.ofNat 32 j)) (addf x (dynamicRotate 0 c none x rotates_S2176x256_d0)) x

theorem later : ∀ g j : Fin 4, Scalar.cmpi .sge (BitVec.ofNat 32 g.val) (BitVec.ofNat 32 j.val) = if j.val ≤ g.val then 1#1 else 0#1 := by decide +kernel

theorem round (g j : Fin 4) (c : BitVec 32) (hc : c.toNat = 2176 - 2 ^ j.val) (x : FVec Ideal S2176x256 .f32) (f : Fin 2176 → Fin 256 → ℝ)
    (hx : ∀ r k, (x (ix2 r k) : EReal) = (win f (2 ^ min (g.val + 1) j.val) r.val k : EReal)) (r : Fin 2176) (k : Fin 256) :
    (roundOf g.val j.val c x (ix2 r k) : EReal) = (win f (2 ^ min (g.val + 1) (j.val + 1)) r.val k : EReal) := by
  unfold roundOf Scalar.select
  rw [later g j]
  by_cases h : j.val ≤ g.val
  · rw [if_pos h, if_pos (by decide), Nat.min_eq_right (by omega), pow_succ, mul_two]
    rw [Nat.min_eq_right (by omega)] at hx
    exact turned _ (Nat.two_pow_pos _) (lt_of_le_of_lt (Nat.pow_le_pow_right (by norm_num) (by omega : j.val ≤ 3)) (by norm_num)) c hc x f hx r k
  · rw [if_neg h, if_neg (by decide), hx, Nat.min_eq_left (by omega), Nat.min_eq_left (by omega)]

/-- The gradient of the pooled rows. -/
theorem pay_dz (v20 v33 : FVec Ideal S2176x256 .f32) (d f : Fin 2176 → Fin 256 → ℝ) (g : Fin 4) (hd : ∀ r k, (v20 (ix2 r k) : EReal) = (d r k : EReal))
    (hf : ∀ r k, (v33 (ix2 r k) : EReal) = (f r k : EReal)) (r : Fin 2176) (k : Fin 256) :
    (k0_pay1 (F := Ideal) (BitVec.ofNat 32 g.val) v20 v33 2175#32 (ix2 r k) : EReal) = ((win f (2 ^ (g.val + 1)) r.val k - d r k : ℝ) : EReal) := by
  show (roundOf g.val 3 2168#32 (roundOf g.val 2 2172#32 (roundOf g.val 1 2174#32 (roundOf g.val 0 2175#32 v33))) (ix2 r k) : EReal) - v20 (ix2 r k) = _
  have e := round g 3 2168#32 rfl _ f (round g 2 2172#32 rfl _ f (round g 1 2174#32 rfl _ f (round g 0 2175#32 rfl v33 f
    (fun r k => (hf r k).trans (congrArg _ (win_one f r k).symm))))) r k
  rw [Nat.min_eq_left (show g.val + 1 ≤ (3 : Fin 4).val + 1 by have := g.isLt; show g.val + 1 ≤ 4; omega)] at e
  exact (congrArg₂ (fun a b : EReal => a - b) e (hd r k)).trans (EReal.coe_sub _ _).symm

end Cert.PoolIdeal.Grad

end
-- ==== Proof.PoolEntries.lean ====
/-
  What the region of the pooling's gradient finds in its operands.
-/
module

public import proofs.«01_k».proof.Proof.Gen.PoolIdeal.Frame
public import proofs.«01_k».proof.Proof.FrontRows
public import proofs.«01_k».proof.Proof.PoolRef
public import proofs.«01_k».proof.Proof.PoolPay

@[expose] public section

set_option maxRecDepth 16384

noncomputable section

namespace Cert.PoolIdeal.Grad

open Idealize.ShloMosaic Idealize.ShloMosaic.TcCoe Idealize.SL.Sem
open Idealize.ShloMosaic.Pipeline (Dat)
open Cert.PoolIdeal Cert.PoolIdeal.Gen Cert.Common Cert.RealKit Cert.FrontRows Cert.PoolSums
open Cert.PoolRefIdeal.Grad (Reals col dd mean cnt dz ref_dz ref_dw ref_ds)
open Cert.PoolRefIdeal.Read (val_main_v68 val_main_v138 val_main_v86 val_main_v139 val_main_v138_eq val_main_v86_eq val_main_v139_eq)

variable {m : (ℓ : Loc nD τ sig) → Buf (Elt Ideal) ℓ} {c : Dev nD}
  {w : Fin 4 → Fin 256 → Fin 256 → ℝ} {s : Fin 1024 → ℝ} {y : Fin 2064 → Fin 1024 → ℝ}

/-- The blocks each grid point reads and writes. -/
theorem idx : ∀ t : Fin cfg0.N, win0_0.index t = ![0, t.val] ∧ win0_1.index t = ![0, t.val] ∧ win0_2.index t = ![t.val, 0, 0]
    ∧ win0_3.index t = ![0, t.val] ∧ win0_4.index t = ![0, t.val] ∧ win0_5.index t = ![t.val, 0, 0] ∧ win0_6.index t = ![0, t.val]
    ∧ (grid0.coords t 0).val = t.val ∧ t.val < 4 :=
  (by decide +kernel : ∀ t : Fin grid0.N, _)

/-- The group of a grid point. -/
def grp (t : Fin cfg0.N) : Fin 4 := ⟨t.val, (idx t).2.2.2.2.2.2.2.2⟩

/-- The fill of the front rows is zero. -/
theorem fill_zero (i : S_.Idx) : ((sitofp .f32 (constantI S_ 32 0#32) : FVec Ideal S_ .f32) i : EReal) = 0 := sitofp_zero

/-- The deviation from the pooled rows, as rows. -/
abbrev dev (x0 : FVec Ideal S2064x1024 .f32) : FVec Ideal S2064x1024 .f32 :=
  shapeCast S2064x1024 (val_main_v68 (F := Ideal) x0) shapeCasts_S2064x4x256_S2064x1024

set_option maxHeartbeats 4000000 in
/-- What the region finds in its operands. -/
theorem entries (m : (ℓ : Loc nD τ sig) → Buf (Elt Ideal) ℓ) (c : Dev nD) :
    V m c main_v67 = frontA (dev (m ((c : Thread nD τ).loc main_arg0))) .bf16
    ∧ V m c main_v68 = frontA (m ((c : Thread nD τ).loc main_arg3)) .f32
    ∧ V m c main_v69 = truncf (F := Ideal) .bf16 (m ((c : Thread nD τ).loc main_arg1)) bitsLt_bf16_f32
    ∧ V m c main_v70 = broadcastInDim S1x1024 ![1] bcast_S1024_S1x1024_1 (m ((c : Thread nD τ).loc main_arg2)) := by
  refine ⟨?_, ?_, ?_, ?_⟩ <;> unfold V V0 <;>
    simp only [hostOps0, hostOps0_1, hostOps0_2, hostOps0_3, hostOps0_4, hostOps0_5, hostOps0_6,
      List.flatten_cons, List.flatten_nil, List.append_nil, List.cons_append, List.nil_append] <;> after_results
  · exact pad_front (dev (m ((c : Thread nD τ).loc main_arg0))) pads_S2064x1024_S2176x1024_11200_000 h_S_ _ fill_zero
  · exact pad_front (m ((c : Thread nD τ).loc main_arg3)) pads_S2064x1024_S2176x1024_11200_000 h_S_ _ fill_zero

end Cert.PoolIdeal.Grad

end
-- ==== Proof.PoolGrads.lean ====
/-
  The multi-scale pooling's gradients: for finite matrices, scale and arriving gradient, the rows' gradient, the matrices'
  and the scale's are the derivative of the reference's forward lines.
-/
module

public import proofs.«01_k».proof.Defs
public import proofs.«01_k».proof.Proof.Gen.Pool.Frame
public import proofs.«01_k».proof.Proof.Gen.Pre_pool_finite
public import proofs.«01_k».proof.Proof.PoolEntries
public import proofs.«01_k».proof.Proof.PoolPay

@[expose] public section

set_option maxRecDepth 16384

noncomputable section

namespace Cert.PoolIdeal.Grad

open Idealize.ShloMosaic Idealize.ShloMosaic.TcCoe Idealize.SL.Sem
open Idealize.ShloMosaic.Pipeline (Dat)
open Cert.PoolIdeal Cert.PoolIdeal.Gen Cert.Common Cert.RealKit Cert.FrontRows Cert.PoolSums
open Cert.PoolRefIdeal.Grad (Reals col dd mean cnt dz ref_dz ref_dw ref_ds)
open Cert.PoolRefIdeal.Read (val_main_v68 val_main_v138 val_main_v86 val_main_v139 val_main_v138_eq val_main_v86_eq val_main_v139_eq)

variable {m : (ℓ : Loc nD τ sig) → Buf (Elt Ideal) ℓ} {c : Dev nD}
  {w : Fin 4 → Fin 256 → Fin 256 → ℝ} {s : Fin 1024 → ℝ} {y : Fin 2064 → Fin 1024 → ℝ}

/-- The arguments hold these reals. -/
abbrev Args (m : (ℓ : Loc nD τ sig) → Buf (Elt Ideal) ℓ) (c : Dev nD) (w : Fin 4 → Fin 256 → Fin 256 → ℝ) (s : Fin 1024 → ℝ) (y : Fin 2064 → Fin 1024 → ℝ) : Prop :=
  Reals (m ((c : Thread nD τ).loc main_arg1)) (m ((c : Thread nD τ).loc main_arg2)) (m ((c : Thread nD τ).loc main_arg3)) w s y

/-- The arriving gradient's columns of one group. -/
theorem blk0 (H : Args m c w s y) (t : Fin cfg0.N) (r : Fin 2176) (k : Fin 256) :
    ((iblk m c 0 t : FVec Ideal S2176x256 .f32) (ix2 r k) : EReal) = (rowN y r.val (col (grp t) k) : EReal) := by
  have h0 := (idx t).1
  show V m c main_v68 (((cfg0.win 0).blk t).view.emb (ix2 r k)) = _
  rw [(entries m c).2.1]
  exact (front_congr _ (by blk_simp [h0]) (by blk_simp [h0]; rfl)).trans (front_real H.a3 _ _)

/-- The deviation's columns of one group. -/
theorem blk1 (t : Fin cfg0.N) (r : Fin 2176) (k : Fin 256) :
    ((iblk m c 1 t : FVec Ideal S2176x256 .bf16) (ix2 r k) : EReal) = front (dev (m ((c : Thread nD τ).loc main_arg0))) r.val (col (grp t) k) := by
  have h0 := (idx t).2.1
  show V m c main_v67 (((cfg0.win 1).blk t).view.emb (ix2 r k)) = _
  rw [(entries m c).1]
  exact front_congr _ (by blk_simp [h0]) (by blk_simp [h0]; rfl)

/-- The group's matrix. -/
theorem blk2 (H : Args m c w s y) (t : Fin cfg0.N) (z : Fin 1) (a e : Fin 256) :
    ((iblk m c 2 t : FVec Ideal S1x256x256 .bf16) (ix3 z a e) : EReal) = (w (grp t) a e : EReal) := by
  have h0 := (idx t).2.2.1
  show V m c main_v69 (((cfg0.win 2).blk t).view.emb (ix3 z a e)) = _
  rw [(entries m c).2.2.1]
  refine Eq.trans (congrArg (m ((c : Thread nD τ).loc main_arg1) : FVec Ideal S4x256x256 .f32) ?_) (H.a1 (grp t) a e)
  exact funext fun d => Fin.ext (match d with
    | ⟨0, _⟩ => by blk_simp [h0]; rfl
    | ⟨1, _⟩ => by blk_simp [h0]
    | ⟨2, _⟩ => by blk_simp [h0])

/-- An array of one row reads its one-dimensional origin. -/
theorem row_apply (v : FVec Ideal S1024 .f32) (z : Fin 1) (k : Fin 1024) :
    (broadcastInDim S1x1024 ![1] bcast_S1024_S1x1024_1 v : FVec Ideal S1x1024 .f32) (ix2 z k) = v (ix1 k) := by pointwise

/-- The scale of the group's columns. -/
theorem blk3 (H : Args m c w s y) (t : Fin cfg0.N) (z : Fin 1) (k : Fin 256) :
    ((iblk m c 3 t : FVec Ideal S1x256 .f32) (ix2 z k) : EReal) = (s (col (grp t) k) : EReal) := by
  have h0 := (idx t).2.2.2.1
  show V m c main_v70 (((cfg0.win 3).blk t).view.emb (ix2 z k)) = _
  rw [(entries m c).2.2.2, show ((cfg0.win 3).blk t).view.emb (ix2 z k) = ix2 z (col (grp t) k) from ext2 (by blk_simp [h0]) (by blk_simp [h0]; rfl)]
  exact (row_apply _ z _).trans (H.a2 _)

/-- A sum over all rows of a function that vanishes in front. -/
theorem sum_behind (f : ℕ → EReal) (h : ∀ R, R < 112 → f R = 0) : ∑ R : Fin 2176, f R.val = ∑ l : Fin 2064, f (112 + l.val) := by
  refine (Fin.sum_univ_add (a := 112) (b := 2064) fun R => f R.val).trans ?_
  rw [Finset.sum_eq_zero fun R _ => h _ R.isLt, zero_add]; rfl

theorem dev_behind (x0 : FVec Ideal S2064x1024 .f32) (l : Fin 2064) (g : Fin 4) (a : Fin 256) :
    front (dev x0) (112 + l.val) (col g a) = val_main_v68 (F := Ideal) x0 (ix3 l g a) := by
  rw [front, dif_pos (by omega)]
  have e : (⟨112 + l.val - 112, by omega⟩ : Fin 2064) = l := Fin.ext (by simp)
  rw [e]
  unfold dev
  pointwise
  refine congrArg (val_main_v68 (F := Ideal) x0) ?_
  exact funext fun d => Fin.ext (match d with
    | ⟨0, _⟩ => rfl
    | ⟨1, _⟩ => show (g.val * 256 + a.val) / 256 = g.val by omega
    | ⟨2, _⟩ => show (g.val * 256 + a.val) % 256 = a.val by omega)

theorem rowN_behind (l : Fin 2064) : rowN y (112 + l.val) = y l :=
  (rowN_in y _ (by omega)).trans (congrArg y (Fin.ext (by simp)))

/-- The matrices' gradient at a point is the reference's. -/
theorem out_dw (H : Args m c w s y) (t : Fin cfg0.N) (z : Fin 1) (a e : Fin 256) :
    (out0_5 (F := Ideal) (grid0.coords t) (iblk m c 0 t) (iblk m c 1 t) (iblk m c 2 t) (iblk m c 3 t) (ix3 z a e) : EReal)
      = val_main_v86 (F := Ideal) (m ((c : Thread nD τ).loc main_arg0)) (m ((c : Thread nD τ).loc main_arg2)) (m ((c : Thread nD τ).loc main_arg3)) (ix3 (grp t) a e) := by
  refine Eq.trans ?_ (ref_dw H (grp t) a e).symm
  frame_out
  refine (pay_dw (fun r k => blk0 H t r k) (fun z k => blk3 H t z k) z a e).trans ?_
  refine (Finset.sum_congr rfl fun R _ => congrArg (fun u : EReal => u * _) (blk1 t R a)).trans ?_
  refine (sum_behind (fun R => front (dev (m ((c : Thread nD τ).loc main_arg0))) R (col (grp t) a) * ((rowN y R (col (grp t) e) * s (col (grp t) e) : ℝ) : EReal)) ?_).trans ?_
  · intro R hR
    rw [rowN_out y R (by omega), zero_mul, EReal.coe_zero, mul_zero]
  · exact Finset.sum_congr rfl fun l _ => by rw [dev_behind, rowN_behind]

/-- The scale's gradient at a point is the reference's. -/
theorem out_ds (H : Args m c w s y) (t : Fin cfg0.N) (z : Fin 1) (e : Fin 256) :
    (out0_6 (F := Ideal) (grid0.coords t) (iblk m c 0 t) (iblk m c 1 t) (iblk m c 2 t) (iblk m c 3 t) (ix2 z e) : EReal)
      = val_main_v139 (F := Ideal) (m ((c : Thread nD τ).loc main_arg0)) (m ((c : Thread nD τ).loc main_arg1)) (m ((c : Thread nD τ).loc main_arg3)) (ix2 z (col (grp t) e)) := by
  refine Eq.trans ?_ (ref_ds H z (grp t) e).symm
  frame_out
  refine (pay_ds (fun r k => blk0 H t r k) (fun z a e => blk2 H t z a e) z e).trans ?_
  refine (Finset.sum_congr rfl fun R _ => congrArg (fun u : EReal => _ * u) (Finset.sum_congr rfl fun a _ => congrArg (fun u : EReal => u * _) (blk1 t R a))).trans ?_
  refine (sum_behind (fun R => (rowN y R (col (grp t) e) : EReal) * ∑ a : Fin 256, front (dev (m ((c : Thread nD τ).loc main_arg0))) R (col (grp t) a) * (w (grp t) a e : EReal)) ?_).trans ?_
  · intro R hR
    rw [rowN_out y R (by omega), EReal.coe_zero, zero_mul]
  · exact Finset.sum_congr rfl fun l _ => by simp only [dev_behind, rowN_behind]

/-- The deviation's gradient on a row of the kernel's arrays. -/
def ddN (w : Fin 4 → Fin 256 → Fin 256 → ℝ) (s : Fin 1024 → ℝ) (y : Fin 2064 → Fin 1024 → ℝ) (g : Fin 4) (R : Fin 2176) (k : Fin 256) : ℝ :=
  ∑ e, rowN y R.val (col g e) * s (col g e) * w g k e

/-- The mean's gradient on such a row. -/
def meanN (w : Fin 4 → Fin 256 → Fin 256 → ℝ) (s : Fin 1024 → ℝ) (y : Fin 2064 → Fin 1024 → ℝ) (g : Fin 4) (R : Fin 2176) (k : Fin 256) : ℝ :=
  ddN w s y g R k * (1 / cntK g.val R.val)

theorem ddN_in (g : Fin 4) (R : Fin 2176) (k : Fin 256) (l : Fin 2064) (h : R.val = 112 + l.val) : ddN w s y g R k = dd w s y g l k := by
  unfold ddN dd; rw [h, rowN_behind]

theorem ddN_out (g : Fin 4) (R : Fin 2176) (k : Fin 256) (h : R.val < 112) : ddN w s y g R k = 0 := by
  unfold ddN; simp only [rowN_out y R.val (by omega), zero_mul, Finset.sum_const_zero]

/-- Around the end of the array the window's rows are zero. -/
theorem turn (g : Fin 4) (l : Fin 2064) (k : Fin 256) :
    win (meanN w s y g) (2 ^ (g.val + 1)) (112 + l.val) k = ∑ n ∈ Finset.range (2 ^ (g.val + 1)), past (fun r => mean w s y g r k) (l.val + n) := by
  refine Finset.sum_congr rfl fun n hn => ?_
  have hw : 2 ^ (g.val + 1) ≤ 2 ^ 4 := Nat.pow_le_pow_right (by norm_num) (by omega)
  have hn' := Finset.mem_range.mp hn
  unfold meanN past
  split
  · next h =>
    have hR : (112 + l.val + n) % 2176 = 112 + (l.val + n) := by omega
    rw [ddN_in g _ k ⟨l.val + n, h⟩ hR, mul_one_div]
    unfold mean cntK cnt
    refine congrArg (fun b : ℕ => dd w s y g ⟨l.val + n, h⟩ k / (b : ℝ)) ?_
    show min _ (max 1 ((112 + l.val + n) % 2176 - 111)) = min (l.val + n + 1) _
    omega
  · rw [ddN_out g _ k (by show (112 + l.val + n) % 2176 < 112; omega), zero_mul]

/-- The rows' gradient at a point. -/
theorem out_dz (H : Args m c w s y) (t : Fin cfg0.N) (r : Fin 2176) (k : Fin 256) :
    (out0_4 (F := Ideal) (grid0.coords t) (iblk m c 0 t) (iblk m c 1 t) (iblk m c 2 t) (iblk m c 3 t) (ix2 r k) : EReal)
      = ((win (meanN w s y (grp t)) (2 ^ ((grp t).val + 1)) r.val k - ddN w s y (grp t) r k : ℝ) : EReal) := by
  have hg : (grid0.coords t 0).val = (grp t).val := (idx t).2.2.2.2.2.2.2.1
  have hd (r k) : (k0_pay8 (F := Ideal) (iblk m c 0 t) (iblk m c 2 t) (iblk m c 3 t) (ix2 r k) : EReal) = (ddN w s y (grp t) r k : EReal) :=
    pay_dd (fun r k => blk0 H t r k) (fun z a e => blk2 H t z a e) (fun z k => blk3 H t z k) r k
  frame_out
  rw [hg]
  refine pay_dz _ _ (ddN w s y (grp t)) (meanN w s y (grp t)) (grp t) hd (fun r k => (pay_mean hd r k).trans ?_) r k
  rw [hg]; rfl

/-- The group of a column, and its place in the group. -/
def grpOf (j : Fin 1024) : Fin 4 := ⟨j.val / 256, by omega⟩
def lane (j : Fin 1024) : Fin 256 := ⟨j.val % 256, by omega⟩
theorem col_lane (j : Fin 1024) : col (grpOf j) (lane j) = j := Fin.ext (by show j.val / 256 * 256 + j.val % 256 = j.val; omega)
theorem grpOf_col (g : Fin 4) (k : Fin 256) : grpOf (col g k) = g := Fin.ext (by show (g.val * 256 + k.val) / 256 = g.val; omega)
theorem lane_col (g : Fin 4) (k : Fin 256) : lane (col g k) = k := Fin.ext (by show (g.val * 256 + k.val) % 256 = k.val; omega)

/-- The rows' gradient after the region, with the front rows. -/
theorem arr_dz (H : Args m c w s y) : (dats m 0 c).arrAt 4 (cfgs 0).N = (fun i : S2176x1024.Idx =>
    ((win (meanN w s y (grpOf (i 1))) (2 ^ ((grpOf (i 1)).val + 1)) (i 0).val (lane (i 1)) - ddN w s y (grpOf (i 1)) (i 0) (lane (i 1)) : ℝ) : EReal)
      : FVec Ideal S2176x1024 .bf16) := by
  refine (dats m 0 c).arrAt_eq_of_covers 4 _ (by decide +kernel) fun t _ i => ?_
  have h0 := (idx t).2.2.2.2.1
  obtain ⟨p, q, rfl⟩ : ∃ (p : Fin 2176) (q : Fin 256), i = ix2 p q := ⟨i 0, i 1, ext2 rfl rfl⟩
  have e : (((cfg0.win 4).blk t).view.emb (ix2 p q)) = ix2 p (col (grp t) q) := ext2 (by blk_simp [h0]) (by blk_simp [h0]; rfl)
  refine Eq.trans ?_ (congrArg (fun i : S2176x1024.Idx => ((win (meanN w s y (grpOf (i 1))) (2 ^ ((grpOf (i 1)).val + 1)) (i 0).val (lane (i 1))
    - ddN w s y (grpOf (i 1)) (i 0) (lane (i 1)) : ℝ) : EReal)) e).symm
  dsimp only
  show _ = ((win (meanN w s y (grpOf (col (grp t) q))) (2 ^ ((grpOf (col (grp t) q)).val + 1)) p.val (lane (col (grp t) q)) - ddN w s y (grpOf (col (grp t) q)) p (lane (col (grp t) q)) : ℝ) : EReal)
  rw [grpOf_col, lane_col]
  blk_simp
  rw [after0_4]
  exact out_dz H t p q

/-- The matrices' gradient after the region. -/
theorem arr_dw (H : Args m c w s y) : (dats m 0 c).arrAt 5 (cfgs 0).N = val_main_v86 (F := Ideal) (m ((c : Thread nD τ).loc main_arg0))
    (m ((c : Thread nD τ).loc main_arg2)) (m ((c : Thread nD τ).loc main_arg3)) := by
  refine (dats m 0 c).arrAt_eq_of_covers 5 _ (by decide +kernel) fun t _ i => ?_
  have h0 := (idx t).2.2.2.2.2.1
  obtain ⟨z, a, b, rfl⟩ : ∃ (z : Fin 1) (a b : Fin 256), i = ix3 z a b := ⟨i 0, i 1, i 2, funext fun d => match d with
    | ⟨0, _⟩ => rfl
    | ⟨1, _⟩ => rfl
    | ⟨2, _⟩ => rfl⟩
  have e : (((cfg0.win 5).blk t).view.emb (ix3 z a b)) = ix3 (grp t) a b := funext fun d => Fin.ext (match d with
    | ⟨0, _⟩ => by blk_simp [h0]; rfl
    | ⟨1, _⟩ => by blk_simp [h0]
    | ⟨2, _⟩ => by blk_simp [h0])
  refine Eq.trans ?_ (congrArg (val_main_v86 (F := Ideal) (m ((c : Thread nD τ).loc main_arg0)) (m ((c : Thread nD τ).loc main_arg2)) (m ((c : Thread nD τ).loc main_arg3))) e).symm
  blk_simp
  rw [after0_5]
  exact out_dw H t z a b

/-- The scale's gradient after the region. -/
theorem arr_ds (H : Args m c w s y) : (dats m 0 c).arrAt 6 (cfgs 0).N = val_main_v139 (F := Ideal) (m ((c : Thread nD τ).loc main_arg0))
    (m ((c : Thread nD τ).loc main_arg1)) (m ((c : Thread nD τ).loc main_arg3)) := by
  refine (dats m 0 c).arrAt_eq_of_covers 6 _ (by decide +kernel) fun t _ i => ?_
  have h0 := (idx t).2.2.2.2.2.2.1
  obtain ⟨z, q, rfl⟩ : ∃ (z : Fin 1) (q : Fin 256), i = ix2 z q := ⟨i 0, i 1, ext2 rfl rfl⟩
  have e : (((cfg0.win 6).blk t).view.emb (ix2 z q)) = ix2 z (col (grp t) q) := ext2 (by blk_simp [h0]) (by blk_simp [h0]; rfl)
  refine Eq.trans ?_ (congrArg (val_main_v139 (F := Ideal) (m ((c : Thread nD τ).loc main_arg0)) (m ((c : Thread nD τ).loc main_arg1)) (m ((c : Thread nD τ).loc main_arg3))) e).symm
  blk_simp
  rw [after0_6]
  exact out_ds H t z q

/-- The result behind the region: the rows behind the front. -/
theorem result_dz (m : (ℓ : Loc nD τ sig) → Buf (Elt Ideal) ℓ) (c : Dev nD) : Pipeline.afterTail₀ cfgs (dats m) 0 (V0 m) [hostOps1] c main_v72
    = extractStridedSlice S2064x1024 ![112, 0] ((dats m 0 c).arrAt 4 (cfgs 0).N : FVec Ideal S2176x1024 .bf16) slices_S2176x1024_S2064x1024_112_0 := by
  unfold Pipeline.afterTail₀
  simp only [hostOps1, List.flatten_cons, List.flatten_nil, List.append_nil, List.cons_append, List.nil_append]
  after_results
  exact congrArg (extractStridedSlice S2064x1024 ![112, 0] · slices_S2176x1024_S2064x1024_112_0)
    (Pipeline.withArrays_arr spec0 launch0.win.arr_inj c (V0 m c) _ 4)

theorem final_dz (H : Args m c w s y) : Pipeline.afterTail₀ cfgs (dats m) 0 (V0 m) [hostOps1] c main_v72
    = val_main_v138 (F := Ideal) (m ((c : Thread nD τ).loc main_arg1)) (m ((c : Thread nD τ).loc main_arg2)) (m ((c : Thread nD τ).loc main_arg3)) := by
  rw [result_dz, arr_dz H]
  funext (i : S2064x1024.Idx)
  obtain ⟨l, g, k, rfl⟩ : ∃ (l : Fin 2064) (g : Fin 4) (k : Fin 256), i = ix2 l (col g k) :=
    ⟨i 0, grpOf (i 1), lane (i 1), ext2 rfl (congrArg Fin.val (col_lane (i 1)).symm)⟩
  refine Eq.trans ?_ (ref_dz H l g k).symm
  pointwise
  rw [grpOf_col, lane_col, turn, ddN_in g _ k l rfl]; rfl

/-- Finite arguments are reals. -/
theorem args_of_pre (hp : Cert.Pre_PoolIdeal_pool_finite m) (c : Dev nD) : ∃ w s y, Args m c w s y := by
  obtain ⟨h1, h2, h3⟩ := hp c
  obtain ⟨w, a1⟩ := reals _ h1
  obtain ⟨s, a2⟩ := reals _ h2
  obtain ⟨y, a3⟩ := reals _ h3
  exact ⟨fun g a e => w (ix3 g a e), fun k => s (ix1 k), fun r k => y (ix2 r k), fun g a e => a1 _, fun k => a2 _, fun r k => a3 _⟩

/-- The three results for finite arguments. -/
theorem finals (hp : Cert.Pre_PoolIdeal_pool_finite m) (c : Dev nD) :
    Pipeline.afterTail₀ cfgs (dats m) 0 (V0 m) [hostOps1] c main_v72
      = val_main_v138 (F := Ideal) (m ((c : Thread nD τ).loc main_arg1)) (m ((c : Thread nD τ).loc main_arg2)) (m ((c : Thread nD τ).loc main_arg3))
    ∧ (dats m 0 c).arrAt 5 (cfgs 0).N
      = val_main_v86 (F := Ideal) (m ((c : Thread nD τ).loc main_arg0)) (m ((c : Thread nD τ).loc main_arg2)) (m ((c : Thread nD τ).loc main_arg3))
    ∧ (dats m 0 c).arrAt 6 (cfgs 0).N
      = val_main_v139 (F := Ideal) (m ((c : Thread nD τ).loc main_arg0)) (m ((c : Thread nD τ).loc main_arg1)) (m ((c : Thread nD τ).loc main_arg3)) := by
  obtain ⟨w, s, y, H⟩ := args_of_pre hp c
  exact ⟨final_dz H, arr_dw H, arr_ds H⟩

/-- The reference runs to its end with every counter at zero. -/
theorem frame_ref : Cert.quiescent_PoolRefIdeal := fun m ρ _ =>
  (θ_run Cert.PoolRefIdeal.defs _ _).mono
    (fun r h => ⟨fun c => (h c).2.2.2, sem_eq_zero_of_no_sems (by decide) r.2⟩) (Cert.PoolRefIdeal.Value.run (F := Ideal) m ρ)

/-- A function of three arguments at equal arguments. -/
theorem congr3 {α β γ η : Type} (f : α → β → γ → η) {a a' : α} {b b' : β} {d d' : γ}
    (ha : a = a') (hb : b = b') (hd : d = d') : f a b d = f a' b' d' := by
  subst ha hb hd; rfl

set_option maxHeartbeats 2000000 in
/-- Over the reals, for finite matrices, scale and arriving gradient, the call's three results are the reference's. -/
theorem algebraic : Cert.algebraic_PoolIdeal_PoolRefIdeal_pre_pool_finite := by
  pair_intro
  · run_from Cert.PoolIdeal.Gen.run_main m g
    exacts [W_main_arg0 m (dats m) c, W_main_arg1 m (dats m) c, W_main_arg2 m (dats m) c, W_main_arg3 m (dats m) c]
  · refine θ_run_mono (Cert.PoolRefIdeal.Value.run m' g') fun r hr c => ?_
    have hfin := finals hpre c
    obtain ⟨e0, e1, e2, e3⟩ := hagree c
    have hr' := hr c
    refine ⟨?_, ?_, ?_, hr'.2.2.2⟩
    · exact hr'.1.trans ((val_main_v138_eq m' c).trans ((congr3 (val_main_v138 (F := Ideal)) e1 e2 e3).trans hfin.1.symm))
    · exact hr'.2.1.trans ((val_main_v86_eq m' c).trans ((congr3 (val_main_v86 (F := Ideal)) e0 e2 e3).trans hfin.2.1.symm))
    · exact hr'.2.2.1.trans ((val_main_v139_eq m' c).trans ((congr3 (val_main_v139 (F := Ideal)) e0 e1 e3).trans hfin.2.2.symm))

/-- Everything that is claimed of this call. -/
theorem claims : Cert.quiescent_Pool ∧ Cert.quiescent_PoolIdeal ∧ Cert.quiescent_PoolIdeal_pre_pool_finite
    ∧ Cert.quiescent_PoolRefIdeal ∧ Cert.quiescent_PoolRefIdeal_pre_pool_finite
    ∧ Cert.preserves_Pool_PoolIdeal ∧ Cert.algebraic_PoolIdeal_PoolRefIdeal_pre_pool_finite :=
  ⟨fun m ρ _ => Cert.Pool.Gen.frame m ρ, fun m ρ _ => Gen.frame m ρ, fun m ρ _ => Gen.frame m ρ,
    frame_ref, fun m ρ _ => frame_ref m ρ trivial, trivial, algebraic⟩

end Cert.PoolIdeal.Grad

end
-- ==== Proof.SwishRun.lean ====
module

public import proofs.«01_k».proof.Proof.Gen.ConvSwishIdeal.Frame

/-!
# What one grid point of the convolution's forward pass stores, written with the tap and the lane chunk as variables

The kernel's body is unrolled over 8 lane chunks of 128 columns and, in each, over the 31 taps.  Here its stores are
named once, for any chunk and any tap, and the unrolled lists of stores are shown to be these families.
-/

@[expose] public section

set_option maxRecDepth 16384

noncomputable section

namespace Cert.ConvSwishIdeal.Grad

open Idealize.ShloMosaic Idealize.ShloMosaic.TcCoe Idealize.SL.Sem
open Cert.ConvSwishIdeal Cert.ConvSwishIdeal.Gen

variable {F : FTy → Type} [FloatOps F]

/-- A lane chunk of a tile lies in the tile. -/
theorem inb_chunk (c : Fin 8) : ∀ a, (![0, 128 * c.val] : Fin 2 → Nat) a + S128x128.size a ≤ S128x1024.size a := by
  revert c; decide

/-- A lane chunk of the bias lies in the bias. -/
theorem inb_bias (c : Fin 8) : ∀ a, (![0, 128 * c.val] : Fin 2 → Nat) a + S1x128.size a ≤ S1x1024.size a := by
  revert c; decide

/-- One tap's row of a lane chunk lies in the taps. -/
theorem inb_tap (k : Fin 31) (c : Fin 8) :
    ∀ a, (![k.val, 128 * c.val] : Fin 2 → Nat) a + S1x128.size a ≤ S31x1024.size a := by
  revert k c; decide

/-- The rows that tap `k` reads lie in the rotated copy `(2 + k) % 8`. -/
theorem inb_slab (k : Fin 31) (c : Fin 8) :
    ∀ a, (![(2 + k.val) % 8, 8 * ((2 + k.val) / 8), 128 * c.val] : Fin 3 → Nat) a + S1x128x128.size a
      ≤ S8x160x1024.size a := by
  revert k c; decide

/-- One tap's weights in a lane chunk. -/
def tapRow (M : Memref sig .tc .vmem S31x1024 .f32) (hM : M.IsWhole) (x : Vec F S31x1024 .f32) (c : Fin 8)
    (k : Fin 31) : Vec F S1x128 .f32 :=
  View.readAt (Elt F) M.view (Rect.unit (s := S31x1024) ![k.val, 128 * c.val] S1x128.size (inb_tap k c)).toLoadRect (hM.unread x)

/-- The bias in a lane chunk. -/
def biasRow (M : Memref sig .tc .vmem S1x1024 .f32) (hM : M.IsWhole) (x : Vec F S1x1024 .f32) (c : Fin 8) :
    Vec F S1x128 .f32 :=
  View.readAt (Elt F) M.view (Rect.unit (s := S1x1024) ![0, 128 * c.val] S1x128.size (inb_bias c)).toLoadRect (hM.unread x)

/-- The rows that tap `k` meets, read from the rotated copies. -/
def slab (M : Memref sig .tc .vmem S8x160x1024 .f32) (L : List (View.Piece (Elt F) S8x160x1024 .f32)) (c : Fin 8)
    (k : Fin 31) : Vec F S1x128x128 .f32 :=
  M.view.readCov L (Rect.unit (s := S8x160x1024) ![(2 + k.val) % 8, 8 * ((2 + k.val) / 8), 128 * c.val] S1x128x128.size
    (inb_slab k c)).toLoadRect

/-- The convolution after `n` taps. -/
def conv (W : Fin 31 → Vec F S1x128 .f32) (D : Fin 31 → Vec F S1x128x128 .f32) :
    (n : ℕ) → n ≤ 31 → FVec F S128x128 .f32
  | 0, _ => broadcast S128x128 (Scalar.ofBits .f32 0x00000000#32)
  | n + 1, h => addf (conv W D n (by omega))
      (mulf (broadcastTo S128x128 (W ⟨n, h⟩) broadcasts_S1x128_S128x128)
        (shapeCast S128x128 (D ⟨n, h⟩) shapeCasts_S1x128x128_S128x128))

/-- The eight rotated copies of the 32 rows before a tile and the tile's rows. -/
def copies (i : grid0.Coords) (a : Vec F S128x1024 .f32) (g : Vec F S128x1024 .f32) (p : Vec F S32x1024 .f32)
    (q : Vec F S32x1024 .f32) : List (View.Piece (Elt F) S8x160x1024 .f32) :=
  [⟨Rect.unit ![7, 0, 0] S1x160x1024.size inb_S8x160x1024_S1x160x1024_7_0_0, k0_pay11 (k0_pay2 i a g p q)⟩,
   ⟨Rect.unit ![6, 0, 0] S1x160x1024.size inb_S8x160x1024_S1x160x1024_6_0_0, k0_pay10 (k0_pay2 i a g p q)⟩,
   ⟨Rect.unit ![5, 0, 0] S1x160x1024.size inb_S8x160x1024_S1x160x1024_5_0_0, k0_pay9 (k0_pay2 i a g p q)⟩,
   ⟨Rect.unit ![4, 0, 0] S1x160x1024.size inb_S8x160x1024_S1x160x1024_4_0_0, k0_pay8 (k0_pay2 i a g p q)⟩,
   ⟨Rect.unit ![3, 0, 0] S1x160x1024.size inb_S8x160x1024_S1x160x1024_3_0_0, k0_pay7 (k0_pay6 i a g p q)⟩,
   ⟨Rect.unit ![2, 0, 0] S1x160x1024.size inb_S8x160x1024_S1x160x1024_2_0_0, k0_pay5 i a g p q⟩,
   ⟨Rect.unit ![1, 0, 0] S1x160x1024.size inb_S8x160x1024_S1x160x1024_1_0_0, k0_pay4 i a g p q⟩,
   ⟨Rect.unit ![0, 0, 0] S1x160x1024.size inb_S8x160x1024_S1x160x1024_0_0_0, k0_pay3 i a g p q⟩]

/-- A whole tile, as it is loaded. -/
def whole (M : Memref sig .tc .vmem S128x1024 .f32) (hM : M.IsWhole) (x : Vec F S128x1024 .f32) : Vec F S128x1024 .f32 :=
  View.readAt (Elt F) M.view (Rect.unit (s := S128x1024) ![0, 0] S128x1024.size inb_S128x1024_S128x1024_0_0).toLoadRect (hM.unread x)

/-- The whole of 32 rows, as it is loaded. -/
def whole32 (M : Memref sig .tc .vmem S32x1024 .f32) (hM : M.IsWhole) (x : Vec F S32x1024 .f32) : Vec F S32x1024 .f32 :=
  View.readAt (Elt F) M.view (Rect.unit (s := S32x1024) ![0, 0] S32x1024.size inb_S32x1024_S32x1024_0_0).toLoadRect (hM.unread x)

/-- The whole of one row, as it is loaded. -/
def whole1 (M : Memref sig .tc .vmem S1x1024 .f32) (hM : M.IsWhole) (x : Vec F S1x1024 .f32) : Vec F S1x1024 .f32 :=
  View.readAt (Elt F) M.view (Rect.unit (s := S1x1024) ![0, 0] S1x1024.size inb_S1x1024_S1x1024_0_0).toLoadRect (hM.unread x)

section point

variable (c : Dev nD) (i : grid0.Coords)
  (arg1 : Memref sig .tc .vmem S128x1024 .f32) (harg1 : arg1.IsWhole)
  (arg2 : Memref sig .tc .vmem S128x1024 .f32) (harg2 : arg2.IsWhole)
  (arg3 : Memref sig .tc .vmem S32x1024 .f32) (harg3 : arg3.IsWhole)
  (arg4 : Memref sig .tc .vmem S32x1024 .f32) (harg4 : arg4.IsWhole)
  (arg5 : Memref sig .tc .vmem S31x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S128x1024 .bf16) (harg9 : arg9.IsWhole)
  (arg10 : Memref sig .tc .vmem S128x1024 .f32) (harg10 : arg10.IsWhole)
  (arg11 : Memref sig .tc .vmem S8x160x1024 .f32) (harg11 : arg11.IsWhole)
  (x0 : Vec F S128x1024 .f32) (x1 : Vec F S128x1024 .f32) (x2 : Vec F S32x1024 .f32) (x3 : Vec F S32x1024 .f32)
  (x4 : Vec F S31x1024 .f32) (x5 : Vec F S1x1024 .f32) (x6 : Vec F S1x1024 .f32) (x7 : Vec F S1x1024 .f32)

/-- The rotated copies a point leaves, as it stores them from what it loads. -/
def rot : List (View.Piece (Elt F) S8x160x1024 .f32) :=
  copies i (whole arg1 harg1 x0) (whole arg2 harg2 x1) (whole32 arg3 harg3 x2) (whole32 arg4 harg4 x3)

/-- The convolution with its bias in lane chunk `k`. -/
def convAt (k : Fin 8) : FVec F S128x128 .f32 :=
  addf (conv (tapRow arg5 harg5 x4 k) (slab arg11 (rot i arg1 harg1 arg2 harg2 arg3 harg3 arg4 harg4 x0 x1 x2 x3) k) 31 le_rfl)
    (broadcastTo S128x128 (biasRow arg6 harg6 x5 k) broadcasts_S1x128_S128x128)

/-- The stores of the convolution's output. -/
def storesC : List (View.Piece (Elt F) S128x1024 .f32) :=
  List.ofFn fun j : Fin 8 => ⟨Rect.unit (s := S128x1024) ![0, 128 * j.rev.val] S128x128.size (inb_chunk j.rev),
    convAt i arg1 harg1 arg2 harg2 arg3 harg3 arg4 harg4 arg5 harg5 arg6 harg6 arg11 x0 x1 x2 x3 x4 x5 j.rev⟩

/-- What a point stores of the convolution's output. -/
theorem run_C :
    (kernelRun0_A c i arg1 harg1 arg2 harg2 arg3 harg3 arg4 harg4 arg5 harg5 arg6 harg6 arg7 harg7 arg8 harg8 arg9 harg9
      arg10 harg10 arg11 harg11 x0 x1 x2 x3 x4 x5 x6 x7).2.1
      = storesC i arg1 harg1 arg2 harg2 arg3 harg3 arg4 harg4 arg5 harg5 arg6 harg6 arg11 x0 x1 x2 x3 x4 x5 := by
  sl_kernel_rfl

/-- What a point stores of the activation: the normalised and activated convolution, read back whole. -/
theorem run_S :
    (kernelRun0_A c i arg1 harg1 arg2 harg2 arg3 harg3 arg4 harg4 arg5 harg5 arg6 harg6 arg7 harg7 arg8 harg8 arg9 harg9
      arg10 harg10 arg11 harg11 x0 x1 x2 x3 x4 x5 x6 x7).1
      = [⟨Rect.unit (s := S128x1024) ![0, 0] S128x1024.size inb_S128x1024_S128x1024_0_0,
          k0_pay1 (k0_pay87 (k0_pay86 (arg10.view.readCov
              (storesC i arg1 harg1 arg2 harg2 arg3 harg3 arg4 harg4 arg5 harg5 arg6 harg6 arg11 x0 x1 x2 x3 x4 x5)
              (Rect.unit (s := S128x1024) ![0, 0] S128x1024.size inb_S128x1024_S128x1024_0_0).toLoadRect))
            (whole1 arg7 harg7 x6) (whole1 arg8 harg8 x7))⟩] := by
  sl_kernel_rfl

end point

end Cert.ConvSwishIdeal.Grad
-- ==== Proof.SwishTile.lean ====
/-
  What one grid point of the convolution's forward pass stores, read at an index.
-/
module

public import proofs.«01_k».proof.Proof.SwishRun
public import proofs.«01_k».proof.Proof.Common
public import Idealize.ShloMosaic.Lib.WholeRead

@[expose] public section

set_option maxRecDepth 16384

noncomputable section

namespace Cert.ConvSwishIdeal.Grad

open Idealize.ShloMosaic Idealize.ShloMosaic.TcCoe Idealize.SL.Sem
open Cert.ConvSwishIdeal Cert.ConvSwishIdeal.Gen
open Cert.Common (ext2)

/-- The layer norm of a row, as both programs compute it on any numbers. -/
def layerNorm (x g b : Fin 1024 → EReal) (j : Fin 1024) : EReal :=
  (x j - Ideal.div (∑ k, x k) (Ideal.ofBits FTy.f32 0x44800000#32))
    * Ideal.rsqrt (Ideal.div (∑ k, (x k - Ideal.div (∑ k, x k) (Ideal.ofBits FTy.f32 0x44800000#32))
        * (x k - Ideal.div (∑ k, x k) (Ideal.ofBits FTy.f32 0x44800000#32))) (Ideal.ofBits FTy.f32 0x44800000#32)
      + Ideal.ofBits FTy.f32 0x3727C5AC#32) * g j + b j

/-- The activated layer norm of a row. -/
def swish (x g b : Fin 1024 → EReal) (j : Fin 1024) : EReal := layerNorm x g b j * Ideal.logistic (layerNorm x g b j)

/-- Whether the tile has a predecessor, as a number. -/
def preceded (i : grid0.Coords) : EReal :=
  (((Scalar.extui (Scalar.cmpi .sgt (BitVec.ofNat 32 (i 0).val) 0#32) : BitVec 32).toInt : ℝ) : EReal)

/-- The 32 gated rows before a tile and the tile's gated rows. -/
theorem ext_apply (i : grid0.Coords) (a g : FVec Ideal S128x1024 .f32) (p q : FVec Ideal S32x1024 .f32) (r : Fin 160)
    (j : Fin 1024) :
    k0_pay2 (F := Ideal) i a g p q (ix2 r j)
      = if h : r.val < 32 then p (ix2 ⟨r, h⟩ j) * Ideal.logistic (q (ix2 ⟨r, h⟩ j)) * preceded i
        else a (ix2 ⟨r - 32, by omega⟩ j) * Ideal.logistic (g (ix2 ⟨r - 32, by omega⟩ j)) := by
  pointwise [k0_pay2]
  rfl

/-- The convolution is the sum over the taps. -/
theorem conv_apply (W : Fin 31 → FVec Ideal S1x128 .f32) (D : Fin 31 → FVec Ideal S1x128x128 .f32) (n : ℕ) (h : n ≤ 31)
    (r j : Fin 128) :
    conv (F := Ideal) W D n h (ix2 r j)
      = ∑ k : Fin n, W ⟨k, by omega⟩ (ix2 0 j) * D ⟨k, by omega⟩ (ix3 0 r j) := by
  induction n with
  | zero =>
    rw [conv]
    pointwise
    rfl
  | succ n ih =>
    rw [conv, Fin.sum_univ_castSucc]
    pointwise
    rw [ih]
    rfl

/-- Row `y` of the copy rotated by `b` is row `b + y`, as long as that row exists. -/
theorem copies_apply (i : grid0.Coords) (a g : FVec Ideal S128x1024 .f32) (p q : FVec Ideal S32x1024 .f32)
    (y : S8x160x1024.Idx) (h : (y 0 : ℕ) + y 1 < 160) :
    View.canon (copies (F := Ideal) i a g p q) y = k0_pay2 (F := Ideal) i a g p q (ix2 ⟨(y 0 : ℕ) + y 1, h⟩ (y 2)) := by
  unfold copies
  canon_tiles x h
  all_goals pointwise [k0_pay3, k0_pay4, k0_pay5, k0_pay6, k0_pay7, k0_pay8, k0_pay9, k0_pay10, k0_pay11]
  all_goals exact congrArg _ (ext2 (show _ = (y 0 : ℕ) + y 1 by show _ = (y 0 : ℕ) + y 1; first | omega | (show (x 1 : ℕ) = _; omega) | (show ((x 1 : ℕ) + 160 - _) % 160 = _; omega)) h2.symm)

section point

variable (i : grid0.Coords)
  (arg1 : Memref sig .tc .vmem S128x1024 .f32) (harg1 : arg1.IsWhole)
  (arg2 : Memref sig .tc .vmem S128x1024 .f32) (harg2 : arg2.IsWhole)
  (arg3 : Memref sig .tc .vmem S32x1024 .f32) (harg3 : arg3.IsWhole)
  (arg4 : Memref sig .tc .vmem S32x1024 .f32) (harg4 : arg4.IsWhole)
  (arg5 : Memref sig .tc .vmem S31x1024 .f32) (harg5 : arg5.IsWhole)
  (arg6 : Memref sig .tc .vmem S1x1024 .f32) (harg6 : arg6.IsWhole)
  (arg7 : Memref sig .tc .vmem S1x1024 .f32) (harg7 : arg7.IsWhole)
  (arg10 : Memref sig .tc .vmem S128x1024 .f32)
  (arg11 : Memref sig .tc .vmem S8x160x1024 .f32)
  (x0 : FVec Ideal S128x1024 .f32) (x1 : FVec Ideal S128x1024 .f32) (x2 : FVec Ideal S32x1024 .f32)
  (x3 : FVec Ideal S32x1024 .f32) (x4 : FVec Ideal S31x1024 .f32) (x5 : FVec Ideal S1x1024 .f32)
  (x6 : FVec Ideal S1x1024 .f32) (x7 : FVec Ideal S1x1024 .f32)

/-- The gated row that tap `k` meets at the tile's row `r`. -/
def met (k : Fin 31) (r : Fin 128) (j : Fin 1024) : EReal :=
  k0_pay2 (F := Ideal) i x0 x1 x2 x3 (ix2 ⟨2 + k + r, by omega⟩ j)

/-- Loading a whole array gives the array. -/
theorem whole_eq : whole (F := Ideal) arg1 harg1 x0 = x0 := by
  funext y
  have e := Rect.idx_unit_val (s := S128x1024) ![0, 0] S128x1024.size inb_S128x1024_S128x1024_0_0 y
  exact (harg1.readAt_unread (Val := Elt Ideal) x0
    (Rect.unit (s := S128x1024) ![0, 0] S128x1024.size inb_S128x1024_S128x1024_0_0).toLoadRect y).trans
    (congrArg x0 (ext2 ((e 0).trans (Nat.zero_add _)) ((e 1).trans (Nat.zero_add _))))

theorem whole32_eq : whole32 (F := Ideal) arg3 harg3 x2 = x2 := by
  funext y
  have e := Rect.idx_unit_val (s := S32x1024) ![0, 0] S32x1024.size inb_S32x1024_S32x1024_0_0 y
  exact (harg3.readAt_unread (Val := Elt Ideal) x2
    (Rect.unit (s := S32x1024) ![0, 0] S32x1024.size inb_S32x1024_S32x1024_0_0).toLoadRect y).trans
    (congrArg x2 (ext2 ((e 0).trans (Nat.zero_add _)) ((e 1).trans (Nat.zero_add _))))

theorem whole1_eq : whole1 (F := Ideal) arg7 harg7 x6 = x6 := by
  funext y
  have e := Rect.idx_unit_val (s := S1x1024) ![0, 0] S1x1024.size inb_S1x1024_S1x1024_0_0 y
  exact (harg7.readAt_unread (Val := Elt Ideal) x6
    (Rect.unit (s := S1x1024) ![0, 0] S1x1024.size inb_S1x1024_S1x1024_0_0).toLoadRect y).trans
    (congrArg x6 (ext2 ((e 0).trans (Nat.zero_add _)) ((e 1).trans (Nat.zero_add _))))

theorem rot_eq : rot (F := Ideal) i arg1 harg1 arg2 harg2 arg3 harg3 arg4 harg4 x0 x1 x2 x3 = copies (F := Ideal) i x0 x1 x2 x3 := by
  rw [rot, whole_eq, whole_eq, whole32_eq, whole32_eq]

/-- A tap's weights in a lane chunk, at an index. -/
theorem tapRow_apply (c : Fin 8) (k : Fin 31) (j : Fin 128) :
    (tapRow (F := Ideal) arg5 harg5 x4 c k : FVec Ideal S1x128 .f32) (ix2 0 j) = x4 (ix2 k ⟨128 * c + j, by omega⟩) := by
  refine (harg5.readAt_unread (Val := Elt Ideal) x4 _ _).trans (congrArg x4 (ext2 ?_ ?_))
  · exact (Rect.idx_unit_val _ _ _ _ 0).trans (Nat.add_zero _)
  · exact Rect.idx_unit_val _ _ _ _ 1

/-- The bias in a lane chunk, at an index. -/
theorem biasRow_apply (c : Fin 8) (j : Fin 128) :
    (biasRow (F := Ideal) arg6 harg6 x5 c : FVec Ideal S1x128 .f32) (ix2 0 j) = x5 (ix2 0 ⟨128 * c + j, by omega⟩) := by
  refine (harg6.readAt_unread (Val := Elt Ideal) x5 _ _).trans (congrArg x5 (ext2 ?_ ?_))
  · exact (Rect.idx_unit_val _ _ _ _ 0).trans (Nat.zero_add _)
  · exact Rect.idx_unit_val _ _ _ _ 1

/-- The rows that a tap meets, at an index. -/
theorem slab_apply (c : Fin 8) (k : Fin 31) (r j : Fin 128) :
    (slab (F := Ideal) arg11 (rot (F := Ideal) i arg1 harg1 arg2 harg2 arg3 harg3 arg4 harg4 x0 x1 x2 x3) c k : FVec Ideal S1x128x128 .f32) (ix3 0 r j)
      = met i x0 x1 x2 x3 k r ⟨128 * c + j, by omega⟩ := by
  rw [rot_eq]
  refine (congrFun (View.readCov_eq_canon' arg11.view _ _) _).trans ?_
  have h0 := Rect.idx_unit_val (s := S8x160x1024) ![(2 + k.val) % 8, 8 * ((2 + k.val) / 8), 128 * c.val] S1x128x128.size (inb_slab k c) (ix3 0 r j) 0
  have h1 := Rect.idx_unit_val (s := S8x160x1024) ![(2 + k.val) % 8, 8 * ((2 + k.val) / 8), 128 * c.val] S1x128x128.size (inb_slab k c) (ix3 0 r j) 1
  have h2 := Rect.idx_unit_val (s := S8x160x1024) ![(2 + k.val) % 8, 8 * ((2 + k.val) / 8), 128 * c.val] S1x128x128.size (inb_slab k c) (ix3 0 r j) 2
  generalize (Rect.unit (s := S8x160x1024) ![(2 + k.val) % 8, 8 * ((2 + k.val) / 8), 128 * c.val] S1x128x128.size (inb_slab k c)).idx (ix3 0 r j) = y at h0 h1 h2
  have h0' : (y 0 : ℕ) = (2 + k.val) % 8 + 0 := h0
  have h1' : (y 1 : ℕ) = 8 * ((2 + k.val) / 8) + r := h1
  have h2' : (y 2 : ℕ) = 128 * c + j := h2
  refine (copies_apply i x0 x1 x2 x3 y (by omega)).trans (congrArg _ (ext2 ?_ h2'))
  show (y 0 : ℕ) + y 1 = 2 + k + r
  omega

/-- The convolution with its bias at a tile's row and a column. -/
def cTile (r : Fin 128) (j : Fin 1024) : EReal := (∑ k : Fin 31, x4 (ix2 k j) * met i x0 x1 x2 x3 k r j) + x5 (ix2 0 j)

theorem convAt_apply (c : Fin 8) (r j : Fin 128) :
    convAt (F := Ideal) i arg1 harg1 arg2 harg2 arg3 harg3 arg4 harg4 arg5 harg5 arg6 harg6 arg11 x0 x1 x2 x3 x4 x5 c (ix2 r j)
      = cTile i x0 x1 x2 x3 x4 x5 r ⟨128 * c + j, by omega⟩ := by
  have hb (a : FVec Ideal S128x128 .f32) (b : FVec Ideal S1x128 .f32) :
      (addf a (broadcastTo S128x128 b broadcasts_S1x128_S128x128) : FVec Ideal S128x128 .f32) (ix2 r j) = a (ix2 r j) + b (ix2 0 j) := by
    pointwise
  rw [convAt]
  refine (hb _ _).trans (congrArg₂ (· + ·) ?_ (biasRow_apply arg6 harg6 x5 c j))
  refine (conv_apply _ _ _ _ _ _).trans (Finset.sum_congr rfl fun k _ => ?_)
  exact congrArg₂ (· * ·) (tapRow_apply arg5 harg5 x4 c k j) (slab_apply i arg1 harg1 arg2 harg2 arg3 harg3 arg4 harg4 arg11 x0 x1 x2 x3 c k r j)

/-- The convolution's output that a point stores. -/
theorem storesC_apply (r : Fin 128) (j : Fin 1024) :
    View.canon (storesC (F := Ideal) i arg1 harg1 arg2 harg2 arg3 harg3 arg4 harg4 arg5 harg5 arg6 harg6 arg11 x0 x1 x2 x3 x4 x5) (ix2 r j)
      = cTile i x0 x1 x2 x3 x4 x5 r j := by
  refine View.canon_ofFn_unit_eq_of_forall (Val := Elt Ideal) (S := S128x1024) (e := .f32)
    (fun c : Fin 8 => ![0, 128 * c.rev.val]) S128x128.size (fun c => inb_chunk c.rev) (fun c =>
      convAt (F := Ideal) i arg1 harg1 arg2 harg2 arg3 harg3 arg4 harg4 arg5 harg5 arg6 harg6 arg11 x0 x1 x2 x3 x4 x5 c.rev) (ix2 r j) _
    ⟨(⟨(j : ℕ) / 128, by omega⟩ : Fin 8).rev, fun a => ?_⟩ fun c x hx => ?_
  · dsimp only
    rw [Fin.rev_rev]
    match a with
    | ⟨0, _⟩ => exact ⟨Nat.zero_le _, show (r : ℕ) < 0 + 128 by omega⟩
    | ⟨1, _⟩ => exact ⟨show 128 * ((j : ℕ) / 128) ≤ j by omega, show (j : ℕ) < 128 * ((j : ℕ) / 128) + 128 by omega⟩
  · obtain ⟨p, q, rfl⟩ : ∃ (p q : Fin 128), x = ix2 p q := ⟨x 0, x 1, ext2 rfl rfl⟩
    have h0 : (r : ℕ) = p := (hx 0).trans (Nat.zero_add _)
    have h1 : (j : ℕ) = 128 * c.rev.val + q := hx 1
    obtain rfl := Fin.ext h0
    refine (convAt_apply i arg1 harg1 arg2 harg2 arg3 harg3 arg4 harg4 arg5 harg5 arg6 harg6 arg11 x0 x1 x2 x3 x4 x5 c.rev r q).trans
      (congrArg (cTile i x0 x1 x2 x3 x4 x5 r) (Fin.ext h1.symm))

/-- The convolution's output, as the point reads it back. -/
theorem readback (r : Fin 128) (j : Fin 1024) :
    (arg10.view.readCov (storesC (F := Ideal) i arg1 harg1 arg2 harg2 arg3 harg3 arg4 harg4 arg5 harg5 arg6 harg6 arg11 x0 x1 x2 x3 x4 x5)
      (Rect.unit (s := S128x1024) ![0, 0] S128x1024.size inb_S128x1024_S128x1024_0_0).toLoadRect : FVec Ideal S128x1024 .f32) (ix2 r j)
      = cTile i x0 x1 x2 x3 x4 x5 r j := by
  refine (congrFun (View.readCov_eq_canon' arg10.view _ _) _).trans ?_
  refine Eq.trans (congrArg _ (ext2 ?_ ?_))
    (storesC_apply i arg1 harg1 arg2 harg2 arg3 harg3 arg4 harg4 arg5 harg5 arg6 harg6 arg11 x0 x1 x2 x3 x4 x5 r j)
  · exact (Rect.idx_unit_val _ _ _ _ 0).trans (Nat.zero_add _)
  · exact (Rect.idx_unit_val _ _ _ _ 1).trans (Nat.zero_add _)

/-- The normalised and activated rows of a tile. -/
theorem act_apply (x : FVec Ideal S128x1024 .f32) (g b : FVec Ideal S1x1024 .f32) (r : Fin 128) (j : Fin 1024) :
    (k0_pay1 (F := Ideal) (k0_pay87 (k0_pay86 x) g b) (ix2 r j) : EReal)
      = swish (fun k => x (ix2 r k)) (fun k => g (ix2 0 k)) (fun k => b (ix2 0 k)) j := by
  pointwise [k0_pay1, k0_pay87, k0_pay86]
  rfl

end point

end Cert.ConvSwishIdeal.Grad

end
-- ==== Proof.SwishRef.lean ====
/-
  The reference's convolution, read at an index: its 31 unrolled taps are named once, for any tap.
-/
module

public import proofs.«01_k».proof.Proof.Gen.ConvSwishRefIdeal.Read
public import proofs.«01_k».proof.Proof.SwishTile

@[expose] public section

set_option maxRecDepth 16384

noncomputable section

namespace Cert.ConvSwishRefIdeal.Grad

open Idealize.ShloMosaic Idealize.ShloMosaic.TcCoe Idealize.SL.Sem
open Cert.ConvSwishRefIdeal Cert.ConvSwishRefIdeal.Gen Cert.ConvSwishRefIdeal.Read
open Cert.Common
open Cert.ConvSwishIdeal.Grad (swish layerNorm)

variable {F : FTy → Type} [FloatOps F]

/-- The rows that tap `k` reads lie in the padded array. -/
theorem slices_rows (k : Fin 31) : S2094x1024.Slices ![k.val, 0] S2064x1024 := by
  revert k; decide

/-- Tap `k` is a row of the taps. -/
theorem slices_tap (k : Fin 31) : S31x1024.Slices ![k.val, 0] S1x1024 := by
  revert k; decide

/-- The convolution after `n` taps. -/
def fold (a : FVec F S2094x1024 .f32) (w : FVec F S31x1024 .f32) : (n : ℕ) → n ≤ 31 → FVec F S2064x1024 .f32
  | 0, _ => broadcastInDim S2064x1024 ![] bcast_S_S2064x1024 (constant S_ .f32 0x00000000#32)
  | n + 1, h => addf (fold a w n (by omega)) (mulf (extractStridedSlice S2064x1024 ![n, 0] a (slices_rows ⟨n, h⟩))
      (broadcastInDim S2064x1024 ![0, 1] bcast_S1x1024_S2064x1024_0_1 (broadcastInDim S1x1024 ![1] bcast_S1024_S1x1024_1
        (shapeCast S1024 (extractStridedSlice S1x1024 ![n, 0] w (slices_tap ⟨n, h⟩)) shapeCasts_S1x1024_S1024))))

/-- The reference's convolution without its bias. -/
theorem conv_eq (x0 : FVec F S2064x3072 .f32) (x1 : FVec F S31x1024 .f32) :
    val_main_v229 (F := F) x0 x1 = fold (val_main_v11 (F := F) x0) x1 31 le_rfl := rfl

/-- The sum of the taps' parts, at an index. -/
theorem fold_apply (a : FVec Ideal S2094x1024 .f32) (w : FVec Ideal S31x1024 .f32) (n : ℕ) (h : n ≤ 31) (r : Fin 2064) (j : Fin 1024) :
    fold (F := Ideal) a w n h (ix2 r j) = ∑ k : Fin n, w (ix2 ⟨k, by omega⟩ j) * a (ix2 ⟨k.val + r.val, by omega⟩ j) := by
  induction n with
  | zero =>
    rw [fold]
    pointwise
    rfl
  | succ n ih =>
    rw [fold, Fin.sum_univ_castSucc]
    have hp (y : FVec Ideal S2064x1024 .f32) (k : Fin 31) :
        (addf y (mulf (extractStridedSlice S2064x1024 ![k.val, 0] a (slices_rows k))
          (broadcastInDim S2064x1024 ![0, 1] bcast_S1x1024_S2064x1024_0_1 (broadcastInDim S1x1024 ![1] bcast_S1024_S1x1024_1
            (shapeCast S1024 (extractStridedSlice S1x1024 ![k.val, 0] w (slices_tap k)) shapeCasts_S1x1024_S1024))))
          : FVec Ideal S2064x1024 .f32) (ix2 r j) = y (ix2 r j) + a (ix2 ⟨k.val + r.val, by omega⟩ j) * w (ix2 k j) := by
      pointwise
    refine (hp _ ⟨n, h⟩).trans (congrArg₂ (· + ·) (ih (by omega)) (mul_comm _ _))

/-- The gated rows behind 30 rows of zeros. -/
theorem gated_apply (P : FVec Ideal S2064x3072 .f32) (q : Fin 2094) (j : Fin 1024) :
    (val_main_v11 (F := Ideal) P (ix2 q j) : EReal) = front P (82 + q.val) (⟨1024 + j.val, by omega⟩ : Fin 3072)
      * Ideal.logistic (front P (82 + q.val) (⟨2048 + j.val, by omega⟩ : Fin 3072)) := by
  by_cases h : q.val < 30
  · refine Eq.trans ?_ ((congrArg (· * _) (dif_neg (by omega))).trans (zero_mul _)).symm
    pointwise [val_main_v11, val_main_v10, val_main_cst_1, h]
  · have e (k : Fin 3072) : front P (82 + q.val) k = P (ix2 ⟨q.val - 30, by omega⟩ k) := by
      rw [front, dif_pos (by omega)]
      exact congrArg P (ext2 (show 82 + q.val - 112 = q.val - 30 by omega) rfl)
    rw [e, e]
    pointwise [val_main_v11, val_main_v9, val_main_v8, val_main_v7, val_main_v6,
      val_main_v5, val_main_v4, val_main_v3, val_main_v2, val_main_v1, val_main_cst, val_main_cst_0, h]
    rfl

/-- The reference's activation of a row, from the convolution's row. -/
theorem act_apply (P : FVec Ideal S2064x3072 .f32) (w : FVec Ideal S31x1024 .f32) (b g l : FVec Ideal S1x1024 .f32) (r : Fin 2064) (j : Fin 1024) :
    (val_main_v255 (F := Ideal) P w b g l (ix2 r j) : EReal)
      = swish (fun k => val_main_v231 (F := Ideal) P w b (ix2 r k)) (fun k => g (ix2 0 k)) (fun k => l (ix2 0 k)) j := by
  generalize e : val_main_v231 (F := Ideal) P w b = y
  have hl (r : Fin 2064) (j : Fin 1024) : (val_main_v253 (F := Ideal) P w b g l (ix2 r j) : EReal)
      = layerNorm (fun k => y (ix2 r k)) (fun k => g (ix2 0 k)) (fun k => l (ix2 0 k)) j := by
    pointwise [val_main_v253, val_main_v252, val_main_v251, val_main_v250, val_main_v249, val_main_v248, val_main_v247, val_main_v246,
      val_main_v245, val_main_v244, val_main_v243, val_main_v242, val_main_v241, val_main_v240, val_main_v239, val_main_v238,
      val_main_v237, val_main_v236, val_main_v235, val_main_v234, val_main_v233, val_main_v232, val_main_cst_3, val_main_cst_4,
      val_main_cst_5, val_main_cst_6, val_main_cst_7, e]
    rfl
  pointwise [val_main_v255, val_main_v254, val_main_call0_v5, val_main_call0_v4, val_main_call0_v3, val_main_call0_v2,
    val_main_call0_v1, val_main_call0_v0, val_main_call0_cst, val_main_call0_cst_0, hl]
  rfl

/-- The reference's convolution with its bias. -/
theorem bias_apply (P : FVec Ideal S2064x3072 .f32) (w : FVec Ideal S31x1024 .f32) (b : FVec Ideal S1x1024 .f32) (r : Fin 2064) (j : Fin 1024) :
    (val_main_v231 (F := Ideal) P w b (ix2 r j) : EReal) = val_main_v229 (F := Ideal) P w (ix2 r j) + b (ix2 0 j)
    ∧ (val_main_v257 (F := Ideal) P w b (ix2 r j) : EReal) = val_main_v229 (F := Ideal) P w (ix2 r j) + b (ix2 0 j) := by
  constructor <;> pointwise [val_main_v231, val_main_v230, val_main_v257, val_main_v256]

end Cert.ConvSwishRefIdeal.Grad

end
-- ==== Proof.SwishGrads.lean ====
/-
  The forward pass of the gated depthwise convolution with its layer norm and activation: both results are what the
  reference's lines compute.
-/
module

public import proofs.«01_k».proof.Defs
public import proofs.«01_k».proof.Proof.Gen.ConvSwish.Frame
public import proofs.«01_k».proof.Proof.Gen.ConvSwishRefIdeal.Run
public import proofs.«01_k».proof.Proof.SwishRef

@[expose] public section

set_option maxRecDepth 16384

noncomputable section

namespace Cert.ConvSwishIdeal.Grad

open Idealize.ShloMosaic Idealize.ShloMosaic.TcCoe Idealize.SL.Sem
open Idealize.ShloMosaic.Pipeline (Dat)
open Cert.ConvSwishIdeal Cert.ConvSwishIdeal.Gen
open Cert.Common

section point

variable (c : Dev nD) (i : grid0.Coords)
  (arg1 : Memref sig .tc .vmem S128x1024 .f32) (harg1 : arg1.IsWhole)
  (arg2 : Memref sig .tc .vmem S128x1024 .f32) (harg2 : arg2.IsWhole)
  (arg3 : Memref sig .tc .vmem S32x1024 .f32) (harg3 : arg3.IsWhole)
  (arg4 : Memref sig .tc .vmem S32x1024 .f32) (harg4 : arg4.IsWhole)
  (arg5 : Memref sig .tc .vmem S31x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S128x1024 .bf16) (harg9 : arg9.IsWhole)
  (arg10 : Memref sig .tc .vmem S128x1024 .f32) (harg10 : arg10.IsWhole)
  (arg11 : Memref sig .tc .vmem S8x160x1024 .f32) (harg11 : arg11.IsWhole)
  (x0 : FVec Ideal S128x1024 .f32) (x1 : FVec Ideal S128x1024 .f32) (x2 : FVec Ideal S32x1024 .f32)
  (x3 : FVec Ideal S32x1024 .f32) (x4 : FVec Ideal S31x1024 .f32) (x5 : FVec Ideal S1x1024 .f32)
  (x6 : FVec Ideal S1x1024 .f32) (x7 : FVec Ideal S1x1024 .f32)

/-- The convolution's output that a point leaves. -/
theorem out_C (r : Fin 128) (j : Fin 1024) :
    (out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 : FVec Ideal S128x1024 .f32) (ix2 r j)
      = cTile i x0 x1 x2 x3 x4 x5 r j := by
  rw [out0_A_9, run_C, View.read_writes_junk_eq_canon]
  exact storesC_apply i arg1 harg1 arg2 harg2 arg3 harg3 arg4 harg4 arg5 harg5 arg6 harg6 arg11 x0 x1 x2 x3 x4 x5 r j

/-- The activation that a point leaves. -/
theorem out_S (r : Fin 128) (j : Fin 1024) :
    (out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 : FVec Ideal S128x1024 .bf16) (ix2 r j)
      = swish (cTile i x0 x1 x2 x3 x4 x5 r) (fun k => x6 (ix2 0 k)) (fun k => x7 (ix2 0 k)) j := by
  rw [out0_A_8, run_S, View.read_writes_junk_eq_canon, whole1_eq, whole1_eq,
    ← funext (readback i arg1 harg1 arg2 harg2 arg3 harg3 arg4 harg4 arg5 harg5 arg6 harg6 arg10 arg11 x0 x1 x2 x3 x4 x5 r)]
  generalize (arg10.view.readCov (storesC (F := Ideal) i arg1 harg1 arg2 harg2 arg3 harg3 arg4 harg4 arg5 harg5 arg6 harg6 arg11 x0 x1 x2 x3 x4 x5)
      (Rect.unit (s := S128x1024) ![0, 0] S128x1024.size inb_S128x1024_S128x1024_0_0).toLoadRect) = z
  have e := View.canon_cons_emb (Val := Elt Ideal) (e := .bf16)
    (Rect.unit (s := S128x1024) ![0, 0] S128x1024.size inb_S128x1024_S128x1024_0_0)
    (k0_pay1 (F := Ideal) (k0_pay87 (k0_pay86 z) x6 x7)) [] (ix2 r j)
  have hi : (Rect.unit (s := S128x1024) ![0, 0] S128x1024.size inb_S128x1024_S128x1024_0_0).emb (ix2 r j)
      = (ix2 r j : S128x1024.Idx) := by
    have h0 := Rect.idx_unit_val (s := S128x1024) ![0, 0] S128x1024.size inb_S128x1024_S128x1024_0_0 (ix2 r j)
    exact ext2 ((h0 0).trans (Nat.zero_add _)) ((h0 1).trans (Nat.zero_add _))
  rw [hi] at e
  exact e.trans (act_apply z x6 x7 r j)

end point

variable (m : (ℓ : Loc nD τ sig) → Buf (Elt Ideal) ℓ)

/-- The blocks each grid point reads and writes; only the first point has no tile before it. -/
theorem idx : ∀ t : Fin cfg0.N, win0_0.index t = ![t.val, 1] ∧ win0_1.index t = ![t.val, 2]
    ∧ win0_2.index t = ![t.val * 4 - 1, 1] ∧ win0_3.index t = ![t.val * 4 - 1, 2] ∧ win0_4.index t = ![0, 0]
    ∧ win0_5.index t = ![0, 0] ∧ win0_6.index t = ![0, 0] ∧ win0_7.index t = ![0, 0]
    ∧ win0_8.index t = ![t.val, 0] ∧ win0_9.index t = ![t.val, 0] ∧ t.val < 17
    ∧ (Scalar.extui (Scalar.cmpi .sgt (BitVec.ofNat 32 (grid0.coords t 0).val) 0#32) : BitVec 32)
        = if t.val = 0 then 0#32 else 1#32 :=
  (by decide +kernel : ∀ t : Fin grid0.N, _)

/-- The fill of the front rows is zero. -/
theorem fill_zero (i : S_.Idx) : ((sitofp .f32 (constantI S_ 32 0#32) : FVec Ideal S_ .f32) i : EReal) = 0 := sitofp_zero

/-- What the region finds in its operands: the rows behind rows of zeros, and the other arguments. -/
theorem entries (c : Dev nD) : V m c main_v0 = frontA (m ((c : Thread nD τ).loc main_arg0)) .f32 := by
  unfold V V0
  simp only [hostOps0, hostOps0_1, List.flatten_cons, List.flatten_nil, List.append_nil, List.cons_append, List.nil_append]
  after_results
  exact pad_front (m ((c : Thread nD τ).loc main_arg0)) pads_S2064x3072_S2176x3072_11200_000 h_S_ _ fill_zero

/-- The tile of the value half. -/
theorem blk0 (c : Dev nD) (t : Fin cfg0.N) (r : Fin 128) (j : Fin 1024) :
    (iblk m c 0 t : FVec Ideal S128x1024 .f32) (ix2 r j)
      = front (m ((c : Thread nD τ).loc main_arg0)) (t.val * 128 + r.val) (⟨1024 + j.val, by omega⟩ : Fin 3072) := by
  have h0 := (idx t).1
  show V m c main_v0 (((cfg0.win 0).blk t).view.emb (ix2 r j)) = _
  rw [entries m c]
  exact front_congr _ (by blk_simp [h0]) (by blk_simp [h0])

/-- The tile of the gate half. -/
theorem blk1 (c : Dev nD) (t : Fin cfg0.N) (r : Fin 128) (j : Fin 1024) :
    (iblk m c 1 t : FVec Ideal S128x1024 .f32) (ix2 r j)
      = front (m ((c : Thread nD τ).loc main_arg0)) (t.val * 128 + r.val) (⟨2048 + j.val, by omega⟩ : Fin 3072) := by
  have h0 := (idx t).2.1
  show V m c main_v0 (((cfg0.win 1).blk t).view.emb (ix2 r j)) = _
  rw [entries m c]
  exact front_congr _ (by blk_simp [h0]) (by blk_simp [h0])

/-- The 32 rows of the value half before it. -/
theorem blk2 (c : Dev nD) (t : Fin cfg0.N) (r : Fin 32) (j : Fin 1024) :
    (iblk m c 2 t : FVec Ideal S32x1024 .f32) (ix2 r j)
      = front (m ((c : Thread nD τ).loc main_arg0)) ((t.val * 4 - 1) * 32 + r.val) (⟨1024 + j.val, by omega⟩ : Fin 3072) := by
  have h0 := (idx t).2.2.1
  show V m c main_v0 (((cfg0.win 2).blk t).view.emb (ix2 r j)) = _
  rw [entries m c]
  exact front_congr _ (by blk_simp [h0]) (by blk_simp [h0])

/-- The 32 rows of the gate half before it. -/
theorem blk3 (c : Dev nD) (t : Fin cfg0.N) (r : Fin 32) (j : Fin 1024) :
    (iblk m c 3 t : FVec Ideal S32x1024 .f32) (ix2 r j)
      = front (m ((c : Thread nD τ).loc main_arg0)) ((t.val * 4 - 1) * 32 + r.val) (⟨2048 + j.val, by omega⟩ : Fin 3072) := by
  have h0 := (idx t).2.2.2.1
  show V m c main_v0 (((cfg0.win 3).blk t).view.emb (ix2 r j)) = _
  rw [entries m c]
  exact front_congr _ (by blk_simp [h0]) (by blk_simp [h0])

/-- The taps. -/
theorem blk4 (c : Dev nD) (t : Fin cfg0.N) (k : Fin 31) (j : Fin 1024) :
    (iblk m c 4 t : FVec Ideal S31x1024 .f32) (ix2 k j)
      = (m ((c : Thread nD τ).loc main_arg1) : FVec Ideal S31x1024 .f32) (ix2 k j) := by
  have h0 := (idx t).2.2.2.2.1
  show V m c main_arg1 (((cfg0.win 4).blk t).view.emb (ix2 k j)) = _
  rw [V_main_arg1 m c]
  exact congrArg (m ((c : Thread nD τ).loc main_arg1)) (ext2 (by blk_simp [h0]) (by blk_simp [h0]))

/-- The bias. -/
theorem blk5 (c : Dev nD) (t : Fin cfg0.N) (j : Fin 1024) :
    (iblk m c 5 t : FVec Ideal S1x1024 .f32) (ix2 0 j)
      = (m ((c : Thread nD τ).loc main_arg2) : FVec Ideal S1x1024 .f32) (ix2 0 j) := by
  have h0 := (idx t).2.2.2.2.2.1
  show V m c main_arg2 (((cfg0.win 5).blk t).view.emb (ix2 0 j)) = _
  rw [V_main_arg2 m c]
  exact congrArg (m ((c : Thread nD τ).loc main_arg2)) (ext2 (by blk_simp [h0]) (by blk_simp [h0]))

/-- The layer norm's gain. -/
theorem blk6 (c : Dev nD) (t : Fin cfg0.N) (j : Fin 1024) :
    (iblk m c 6 t : FVec Ideal S1x1024 .f32) (ix2 0 j)
      = (m ((c : Thread nD τ).loc main_arg3) : FVec Ideal S1x1024 .f32) (ix2 0 j) := by
  have h0 := (idx t).2.2.2.2.2.2.1
  show V m c main_arg3 (((cfg0.win 6).blk t).view.emb (ix2 0 j)) = _
  rw [V_main_arg3 m c]
  exact congrArg (m ((c : Thread nD τ).loc main_arg3)) (ext2 (by blk_simp [h0]) (by blk_simp [h0]))

/-- The layer norm's offset. -/
theorem blk7 (c : Dev nD) (t : Fin cfg0.N) (j : Fin 1024) :
    (iblk m c 7 t : FVec Ideal S1x1024 .f32) (ix2 0 j)
      = (m ((c : Thread nD τ).loc main_arg4) : FVec Ideal S1x1024 .f32) (ix2 0 j) := by
  have h0 := (idx t).2.2.2.2.2.2.2.1
  show V m c main_arg4 (((cfg0.win 7).blk t).view.emb (ix2 0 j)) = _
  rw [V_main_arg4 m c]
  exact congrArg (m ((c : Thread nD τ).loc main_arg4)) (ext2 (by blk_simp [h0]) (by blk_simp [h0]))

/-- The tile has a predecessor but at the first point. -/
theorem preceded_eq (t : Fin cfg0.N) : preceded (grid0.coords t) = if t.val = 0 then 0 else 1 := by
  rw [preceded, (idx t).2.2.2.2.2.2.2.2.2.2.2]
  split
  · show (((0#32 : BitVec 32).toInt : ℝ) : EReal) = 0
    simp
  · show (((1#32 : BitVec 32).toInt : ℝ) : EReal) = 1
    simp

/-- The gated row `R` of the array with zeros in its front. -/
def gated (P : FVec Ideal S2064x3072 .f32) (R : ℕ) (j : Fin 1024) : EReal :=
  front P R (⟨1024 + j.val, by omega⟩ : Fin 3072) * Ideal.logistic (front P R (⟨2048 + j.val, by omega⟩ : Fin 3072))

theorem gated_congr (P : FVec Ideal S2064x3072 .f32) {R R' : ℕ} (h : R = R') (j : Fin 1024) : gated P R j = gated P R' j := by rw [h]

/-- The row that tap `k` meets at row `r` of tile `t` is `30 - k` rows back; rows before the array's are zeros. -/
theorem met_eq (c : Dev nD) (t : Fin cfg0.N) (k : Fin 31) (r : Fin 128) (j : Fin 1024) :
    met (grid0.coords t) (iblk m c 0 t) (iblk m c 1 t) (iblk m c 2 t) (iblk m c 3 t) k r j
      = gated (m ((c : Thread nD τ).loc main_arg0)) (t.val * 128 + r.val + k.val - 30) j := by
  have ht := (idx t).2.2.2.2.2.2.2.2.2.2.1
  rw [met, ext_apply]
  split
  · rename_i h
    dsimp only at h
    rw [preceded_eq]
    by_cases h0 : t.val = 0
    · rw [if_pos h0, mul_zero, gated, front, dif_neg (by omega), zero_mul]
    · rw [if_neg h0, mul_one, blk2 m c t _ j, blk3 m c t _ j]
      exact gated_congr _ (by dsimp only; omega) j
  · rename_i h
    dsimp only at h
    rw [blk0 m c t _ j, blk1 m c t _ j]
    exact gated_congr _ (by dsimp only; omega) j

/-- The convolution with its bias at row `R`. -/
def cRow (P : FVec Ideal S2064x3072 .f32) (w : FVec Ideal S31x1024 .f32) (b : FVec Ideal S1x1024 .f32) (R : ℕ) (j : Fin 1024) : EReal :=
  (∑ k : Fin 31, w (ix2 k j) * gated P (R + k.val - 30) j) + b (ix2 0 j)

/-- Its activation. -/
def sRow (P : FVec Ideal S2064x3072 .f32) (w : FVec Ideal S31x1024 .f32) (b g l : FVec Ideal S1x1024 .f32) (R : ℕ) (j : Fin 1024) : EReal :=
  swish (cRow P w b R) (fun k => g (ix2 0 k)) (fun k => l (ix2 0 k)) j

/-- It is what a point computes at its rows. -/
theorem cTile_eq (c : Dev nD) (t : Fin cfg0.N) (r : Fin 128) (j : Fin 1024) :
    cTile (grid0.coords t) (iblk m c 0 t) (iblk m c 1 t) (iblk m c 2 t) (iblk m c 3 t) (iblk m c 4 t) (iblk m c 5 t) r j
      = cRow (m ((c : Thread nD τ).loc main_arg0)) (m ((c : Thread nD τ).loc main_arg1)) (m ((c : Thread nD τ).loc main_arg2))
          (t.val * 128 + r.val) j :=
  congrArg₂ (· + ·) (Finset.sum_congr rfl fun k _ => congrArg₂ (· * ·) (blk4 m c t k j) (met_eq m c t k r j)) (blk5 m c t j)

/-- The convolution's output after the region. -/
theorem arr_C (c : Dev nD) : (dats m 0 c).arrAt 9 (cfgs 0).N = (fun y : S2176x1024.Idx =>
    cRow (m ((c : Thread nD τ).loc main_arg0)) (m ((c : Thread nD τ).loc main_arg1)) (m ((c : Thread nD τ).loc main_arg2))
      (y 0).val (y 1) : FVec Ideal S2176x1024 .f32) := by
  refine (dats m 0 c).arrAt_eq_of_covers 9 _ (by decide +kernel) fun t _ y => ?_
  have h0 := (idx t).2.2.2.2.2.2.2.2.2.1
  obtain ⟨p, q, rfl⟩ : ∃ (p : Fin 128) (q : Fin 1024), y = ix2 p q := ⟨y 0, y 1, ext2 rfl rfl⟩
  have e1 : ((((cfg0.win 9).blk t).view.emb (ix2 p q)) 1) = q := Fin.ext (by blk_simp [h0])
  blk_simp
  rw [after0_9, outsAt0]
  dsimp only
  refine (out_C (r := p) (j := q) ..).trans ((cTile_eq m c t p q).trans (congrArg₂ (cRow (m ((c : Thread nD τ).loc main_arg0))
    (m ((c : Thread nD τ).loc main_arg1)) (m ((c : Thread nD τ).loc main_arg2))) (by rw [h0]; rfl) e1.symm))

/-- The activation after the region. -/
theorem arr_S (c : Dev nD) : (dats m 0 c).arrAt 8 (cfgs 0).N = (fun y : S2176x1024.Idx =>
    sRow (m ((c : Thread nD τ).loc main_arg0)) (m ((c : Thread nD τ).loc main_arg1)) (m ((c : Thread nD τ).loc main_arg2))
      (m ((c : Thread nD τ).loc main_arg3)) (m ((c : Thread nD τ).loc main_arg4)) (y 0).val (y 1) : FVec Ideal S2176x1024 .bf16) := by
  refine (dats m 0 c).arrAt_eq_of_covers 8 _ (by decide +kernel) fun t _ y => ?_
  have h0 := (idx t).2.2.2.2.2.2.2.2.1
  obtain ⟨p, q, rfl⟩ : ∃ (p : Fin 128) (q : Fin 1024), y = ix2 p q := ⟨y 0, y 1, ext2 rfl rfl⟩
  have e1 : ((((cfg0.win 8).blk t).view.emb (ix2 p q)) 1) = q := Fin.ext (by blk_simp [h0])
  blk_simp
  rw [after0_8, outsAt0]
  dsimp only
  refine (out_S (r := p) (j := q) ..).trans ?_
  rw [funext (cTile_eq m c t p), funext (blk6 m c t), funext (blk7 m c t)]
  exact congrArg₂ (sRow (m ((c : Thread nD τ).loc main_arg0)) (m ((c : Thread nD τ).loc main_arg1)) (m ((c : Thread nD τ).loc main_arg2))
    (m ((c : Thread nD τ).loc main_arg3)) (m ((c : Thread nD τ).loc main_arg4))) (by rw [h0]; rfl) e1.symm

/-- The two results: the rows behind the front. -/
theorem results (c : Dev nD) :
    Pipeline.afterTail₀ cfgs (dats m) 0 (V0 m) [hostOps1] c main_v2
        = extractStridedSlice S2064x1024 ![112, 0] ((dats m 0 c).arrAt 8 (cfgs 0).N : FVec Ideal S2176x1024 .bf16) slices_S2176x1024_S2064x1024_112_0
    ∧ Pipeline.afterTail₀ cfgs (dats m) 0 (V0 m) [hostOps1] c main_v3
        = extractStridedSlice S2064x1024 ![112, 0] ((dats m 0 c).arrAt 9 (cfgs 0).N : FVec Ideal S2176x1024 .f32) slices_S2176x1024_S2064x1024_112_0 := by
  refine ⟨?_, ?_⟩ <;> unfold Pipeline.afterTail₀ <;>
    simp only [hostOps1, List.flatten_cons, List.flatten_nil, List.append_nil, List.cons_append, List.nil_append] <;> after_results
  · exact congrArg (extractStridedSlice S2064x1024 ![112, 0] · slices_S2176x1024_S2064x1024_112_0)
      ((dats m 0 c).withArrays_arrAt launch₀0.sharedIn (V0 m c) (A_eq m c) 8)
  · exact congrArg (extractStridedSlice S2064x1024 ![112, 0] · slices_S2176x1024_S2064x1024_112_0)
      ((dats m 0 c).withArrays_arrAt launch₀0.sharedIn (V0 m c) (A_eq m c) 9)

open Cert.ConvSwishRefIdeal.Read in
/-- The reference's convolution of a row. -/
theorem ref_c (P : FVec Ideal S2064x3072 .f32) (w : FVec Ideal S31x1024 .f32) (b : FVec Ideal S1x1024 .f32) (r : Fin 2064) (j : Fin 1024) :
    (val_main_v229 (F := Ideal) P w (ix2 r j) + b (ix2 0 j) : EReal) = cRow P w b (112 + r.val) j := by
  refine congrArg (fun x : EReal => x + b (ix2 0 j)) ?_
  rw [Cert.ConvSwishRefIdeal.Grad.conv_eq, Cert.ConvSwishRefIdeal.Grad.fold_apply]
  refine Finset.sum_congr rfl fun k _ => congrArg (w (ix2 k j) * ·) ?_
  exact (Cert.ConvSwishRefIdeal.Grad.gated_apply P _ j).trans (gated_congr P (by dsimp only; omega) j)

open Cert.ConvSwishRefIdeal.Read in
/-- The first result is the reference's activation. -/
theorem final_s (c : Dev nD) : Pipeline.afterTail₀ cfgs (dats m) 0 (V0 m) [hostOps1] c main_v2
    = val_main_v255 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  rw [(results m c).1, arr_S]
  funext (i : S2064x1024.Idx)
  obtain ⟨r, j, rfl⟩ : ∃ (r : Fin 2064) (j : Fin 1024), i = ix2 r j := ⟨i 0, i 1, ext2 rfl rfl⟩
  refine Eq.trans ?_ (Cert.ConvSwishRefIdeal.Grad.act_apply _ _ _ _ _ r j).symm
  rw [funext fun k => (Cert.ConvSwishRefIdeal.Grad.bias_apply _ _ _ r k).1.trans (ref_c _ _ _ r k)]
  pointwise
  rfl

open Cert.ConvSwishRefIdeal.Read in
/-- The second result is the reference's convolution. -/
theorem final_c (c : Dev nD) : Pipeline.afterTail₀ cfgs (dats m) 0 (V0 m) [hostOps1] c main_v3
    = val_main_v257 (F := Ideal) (m ((c : Thread nD τ).loc main_arg0)) (m ((c : Thread nD τ).loc main_arg1))
        (m ((c : Thread nD τ).loc main_arg2)) := by
  rw [(results m c).2, arr_C]
  funext (i : S2064x1024.Idx)
  obtain ⟨r, j, rfl⟩ : ∃ (r : Fin 2064) (j : Fin 1024), i = ix2 r j := ⟨i 0, i 1, ext2 rfl rfl⟩
  refine Eq.trans ?_ (((Cert.ConvSwishRefIdeal.Grad.bias_apply _ _ _ r j).2).trans (ref_c _ _ _ r j)).symm
  pointwise

/-- The reference runs to its end with every counter at zero. -/
theorem frame_ref : Cert.quiescent_ConvSwishRefIdeal := fun m ρ _ =>
  (θ_run Cert.ConvSwishRefIdeal.defs _ _).mono
    (fun r h => ⟨fun c => (h c).2.2, sem_eq_zero_of_no_sems (by decide) r.2⟩) (Cert.ConvSwishRefIdeal.Value.run (F := Ideal) m ρ)

/-- A function of five arguments at equal arguments. -/
theorem congr5 {α β γ δ ε ζ : Type} (f : α → β → γ → δ → ε → ζ) {a a' : α} {b b' : β} {d d' : γ} {x x' : δ} {y y' : ε}
    (ha : a = a') (hb : b = b') (hd : d = d') (hx : x = x') (hy : y = y') : f a b d x y = f a' b' d' x' y' := by
  rw [ha, hb, hd, hx, hy]

/-- A function of three arguments at equal arguments. -/
theorem congr3 {α β γ δ : Type} (f : α → β → γ → δ) {a a' : α} {b b' : β} {d d' : γ} (ha : a = a') (hb : b = b') (hd : d = d') :
    f a b d = f a' b' d' := by
  rw [ha, hb, hd]

open Cert.ConvSwishRefIdeal.Read in
/-- The first result, from arguments that agree. -/
theorem agree_s (c : Dev nD) {P : FVec Ideal S2064x3072 .f32} {w : FVec Ideal S31x1024 .f32} {b g l : FVec Ideal S1x1024 .f32}
    (h0 : P = m ((c : Thread nD τ).loc main_arg0)) (h1 : w = m ((c : Thread nD τ).loc main_arg1)) (h2 : b = m ((c : Thread nD τ).loc main_arg2))
    (h3 : g = m ((c : Thread nD τ).loc main_arg3)) (h4 : l = m ((c : Thread nD τ).loc main_arg4)) :
    val_main_v255 (F := Ideal) P w b g l = Pipeline.afterTail₀ cfgs (dats m) 0 (V0 m) [hostOps1] c main_v2 :=
  (congr5 (val_main_v255 (F := Ideal)) h0 h1 h2 h3 h4).trans (final_s m c).symm

open Cert.ConvSwishRefIdeal.Read in
/-- The second result, from arguments that agree. -/
theorem agree_c (c : Dev nD) {P : FVec Ideal S2064x3072 .f32} {w : FVec Ideal S31x1024 .f32} {b : FVec Ideal S1x1024 .f32}
    (h0 : P = m ((c : Thread nD τ).loc main_arg0)) (h1 : w = m ((c : Thread nD τ).loc main_arg1)) (h2 : b = m ((c : Thread nD τ).loc main_arg2)) :
    val_main_v257 (F := Ideal) P w b = Pipeline.afterTail₀ cfgs (dats m) 0 (V0 m) [hostOps1] c main_v3 :=
  (congr3 (val_main_v257 (F := Ideal)) h0 h1 h2).trans (final_c m c).symm

/-- Over the reals the call's two results are the reference's. -/
theorem algebraic : Cert.algebraic_ConvSwishIdeal_ConvSwishRefIdeal := by
  pair_intro
  · run_from Cert.ConvSwishIdeal.Gen.run_main m g
    exact W_main_arg0 m (dats m) c
  · run_from Cert.ConvSwishRefIdeal.Value.run m' g'
    · exact (Cert.ConvSwishRefIdeal.Read.val_main_v255_eq (F := Ideal) _).trans (agree_s m c
        (hagree c).1 (hagree c).2.1 (hagree c).2.2.1 (hagree c).2.2.2.1 (hagree c).2.2.2.2)
    · rw [← (hagree c).2.2.1]
      exact (Cert.ConvSwishRefIdeal.Read.val_main_v257_eq (F := Ideal) _).trans (agree_c m c
        (hagree c).1 (hagree c).2.1 (hagree c).2.2.1)

/-- Everything that is claimed of this call. -/
theorem claims : Cert.quiescent_ConvSwish ∧ Cert.quiescent_ConvSwishIdeal ∧ Cert.quiescent_ConvSwishRefIdeal
    ∧ Cert.preserves_ConvSwish_ConvSwishIdeal ∧ Cert.algebraic_ConvSwishIdeal_ConvSwishRefIdeal :=
  ⟨fun m ρ _ => Cert.ConvSwish.Gen.frame m ρ, fun m ρ _ => Cert.ConvSwishIdeal.Gen.frame m ρ, frame_ref, trivial, algebraic⟩

end Cert.ConvSwishIdeal.Grad

end
-- ==== Proof.NormRows.lean ====
/-
  The root-mean-square norm of one row, as both programs compute it on any numbers.
-/
module

public import proofs.«01_k».proof.Proof.Common

@[expose] public section

noncomputable section

namespace Cert.NormRows

open Idealize.ShloMosaic Cert.Common

/-- The norm of the row `x` with the gain `g`, at column `j`. -/
def rms (x g : Fin 2048 → EReal) (j : Fin 2048) : EReal :=
  x j * Ideal.rsqrt (Ideal.div (∑ k, x k * x k) (Ideal.ofBits FTy.f32 0x45000000#32) + Ideal.ofBits FTy.f32 0x358637BD#32) * g j

/-- A row of zeros stays one. -/
theorem rms_zero (g : Fin 2048 → EReal) (j : Fin 2048) : rms (fun _ => 0) g j = 0 := by
  unfold rms; rw [zero_mul, zero_mul]

/-- The norm depends on its row's and gain's values alone. -/
theorem rms_congr {x x' g g' : Fin 2048 → EReal} (hx : ∀ k, x k = x' k) (hg : ∀ k, g k = g' k) (j : Fin 2048) : rms x g j = rms x' g' j := by
  rw [funext hx, funext hg]

/-- The rows with their second summand normalised. -/
def added (h o g : Fin 2048 → EReal) (j : Fin 2048) : EReal := h j + rms o g j

/-- A row of zeros to which a row of zeros is added stays one. -/
theorem added_zero (g : Fin 2048 → EReal) (j : Fin 2048) : added (fun _ => 0) (fun _ => 0) g j = 0 := by
  unfold added; rw [rms_zero, add_zero]

/-- A row of an array. -/
abbrev rowOf (X : FVec Ideal ⟨2, ![2064, 2048]⟩ .f32) (r : Fin 2064) : Fin 2048 → EReal := fun k => X (ix2 r k)

/-- Rows in front of an array are zero, rows behind the front are the array's. -/
theorem front_row (X : FVec Ideal ⟨2, ![2064, 2048]⟩ .f32) (R : ℕ) : front X R
    = if h : 112 ≤ R ∧ R - 112 < 2064 then rowOf X ⟨R - 112, h.2⟩ else fun _ => 0 := by
  funext k; unfold front; split <;> rfl

end Cert.NormRows

end
-- ==== Proof.TwoNorms.lean ====
/-
  The two norms between a block's mixers and its MLP: the rows with the normalised mixers' output added, and their own
  norm, are what the reference's lines compute.
-/
module

public import proofs.«01_k».proof.Defs
public import proofs.«01_k».proof.Proof.Gen.TwoNormsIdeal.Value
public import proofs.«01_k».proof.Proof.Gen.TwoNormsRefIdeal.Read
public import proofs.«01_k».proof.Proof.Gen.TwoNorms.Frame
public import proofs.«01_k».proof.Proof.NormRows

@[expose] public section

set_option maxRecDepth 16384

noncomputable section

namespace Cert.TwoNormsIdeal.Grad

open Idealize.ShloMosaic Idealize.ShloMosaic.TcCoe Idealize.SL.Sem
open Idealize.ShloMosaic.Pipeline (Dat)
open Cert.TwoNormsIdeal Cert.TwoNormsIdeal.Gen Cert.Common Cert.NormRows

variable (m : (ℓ : Loc nD τ sig) → Buf (Elt Ideal) ℓ)

/-- The blocks each grid point reads and writes. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ t.val < 8 :=
  (by decide +kernel : ∀ t : Fin grid0.N, _)

/-- The fill of the front rows is zero. -/
theorem fill_zero (i : S_.Idx) : ((sitofp .f32 (constantI S_ 32 0#32) : FVec Ideal S_ .f32) i : EReal) = 0 := sitofp_zero

/-- What the region finds in its operands: the rows behind rows of zeros, and both gains as arrays of one row. -/
theorem entries (c : Dev nD) : V m c main_v0 = frontA (m ((c : Thread nD τ).loc main_arg1)) .f32
    ∧ V m c main_v1 = frontA (m ((c : Thread nD τ).loc main_arg0)) .f32
    ∧ V m c main_v2 = broadcastInDim S1x2048 ![1] bcast_S2048_S1x2048_1 (m ((c : Thread nD τ).loc main_arg2))
    ∧ V m c main_v3 = broadcastInDim S1x2048 ![1] bcast_S2048_S1x2048_1 (m ((c : Thread nD τ).loc main_arg3)) := by
  refine ⟨?_, ?_, ?_, ?_⟩ <;> unfold V <;>
    simp only [hostOps0, hostOps0_1, hostOps0_2, hostOps0_3, hostOps0_4,
      List.flatten_cons, List.flatten_nil, List.append_nil, List.cons_append, List.nil_append] <;> after_results
  · exact pad_front (m ((c : Thread nD τ).loc main_arg1)) pads_S2064x2048_S2176x2048_11200_000 h_S_ _ fill_zero
  · exact pad_front (m ((c : Thread nD τ).loc main_arg0)) pads_S2064x2048_S2176x2048_11200_000 h_S_ _ fill_zero

/-- The tile of the mixers' output. -/
theorem blk0 (c : Dev nD) (t : Fin cfg0.N) (r : Fin 272) (k : Fin 2048) :
    ((iblk m c 0 t : FVec Ideal S272x2048 .f32) (ix2 r k) : EReal) = front (m ((c : Thread nD τ).loc main_arg1)) (t.val * 272 + r.val) k := by
  have h0 := (idx t).1
  show V m c main_v0 (((cfg0.win 0).blk t).view.emb (ix2 r k)) = _
  rw [(entries m c).1]
  exact front_congr _ (by blk_simp [h0]) (by blk_simp [h0])

/-- The tile of the rows. -/
theorem blk1 (c : Dev nD) (t : Fin cfg0.N) (r : Fin 272) (k : Fin 2048) :
    ((iblk m c 1 t : FVec Ideal S272x2048 .f32) (ix2 r k) : EReal) = front (m ((c : Thread nD τ).loc main_arg0)) (t.val * 272 + r.val) k := by
  have h0 := (idx t).2.1
  show V m c main_v1 (((cfg0.win 1).blk t).view.emb (ix2 r k)) = _
  rw [(entries m c).2.1]
  exact front_congr _ (by blk_simp [h0]) (by blk_simp [h0])

/-- An array of one row reads its one-dimensional origin. -/
theorem row_apply (x : FVec Ideal S2048 .f32) (z : Fin 1) (k : Fin 2048) :
    (broadcastInDim S1x2048 ![1] bcast_S2048_S1x2048_1 x : FVec Ideal S1x2048 .f32) (ix2 z k) = x (ix1 k) := by pointwise

/-- The first gain. -/
theorem blk2 (c : Dev nD) (t : Fin cfg0.N) (z : Fin 1) (k : Fin 2048) :
    ((iblk m c 2 t : FVec Ideal S1x2048 .f32) (ix2 z k) : EReal) = (m ((c : Thread nD τ).loc main_arg2) : FVec Ideal S2048 .f32) (ix1 k) := by
  have h0 := (idx t).2.2.1
  show V m c main_v2 (((cfg0.win 2).blk t).view.emb (ix2 z k)) = _
  rw [(entries m c).2.2.1, show ((cfg0.win 2).blk t).view.emb (ix2 z k) = ix2 z k from ext2 (by blk_simp [h0]) (by blk_simp [h0])]
  exact row_apply _ z k

/-- The second gain. -/
theorem blk3 (c : Dev nD) (t : Fin cfg0.N) (z : Fin 1) (k : Fin 2048) :
    ((iblk m c 3 t : FVec Ideal S1x2048 .f32) (ix2 z k) : EReal) = (m ((c : Thread nD τ).loc main_arg3) : FVec Ideal S2048 .f32) (ix1 k) := by
  have h0 := (idx t).2.2.2.1
  show V m c main_v3 (((cfg0.win 3).blk t).view.emb (ix2 z k)) = _
  rw [(entries m c).2.2.2, show ((cfg0.win 3).blk t).view.emb (ix2 z k) = ix2 z k from ext2 (by blk_simp [h0]) (by blk_simp [h0])]
  exact row_apply _ z k

/-- The rows that a point stores first. -/
theorem pay1 (o h : FVec Ideal S272x2048 .f32) (p : FVec Ideal S1x2048 .f32) (r : Fin 272) (j : Fin 2048) :
    (k0_pay1 (F := Ideal) o h p (ix2 r j) : EReal) = added (fun k => h (ix2 r k)) (fun k => o (ix2 r k)) (fun k => p (ix2 0 k)) j := by
  pointwise [k0_pay1]
  rfl

/-- The normalised rows that it stores then. -/
theorem pay2 (o h : FVec Ideal S272x2048 .f32) (p q : FVec Ideal S1x2048 .f32) (r : Fin 272) (j : Fin 2048) :
    (k0_pay2 (F := Ideal) o h p q (ix2 r j) : EReal)
      = rms (added (fun k => h (ix2 r k)) (fun k => o (ix2 r k)) (fun k => p (ix2 0 k))) (fun k => q (ix2 0 k)) j := by
  rw [← funext (pay1 o h p r)]
  generalize e : k0_pay1 (F := Ideal) o h p = y
  pointwise [k0_pay2, e]
  rfl

/-- The rows of the first result, from the arguments' rows behind zeros. -/
def hRow (h o : FVec Ideal S2064x2048 .f32) (p : FVec Ideal S2048 .f32) (R : ℕ) : Fin 2048 → EReal :=
  added (front h R) (front o R) (fun k => p (ix1 k))

/-- The rows of the second result. -/
def uRow (h o : FVec Ideal S2064x2048 .f32) (p q : FVec Ideal S2048 .f32) (R : ℕ) : Fin 2048 → EReal :=
  rms (hRow h o p R) (fun k => q (ix1 k))

open Cert.TwoNormsRefIdeal.Read in
/-- The reference's rows before they are moved behind zeros. -/
theorem ref_h (h o : FVec Ideal S2064x2048 .f32) (p : FVec Ideal S2048 .f32) (r : Fin 2064) (j : Fin 2048) :
    (val_main_v13 (F := Ideal) h o p (ix2 r j) : EReal) = added (rowOf h r) (rowOf o r) (fun k => p (ix1 k)) j := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

open Cert.TwoNormsRefIdeal.Read in
/-- The reference's normalised rows before they are moved behind zeros. -/
theorem ref_u (h o : FVec Ideal S2064x2048 .f32) (p q : FVec Ideal S2048 .f32) (r : Fin 2064) (j : Fin 2048) :
    (val_main_v26 (F := Ideal) h o p q (ix2 r j) : EReal)
      = rms (added (rowOf h r) (rowOf o r) (fun k => p (ix1 k))) (fun k => q (ix1 k)) j := by
  rw [← funext (ref_h h o p r)]
  generalize e : val_main_v13 (F := Ideal) h o p = y
  pointwise [val_main_v26, val_main_v25, val_main_v24, val_main_v23, val_main_v22, val_main_v21, val_main_v20, val_main_v19, val_main_v18,
    val_main_v17, val_main_v16, val_main_v15, val_main_v14, val_main_cst_2, val_main_cst_3, val_main_cst_4, e]
  rfl

open Cert.TwoNormsRefIdeal.Read in
/-- The reference's first result. -/
theorem ref_at_h (h o : FVec Ideal S2064x2048 .f32) (p : FVec Ideal S2048 .f32) (i : S2176x2048.Idx) :
    (val_main_v27 (F := Ideal) h o p i : EReal) = hRow h o p (i 0).val (i 1) := by
  have e : (val_main_v27 (F := Ideal) h o p i : EReal) = front (val_main_v13 (F := Ideal) h o p) (i 0).val (i 1) := by
    pointwise [val_main_v27, val_main_call0_v0, val_main_c, front, sitofp_zero]
  refine e.trans ?_
  rw [hRow, front_row h, front_row o]
  unfold front
  split
  · exact ref_h ..
  · exact (added_zero _ _).symm

open Cert.TwoNormsRefIdeal.Read in
/-- The reference's second result. -/
theorem ref_at_u (h o : FVec Ideal S2064x2048 .f32) (p q : FVec Ideal S2048 .f32) (i : S2176x2048.Idx) :
    (val_main_v29 (F := Ideal) h o p q i : EReal) = uRow h o p q (i 0).val (i 1) := by
  have e : (val_main_v29 (F := Ideal) h o p q i : EReal) = front (val_main_v26 (F := Ideal) h o p q) (i 0).val (i 1) := by
    pointwise [val_main_v29, val_main_v28, val_main_call1_v0, val_main_c_5, front, sitofp_zero]
  refine e.trans ?_
  rw [uRow, hRow, front_row h, front_row o]
  unfold front
  split
  · exact ref_u ..
  · exact ((rms_congr (added_zero _) (fun _ => rfl) _).trans (rms_zero _ _)).symm

open Cert.TwoNormsRefIdeal.Read in
/-- What a grid point stores first, at a place of its block, is the reference's value at that place of the array. -/
theorem point_h (c : Dev nD) (t : Fin cfg0.N) (y : S272x2048.Idx) : k0_pay1 (iblk m c 0 t) (iblk m c 1 t) (iblk m c 2 t) y
    = val_main_v27 (F := Ideal) (m ((c : Thread nD τ).loc main_arg0)) (m ((c : Thread nD τ).loc main_arg1))
        (m ((c : Thread nD τ).loc main_arg2)) (((cfg0.win 4).blk t).view.emb y) := by
  have h0 := (idx t).2.2.2.2.1
  obtain ⟨r, j, rfl⟩ : ∃ (r : Fin 272) (j : Fin 2048), y = ix2 r j := ⟨y 0, y 1, ext2 rfl rfl⟩
  have e0 : ((((cfg0.win 4).blk t).view.emb (ix2 r j)) 0).val = t.val * 272 + r.val := by blk_simp [h0]
  have e1 : ((((cfg0.win 4).blk t).view.emb (ix2 r j)) 1) = j := Fin.ext (by blk_simp [h0])
  generalize (((cfg0.win 4).blk t).view.emb (ix2 r j)) = e at e0 e1 ⊢
  refine Eq.trans ?_ (ref_at_h _ _ _ e).symm
  rw [e0, e1, hRow, ← funext (blk0 m c t r), ← funext (blk1 m c t r), ← funext (blk2 m c t 0)]
  exact pay1 _ _ _ r j

open Cert.TwoNormsRefIdeal.Read in
/-- What it stores then. -/
theorem point_u (c : Dev nD) (t : Fin cfg0.N) (y : S272x2048.Idx) : k0_pay2 (iblk m c 0 t) (iblk m c 1 t) (iblk m c 2 t) (iblk m c 3 t) y
    = val_main_v29 (F := Ideal) (m ((c : Thread nD τ).loc main_arg0)) (m ((c : Thread nD τ).loc main_arg1))
        (m ((c : Thread nD τ).loc main_arg2)) (m ((c : Thread nD τ).loc main_arg3)) (((cfg0.win 5).blk t).view.emb y) := by
  have h0 := (idx t).2.2.2.2.2.1
  obtain ⟨r, j, rfl⟩ : ∃ (r : Fin 272) (j : Fin 2048), y = ix2 r j := ⟨y 0, y 1, ext2 rfl rfl⟩
  have e0 : ((((cfg0.win 5).blk t).view.emb (ix2 r j)) 0).val = t.val * 272 + r.val := by blk_simp [h0]
  have e1 : ((((cfg0.win 5).blk t).view.emb (ix2 r j)) 1) = j := Fin.ext (by blk_simp [h0])
  generalize (((cfg0.win 5).blk t).view.emb (ix2 r j)) = e at e0 e1 ⊢
  refine Eq.trans ?_ (ref_at_u _ _ _ _ e).symm
  rw [e0, e1, uRow, hRow, ← funext (blk0 m c t r), ← funext (blk1 m c t r), ← funext (blk2 m c t 0), ← funext (blk3 m c t 0)]
  exact pay2 _ _ _ _ r j

open Cert.TwoNormsRefIdeal.Read in
/-- The first result array after the last grid point is the reference's. -/
theorem final_h (c : Dev nD) : (dats m 0 c).arrAt 4 (cfgs 0).N = val_main_v27 (F := Ideal) (m ((c : Thread nD τ).loc main_arg0))
    (m ((c : Thread nD τ).loc main_arg1)) (m ((c : Thread nD τ).loc main_arg2)) := by
  refine (dats m 0 c).arrAt_eq_of_covers 4 _ (by decide +kernel) fun t _ y => ?_
  blk_simp; rw [after0_4]; frame_out; exact point_h m c t y

open Cert.TwoNormsRefIdeal.Read in
/-- The second result array after the last grid point is the reference's. -/
theorem final_u (c : Dev nD) : (dats m 0 c).arrAt 5 (cfgs 0).N = val_main_v29 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp; rw [after0_5]; frame_out; exact point_u m c t y

/-- The reference runs to its end with every counter at zero. -/
theorem frame_ref : Cert.quiescent_TwoNormsRefIdeal := fun m ρ _ =>
  (θ_run Cert.TwoNormsRefIdeal.defs _ _).mono
    (fun r h => ⟨fun c => (h c).2.2, sem_eq_zero_of_no_sems (by decide) r.2⟩) (Cert.TwoNormsRefIdeal.Value.run (F := Ideal) m ρ)

/-- Over the reals the call's two results are the reference's. -/
theorem algebraic : Cert.algebraic_TwoNormsIdeal_TwoNormsRefIdeal := by
  pair_intro
  · run_from Cert.TwoNormsIdeal.Gen.run_main m g
    exacts [V_main_arg0 m c, V_main_arg1 m c, V_main_arg2 m c, V_main_arg3 m c]
  · run_from Cert.TwoNormsRefIdeal.Value.run m' g'
    · exact (final_h m c).symm
    · exact (final_u m c).symm

/-- Everything that is claimed of this call. -/
theorem claims : Cert.quiescent_TwoNorms ∧ Cert.quiescent_TwoNormsIdeal ∧ Cert.quiescent_TwoNormsRefIdeal
    ∧ Cert.preserves_TwoNorms_TwoNormsIdeal ∧ Cert.algebraic_TwoNormsIdeal_TwoNormsRefIdeal :=
  ⟨fun m ρ _ => Cert.TwoNorms.Gen.frame m ρ, fun m ρ _ => Cert.TwoNormsIdeal.Gen.frame m ρ, frame_ref, trivial, algebraic⟩

end Cert.TwoNormsIdeal.Grad

end
-- ==== Proof.Columns.lean ====
/-
  A matrix whose columns stand in four parts, as four chips hold them.
-/
module

public import proofs.«01_k».proof.Proof.Common

@[expose] public section

noncomputable section

namespace Cert.Columns

open Idealize.ShloMosaic Cert.Common

/-- An element of column `q` of a matrix; the column is given by its number. -/
def column {a b : ℕ} (w : FVec Ideal ⟨2, ![a, b]⟩ .f32) (k : Fin a) (q : ℕ) : EReal :=
  if h : q < b then w (ix2 k ⟨q, h⟩) else 0

/-- Inside the matrix. -/
theorem column_eq {a b : ℕ} (w : FVec Ideal ⟨2, ![a, b]⟩ .f32) (k : Fin a) (j : Fin b) : column w k j.val = w (ix2 k j) := dif_pos j.2

/-- The matrix's columns in four parts of `n`. -/
def parts {a b : ℕ} (n : ℕ) (w : FVec Ideal ⟨2, ![a, b]⟩ .f32) (φ : FTy) : FVec Ideal ⟨3, ![4, a, n]⟩ φ :=
  fun i => column w (i 1) ((i 0).val * n + (i 2).val)

/-- An element of the product of the rows behind zeros with a matrix. -/
def product {a b : ℕ} (x : FVec Ideal ⟨2, ![2064, a]⟩ .f32) (w : FVec Ideal ⟨2, ![a, b]⟩ .f32) (R q : ℕ) : EReal :=
  ∑ k : Fin a, front x R k * column w k q

/-- A row of zeros has a product of zeros. -/
theorem product_zero {a b : ℕ} (x : FVec Ideal ⟨2, ![2064, a]⟩ .f32) (w : FVec Ideal ⟨2, ![a, b]⟩ .f32) {R : ℕ} (q : ℕ)
    (h : ¬ (112 ≤ R ∧ R - 112 < 2064)) : product x w R q = 0 :=
  Finset.sum_eq_zero fun k _ => by rw [front, dif_neg h, zero_mul]

/-- A row of the array has the array's product. -/
theorem product_row {a b : ℕ} (x : FVec Ideal ⟨2, ![2064, a]⟩ .f32) (w : FVec Ideal ⟨2, ![a, b]⟩ .f32) (Y : FVec Ideal ⟨2, ![2064, b]⟩ .f32)
    (hY : ∀ r j, (Y (ix2 r j) : EReal) = ∑ k : Fin a, x (ix2 r k) * w (ix2 k j)) {R : ℕ} (j : Fin b)
    (h : 112 ≤ R ∧ R - 112 < 2064) : (Y (ix2 ⟨R - 112, h.2⟩ j) : EReal) = product x w R j.val :=
  (hY _ j).trans (Finset.sum_congr rfl fun k _ => congrArg₂ (· * ·) (show x (ix2 ⟨R - 112, h.2⟩ k) = front x R k by rw [front, dif_pos h]) (column_eq w k j).symm)

/-- The product of the array, behind rows of zeros. -/
theorem front_product {a b : ℕ} (x : FVec Ideal ⟨2, ![2064, a]⟩ .f32) (w : FVec Ideal ⟨2, ![a, b]⟩ .f32) (Y : FVec Ideal ⟨2, ![2064, b]⟩ .f32)
    (hY : ∀ r j, (Y (ix2 r j) : EReal) = ∑ k : Fin a, x (ix2 r k) * w (ix2 k j)) (R : ℕ) (j : Fin b) :
    front Y R j = product x w R j.val := by
  unfold front
  split
  · exact product_row x w Y hY j ‹_›
  · exact (product_zero x w _ ‹_›).symm

end Cert.Columns

end
-- ==== Proof.ReluUp.lean ====
/-
  The first projection of the MLP and its squared relu: both results are what the reference's lines compute.
-/
module

public import proofs.«01_k».proof.Defs
public import proofs.«01_k».proof.Proof.Gen.ReluUpIdeal.Value
public import proofs.«01_k».proof.Proof.Gen.ReluUpRefIdeal.Read
public import proofs.«01_k».proof.Proof.Gen.ReluUp.Frame
public import proofs.«01_k».proof.Proof.Columns

@[expose] public section

set_option maxRecDepth 16384

noncomputable section

namespace Cert.ReluUpIdeal.Grad

open Idealize.ShloMosaic Idealize.ShloMosaic.TcCoe Idealize.SL.Sem
open Idealize.ShloMosaic.Pipeline (Dat)
open Cert.ReluUpIdeal Cert.ReluUpIdeal.Gen Cert.Common Cert.Columns

variable (m : (ℓ : Loc nD τ sig) → Buf (Elt Ideal) ℓ)

/-- The blocks each grid point reads and writes: a part of 2048 columns holds four blocks. -/
theorem idx : ∀ t : Fin cfg0.N, win0_0.index t = ![0, 0] ∧ win0_1.index t = ![t.val / 4, 0, t.val % 4]
    ∧ win0_2.index t = ![0, t.val] ∧ win0_3.index t = ![0, t.val] ∧ t.val < 16 :=
  (by decide +kernel : ∀ t : Fin grid0.N, _)

/-- The fill of the front rows is zero. -/
theorem fill_zero (i : S_.Idx) : ((sitofp .f32 (constantI S_ 32 0#32) : FVec Ideal S_ .f32) i : EReal) = 0 := sitofp_zero

/-- The weights' columns in four parts. -/
theorem split_eq (w : FVec Ideal S2048x8192 .f32) :
    (truncf (F := Ideal) .bf16 (transpose S4x2048x2048 [1, 0, 2] (shapeCast S2048x4x2048 w shapeCasts_S2048x8192_S2048x4x2048)
      transposes_S2048x4x2048_S4x2048x2048_1_0_2) bitsLt_bf16_f32 : FVec Ideal S4x2048x2048 .bf16) = parts 2048 w .bf16 := by
  funext i
  refine Eq.trans ?_ (dif_pos (show (i 0).val * 2048 + (i 2).val < 8192 from by have h1 := (i 0).isLt; have h2 := (i 2).isLt; dsimp at h1 h2; omega)).symm
  pointwise

/-- What the region finds in its operands: the rows behind rows of zeros, and the weights' columns in four parts. -/
theorem entries (c : Dev nD) : V m c main_v1 = frontA (m ((c : Thread nD τ).loc main_arg0)) .bf16
    ∧ V m c main_v4 = parts 2048 (m ((c : Thread nD τ).loc main_arg1)) .bf16 := by
  refine ⟨?_, ?_⟩ <;> unfold V <;>
    simp only [hostOps0, hostOps0_1, hostOps0_2,
      List.flatten_cons, List.flatten_nil, List.append_nil, List.cons_append, List.nil_append] <;> after_results
  · exact pad_front (m ((c : Thread nD τ).loc main_arg0)) pads_S2064x2048_S2176x2048_11200_000 h_S_ _ fill_zero
  · exact split_eq (m ((c : Thread nD τ).loc main_arg1))

/-- The rows. -/
theorem blk0 (c : Dev nD) (t : Fin cfg0.N) (r : Fin 2176) (k : Fin 2048) :
    ((iblk m c 0 t : FVec Ideal S2176x2048 .bf16) (ix2 r k) : EReal) = front (m ((c : Thread nD τ).loc main_arg0)) r.val k := by
  have h0 := (idx t).1
  show V m c main_v1 (((cfg0.win 0).blk t).view.emb (ix2 r k)) = _
  rw [(entries m c).1]
  exact front_congr _ (by blk_simp [h0]) (by blk_simp [h0])

/-- The weights' columns. -/
theorem blk1 (c : Dev nD) (t : Fin cfg0.N) (z : Fin 1) (k : Fin 2048) (j : Fin 512) :
    ((iblk m c 1 t : FVec Ideal S1x2048x512 .bf16) (ix3 z k j) : EReal)
      = column (m ((c : Thread nD τ).loc main_arg1)) k (t.val * 512 + j.val) := by
  have ht := (idx t).2.2.2.2
  have h0 := (idx t).2.1
  show V m c main_v4 (((cfg0.win 1).blk t).view.emb (ix3 z k j)) = _
  rw [(entries m c).2]
  have e0 : ((((cfg0.win 1).blk t).view.emb (ix3 z k j)) 0).val = t.val / 4 := by blk_simp [h0]
  have e1 : ((((cfg0.win 1).blk t).view.emb (ix3 z k j)) 1) = k := Fin.ext (by blk_simp [h0])
  have e2 : ((((cfg0.win 1).blk t).view.emb (ix3 z k j)) 2).val = t.val % 4 * 512 + j.val := by blk_simp [h0]
  refine congrArg₂ (column (m ((c : Thread nD τ).loc main_arg1))) e1 ?_
  rw [e0, e2]
  omega

/-- What a point computes of the product. -/
theorem pay1 (x : FVec Ideal S2176x2048 .bf16) (w : FVec Ideal S1x2048x512 .bf16) (r : Fin 2176) (j : Fin 512) :
    (k0_pay1 (F := Ideal) x w (ix2 r j) : EReal) = ∑ k : Fin 2048, x (ix2 r k) * w (ix3 0 k j) := by
  pointwise [k0_pay1]

/-- It is the product of the rows behind zeros with the weights. -/
theorem tile (c : Dev nD) (t : Fin cfg0.N) (r : Fin 2176) (j : Fin 512) :
    (k0_pay1 (F := Ideal) (iblk m c 0 t) (iblk m c 1 t) (ix2 r j) : EReal)
      = product (m ((c : Thread nD τ).loc main_arg0)) (m ((c : Thread nD τ).loc main_arg1)) r.val (t.val * 512 + j.val) :=
  (pay1 _ _ r j).trans (Finset.sum_congr rfl fun k _ => congrArg₂ (· * ·) (blk0 m c t r k) (blk1 m c t 0 k j))

open Cert.ReluUpRefIdeal.Read in
/-- The reference's product before it is moved behind zeros. -/
theorem ref_row (u : FVec Ideal S2064x2048 .f32) (w : FVec Ideal S2048x8192 .f32) (r : Fin 2064) (j : Fin 8192) :
    (val_main_v0 (F := Ideal) u w (ix2 r j) : EReal) = ∑ k : Fin 2048, u (ix2 r k) * w (ix2 k j) := by
  pointwise [val_main_v0]

open Cert.ReluUpRefIdeal.Read in
/-- The reference's first result. -/
theorem ref_a (u : FVec Ideal S2064x2048 .f32) (w : FVec Ideal S2048x8192 .f32) (i : S2176x8192.Idx) :
    (val_main_v2 (F := Ideal) u w i : EReal) = product u w (i 0).val (i 1).val := by
  have e : (val_main_v2 (F := Ideal) u w i : EReal) = front (val_main_v0 (F := Ideal) u w) (i 0).val (i 1) := by
    pointwise [val_main_v2, val_main_v1, val_main_call0_v0, val_main_c, front, sitofp_zero]
  exact e.trans (front_product u w _ (ref_row u w) _ _)

open Cert.ReluUpRefIdeal.Read in
/-- The reference's second result. -/
theorem ref_f (u : FVec Ideal S2064x2048 .f32) (w : FVec Ideal S2048x8192 .f32) (i : S2176x8192.Idx) :
    (val_main_v6 (F := Ideal) u w i : EReal) = max (product u w (i 0).val (i 1).val) 0 * max (product u w (i 0).val (i 1).val) 0 := by
  rw [← front_product u w _ (ref_row u w) (i 0).val (i 1)]
  generalize e : val_main_v0 (F := Ideal) u w = y
  pointwise [val_main_v6, val_main_v5, val_main_v4, val_main_v3, val_main_call1_v0, val_main_call1_cst, val_main_call2_v0, val_main_c_0,
    front, sitofp_zero, e]
  split <;> simp

open Cert.ReluUpRefIdeal.Read in
/-- What a grid point stores first, at a place of its block, is the reference's value at that place of the array. -/
theorem point_a (c : Dev nD) (t : Fin cfg0.N) (y : S2176x512.Idx) : k0_pay2 (iblk m c 0 t) (iblk m c 1 t) y
    = val_main_v2 (F := Ideal) (m ((c : Thread nD τ).loc main_arg0)) (m ((c : Thread nD τ).loc main_arg1)) (((cfg0.win 2).blk t).view.emb y) := by
  have h0 := (idx t).2.2.1
  obtain ⟨r, j, rfl⟩ : ∃ (r : Fin 2176) (j : Fin 512), y = ix2 r j := ⟨y 0, y 1, ext2 rfl rfl⟩
  have e0 : ((((cfg0.win 2).blk t).view.emb (ix2 r j)) 0).val = r.val := by blk_simp [h0]
  have e1 : ((((cfg0.win 2).blk t).view.emb (ix2 r j)) 1).val = t.val * 512 + j.val := by blk_simp [h0]
  generalize ((cfg0.win 2).blk t).view.emb (ix2 r j) = e at e0 e1 ⊢
  refine Eq.trans ?_ (ref_a _ _ e).symm
  rw [e0, e1]
  exact tile m c t r j

open Cert.ReluUpRefIdeal.Read in
/-- The same of its second store. -/
theorem point_f (c : Dev nD) (t : Fin cfg0.N) (y : S2176x512.Idx) : k0_pay3 (iblk m c 0 t) (iblk m c 1 t) y
    = val_main_v6 (F := Ideal) (m ((c : Thread nD τ).loc main_arg0)) (m ((c : Thread nD τ).loc main_arg1)) (((cfg0.win 3).blk t).view.emb y) := by
  have h0 := (idx t).2.2.2.1
  obtain ⟨r, j, rfl⟩ : ∃ (r : Fin 2176) (j : Fin 512), y = ix2 r j := ⟨y 0, y 1, ext2 rfl rfl⟩
  have e0 : ((((cfg0.win 3).blk t).view.emb (ix2 r j)) 0).val = r.val := by blk_simp [h0]
  have e1 : ((((cfg0.win 3).blk t).view.emb (ix2 r j)) 1).val = t.val * 512 + j.val := by blk_simp [h0]
  generalize ((cfg0.win 3).blk t).view.emb (ix2 r j) = e at e0 e1 ⊢
  refine Eq.trans ?_ (ref_f _ _ e).symm
  rw [e0, e1, ← tile m c t r j]
  generalize iblk m c 0 t = x, iblk m c 1 t = w
  generalize ez : k0_pay1 (F := Ideal) x w = z
  pointwise [k0_pay3, ez]

open Cert.ReluUpRefIdeal.Read in
/-- The first result array after the last grid point is the reference's. -/
theorem final_a (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp; rw [after0_2]; frame_out; exact point_a m c t y

open Cert.ReluUpRefIdeal.Read in
/-- The second result array after the last grid point is the reference's. -/
theorem final_f (c : Dev nD) : (dats m 0 c).arrAt 3 (cfgs 0).N
    = val_main_v6 (F := Ideal) (m ((c : Thread nD τ).loc main_arg0)) (m ((c : Thread nD τ).loc main_arg1)) := by
  refine (dats m 0 c).arrAt_eq_of_covers 3 _ (by decide +kernel) fun t _ y => ?_
  blk_simp; rw [after0_3]; frame_out; exact point_f m c t y

/-- The reference runs to its end with every counter at zero. -/
theorem frame_ref : Cert.quiescent_ReluUpRefIdeal := fun m ρ _ =>
  (θ_run Cert.ReluUpRefIdeal.defs _ _).mono
    (fun r h => ⟨fun c => (h c).2.2, sem_eq_zero_of_no_sems (by decide) r.2⟩) (Cert.ReluUpRefIdeal.Value.run (F := Ideal) m ρ)

/-- Over the reals the call's two results are the reference's. -/
theorem algebraic : Cert.algebraic_ReluUpIdeal_ReluUpRefIdeal := by
  pair_intro
  · run_from Cert.ReluUpIdeal.Gen.run_main m g
    exacts [V_main_arg0 m c, V_main_arg1 m c]
  · run_from Cert.ReluUpRefIdeal.Value.run m' g'
    · exact (final_a m c).symm
    · exact (final_f m c).symm

/-- Everything that is claimed of this call. -/
theorem claims : Cert.quiescent_ReluUp ∧ Cert.quiescent_ReluUpIdeal ∧ Cert.quiescent_ReluUpRefIdeal
    ∧ Cert.preserves_ReluUp_ReluUpIdeal ∧ Cert.algebraic_ReluUpIdeal_ReluUpRefIdeal :=
  ⟨fun m ρ _ => Cert.ReluUp.Gen.frame m ρ, fun m ρ _ => Cert.ReluUpIdeal.Gen.frame m ρ, frame_ref, trivial, algebraic⟩

end Cert.ReluUpIdeal.Grad

end
-- ==== Proof.MixGates.lean ====
/-
  The two mixers' projections and their sigmoid gates: all three results are what the reference's lines compute.
-/
module

public import proofs.«01_k».proof.Defs
public import proofs.«01_k».proof.Proof.Gen.MixIdeal.Value
public import proofs.«01_k».proof.Proof.Gen.MixRefIdeal.Read
public import proofs.«01_k».proof.Proof.Gen.Mix.Frame
public import proofs.«01_k».proof.Proof.Columns

@[expose] public section

set_option maxRecDepth 16384

noncomputable section

namespace Cert.MixIdeal.Grad

open Idealize.ShloMosaic Idealize.ShloMosaic.TcCoe Idealize.SL.Sem
open Idealize.ShloMosaic.Pipeline (Dat)
open Cert.MixIdeal Cert.MixIdeal.Gen Cert.Common Cert.Columns

variable (m : (ℓ : Loc nD τ sig) → Buf (Elt Ideal) ℓ)

/-- The blocks each grid point reads and writes. -/
theorem idx : ∀ t : Fin cfg0.N, win0_0.index t = ![t.val / 4, 0] ∧ win0_1.index t = ![t.val / 4, 0]
    ∧ win0_2.index t = ![t.val % 4, 0, 0] ∧ win0_3.index t = ![t.val % 4, 0, 0]
    ∧ win0_4.index t = ![t.val / 4, t.val % 4] ∧ win0_5.index t = ![t.val / 4, 4 + t.val % 4]
    ∧ win0_6.index t = ![t.val / 4, t.val % 4] ∧ win0_7.index t = ![t.val / 4, t.val % 4]
    ∧ win0_8.index t = ![t.val / 4, t.val % 4] ∧ t.val < 8 :=
  (by decide +kernel : ∀ t : Fin grid0.N, _)

/-- The fill of the front rows is zero. -/
theorem fill_zero (i : S_.Idx) : ((sitofp .f32 (constantI S_ 32 0#32) : FVec Ideal S_ .f32) i : EReal) = 0 := sitofp_zero

/-- A matrix's columns in four parts. -/
theorem split_eq (w : FVec Ideal S1024x2048 .f32) :
    (truncf (F := Ideal) .bf16 (transpose S4x1024x512 [1, 0, 2] (shapeCast S1024x4x512 w shapeCasts_S1024x2048_S1024x4x512)
      transposes_S1024x4x512_S4x1024x512_1_0_2) bitsLt_bf16_f32 : FVec Ideal S4x1024x512 .bf16) = parts 512 w .bf16 := by
  funext i
  refine Eq.trans ?_ (dif_pos (show (i 0).val * 512 + (i 2).val < 2048 from by
    have h1 := (i 0).isLt; have h2 := (i 2).isLt; dsimp at h1 h2; omega)).symm
  pointwise

/-- What the region finds in its row operands: the rows behind rows of zeros. -/
theorem entries (c : Dev nD) : V m c main_v1 = frontA (m ((c : Thread nD τ).loc main_arg0)) .bf16
    ∧ V m c main_v3 = frontA (m ((c : Thread nD τ).loc main_arg1)) .bf16
    ∧ V m c main_v11 = frontA (m ((c : Thread nD τ).loc main_arg4)) .bf16 := by
  refine ⟨?_, ?_, ?_⟩ <;> unfold V <;>
    simp only [hostOps0, hostOps0_1, hostOps0_2, hostOps0_3, hostOps0_4, hostOps0_5, hostOps0_6,
      List.flatten_cons, List.flatten_nil, List.append_nil, List.cons_append, List.nil_append] <;> after_results
  · exact pad_front (m ((c : Thread nD τ).loc main_arg0)) pads_S2064x1024_S2176x1024_11200_000 h_S_ _ fill_zero
  · exact pad_front (m ((c : Thread nD τ).loc main_arg1)) pads_S2064x1024_S2176x1024_11200_000 h_S_ _ fill_zero
  · exact pad_front (m ((c : Thread nD τ).loc main_arg4)) pads_S2064x4096_S2176x4096_11200_000 h_S_ _ fill_zero

/-- What it finds in the weights' operands: the columns in four parts. -/
theorem weights (c : Dev nD) : V m c main_v6 = parts 512 (m ((c : Thread nD τ).loc main_arg2)) .bf16
    ∧ V m c main_v9 = parts 512 (m ((c : Thread nD τ).loc main_arg3)) .bf16 := by
  refine ⟨?_, ?_⟩ <;> unfold V <;>
    simp only [hostOps0, hostOps0_1, hostOps0_2, hostOps0_3, hostOps0_4, hostOps0_5, hostOps0_6,
      List.flatten_cons, List.flatten_nil, List.append_nil, List.cons_append, List.nil_append] <;> after_results
  · exact split_eq (m ((c : Thread nD τ).loc main_arg2))
  · exact split_eq (m ((c : Thread nD τ).loc main_arg3))

/-- The pooled rows. -/
theorem blk0 (c : Dev nD) (t : Fin cfg0.N) (r : Fin 1088) (k : Fin 1024) :
    ((iblk m c 0 t : FVec Ideal S1088x1024 .bf16) (ix2 r k) : EReal) = front (m ((c : Thread nD τ).loc main_arg0)) (t.val / 4 * 1088 + r.val) k := by
  have h0 := (idx t).1
  show V m c main_v1 (((cfg0.win 0).blk t).view.emb (ix2 r k)) = _
  rw [(entries m c).1]
  exact front_congr _ (by blk_simp [h0]) (by blk_simp [h0])

/-- The convolution's rows. -/
theorem blk1 (c : Dev nD) (t : Fin cfg0.N) (r : Fin 1088) (k : Fin 1024) :
    ((iblk m c 1 t : FVec Ideal S1088x1024 .bf16) (ix2 r k) : EReal) = front (m ((c : Thread nD τ).loc main_arg1)) (t.val / 4 * 1088 + r.val) k := by
  have h0 := (idx t).2.1
  show V m c main_v3 (((cfg0.win 1).blk t).view.emb (ix2 r k)) = _
  rw [(entries m c).2.1]
  exact front_congr _ (by blk_simp [h0]) (by blk_simp [h0])

/-- The first weights' columns. -/
theorem blk2 (c : Dev nD) (t : Fin cfg0.N) (z : Fin 1) (k : Fin 1024) (j : Fin 512) :
    ((iblk m c 2 t : FVec Ideal S1x1024x512 .bf16) (ix3 z k j) : EReal)
      = column (m ((c : Thread nD τ).loc main_arg2)) k (t.val % 4 * 512 + j.val) := by
  have h0 := (idx t).2.2.1
  show V m c main_v6 (((cfg0.win 2).blk t).view.emb (ix3 z k j)) = _
  rw [(weights m c).1]
  have e0 : ((((cfg0.win 2).blk t).view.emb (ix3 z k j)) 0).val = t.val % 4 := by blk_simp [h0]
  have e1 : ((((cfg0.win 2).blk t).view.emb (ix3 z k j)) 1) = k := Fin.ext (by blk_simp [h0])
  have e2 : ((((cfg0.win 2).blk t).view.emb (ix3 z k j)) 2).val = j.val := by blk_simp [h0]
  exact congrArg₂ (column (m ((c : Thread nD τ).loc main_arg2))) e1 (by rw [e0, e2])

/-- The second weights' columns. -/
theorem blk3 (c : Dev nD) (t : Fin cfg0.N) (z : Fin 1) (k : Fin 1024) (j : Fin 512) :
    ((iblk m c 3 t : FVec Ideal S1x1024x512 .bf16) (ix3 z k j) : EReal)
      = column (m ((c : Thread nD τ).loc main_arg3)) k (t.val % 4 * 512 + j.val) := by
  have h0 := (idx t).2.2.2.1
  show V m c main_v9 (((cfg0.win 3).blk t).view.emb (ix3 z k j)) = _
  rw [(weights m c).2]
  have e0 : ((((cfg0.win 3).blk t).view.emb (ix3 z k j)) 0).val = t.val % 4 := by blk_simp [h0]
  have e1 : ((((cfg0.win 3).blk t).view.emb (ix3 z k j)) 1) = k := Fin.ext (by blk_simp [h0])
  have e2 : ((((cfg0.win 3).blk t).view.emb (ix3 z k j)) 2).val = j.val := by blk_simp [h0]
  exact congrArg₂ (column (m ((c : Thread nD τ).loc main_arg3))) e1 (by rw [e0, e2])

/-- The first gate. -/
theorem blk4 (c : Dev nD) (t : Fin cfg0.N) (r : Fin 1088) (j : Fin 512) :
    ((iblk m c 4 t : FVec Ideal S1088x512 .bf16) (ix2 r j) : EReal)
      = front (m ((c : Thread nD τ).loc main_arg4)) (t.val / 4 * 1088 + r.val) (⟨t.val % 4 * 512 + j.val, by omega⟩ : Fin 4096) := by
  have h0 := (idx t).2.2.2.2.1
  show V m c main_v11 (((cfg0.win 4).blk t).view.emb (ix2 r j)) = _
  rw [(entries m c).2.2]
  exact front_congr _ (by blk_simp [h0]) (by blk_simp [h0])

/-- The second gate. -/
theorem blk5 (c : Dev nD) (t : Fin cfg0.N) (r : Fin 1088) (j : Fin 512) :
    ((iblk m c 5 t : FVec Ideal S1088x512 .bf16) (ix2 r j) : EReal)
      = front (m ((c : Thread nD τ).loc main_arg4)) (t.val / 4 * 1088 + r.val) (⟨2048 + (t.val % 4 * 512 + j.val), by omega⟩ : Fin 4096) := by
  have h0 := (idx t).2.2.2.2.2.1
  show V m c main_v11 (((cfg0.win 5).blk t).view.emb (ix2 r j)) = _
  rw [(entries m c).2.2]
  exact front_congr _ (by blk_simp [h0]) (by blk_simp [h0]; show _ = 2048 + (t.val % 4 * 512 + j.val); omega)

/-- What a point computes of the first product. -/
theorem tile_a (c : Dev nD) (t : Fin cfg0.N) (r : Fin 1088) (j : Fin 512) :
    (k0_pay1 (F := Ideal) (iblk m c 0 t) (iblk m c 2 t) (ix2 r j) : EReal)
      = product (m ((c : Thread nD τ).loc main_arg0)) (m ((c : Thread nD τ).loc main_arg2)) (t.val / 4 * 1088 + r.val) (t.val % 4 * 512 + j.val) := by
  refine Eq.trans ?_ (Finset.sum_congr rfl fun k _ => congrArg₂ (· * ·) (blk0 m c t r k) (blk2 m c t 0 k j))
  generalize iblk m c 0 t = x, iblk m c 2 t = w
  pointwise [k0_pay1]

/-- What it computes of the second product. -/
theorem tile_b (c : Dev nD) (t : Fin cfg0.N) (r : Fin 1088) (j : Fin 512) :
    (k0_pay2 (F := Ideal) (iblk m c 1 t) (iblk m c 3 t) (ix2 r j) : EReal)
      = product (m ((c : Thread nD τ).loc main_arg1)) (m ((c : Thread nD τ).loc main_arg3)) (t.val / 4 * 1088 + r.val) (t.val % 4 * 512 + j.val) := by
  refine Eq.trans ?_ (Finset.sum_congr rfl fun k _ => congrArg₂ (· * ·) (blk1 m c t r k) (blk3 m c t 0 k j))
  generalize iblk m c 1 t = x, iblk m c 3 t = w
  pointwise [k0_pay2]

/-- The gated sum of the two products. -/
theorem pay5 (x0 : FVec Ideal S1088x1024 .bf16) (x2 : FVec Ideal S1x1024x512 .bf16) (x1 : FVec Ideal S1088x1024 .bf16)
    (x3 : FVec Ideal S1x1024x512 .bf16) (g h : FVec Ideal S1088x512 .bf16) (r : Fin 1088) (j : Fin 512) :
    (k0_pay5 (F := Ideal) x0 x2 x1 x3 g h (ix2 r j) : EReal)
      = Ideal.logistic (g (ix2 r j)) * k0_pay1 (F := Ideal) x0 x2 (ix2 r j) + Ideal.logistic (h (ix2 r j)) * k0_pay2 (F := Ideal) x1 x3 (ix2 r j) := by
  generalize ey : k0_pay1 (F := Ideal) x0 x2 = y
  generalize ez : k0_pay2 (F := Ideal) x1 x3 = z
  pointwise [k0_pay5, ey, ez]

/-- The first result at row `R`, column `q`. -/
def mixed (a s : FVec Ideal S2064x1024 .f32) (wa ws : FVec Ideal S1024x2048 .f32) (G : FVec Ideal S2064x4096 .f32) (R : ℕ) (q : Fin 2048) : EReal :=
  Ideal.logistic (front G R (⟨q.val, by omega⟩ : Fin 4096)) * product a wa R q.val
    + Ideal.logistic (front G R (⟨2048 + q.val, by omega⟩ : Fin 4096)) * product s ws R q.val

open Cert.MixRefIdeal.Read in
/-- The reference's products before they are moved behind zeros. -/
theorem ref_row (x : FVec Ideal S2064x1024 .f32) (w : FVec Ideal S1024x2048 .f32) (r : Fin 2064) (j : Fin 2048) :
    (val_main_v2 (F := Ideal) x w (ix2 r j) : EReal) = ∑ k : Fin 1024, x (ix2 r k) * w (ix2 k j) := by
  pointwise [val_main_v2]

open Cert.MixRefIdeal.Read in
/-- The same of the second. -/
theorem ref_row' (x : FVec Ideal S2064x1024 .f32) (w : FVec Ideal S1024x2048 .f32) (r : Fin 2064) (j : Fin 2048) :
    (val_main_v3 (F := Ideal) x w (ix2 r j) : EReal) = ∑ k : Fin 1024, x (ix2 r k) * w (ix2 k j) := by
  pointwise [val_main_v3]

open Cert.MixRefIdeal.Read in
/-- The reference's gated sum before it is moved behind zeros. -/
theorem ref_sum (a s : FVec Ideal S2064x1024 .f32) (wa ws : FVec Ideal S1024x2048 .f32) (G : FVec Ideal S2064x4096 .f32) (r : Fin 2064) (j : Fin 2048) :
    (val_main_v18 (F := Ideal) a s wa ws G (ix2 r j) : EReal)
      = Ideal.logistic (G (ix2 r ⟨j.val, by omega⟩)) * val_main_v2 (F := Ideal) a wa (ix2 r j)
        + Ideal.logistic (G (ix2 r ⟨2048 + j.val, by omega⟩)) * val_main_v3 (F := Ideal) s ws (ix2 r j) := by
  generalize ey : val_main_v2 (F := Ideal) a wa = y
  generalize ez : val_main_v3 (F := Ideal) s ws = z
  pointwise [val_main_v18, val_main_v17, val_main_v16, val_main_v15, val_main_v14, val_main_v13, val_main_v12, val_main_v11, val_main_v10,
    val_main_v9, val_main_v8, val_main_v7, val_main_v6, val_main_v5, val_main_v4, val_main_v1, val_main_v0, val_main_cst, val_main_cst_0,
    val_main_cst_1, val_main_cst_2, ey, ez]
  rfl

open Cert.MixRefIdeal.Read in
/-- The reference's first result. -/
theorem ref_m (a s : FVec Ideal S2064x1024 .f32) (wa ws : FVec Ideal S1024x2048 .f32) (G : FVec Ideal S2064x4096 .f32) (R : Fin 2176) (q : Fin 2048) :
    (val_main_v20 (F := Ideal) a s wa ws G (ix2 R q) : EReal) = mixed a s wa ws G R.val q := by
  have e : (val_main_v20 (F := Ideal) a s wa ws G (ix2 R q) : EReal) = front (val_main_v18 (F := Ideal) a s wa ws G) R.val q := by
    pointwise [val_main_v20, val_main_v19, val_main_call0_v0, val_main_c, front, sitofp_zero]
  refine e.trans ?_
  unfold mixed
  by_cases h : 112 ≤ R.val ∧ R.val - 112 < 2064
  · rw [← product_row a wa _ (ref_row a wa) q h, ← product_row s ws _ (ref_row' s ws) q h, front, dif_pos h, front, dif_pos h, front, dif_pos h]
    exact ref_sum a s wa ws G _ q
  · rw [front, dif_neg h, product_zero a wa _ h, product_zero s ws _ h, mul_zero, mul_zero, add_zero]

open Cert.MixRefIdeal.Read in
/-- The reference's second result. -/
theorem ref_ya (a : FVec Ideal S2064x1024 .f32) (wa : FVec Ideal S1024x2048 .f32) (i : S2176x2048.Idx) :
    (val_main_v22 (F := Ideal) a wa i : EReal) = product a wa (i 0).val (i 1).val := by
  have e : (val_main_v22 (F := Ideal) a wa i : EReal) = front (val_main_v2 (F := Ideal) a wa) (i 0).val (i 1) := by
    pointwise [val_main_v22, val_main_v21, val_main_call1_v0, val_main_c_3, front, sitofp_zero]
  exact e.trans (front_product a wa _ (ref_row a wa) _ _)

open Cert.MixRefIdeal.Read in
/-- The reference's third result. -/
theorem ref_yb (s : FVec Ideal S2064x1024 .f32) (ws : FVec Ideal S1024x2048 .f32) (i : S2176x2048.Idx) :
    (val_main_v24 (F := Ideal) s ws i : EReal) = product s ws (i 0).val (i 1).val := by
  have e : (val_main_v24 (F := Ideal) s ws i : EReal) = front (val_main_v3 (F := Ideal) s ws) (i 0).val (i 1) := by
    pointwise [val_main_v24, val_main_v23, val_main_call2_v0, val_main_c_4, front, sitofp_zero]
  exact e.trans (front_product s ws _ (ref_row' s ws) _ _)

open Cert.MixRefIdeal.Read in
/-- What a grid point stores of the gated sum, at a place of its block, is the reference's value at that place of the array. -/
theorem point_m (c : Dev nD) (t : Fin cfg0.N) (y : S1088x512.Idx) :
    k0_pay5 (iblk m c 0 t) (iblk m c 2 t) (iblk m c 1 t) (iblk m c 3 t) (iblk m c 4 t) (iblk m c 5 t) y
      = val_main_v20 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 6).blk t).view.emb y) := by
  have h0 := (idx t).2.2.2.2.2.2.1
  obtain ⟨r, j, rfl⟩ : ∃ (r : Fin 1088) (j : Fin 512), y = ix2 r j := ⟨y 0, y 1, ext2 rfl rfl⟩
  have e0 : ((((cfg0.win 6).blk t).view.emb (ix2 r j)) 0).val = t.val / 4 * 1088 + r.val := by blk_simp [h0]
  have e1 : ((((cfg0.win 6).blk t).view.emb (ix2 r j)) 1) = (⟨t.val % 4 * 512 + j.val, by omega⟩ : Fin 2048) := Fin.ext (by blk_simp [h0])
  generalize ((cfg0.win 6).blk t).view.emb (ix2 r j) = e at e0 e1 ⊢
  obtain ⟨R, q, rfl⟩ : ∃ (R : Fin 2176) (q : Fin 2048), e = ix2 R q := ⟨e 0, e 1, ext2 rfl rfl⟩
  refine Eq.trans ?_ (ref_m _ _ _ _ _ R q).symm
  rw [show R.val = _ from e0, show q = _ from e1]
  refine (pay5 _ _ _ _ _ _ r j).trans ?_
  rw [tile_a m c t r j, tile_b m c t r j, blk4 m c t r j, blk5 m c t r j]
  rfl

open Cert.MixRefIdeal.Read in
/-- The same of the first product. -/
theorem point_a (c : Dev nD) (t : Fin cfg0.N) (y : S1088x512.Idx) : k0_pay3 (iblk m c 0 t) (iblk m c 2 t) y
    = val_main_v22 (F := Ideal) (m ((c : Thread nD τ).loc main_arg0)) (m ((c : Thread nD τ).loc main_arg2)) (((cfg0.win 7).blk t).view.emb y) := by
  have h0 := (idx t).2.2.2.2.2.2.2.1
  obtain ⟨r, j, rfl⟩ : ∃ (r : Fin 1088) (j : Fin 512), y = ix2 r j := ⟨y 0, y 1, ext2 rfl rfl⟩
  have e0 : ((((cfg0.win 7).blk t).view.emb (ix2 r j)) 0).val = t.val / 4 * 1088 + r.val := by blk_simp [h0]
  have e1 : ((((cfg0.win 7).blk t).view.emb (ix2 r j)) 1).val = t.val % 4 * 512 + j.val := by blk_simp [h0]
  generalize ((cfg0.win 7).blk t).view.emb (ix2 r j) = e at e0 e1 ⊢
  refine Eq.trans ?_ (ref_ya _ _ e).symm
  rw [e0, e1]
  exact tile_a m c t r j

open Cert.MixRefIdeal.Read in
/-- The same of the second product. -/
theorem point_b (c : Dev nD) (t : Fin cfg0.N) (y : S1088x512.Idx) : k0_pay4 (iblk m c 1 t) (iblk m c 3 t) y
    = val_main_v24 (F := Ideal) (m ((c : Thread nD τ).loc main_arg1)) (m ((c : Thread nD τ).loc main_arg3)) (((cfg0.win 8).blk t).view.emb y) := by
  have h0 := (idx t).2.2.2.2.2.2.2.2.1
  obtain ⟨r, j, rfl⟩ : ∃ (r : Fin 1088) (j : Fin 512), y = ix2 r j := ⟨y 0, y 1, ext2 rfl rfl⟩
  have e0 : ((((cfg0.win 8).blk t).view.emb (ix2 r j)) 0).val = t.val / 4 * 1088 + r.val := by blk_simp [h0]
  have e1 : ((((cfg0.win 8).blk t).view.emb (ix2 r j)) 1).val = t.val % 4 * 512 + j.val := by blk_simp [h0]
  generalize ((cfg0.win 8).blk t).view.emb (ix2 r j) = e at e0 e1 ⊢
  refine Eq.trans ?_ (ref_yb _ _ e).symm
  rw [e0, e1]
  exact tile_b m c t r j

open Cert.MixRefIdeal.Read in
/-- The three result arrays after the last grid point are the reference's. -/
theorem final_m (c : Dev nD) : (dats m 0 c).arrAt 6 (cfgs 0).N
    = val_main_v20 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp; rw [after0_6]; frame_out; exact point_m m c t y

open Cert.MixRefIdeal.Read in
/-- The second. -/
theorem final_a (c : Dev nD) : (dats m 0 c).arrAt 7 (cfgs 0).N
    = val_main_v22 (F := Ideal) (m ((c : Thread nD τ).loc main_arg0)) (m ((c : Thread nD τ).loc main_arg2)) := by
  refine (dats m 0 c).arrAt_eq_of_covers 7 _ (by decide +kernel) fun t _ y => ?_
  blk_simp; rw [after0_7]; frame_out; exact point_a m c t y

open Cert.MixRefIdeal.Read in
/-- The third. -/
theorem final_b (c : Dev nD) : (dats m 0 c).arrAt 8 (cfgs 0).N
    = val_main_v24 (F := Ideal) (m ((c : Thread nD τ).loc main_arg1)) (m ((c : Thread nD τ).loc main_arg3)) := by
  refine (dats m 0 c).arrAt_eq_of_covers 8 _ (by decide +kernel) fun t _ y => ?_
  blk_simp; rw [after0_8]; frame_out; exact point_b m c t y

/-- The reference runs to its end with every counter at zero. -/
theorem frame_ref : Cert.quiescent_MixRefIdeal := fun m ρ _ =>
  (θ_run Cert.MixRefIdeal.defs _ _).mono
    (fun r h => ⟨fun c => (h c).2.2.2, sem_eq_zero_of_no_sems (by decide) r.2⟩) (Cert.MixRefIdeal.Value.run (F := Ideal) m ρ)

/-- Over the reals the call's three results are the reference's. -/
theorem algebraic : Cert.algebraic_MixIdeal_MixRefIdeal := by
  pair_intro
  · run_from Cert.MixIdeal.Gen.run_main m g
    exacts [V_main_arg0 m c, V_main_arg1 m c, V_main_arg2 m c, V_main_arg3 m c, V_main_arg4 m c]
  · run_from Cert.MixRefIdeal.Value.run m' g'
    · exact (final_m m c).symm
    · exact (final_a m c).symm
    · exact (final_b m c).symm

/-- Everything that is claimed of this call. -/
theorem claims : Cert.quiescent_Mix ∧ Cert.quiescent_MixIdeal ∧ Cert.quiescent_MixRefIdeal
    ∧ Cert.preserves_Mix_MixIdeal ∧ Cert.algebraic_MixIdeal_MixRefIdeal :=
  ⟨fun m ρ _ => Cert.Mix.Gen.frame m ρ, fun m ρ _ => Cert.MixIdeal.Gen.frame m ρ, frame_ref, trivial, algebraic⟩

end Cert.MixIdeal.Grad

end
-- ==== Proof.TokenNorm.lean ====
/-
  The first norm of the tokens: the tokens themselves and their normalised rows are what the reference's lines compute.
-/
module

public import proofs.«01_k».proof.Defs
public import proofs.«01_k».proof.Proof.Gen.TokenNorm.Frame
public import proofs.«01_k».proof.Proof.Gen.TokenNormIdeal.Frame
public import proofs.«01_k».proof.Proof.Gen.TokenNormRefIdeal.Run
public import proofs.«01_k».proof.Proof.Gen.TokenNormRefIdeal.Read
public import proofs.«01_k».proof.Proof.NormRows

@[expose] public section

set_option maxRecDepth 16384

noncomputable section

namespace Cert.TokenNormIdeal.Grad

open Idealize.ShloMosaic Idealize.ShloMosaic.TcCoe Idealize.SL.Sem
open Idealize.ShloMosaic.Pipeline (Dat)
open Cert.TokenNormIdeal Cert.TokenNormIdeal.Gen Cert.Common Cert.NormRows

variable (m : (ℓ : Loc nD τ sig) → Buf (Elt Ideal) ℓ)

/-- The blocks each grid point reads and writes: tile `t` of the tokens goes to tile `t + 1`. -/
theorem idx : ∀ t : Fin cfg0.N, win0_0.index t = ![t.val, 0] ∧ win0_1.index t = ![0, 0] ∧ win0_2.index t = ![t.val + 1, 0]
    ∧ win0_3.index t = ![t.val + 1, 0] ∧ t.val < 16 :=
  (by decide +kernel : ∀ t : Fin grid0.N, _)

/-- What the region finds of the gain: an array of one row. -/
theorem entries (c : Dev nD) : V m c main_v0 = broadcastInDim S1x2048 ![1] bcast_S2048_S1x2048_1 (m ((c : Thread nD τ).loc main_arg1)) := by
  unfold V V0
  simp only [hostOps0, List.flatten_cons, List.flatten_nil, List.append_nil, List.cons_append, List.nil_append]
  after_results

/-- The tile of the tokens. -/
theorem blk0 (c : Dev nD) (t : Fin cfg0.N) (r : Fin 128) (k : Fin 2048) :
    ((iblk m c 0 t : FVec Ideal S128x2048 .f32) (ix2 r k) : EReal)
      = (m ((c : Thread nD τ).loc main_arg0) : FVec Ideal S2048x2048 .f32) (ix2 ⟨t.val * 128 + r.val, by have := (idx t).2.2.2.2; omega⟩ k) := by
  have h0 := (idx t).1
  show V m c main_arg0 (((cfg0.win 0).blk t).view.emb (ix2 r k)) = _
  rw [V_main_arg0 m c]
  exact congrArg (m ((c : Thread nD τ).loc main_arg0)) (ext2 (by blk_simp [h0]) (by blk_simp [h0]))

/-- An array of one row reads its one-dimensional origin. -/
theorem row_apply (x : FVec Ideal S2048 .f32) (z : Fin 1) (k : Fin 2048) :
    (broadcastInDim S1x2048 ![1] bcast_S2048_S1x2048_1 x : FVec Ideal S1x2048 .f32) (ix2 z k) = x (ix1 k) := by pointwise

/-- The gain. -/
theorem blk1 (c : Dev nD) (t : Fin cfg0.N) (z : Fin 1) (k : Fin 2048) :
    ((iblk m c 1 t : FVec Ideal S1x2048 .f32) (ix2 z k) : EReal) = (m ((c : Thread nD τ).loc main_arg1) : FVec Ideal S2048 .f32) (ix1 k) := by
  have h0 := (idx t).2.1
  show V m c main_v0 (((cfg0.win 1).blk t).view.emb (ix2 z k)) = _
  rw [entries m c, show ((cfg0.win 1).blk t).view.emb (ix2 z k) = ix2 z k from ext2 (by blk_simp [h0]) (by blk_simp [h0])]
  exact row_apply _ z k

/-- The normalised rows that a point stores. -/
theorem pay1 (x : FVec Ideal S128x2048 .f32) (g : FVec Ideal S1x2048 .f32) (r : Fin 128) (j : Fin 2048) :
    (k0_pay1 (F := Ideal) x g (ix2 r j) : EReal) = rms (fun k => x (ix2 r k)) (fun k => g (ix2 0 k)) j := by
  pointwise [k0_pay1]
  rfl

open Cert.TokenNormRefIdeal.Read in
/-- The reference's normalised rows. -/
theorem ref_u (x : FVec Ideal S2048x2048 .f32) (g : FVec Ideal S2048 .f32) (r j : Fin 2048) :
    (val_main_v13 (F := Ideal) x g (ix2 r j) : EReal) = rms (fun k => x (ix2 r k)) (fun k => g (ix1 k)) j := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The first array behind its first tile, which no point writes: the tokens. -/
theorem arr_h (c : Dev nD) (r j : Fin 2048) : ((dats m 0 c).arrAt 2 (cfgs 0).N : FVec Ideal S2176x2048 .f32) (ix2 ⟨128 + r.val, by omega⟩ j)
    = (m ((c : Thread nD τ).loc main_arg0) : FVec Ideal S2048x2048 .f32) (ix2 r j) := by
  refine ((dats m 0 c).arrAt_apply_of_coversWhere 2 (fun i : S2176x2048.Idx =>
    (if h : (i 0).val - 128 < 2048 then (m ((c : Thread nD τ).loc main_arg0) : FVec Ideal S2048x2048 .f32) (ix2 ⟨(i 0).val - 128, h⟩ (i 1)) else 0 : EReal))
    (P := fun i : S2176x2048.Idx => 1 * 128 ≤ (i 0).val) (fun β => 1 ≤ β 0) (by decide +kernel) (fun t _ y => ?_)
    (fun j => by blk_simp [Pipeline.Window.cell_apply]; omega) _).trans ?_
  · have ht := (idx t).2.2.2.2
    have h0 := (idx t).2.2.1
    obtain ⟨p, q, rfl⟩ : ∃ (p : Fin 128) (q : Fin 2048), y = ix2 p q := ⟨y 0, y 1, ext2 rfl rfl⟩
    have e0 : win0_2.index t 0 = t.val + 1 := congrFun h0 0
    have e1 : ((((cfg0.win 2).blk t).view.emb (ix2 p q)) 1).val = q.val := by blk_simp [h0]
    blk_simp; rw [after0_2]; frame_out
    refine (blk0 m c t p q).trans (Eq.trans ?_ (dif_pos (by rw [e0]; omega)).symm)
    exact congrArg (m ((c : Thread nD τ).loc main_arg0)) (ext2 (by show t.val * 128 + p.val = win0_2.index t 0 * 128 + p.val - 128; rw [e0]; omega) e1.symm)
  · rw [if_pos (by show 1 * 128 ≤ 128 + r.val; omega), dif_pos (by show 128 + r.val - 128 < 2048; omega)]
    exact congrArg (m ((c : Thread nD τ).loc main_arg0)) (ext2 (by show 128 + r.val - 128 = r.val; omega) rfl)

/-- The second array there: the normalised rows. -/
theorem arr_u (c : Dev nD) (r j : Fin 2048) : ((dats m 0 c).arrAt 3 (cfgs 0).N : FVec Ideal S2176x2048 .bf16) (ix2 ⟨128 + r.val, by omega⟩ j)
    = rms (fun k => (m ((c : Thread nD τ).loc main_arg0) : FVec Ideal S2048x2048 .f32) (ix2 r k))
        (fun k => (m ((c : Thread nD τ).loc main_arg1) : FVec Ideal S2048 .f32) (ix1 k)) j := by
  refine ((dats m 0 c).arrAt_apply_of_coversWhere 3 (fun i : S2176x2048.Idx =>
    (if h : (i 0).val - 128 < 2048 then rms (fun k => (m ((c : Thread nD τ).loc main_arg0) : FVec Ideal S2048x2048 .f32) (ix2 ⟨(i 0).val - 128, h⟩ k))
        (fun k => (m ((c : Thread nD τ).loc main_arg1) : FVec Ideal S2048 .f32) (ix1 k)) (i 1) else 0 : EReal))
    (P := fun i : S2176x2048.Idx => 1 * 128 ≤ (i 0).val) (fun β => 1 ≤ β 0) (by decide +kernel) (fun t _ y => ?_)
    (fun j => by blk_simp [Pipeline.Window.cell_apply]; omega) _).trans ?_
  · have ht := (idx t).2.2.2.2
    have h0 := (idx t).2.2.2.1
    obtain ⟨p, q, rfl⟩ : ∃ (p : Fin 128) (q : Fin 2048), y = ix2 p q := ⟨y 0, y 1, ext2 rfl rfl⟩
    have e0 : win0_3.index t 0 = t.val + 1 := congrFun h0 0
    have e1 : ((((cfg0.win 3).blk t).view.emb (ix2 p q)) 1) = q := Fin.ext (by blk_simp [h0])
    blk_simp; rw [after0_3]; frame_out
    refine (pay1 _ _ p q).trans (Eq.trans ?_ (dif_pos (by rw [e0]; omega)).symm)
    refine Eq.trans ?_ (congrArg (rms _ _) e1.symm)
    refine rms_congr (fun k => (blk0 m c t p k).trans ?_) (fun k => blk1 m c t 0 k) q
    exact congrArg (m ((c : Thread nD τ).loc main_arg0)) (ext2 (by show t.val * 128 + p.val = win0_3.index t 0 * 128 + p.val - 128; rw [e0]; omega) rfl)
  · rw [if_pos (by show 1 * 128 ≤ 128 + r.val; omega), dif_pos (by show 128 + r.val - 128 < 2048; omega)]
    refine rms_congr (fun k => ?_) (fun _ => rfl) j
    exact congrArg (m ((c : Thread nD τ).loc main_arg0)) (ext2 (by show 128 + r.val - 128 = r.val; omega) rfl)

/-- The two results: the rows behind the first tile. -/
theorem results (c : Dev nD) :
    Pipeline.afterTail₀ cfgs (dats m) 0 (V0 m) [hostOps1] c main_v2
        = extractStridedSlice S2048x2048 ![128, 0] ((dats m 0 c).arrAt 2 (cfgs 0).N : FVec Ideal S2176x2048 .f32) slices_S2176x2048_S2048x2048_128_0
    ∧ Pipeline.afterTail₀ cfgs (dats m) 0 (V0 m) [hostOps1] c main_v3
        = extractStridedSlice S2048x2048 ![128, 0] ((dats m 0 c).arrAt 3 (cfgs 0).N : FVec Ideal S2176x2048 .bf16) slices_S2176x2048_S2048x2048_128_0 := by
  refine ⟨?_, ?_⟩ <;> unfold Pipeline.afterTail₀ <;>
    simp only [hostOps1, List.flatten_cons, List.flatten_nil, List.append_nil, List.cons_append, List.nil_append] <;> after_results
  · exact congrArg (extractStridedSlice S2048x2048 ![128, 0] · slices_S2176x2048_S2048x2048_128_0)
      (Pipeline.withArrays_arr spec0 launch0.win.arr_inj c (V0 m c) _ 2)
  · exact congrArg (extractStridedSlice S2048x2048 ![128, 0] · slices_S2176x2048_S2048x2048_128_0)
      (Pipeline.withArrays_arr spec0 launch0.win.arr_inj c (V0 m c) _ 3)

/-- The first result is the tokens. -/
theorem final_h (c : Dev nD) : Pipeline.afterTail₀ cfgs (dats m) 0 (V0 m) [hostOps1] c main_v2 = m ((c : Thread nD τ).loc main_arg0) := by
  rw [(results m c).1]
  funext (i : S2048x2048.Idx)
  obtain ⟨r, j, rfl⟩ : ∃ (r j : Fin 2048), i = ix2 r j := ⟨i 0, i 1, ext2 rfl rfl⟩
  refine Eq.trans ?_ (arr_h m c r j)
  generalize (dats m 0 c).arrAt 2 (cfgs 0).N = z
  pointwise

open Cert.TokenNormRefIdeal.Read in
/-- The second result is the reference's norm of them. -/
theorem final_u (c : Dev nD) : Pipeline.afterTail₀ cfgs (dats m) 0 (V0 m) [hostOps1] c main_v3
    = val_main_v13 (F := Ideal) (m ((c : Thread nD τ).loc main_arg0)) (m ((c : Thread nD τ).loc main_arg1)) := by
  rw [(results m c).2]
  funext (i : S2048x2048.Idx)
  obtain ⟨r, j, rfl⟩ : ∃ (r j : Fin 2048), i = ix2 r j := ⟨i 0, i 1, ext2 rfl rfl⟩
  refine Eq.trans ?_ ((arr_u m c r j).trans (ref_u _ _ r j).symm)
  generalize (dats m 0 c).arrAt 3 (cfgs 0).N = z
  pointwise

/-- The reference runs to its end with every counter at zero. -/
theorem frame_ref : Cert.quiescent_TokenNormRefIdeal := fun m ρ _ =>
  (θ_run Cert.TokenNormRefIdeal.defs _ _).mono
    (fun r h => ⟨fun c => (h c).2.2, sem_eq_zero_of_no_sems (by decide) r.2⟩) (Cert.TokenNormRefIdeal.Value.run (F := Ideal) m ρ)

/-- Over the reals the call's two results are the reference's. -/
theorem algebraic : Cert.algebraic_TokenNormIdeal_TokenNormRefIdeal := by
  pair_intro
  · run_from Cert.TokenNormIdeal.Gen.run_main m g
    exact W_main_arg1 m (dats m) c
  · run_from Cert.TokenNormRefIdeal.Value.run m' g'
    · exact (final_h m c).symm
    · exact (final_u m c).symm

/-- Everything that is claimed of this call. -/
theorem claims : Cert.quiescent_TokenNorm ∧ Cert.quiescent_TokenNormIdeal ∧ Cert.quiescent_TokenNormRefIdeal
    ∧ Cert.preserves_TokenNorm_TokenNormIdeal ∧ Cert.algebraic_TokenNormIdeal_TokenNormRefIdeal :=
  ⟨fun m ρ _ => Cert.TokenNorm.Gen.frame m ρ, fun m ρ _ => Cert.TokenNormIdeal.Gen.frame m ρ, frame_ref, trivial, algebraic⟩

end Cert.TokenNormIdeal.Grad

end
-- ==== Proof.PooledRef.lean ====
/-
  The pooling's forward pass as the reference computes it, read at reals: running sums, their lagged differences over the
  four windows, the deviation from the means, and the linear map with its scale.
-/
module

public import proofs.«01_k».proof.Proof.PoolSums
public import proofs.«01_k».proof.Proof.Gen.PooledRefIdeal.Read

@[expose] public section

set_option maxRecDepth 16384

noncomputable section

namespace Cert.PooledRefIdeal.Grad

open Cert.PooledRefIdeal Cert.PooledRefIdeal.Gen Cert.PooledRefIdeal.Read Cert.RealKit Cert.Common
open Cert.PoolSums (past tall foldl_add)
open Idealize.ShloMosaic Idealize.ShloMosaic.TcCoe

/-- Column `e` of group `g`. -/
def col (g : Fin 4) (e : Fin 256) : Fin 1024 := ⟨g.val * 256 + e.val, by omega⟩

/-- The sum of the rows in front of row `R`. -/
def ahead {N : ℕ} (f : Fin N → ℝ) (R : ℕ) : ℝ := ∑ n ∈ Finset.range R, past f n

/-- A sum whose terms start at position `N - 1 - l` is the sum of the first `l + 1` of what it starts with. -/
theorem started {M : ℕ} (f : ℕ → ℝ) (l : ℕ) (hl : l ≤ M) :
    ∑ n ∈ Finset.range (M + 1), (if M ≤ l + n then f (l + n - M) else 0) = ∑ n ∈ Finset.range (l + 1), f n := by
  rw [show M + 1 = (M - l) + (l + 1) by omega, Finset.sum_range_add, Finset.sum_eq_zero, zero_add]
  · refine Finset.sum_congr rfl fun n _ => ?_
    rw [if_pos (by omega)]
    exact congrArg f (by omega)
  · intro n hn
    have := Finset.mem_range.mp hn
    exact if_neg (by omega)

/-- The running sum over the rows, over the reals. -/
theorem prefix_sum {N A B M : ℕ} (hM : M + 1 = N) (hi : Fin 3 → ℕ) (x : FVec Ideal ⟨3, ![N, A, B]⟩ .f32) (f : Fin N → Fin A → Fin B → ℝ)
    (hx : ∀ l g k, (x (ix3 l g k) : EReal) = (f l g k : EReal)) (init : FVec Ideal ⟨0, ![]⟩ .f32) (hz : ∀ i, (init i : EReal) = 0)
    (h : (⟨3, ![N, A, B]⟩ : Shape).ReduceWindows (![N, 1, 1] : Fin 3 → ℕ) ![1, 1, 1] ![M, 0, 0] hi ⟨3, ![N, A, B]⟩)
    (hu : 0 < (⟨0, ![]⟩ : Shape).numel) (l : Fin N) (g : Fin A) (k : Fin B) :
    (Host.reduceWindowAdd (t := ⟨3, ![N, A, B]⟩) ![N, 1, 1] ![1, 1, 1] ![M, 0, 0] hi x init h hu (ix3 l g k) : EReal)
      = (ahead (fun r => f r g k) (l.val + 1) : EReal) := by
  have hl := l.isLt
  show (List.finRange _).foldl (fun r n => r + _) _ = _
  rw [foldl_add, hz, zero_add, ← Fin.sum_univ_def]
  obtain ⟨F, hF⟩ : ∃ F : ℕ → ℝ, F = fun n => if M ≤ l.val + n then past (fun r => f r g k) (l.val + n - M) else 0 := ⟨_, rfl⟩
  refine Eq.trans ?_ ((Equiv.sum_comp (⟨3, ![N, 1, 1]⟩ : Shape).rowMajor.symm fun w : (⟨3, ![N, 1, 1]⟩ : Shape).Idx => (F (w 0).val : EReal)).trans ?_)
  · refine Finset.sum_congr rfl fun n _ => ?_
    obtain ⟨w, hw⟩ : ∃ w : (⟨3, ![N, 1, 1]⟩ : Shape).Idx, w = (⟨3, ![N, 1, 1]⟩ : Shape).rowMajor.symm n := ⟨_, rfl⟩
    refine Eq.trans ?_ (congrArg (fun u : (⟨3, ![N, 1, 1]⟩ : Shape).Idx => (F (u 0).val : EReal)) hw)
    dsimp only
    have h1 : (w 1).val = 0 := Nat.lt_one_iff.mp (w 1).isLt
    have h2 : (w 2).val = 0 := Nat.lt_one_iff.mp (w 2).isLt
    have h0 : (w 0).val < N := (w 0).isLt
    rw [hF]
    dsimp only
    split
    · next hin =>
      have a : M ≤ l.val * 1 + (w 0).val ∧ l.val * 1 + (w 0).val - M < N := by rw [hw]; exact hin 0
      rw [if_pos (by omega), past, dif_pos (by omega), ← hx]
      refine congrArg x (funext fun a => Fin.ext ?_)
      have e0 : l.val * 1 + (w 0).val - M = l.val + (w 0).val - M := by omega
      have e1 : g.val * 1 + (w 1).val - 0 = g.val := by omega
      have e2 : k.val * 1 + (w 2).val - 0 = k.val := by omega
      rw [hw] at e0 e1 e2
      match a with
      | ⟨0, _⟩ => exact e0.trans (congrArg (fun u : (⟨3, ![N, 1, 1]⟩ : Shape).Idx => l.val + (u 0).val - M) hw.symm)
      | ⟨1, _⟩ => exact e1
      | ⟨2, _⟩ => exact e2
    · next hin =>
      rw [if_neg]
      · rfl
      · refine fun hl' => hin fun a => ?_
        have e0 : M ≤ l.val * 1 + (w 0).val ∧ l.val * 1 + (w 0).val - M < N := by omega
        have e1 : 0 ≤ g.val * 1 + (w 1).val ∧ g.val * 1 + (w 1).val - 0 < A := by have := g.isLt; omega
        have e2 : 0 ≤ k.val * 1 + (w 2).val ∧ k.val * 1 + (w 2).val - 0 < B := by have := k.isLt; omega
        rw [hw] at e0 e1 e2
        match a with
        | ⟨0, _⟩ => exact e0
        | ⟨1, _⟩ => exact e1
        | ⟨2, _⟩ => exact e2
  · subst hM
    rw [← Equiv.sum_comp (tall (M + 1)).symm]
    refine (Fin.sum_univ_eq_sum_range (fun n => (F n : EReal)) (M + 1)).trans ?_
    rw [Finset.sum_range, sum_coe, ← Finset.sum_range, hF]
    exact congrArg _ (started _ _ (by omega))

/-- How many rows a window of `W` rows that ends at row `l` holds. -/
def cnt (W l : ℕ) : ℝ := ((min (l + 1) W : ℕ) : ℝ)

theorem cnt_ne (W l : ℕ) (h : 0 < W) : cnt W l ≠ 0 := by unfold cnt; exact_mod_cast (by omega : min (l + 1) W ≠ 0)

/-- The count's word, for every row. -/
theorem count (W : BitVec 32) (n : ℕ) (h : ∀ l : Fin 2064, (IntOp.minsi (IntOp.addi (BitVec.ofNat 32 l.val) 1#32) W).toInt = (min (l.val + 1) n : ℕ))
    (l : Fin 2064) : (FloatOps.sitofp .f32 (IntOp.minsi (IntOp.addi (BitVec.ofNat 32 l.val) 1#32) W) : Ideal .f32) = (cnt n l.val : EReal) := by
  show (((IntOp.minsi (IntOp.addi (BitVec.ofNat 32 l.val) 1#32) W).toInt : ℝ) : EReal) = _
  rw [h]; rfl

theorem cnt2 (l : Fin 2064) (z : Fin 1) : (val_main_v13 (F := Ideal) (ix2 l z) : EReal) = (cnt 2 l.val : EReal) := by
  pointwise [val_main_v13, val_main_v12, val_main_v11, val_main_v10, val_main_v9, val_main_v8, val_main_v2, val_main_c, val_main_c_0]
  exact count _ 2 (by decide +kernel) l
theorem cnt4 (l : Fin 2064) (z : Fin 1) : (val_main_v27 (F := Ideal) (ix2 l z) : EReal) = (cnt 4 l.val : EReal) := by
  pointwise [val_main_v27, val_main_v26, val_main_v25, val_main_v24, val_main_v23, val_main_v22, val_main_v2, val_main_c_2, val_main_c_3]
  exact count _ 4 (by decide +kernel) l
theorem cnt8 (l : Fin 2064) (z : Fin 1) : (val_main_v41 (F := Ideal) (ix2 l z) : EReal) = (cnt 8 l.val : EReal) := by
  pointwise [val_main_v41, val_main_v40, val_main_v39, val_main_v38, val_main_v37, val_main_v36, val_main_v2, val_main_c_5, val_main_c_6]
  exact count _ 8 (by decide +kernel) l
theorem cnt16 (l : Fin 2064) (z : Fin 1) : (val_main_v55 (F := Ideal) (ix2 l z) : EReal) = (cnt 16 l.val : EReal) := by
  pointwise [val_main_v55, val_main_v54, val_main_v53, val_main_v52, val_main_v51, val_main_v50, val_main_v2, val_main_c_8, val_main_c_9]
  exact count _ 16 (by decide +kernel) l

/-- An array of running sums less the same array `W` rows earlier, zeros in front. -/
theorem lagged (W M : ℕ) (hW : W + M = 2064) (x : FVec Ideal ⟨2, ![2064, 256]⟩ .f32) (f : Fin 256 → Fin 2064 → ℝ)
    (hx : ∀ l k, (x (ix2 l k) : EReal) = (ahead (f k) (l.val + 1) : EReal)) (z : FVec Ideal ⟨2, ![W, 256]⟩ .f32) (hz : ∀ i, (z i : EReal) = 0)
    (hs : (⟨2, ![2064, 256]⟩ : Shape).Slices (![0, 0] : Fin 2 → ℕ) ⟨2, ![M, 256]⟩)
    (hp : Shape.Concatenates [(⟨2, ![W, 256]⟩ : Shape), ⟨2, ![M, 256]⟩] ⟨2, ![2064, 256]⟩ 0)
    (l : Fin 2064) (k : Fin 256) :
    (subf x (concatenate ⟨2, ![2064, 256]⟩ 0 [⟨⟨2, ![W, 256]⟩, z⟩, ⟨⟨2, ![M, 256]⟩, extractStridedSlice ⟨2, ![M, 256]⟩ ![0, 0] x hs⟩] hp) (ix2 l k) : EReal)
      = ((ahead (f k) (l.val + 1) - ahead (f k) (l.val + 1 - W) : ℝ) : EReal) := by
  have hl := l.isLt
  by_cases h : l.val < W
  · pointwise [hx, hz, h]
    rw [show l.val + 1 - W = 0 by omega, show ahead (f k) 0 = 0 from Finset.sum_range_zero _, sub_zero]
  · pointwise [hx, hz, h]
    rw [← EReal.coe_sub]
    exact congrArg (fun u : ℝ => ((ahead (f k) (l.val + 1) - u : ℝ) : EReal)) (congrArg₂ (fun a b => ahead (f a) b)
      (Fin.ext (by simp [Shape.Idx.norm])) (by simp [Shape.Idx.norm]; omega))

/-- A row's deviation from its mean over the group's window. -/
def deviation (z : Fin 2064 → Fin 4 → Fin 256 → ℝ) (g : Fin 4) (l : Fin 2064) (k : Fin 256) : ℝ :=
  (ahead (fun r => z r g k) (l.val + 1) - ahead (fun r => z r g k) (l.val + 1 - 2 ^ (g.val + 1))) / cnt (2 ^ (g.val + 1)) l.val - z l g k

variable {x0 : FVec Ideal S2064x1024 .f32} {x1 : FVec Ideal S4x256x256 .f32} {x2 : FVec Ideal S1024 .f32} {z : Fin 2064 → Fin 4 → Fin 256 → ℝ}

theorem v0 (H : ∀ l g k, (x0 (ix2 l (col g k)) : EReal) = (z l g k : EReal)) (l : Fin 2064) (g : Fin 4) (k : Fin 256) :
    (val_main_v0 (F := Ideal) x0 (ix3 l g k) : EReal) = (z l g k : EReal) := by
  pointwise [val_main_v0]
  exact H l g k

theorem v1 (H : ∀ l g k, (x0 (ix2 l (col g k)) : EReal) = (z l g k : EReal)) (l : Fin 2064) (g : Fin 4) (k : Fin 256) :
    (val_main_v1 (F := Ideal) x0 (ix3 l g k) : EReal) = (ahead (fun r => z r g k) (l.val + 1) : EReal) :=
  prefix_sum rfl _ _ _ (v0 H) _ (fun i => by pointwise [val_main_call0_call0_v0, val_main_call0_call0_cst]) _ _ l g k

theorem mean_of {W : ℕ} (hW : 0 < W) {a : EReal} {f : Fin 2064 → ℝ} {l : Fin 2064} {b : EReal}
    (ha : a = ((ahead f (l.val + 1) - ahead f (l.val + 1 - W) : ℝ) : EReal)) (hb : b = (cnt W l.val : EReal)) :
    Ideal.div a b = (((ahead f (l.val + 1) - ahead f (l.val + 1 - W)) / cnt W l.val : ℝ) : EReal) := by
  rw [ha, hb, div_real _ _ (cnt_ne _ _ hW)]

theorem v64 (H : ∀ l g k, (x0 (ix2 l (col g k)) : EReal) = (z l g k : EReal)) (l : Fin 2064) (g : Fin 4) (k : Fin 256) :
    (val_main_v64 (F := Ideal) x0 (ix3 l g k) : EReal) = (deviation z g l k : EReal) := by
  have f4 (l k) : (val_main_v4 (F := Ideal) x0 (ix2 l k) : EReal) = (ahead (fun r => z r 0 k) (l.val + 1) : EReal) := by
    pointwise [val_main_v4, val_main_v3]; exact v1 H l 0 k
  have f18 (l k) : (val_main_v18 (F := Ideal) x0 (ix2 l k) : EReal) = (ahead (fun r => z r 1 k) (l.val + 1) : EReal) := by
    pointwise [val_main_v18, val_main_v17]; exact v1 H l 1 k
  have f32 (l k) : (val_main_v32 (F := Ideal) x0 (ix2 l k) : EReal) = (ahead (fun r => z r 2 k) (l.val + 1) : EReal) := by
    pointwise [val_main_v32, val_main_v31]; exact v1 H l 2 k
  have f46 (l k) : (val_main_v46 (F := Ideal) x0 (ix2 l k) : EReal) = (ahead (fun r => z r 3 k) (l.val + 1) : EReal) := by
    pointwise [val_main_v46, val_main_v45]; exact v1 H l 3 k
  have z5 (i) : (val_main_v5 (F := Ideal) i : EReal) = 0 := by pointwise [val_main_v5, val_main_cst]
  have z19 (i) : (val_main_v19 (F := Ideal) i : EReal) = 0 := by pointwise [val_main_v19, val_main_cst_1]
  have z33 (i) : (val_main_v33 (F := Ideal) i : EReal) = 0 := by pointwise [val_main_v33, val_main_cst_4]
  have z47 (i) : (val_main_v47 (F := Ideal) i : EReal) = 0 := by pointwise [val_main_v47, val_main_cst_7]
  have h0 : (val_main_v14 (F := Ideal) x0 (ix2 l k) : EReal) = _ := lagged 2 2062 rfl _ (fun k r => z r 0 k) f4 _ z5 _ _ l k
  have h1 : (val_main_v28 (F := Ideal) x0 (ix2 l k) : EReal) = _ := lagged 4 2060 rfl _ (fun k r => z r 1 k) f18 _ z19 _ _ l k
  have h2 : (val_main_v42 (F := Ideal) x0 (ix2 l k) : EReal) = _ := lagged 8 2056 rfl _ (fun k r => z r 2 k) f32 _ z33 _ _ l k
  have h3 : (val_main_v56 (F := Ideal) x0 (ix2 l k) : EReal) = _ := lagged 16 2048 rfl _ (fun k r => z r 3 k) f46 _ z47 _ _ l k
  unfold deviation
  rw [EReal.coe_sub, ← v0 H l g k]
  fin_cases g
  all_goals pointwise [val_main_v64, val_main_v63, val_main_v62, val_main_v61, val_main_v60, val_main_v59, val_main_v58, val_main_v44,
    val_main_v30, val_main_v16, val_main_v15, val_main_v29, val_main_v43, val_main_v57]
  all_goals refine congrArg (fun u : EReal => u - _) ?_
  · exact mean_of (W := 2) (by norm_num) h0 (cnt2 l 0)
  · exact mean_of (W := 4) (by norm_num) h1 (cnt4 l 0)
  · exact mean_of (W := 8) (by norm_num) h2 (cnt8 l 0)
  · exact mean_of (W := 16) (by norm_num) h3 (cnt16 l 0)

/-- The first result: the deviation. -/
theorem ref_d (H : ∀ l g k, (x0 (ix2 l (col g k)) : EReal) = (z l g k : EReal)) (l : Fin 2064) (g : Fin 4) (k : Fin 256) :
    (val_main_v69 (F := Ideal) x0 (ix2 l (col g k)) : EReal) = (deviation z g l k : EReal) := by
  pointwise [val_main_v69, val_main_v68]
  refine Eq.trans (congrArg (val_main_v64 (F := Ideal) x0) ?_) (v64 H l g k)
  exact funext fun a => Fin.ext (match a with
    | ⟨0, _⟩ => rfl
    | ⟨1, _⟩ => show (g.val * 256 + k.val) / 256 = g.val by omega
    | ⟨2, _⟩ => show (g.val * 256 + k.val) % 256 = k.val by omega)

/-- The second result: the deviation through the group's matrix, scaled. -/
theorem ref_y (H : ∀ l g k, (x0 (ix2 l (col g k)) : EReal) = (z l g k : EReal)) (l : Fin 2064) (g : Fin 4) (e : Fin 256) :
    (val_main_v73 (F := Ideal) x0 x1 x2 (ix2 l (col g e)) : EReal)
      = (∑ k : Fin 256, (deviation z g l k : EReal) * (x1 (ix3 g k e) : EReal)) * (x2 (ix1 (col g e)) : EReal) := by
  pointwise [val_main_v73, val_main_v72, val_main_v71, val_main_v70, val_main_v67, val_main_v66, val_main_v65]
  have eg : (⟨(col g e).val / 256, by omega⟩ : Fin 4) = g := Fin.ext (show (g.val * 256 + e.val) / 256 = g.val by omega)
  have ee : (⟨(col g e).val % 256, by omega⟩ : Fin 256) = e := Fin.ext (show (g.val * 256 + e.val) % 256 = e.val by omega)
  refine congrArg (fun u : EReal => u * _) (Finset.sum_congr rfl fun k _ => ?_)
  rw [mul_comm, eg, ee, v64 H]

end Cert.PooledRefIdeal.Grad

end
-- ==== Proof.PooledPay.lean ====
/-
  What the body of the forward pooling computes from one group's columns of reals: the sum over the group's window by
  doubling, the deviation from the mean, and the linear map with its scale.
-/
module

public import proofs.«01_k».proof.Proof.PooledRef
public import proofs.«01_k».proof.Proof.Gen.PooledIdeal.Skeleton

@[expose] public section

set_option maxRecDepth 16384

noncomputable section

namespace Cert.PooledIdeal.Grad

open Cert.PooledIdeal Cert.PooledIdeal.Gen Cert.RealKit
open Cert.PoolSums (past)
open Cert.PooledRefIdeal.Grad (ahead)
open Idealize.ShloMosaic Idealize.ShloMosaic.TcCoe

/-- The sum of `a` rows that end at row `R`, around the start. -/
def trail (f : Fin 2176 → Fin 256 → ℝ) (a : ℕ) (R : ℕ) (k : Fin 256) : ℝ :=
  ∑ n ∈ Finset.range a, f ⟨(R + 2176 - n) % 2176, Nat.mod_lt _ (by norm_num)⟩ k

theorem trail_one (f : Fin 2176 → Fin 256 → ℝ) (r : Fin 2176) (k : Fin 256) : trail f 1 r.val k = f r k := by
  rw [trail, Finset.sum_range_one]
  exact congrArg (f · k) (Fin.ext (by have := r.isLt; show (r.val + 2176 - 0) % 2176 = r.val; omega))

theorem trail_double (f : Fin 2176 → Fin 256 → ℝ) (a R : ℕ) (ha : 2 * a < 2176) (k : Fin 256) :
    trail f (a + a) R k = trail f a R k + trail f a ((R + (2176 - a)) % 2176) k := by
  unfold trail
  rw [Finset.sum_range_add]
  refine congrArg _ (Finset.sum_congr rfl fun n hn => congrArg (f · k) (Fin.ext ?_))
  have := Finset.mem_range.mp hn
  show (R + 2176 - (a + n)) % 2176 = ((R + (2176 - a)) % 2176 + 2176 - n) % 2176
  omega

/-- The array plus itself turned by `a` rows the other way. -/
theorem turned (a : ℕ) (h0 : 0 < a) (ha : 2 * a < 2176) (c : BitVec 32) (hc : c.toNat = a) (x : FVec Ideal S2176x256 .f32) (f : Fin 2176 → Fin 256 → ℝ)
    (hx : ∀ r k, (x (ix2 r k) : EReal) = (trail f a r.val k : EReal)) (r : Fin 2176) (k : Fin 256) :
    (addf x (dynamicRotate 0 c none x rotates_S2176x256_d0) (ix2 r k) : EReal) = (trail f (a + a) r.val k : EReal) := by
  pointwise [hx]
  rw [trail_double f a _ ha, EReal.coe_add]
  refine congrArg (fun R : ℕ => (trail f a r.val k : EReal) + (trail f a R k : EReal)) ?_
  rw [hc]; omega

/-- One round: the doubled window where the group's window is that long. -/
def roundOf (g j : ℕ) (c : BitVec 32) (x : FVec Ideal S2176x256 .f32) : FVec Ideal S2176x256 .f32 :=
  Scalar.select (Scalar.cmpi .sge (BitVec.ofNat 32 g) (BitVec.ofNat 32 j)) (addf x (dynamicRotate 0 c none x rotates_S2176x256_d0)) x

theorem later : ∀ g j : Fin 4, Scalar.cmpi .sge (BitVec.ofNat 32 g.val) (BitVec.ofNat 32 j.val) = if j.val ≤ g.val then 1#1 else 0#1 := by decide +kernel

theorem round (g j : Fin 4) (c : BitVec 32) (hc : c.toNat = 2 ^ j.val) (x : FVec Ideal S2176x256 .f32) (f : Fin 2176 → Fin 256 → ℝ)
    (hx : ∀ r k, (x (ix2 r k) : EReal) = (trail f (2 ^ min (g.val + 1) j.val) r.val k : EReal)) (r : Fin 2176) (k : Fin 256) :
    (roundOf g.val j.val c x (ix2 r k) : EReal) = (trail f (2 ^ min (g.val + 1) (j.val + 1)) r.val k : EReal) := by
  unfold roundOf Scalar.select
  rw [later g j]
  by_cases h : j.val ≤ g.val
  · rw [if_pos h, if_pos (by decide), Nat.min_eq_right (by omega), pow_succ, mul_two]
    rw [Nat.min_eq_right (by omega)] at hx
    have hj : 2 ^ j.val ≤ 2 ^ 3 := Nat.pow_le_pow_right (by norm_num) (by omega)
    exact turned _ (Nat.two_pow_pos _) (by omega) c hc x f hx r k
  · rw [if_neg h, if_neg (by decide), hx, Nat.min_eq_left (by omega), Nat.min_eq_left (by omega)]

/-- How many rows the window that ends at row `R` holds, for group `g`. -/
def cntK (g R : ℕ) : ℝ := ((min (2 ^ (g + 1)) (max 1 (R - 111)) : ℕ) : ℝ)

theorem count_word : ∀ (g : Fin 4) (R : Fin 2176), (IntOp.minsi (Scalar.shli 2#32 (BitVec.ofNat 32 g.val))
    (IntOp.maxsi 1#32 (IntOp.subi (BitVec.ofNat 32 R.val) 111#32))).toInt = (min (2 ^ (g.val + 1)) (max 1 (R.val - 111)) : ℕ) := by
  decide +kernel

variable {v0 : FVec Ideal S2176x256 .f32} {v34 : FVec Ideal S1x256x256 .bf16} {v37 : FVec Ideal S1x256 .f32} {f : Fin 2176 → Fin 256 → ℝ}

/-- The four rounds. -/
def summed (g : ℕ) (x : FVec Ideal S2176x256 .f32) : FVec Ideal S2176x256 .f32 :=
  roundOf g (3 : Fin 4).val 8#32 (roundOf g (2 : Fin 4).val 4#32 (roundOf g (1 : Fin 4).val 2#32 (roundOf g (0 : Fin 4).val 1#32 x)))

/-- One over the number of rows in each row's window. -/
def share (g : ℕ) : FVec Ideal S2176x1 .f32 :=
  divf (broadcast S2176x1 (Scalar.ofBits .f32 0x3F800000#32)) (sitofp .f32 (minsi (broadcast S2176x1 (Scalar.shli 2#32 (BitVec.ofNat 32 g)))
    (maxsi (broadcast S2176x1 1#32) (subi (iota .tc S2176x1 32 [0] iota_S2176x1_d0_w32) (broadcast S2176x1 111#32)))))

theorem pay_eq (i : grid0.Coords) : k0_pay2 (F := Ideal) i v0 = truncf .bf16 (subf (mulf
    (summed (i 0).val (shapeCast S2176x256 v0 shapeCasts_S2176x256_S2176x256)) (broadcastTo S2176x256 (share (i 0).val) broadcasts_S2176x1_S2176x256))
    (shapeCast S2176x256 v0 shapeCasts_S2176x256_S2176x256)) bitsLt_bf16_f32 := rfl

/-- The deviation from the mean, before the rounding that changes nothing over the reals. -/
theorem pay_d (i : grid0.Coords) (h : ∀ r k, (v0 (ix2 r k) : EReal) = (f r k : EReal)) (r : Fin 2176) (k : Fin 256) :
    (k0_pay2 (F := Ideal) i v0 (ix2 r k) : EReal) = ((trail f (2 ^ ((i 0).val + 1)) r.val k * (1 / cntK (i 0).val r.val) - f r k : ℝ) : EReal) := by
  have hc : (FloatOps.sitofp .f32 (IntOp.minsi (Scalar.shli 2#32 (BitVec.ofNat 32 (i 0).val))
      (IntOp.maxsi 1#32 (IntOp.subi (BitVec.ofNat 32 r.val) 111#32))) : Ideal .f32) = (cntK (i 0).val r.val : EReal) := by
    show ((_ : ℝ) : EReal) = _
    rw [count_word (i 0) r]; rfl
  have hn : cntK (i 0).val r.val ≠ 0 := by
    unfold cntK
    have : 0 < 2 ^ ((i 0).val + 1) := Nat.two_pow_pos _
    exact_mod_cast (by omega : min (2 ^ ((i 0).val + 1)) (max 1 (r.val - 111)) ≠ 0)
  have h1 (r k) : (shapeCast S2176x256 v0 shapeCasts_S2176x256_S2176x256 (ix2 r k) : EReal) = (trail f 1 r.val k : EReal) := by
    rw [trail_one]; pointwise; exact h r k
  have e := round (i 0) 3 8#32 rfl _ f (round (i 0) 2 4#32 rfl _ f (round (i 0) 1 2#32 rfl _ f (round (i 0) 0 1#32 rfl _ f h1))) r k
  have hi : (i 0).val < 4 := (i 0).isLt
  rw [Nat.min_eq_left (show (i 0).val + 1 ≤ (3 : Fin 4).val + 1 by show (i 0).val + 1 ≤ 4; omega)] at e
  rw [pay_eq]
  unfold summed
  generalize roundOf (i 0).val (3 : Fin 4).val 8#32 _ = S at e ⊢
  unfold share
  pointwise [e]
  rw [h, hc, ← EReal.coe_one, div_real _ _ hn, ← EReal.coe_mul, ← EReal.coe_sub]

/-- The second result's rows from the first's. -/
theorem pay_y (i : grid0.Coords) (r : Fin 2176) (e : Fin 256) :
    (k0_pay1 (F := Ideal) (k0_pay3 i v0 v34) v37 (ix2 r e) : EReal)
      = (∑ k : Fin 256, (k0_pay2 (F := Ideal) i v0 (ix2 r k) : EReal) * (v34 (ix3 0 k e) : EReal)) * (v37 (ix2 0 e) : EReal) := by
  generalize hy : k0_pay3 (F := Ideal) i v0 v34 = y
  pointwise [k0_pay1]
  subst hy
  generalize hd : k0_pay2 (F := Ideal) i v0 = d
  pointwise [k0_pay3, hd]

/-- Behind 112 rows of zeros the window's rows are the rows' own. -/
theorem trail_sum (z : Fin 2064 → ℝ) (l W : ℕ) :
    ∑ n ∈ Finset.range W, (if n ≤ l then past z (l - n) else 0) = ahead z (l + 1) - ahead z (l + 1 - W) := by
  induction W with
  | zero => rw [Finset.sum_range_zero, Nat.sub_zero, sub_self]
  | succ W ih =>
    rw [Finset.sum_range_succ, ih]
    by_cases h : W ≤ l
    · rw [if_pos h, show l + 1 - W = (l - W) + 1 by omega, show l + 1 - (W + 1) = l - W by omega]
      unfold ahead
      rw [Finset.sum_range_succ (fun n => past z n) (l - W)]
      ring
    · rw [if_neg h, show l + 1 - W = 0 by omega, show l + 1 - (W + 1) = 0 by omega, add_zero]

end Cert.PooledIdeal.Grad

end
-- ==== Proof.PooledGrads.lean ====
/-
  The forward pooling: for finite rows, the deviation from the means over the four windows and its scaled linear map are
  the reference's.
-/
module

public import proofs.«01_k».proof.Defs
public import proofs.«01_k».proof.Proof.Gen.Pooled.Frame
public import proofs.«01_k».proof.Proof.Gen.PooledIdeal.Frame
public import proofs.«01_k».proof.Proof.Gen.PooledRefIdeal.Run
public import proofs.«01_k».proof.Proof.Gen.Pre_pooled_finite
public import proofs.«01_k».proof.Proof.FrontRows
public import proofs.«01_k».proof.Proof.PooledPay

@[expose] public section

set_option maxRecDepth 16384

noncomputable section

namespace Cert.PooledIdeal.Grad

open Idealize.ShloMosaic Idealize.ShloMosaic.TcCoe Idealize.SL.Sem
open Idealize.ShloMosaic.Pipeline (Dat)
open Cert.PooledIdeal Cert.PooledIdeal.Gen Cert.Common Cert.RealKit Cert.FrontRows
open Cert.PoolSums (past)
open Cert.PooledRefIdeal.Grad (col ahead cnt deviation ref_d ref_y)
open Cert.PooledRefIdeal.Read (val_main_v69 val_main_v73 val_main_v69_eq val_main_v73_eq)

variable {m : (ℓ : Loc nD τ sig) → Buf (Elt Ideal) ℓ} {c : Dev nD} {z : Fin 2064 → Fin 1024 → ℝ}

/-- The blocks each grid point reads and writes. -/
theorem idx : ∀ t : Fin cfg0.N, win0_0.index t = ![0, t.val] ∧ win0_1.index t = ![t.val, 0, 0] ∧ win0_2.index t = ![0, t.val]
    ∧ win0_3.index t = ![0, t.val] ∧ win0_4.index t = ![0, t.val] ∧ (grid0.coords t 0).val = t.val ∧ t.val < 4 :=
  (by decide +kernel : ∀ t : Fin grid0.N, _)

/-- The group of a grid point. -/
def grp (t : Fin cfg0.N) : Fin 4 := ⟨t.val, (idx t).2.2.2.2.2.2⟩

/-- The fill of the front rows is zero. -/
theorem fill_zero (i : S_.Idx) : ((sitofp .f32 (constantI S_ 32 0#32) : FVec Ideal S_ .f32) i : EReal) = 0 := sitofp_zero

/-- What the region finds in its operands. -/
theorem entries (m : (ℓ : Loc nD τ sig) → Buf (Elt Ideal) ℓ) (c : Dev nD) :
    V m c main_v0 = frontA (m ((c : Thread nD τ).loc main_arg0)) .f32
    ∧ V m c main_v1 = truncf (F := Ideal) .bf16 (m ((c : Thread nD τ).loc main_arg1)) bitsLt_bf16_f32
    ∧ V m c main_v2 = broadcastInDim S1x1024 ![1] bcast_S1024_S1x1024_1 (m ((c : Thread nD τ).loc main_arg2)) := by
  refine ⟨?_, ?_, ?_⟩ <;> unfold V V0 <;>
    simp only [hostOps0, hostOps0_1, hostOps0_2, List.flatten_cons, List.flatten_nil, List.append_nil, List.cons_append, List.nil_append] <;>
    after_results
  exact pad_front (m ((c : Thread nD τ).loc main_arg0)) pads_S2064x1024_S2176x1024_11200_000 h_S_ _ fill_zero

/-- The rows hold these reals. -/
abbrev Rows (m : (ℓ : Loc nD τ sig) → Buf (Elt Ideal) ℓ) (c : Dev nD) (z : Fin 2064 → Fin 1024 → ℝ) : Prop :=
  ∀ r k, ((m ((c : Thread nD τ).loc main_arg0) : FVec Ideal S2064x1024 .f32) (ix2 r k) : EReal) = (z r k : EReal)

/-- One group's columns behind rows of zeros. -/
def part (z : Fin 2064 → Fin 1024 → ℝ) (g : Fin 4) (R : Fin 2176) (k : Fin 256) : ℝ := rowN z R.val (col g k)

theorem blk0 (H : Rows m c z) (t : Fin cfg0.N) (r : Fin 2176) (k : Fin 256) :
    ((iblk m c 0 t : FVec Ideal S2176x256 .f32) (ix2 r k) : EReal) = (part z (grp t) r k : EReal) := by
  have h0 := (idx t).1
  show V m c main_v0 (((cfg0.win 0).blk t).view.emb (ix2 r k)) = _
  rw [(entries m c).1]
  exact (front_congr _ (by blk_simp [h0]) (by blk_simp [h0]; rfl)).trans (front_real H _ _)

theorem blk1 (t : Fin cfg0.N) (a : Fin 1) (k e : Fin 256) :
    (iblk m c 1 t : FVec Ideal S1x256x256 .bf16) (ix3 a k e) = (m ((c : Thread nD τ).loc main_arg1) : FVec Ideal S4x256x256 .f32) (ix3 (grp t) k e) := by
  have h0 := (idx t).2.1
  show V m c main_v1 (((cfg0.win 1).blk t).view.emb (ix3 a k e)) = _
  rw [(entries m c).2.1]
  refine congrArg (m ((c : Thread nD τ).loc main_arg1) : FVec Ideal S4x256x256 .f32) ?_
  exact funext fun d => Fin.ext (match d with
    | ⟨0, _⟩ => by blk_simp [h0]; rfl
    | ⟨1, _⟩ => by blk_simp [h0]
    | ⟨2, _⟩ => by blk_simp [h0])

/-- An array of one row reads its one-dimensional origin. -/
theorem row_apply (v : FVec Ideal S1024 .f32) (a : Fin 1) (k : Fin 1024) :
    (broadcastInDim S1x1024 ![1] bcast_S1024_S1x1024_1 v : FVec Ideal S1x1024 .f32) (ix2 a k) = v (ix1 k) := by pointwise

theorem blk2 (t : Fin cfg0.N) (a : Fin 1) (k : Fin 256) :
    (iblk m c 2 t : FVec Ideal S1x256 .f32) (ix2 a k) = (m ((c : Thread nD τ).loc main_arg2) : FVec Ideal S1024 .f32) (ix1 (col (grp t) k)) := by
  have h0 := (idx t).2.2.1
  show V m c main_v2 (((cfg0.win 2).blk t).view.emb (ix2 a k)) = _
  rw [(entries m c).2.2, show ((cfg0.win 2).blk t).view.emb (ix2 a k) = ix2 a (col (grp t) k) from ext2 (by blk_simp [h0]) (by blk_simp [h0]; rfl)]
  exact row_apply _ a _

/-- The deviation on a row of the kernel's arrays. -/
def dev (z : Fin 2064 → Fin 1024 → ℝ) (g : Fin 4) (R : Fin 2176) (k : Fin 256) : ℝ :=
  trail (part z g) (2 ^ (g.val + 1)) R.val k * (1 / cntK g.val R.val) - part z g R k

/-- Behind the front rows the kernel's deviation is the reference's. -/
theorem dev_eq (g : Fin 4) (l : Fin 2064) (k : Fin 256) :
    dev z g ⟨112 + l.val, by omega⟩ k = deviation (fun l g k => z l (col g k)) g l k := by
  have hw : 2 ^ (g.val + 1) ≤ 2 ^ 4 := Nat.pow_le_pow_right (by norm_num) (by omega)
  have hl := l.isLt
  unfold dev deviation
  refine congrArg₂ (fun a b : ℝ => a - b) ?_ ?_
  · rw [mul_one_div]
    refine congrArg₂ (fun a b : ℝ => a / b) ?_ ?_
    · rw [← trail_sum]
      refine Finset.sum_congr rfl fun n hn => ?_
      have hn' := Finset.mem_range.mp hn
      have e : (112 + l.val + 2176 - n) % 2176 = 112 + l.val - n := by omega
      show rowN z ((112 + l.val + 2176 - n) % 2176) (col g k) = _
      rw [e]
      split
      · rw [rowN_in z _ (by omega), past, dif_pos (by omega)]
        exact congrArg (z · (col g k)) (Fin.ext (by show 112 + l.val - n - 112 = l.val - n; omega))
      · rw [rowN_out z _ (by omega)]
    · unfold cntK cnt
      refine congrArg (fun b : ℕ => (b : ℝ)) ?_
      show min _ (max 1 (112 + l.val - 111)) = min (l.val + 1) _
      omega
  · show rowN z (112 + l.val) (col g k) = _
    rw [rowN_in z _ (by omega)]
    exact congrArg (z · (col g k)) (Fin.ext (by show 112 + l.val - 112 = l.val; omega))

/-- The first result at a point. -/
theorem point_d (H : Rows m c z) (t : Fin cfg0.N) (r : Fin 2176) (k : Fin 256) :
    (k0_pay2 (F := Ideal) (grid0.coords t) (iblk m c 0 t) (ix2 r k) : EReal) = (dev z (grp t) r k : EReal) := by
  have hg : (grid0.coords t 0).val = (grp t).val := (idx t).2.2.2.2.2.1
  refine (pay_d (grid0.coords t) (fun r k => blk0 H t r k) r k).trans ?_
  rw [hg]; rfl

/-- What the second result holds. -/
def lin (x1 : FVec Ideal S4x256x256 .f32) (x2 : FVec Ideal S1024 .f32) (z : Fin 2064 → Fin 1024 → ℝ) (g : Fin 4) (R : Fin 2176) (e : Fin 256) : EReal :=
  (∑ k : Fin 256, (dev z g R k : EReal) * (x1 (ix3 g k e) : EReal)) * (x2 (ix1 (col g e)) : EReal)

/-- The second result at a point. -/
theorem point_y (H : Rows m c z) (t : Fin cfg0.N) (r : Fin 2176) (e : Fin 256) :
    (k0_pay1 (F := Ideal) (k0_pay3 (grid0.coords t) (iblk m c 0 t) (iblk m c 1 t)) (iblk m c 2 t) (ix2 r e) : EReal)
      = lin (m ((c : Thread nD τ).loc main_arg1)) (m ((c : Thread nD τ).loc main_arg2)) z (grp t) r e := by
  refine (pay_y (grid0.coords t) r e).trans ?_
  unfold lin
  exact congrArg₂ (fun a b : EReal => a * b) (Finset.sum_congr rfl fun k _ => congrArg₂ (fun a b : EReal => a * b) (point_d H t r k) (blk1 t 0 k e)) (blk2 t 0 e)

/-- The group of a column, and its place in the group. -/
def grpOf (j : Fin 1024) : Fin 4 := ⟨j.val / 256, by omega⟩
def lane (j : Fin 1024) : Fin 256 := ⟨j.val % 256, by omega⟩
theorem col_lane (j : Fin 1024) : col (grpOf j) (lane j) = j := Fin.ext (by show j.val / 256 * 256 + j.val % 256 = j.val; omega)
theorem grpOf_col (g : Fin 4) (k : Fin 256) : grpOf (col g k) = g := Fin.ext (by show (g.val * 256 + k.val) / 256 = g.val; omega)
theorem lane_col (g : Fin 4) (k : Fin 256) : lane (col g k) = k := Fin.ext (by show (g.val * 256 + k.val) % 256 = k.val; omega)

/-- An array that is given by groups of columns. -/
def grouped (f : Fin 4 → Fin 2176 → Fin 256 → EReal) : S2176x1024.Idx → EReal := fun i => f (grpOf (i 1)) (i 0) (lane (i 1))
theorem grouped_col (f : Fin 4 → Fin 2176 → Fin 256 → EReal) (r : Fin 2176) (g : Fin 4) (k : Fin 256) : grouped f (ix2 r (col g k)) = f g r k := by
  show f (grpOf (col g k)) r (lane (col g k)) = _
  rw [grpOf_col, lane_col]

theorem arr_d (H : Rows m c z) : (dats m 0 c).arrAt 3 (cfgs 0).N = (grouped (fun g R k => (dev z g R k : EReal)) : FVec Ideal S2176x1024 .bf16) := by
  refine (dats m 0 c).arrAt_eq_of_covers 3 _ (by decide +kernel) fun t _ i => ?_
  have h0 := (idx t).2.2.2.1
  obtain ⟨p, q, rfl⟩ : ∃ (p : Fin 2176) (q : Fin 256), i = ix2 p q := ⟨i 0, i 1, ext2 rfl rfl⟩
  have e : (((cfg0.win 3).blk t).view.emb (ix2 p q)) = ix2 p (col (grp t) q) := ext2 (by blk_simp [h0]) (by blk_simp [h0]; rfl)
  refine Eq.trans ?_ ((congrArg (grouped (fun g R k => (dev z g R k : EReal))) e).trans (grouped_col _ p _ q)).symm
  blk_simp
  rw [after0_3]
  frame_out
  exact point_d H t p q

theorem arr_y (H : Rows m c z) : (dats m 0 c).arrAt 4 (cfgs 0).N
    = (grouped (lin (m ((c : Thread nD τ).loc main_arg1)) (m ((c : Thread nD τ).loc main_arg2)) z) : FVec Ideal S2176x1024 .bf16) := by
  refine (dats m 0 c).arrAt_eq_of_covers 4 _ (by decide +kernel) fun t _ i => ?_
  have h0 := (idx t).2.2.2.2.1
  obtain ⟨p, q, rfl⟩ : ∃ (p : Fin 2176) (q : Fin 256), i = ix2 p q := ⟨i 0, i 1, ext2 rfl rfl⟩
  have e : (((cfg0.win 4).blk t).view.emb (ix2 p q)) = ix2 p (col (grp t) q) := ext2 (by blk_simp [h0]) (by blk_simp [h0]; rfl)
  refine Eq.trans ?_ ((congrArg (grouped (lin (m ((c : Thread nD τ).loc main_arg1)) (m ((c : Thread nD τ).loc main_arg2)) z)) e).trans (grouped_col _ p _ q)).symm
  blk_simp
  rw [after0_4]
  frame_out
  exact point_y H t p q

/-- The two results: the rows behind the front. -/
theorem results (m : (ℓ : Loc nD τ sig) → Buf (Elt Ideal) ℓ) (c : Dev nD) :
    Pipeline.afterTail₀ cfgs (dats m) 0 (V0 m) [hostOps1] c main_v4
        = extractStridedSlice S2064x1024 ![112, 0] ((dats m 0 c).arrAt 3 (cfgs 0).N : FVec Ideal S2176x1024 .bf16) slices_S2176x1024_S2064x1024_112_0
    ∧ Pipeline.afterTail₀ cfgs (dats m) 0 (V0 m) [hostOps1] c main_v5
        = extractStridedSlice S2064x1024 ![112, 0] ((dats m 0 c).arrAt 4 (cfgs 0).N : FVec Ideal S2176x1024 .bf16) slices_S2176x1024_S2064x1024_112_0 := by
  refine ⟨?_, ?_⟩ <;> unfold Pipeline.afterTail₀ <;>
    simp only [hostOps1, List.flatten_cons, List.flatten_nil, List.append_nil, List.cons_append, List.nil_append] <;> after_results
  · exact congrArg (extractStridedSlice S2064x1024 ![112, 0] · slices_S2176x1024_S2064x1024_112_0)
      (Pipeline.withArrays_arr spec0 launch0.win.arr_inj c (V0 m c) _ 3)
  · exact congrArg (extractStridedSlice S2064x1024 ![112, 0] · slices_S2176x1024_S2064x1024_112_0)
      (Pipeline.withArrays_arr spec0 launch0.win.arr_inj c (V0 m c) _ 4)

/-- The slice that drops the front rows, read by groups. -/
theorem behind (f : Fin 4 → Fin 2176 → Fin 256 → EReal) (l : Fin 2064) (g : Fin 4) (k : Fin 256) :
    (extractStridedSlice S2064x1024 ![112, 0] (grouped f : FVec Ideal S2176x1024 .bf16) slices_S2176x1024_S2064x1024_112_0 (ix2 l (col g k)) : EReal)
      = f g ⟨112 + l.val, by omega⟩ k := by
  refine Eq.trans ?_ (grouped_col f _ g k)
  pointwise

/-- The two results for finite rows. -/
theorem finals (H : Rows m c z) :
    Pipeline.afterTail₀ cfgs (dats m) 0 (V0 m) [hostOps1] c main_v4 = val_main_v69 (F := Ideal) (m ((c : Thread nD τ).loc main_arg0))
    ∧ Pipeline.afterTail₀ cfgs (dats m) 0 (V0 m) [hostOps1] c main_v5 = val_main_v73 (F := Ideal) (m ((c : Thread nD τ).loc main_arg0))
        (m ((c : Thread nD τ).loc main_arg1)) (m ((c : Thread nD τ).loc main_arg2)) := by
  rw [(results m c).1, (results m c).2, arr_d H, arr_y H]
  refine ⟨funext fun i : S2064x1024.Idx => ?_, funext fun i : S2064x1024.Idx => ?_⟩
  all_goals obtain ⟨l, g, k, rfl⟩ : ∃ (l : Fin 2064) (g : Fin 4) (k : Fin 256), i = ix2 l (col g k) :=
    ⟨i 0, grpOf (i 1), lane (i 1), ext2 rfl (congrArg Fin.val (col_lane (i 1)).symm)⟩
  · refine (behind _ l g k).trans (Eq.trans ?_ (ref_d (z := fun l g k => z l (col g k)) (fun l g k => H l (col g k)) l g k).symm)
    rw [dev_eq]
  · refine (behind _ l g k).trans (Eq.trans ?_ (ref_y (z := fun l g k => z l (col g k)) (fun l g k => H l (col g k)) l g k).symm)
    unfold lin
    simp only [dev_eq]

/-- Finite rows are reals. -/
theorem rows_of_pre (hp : Cert.Pre_PooledIdeal_pooled_finite m) (c : Dev nD) : ∃ z, Rows m c z := by
  obtain ⟨z, a⟩ := reals _ (hp c)
  exact ⟨fun r k => z (ix2 r k), fun r k => a _⟩

/-- The reference runs to its end with every counter at zero. -/
theorem frame_ref : Cert.quiescent_PooledRefIdeal := fun m ρ _ =>
  (θ_run Cert.PooledRefIdeal.defs _ _).mono
    (fun r h => ⟨fun c => (h c).2.2, sem_eq_zero_of_no_sems (by decide) r.2⟩) (Cert.PooledRefIdeal.Value.run (F := Ideal) m ρ)

/-- A function of three arguments at equal arguments. -/
theorem congr3 {α β γ η : Type} (f : α → β → γ → η) {a a' : α} {b b' : β} {d d' : γ}
    (ha : a = a') (hb : b = b') (hd : d = d') : f a b d = f a' b' d' := by
  subst ha hb hd; rfl

/-- Over the reals, for finite rows, the call's two results are the reference's. -/
theorem algebraic : Cert.algebraic_PooledIdeal_PooledRefIdeal_pre_pooled_finite := by
  pair_intro
  · run_from Cert.PooledIdeal.Gen.run_main m g
    exacts [W_main_arg0 m (dats m) c, W_main_arg1 m (dats m) c, W_main_arg2 m (dats m) c]
  · refine θ_run_mono (Cert.PooledRefIdeal.Value.run m' g') fun r hr c => ?_
    obtain ⟨z, H⟩ := rows_of_pre hpre c
    obtain ⟨e0, e1, e2⟩ := hagree c
    have hr' := hr c
    refine ⟨?_, ?_, hr'.2.2⟩
    · exact hr'.1.trans ((val_main_v69_eq m' c).trans ((congrArg (val_main_v69 (F := Ideal)) e0).trans (finals H).1.symm))
    · exact hr'.2.1.trans ((val_main_v73_eq m' c).trans ((congr3 (val_main_v73 (F := Ideal)) e0 e1 e2).trans (finals H).2.symm))

/-- Everything that is claimed of this call. -/
theorem claims : Cert.quiescent_Pooled ∧ Cert.quiescent_PooledIdeal ∧ Cert.quiescent_PooledIdeal_pre_pooled_finite
    ∧ Cert.quiescent_PooledRefIdeal ∧ Cert.quiescent_PooledRefIdeal_pre_pooled_finite
    ∧ Cert.preserves_Pooled_PooledIdeal ∧ Cert.algebraic_PooledIdeal_PooledRefIdeal_pre_pooled_finite :=
  ⟨fun m ρ _ => Cert.Pooled.Gen.frame m ρ, fun m ρ _ => Gen.frame m ρ, fun m ρ _ => Gen.frame m ρ,
    frame_ref, fun m ρ _ => frame_ref m ρ trivial, trivial, algebraic⟩

end Cert.PooledIdeal.Grad

end
-- ==== Proof.MetaRows.lean ====
/-
  The first norm of the padding and the meta rows, written into the array that already holds the tokens: both results are the reference's
  lines on the whole padded sequence.
-/
module

public import proofs.«01_k».proof.Defs
public import proofs.«01_k».proof.Proof.Gen.MetaNorm.Frame
public import proofs.«01_k».proof.Proof.Gen.MetaNormIdeal.Frame
public import proofs.«01_k».proof.Proof.Gen.MetaNormRefIdeal.Run
public import proofs.«01_k».proof.Proof.Gen.MetaNormRefIdeal.Read
public import proofs.«01_k».proof.Proof.NormRows

@[expose] public section

set_option maxRecDepth 16384

noncomputable section

namespace Cert.MetaNormIdeal.Grad

open Idealize.ShloMosaic Idealize.ShloMosaic.TcCoe Idealize.SL.Sem
open Idealize.ShloMosaic.Pipeline (Dat)
open Cert.MetaNormIdeal Cert.MetaNormIdeal.Gen Cert.Common Cert.NormRows

/-- Row `R` of the padded sequence: 112 rows of zeros, 16 meta rows, the tokens. -/
def seqRow (e : FVec Ideal S16x2048 .f32) (x : FVec Ideal S2048x2048 .f32) (R : Fin 2176) (k : Fin 2048) : EReal :=
  if h : 128 ≤ R.val then x (ix2 ⟨R.val - 128, by omega⟩ k) else if h' : 112 ≤ R.val then e (ix2 ⟨R.val - 112, by omega⟩ k) else 0

/-- The tokens behind the front. -/
theorem seqRow_tail (e : FVec Ideal S16x2048 .f32) (x : FVec Ideal S2048x2048 .f32) (R : Fin 2176) (hR : 128 ≤ R.val) (k : Fin 2048) :
    seqRow e x R k = x (ix2 ⟨R.val - 128, by omega⟩ k) := by
  unfold seqRow
  exact dif_pos hR

/-- The integer zero as a number. -/
theorem zero_fill : (FloatOps.sitofp (F := Ideal) FTy.f32 (0#32) : EReal) = 0 := by
  show ((((0#32 : BitVec 32).toInt : ℝ)) : EReal) = 0
  simp

section reference

open Cert.MetaNormRefIdeal.Read

variable (e : FVec Ideal S16x2048 .f32) (x : FVec Ideal S2048x2048 .f32) (g : FVec Ideal S2048 .f32)

/-- The reference's padded sequence. -/
theorem ref_h (R : Fin 2176) (k : Fin 2048) : (val_main_v1 (F := Ideal) e x (ix2 R k) : EReal) = seqRow e x R k := by
  unfold seqRow
  have hk := k.isLt
  have hR := R.isLt
  pointwise [val_main_v1, val_main_v0, val_main_call0_v0, val_main_c]
  by_cases h1 : 128 ≤ R.val
  · rw [dif_pos ⟨by omega, by omega⟩, dif_neg (by omega), dif_pos h1]
    exact congrArg x (ext2 (by show R.val - 112 - 16 = R.val - 128; omega) rfl)
  · by_cases h2 : 112 ≤ R.val
    · rw [dif_pos ⟨by omega, by omega⟩, dif_pos (by omega), dif_neg h1, dif_pos h2]
    · rw [dif_neg (fun h => h2 h.1), dif_neg h1, dif_neg h2]
      exact zero_fill

/-- The reference's normalised rows of it. -/
theorem ref_u (R : Fin 2176) (j : Fin 2048) : (val_main_v15 (F := Ideal) e x g (ix2 R j) : EReal) = rms (seqRow e x R) (fun k => g (ix1 k)) j := by
  rw [rms_congr (fun k => (ref_h e x R k).symm) (fun _ => rfl) j]
  generalize eh : val_main_v1 (F := Ideal) e x = h
  pointwise [val_main_v15, val_main_v14, val_main_v13, val_main_v12, val_main_v11, val_main_v10, val_main_v9, val_main_v8, val_main_v7, val_main_v6, val_main_v5,
    val_main_v4, val_main_v3, val_main_v2, val_main_cst, val_main_cst_0, val_main_cst_1, eh]
  rfl

end reference

variable (m : (ℓ : Loc nD τ sig) → Buf (Elt Ideal) ℓ)

/-- The blocks the one grid point reads and writes. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The gain as an array of one row. -/
theorem entry_gain (c : Dev nD) : V m c main_v0 = broadcastInDim S1x2048 ![1] bcast_S2048_S1x2048_1 (m ((c : Thread nD τ).loc main_arg2)) := by
  unfold V
  simp only [hostOps0, hostOps0_1, hostOps0_2, hostOps0_3, hostOps0_4, List.flatten_cons, List.flatten_nil, List.append_nil, List.cons_append, List.nil_append]
  after_results

/-- An array behind 128 filled rows. -/
theorem pad_at {φ : FTy} (x : FVec Ideal S2048x2048 φ) (v : FVec Ideal S_ φ) (R : Fin 2176) (k : Fin 2048) (hR : 128 ≤ R.val) :
    (pad S2176x2048 ![128, 0] ![0, 0] ![0, 0] x v pads_S2048x2048_S2176x2048_12800_000 h_S_ : FVec Ideal S2176x2048 φ) (ix2 R k)
      = x (ix2 ⟨R.val - 128, by omega⟩ k) := by
  have hk := R.isLt
  pointwise
  exact dif_pos ⟨hR, by omega⟩

/-- The host's normalised tokens. -/
def normed (x : FVec Ideal S2048x2048 .f32) (g : FVec Ideal S2048 .f32) : FVec Ideal S2048x2048 .bf16 :=
  truncf .bf16
    (mulf
      (mulf x (broadcastInDim S2048x2048 ![0, 1] bcast_S2048x1_S2048x2048_0_1
        (Host.rsqrt
          (addf
            (Host.divf
              (broadcastInDim S2048x1 ![0] bcast_S2048_S2048x1_0
                (Host.reduceAdd (mulf x x) (constant S_ FTy.f32 0#32) reducesTo_S2048x2048_S2048_d1 h_S_))
              (broadcastInDim S2048x1 ![] bcast_S_S2048x1 (constant S_ FTy.f32 1157627904#32)))
            (broadcastInDim S2048x1 ![] bcast_S_S2048x1 (constant S_ FTy.f32 897988541#32))))))
      (broadcastInDim S2048x2048 ![0, 1] bcast_S1x2048_S2048x2048_0_1 (broadcastInDim S1x2048 ![1] bcast_S2048_S1x2048_1 g)))
    bitsLt_bf16_f32

/-- They are the norm's rows. -/
theorem normed_at (x : FVec Ideal S2048x2048 .f32) (g : FVec Ideal S2048 .f32) (r j : Fin 2048) :
    (normed x g (ix2 r j) : EReal) = rms (fun k => x (ix2 r k)) (fun k => g (ix1 k)) j := by
  pointwise [normed]
  rfl

/-- What the first result's array holds before the call: the tokens behind 128 rows of zeros. -/
theorem entry_h (c : Dev nD) (R : Fin 2176) (k : Fin 2048) (hR : 128 ≤ R.val) :
    (V m c main_v17_0 (ix2 R k) : EReal) = (m ((c : Thread nD τ).loc main_arg1) : FVec Ideal S2048x2048 .f32) (ix2 ⟨R.val - 128, by omega⟩ k) := by
  unfold V
  simp only [hostOps0, hostOps0_1, hostOps0_2, hostOps0_3, hostOps0_4, List.flatten_cons, List.flatten_nil, List.append_nil, List.cons_append, List.nil_append]
  after_results
  exact pad_at (φ := .f32) _ _ R k hR

/-- What the second result's array holds before the call: the tokens' normalised rows behind 128 rows of zeros. -/
theorem entry_u (c : Dev nD) (R : Fin 2176) (j : Fin 2048) (hR : 128 ≤ R.val) :
    (V m c main_v17_1 (ix2 R j) : EReal) = rms (fun k => (m ((c : Thread nD τ).loc main_arg1) : FVec Ideal S2048x2048 .f32) (ix2 ⟨R.val - 128, by omega⟩ k))
      (fun k => (m ((c : Thread nD τ).loc main_arg2) : FVec Ideal S2048 .f32) (ix1 k)) j := by
  unfold V
  simp only [hostOps0, hostOps0_1, hostOps0_2, hostOps0_3, hostOps0_4, List.flatten_cons, List.flatten_nil, List.append_nil, List.cons_append, List.nil_append]
  after_results
  exact (pad_at (normed (m ((c : Thread nD τ).loc main_arg1)) (m ((c : Thread nD τ).loc main_arg2))) _ R j hR).trans (normed_at _ _ _ j)

/-- The block of the meta rows. -/
theorem blk0 (c : Dev nD) (t : Fin cfg0.N) (r : Fin 16) (k : Fin 2048) :
    ((iblk m c 0 t : FVec Ideal S16x2048 .f32) (ix2 r k) : EReal) = (m ((c : Thread nD τ).loc main_arg0) : FVec Ideal S16x2048 .f32) (ix2 r k) := by
  have h0 := (idx t).1
  show V m c main_arg0 (((cfg0.win 0).blk t).view.emb (ix2 r k)) = _
  rw [V_main_arg0 m c]
  exact congrArg (m ((c : Thread nD τ).loc main_arg0)) (ext2 (by blk_simp [h0]) (by blk_simp [h0]))

/-- An array of one row reads its one-dimensional origin. -/
theorem row_apply (x : FVec Ideal S2048 .f32) (z : Fin 1) (k : Fin 2048) :
    (broadcastInDim S1x2048 ![1] bcast_S2048_S1x2048_1 x : FVec Ideal S1x2048 .f32) (ix2 z k) = x (ix1 k) := by pointwise

/-- The gain. -/
theorem blk1 (c : Dev nD) (t : Fin cfg0.N) (z : Fin 1) (k : Fin 2048) :
    ((iblk m c 1 t : FVec Ideal S1x2048 .f32) (ix2 z k) : EReal) = (m ((c : Thread nD τ).loc main_arg2) : FVec Ideal S2048 .f32) (ix1 k) := by
  have h0 := (idx t).2.1
  show V m c main_v0 (((cfg0.win 1).blk t).view.emb (ix2 z k)) = _
  rw [entry_gain m c, show ((cfg0.win 1).blk t).view.emb (ix2 z k) = ix2 z k from ext2 (by blk_simp [h0]) (by blk_simp [h0])]
  exact row_apply _ z k

/-- The normalised rows that the point stores. -/
theorem pay2 (x : FVec Ideal S128x2048 .f32) (g : FVec Ideal S1x2048 .f32) (r : Fin 128) (j : Fin 2048) :
    (k0_pay2 (F := Ideal) x g (ix2 r j) : EReal) = rms (fun k => x (ix2 r k)) (fun k => g (ix2 0 k)) j := by
  pointwise [k0_pay2]
  rfl

/-- Zeros over which 16 rows are stored behind 112 of them. -/
abbrev stored (w : FVec Ideal S16x2048 .f32) : List (View.Piece (Elt Ideal) S128x2048 .f32) :=
  [⟨Rect.unit (s := S128x2048) ![112, 0] S16x2048.size inb_S128x2048_S16x2048_112_0, w⟩,
    ⟨Rect.unit (s := S128x2048) ![0, 0] S128x2048.size inb_S128x2048_S128x2048_0_0, k0_pay1 (F := Ideal)⟩]

/-- What they hold. -/
theorem stored_apply (w : FVec Ideal S16x2048 .f32) (r : Fin 128) (k : Fin 2048) :
    ((View.canon (stored w) : FVec Ideal S128x2048 .f32) (ix2 r k) : EReal) = if h : 112 ≤ r.val then w (ix2 ⟨r.val - 112, by omega⟩ k) else 0 := by
  have hr := r.isLt
  have hk := k.isLt
  split
  · have e := View.canon_cons_emb (Val := Elt Ideal) (e := .f32) (Rect.unit (s := S128x2048) ![112, 0] S16x2048.size inb_S128x2048_S16x2048_112_0) w
      [⟨Rect.unit (s := S128x2048) ![0, 0] S128x2048.size inb_S128x2048_S128x2048_0_0, k0_pay1 (F := Ideal)⟩] (ix2 ⟨r.val - 112, by omega⟩ k)
    have hi : (Rect.unit (s := S128x2048) ![112, 0] S16x2048.size inb_S128x2048_S16x2048_112_0).emb (ix2 ⟨r.val - 112, by omega⟩ k)
        = (ix2 r k : S128x2048.Idx) := by
      have h0 := Rect.idx_unit_val (s := S128x2048) ![112, 0] S16x2048.size inb_S128x2048_S16x2048_112_0 (ix2 ⟨r.val - 112, by omega⟩ k)
      exact ext2 ((h0 0).trans (by show 112 + (r.val - 112) = r.val; omega)) ((h0 1).trans (Nat.zero_add _))
    rw [hi] at e
    exact e
  · rename_i hn
    refine (View.canon_cons_of_not_mem (Val := Elt Ideal) (e := .f32) _ _ (fun hm => hn ?_)).trans ?_
    · obtain ⟨x, hx⟩ := (Rect.unit (s := S128x2048) ![112, 0] S16x2048.size inb_S128x2048_S16x2048_112_0).exists_idx_of_mem hm
      have h0 := Rect.idx_unit_val (s := S128x2048) ![112, 0] S16x2048.size inb_S128x2048_S16x2048_112_0 x
      have e0 : r.val = 112 + (x 0).val := (congrArg (fun y : S128x2048.Idx => (y 0).val) hx).symm.trans (h0 0)
      omega
    · have e := View.canon_cons_emb (Val := Elt Ideal) (e := .f32) (Rect.unit (s := S128x2048) ![0, 0] S128x2048.size inb_S128x2048_S128x2048_0_0)
        (k0_pay1 (F := Ideal)) [] (ix2 r k)
      have hi : (Rect.unit (s := S128x2048) ![0, 0] S128x2048.size inb_S128x2048_S128x2048_0_0).emb (ix2 r k) = (ix2 r k : S128x2048.Idx) := by
        have h0 := Rect.idx_unit_val (s := S128x2048) ![0, 0] S128x2048.size inb_S128x2048_S128x2048_0_0 (ix2 r k)
        exact ext2 ((h0 0).trans (Nat.zero_add _)) ((h0 1).trans (Nat.zero_add _))
      rw [hi] at e
      refine e.trans ?_
      pointwise [k0_pay1]

/-- The stored rows are the sequence's first ones. -/
theorem stored_row (c : Dev nD) (t : Fin cfg0.N) (r : Fin 128) (k : Fin 2048) : ((View.canon (stored (iblk m c 0 t)) : FVec Ideal S128x2048 .f32) (ix2 r k) : EReal)
    = seqRow (m ((c : Thread nD τ).loc main_arg0)) (m ((c : Thread nD τ).loc main_arg1)) ⟨r.val, by omega⟩ k := by
  rw [stored_apply]
  unfold seqRow
  rw [dif_neg (show ¬ 128 ≤ (⟨r.val, by omega⟩ : Fin 2176).val by have := r.isLt; show ¬ 128 ≤ r.val; omega)]
  by_cases h : 112 ≤ r.val
  · rw [dif_pos h, dif_pos (show 112 ≤ (⟨r.val, by omega⟩ : Fin 2176).val from h)]
    exact blk0 m c t _ k
  · rw [dif_neg h, dif_neg (show ¬ 112 ≤ (⟨r.val, by omega⟩ : Fin 2176).val from h)]

/-- The first result's block: zeros over which the meta rows are stored. -/
theorem block_h (c : Dev nD) (t : Fin cfg0.N) (r : Fin 128) (k : Fin 2048) :
    ((outsAt0 m c t).1 (ix2 r k) : EReal) = seqRow (m ((c : Thread nD τ).loc main_arg0)) (m ((c : Thread nD τ).loc main_arg1)) ⟨r.val, by omega⟩ k := by
  unfold outsAt0
  frame_out
  exact stored_row m c t r k

/-- The second result's block. -/
theorem block_u (c : Dev nD) (t : Fin cfg0.N) (r : Fin 128) (j : Fin 2048) :
    ((outsAt0 m c t).2 (ix2 r j) : EReal) = rms (seqRow (m ((c : Thread nD τ).loc main_arg0)) (m ((c : Thread nD τ).loc main_arg1)) ⟨r.val, by omega⟩)
      (fun k => (m ((c : Thread nD τ).loc main_arg2) : FVec Ideal S2048 .f32) (ix1 k)) j := by
  unfold outsAt0
  frame_out
  refine (pay2 _ _ r j).trans (rms_congr (fun k => ?_) (fun k => blk1 m c t 0 k) j)
  refine Eq.trans ?_ (stored_row m c t r k)
  refine (congrFun (View.readCov_eq_canon' (Val := Elt Ideal) (ms0_2 t).view (stored (iblk m c 0 t))
    (Rect.unit (s := S128x2048) ![0, 0] S128x2048.size inb_S128x2048_S128x2048_0_0).toLoadRect) (ix2 r k)).trans ?_
  refine congrArg (View.canon (stored (iblk m c 0 t))) ?_
  have h0 := Rect.idx_unit_val (s := S128x2048) ![0, 0] S128x2048.size inb_S128x2048_S128x2048_0_0 (ix2 r k)
  exact ext2 ((h0 0).trans (Nat.zero_add _)) ((h0 1).trans (Nat.zero_add _))

open Cert.MetaNormRefIdeal.Read in
/-- The first result after the call is the reference's. -/
theorem final_h (c : Dev nD) : (dats m 0 c).arrAt 2 (cfgs 0).N
    = val_main_v1 (F := Ideal) (m ((c : Thread nD τ).loc main_arg0)) (m ((c : Thread nD τ).loc main_arg1)) := by
  refine ((dats m 0 c).arrAt_eq_of_coversWhere 2 (val_main_v1 (F := Ideal) (m ((c : Thread nD τ).loc main_arg0)) (m ((c : Thread nD τ).loc main_arg1)))
    (P := fun i : S2176x2048.Idx => (i 0).val < 128) (fun β => β 0 = 0) (by decide +kernel) (fun t _ y => ?_)
    (fun j => by blk_simp [Pipeline.Window.cell_apply]; omega)).trans ?_
  · have h0 := (idx t).2.2.1
    obtain ⟨p, q, rfl⟩ : ∃ (p : Fin 128) (q : Fin 2048), y = ix2 p q := ⟨y 0, y 1, ext2 rfl rfl⟩
    rw [show ((cfg0.win 2).blk t).view.emb (ix2 p q) = ix2 ⟨p.val, by omega⟩ q from ext2 (by blk_simp [h0]) (by blk_simp [h0]), ref_h]
    blk_simp; rw [after0_2]
    exact block_h m c t p q
  · funext (i : S2176x2048.Idx)
    obtain ⟨r, j, rfl⟩ : ∃ (r : Fin 2176) (j : Fin 2048), i = ix2 r j := ⟨i 0, i 1, ext2 rfl rfl⟩
    rcases Nat.lt_or_ge r.val 128 with hr | hr
    · exact if_pos hr
    · refine (if_neg (by show ¬ r.val < 128; omega)).trans ?_
      rw [A_eq, ref_h]
      exact (entry_h m c r j hr).trans (seqRow_tail _ _ r hr j).symm

open Cert.MetaNormRefIdeal.Read in
/-- The second result after the call is the reference's. -/
theorem final_u (c : Dev nD) : (dats m 0 c).arrAt 3 (cfgs 0).N
    = val_main_v15 (F := Ideal) (m ((c : Thread nD τ).loc main_arg0)) (m ((c : Thread nD τ).loc main_arg1)) (m ((c : Thread nD τ).loc main_arg2)) := by
  refine ((dats m 0 c).arrAt_eq_of_coversWhere 3 (val_main_v15 (F := Ideal) (m ((c : Thread nD τ).loc main_arg0)) (m ((c : Thread nD τ).loc main_arg1)) (m ((c : Thread nD τ).loc main_arg2)))
    (P := fun i : S2176x2048.Idx => (i 0).val < 128) (fun β => β 0 = 0) (by decide +kernel) (fun t _ y => ?_)
    (fun j => by blk_simp [Pipeline.Window.cell_apply]; omega)).trans ?_
  · have h0 := (idx t).2.2.2
    obtain ⟨p, q, rfl⟩ : ∃ (p : Fin 128) (q : Fin 2048), y = ix2 p q := ⟨y 0, y 1, ext2 rfl rfl⟩
    rw [show ((cfg0.win 3).blk t).view.emb (ix2 p q) = ix2 ⟨p.val, by omega⟩ q from ext2 (by blk_simp [h0]) (by blk_simp [h0]), ref_u]
    blk_simp; rw [after0_3]
    exact block_u m c t p q
  · funext (i : S2176x2048.Idx)
    obtain ⟨r, j, rfl⟩ : ∃ (r : Fin 2176) (j : Fin 2048), i = ix2 r j := ⟨i 0, i 1, ext2 rfl rfl⟩
    rcases Nat.lt_or_ge r.val 128 with hr | hr
    · exact if_pos hr
    · refine (if_neg (by show ¬ r.val < 128; omega)).trans ?_
      rw [A_eq, ref_u]
      exact (entry_u m c r j hr).trans (rms_congr (fun k => (seqRow_tail _ _ r hr k).symm) (fun _ => rfl) j)

/-- The reference runs to its end with every counter at zero. -/
theorem frame_ref : Cert.quiescent_MetaNormRefIdeal := fun m ρ _ =>
  (θ_run Cert.MetaNormRefIdeal.defs _ _).mono
    (fun r h => ⟨fun c => (h c).2.2, sem_eq_zero_of_no_sems (by decide) r.2⟩) (Cert.MetaNormRefIdeal.Value.run (F := Ideal) m ρ)

/-- Over the reals the call's two results are the reference's. -/
theorem algebraic : Cert.algebraic_MetaNormIdeal_MetaNormRefIdeal := by
  pair_intro
  · run_from Cert.MetaNormIdeal.Gen.run_main m g
    exacts [V_main_arg1 m c, V_main_arg2 m c]
  · run_from Cert.MetaNormRefIdeal.Value.run m' g'
    · exact (final_h m c).symm
    · exact (final_u m c).symm

/-- Everything that is claimed of this call. -/
theorem claims : Cert.quiescent_MetaNorm ∧ Cert.quiescent_MetaNormIdeal ∧ Cert.quiescent_MetaNormRefIdeal
    ∧ Cert.preserves_MetaNorm_MetaNormIdeal ∧ Cert.algebraic_MetaNormIdeal_MetaNormRefIdeal :=
  ⟨fun m ρ _ => Cert.MetaNorm.Gen.frame m ρ, fun m ρ _ => Cert.MetaNormIdeal.Gen.frame m ρ, frame_ref, trivial, algebraic⟩

end Cert.MetaNormIdeal.Grad

end
-- ==== Proof.ColumnProducts.lean ====
/-
  Sums over the kernel's 2176 rows of the products of two arrays' columns, each array behind 112 rows of zeros.
-/
module

public import proofs.«01_k».proof.Proof.Columns

@[expose] public section

noncomputable section

namespace Cert.Columns

open Idealize.ShloMosaic Cert.Common

/-- Places of an array of three axes agree where their coordinates do. -/
theorem ext3 {a b c : ℕ} {i j : (⟨3, ![a, b, c]⟩ : Shape).Idx} (h0 : (i 0).val = (j 0).val) (h1 : (i 1).val = (j 1).val) (h2 : (i 2).val = (j 2).val) :
    i = j := funext fun k => Fin.ext (match k with | ⟨0, _⟩ => h0 | ⟨1, _⟩ => h1 | ⟨2, _⟩ => h2)

/-- The product of column `p` of one array with column `q` of another. -/
def gram {a b : ℕ} (x : FVec Ideal ⟨2, ![2064, a]⟩ .f32) (d : FVec Ideal ⟨2, ![2064, b]⟩ .f32) (p q : ℕ) : EReal :=
  ∑ r : Fin 2064, column x r p * column d r q

/-- The rows of zeros in front add nothing. -/
theorem gram_front {a b : ℕ} (x : FVec Ideal ⟨2, ![2064, a]⟩ .f32) (d : FVec Ideal ⟨2, ![2064, b]⟩ .f32) (p : Fin a) (q : Fin b) :
    ∑ R : Fin 2176, front x R.val p * front d R.val q = gram x d p.val q.val := by
  rw [show (2176 : ℕ) = 112 + 2064 from rfl, Fin.sum_univ_add,
    Finset.sum_eq_zero fun i _ => by rw [front, dif_neg (by have := i.isLt; simp only [Fin.val_castAdd]; omega), zero_mul], zero_add]
  refine Finset.sum_congr rfl fun r _ => ?_
  have h : 112 ≤ (Fin.natAdd 112 r).val ∧ (Fin.natAdd 112 r).val - 112 < 2064 := by
    have := r.isLt; simp only [Fin.val_natAdd]; omega
  have e : (⟨(Fin.natAdd 112 r).val - 112, h.2⟩ : Fin 2064) = r := Fin.ext (by simp)
  rw [front, front, dif_pos h, dif_pos h, e, column_eq, column_eq]

end Cert.Columns

end
-- ==== Proof.DownGrad.lean ====
/-
  The gradient of the weights of the MLP's second projection: the product of the columns of two arrays, as the reference's derivative has it.
-/
module

public import proofs.«01_k».proof.Defs
public import proofs.«01_k».proof.Proof.Gen.DownGradIdeal.Value
public import proofs.«01_k».proof.Proof.Gen.DownGradRefIdeal.Read
public import proofs.«01_k».proof.Proof.Gen.DownGrad.Frame
public import proofs.«01_k».proof.Proof.ColumnProducts

@[expose] public section

set_option maxRecDepth 16384

noncomputable section

namespace Cert.DownGradIdeal.Grad

open Idealize.ShloMosaic Idealize.ShloMosaic.TcCoe Idealize.SL.Sem
open Idealize.ShloMosaic.Pipeline (Dat)
open Cert.DownGradIdeal Cert.DownGradIdeal.Gen Cert.Common Cert.Columns

variable (m : (ℓ : Loc nD τ sig) → Buf (Elt Ideal) ℓ)

/-- The blocks each grid point reads and writes. -/
theorem idx : ∀ t : Fin cfg0.N, win0_0.index t = ![0, t.val / 2] ∧ win0_1.index t = ![0, t.val % 2]
    ∧ win0_2.index t = ![t.val / 2, t.val % 2] ∧ t.val < 16 :=
  (by decide +kernel : ∀ t : Fin grid0.N, _)

/-- The fill of the front rows is zero. -/
theorem fill_zero (i : S_.Idx) : ((sitofp .f32 (constantI S_ 32 0#32) : FVec Ideal S_ .f32) i : EReal) = 0 := sitofp_zero

/-- What the region finds in its operands: both arrays behind rows of zeros. -/
theorem entries (c : Dev nD) : V m c main_v1 = frontA (m ((c : Thread nD τ).loc main_arg0)) .bf16
    ∧ V m c main_v3 = frontA (m ((c : Thread nD τ).loc main_arg2)) .bf16 := by
  refine ⟨?_, ?_⟩ <;> unfold V <;>
    simp only [hostOps0, hostOps0_1, hostOps0_2, hostOps0_3, hostOps0_4,
      List.flatten_cons, List.flatten_nil, List.append_nil, List.cons_append, List.nil_append] <;> after_results
  · exact pad_front (m ((c : Thread nD τ).loc main_arg0)) pads_S2064x8192_S2176x8192_11200_000 h_S_ _ fill_zero
  · exact pad_front (m ((c : Thread nD τ).loc main_arg2)) pads_S2064x2048_S2176x2048_11200_000 h_S_ _ fill_zero

/-- The first array's columns. -/
theorem blk0 (c : Dev nD) (t : Fin cfg0.N) (R : Fin 2176) (i : Fin 1024) (p : Fin 8192) (hp : p.val = t.val / 2 * 1024 + i.val) :
    ((iblk m c 0 t : FVec Ideal S2176x1024 .bf16) (ix2 R i) : EReal) = front (m ((c : Thread nD τ).loc main_arg0)) R.val p := by
  have h0 := (idx t).1
  show V m c main_v1 (((cfg0.win 0).blk t).view.emb (ix2 R i)) = _
  rw [(entries m c).1]
  exact front_congr _ (by blk_simp [h0]) (by rw [hp]; blk_simp [h0])

/-- The second array's columns. -/
theorem blk1 (c : Dev nD) (t : Fin cfg0.N) (R : Fin 2176) (j : Fin 1024) (q : Fin 2048) (hq : q.val = t.val % 2 * 1024 + j.val) :
    ((iblk m c 1 t : FVec Ideal S2176x1024 .bf16) (ix2 R j) : EReal) = front (m ((c : Thread nD τ).loc main_arg2)) R.val q := by
  have h0 := (idx t).2.1
  show V m c main_v3 (((cfg0.win 1).blk t).view.emb (ix2 R j)) = _
  rw [(entries m c).2]
  exact front_congr _ (by blk_simp [h0]) (by rw [hq]; blk_simp [h0])

/-- What a point computes. -/
theorem pay1 (x d : FVec Ideal S2176x1024 .bf16) (i j : Fin 1024) :
    (k0_pay1 (F := Ideal) x d (ix2 i j) : EReal) = ∑ R : Fin 2176, x (ix2 R i) * d (ix2 R j) := by
  pointwise [k0_pay1]

/-- It is the product of two columns of the arguments. -/
theorem tile (c : Dev nD) (t : Fin cfg0.N) (i j : Fin 1024) (p : Fin 8192) (q : Fin 2048) (hp : p.val = t.val / 2 * 1024 + i.val)
    (hq : q.val = t.val % 2 * 1024 + j.val) : (k0_pay1 (F := Ideal) (iblk m c 0 t) (iblk m c 1 t) (ix2 i j) : EReal)
      = gram (m ((c : Thread nD τ).loc main_arg0)) (m ((c : Thread nD τ).loc main_arg2)) p.val q.val := by
  refine (pay1 _ _ i j).trans (Eq.trans ?_ (gram_front _ _ p q))
  exact Finset.sum_congr rfl fun R _ => congrArg₂ (· * ·) (blk0 m c t R i p hp) (blk1 m c t R j q hq)

open Cert.DownGradRefIdeal.Read in
/-- The reference's result. -/
theorem ref_at (x : FVec Ideal S2064x8192 .f32) (d : FVec Ideal S2064x2048 .f32) (p : Fin 8192) (q : Fin 2048) :
    (val_main_v2 (F := Ideal) x d (ix2 p q) : EReal) = gram x d p.val q.val := by
  have e : (val_main_v2 (F := Ideal) x d (ix2 p q) : EReal) = ∑ r : Fin 2064, d (ix2 r q) * x (ix2 r p) := by
    pointwise [val_main_v2, val_main_v1]
  rw [e]
  exact Finset.sum_congr rfl fun r _ => by rw [column_eq, column_eq, mul_comm]

open Cert.DownGradRefIdeal.Read in
/-- The result after the last grid point is the reference's. -/
theorem final (c : Dev nD) : (dats m 0 c).arrAt 2 (cfgs 0).N
    = val_main_v2 (F := Ideal) (m ((c : Thread nD τ).loc main_arg0)) (m ((c : Thread nD τ).loc main_arg2)) := by
  refine (dats m 0 c).arrAt_eq_of_covers 2 _ (by decide +kernel) fun t _ y => ?_
  have h0 := (idx t).2.2.1
  have ht := (idx t).2.2.2
  obtain ⟨i, j, rfl⟩ : ∃ (i j : Fin 1024), y = ix2 i j := ⟨y 0, y 1, ext2 rfl rfl⟩
  have hi := i.isLt
  have hj := j.isLt
  rw [show ((cfg0.win 2).blk t).view.emb (ix2 i j) = ix2 ⟨t.val / 2 * 1024 + i.val, by omega⟩ ⟨t.val % 2 * 1024 + j.val, by omega⟩ from
    ext2 (by blk_simp [h0]) (by blk_simp [h0]), ref_at]
  blk_simp; rw [after0_2]; frame_out
  exact tile m c t i j ⟨t.val / 2 * 1024 + i.val, by omega⟩ ⟨t.val % 2 * 1024 + j.val, by omega⟩ rfl rfl

/-- The reference runs to its end with every counter at zero. -/
theorem frame_ref : Cert.quiescent_DownGradRefIdeal := fun m ρ _ =>
  (θ_run Cert.DownGradRefIdeal.defs _ _).mono
    (fun r h => ⟨fun c => (h c).2, sem_eq_zero_of_no_sems (by decide) r.2⟩) (Cert.DownGradRefIdeal.Value.run (F := Ideal) m ρ)

/-- Over the reals the call's results are the reference's. -/
theorem algebraic : Cert.algebraic_DownGradIdeal_DownGradRefIdeal := by
  pair_intro
  · run_from Cert.DownGradIdeal.Gen.run_main m g
    exacts [V_main_arg0 m c, V_main_arg1 m c, V_main_arg2 m c]
  · run_from Cert.DownGradRefIdeal.Value.run m' g'
    · exact (final m c).symm

/-- Everything that is claimed of this call. -/
theorem claims : Cert.quiescent_DownGrad ∧ Cert.quiescent_DownGradIdeal ∧ Cert.quiescent_DownGradRefIdeal
    ∧ Cert.preserves_DownGrad_DownGradIdeal ∧ Cert.algebraic_DownGradIdeal_DownGradRefIdeal :=
  ⟨fun m ρ _ => Cert.DownGrad.Gen.frame m ρ, fun m ρ _ => Cert.DownGradIdeal.Gen.frame m ρ, frame_ref, trivial, algebraic⟩

end Cert.DownGradIdeal.Grad

end
-- ==== Proof.UpGrad.lean ====
/-
  The gradient of the weights of the MLP's first projection, its columns in four parts: the product of the columns of two arrays, as the reference's derivative has it.
-/
module

public import proofs.«01_k».proof.Defs
public import proofs.«01_k».proof.Proof.Gen.UpGradIdeal.Value
public import proofs.«01_k».proof.Proof.Gen.UpGradRefIdeal.Read
public import proofs.«01_k».proof.Proof.Gen.UpGrad.Frame
public import proofs.«01_k».proof.Proof.ColumnProducts

@[expose] public section

set_option maxRecDepth 16384

noncomputable section

namespace Cert.UpGradIdeal.Grad

open Idealize.ShloMosaic Idealize.ShloMosaic.TcCoe Idealize.SL.Sem
open Idealize.ShloMosaic.Pipeline (Dat)
open Cert.UpGradIdeal Cert.UpGradIdeal.Gen Cert.Common Cert.Columns

variable (m : (ℓ : Loc nD τ sig) → Buf (Elt Ideal) ℓ)

/-- The blocks each grid point reads and writes. -/
theorem idx : ∀ t : Fin cfg0.N, win0_0.index t = ![0, t.val / 2 % 2] ∧ win0_1.index t = ![0, t.val / 4 * 2 + t.val % 2]
    ∧ win0_2.index t = ![t.val / 4, t.val / 2 % 2, t.val % 2] ∧ t.val < 16 :=
  (by decide +kernel : ∀ t : Fin grid0.N, _)

/-- The fill of the front rows is zero. -/
theorem fill_zero (i : S_.Idx) : ((sitofp .f32 (constantI S_ 32 0#32) : FVec Ideal S_ .f32) i : EReal) = 0 := sitofp_zero

/-- What the region finds in its operands: both arrays behind rows of zeros. -/
theorem entries (c : Dev nD) : V m c main_v1 = frontA (m ((c : Thread nD τ).loc main_arg0)) .bf16
    ∧ V m c main_v3 = frontA (m ((c : Thread nD τ).loc main_arg2)) .bf16 := by
  refine ⟨?_, ?_⟩ <;> unfold V <;>
    simp only [hostOps0, hostOps0_1, hostOps0_2, hostOps0_3, hostOps0_4,
      List.flatten_cons, List.flatten_nil, List.append_nil, List.cons_append, List.nil_append] <;> after_results
  · exact pad_front (m ((c : Thread nD τ).loc main_arg0)) pads_S2064x2048_S2176x2048_11200_000 h_S_ _ fill_zero
  · exact pad_front (m ((c : Thread nD τ).loc main_arg2)) pads_S2064x8192_S2176x8192_11200_000 h_S_ _ fill_zero

/-- The first array's columns. -/
theorem blk0 (c : Dev nD) (t : Fin cfg0.N) (R : Fin 2176) (i : Fin 1024) (p : Fin 2048) (hp : p.val = t.val / 2 % 2 * 1024 + i.val) :
    ((iblk m c 0 t : FVec Ideal S2176x1024 .bf16) (ix2 R i) : EReal) = front (m ((c : Thread nD τ).loc main_arg0)) R.val p := by
  have h0 := (idx t).1
  show V m c main_v1 (((cfg0.win 0).blk t).view.emb (ix2 R i)) = _
  rw [(entries m c).1]
  exact front_congr _ (by blk_simp [h0]) (by rw [hp]; blk_simp [h0])

/-- The second array's columns. -/
theorem blk1 (c : Dev nD) (t : Fin cfg0.N) (R : Fin 2176) (j : Fin 1024) (q : Fin 8192) (hq : q.val = (t.val / 4 * 2 + t.val % 2) * 1024 + j.val) :
    ((iblk m c 1 t : FVec Ideal S2176x1024 .bf16) (ix2 R j) : EReal) = front (m ((c : Thread nD τ).loc main_arg2)) R.val q := by
  have h0 := (idx t).2.1
  show V m c main_v3 (((cfg0.win 1).blk t).view.emb (ix2 R j)) = _
  rw [(entries m c).2]
  exact front_congr _ (by blk_simp [h0]) (by rw [hq]; blk_simp [h0])

/-- What a point computes. -/
theorem pay1 (x d : FVec Ideal S2176x1024 .bf16) (z : Fin 1) (i j : Fin 1024) :
    (k0_pay1 (F := Ideal) x d (ix3 z i j) : EReal) = ∑ R : Fin 2176, x (ix2 R i) * d (ix2 R j) := by
  pointwise [k0_pay1]

/-- It is the product of two columns of the arguments. -/
theorem tile (c : Dev nD) (t : Fin cfg0.N) (z : Fin 1) (i j : Fin 1024) (p : Fin 2048) (q : Fin 8192) (hp : p.val = t.val / 2 % 2 * 1024 + i.val)
    (hq : q.val = (t.val / 4 * 2 + t.val % 2) * 1024 + j.val) : (k0_pay1 (F := Ideal) (iblk m c 0 t) (iblk m c 1 t) (ix3 z i j) : EReal)
      = gram (m ((c : Thread nD τ).loc main_arg0)) (m ((c : Thread nD τ).loc main_arg2)) p.val q.val := by
  refine (pay1 _ _ z i j).trans (Eq.trans ?_ (gram_front _ _ p q))
  exact Finset.sum_congr rfl fun R _ => congrArg₂ (· * ·) (blk0 m c t R i p hp) (blk1 m c t R j q hq)

open Cert.UpGradRefIdeal.Read in
/-- The reference's gradient before its columns are parted. -/
theorem ref_row (x : FVec Ideal S2064x2048 .f32) (d : FVec Ideal S2064x8192 .f32) (p : Fin 2048) (q : Fin 8192) :
    (val_main_v2 (F := Ideal) x d (ix2 p q) : EReal) = gram x d p.val q.val := by
  have e : (val_main_v2 (F := Ideal) x d (ix2 p q) : EReal) = ∑ r : Fin 2064, d (ix2 r q) * x (ix2 r p) := by
    pointwise [val_main_v2, val_main_v1]
  rw [e]
  exact Finset.sum_congr rfl fun r _ => by rw [column_eq, column_eq, mul_comm]

open Cert.UpGradRefIdeal.Read in
/-- The reference's result. -/
theorem ref_at (x : FVec Ideal S2064x2048 .f32) (d : FVec Ideal S2064x8192 .f32) (s : Fin 4) (p q : Fin 2048) :
    (val_main_v4 (F := Ideal) x d (ix3 s p q) : EReal) = gram x d p.val (s.val * 2048 + q.val) := by
  have hs := s.isLt
  have hq := q.isLt
  rw [← ref_row x d p ⟨s.val * 2048 + q.val, by omega⟩]
  generalize e : val_main_v2 (F := Ideal) x d = y
  pointwise [val_main_v4, val_main_v3, e]

open Cert.UpGradRefIdeal.Read in
/-- The result after the last grid point is the reference's. -/
theorem final (c : Dev nD) : (dats m 0 c).arrAt 2 (cfgs 0).N
    = val_main_v4 (F := Ideal) (m ((c : Thread nD τ).loc main_arg0)) (m ((c : Thread nD τ).loc main_arg2)) := by
  refine (dats m 0 c).arrAt_eq_of_covers 2 _ (by decide +kernel) fun t _ y => ?_
  have h0 := (idx t).2.2.1
  have ht := (idx t).2.2.2
  obtain ⟨z, i, j, rfl⟩ : ∃ (z : Fin 1) (i j : Fin 1024), y = ix3 z i j := ⟨y 0, y 1, y 2, ext3 rfl rfl rfl⟩
  have hz := z.isLt
  have hi := i.isLt
  have hj := j.isLt
  rw [show ((cfg0.win 2).blk t).view.emb (ix3 z i j) = ix3 ⟨t.val / 4, by omega⟩ ⟨t.val / 2 % 2 * 1024 + i.val, by omega⟩
      ⟨t.val % 2 * 1024 + j.val, by omega⟩ from
    ext3 (by blk_simp [h0]) (by blk_simp [h0]) (by blk_simp [h0]), ref_at]
  blk_simp; rw [after0_2]; frame_out
  refine (tile m c t z i j ⟨t.val / 2 % 2 * 1024 + i.val, by omega⟩ ⟨t.val / 4 * 2048 + (t.val % 2 * 1024 + j.val), by omega⟩ rfl ?_)
  show t.val / 4 * 2048 + (t.val % 2 * 1024 + j.val) = (t.val / 4 * 2 + t.val % 2) * 1024 + j.val
  omega

/-- The reference runs to its end with every counter at zero. -/
theorem frame_ref : Cert.quiescent_UpGradRefIdeal := fun m ρ _ =>
  (θ_run Cert.UpGradRefIdeal.defs _ _).mono
    (fun r h => ⟨fun c => (h c).2, sem_eq_zero_of_no_sems (by decide) r.2⟩) (Cert.UpGradRefIdeal.Value.run (F := Ideal) m ρ)

/-- Over the reals the call's results are the reference's. -/
theorem algebraic : Cert.algebraic_UpGradIdeal_UpGradRefIdeal := by
  pair_intro
  · run_from Cert.UpGradIdeal.Gen.run_main m g
    exacts [V_main_arg0 m c, V_main_arg1 m c, V_main_arg2 m c]
  · run_from Cert.UpGradRefIdeal.Value.run m' g'
    · exact (final m c).symm

/-- Everything that is claimed of this call. -/
theorem claims : Cert.quiescent_UpGrad ∧ Cert.quiescent_UpGradIdeal ∧ Cert.quiescent_UpGradRefIdeal
    ∧ Cert.preserves_UpGrad_UpGradIdeal ∧ Cert.algebraic_UpGradIdeal_UpGradRefIdeal :=
  ⟨fun m ρ _ => Cert.UpGrad.Gen.frame m ρ, fun m ρ _ => Cert.UpGradIdeal.Gen.frame m ρ, frame_ref, trivial, algebraic⟩

end Cert.UpGradIdeal.Grad

end
-- ==== Proof.UpBackward.lean ====
/-
  The gradient that reaches the normalised rows through the first weights of the feed-forward part, its long axis walked in four pieces.
-/
module

public import proofs.«01_k».proof.Defs
public import proofs.«01_k».proof.Proof.Gen.UpBack.Frame
public import proofs.«01_k».proof.Proof.Gen.UpBackIdeal.Value
public import proofs.«01_k».proof.Proof.Gen.UpBackRefIdeal.Run
public import proofs.«01_k».proof.Proof.Gen.UpBackRefIdeal.Read
public import proofs.«01_k».proof.Proof.ColumnProducts
public import Idealize.ShloMosaic.Lib.Pipeline.ValueKit.Acc
public import Idealize.ShloMosaic.Lib.Pipeline.ReadBack

@[expose] public section

set_option maxRecDepth 16384

noncomputable section

namespace Cert.UpBackIdeal.Grad

open Idealize.ShloMosaic Idealize.ShloMosaic.TcCoe Idealize.SL.Sem
open Idealize.ShloMosaic.Pipeline (Dat)
open Cert.UpBackIdeal Cert.UpBackIdeal.Gen Cert.Common Cert.Columns

variable (m : (ℓ : Loc nD τ sig) → Buf (Elt Ideal) ℓ)

/-- The blocks each grid point reads and writes: four points in a row walk the summed axis. -/
theorem idx : ∀ t : Fin cfg0.N, win0_0.index t = ![t.val / 8, t.val % 4] ∧ win0_1.index t = ![t.val % 4, t.val / 4 % 2, 0]
    ∧ win0_2.index t = ![t.val / 8, t.val / 4 % 2] ∧ t.val < 16 :=
  (by decide +kernel : ∀ t : Fin grid0.N, _)

/-- The fill of the front rows is zero. -/
theorem fill_zero (i : S_.Idx) : ((sitofp .f32 (constantI S_ 32 0#32) : FVec Ideal S_ .f32) i : EReal) = 0 := sitofp_zero

/-- The weights' columns in four parts. -/
theorem split_eq (w : FVec Ideal S2048x8192 .f32) :
    (truncf (F := Ideal) .bf16 (transpose S4x2048x2048 [1, 0, 2] (shapeCast S2048x4x2048 w shapeCasts_S2048x8192_S2048x4x2048)
      transposes_S2048x4x2048_S4x2048x2048_1_0_2) bitsLt_bf16_f32 : FVec Ideal S4x2048x2048 .bf16) = parts 2048 w .bf16 := by
  funext i
  refine Eq.trans ?_ (dif_pos (show (i 0).val * 2048 + (i 2).val < 8192 from by have h1 := (i 0).isLt; have h2 := (i 2).isLt; dsimp at h1 h2; omega)).symm
  pointwise

/-- What the region finds in its operands: the gradient behind rows of zeros, and the weights' columns in four parts. -/
theorem entries (c : Dev nD) : V m c main_v1 = frontA (m ((c : Thread nD τ).loc main_arg2)) .bf16
    ∧ V m c main_v4 = parts 2048 (m ((c : Thread nD τ).loc main_arg1)) .bf16 := by
  refine ⟨?_, ?_⟩ <;> unfold V <;>
    simp only [hostOps0, hostOps0_1, hostOps0_2, List.flatten_cons, List.flatten_nil, List.append_nil, List.cons_append, List.nil_append] <;> after_results
  · exact pad_front (m ((c : Thread nD τ).loc main_arg2)) pads_S2064x8192_S2176x8192_11200_000 h_S_ _ fill_zero
  · exact split_eq (m ((c : Thread nD τ).loc main_arg1))

/-- The rows. -/
theorem blk0 (c : Dev nD) (t : Fin cfg0.N) (r : Fin 1088) (l : Fin 2048) (R : ℕ) (k : Fin 8192) (hR : R = t.val / 8 * 1088 + r.val)
    (hk : k.val = t.val % 4 * 2048 + l.val) :
    ((iblk m c 0 t : FVec Ideal S1088x2048 .bf16) (ix2 r l) : EReal) = front (m ((c : Thread nD τ).loc main_arg2)) R k := by
  have h0 := (idx t).1
  show V m c main_v1 (((cfg0.win 0).blk t).view.emb (ix2 r l)) = _
  rw [(entries m c).1]
  exact front_congr _ (by rw [hR]; blk_simp [h0]) (by rw [hk]; blk_simp [h0])

/-- The weights, read along their rows. -/
theorem blk1 (c : Dev nD) (t : Fin cfg0.N) (z : Fin 1) (j : Fin 1024) (l : Fin 2048) (q : Fin 2048) (k : Fin 8192)
    (hq : q.val = t.val / 4 % 2 * 1024 + j.val) (hk : k.val = t.val % 4 * 2048 + l.val) :
    ((iblk m c 1 t : FVec Ideal S1x1024x2048 .bf16) (ix3 z j l) : EReal) = (m ((c : Thread nD τ).loc main_arg1) : FVec Ideal S2048x8192 .f32) (ix2 q k) := by
  have hz := z.isLt
  have h0 := (idx t).2.1
  show V m c main_v4 (((cfg0.win 1).blk t).view.emb (ix3 z j l)) = _
  rw [(entries m c).2]
  have e0 : ((((cfg0.win 1).blk t).view.emb (ix3 z j l)) 0).val = t.val % 4 := by blk_simp [h0]
  have e1 : ((((cfg0.win 1).blk t).view.emb (ix3 z j l)) 1) = q := Fin.ext (by rw [hq]; blk_simp [h0])
  have e2 : ((((cfg0.win 1).blk t).view.emb (ix3 z j l)) 2).val = l.val := by blk_simp [h0]
  refine Eq.trans (congrArg₂ (column (m ((c : Thread nD τ).loc main_arg1))) e1 ?_) (column_eq _ q k)
  rw [e0, e2, hk]

/-- What a point computes of the product. -/
theorem pay1 (x : FVec Ideal S1088x2048 .bf16) (w : FVec Ideal S1x1024x2048 .bf16) (r : Fin 1088) (j : Fin 1024) :
    (k0_pay1 (F := Ideal) x w (ix2 r j) : EReal) = ∑ l : Fin 2048, x (ix2 r l) * w (ix3 0 j l) := by
  pointwise [k0_pay1]

/-- The first point of a run of four stores its product. -/
theorem pay2 (x : _) (w : _) (i : S1088x1024.Idx) : (k0_pay2 (F := Ideal) x w i : EReal) = 0 + k0_pay1 (F := Ideal) x w i := by
  rw [zero_add]
  generalize e : k0_pay1 (F := Ideal) x w = z
  pointwise [k0_pay2, e]

/-- The others add theirs. -/
theorem pay3 (x : _) (w : _) (acc : FVec Ideal S1088x1024 .f32) (i : S1088x1024.Idx) :
    (k0_pay3 (F := Ideal) x w acc i : EReal) = acc i + k0_pay1 (F := Ideal) x w i := by
  generalize e : k0_pay1 (F := Ideal) x w = z
  pointwise [k0_pay3, e]

/-- After the last point of a run its block is the sum of the four products. -/
theorem run_sum (c : Dev nD) (t : Fin cfg0.N) (h : t.val % 4 = 4 - 1) (y : S1088x1024.Idx) :
    ((outsAt0 m c t.val t.isLt).1 y : EReal) = ∑ s : Fin 4, (k0_pay1 (F := Ideal) (iblk m c 0 ⟨4 * (t.val / 4) + s.val, Pipeline.run_point_lt_of_flush t h s⟩)
      (iblk m c 1 ⟨4 * (t.val / 4) + s.val, Pipeline.run_point_lt_of_flush t h s⟩) y : EReal) := by
  have e : ((outsAt0 m c t.val t.isLt).1 y : EReal) = (outsAt0 m c t.val t.isLt).2 y := by
    rw [outsAt0_C m c t (by omega) (by omega) h]; frame_out
  refine e.trans ((Pipeline.eq_sum_fin_of_reset_step_apply_of_flush (ι := S1088x1024.Idx) (M := EReal) (fun n h => (outsAt0 m c n h).2) 4 (fun _ => 0)
    (fun p j => k0_pay1 (F := Ideal) (iblk m c 0 p) (iblk m c 1 p) j) (fun t h j => ?_) (fun t h j => ?_) t h y).trans (zero_add _))
  · show ((outsAt0 m c t.val t.isLt).2 j : EReal) = _
    rw [outsAt0_A m c t h (by omega) (by omega)]; frame_out
    exact pay2 _ _ j
  · show ((outsAt0 m c t.val t.isLt).2 j : EReal) = _
    by_cases h3 : t.val % 4 = 3
    · rw [outsAt0_C m c t h (by omega) h3]; frame_out
      exact (pay3 _ _ _ j).trans (by rw [read_unread_whole])
    · rw [outsAt0_B m c t h (by omega) h3]; frame_out
      exact (pay3 _ _ _ j).trans (by rw [read_unread_whole])

/-- The weights with their axes exchanged. -/
def turned (w : FVec Ideal S2048x8192 .f32) : FVec Ideal ⟨2, ![8192, 2048]⟩ .f32 := fun i => w (ix2 (i 1) (i 0))

open Cert.UpBackRefIdeal.Read in
/-- The reference's result. -/
theorem ref_at (w : FVec Ideal S2048x8192 .f32) (d : FVec Ideal S2064x8192 .f32) (R : Fin 2176) (q : Fin 2048) :
    (val_main_v2 (F := Ideal) w d (ix2 R q) : EReal) = ∑ k : Fin 8192, front d R.val k * w (ix2 q k) := by
  have e : (val_main_v2 (F := Ideal) w d (ix2 R q) : EReal) = front (val_main_v1 (F := Ideal) w d) R.val q := by
    pointwise [val_main_v2, val_main_call0_v0, val_main_c, front, sitofp_zero]
  refine e.trans ((front_product d (turned w) _ (fun r j => by pointwise [val_main_v1]; rfl) R.val q).trans ?_)
  exact Finset.sum_congr rfl fun k _ => congrArg (front d R.val k * ·) (column_eq (turned w) k q)

open Cert.UpBackRefIdeal.Read in
/-- The result after the last grid point is the reference's. -/
theorem final (c : Dev nD) : (dats m 0 c).arrAt 2 (cfgs 0).N
    = val_main_v2 (F := Ideal) (m ((c : Thread nD τ).loc main_arg1)) (m ((c : Thread nD τ).loc main_arg2)) := by
  refine (dats m 0 c).arrAt_eq_of_covers 2 _ (by decide +kernel) fun t hf y => ?_
  have h3 : t.val % 4 = 3 := (flush0_2 t).mp hf
  have h0 := (idx t).2.2.1
  have ht := (idx t).2.2.2
  obtain ⟨r, j, rfl⟩ : ∃ (r : Fin 1088) (j : Fin 1024), y = ix2 r j := ⟨y 0, y 1, ext2 rfl rfl⟩
  have hr := r.isLt
  have hj := j.isLt
  rw [show ((cfg0.win 2).blk t).view.emb (ix2 r j) = ix2 ⟨t.val / 8 * 1088 + r.val, by omega⟩ ⟨t.val / 4 % 2 * 1024 + j.val, by omega⟩ from
    ext2 (by blk_simp [h0]) (by blk_simp [h0]), ref_at]
  blk_simp; rw [after0_2]
  refine (run_sum m c t h3 (ix2 r j)).trans ((Finset.sum_congr rfl fun s _ => pay1 _ _ r j).trans (Fin.sum_mul_add_congr fun s l hl => ?_))
  have hs := s.isLt
  have hl' := l.isLt
  exact congrArg₂ (· * ·) (blk0 m c _ r l _ _ (by show t.val / 8 * 1088 + r.val = (4 * (t.val / 4) + s.val) / 8 * 1088 + r.val; omega)
      (by show s.val * 2048 + l.val = (4 * (t.val / 4) + s.val) % 4 * 2048 + l.val; omega))
    (blk1 m c _ 0 j l _ _ (by show t.val / 4 % 2 * 1024 + j.val = (4 * (t.val / 4) + s.val) / 4 % 2 * 1024 + j.val; omega)
      (by show s.val * 2048 + l.val = (4 * (t.val / 4) + s.val) % 4 * 2048 + l.val; omega))

/-- The reference runs to its end with every counter at zero. -/
theorem frame_ref : Cert.quiescent_UpBackRefIdeal := fun m ρ _ =>
  (θ_run Cert.UpBackRefIdeal.defs _ _).mono
    (fun r h => ⟨fun c => (h c).2, sem_eq_zero_of_no_sems (by decide) r.2⟩) (Cert.UpBackRefIdeal.Value.run (F := Ideal) m ρ)

/-- Over the reals the call's result is the reference's. -/
theorem algebraic : Cert.algebraic_UpBackIdeal_UpBackRefIdeal := by
  pair_intro
  · run_from Cert.UpBackIdeal.Gen.run_main m g
    exacts [V_main_arg0 m c, V_main_arg1 m c, V_main_arg2 m c]
  · run_from Cert.UpBackRefIdeal.Value.run m' g'
    exact (final m c).symm

/-- Everything that is claimed of this call. -/
theorem claims : Cert.quiescent_UpBack ∧ Cert.quiescent_UpBackIdeal ∧ Cert.quiescent_UpBackRefIdeal
    ∧ Cert.preserves_UpBack_UpBackIdeal ∧ Cert.algebraic_UpBackIdeal_UpBackRefIdeal :=
  ⟨fun m ρ _ => Cert.UpBack.Gen.frame m ρ, fun m ρ _ => Cert.UpBackIdeal.Gen.frame m ρ, frame_ref, trivial, algebraic⟩

end Cert.UpBackIdeal.Grad

end
-- ==== Proof.DownProduct.lean ====
/-
  The product of the rows with the second weights of the feed-forward part, its long axis walked in four pieces.
-/
module

public import proofs.«01_k».proof.Defs
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import proofs.«01_k».proof.Proof.ColumnProducts
public import Idealize.ShloMosaic.Lib.Pipeline.ValueKit.Acc
public import Idealize.ShloMosaic.Lib.Pipeline.ReadBack

@[expose] public section

set_option maxRecDepth 16384

noncomputable section

namespace Cert.DownIdeal.Grad

open Idealize.ShloMosaic Idealize.ShloMosaic.TcCoe Idealize.SL.Sem
open Idealize.ShloMosaic.Pipeline (Dat)
open Cert.DownIdeal Cert.DownIdeal.Gen Cert.Common Cert.Columns

variable (m : (ℓ : Loc nD τ sig) → Buf (Elt Ideal) ℓ)

/-- The blocks each grid point reads and writes: four points in a row walk the summed axis. -/
theorem idx : ∀ t : Fin cfg0.N, win0_0.index t = ![t.val / 8, t.val % 4] ∧ win0_1.index t = ![t.val % 4, t.val / 4 % 2]
    ∧ win0_2.index t = ![t.val / 8, t.val / 4 % 2] ∧ t.val < 16 :=
  (by decide +kernel : ∀ t : Fin grid0.N, _)

/-- The fill of the front rows is zero. -/
theorem fill_zero (i : S_.Idx) : ((sitofp .f32 (constantI S_ 32 0#32) : FVec Ideal S_ .f32) i : EReal) = 0 := sitofp_zero

/-- What the region finds in its operands: the rows behind rows of zeros, and the weights. -/
theorem entries (c : Dev nD) : V m c main_v1 = frontA (m ((c : Thread nD τ).loc main_arg0)) .bf16
    ∧ V m c main_v2 = (fun i => (m ((c : Thread nD τ).loc main_arg1) : FVec Ideal S8192x2048 .f32) i : FVec Ideal S8192x2048 .bf16) := by
  refine ⟨?_, ?_⟩ <;> unfold V <;>
    simp only [hostOps0, hostOps0_1, hostOps0_2, List.flatten_cons, List.flatten_nil, List.append_nil, List.cons_append, List.nil_append] <;> after_results
  · exact pad_front (m ((c : Thread nD τ).loc main_arg0)) pads_S2064x8192_S2176x8192_11200_000 h_S_ _ fill_zero
  · rfl

/-- The rows. -/
theorem blk0 (c : Dev nD) (t : Fin cfg0.N) (r : Fin 1088) (l : Fin 2048) (R : ℕ) (k : Fin 8192) (hR : R = t.val / 8 * 1088 + r.val)
    (hk : k.val = t.val % 4 * 2048 + l.val) :
    ((iblk m c 0 t : FVec Ideal S1088x2048 .bf16) (ix2 r l) : EReal) = front (m ((c : Thread nD τ).loc main_arg0)) R k := by
  have h0 := (idx t).1
  show V m c main_v1 (((cfg0.win 0).blk t).view.emb (ix2 r l)) = _
  rw [(entries m c).1]
  exact front_congr _ (by rw [hR]; blk_simp [h0]) (by rw [hk]; blk_simp [h0])

/-- The weights. -/
theorem blk1 (c : Dev nD) (t : Fin cfg0.N) (l : Fin 2048) (j : Fin 1024) (k : Fin 8192) (q : Fin 2048) (hk : k.val = t.val % 4 * 2048 + l.val)
    (hq : q.val = t.val / 4 % 2 * 1024 + j.val) :
    ((iblk m c 1 t : FVec Ideal S2048x1024 .bf16) (ix2 l j) : EReal) = (m ((c : Thread nD τ).loc main_arg1) : FVec Ideal S8192x2048 .f32) (ix2 k q) := by
  have h0 := (idx t).2.1
  show V m c main_v2 (((cfg0.win 1).blk t).view.emb (ix2 l j)) = _
  rw [(entries m c).2]
  exact congrArg (m ((c : Thread nD τ).loc main_arg1)) (ext2 (Eq.trans (by blk_simp [h0]) hk.symm) (Eq.trans (by blk_simp [h0]) hq.symm))

/-- What a point computes of the product. -/
theorem pay1 (x : FVec Ideal S1088x2048 .bf16) (w : FVec Ideal S2048x1024 .bf16) (r : Fin 1088) (j : Fin 1024) :
    (k0_pay1 (F := Ideal) x w (ix2 r j) : EReal) = ∑ l : Fin 2048, x (ix2 r l) * w (ix2 l j) := by
  pointwise [k0_pay1]

/-- The first point of a run of four stores its product. -/
theorem pay2 (x : _) (w : _) (i : S1088x1024.Idx) : (k0_pay2 (F := Ideal) x w i : EReal) = 0 + k0_pay1 (F := Ideal) x w i := by
  rw [zero_add]
  generalize e : k0_pay1 (F := Ideal) x w = z
  pointwise [k0_pay2, e]

/-- The others add theirs. -/
theorem pay3 (x : _) (w : _) (acc : FVec Ideal S1088x1024 .f32) (i : S1088x1024.Idx) :
    (k0_pay3 (F := Ideal) x w acc i : EReal) = acc i + k0_pay1 (F := Ideal) x w i := by
  generalize e : k0_pay1 (F := Ideal) x w = z
  pointwise [k0_pay3, e]

/-- After the last point of a run its block is the sum of the four products. -/
theorem run_sum (c : Dev nD) (t : Fin cfg0.N) (h : t.val % 4 = 4 - 1) (y : S1088x1024.Idx) :
    ((outsAt0 m c t.val t.isLt).1 y : EReal) = ∑ s : Fin 4, (k0_pay1 (F := Ideal) (iblk m c 0 ⟨4 * (t.val / 4) + s.val, Pipeline.run_point_lt_of_flush t h s⟩)
      (iblk m c 1 ⟨4 * (t.val / 4) + s.val, Pipeline.run_point_lt_of_flush t h s⟩) y : EReal) := by
  have e : ((outsAt0 m c t.val t.isLt).1 y : EReal) = (outsAt0 m c t.val t.isLt).2 y := by
    rw [outsAt0_C m c t (by omega) (by omega) h]; frame_out
  refine e.trans ((Pipeline.eq_sum_fin_of_reset_step_apply_of_flush (ι := S1088x1024.Idx) (M := EReal) (fun n h => (outsAt0 m c n h).2) 4 (fun _ => 0)
    (fun p j => k0_pay1 (F := Ideal) (iblk m c 0 p) (iblk m c 1 p) j) (fun t h j => ?_) (fun t h j => ?_) t h y).trans (zero_add _))
  · show ((outsAt0 m c t.val t.isLt).2 j : EReal) = _
    rw [outsAt0_A m c t h (by omega) (by omega)]; frame_out
    exact pay2 _ _ j
  · show ((outsAt0 m c t.val t.isLt).2 j : EReal) = _
    by_cases h3 : t.val % 4 = 3
    · rw [outsAt0_C m c t h (by omega) h3]; frame_out
      exact (pay3 _ _ _ j).trans (by rw [read_unread_whole])
    · rw [outsAt0_B m c t h (by omega) h3]; frame_out
      exact (pay3 _ _ _ j).trans (by rw [read_unread_whole])

open Cert.DownRefIdeal.Read in
/-- The reference's result. -/
theorem ref_at (x : FVec Ideal S2064x8192 .f32) (w : FVec Ideal S8192x2048 .f32) (R : Fin 2176) (q : Fin 2048) :
    (val_main_v1 (F := Ideal) x w (ix2 R q) : EReal) = ∑ k : Fin 8192, front x R.val k * w (ix2 k q) := by
  have e : (val_main_v1 (F := Ideal) x w (ix2 R q) : EReal) = front (val_main_v0 (F := Ideal) x w) R.val q := by
    pointwise [val_main_v1, val_main_call0_v0, val_main_c, front, sitofp_zero]
  refine e.trans ((front_product x w _ (fun r j => by pointwise [val_main_v0]) R.val q).trans ?_)
  exact Finset.sum_congr rfl fun k _ => congrArg (front x R.val k * ·) (column_eq w k q)

open Cert.DownRefIdeal.Read in
/-- The result after the last grid point is the reference's. -/
theorem final (c : Dev nD) : (dats m 0 c).arrAt 2 (cfgs 0).N
    = val_main_v1 (F := Ideal) (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have h0 := (idx t).2.2.1
  have ht := (idx t).2.2.2
  obtain ⟨r, j, rfl⟩ : ∃ (r : Fin 1088) (j : Fin 1024), y = ix2 r j := ⟨y 0, y 1, ext2 rfl rfl⟩
  have hr := r.isLt
  have hj := j.isLt
  rw [show ((cfg0.win 2).blk t).view.emb (ix2 r j) = ix2 ⟨t.val / 8 * 1088 + r.val, by omega⟩ ⟨t.val / 4 % 2 * 1024 + j.val, by omega⟩ from
    ext2 (by blk_simp [h0]) (by blk_simp [h0]), ref_at]
  blk_simp; rw [after0_2]
  refine (run_sum m c t h3 (ix2 r j)).trans ((Finset.sum_congr rfl fun s _ => pay1 _ _ r j).trans (Fin.sum_mul_add_congr fun s l hl => ?_))
  have hs := s.isLt
  have hl' := l.isLt
  exact congrArg₂ (· * ·) (blk0 m c _ r l _ _ (by show t.val / 8 * 1088 + r.val = (4 * (t.val / 4) + s.val) / 8 * 1088 + r.val; omega)
      (by show s.val * 2048 + l.val = (4 * (t.val / 4) + s.val) % 4 * 2048 + l.val; omega))
    (blk1 m c _ l j _ _ (by show s.val * 2048 + l.val = (4 * (t.val / 4) + s.val) % 4 * 2048 + l.val; omega)
      (by show t.val / 4 % 2 * 1024 + j.val = (4 * (t.val / 4) + s.val) / 4 % 2 * 1024 + j.val; omega))

/-- The reference runs to its end with every counter at zero. -/
theorem frame_ref : Cert.quiescent_DownRefIdeal := fun m ρ _ =>
  (θ_run Cert.DownRefIdeal.defs _ _).mono
    (fun r h => ⟨fun c => (h c).2, sem_eq_zero_of_no_sems (by decide) r.2⟩) (Cert.DownRefIdeal.Value.run (F := Ideal) m ρ)

/-- Over the reals the call's result is the reference's. -/
theorem algebraic : Cert.algebraic_DownIdeal_DownRefIdeal := by
  pair_intro
  · run_from Cert.DownIdeal.Gen.run_main m g
    exacts [V_main_arg0 m c, V_main_arg1 m c]
  · run_from Cert.DownRefIdeal.Value.run m' g'
    exact (final m c).symm

/-- Everything that is claimed of this call. -/
theorem claims : Cert.quiescent_Down ∧ Cert.quiescent_DownIdeal ∧ Cert.quiescent_DownRefIdeal
    ∧ Cert.preserves_Down_DownIdeal ∧ Cert.algebraic_DownIdeal_DownRefIdeal :=
  ⟨fun m ρ _ => Cert.Down.Gen.frame m ρ, fun m ρ _ => Cert.DownIdeal.Gen.frame m ρ, frame_ref, trivial, algebraic⟩

end Cert.DownIdeal.Grad

end
-- ==== Proof.AdamStep.lean ====
/-
  The optimiser's call on one chip's rows of a weight matrix: its four results are what the reference's lines compute.
-/
module

public import proofs.«01_k».proof.Defs
public import proofs.«01_k».proof.Proof.Gen.AdamIdeal.Value
public import proofs.«01_k».proof.Proof.Gen.AdamRefIdeal.Read
public import proofs.«01_k».proof.Proof.Gen.Adam.Frame
public import proofs.«01_k».proof.Proof.Common

@[expose] public section

set_option maxRecDepth 16384

noncomputable section

namespace Cert.AdamIdeal.Grad

open Idealize.ShloMosaic Idealize.ShloMosaic.TcCoe Idealize.SL.Sem
open Idealize.ShloMosaic.Pipeline (Dat)
open Cert.AdamIdeal Cert.AdamIdeal.Gen Cert.Common

variable (m : (ℓ : Loc nD τ sig) → Buf (Elt Ideal) ℓ)

/-- Every window's block is the grid point's 256 rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 2 :=
  (by decide +kernel : ∀ t : Fin grid0.N, _)

/-- The place of the whole array at which a place of the point's block lies. -/
def place (t : Fin cfg0.N) (r : Fin 256) (j : Fin 2048) : S512x2048.Idx :=
  ix2 ⟨t.val * 256 + r.val, by have := (idx t).2.2.2.2.2.2.2.2; have := r.isLt; omega⟩ j

/-- The block of the weights. -/
theorem blk0 (c : Dev nD) (t : Fin cfg0.N) (r : Fin 256) (j : Fin 2048) :
    ((iblk m c 0 t : FVec Ideal S256x2048 .f32) (ix2 r j) : EReal) = (m ((c : Thread nD τ).loc main_arg0) : FVec Ideal S512x2048 .f32) (place t r j) := by
  have h0 := (idx t).1
  show V m c main_arg0 (((cfg0.win 0).blk t).view.emb (ix2 r j)) = _
  rw [V_main_arg0]
  exact congrArg (m ((c : Thread nD τ).loc main_arg0)) (ext2 (by blk_simp [h0]; rfl) (by blk_simp [h0]; rfl))

/-- The block of the gradient. -/
theorem blk1 (c : Dev nD) (t : Fin cfg0.N) (r : Fin 256) (j : Fin 2048) :
    ((iblk m c 1 t : FVec Ideal S256x2048 .f32) (ix2 r j) : EReal) = (m ((c : Thread nD τ).loc main_arg1) : FVec Ideal S512x2048 .f32) (place t r j) := by
  have h0 := (idx t).2.1
  show V m c main_arg1 (((cfg0.win 1).blk t).view.emb (ix2 r j)) = _
  rw [V_main_arg1]
  exact congrArg (m ((c : Thread nD τ).loc main_arg1)) (ext2 (by blk_simp [h0]; rfl) (by blk_simp [h0]; rfl))

/-- The block of the first moment. -/
theorem blk2 (c : Dev nD) (t : Fin cfg0.N) (r : Fin 256) (j : Fin 2048) :
    ((iblk m c 2 t : FVec Ideal S256x2048 .f32) (ix2 r j) : EReal) = (m ((c : Thread nD τ).loc main_arg2) : FVec Ideal S512x2048 .f32) (place t r j) := by
  have h0 := (idx t).2.2.1
  show V m c main_arg2 (((cfg0.win 2).blk t).view.emb (ix2 r j)) = _
  rw [V_main_arg2]
  exact congrArg (m ((c : Thread nD τ).loc main_arg2)) (ext2 (by blk_simp [h0]; rfl) (by blk_simp [h0]; rfl))

/-- The block of the second moment. -/
theorem blk3 (c : Dev nD) (t : Fin cfg0.N) (r : Fin 256) (j : Fin 2048) :
    ((iblk m c 3 t : FVec Ideal S256x2048 .f32) (ix2 r j) : EReal) = (m ((c : Thread nD τ).loc main_arg3) : FVec Ideal S512x2048 .f32) (place t r j) := by
  have h0 := (idx t).2.2.2.1
  show V m c main_arg3 (((cfg0.win 3).blk t).view.emb (ix2 r j)) = _
  rw [V_main_arg3]
  exact congrArg (m ((c : Thread nD τ).loc main_arg3)) (ext2 (by blk_simp [h0]; rfl) (by blk_simp [h0]; rfl))

open Cert.AdamRefIdeal.Read in
/-- The step's change of the weights, from the four numbers at a place. -/
theorem pay_delta (x0 : FVec Ideal S256x2048 .f32) (x1 : FVec Ideal S256x2048 .f32) (x2 : FVec Ideal S256x2048 .f32) (x3 : FVec Ideal S256x2048 .f32) (y0 : FVec Ideal S512x2048 .f32) (y1 : FVec Ideal S512x2048 .f32) (y2 : FVec Ideal S512x2048 .f32) (y3 : FVec Ideal S512x2048 .f32) (i : S256x2048.Idx) (e : S512x2048.Idx)
    (h0 : (x0 i : EReal) = y0 e) (h1 : (x1 i : EReal) = y1 e) (h2 : (x2 i : EReal) = y2 e) (h3 : (x3 i : EReal) = y3 e) :
    (k0_pay3 (F := Ideal) x1 x2 x3 x0 i : EReal) = val_main_v23 (F := Ideal) y0 y1 y2 y3 e := by
  pointwise [k0_pay3, k0_pay1, k0_pay2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rw [h0, h1, h2, h3]

open Cert.AdamRefIdeal.Read in
/-- The first moment after the step. -/
theorem pay_m (x1 : FVec Ideal S256x2048 .f32) (x2 : FVec Ideal S256x2048 .f32) (y1 : FVec Ideal S512x2048 .f32) (y2 : FVec Ideal S512x2048 .f32) (i : S256x2048.Idx) (e : S512x2048.Idx)
    (h1 : (x1 i : EReal) = y1 e) (h2 : (x2 i : EReal) = y2 e) :
    (k0_pay1 (F := Ideal) x1 x2 i : EReal) = val_main_v4 (F := Ideal) y1 y2 e := by
  pointwise [k0_pay1, val_main_v0, val_main_v1, val_main_v2, val_main_v3, val_main_v4, val_main_cst, val_main_cst_0]
  rw [h1, h2]

open Cert.AdamRefIdeal.Read in
/-- The second moment after the step. -/
theorem pay_v (x1 : FVec Ideal S256x2048 .f32) (x3 : FVec Ideal S256x2048 .f32) (y1 : FVec Ideal S512x2048 .f32) (y3 : FVec Ideal S512x2048 .f32) (i : S256x2048.Idx) (e : S512x2048.Idx)
    (h1 : (x1 i : EReal) = y1 e) (h3 : (x3 i : EReal) = y3 e) :
    (k0_pay2 (F := Ideal) x1 x3 i : EReal) = val_main_v10 (F := Ideal) y1 y3 e := by
  pointwise [k0_pay2, val_main_v5, val_main_v6, val_main_v7, val_main_v8, val_main_v9, val_main_v10, val_main_cst_1, val_main_cst_2]
  rw [h1, h3]

open Cert.AdamRefIdeal.Read in
/-- Result 1 after the last grid point is the reference's. -/
theorem final_delta (c : Dev nD) : (dats m 0 c).arrAt 4 (cfgs 0).N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have h0 := (idx t).2.2.2.2.1
  obtain ⟨r, j, rfl⟩ : ∃ (r : Fin 256) (j : Fin 2048), y = ix2 r j := ⟨y 0, y 1, ext2 rfl rfl⟩
  rw [show ((cfg0.win 4).blk t).view.emb (ix2 r j) = place t r j from ext2 (by blk_simp [h0]; rfl) (by blk_simp [h0]; rfl)]
  blk_simp; rw [after0_4]; frame_out; exact pay_delta _ _ _ _ _ _ _ _ _ _ (blk0 m c t r j) (blk1 m c t r j) (blk2 m c t r j) (blk3 m c t r j)

open Cert.AdamRefIdeal.Read in
/-- Result 2 after the last grid point is the reference's. -/
theorem final_m (c : Dev nD) : (dats m 0 c).arrAt 5 (cfgs 0).N = val_main_v4 (F := Ideal) (m ((c : Thread nD τ).loc main_arg1)) (m ((c : Thread nD τ).loc main_arg2)) := by
  refine (dats m 0 c).arrAt_eq_of_covers 5 _ (by decide +kernel) fun t _ y => ?_
  have h0 := (idx t).2.2.2.2.2.1
  obtain ⟨r, j, rfl⟩ : ∃ (r : Fin 256) (j : Fin 2048), y = ix2 r j := ⟨y 0, y 1, ext2 rfl rfl⟩
  rw [show ((cfg0.win 5).blk t).view.emb (ix2 r j) = place t r j from ext2 (by blk_simp [h0]; rfl) (by blk_simp [h0]; rfl)]
  blk_simp; rw [after0_5]; frame_out; exact pay_m _ _ _ _ _ _ (blk1 m c t r j) (blk2 m c t r j)

open Cert.AdamRefIdeal.Read in
/-- Result 3 after the last grid point is the reference's. -/
theorem final_v (c : Dev nD) : (dats m 0 c).arrAt 6 (cfgs 0).N = val_main_v10 (F := Ideal) (m ((c : Thread nD τ).loc main_arg1)) (m ((c : Thread nD τ).loc main_arg3)) := by
  refine (dats m 0 c).arrAt_eq_of_covers 6 _ (by decide +kernel) fun t _ y => ?_
  have h0 := (idx t).2.2.2.2.2.2.1
  obtain ⟨r, j, rfl⟩ : ∃ (r : Fin 256) (j : Fin 2048), y = ix2 r j := ⟨y 0, y 1, ext2 rfl rfl⟩
  rw [show ((cfg0.win 6).blk t).view.emb (ix2 r j) = place t r j from ext2 (by blk_simp [h0]; rfl) (by blk_simp [h0]; rfl)]
  blk_simp; rw [after0_6]; frame_out; exact pay_v _ _ _ _ _ _ (blk1 m c t r j) (blk3 m c t r j)

/-- Result 4 after the last grid point is the reference's. -/
theorem final_g (c : Dev nD) : (dats m 0 c).arrAt 7 (cfgs 0).N = (m ((c : Thread nD τ).loc main_arg1)) := by
  refine (dats m 0 c).arrAt_eq_of_covers 7 _ (by decide +kernel) fun t _ y => ?_
  have h0 := (idx t).2.2.2.2.2.2.2.1
  obtain ⟨r, j, rfl⟩ : ∃ (r : Fin 256) (j : Fin 2048), y = ix2 r j := ⟨y 0, y 1, ext2 rfl rfl⟩
  rw [show ((cfg0.win 7).blk t).view.emb (ix2 r j) = place t r j from ext2 (by blk_simp [h0]; rfl) (by blk_simp [h0]; rfl)]
  blk_simp; rw [after0_7]; frame_out; exact blk1 m c t r j

/-- The reference runs to its end with every counter at zero. -/
theorem frame_ref : Cert.quiescent_AdamRefIdeal := fun m ρ _ =>
  (θ_run Cert.AdamRefIdeal.defs _ _).mono
    (fun r h => ⟨fun c => (h c).2.2.2.2, sem_eq_zero_of_no_sems (by decide) r.2⟩) (Cert.AdamRefIdeal.Value.run (F := Ideal) m ρ)

/-- Over the reals the call's results are the reference's. -/
theorem algebraic : Cert.algebraic_AdamIdeal_AdamRefIdeal := by
  pair_intro
  · run_from Cert.AdamIdeal.Gen.run_main m g
  · run_from Cert.AdamRefIdeal.Value.run m' g'
    · exact (final_delta m c).symm
    · exact (final_m m c).symm
    · exact (final_v m c).symm
    · exact (final_g m c).symm

/-- Everything that is claimed of this call. -/
theorem claims : Cert.quiescent_Adam ∧ Cert.quiescent_AdamIdeal ∧ Cert.quiescent_AdamRefIdeal
    ∧ Cert.preserves_Adam_AdamIdeal ∧ Cert.algebraic_AdamIdeal_AdamRefIdeal :=
  ⟨fun m ρ _ => Cert.Adam.Gen.frame m ρ, fun m ρ _ => Cert.AdamIdeal.Gen.frame m ρ, frame_ref, trivial, algebraic⟩

end Cert.AdamIdeal.Grad

end
-- ==== Proof.lean ====
/-
  The proof of `Cert.Claim`: each call's claims stand in its own module.
-/
module

public import proofs.«01_k».proof.Defs
public import proofs.«01_k».proof.Proof.ReluSquare
public import proofs.«01_k».proof.Proof.GateGrads
public import proofs.«01_k».proof.Proof.ConvNormGrads
public import proofs.«01_k».proof.Proof.ConvGrads
public import proofs.«01_k».proof.Proof.MidNormGrads
public import proofs.«01_k».proof.Proof.LossGrads
public import proofs.«01_k».proof.Proof.PreNormGrads
public import proofs.«01_k».proof.Proof.PoolGrads
public import proofs.«01_k».proof.Proof.SwishGrads
public import proofs.«01_k».proof.Proof.TwoNorms
public import proofs.«01_k».proof.Proof.ReluUp
public import proofs.«01_k».proof.Proof.MixGates
public import proofs.«01_k».proof.Proof.TokenNorm
public import proofs.«01_k».proof.Proof.PooledGrads
public import proofs.«01_k».proof.Proof.MetaRows
public import proofs.«01_k».proof.Proof.DownGrad
public import proofs.«01_k».proof.Proof.UpGrad
public import proofs.«01_k».proof.Proof.UpBackward
public import proofs.«01_k».proof.Proof.DownProduct
public import proofs.«01_k».proof.Proof.AdamStep
public import proofs.«01_k».proof.Proof.Gen.ReluSquareIdeal.Value
public import proofs.«01_k».proof.Proof.Gen.ReluSquareRefIdeal.Run
public import proofs.«01_k».proof.Proof.Gen.ReluSquareRefIdeal.Read
public import proofs.«01_k».proof.Proof.Gen.GatesIdeal.Value
public import proofs.«01_k».proof.Proof.Gen.GatesRefIdeal.Run
public import proofs.«01_k».proof.Proof.Gen.GatesRefIdeal.Read
public import proofs.«01_k».proof.Proof.Gen.ConvNormIdeal.Value
public import proofs.«01_k».proof.Proof.Gen.ConvNormRefIdeal.Run
public import proofs.«01_k».proof.Proof.Gen.ConvNormRefIdeal.Read
public import proofs.«01_k».proof.Proof.Gen.GluConvRefIdeal.Run
public import proofs.«01_k».proof.Proof.Gen.GluConvRefIdeal.Read
public import proofs.«01_k».proof.Proof.Gen.MidNormIdeal.Value
public import proofs.«01_k».proof.Proof.Gen.MidNormRefIdeal.Run
public import proofs.«01_k».proof.Proof.Gen.MidNormRefIdeal.Read
public import proofs.«01_k».proof.Proof.Gen.LossIdeal.Value
public import proofs.«01_k».proof.Proof.Gen.LossRefIdeal.Run
public import proofs.«01_k».proof.Proof.Gen.LossRefIdeal.Read
public import proofs.«01_k».proof.Proof.Gen.PreNormRefIdeal.Run
public import proofs.«01_k».proof.Proof.Gen.PreNormRefIdeal.Read
public import proofs.«01_k».proof.Proof.Gen.PoolRefIdeal.Run
public import proofs.«01_k».proof.Proof.Gen.PoolRefIdeal.Read
public import proofs.«01_k».proof.Proof.Gen.ConvSwishRefIdeal.Run
public import proofs.«01_k».proof.Proof.Gen.ConvSwishRefIdeal.Read
public import proofs.«01_k».proof.Proof.Gen.TwoNormsIdeal.Value
public import proofs.«01_k».proof.Proof.Gen.TwoNormsRefIdeal.Run
public import proofs.«01_k».proof.Proof.Gen.TwoNormsRefIdeal.Read
public import proofs.«01_k».proof.Proof.Gen.ReluUpIdeal.Value
public import proofs.«01_k».proof.Proof.Gen.ReluUpRefIdeal.Run
public import proofs.«01_k».proof.Proof.Gen.ReluUpRefIdeal.Read
public import proofs.«01_k».proof.Proof.Gen.MixIdeal.Value
public import proofs.«01_k».proof.Proof.Gen.MixRefIdeal.Run
public import proofs.«01_k».proof.Proof.Gen.MixRefIdeal.Read
public import proofs.«01_k».proof.Proof.Gen.TokenNormRefIdeal.Run
public import proofs.«01_k».proof.Proof.Gen.TokenNormRefIdeal.Read
public import proofs.«01_k».proof.Proof.Gen.PooledRefIdeal.Run
public import proofs.«01_k».proof.Proof.Gen.PooledRefIdeal.Read
public import proofs.«01_k».proof.Proof.Gen.MetaNormIdeal.Value
public import proofs.«01_k».proof.Proof.Gen.MetaNormRefIdeal.Run
public import proofs.«01_k».proof.Proof.Gen.MetaNormRefIdeal.Read
public import proofs.«01_k».proof.Proof.Gen.DownGradIdeal.Value
public import proofs.«01_k».proof.Proof.Gen.DownGradRefIdeal.Run
public import proofs.«01_k».proof.Proof.Gen.DownGradRefIdeal.Read
public import proofs.«01_k».proof.Proof.Gen.UpGradIdeal.Value
public import proofs.«01_k».proof.Proof.Gen.UpGradRefIdeal.Run
public import proofs.«01_k».proof.Proof.Gen.UpGradRefIdeal.Read
public import proofs.«01_k».proof.Proof.Gen.UpBackIdeal.Value
public import proofs.«01_k».proof.Proof.Gen.UpBackRefIdeal.Run
public import proofs.«01_k».proof.Proof.Gen.UpBackRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.AdamIdeal.Value
public import proofs.«01_k».proof.Proof.Gen.AdamRefIdeal.Run
public import proofs.«01_k».proof.Proof.Gen.AdamRefIdeal.Read

@[expose] public section

noncomputable section

namespace Cert.Proof

/-- Every claim of the statement, in its order. -/
theorem claim : Cert.Claim := ⟨
  Cert.ReluSquare.Gen.facts, Cert.ReluSquareIdeal.Gen.facts, Cert.ReluSquareRefIdeal.Gen.facts,
  Cert.Gates.Gen.facts, Cert.GatesIdeal.Gen.facts, Cert.GatesRefIdeal.Gen.facts,
  Cert.ConvNorm.Gen.facts, Cert.ConvNormIdeal.Gen.facts, Cert.ConvNormRefIdeal.Gen.facts,
  Cert.GluConv.Gen.facts, Cert.GluConvIdeal.Gen.facts, Cert.GluConvRefIdeal.Gen.facts,
  Cert.MidNorm.Gen.facts, Cert.MidNormIdeal.Gen.facts, Cert.MidNormRefIdeal.Gen.facts,
  Cert.Loss.Gen.facts, Cert.LossIdeal.Gen.facts, Cert.LossRefIdeal.Gen.facts,
  Cert.PreNorm.Gen.facts, Cert.PreNormIdeal.Gen.facts, Cert.PreNormRefIdeal.Gen.facts,
  Cert.Pool.Gen.facts, Cert.PoolIdeal.Gen.facts, Cert.PoolRefIdeal.Gen.facts,
  Cert.ConvSwish.Gen.facts, Cert.ConvSwishIdeal.Gen.facts, Cert.ConvSwishRefIdeal.Gen.facts,
  Cert.TwoNorms.Gen.facts, Cert.TwoNormsIdeal.Gen.facts, Cert.TwoNormsRefIdeal.Gen.facts,
  Cert.ReluUp.Gen.facts, Cert.ReluUpIdeal.Gen.facts, Cert.ReluUpRefIdeal.Gen.facts,
  Cert.Mix.Gen.facts, Cert.MixIdeal.Gen.facts, Cert.MixRefIdeal.Gen.facts,
  Cert.TokenNorm.Gen.facts, Cert.TokenNormIdeal.Gen.facts, Cert.TokenNormRefIdeal.Gen.facts,
  Cert.Pooled.Gen.facts, Cert.PooledIdeal.Gen.facts, Cert.PooledRefIdeal.Gen.facts,
  Cert.MetaNorm.Gen.facts, Cert.MetaNormIdeal.Gen.facts, Cert.MetaNormRefIdeal.Gen.facts,
  Cert.DownGrad.Gen.facts, Cert.DownGradIdeal.Gen.facts, Cert.DownGradRefIdeal.Gen.facts,
  Cert.UpGrad.Gen.facts, Cert.UpGradIdeal.Gen.facts, Cert.UpGradRefIdeal.Gen.facts,
  Cert.UpBack.Gen.facts, Cert.UpBackIdeal.Gen.facts, Cert.UpBackRefIdeal.Gen.facts,
  Cert.Down.Gen.facts, Cert.DownIdeal.Gen.facts, Cert.DownRefIdeal.Gen.facts,
  Cert.Adam.Gen.facts, Cert.AdamIdeal.Gen.facts, Cert.AdamRefIdeal.Gen.facts,
  Cert.Pre_conv_norm_finite.Gen.facts, Cert.Pre_mid_norm_finite.Gen.facts, Cert.Pre_loss_finite.Gen.facts, Cert.Pre_pre_norm_finite.Gen.facts, Cert.Pre_pool_finite.Gen.facts, Cert.Pre_pooled_finite.Gen.facts,
  ReluSquareIdeal.Grad.claims.1, ReluSquareIdeal.Grad.claims.2.1, ReluSquareIdeal.Grad.claims.2.2.1,
  GatesIdeal.Grad.claims.1, GatesIdeal.Grad.claims.2.1, GatesIdeal.Grad.claims.2.2.1,
  ConvNormIdeal.Grad.claims.1, ConvNormIdeal.Grad.claims.2.1, ConvNormIdeal.Grad.claims.2.2.1, ConvNormIdeal.Grad.claims.2.2.2.1, ConvNormIdeal.Grad.claims.2.2.2.2.1,
  GluConvProof.claims.1, GluConvProof.claims.2.1, GluConvProof.claims.2.2.1,
  MidNormIdeal.Grad.claims.1, MidNormIdeal.Grad.claims.2.1, MidNormIdeal.Grad.claims.2.2.1, MidNormIdeal.Grad.claims.2.2.2.1, MidNormIdeal.Grad.claims.2.2.2.2.1,
  LossIdeal.Grad.claims.1, LossIdeal.Grad.claims.2.1, LossIdeal.Grad.claims.2.2.1, LossIdeal.Grad.claims.2.2.2.1, LossIdeal.Grad.claims.2.2.2.2.1,
  PreNormIdeal.Grad.claims.1, PreNormIdeal.Grad.claims.2.1, PreNormIdeal.Grad.claims.2.2.1, PreNormIdeal.Grad.claims.2.2.2.1, PreNormIdeal.Grad.claims.2.2.2.2.1,
  PoolIdeal.Grad.claims.1, PoolIdeal.Grad.claims.2.1, PoolIdeal.Grad.claims.2.2.1, PoolIdeal.Grad.claims.2.2.2.1, PoolIdeal.Grad.claims.2.2.2.2.1,
  ConvSwishIdeal.Grad.claims.1, ConvSwishIdeal.Grad.claims.2.1, ConvSwishIdeal.Grad.claims.2.2.1,
  TwoNormsIdeal.Grad.claims.1, TwoNormsIdeal.Grad.claims.2.1, TwoNormsIdeal.Grad.claims.2.2.1,
  ReluUpIdeal.Grad.claims.1, ReluUpIdeal.Grad.claims.2.1, ReluUpIdeal.Grad.claims.2.2.1,
  MixIdeal.Grad.claims.1, MixIdeal.Grad.claims.2.1, MixIdeal.Grad.claims.2.2.1,
  TokenNormIdeal.Grad.claims.1, TokenNormIdeal.Grad.claims.2.1, TokenNormIdeal.Grad.claims.2.2.1,
  PooledIdeal.Grad.claims.1, PooledIdeal.Grad.claims.2.1, PooledIdeal.Grad.claims.2.2.1, PooledIdeal.Grad.claims.2.2.2.1, PooledIdeal.Grad.claims.2.2.2.2.1,
  MetaNormIdeal.Grad.claims.1, MetaNormIdeal.Grad.claims.2.1, MetaNormIdeal.Grad.claims.2.2.1,
  DownGradIdeal.Grad.claims.1, DownGradIdeal.Grad.claims.2.1, DownGradIdeal.Grad.claims.2.2.1,
  UpGradIdeal.Grad.claims.1, UpGradIdeal.Grad.claims.2.1, UpGradIdeal.Grad.claims.2.2.1,
  UpBackIdeal.Grad.claims.1, UpBackIdeal.Grad.claims.2.1, UpBackIdeal.Grad.claims.2.2.1,
  DownIdeal.Grad.claims.1, DownIdeal.Grad.claims.2.1, DownIdeal.Grad.claims.2.2.1,
  AdamIdeal.Grad.claims.1, AdamIdeal.Grad.claims.2.1, AdamIdeal.Grad.claims.2.2.1,
  ReluSquareIdeal.Grad.claims.2.2.2.1, ReluSquareIdeal.Grad.claims.2.2.2.2,
  GatesIdeal.Grad.claims.2.2.2.1, GatesIdeal.Grad.claims.2.2.2.2,
  ConvNormIdeal.Grad.claims.2.2.2.2.2.1, ConvNormIdeal.Grad.claims.2.2.2.2.2.2,
  GluConvProof.claims.2.2.2.1, GluConvProof.claims.2.2.2.2,
  MidNormIdeal.Grad.claims.2.2.2.2.2.1, MidNormIdeal.Grad.claims.2.2.2.2.2.2,
  LossIdeal.Grad.claims.2.2.2.2.2.1, LossIdeal.Grad.claims.2.2.2.2.2.2,
  PreNormIdeal.Grad.claims.2.2.2.2.2.1, PreNormIdeal.Grad.claims.2.2.2.2.2.2,
  PoolIdeal.Grad.claims.2.2.2.2.2.1, PoolIdeal.Grad.claims.2.2.2.2.2.2,
  ConvSwishIdeal.Grad.claims.2.2.2.1, ConvSwishIdeal.Grad.claims.2.2.2.2,
  TwoNormsIdeal.Grad.claims.2.2.2.1, TwoNormsIdeal.Grad.claims.2.2.2.2,
  ReluUpIdeal.Grad.claims.2.2.2.1, ReluUpIdeal.Grad.claims.2.2.2.2,
  MixIdeal.Grad.claims.2.2.2.1, MixIdeal.Grad.claims.2.2.2.2,
  TokenNormIdeal.Grad.claims.2.2.2.1, TokenNormIdeal.Grad.claims.2.2.2.2,
  PooledIdeal.Grad.claims.2.2.2.2.2.1, PooledIdeal.Grad.claims.2.2.2.2.2.2,
  MetaNormIdeal.Grad.claims.2.2.2.1, MetaNormIdeal.Grad.claims.2.2.2.2,
  DownGradIdeal.Grad.claims.2.2.2.1, DownGradIdeal.Grad.claims.2.2.2.2,
  UpGradIdeal.Grad.claims.2.2.2.1, UpGradIdeal.Grad.claims.2.2.2.2,
  UpBackIdeal.Grad.claims.2.2.2.1, UpBackIdeal.Grad.claims.2.2.2.2,
  DownIdeal.Grad.claims.2.2.2.1, DownIdeal.Grad.claims.2.2.2.2,
  AdamIdeal.Grad.claims.2.2.2.1, AdamIdeal.Grad.claims.2.2.2.2⟩

end Cert.Proof

end
